-- ==== Defs.lean ====
def Pre_Kernel [hPre_experts : Cert.Pre_experts.Facts] (m : (ℓ : Loc Cert.Kernel.nD Cert.Kernel.τ Cert.Kernel.sig) → Buf (Elt Bits) ℓ) : Prop :=
  ∀ c : Dev Cert.Kernel.nD,
    (Cert.Pre_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_experts : Cert.Pre_experts.Facts] (m : (ℓ : Loc Cert.KernelIdeal.nD Cert.KernelIdeal.τ Cert.KernelIdeal.sig) → Buf (Elt Ideal) ℓ) : Prop :=
  ∀ c : Dev Cert.KernelIdeal.nD,
    (Cert.Pre_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_experts : Cert.Pre_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_experts2 : Cert.Pre_experts2.Facts] (m : (ℓ : Loc Cert.Kernel2.nD Cert.Kernel2.τ Cert.Kernel2.sig) → Buf (Elt Bits) ℓ) : Prop :=
  ∀ c : Dev Cert.Kernel2.nD,
    (Cert.Pre_experts2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_experts2 : Cert.Pre_experts2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal [hPre_experts2 : Cert.Pre_experts2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite [hPre_finite : Cert.Pre_finite.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite [hPre_finite : Cert.Pre_finite.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1))) = (fun _ => 1#1)

def quiescent_Kernel [hKernel : Cert.Kernel.Facts] [hPre_experts : Cert.Pre_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_experts : Cert.Pre_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_experts : Cert.Pre_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts2 : Cert.Pre_experts2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_experts2 : Cert.Pre_experts2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] [hPre_experts2 : Cert.Pre_experts2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Kernel15Ideal_pre_finite [hKernel15Ideal : Cert.Kernel15Ideal.Facts] [hPre_finite : Cert.Pre_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Reference15Ideal_pre_finite [hReference15Ideal : Cert.Reference15Ideal.Facts] [hPre_finite : Cert.Pre_finite.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts : Cert.Pre_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_experts2 : Cert.Pre_experts2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v24)) (v1 : (c : Dev Cert.Kernel3Ideal.nD) → Buf (Elt Ideal) ((c.tc : Thread Cert.Kernel3Ideal.nD Cert.Kernel3Ideal.τ).loc Cert.Kernel3Ideal.main_v26)) (v2 : (c : Dev Cert.Kernel3Ideal.nD) → Buf (Elt Ideal) ((c.tc : Thread Cert.Kernel3Ideal.nD Cert.Kernel3Ideal.τ).loc Cert.Kernel3Ideal.main_v28)) (v3 : (c : Dev Cert.Kernel3Ideal.nD) → Buf (Elt Ideal) ((c.tc : Thread Cert.Kernel3Ideal.nD Cert.Kernel3Ideal.τ).loc Cert.Kernel3Ideal.main_v30)) (v4 : (c : Dev Cert.Kernel3Ideal.nD) → Buf (Elt Ideal) ((c.tc : Thread Cert.Kernel3Ideal.nD Cert.Kernel3Ideal.τ).loc Cert.Kernel3Ideal.main_v32)) (v5 : (c : Dev Cert.Kernel3Ideal.nD) → Buf (Elt Ideal) ((c.tc : Thread Cert.Kernel3Ideal.nD Cert.Kernel3Ideal.τ).loc Cert.Kernel3Ideal.main_v34)) (v6 : (c : Dev Cert.Kernel3Ideal.nD) → Buf (Elt Ideal) ((c.tc : Thread Cert.Kernel3Ideal.nD Cert.Kernel3Ideal.τ).loc Cert.Kernel3Ideal.main_v36)) (v7 : (c : Dev Cert.Kernel3Ideal.nD) → Buf (Elt Ideal) ((c.tc : Thread Cert.Kernel3Ideal.nD Cert.Kernel3Ideal.τ).loc Cert.Kernel3Ideal.main_v38)) (v8 : (c : Dev Cert.Kernel3Ideal.nD) → Buf (Elt Ideal) ((c.tc : Thread Cert.Kernel3Ideal.nD Cert.Kernel3Ideal.τ).loc Cert.Kernel3Ideal.main_v40)) (v9 : (c : Dev Cert.Kernel3Ideal.nD) → Buf (Elt Ideal) ((c.tc : Thread Cert.Kernel3Ideal.nD Cert.Kernel3Ideal.τ).loc Cert.Kernel3Ideal.main_v42)) (v10 : (c : Dev Cert.Kernel3Ideal.nD) → Buf (Elt Ideal) ((c.tc : Thread Cert.Kernel3Ideal.nD Cert.Kernel3Ideal.τ).loc Cert.Kernel3Ideal.main_v44)) (v11 : (c : Dev Cert.Kernel3Ideal.nD) → Buf (Elt Ideal) ((c.tc : Thread Cert.Kernel3Ideal.nD Cert.Kernel3Ideal.τ).loc Cert.Kernel3Ideal.main_v46)) (v12 : (c : Dev Cert.Kernel3Ideal.nD) → Buf (Elt Ideal) ((c.tc : Thread Cert.Kernel3Ideal.nD Cert.Kernel3Ideal.τ).loc Cert.Kernel3Ideal.main_v48)) (v13 : (c : Dev Cert.Kernel3Ideal.nD) → Buf (Elt Ideal) ((c.tc : Thread Cert.Kernel3Ideal.nD Cert.Kernel3Ideal.τ).loc Cert.Kernel3Ideal.main_v50)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_v26) = v1 c
          ∧ r.2.mem ((c.tc : Thread Cert.Kernel3Ideal.nD Cert.Kernel3Ideal.τ).loc Cert.Kernel3Ideal.main_v28) = v2 c
          ∧ r.2.mem ((c.tc : Thread Cert.Kernel3Ideal.nD Cert.Kernel3Ideal.τ).loc Cert.Kernel3Ideal.main_v30) = v3 c
          ∧ r.2.mem ((c.tc : Thread Cert.Kernel3Ideal.nD Cert.Kernel3Ideal.τ).loc Cert.Kernel3Ideal.main_v32) = v4 c
          ∧ r.2.mem ((c.tc : Thread Cert.Kernel3Ideal.nD Cert.Kernel3Ideal.τ).loc Cert.Kernel3Ideal.main_v34) = v5 c
          ∧ r.2.mem ((c.tc : Thread Cert.Kernel3Ideal.nD Cert.Kernel3Ideal.τ).loc Cert.Kernel3Ideal.main_v36) = v6 c
          ∧ r.2.mem ((c.tc : Thread Cert.Kernel3Ideal.nD Cert.Kernel3Ideal.τ).loc Cert.Kernel3Ideal.main_v38) = v7 c
          ∧ r.2.mem ((c.tc : Thread Cert.Kernel3Ideal.nD Cert.Kernel3Ideal.τ).loc Cert.Kernel3Ideal.main_v40) = v8 c
          ∧ r.2.mem ((c.tc : Thread Cert.Kernel3Ideal.nD Cert.Kernel3Ideal.τ).loc Cert.Kernel3Ideal.main_v42) = v9 c
          ∧ r.2.mem ((c.tc : Thread Cert.Kernel3Ideal.nD Cert.Kernel3Ideal.τ).loc Cert.Kernel3Ideal.main_v44) = v10 c
          ∧ r.2.mem ((c.tc : Thread Cert.Kernel3Ideal.nD Cert.Kernel3Ideal.τ).loc Cert.Kernel3Ideal.main_v46) = v11 c
          ∧ r.2.mem ((c.tc : Thread Cert.Kernel3Ideal.nD Cert.Kernel3Ideal.τ).loc Cert.Kernel3Ideal.main_v48) = v12 c
          ∧ r.2.mem ((c.tc : Thread Cert.Kernel3Ideal.nD Cert.Kernel3Ideal.τ).loc Cert.Kernel3Ideal.main_v50) = v13 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_v9) = v3 c
          ∧ r.2.mem ((c.tc : Thread Cert.Reference3Ideal.nD Cert.Reference3Ideal.τ).loc Cert.Reference3Ideal.main_v10) = v4 c
          ∧ r.2.mem ((c.tc : Thread Cert.Reference3Ideal.nD Cert.Reference3Ideal.τ).loc Cert.Reference3Ideal.main_v11) = v5 c
          ∧ r.2.mem ((c.tc : Thread Cert.Reference3Ideal.nD Cert.Reference3Ideal.τ).loc Cert.Reference3Ideal.main_v12) = v6 c
          ∧ r.2.mem ((c.tc : Thread Cert.Reference3Ideal.nD Cert.Reference3Ideal.τ).loc Cert.Reference3Ideal.main_v13) = v7 c
          ∧ r.2.mem ((c.tc : Thread Cert.Reference3Ideal.nD Cert.Reference3Ideal.τ).loc Cert.Reference3Ideal.main_v14) = v8 c
          ∧ r.2.mem ((c.tc : Thread Cert.Reference3Ideal.nD Cert.Reference3Ideal.τ).loc Cert.Reference3Ideal.main_v15) = v9 c
          ∧ r.2.mem ((c.tc : Thread Cert.Reference3Ideal.nD Cert.Reference3Ideal.τ).loc Cert.Reference3Ideal.main_v16) = v10 c
          ∧ r.2.mem ((c.tc : Thread Cert.Reference3Ideal.nD Cert.Reference3Ideal.τ).loc Cert.Reference3Ideal.main_v17) = v11 c
          ∧ r.2.mem ((c.tc : Thread Cert.Reference3Ideal.nD Cert.Reference3Ideal.τ).loc Cert.Reference3Ideal.main_v18) = v12 c
          ∧ r.2.mem ((c.tc : Thread Cert.Reference3Ideal.nD Cert.Reference3Ideal.τ).loc Cert.Reference3Ideal.main_v19) = v13 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v18)) (v1 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_v20) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v53)) (v1 : (c : Dev Cert.Kernel7Ideal.nD) → Buf (Elt Ideal) ((c.tc : Thread Cert.Kernel7Ideal.nD Cert.Kernel7Ideal.τ).loc Cert.Kernel7Ideal.main_v55)) (v2 : (c : Dev Cert.Kernel7Ideal.nD) → Buf (Elt Ideal) ((c.tc : Thread Cert.Kernel7Ideal.nD Cert.Kernel7Ideal.τ).loc Cert.Kernel7Ideal.main_v57)) (v3 : (c : Dev Cert.Kernel7Ideal.nD) → Buf (Elt Ideal) ((c.tc : Thread Cert.Kernel7Ideal.nD Cert.Kernel7Ideal.τ).loc Cert.Kernel7Ideal.main_v59)) (v4 : (c : Dev Cert.Kernel7Ideal.nD) → Buf (Elt Ideal) ((c.tc : Thread Cert.Kernel7Ideal.nD Cert.Kernel7Ideal.τ).loc Cert.Kernel7Ideal.main_v61)) (v5 : (c : Dev Cert.Kernel7Ideal.nD) → Buf (Elt Ideal) ((c.tc : Thread Cert.Kernel7Ideal.nD Cert.Kernel7Ideal.τ).loc Cert.Kernel7Ideal.main_v63)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v53) = v0 c
          ∧ r.2.mem ((c.tc : Thread Cert.Kernel7Ideal.nD Cert.Kernel7Ideal.τ).loc Cert.Kernel7Ideal.main_v55) = v1 c
          ∧ r.2.mem ((c.tc : Thread Cert.Kernel7Ideal.nD Cert.Kernel7Ideal.τ).loc Cert.Kernel7Ideal.main_v57) = v2 c
          ∧ r.2.mem ((c.tc : Thread Cert.Kernel7Ideal.nD Cert.Kernel7Ideal.τ).loc Cert.Kernel7Ideal.main_v59) = v3 c
          ∧ r.2.mem ((c.tc : Thread Cert.Kernel7Ideal.nD Cert.Kernel7Ideal.τ).loc Cert.Kernel7Ideal.main_v61) = v4 c
          ∧ r.2.mem ((c.tc : Thread Cert.Kernel7Ideal.nD Cert.Kernel7Ideal.τ).loc Cert.Kernel7Ideal.main_v63) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_v60) = v2 c
          ∧ r.2.mem ((c.tc : Thread Cert.Reference7Ideal.nD Cert.Reference7Ideal.τ).loc Cert.Reference7Ideal.main_v102) = v3 c
          ∧ r.2.mem ((c.tc : Thread Cert.Reference7Ideal.nD Cert.Reference7Ideal.τ).loc Cert.Reference7Ideal.main_v117) = v4 c
          ∧ r.2.mem ((c.tc : Thread Cert.Reference7Ideal.nD Cert.Reference7Ideal.τ).loc Cert.Reference7Ideal.main_v132) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v13)) (v1 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v13) = v0 c
          ∧ r.2.mem ((c.tc : Thread Cert.Kernel10Ideal.nD Cert.Kernel10Ideal.τ).loc Cert.Kernel10Ideal.main_v15) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v6) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v6_0)) (v1 : (c : Dev Cert.Kernel12Ideal.nD) → Buf (Elt Ideal) ((c.tc : Thread Cert.Kernel12Ideal.nD Cert.Kernel12Ideal.τ).loc Cert.Kernel12Ideal.main_v6_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6_0) = v0 c
          ∧ r.2.mem ((c.tc : Thread Cert.Kernel12Ideal.nD Cert.Kernel12Ideal.τ).loc Cert.Kernel12Ideal.main_v6_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v30) = v0 c
          ∧ r.2.mem ((c.tc : Thread Cert.Reference12Ideal.nD Cert.Reference12Ideal.τ).loc Cert.Reference12Ideal.main_v31) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v31)) (v1 : (c : Dev Cert.Kernel13Ideal.nD) → Buf (Elt Ideal) ((c.tc : Thread Cert.Kernel13Ideal.nD Cert.Kernel13Ideal.τ).loc Cert.Kernel13Ideal.main_v32)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v31) = v0 c
          ∧ r.2.mem ((c.tc : Thread Cert.Kernel13Ideal.nD Cert.Kernel13Ideal.τ).loc Cert.Kernel13Ideal.main_v32) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_v43) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v42) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal_pre_finite [hKernel15Ideal : Cert.Kernel15Ideal.Facts] [hReference15Ideal : Cert.Reference15Ideal.Facts] [hPre_finite : Cert.Pre_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)) (v1 : (c : Dev Cert.Kernel15Ideal.nD) → Buf (Elt Ideal) ((c.tc : Thread Cert.Kernel15Ideal.nD Cert.Kernel15Ideal.τ).loc Cert.Kernel15Ideal.main_v6)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_v6) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v14) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_experts : Cert.Pre_experts.Facts) (hPre_experts2 : Cert.Pre_experts2.Facts) (hPre_finite : Cert.Pre_finite.Facts),
    quiescent_Kernel (hKernel := hKernel) (hPre_experts := hPre_experts)
    ∧ quiescent_KernelIdeal (hKernelIdeal := hKernelIdeal) (hPre_experts := hPre_experts)
    ∧ quiescent_ReferenceIdeal (hReferenceIdeal := hReferenceIdeal) (hPre_experts := hPre_experts)
    ∧ quiescent_Kernel2 (hKernel2 := hKernel2) (hPre_experts2 := hPre_experts2)
    ∧ quiescent_Kernel2Ideal (hKernel2Ideal := hKernel2Ideal) (hPre_experts2 := hPre_experts2)
    ∧ quiescent_Reference2Ideal (hReference2Ideal := hReference2Ideal) (hPre_experts2 := hPre_experts2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite (hKernel15Ideal := hKernel15Ideal) (hPre_finite := hPre_finite)
    ∧ quiescent_Reference15Ideal (hReference15Ideal := hReference15Ideal)
    ∧ quiescent_Reference15Ideal_pre_finite (hReference15Ideal := hReference15Ideal) (hPre_finite := hPre_finite)
    ∧ preserves_Kernel_KernelIdeal
    ∧ algebraic_KernelIdeal_ReferenceIdeal (hKernelIdeal := hKernelIdeal) (hReferenceIdeal := hReferenceIdeal) (hPre_experts := hPre_experts)
    ∧ preserves_Kernel2_Kernel2Ideal
    ∧ algebraic_Kernel2Ideal_Reference2Ideal (hKernel2Ideal := hKernel2Ideal) (hReference2Ideal := hReference2Ideal) (hPre_experts2 := hPre_experts2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite (hKernel15Ideal := hKernel15Ideal) (hReference15Ideal := hReference15Ideal) (hPre_finite := hPre_finite)
-- ==== Pre_experts.lean ====
abbrev S40 : Shape := ⟨1, ![40]⟩
abbrev S1 : Shape := ⟨1, ![1]⟩
abbrev S20480x2048 : Shape := ⟨2, ![20480, 2048]⟩
abbrev S2x8x2048x14336 : Shape := ⟨4, ![2, 8, 2048, 14336]⟩
abbrev S_ : Shape := ⟨0, ![]⟩

class Facts : Prop where
  bcast_S_S40 : S_.BroadcastsInDim S40 (![] : Fin 0 → Fin S40.rank)

variable [Facts]

def fn {F : FTy → Type} [FloatOps F] (main_arg0 : IVec S40 32) (main_arg1 : IVec S1 32) (main_arg2 : FVec F S20480x2048 .bf16) (main_arg3 : FVec F S2x8x2048x14336 .f32) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  main_v4
-- ==== Pre_experts2.lean ====
abbrev S40 : Shape := ⟨1, ![40]⟩
abbrev S1 : Shape := ⟨1, ![1]⟩
abbrev S20480x7168 : Shape := ⟨2, ![20480, 7168]⟩
abbrev S2x8x7168x2048 : Shape := ⟨4, ![2, 8, 7168, 2048]⟩
abbrev S_ : Shape := ⟨0, ![]⟩

class Facts : Prop where
  bcast_S_S40 : S_.BroadcastsInDim S40 (![] : Fin 0 → Fin S40.rank)

variable [Facts]

def fn {F : FTy → Type} [FloatOps F] (main_arg0 : IVec S40 32) (main_arg1 : IVec S1 32) (main_arg2 : FVec F S20480x7168 .bf16) (main_arg3 : FVec F S2x8x7168x2048 .f32) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  main_v4
-- ==== Pre_finite.lean ====
abbrev S8320x2048 : Shape := ⟨2, ![8320, 2048]⟩
abbrev S2x2048x8 : Shape := ⟨3, ![2, 2048, 8]⟩
abbrev S_ : Shape := ⟨0, ![]⟩

class Facts : Prop where
  bcast_S_S8320x2048 : S_.BroadcastsInDim S8320x2048 (![] : Fin 0 → Fin S8320x2048.rank)
  reducesTo_S8320x2048_S_d0_1 : S8320x2048.ReducesTo [0, 1] S_
  h_S_ : 0 < S_.numel
  bcast_S_S2x2048x8 : S_.BroadcastsInDim S2x2048x8 (![] : Fin 0 → Fin S2x2048x8.rank)
  reducesTo_S2x2048x8_S_d0_1_2 : S2x2048x8.ReducesTo [0, 1, 2] S_

variable [Facts]

def fn {F : FTy → Type} [FloatOps F] (main_arg0 : FVec F S8320x2048 .bf16) (main_arg1 : FVec F S2x2048x8 .f32) : IVec S_ 1 :=
  let main_v0 : FVec F S8320x2048 .bf16 := Host.absf main_arg0
  let main_cst : FVec F S_ .bf16 := constant S_ .bf16 0x7F80#16
  let main_v1 : FVec F S8320x2048 .bf16 := broadcastInDim S8320x2048 ![] bcast_S_S8320x2048 main_cst
  let main_v2 : IVec S8320x2048 1 := cmpf .olt main_v0 main_v1
  let main_c : IVec S_ 1 := constantI S_ 1 1#1
  let main_v3 : IVec S_ 1 := (fun x v => Host.reduce IntOp.andi x v reducesTo_S8320x2048_S_d0_1 h_S_) main_v2 main_c
  let main_v4 : FVec F S2x2048x8 .f32 := Host.absf main_arg1
  let main_cst_0 : FVec F S_ .f32 := constant S_ .f32 0x7F800000#32
  let main_v5 : FVec F S2x2048x8 .f32 := broadcastInDim S2x2048x8 ![] bcast_S_S2x2048x8 main_cst_0
  let main_v6 : IVec S2x2048x8 1 := cmpf .olt main_v4 main_v5
  let main_c_1 : IVec S_ 1 := constantI S_ 1 1#1
  let main_v7 : IVec S_ 1 := (fun x v => Host.reduce IntOp.andi x v reducesTo_S2x2048x8_S_d0_1_2 h_S_) main_v6 main_c_1
  let main_v8 : IVec S_ 1 := andi main_v3 main_v7
  main_v8
-- ==== Kernel.lean ====
abbrev S40 : Shape := ⟨1, ![40]⟩
abbrev S1 : Shape := ⟨1, ![1]⟩
abbrev S20480x2048 : Shape := ⟨2, ![20480, 2048]⟩
abbrev S2x8x2048x14336 : Shape := ⟨4, ![2, 8, 2048, 14336]⟩
abbrev S20480x7168 : Shape := ⟨2, ![20480, 7168]⟩
abbrev S512x2048 : Shape := ⟨2, ![512, 2048]⟩
abbrev S1x1x2048x512 : Shape := ⟨4, ![1, 1, 2048, 512]⟩
abbrev S512x512 : Shape := ⟨2, ![512, 512]⟩
abbrev S2048x512 : Shape := ⟨2, ![2048, 512]⟩

abbrev nBuf : Space → Nat
  | .hbm => 3
  | .vmem => 10
  | .smem => 2
  | _ => 0

abbrev bufTy : (tb : Table) → Fin (tcTables nBuf tb) → BufTy
  | .hbm, ⟨0, _⟩ => ⟨S20480x2048, .bf16⟩
  | .hbm, ⟨1, _⟩ => ⟨S2x8x2048x14336, .f32⟩
  | .hbm, ⟨2, _⟩ => ⟨S20480x7168, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .smem, ⟨0, _⟩ => ⟨S40, .i32⟩
  | .local _ .smem, ⟨1, _⟩ => ⟨S1, .i32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 40], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c14_i32 : BitVec 32 := 14#32
  let v2 : BitVec 32 := Scalar.addi arg0 c14_i32
  let c0_i32 : BitVec 32 := 0#32
  let c0_i32_0 : BitVec 32 := 0#32
  let c0_i32_1 : BitVec 32 := 0#32
  ![c0_i32.toNat, v1.toNat, c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S40 : Shape := ⟨1, ![40]⟩
abbrev S1 : Shape := ⟨1, ![1]⟩
abbrev S20480x2048 : Shape := ⟨2, ![20480, 2048]⟩
abbrev S2x8x2048x14336 : Shape := ⟨4, ![2, 8, 2048, 14336]⟩
abbrev S40x512 : Shape := ⟨2, ![40, 512]⟩
abbrev S20480 : Shape := ⟨1, ![20480]⟩
abbrev S20480x1 : Shape := ⟨2, ![20480, 1]⟩
abbrev S_ : Shape := ⟨0, ![]⟩
abbrev S20480x7168 : Shape := ⟨2, ![20480, 7168]⟩
abbrev S1x1x2048x14336 : Shape := ⟨4, ![1, 1, 2048, 14336]⟩
abbrev S2048x14336 : Shape := ⟨2, ![2048, 14336]⟩
abbrev S20480x14336 : Shape := ⟨2, ![20480, 14336]⟩

abbrev nBuf : Space → Nat
  | .hbm => 186
  | .vmem => 0
  | .smem => 0
  | _ => 0

abbrev hbmTy0_0 (i : Nat) : BufTy := match i % 128 with
  | 0 => ⟨S40, .i32⟩
  | 1 => ⟨S1, .i32⟩
  | 2 => ⟨S20480x2048, .bf16⟩
  | 3 => ⟨S2x8x2048x14336, .f32⟩
  | 4 => ⟨S40x512, .i32⟩
  | 5 => ⟨S20480, .i32⟩
  | 6 => ⟨S20480x1, .i32⟩
  | 7 => ⟨S40, .i32⟩
  | 8 => ⟨S40, .i32⟩
  | 9 => ⟨S40, .i1⟩
  | 10 => ⟨S40, .i32⟩
  | 11 => ⟨S40x512, .i32⟩
  | 12 => ⟨S20480, .i32⟩
  | 13 => ⟨S20480x1, .i32⟩
  | 14 => ⟨S20480x2048, .f32⟩
  | 15 => ⟨S_, .f32⟩
  | 16 => ⟨S20480x7168, .f32⟩
  | 17 => ⟨S1x1x2048x14336, .f32⟩
  | 18 => ⟨S2048x14336, .f32⟩
  | 19 => ⟨S20480x14336, .f32⟩
  | 20 => ⟨S20480x7168, .f32⟩
  | 21 => ⟨S20480x7168, .f32⟩
  | 22 => ⟨S_, .i32⟩
  | 23 => ⟨S20480x1, .i32⟩
  | 24 => ⟨S20480x1, .i1⟩
  | 25 => ⟨S20480x7168, .f32⟩
  | 26 => ⟨S20480x7168, .f32⟩
  | 27 => ⟨S_, .f32⟩
  | 28 => ⟨S20480x7168, .f32⟩
  | 29 => ⟨S20480x7168, .f32⟩
  | 30 => ⟨S_, .f32⟩
  | 31 => ⟨S20480x7168, .f32⟩
  | 32 => ⟨S20480x7168, .f32⟩
  | 33 => ⟨S20480x7168, .f32⟩
  | 34 => ⟨S20480x7168, .f32⟩
  | 35 => ⟨S20480x7168, .i1⟩
  | 36 => ⟨S20480x7168, .f32⟩
  | 37 => ⟨S1x1x2048x14336, .f32⟩
  | 38 => ⟨S2048x14336, .f32⟩
  | 39 => ⟨S20480x14336, .f32⟩
  | 40 => ⟨S20480x7168, .f32⟩
  | 41 => ⟨S20480x7168, .f32⟩
  | 42 => ⟨S_, .i32⟩
  | 43 => ⟨S20480x1, .i32⟩
  | 44 => ⟨S20480x1, .i1⟩
  | 45 => ⟨S20480x7168, .f32⟩
  | 46 => ⟨S20480x7168, .f32⟩
  | 47 => ⟨S_, .f32⟩
  | 48 => ⟨S20480x7168, .f32⟩
  | 49 => ⟨S20480x7168, .f32⟩
  | 50 => ⟨S_, .f32⟩
  | 51 => ⟨S20480x7168, .f32⟩
  | 52 => ⟨S20480x7168, .f32⟩
  | 53 => ⟨S20480x7168, .f32⟩
  | 54 => ⟨S20480x7168, .f32⟩
  | 55 => ⟨S20480x7168, .i1⟩
  | 56 => ⟨S20480x7168, .f32⟩
  | 57 => ⟨S1x1x2048x14336, .f32⟩
  | 58 => ⟨S2048x14336, .f32⟩
  | 59 => ⟨S20480x14336, .f32⟩
  | 60 => ⟨S20480x7168, .f32⟩
  | 61 => ⟨S20480x7168, .f32⟩
  | 62 => ⟨S_, .i32⟩
  | 63 => ⟨S20480x1, .i32⟩
  | 64 => ⟨S20480x1, .i1⟩
  | 65 => ⟨S20480x7168, .f32⟩
  | 66 => ⟨S20480x7168, .f32⟩
  | 67 => ⟨S_, .f32⟩
  | 68 => ⟨S20480x7168, .f32⟩
  | 69 => ⟨S20480x7168, .f32⟩
  | 70 => ⟨S_, .f32⟩
  | 71 => ⟨S20480x7168, .f32⟩
  | 72 => ⟨S20480x7168, .f32⟩
  | 73 => ⟨S20480x7168, .f32⟩
  | 74 => ⟨S20480x7168, .f32⟩
  | 75 => ⟨S20480x7168, .i1⟩
  | 76 => ⟨S20480x7168, .f32⟩
  | 77 => ⟨S1x1x2048x14336, .f32⟩
  | 78 => ⟨S2048x14336, .f32⟩
  | 79 => ⟨S20480x14336, .f32⟩
  | 80 => ⟨S20480x7168, .f32⟩
  | 81 => ⟨S20480x7168, .f32⟩
  | 82 => ⟨S_, .i32⟩
  | 83 => ⟨S20480x1, .i32⟩
  | 84 => ⟨S20480x1, .i1⟩
  | 85 => ⟨S20480x7168, .f32⟩
  | 86 => ⟨S20480x7168, .f32⟩
  | 87 => ⟨S_, .f32⟩
  | 88 => ⟨S20480x7168, .f32⟩
  | 89 => ⟨S20480x7168, .f32⟩
  | 90 => ⟨S_, .f32⟩
  | 91 => ⟨S20480x7168, .f32⟩
  | 92 => ⟨S20480x7168, .f32⟩
  | 93 => ⟨S20480x7168, .f32⟩
  | 94 => ⟨S20480x7168, .f32⟩
  | 95 => ⟨S20480x7168, .i1⟩
  | 96 => ⟨S20480x7168, .f32⟩
  | 97 => ⟨S1x1x2048x14336, .f32⟩
  | 98 => ⟨S2048x14336, .f32⟩
  | 99 => ⟨S20480x14336, .f32⟩
  | 100 => ⟨S20480x7168, .f32⟩
  | 101 => ⟨S20480x7168, .f32⟩
  | 102 => ⟨S_, .i32⟩
  | 103 => ⟨S20480x1, .i32⟩
  | 104 => ⟨S20480x1, .i1⟩
  | 105 => ⟨S20480x7168, .f32⟩
  | 106 => ⟨S20480x7168, .f32⟩
  | 107 => ⟨S_, .f32⟩
  | 108 => ⟨S20480x7168, .f32⟩
  | 109 => ⟨S20480x7168, .f32⟩
  | 110 => ⟨S_, .f32⟩
  | 111 => ⟨S20480x7168, .f32⟩
  | 112 => ⟨S20480x7168, .f32⟩
  | 113 => ⟨S20480x7168, .f32⟩
  | 114 => ⟨S20480x7168, .f32⟩
  | 115 => ⟨S20480x7168, .i1⟩
  | 116 => ⟨S20480x7168, .f32⟩
  | 117 => ⟨S1x1x2048x14336, .f32⟩
  | 118 => ⟨S2048x14336, .f32⟩
  | 119 => ⟨S20480x14336, .f32⟩
  | 120 => ⟨S20480x7168, .f32⟩
  | 121 => ⟨S20480x7168, .f32⟩
  | 122 => ⟨S_, .i32⟩
  | 123 => ⟨S20480x1, .i32⟩
  | 124 => ⟨S20480x1, .i1⟩
  | 125 => ⟨S20480x7168, .f32⟩
  | 126 => ⟨S20480x7168, .f32⟩
  | 127 => ⟨S_, .f32⟩
  | _ => ⟨S40, .i32⟩

abbrev hbmTy0_1 (i : Nat) : BufTy := match i % 128 with
  | 0 => ⟨S20480x7168, .f32⟩
  | 1 => ⟨S20480x7168, .f32⟩
  | 2 => ⟨S_, .f32⟩
  | 3 => ⟨S20480x7168, .f32⟩
  | 4 => ⟨S20480x7168, .f32⟩
  | 5 => ⟨S20480x7168, .f32⟩
  | 6 => ⟨S20480x7168, .f32⟩
  | 7 => ⟨S20480x7168, .i1⟩
  | 8 => ⟨S20480x7168, .f32⟩
  | 9 => ⟨S1x1x2048x14336, .f32⟩
  | 10 => ⟨S2048x14336, .f32⟩
  | 11 => ⟨S20480x14336, .f32⟩
  | 12 => ⟨S20480x7168, .f32⟩
  | 13 => ⟨S20480x7168, .f32⟩
  | 14 => ⟨S_, .i32⟩
  | 15 => ⟨S20480x1, .i32⟩
  | 16 => ⟨S20480x1, .i1⟩
  | 17 => ⟨S20480x7168, .f32⟩
  | 18 => ⟨S20480x7168, .f32⟩
  | 19 => ⟨S_, .f32⟩
  | 20 => ⟨S20480x7168, .f32⟩
  | 21 => ⟨S20480x7168, .f32⟩
  | 22 => ⟨S_, .f32⟩
  | 23 => ⟨S20480x7168, .f32⟩
  | 24 => ⟨S20480x7168, .f32⟩
  | 25 => ⟨S20480x7168, .f32⟩
  | 26 => ⟨S20480x7168, .f32⟩
  | 27 => ⟨S20480x7168, .i1⟩
  | 28 => ⟨S20480x7168, .f32⟩
  | 29 => ⟨S1x1x2048x14336, .f32⟩
  | 30 => ⟨S2048x14336, .f32⟩
  | 31 => ⟨S20480x14336, .f32⟩
  | 32 => ⟨S20480x7168, .f32⟩
  | 33 => ⟨S20480x7168, .f32⟩
  | 34 => ⟨S_, .i32⟩
  | 35 => ⟨S20480x1, .i32⟩
  | 36 => ⟨S20480x1, .i1⟩
  | 37 => ⟨S20480x7168, .f32⟩
  | 38 => ⟨S20480x7168, .f32⟩
  | 39 => ⟨S_, .f32⟩
  | 40 => ⟨S20480x7168, .f32⟩
  | 41 => ⟨S20480x7168, .f32⟩
  | 42 => ⟨S_, .f32⟩
  | 43 => ⟨S20480x7168, .f32⟩
  | 44 => ⟨S20480x7168, .f32⟩
  | 45 => ⟨S20480x7168, .f32⟩
  | 46 => ⟨S20480x7168, .f32⟩
  | 47 => ⟨S20480x7168, .i1⟩
  | 48 => ⟨S20480x7168, .f32⟩
  | 49 => ⟨S_, .i32⟩
  | 50 => ⟨S20480x1, .i32⟩
  | 51 => ⟨S20480x1, .i1⟩
  | 52 => ⟨S_, .f32⟩
  | 53 => ⟨S_, .f32⟩
  | 54 => ⟨S20480x7168, .i1⟩
  | 55 => ⟨S20480x7168, .f32⟩
  | 56 => ⟨S20480x7168, .f32⟩
  | 57 => ⟨S20480x7168, .bf16⟩
  | _ => ⟨S40, .i32⟩

abbrev hbmTy (i : Nat) : BufTy := match i / 128 with
  | 0 => hbmTy0_0 i
  | 1 => hbmTy0_1 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_call1_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_0 : Ref sig .tc := ⟨.hbm, 42, rfl⟩
abbrev main_v27 : Ref sig .tc := ⟨.hbm, 43, rfl⟩
abbrev main_v28 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v29 : Ref sig .tc := ⟨.hbm, 53, rfl⟩
abbrev main_v30 : Ref sig .tc := ⟨.hbm, 54, rfl⟩
abbrev main_call3_v0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_1 : Ref sig .tc := ⟨.hbm, 62, rfl⟩
abbrev main_v37 : Ref sig .tc := ⟨.hbm, 63, rfl⟩
abbrev main_v38 : Ref sig .tc := ⟨.hbm, 64, rfl⟩
abbrev main_call4_v0 : Ref sig .tc := ⟨.hbm, 65, rfl⟩
abbrev main_call4_v1 : Ref sig .tc := ⟨.hbm, 66, rfl⟩
abbrev main_call4_cst : Ref sig .tc := ⟨.hbm, 67, rfl⟩
abbrev main_call4_v2 : Ref sig .tc := ⟨.hbm, 68, rfl⟩
abbrev main_call4_v3 : Ref sig .tc := ⟨.hbm, 69, rfl⟩
abbrev main_call4_cst_0 : Ref sig .tc := ⟨.hbm, 70, rfl⟩
abbrev main_call4_v4 : Ref sig .tc := ⟨.hbm, 71, rfl⟩
abbrev main_call4_v5 : Ref sig .tc := ⟨.hbm, 72, rfl⟩
abbrev main_v39 : Ref sig .tc := ⟨.hbm, 73, rfl⟩
abbrev main_v40 : Ref sig .tc := ⟨.hbm, 74, rfl⟩
abbrev main_call5_v0 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_2 : Ref sig .tc := ⟨.hbm, 82, rfl⟩
abbrev main_v47 : Ref sig .tc := ⟨.hbm, 83, rfl⟩
abbrev main_v48 : Ref sig .tc := ⟨.hbm, 84, rfl⟩
abbrev main_call6_v0 : Ref sig .tc := ⟨.hbm, 85, rfl⟩
abbrev main_call6_v1 : Ref sig .tc := ⟨.hbm, 86, rfl⟩
abbrev main_call6_cst : Ref sig .tc := ⟨.hbm, 87, rfl⟩
abbrev main_call6_v2 : Ref sig .tc := ⟨.hbm, 88, rfl⟩
abbrev main_call6_v3 : Ref sig .tc := ⟨.hbm, 89, rfl⟩
abbrev main_call6_cst_0 : Ref sig .tc := ⟨.hbm, 90, rfl⟩
abbrev main_call6_v4 : Ref sig .tc := ⟨.hbm, 91, rfl⟩
abbrev main_call6_v5 : Ref sig .tc := ⟨.hbm, 92, rfl⟩
abbrev main_v49 : Ref sig .tc := ⟨.hbm, 93, rfl⟩
abbrev main_v50 : Ref sig .tc := ⟨.hbm, 94, rfl⟩
abbrev main_call7_v0 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_3 : Ref sig .tc := ⟨.hbm, 102, rfl⟩
abbrev main_v57 : Ref sig .tc := ⟨.hbm, 103, rfl⟩
abbrev main_v58 : Ref sig .tc := ⟨.hbm, 104, rfl⟩
abbrev main_call8_v0 : Ref sig .tc := ⟨.hbm, 105, rfl⟩
abbrev main_call8_v1 : Ref sig .tc := ⟨.hbm, 106, rfl⟩
abbrev main_call8_cst : Ref sig .tc := ⟨.hbm, 107, rfl⟩
abbrev main_call8_v2 : Ref sig .tc := ⟨.hbm, 108, rfl⟩
abbrev main_call8_v3 : Ref sig .tc := ⟨.hbm, 109, rfl⟩
abbrev main_call8_cst_0 : Ref sig .tc := ⟨.hbm, 110, rfl⟩
abbrev main_call8_v4 : Ref sig .tc := ⟨.hbm, 111, rfl⟩
abbrev main_call8_v5 : Ref sig .tc := ⟨.hbm, 112, rfl⟩
abbrev main_v59 : Ref sig .tc := ⟨.hbm, 113, rfl⟩
abbrev main_v60 : Ref sig .tc := ⟨.hbm, 114, rfl⟩
abbrev main_call9_v0 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_c_4 : Ref sig .tc := ⟨.hbm, 122, rfl⟩
abbrev main_v67 : Ref sig .tc := ⟨.hbm, 123, rfl⟩
abbrev main_v68 : Ref sig .tc := ⟨.hbm, 124, rfl⟩
abbrev main_call10_v0 : Ref sig .tc := ⟨.hbm, 125, rfl⟩
abbrev main_call10_v1 : Ref sig .tc := ⟨.hbm, 126, rfl⟩
abbrev main_call10_cst : Ref sig .tc := ⟨.hbm, 127, rfl⟩
abbrev main_call10_v2 : Ref sig .tc := ⟨.hbm, 128, rfl⟩
abbrev main_call10_v3 : Ref sig .tc := ⟨.hbm, 129, rfl⟩
abbrev main_call10_cst_0 : Ref sig .tc := ⟨.hbm, 130, rfl⟩
abbrev main_call10_v4 : Ref sig .tc := ⟨.hbm, 131, rfl⟩
abbrev main_call10_v5 : Ref sig .tc := ⟨.hbm, 132, rfl⟩
abbrev main_v69 : Ref sig .tc := ⟨.hbm, 133, rfl⟩
abbrev main_v70 : Ref sig .tc := ⟨.hbm, 134, rfl⟩
abbrev main_call11_v0 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_c_5 : Ref sig .tc := ⟨.hbm, 142, rfl⟩
abbrev main_v77 : Ref sig .tc := ⟨.hbm, 143, rfl⟩
abbrev main_v78 : Ref sig .tc := ⟨.hbm, 144, rfl⟩
abbrev main_call12_v0 : Ref sig .tc := ⟨.hbm, 145, rfl⟩
abbrev main_call12_v1 : Ref sig .tc := ⟨.hbm, 146, rfl⟩
abbrev main_call12_cst : Ref sig .tc := ⟨.hbm, 147, rfl⟩
abbrev main_call12_v2 : Ref sig .tc := ⟨.hbm, 148, rfl⟩
abbrev main_call12_v3 : Ref sig .tc := ⟨.hbm, 149, rfl⟩
abbrev main_call12_cst_0 : Ref sig .tc := ⟨.hbm, 150, rfl⟩
abbrev main_call12_v4 : Ref sig .tc := ⟨.hbm, 151, rfl⟩
abbrev main_call12_v5 : Ref sig .tc := ⟨.hbm, 152, rfl⟩
abbrev main_v79 : Ref sig .tc := ⟨.hbm, 153, rfl⟩
abbrev main_v80 : Ref sig .tc := ⟨.hbm, 154, rfl⟩
abbrev main_call13_v0 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_c_6 : Ref sig .tc := ⟨.hbm, 162, rfl⟩
abbrev main_v87 : Ref sig .tc := ⟨.hbm, 163, rfl⟩
abbrev main_v88 : Ref sig .tc := ⟨.hbm, 164, rfl⟩
abbrev main_call14_v0 : Ref sig .tc := ⟨.hbm, 165, rfl⟩
abbrev main_call14_v1 : Ref sig .tc := ⟨.hbm, 166, rfl⟩
abbrev main_call14_cst : Ref sig .tc := ⟨.hbm, 167, rfl⟩
abbrev main_call14_v2 : Ref sig .tc := ⟨.hbm, 168, rfl⟩
abbrev main_call14_v3 : Ref sig .tc := ⟨.hbm, 169, rfl⟩
abbrev main_call14_cst_0 : Ref sig .tc := ⟨.hbm, 170, rfl⟩
abbrev main_call14_v4 : Ref sig .tc := ⟨.hbm, 171, rfl⟩
abbrev main_call14_v5 : Ref sig .tc := ⟨.hbm, 172, rfl⟩
abbrev main_v89 : Ref sig .tc := ⟨.hbm, 173, rfl⟩
abbrev main_v90 : Ref sig .tc := ⟨.hbm, 174, rfl⟩
abbrev main_call15_v0 : Ref sig .tc := ⟨.hbm, 175, rfl⟩
abbrev main_v91 : Ref sig .tc := ⟨.hbm, 176, rfl⟩
abbrev main_c_7 : Ref sig .tc := ⟨.hbm, 177, rfl⟩
abbrev main_v92 : Ref sig .tc := ⟨.hbm, 178, rfl⟩
abbrev main_v93 : Ref sig .tc := ⟨.hbm, 179, rfl⟩
abbrev main_cst_8 : Ref sig .tc := ⟨.hbm, 180, rfl⟩
abbrev main_call16_v0 : Ref sig .tc := ⟨.hbm, 181, rfl⟩
abbrev main_call16_v1 : Ref sig .tc := ⟨.hbm, 182, rfl⟩
abbrev main_call16_v2 : Ref sig .tc := ⟨.hbm, 183, rfl⟩
abbrev main_v94 : Ref sig .tc := ⟨.hbm, 184, rfl⟩
abbrev main_v95 : Ref sig .tc := ⟨.hbm, 185, rfl⟩

abbrev nD : Nat := 1
abbrev τ : Topo := Topo.v7x

variable {F : FTy → Type} [FloatOps F]
-- ==== Kernel2.lean ====
abbrev S40 : Shape := ⟨1, ![40]⟩
abbrev S1 : Shape := ⟨1, ![1]⟩
abbrev S20480x7168 : Shape := ⟨2, ![20480, 7168]⟩
abbrev S2x8x7168x2048 : Shape := ⟨4, ![2, 8, 7168, 2048]⟩
abbrev S20480x2048 : Shape := ⟨2, ![20480, 2048]⟩
abbrev S512x7168 : Shape := ⟨2, ![512, 7168]⟩
abbrev S1x1x7168x512 : Shape := ⟨4, ![1, 1, 7168, 512]⟩
abbrev S512x512 : Shape := ⟨2, ![512, 512]⟩
abbrev S7168x512 : Shape := ⟨2, ![7168, 512]⟩

abbrev nBuf : Space → Nat
  | .hbm => 4
  | .vmem => 6
  | .smem => 2
  | _ => 0

abbrev bufTy : (tb : Table) → Fin (tcTables nBuf tb) → BufTy
  | .hbm, ⟨0, _⟩ => ⟨S20480x7168, .bf16⟩
  | .hbm, ⟨1, _⟩ => ⟨S2x8x7168x2048, .f32⟩
  | .hbm, ⟨2, _⟩ => ⟨S2x8x7168x2048, .bf16⟩
  | .hbm, ⟨3, _⟩ => ⟨S20480x2048, .f32⟩
  | .local _ .vmem, ⟨0, _⟩ => ⟨S512x7168, .bf16⟩
  | .local _ .vmem, ⟨1, _⟩ => ⟨S512x7168, .bf16⟩
  | .local _ .vmem, ⟨2, _⟩ => ⟨S1x1x7168x512, .bf16⟩
  | .local _ .vmem, ⟨3, _⟩ => ⟨S1x1x7168x512, .bf16⟩
  | .local _ .vmem, ⟨4, _⟩ => ⟨S512x512, .f32⟩
  | .local _ .vmem, ⟨5, _⟩ => ⟨S512x512, .f32⟩
  | .local _ .smem, ⟨0, _⟩ => ⟨S40, .i32⟩
  | .local _ .smem, ⟨1, _⟩ => ⟨S1, .i32⟩
  | _, _ => ⟨S20480x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_v1 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 40], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x7168x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S40 : Shape := ⟨1, ![40]⟩
abbrev S1 : Shape := ⟨1, ![1]⟩
abbrev S20480x7168 : Shape := ⟨2, ![20480, 7168]⟩
abbrev S2x8x7168x2048 : Shape := ⟨4, ![2, 8, 7168, 2048]⟩
abbrev S40x512 : Shape := ⟨2, ![40, 512]⟩
abbrev S20480 : Shape := ⟨1, ![20480]⟩
abbrev S20480x1 : Shape := ⟨2, ![20480, 1]⟩
abbrev S_ : Shape := ⟨0, ![]⟩
abbrev S20480x2048 : Shape := ⟨2, ![20480, 2048]⟩
abbrev S1x1x7168x2048 : Shape := ⟨4, ![1, 1, 7168, 2048]⟩
abbrev S7168x2048 : Shape := ⟨2, ![7168, 2048]⟩

abbrev nBuf : Space → Nat
  | .hbm => 89
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S20480x7168, .bf16⟩
  | .hbm, ⟨3, _⟩ => ⟨S2x8x7168x2048, .f32⟩
  | .hbm, ⟨4, _⟩ => ⟨S40x512, .i32⟩
  | .hbm, ⟨5, _⟩ => ⟨S20480, .i32⟩
  | .hbm, ⟨6, _⟩ => ⟨S20480x1, .i32⟩
  | .hbm, ⟨7, _⟩ => ⟨S40, .i32⟩
  | .hbm, ⟨8, _⟩ => ⟨S40, .i32⟩
  | .hbm, ⟨9, _⟩ => ⟨S40, .i1⟩
  | .hbm, ⟨10, _⟩ => ⟨S40, .i32⟩
  | .hbm, ⟨11, _⟩ => ⟨S40x512, .i32⟩
  | .hbm, ⟨12, _⟩ => ⟨S20480, .i32⟩
  | .hbm, ⟨13, _⟩ => ⟨S20480x1, .i32⟩
  | .hbm, ⟨14, _⟩ => ⟨S20480x7168, .f32⟩
  | .hbm, ⟨15, _⟩ => ⟨S_, .f32⟩
  | .hbm, ⟨16, _⟩ => ⟨S20480x2048, .f32⟩
  | .hbm, ⟨17, _⟩ => ⟨S_, .i32⟩
  | .hbm, ⟨18, _⟩ => ⟨S20480x1, .i32⟩
  | .hbm, ⟨19, _⟩ => ⟨S20480x1, .i1⟩
  | .hbm, ⟨20, _⟩ => ⟨S1x1x7168x2048, .f32⟩
  | .hbm, ⟨21, _⟩ => ⟨S7168x2048, .f32⟩
  | .hbm, ⟨22, _⟩ => ⟨S20480x2048, .f32⟩
  | .hbm, ⟨23, _⟩ => ⟨S20480x2048, .i1⟩
  | .hbm, ⟨24, _⟩ => ⟨S20480x2048, .f32⟩
  | .hbm, ⟨25, _⟩ => ⟨S_, .i32⟩
  | .hbm, ⟨26, _⟩ => ⟨S20480x1, .i32⟩
  | .hbm, ⟨27, _⟩ => ⟨S20480x1, .i1⟩
  | .hbm, ⟨28, _⟩ => ⟨S1x1x7168x2048, .f32⟩
  | .hbm, ⟨29, _⟩ => ⟨S7168x2048, .f32⟩
  | .hbm, ⟨30, _⟩ => ⟨S20480x2048, .f32⟩
  | .hbm, ⟨31, _⟩ => ⟨S20480x2048, .i1⟩
  | .hbm, ⟨32, _⟩ => ⟨S20480x2048, .f32⟩
  | .hbm, ⟨33, _⟩ => ⟨S_, .i32⟩
  | .hbm, ⟨34, _⟩ => ⟨S20480x1, .i32⟩
  | .hbm, ⟨35, _⟩ => ⟨S20480x1, .i1⟩
  | .hbm, ⟨36, _⟩ => ⟨S1x1x7168x2048, .f32⟩
  | .hbm, ⟨37, _⟩ => ⟨S7168x2048, .f32⟩
  | .hbm, ⟨38, _⟩ => ⟨S20480x2048, .f32⟩
  | .hbm, ⟨39, _⟩ => ⟨S20480x2048, .i1⟩
  | .hbm, ⟨40, _⟩ => ⟨S20480x2048, .f32⟩
  | .hbm, ⟨41, _⟩ => ⟨S_, .i32⟩
  | .hbm, ⟨42, _⟩ => ⟨S20480x1, .i32⟩
  | .hbm, ⟨43, _⟩ => ⟨S20480x1, .i1⟩
  | .hbm, ⟨44, _⟩ => ⟨S1x1x7168x2048, .f32⟩
  | .hbm, ⟨45, _⟩ => ⟨S7168x2048, .f32⟩
  | .hbm, ⟨46, _⟩ => ⟨S20480x2048, .f32⟩
  | .hbm, ⟨47, _⟩ => ⟨S20480x2048, .i1⟩
  | .hbm, ⟨48, _⟩ => ⟨S20480x2048, .f32⟩
  | .hbm, ⟨49, _⟩ => ⟨S_, .i32⟩
  | .hbm, ⟨50, _⟩ => ⟨S20480x1, .i32⟩
  | .hbm, ⟨51, _⟩ => ⟨S20480x1, .i1⟩
  | .hbm, ⟨52, _⟩ => ⟨S1x1x7168x2048, .f32⟩
  | .hbm, ⟨53, _⟩ => ⟨S7168x2048, .f32⟩
  | .hbm, ⟨54, _⟩ => ⟨S20480x2048, .f32⟩
  | .hbm, ⟨55, _⟩ => ⟨S20480x2048, .i1⟩
  | .hbm, ⟨56, _⟩ => ⟨S20480x2048, .f32⟩
  | .hbm, ⟨57, _⟩ => ⟨S_, .i32⟩
  | .hbm, ⟨58, _⟩ => ⟨S20480x1, .i32⟩
  | .hbm, ⟨59, _⟩ => ⟨S20480x1, .i1⟩
  | .hbm, ⟨60, _⟩ => ⟨S1x1x7168x2048, .f32⟩
  | .hbm, ⟨61, _⟩ => ⟨S7168x2048, .f32⟩
  | .hbm, ⟨62, _⟩ => ⟨S20480x2048, .f32⟩
  | .hbm, ⟨63, _⟩ => ⟨S20480x2048, .i1⟩
  | .hbm, ⟨64, _⟩ => ⟨S20480x2048, .f32⟩
  | .hbm, ⟨65, _⟩ => ⟨S_, .i32⟩
  | .hbm, ⟨66, _⟩ => ⟨S20480x1, .i32⟩
  | .hbm, ⟨67, _⟩ => ⟨S20480x1, .i1⟩
  | .hbm, ⟨68, _⟩ => ⟨S1x1x7168x2048, .f32⟩
  | .hbm, ⟨69, _⟩ => ⟨S7168x2048, .f32⟩
  | .hbm, ⟨70, _⟩ => ⟨S20480x2048, .f32⟩
  | .hbm, ⟨71, _⟩ => ⟨S20480x2048, .i1⟩
  | .hbm, ⟨72, _⟩ => ⟨S20480x2048, .f32⟩
  | .hbm, ⟨73, _⟩ => ⟨S_, .i32⟩
  | .hbm, ⟨74, _⟩ => ⟨S20480x1, .i32⟩
  | .hbm, ⟨75, _⟩ => ⟨S20480x1, .i1⟩
  | .hbm, ⟨76, _⟩ => ⟨S1x1x7168x2048, .f32⟩
  | .hbm, ⟨77, _⟩ => ⟨S7168x2048, .f32⟩
  | .hbm, ⟨78, _⟩ => ⟨S20480x2048, .f32⟩
  | .hbm, ⟨79, _⟩ => ⟨S20480x2048, .i1⟩
  | .hbm, ⟨80, _⟩ => ⟨S20480x2048, .f32⟩
  | .hbm, ⟨81, _⟩ => ⟨S_, .i32⟩
  | .hbm, ⟨82, _⟩ => ⟨S20480x1, .i32⟩
  | .hbm, ⟨83, _⟩ => ⟨S20480x1, .i1⟩
  | .hbm, ⟨84, _⟩ => ⟨S_, .f32⟩
  | .hbm, ⟨85, _⟩ => ⟨S_, .f32⟩
  | .hbm, ⟨86, _⟩ => ⟨S20480x2048, .i1⟩
  | .hbm, ⟨87, _⟩ => ⟨S20480x2048, .f32⟩
  | .hbm, ⟨88, _⟩ => ⟨S20480x2048, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_v17 : Ref sig .tc := ⟨.hbm, 24, rfl⟩
abbrev main_c_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call1_v0 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call2_v0 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call3_v0 : Ref sig .tc := ⟨.hbm, 47, rfl⟩
abbrev main_v35 : Ref sig .tc := ⟨.hbm, 48, rfl⟩
abbrev main_c_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call4_v0 : Ref sig .tc := ⟨.hbm, 55, rfl⟩
abbrev main_v41 : Ref sig .tc := ⟨.hbm, 56, rfl⟩
abbrev main_c_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call5_v0 : Ref sig .tc := ⟨.hbm, 63, rfl⟩
abbrev main_v47 : Ref sig .tc := ⟨.hbm, 64, rfl⟩
abbrev main_c_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call6_v0 : Ref sig .tc := ⟨.hbm, 71, rfl⟩
abbrev main_v53 : Ref sig .tc := ⟨.hbm, 72, rfl⟩
abbrev main_c_6 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call7_v0 : Ref sig .tc := ⟨.hbm, 79, rfl⟩
abbrev main_v59 : Ref sig .tc := ⟨.hbm, 80, rfl⟩
abbrev main_c_7 : Ref sig .tc := ⟨.hbm, 81, rfl⟩
abbrev main_v60 : Ref sig .tc := ⟨.hbm, 82, rfl⟩
abbrev main_v61 : Ref sig .tc := ⟨.hbm, 83, rfl⟩
abbrev main_cst_8 : Ref sig .tc := ⟨.hbm, 84, rfl⟩
abbrev main_call8_v0 : Ref sig .tc := ⟨.hbm, 85, rfl⟩
abbrev main_call8_v1 : Ref sig .tc := ⟨.hbm, 86, rfl⟩
abbrev main_call8_v2 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== Kernel3.lean ====
abbrev S4x2048x2048 : Shape := ⟨3, ![4, 2048, 2048]⟩
abbrev S128x1x2048 : Shape := ⟨3, ![128, 1, 2048]⟩
abbrev S2x2048x3144 : Shape := ⟨3, ![2, 2048, 3144]⟩
abbrev S8192x2048 : Shape := ⟨2, ![8192, 2048]⟩
abbrev S128x2048 : Shape := ⟨2, ![128, 2048]⟩
abbrev S8320x2048 : Shape := ⟨2, ![8320, 2048]⟩
abbrev S1x2048x3144 : Shape := ⟨3, ![1, 2048, 3144]⟩
abbrev S2048x3144 : Shape := ⟨2, ![2048, 3144]⟩
abbrev S_ : Shape := ⟨0, ![]⟩
abbrev S2048x56 : Shape := ⟨2, ![2048, 56]⟩
abbrev S2048x1024 : Shape := ⟨2, ![2048, 1024]⟩
abbrev S2048x512 : Shape := ⟨2, ![2048, 512]⟩
abbrev S2048x256 : Shape := ⟨2, ![2048, 256]⟩
abbrev S2048x72 : Shape := ⟨2, ![2048, 72]⟩
abbrev S2048x3200 : Shape := ⟨2, ![2048, 3200]⟩
abbrev S8320x3200 : Shape := ⟨2, ![8320, 3200]⟩
abbrev S640x2048 : Shape := ⟨2, ![640, 2048]⟩
abbrev S2048x640 : Shape := ⟨2, ![2048, 640]⟩
abbrev S640x640 : Shape := ⟨2, ![640, 640]⟩
abbrev S8320x256 : Shape := ⟨2, ![8320, 256]⟩
abbrev S8320x64 : Shape := ⟨2, ![8320, 64]⟩
abbrev S8320x1024 : Shape := ⟨2, ![8320, 1024]⟩
abbrev S8320x512 : Shape := ⟨2, ![8320, 512]⟩
abbrev S8320x8 : Shape := ⟨2, ![8320, 8]⟩
abbrev S8192x256 : Shape := ⟨2, ![8192, 256]⟩
abbrev S4x2048x256 : Shape := ⟨3, ![4, 2048, 256]⟩
abbrev S128x256 : Shape := ⟨2, ![128, 256]⟩
abbrev S128x1x256 : Shape := ⟨3, ![128, 1, 256]⟩
abbrev S8192x64 : Shape := ⟨2, ![8192, 64]⟩
abbrev S4x2048x64 : Shape := ⟨3, ![4, 2048, 64]⟩
abbrev S128x64 : Shape := ⟨2, ![128, 64]⟩
abbrev S128x1x64 : Shape := ⟨3, ![128, 1, 64]⟩
abbrev S8192x1024 : Shape := ⟨2, ![8192, 1024]⟩
abbrev S4x2048x1024 : Shape := ⟨3, ![4, 2048, 1024]⟩
abbrev S128x1024 : Shape := ⟨2, ![128, 1024]⟩
abbrev S128x1x1024 : Shape := ⟨3, ![128, 1, 1024]⟩
abbrev S8192x512 : Shape := ⟨2, ![8192, 512]⟩
abbrev S4x2048x512 : Shape := ⟨3, ![4, 2048, 512]⟩
abbrev S128x512 : Shape := ⟨2, ![128, 512]⟩
abbrev S128x1x512 : Shape := ⟨3, ![128, 1, 512]⟩
abbrev S8192x8 : Shape := ⟨2, ![8192, 8]⟩
abbrev S4x2048x8 : Shape := ⟨3, ![4, 2048, 8]⟩
abbrev S128x8 : Shape := ⟨2, ![128, 8]⟩
abbrev S128x1x8 : Shape := ⟨3, ![128, 1, 8]⟩

abbrev nBuf : Space → Nat
  | .hbm => 55
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S128x1x2048, .f32⟩
  | .hbm, ⟨2, _⟩ => ⟨S2x2048x3144, .f32⟩
  | .hbm, ⟨3, _⟩ => ⟨S8192x2048, .f32⟩
  | .hbm, ⟨4, _⟩ => ⟨S128x2048, .f32⟩
  | .hbm, ⟨5, _⟩ => ⟨S8320x2048, .f32⟩
  | .hbm, ⟨6, _⟩ => ⟨S8320x2048, .bf16⟩
  | .hbm, ⟨7, _⟩ => ⟨S1x2048x3144, .f32⟩
  | .hbm, ⟨8, _⟩ => ⟨S2048x3144, .f32⟩
  | .hbm, ⟨9, _⟩ => ⟨S_, .f32⟩
  | .hbm, ⟨10, _⟩ => ⟨S2048x56, .f32⟩
  | .hbm, ⟨11, _⟩ => ⟨S2048x1024, .f32⟩
  | .hbm, ⟨12, _⟩ => ⟨S2048x1024, .f32⟩
  | .hbm, ⟨13, _⟩ => ⟨S2048x512, .f32⟩
  | .hbm, ⟨14, _⟩ => ⟨S2048x256, .f32⟩
  | .hbm, ⟨15, _⟩ => ⟨S2048x256, .f32⟩
  | .hbm, ⟨16, _⟩ => ⟨S2048x72, .f32⟩
  | .hbm, ⟨17, _⟩ => ⟨S2048x3200, .f32⟩
  | .hbm, ⟨18, _⟩ => ⟨S2048x3200, .bf16⟩
  | .hbm, ⟨19, _⟩ => ⟨S8320x3200, .f32⟩
  | .hbm, ⟨20, _⟩ => ⟨S8320x256, .f32⟩
  | .hbm, ⟨21, _⟩ => ⟨S8320x256, .f32⟩
  | .hbm, ⟨22, _⟩ => ⟨S8320x64, .f32⟩
  | .hbm, ⟨23, _⟩ => ⟨S8320x1024, .f32⟩
  | .hbm, ⟨24, _⟩ => ⟨S8320x1024, .f32⟩
  | .hbm, ⟨25, _⟩ => ⟨S8320x512, .f32⟩
  | .hbm, ⟨26, _⟩ => ⟨S8320x8, .f32⟩
  | .hbm, ⟨27, _⟩ => ⟨S8192x256, .f32⟩
  | .hbm, ⟨28, _⟩ => ⟨S4x2048x256, .f32⟩
  | .hbm, ⟨29, _⟩ => ⟨S128x256, .f32⟩
  | .hbm, ⟨30, _⟩ => ⟨S128x1x256, .f32⟩
  | .hbm, ⟨31, _⟩ => ⟨S8192x256, .f32⟩
  | .hbm, ⟨32, _⟩ => ⟨S4x2048x256, .f32⟩
  | .hbm, ⟨33, _⟩ => ⟨S128x256, .f32⟩
  | .hbm, ⟨34, _⟩ => ⟨S128x1x256, .f32⟩
  | .hbm, ⟨35, _⟩ => ⟨S8192x64, .f32⟩
  | .hbm, ⟨36, _⟩ => ⟨S4x2048x64, .f32⟩
  | .hbm, ⟨37, _⟩ => ⟨S128x64, .f32⟩
  | .hbm, ⟨38, _⟩ => ⟨S128x1x64, .f32⟩
  | .hbm, ⟨39, _⟩ => ⟨S8192x1024, .f32⟩
  | .hbm, ⟨40, _⟩ => ⟨S4x2048x1024, .f32⟩
  | .hbm, ⟨41, _⟩ => ⟨S128x1024, .f32⟩
  | .hbm, ⟨42, _⟩ => ⟨S128x1x1024, .f32⟩
  | .hbm, ⟨43, _⟩ => ⟨S8192x1024, .f32⟩
  | .hbm, ⟨44, _⟩ => ⟨S4x2048x1024, .f32⟩
  | .hbm, ⟨45, _⟩ => ⟨S128x1024, .f32⟩
  | .hbm, ⟨46, _⟩ => ⟨S128x1x1024, .f32⟩
  | .hbm, ⟨47, _⟩ => ⟨S8192x512, .f32⟩
  | .hbm, ⟨48, _⟩ => ⟨S4x2048x512, .f32⟩
  | .hbm, ⟨49, _⟩ => ⟨S128x512, .f32⟩
  | .hbm, ⟨50, _⟩ => ⟨S128x1x512, .f32⟩
  | .hbm, ⟨51, _⟩ => ⟨S8192x8, .f32⟩
  | .hbm, ⟨52, _⟩ => ⟨S4x2048x8, .f32⟩
  | .hbm, ⟨53, _⟩ => ⟨S128x8, .f32⟩
  | .hbm, ⟨54, _⟩ => ⟨S128x1x8, .f32⟩
  | .local _ .vmem, ⟨0, _⟩ => ⟨S640x2048, .bf16⟩
  | .local _ .vmem, ⟨1, _⟩ => ⟨S640x2048, .bf16⟩
  | .local _ .vmem, ⟨2, _⟩ => ⟨S2048x640, .bf16⟩
  | .local _ .vmem, ⟨3, _⟩ => ⟨S2048x640, .bf16⟩
  | .local _ .vmem, ⟨4, _⟩ => ⟨S640x640, .f32⟩
  | .local _ .vmem, ⟨5, _⟩ => ⟨S640x640, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x2048x2048 : Shape := ⟨3, ![4, 2048, 2048]⟩
abbrev S128x1x2048 : Shape := ⟨3, ![128, 1, 2048]⟩
abbrev S2x2048x3144 : Shape := ⟨3, ![2, 2048, 3144]⟩
abbrev S1x2048x3144 : Shape := ⟨3, ![1, 2048, 3144]⟩
abbrev S2048x3144 : Shape := ⟨2, ![2048, 3144]⟩
abbrev S4x2048x3144 : Shape := ⟨3, ![4, 2048, 3144]⟩
abbrev S128x1x3144 : Shape := ⟨3, ![128, 1, 3144]⟩
abbrev S4x2048x256 : Shape := ⟨3, ![4, 2048, 256]⟩
abbrev S128x1x256 : Shape := ⟨3, ![128, 1, 256]⟩
abbrev S4x2048x64 : Shape := ⟨3, ![4, 2048, 64]⟩
abbrev S128x1x64 : Shape := ⟨3, ![128, 1, 64]⟩
abbrev S4x2048x1024 : Shape := ⟨3, ![4, 2048, 1024]⟩
abbrev S128x1x1024 : Shape := ⟨3, ![128, 1, 1024]⟩
abbrev S4x2048x512 : Shape := ⟨3, ![4, 2048, 512]⟩
abbrev S128x1x512 : Shape := ⟨3, ![128, 1, 512]⟩
abbrev S4x2048x8 : Shape := ⟨3, ![4, 2048, 8]⟩
abbrev S128x1x8 : Shape := ⟨3, ![128, 1, 8]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x1x2048, .f32⟩
  | .hbm, ⟨2, _⟩ => ⟨S2x2048x3144, .f32⟩
  | .hbm, ⟨3, _⟩ => ⟨S1x2048x3144, .f32⟩
  | .hbm, ⟨4, _⟩ => ⟨S2048x3144, .f32⟩
  | .hbm, ⟨5, _⟩ => ⟨S4x2048x3144, .f32⟩
  | .hbm, ⟨6, _⟩ => ⟨S1x2048x3144, .f32⟩
  | .hbm, ⟨7, _⟩ => ⟨S2048x3144, .f32⟩
  | .hbm, ⟨8, _⟩ => ⟨S128x1x3144, .f32⟩
  | .hbm, ⟨9, _⟩ => ⟨S4x2048x256, .f32⟩
  | .hbm, ⟨10, _⟩ => ⟨S128x1x256, .f32⟩
  | .hbm, ⟨11, _⟩ => ⟨S4x2048x256, .f32⟩
  | .hbm, ⟨12, _⟩ => ⟨S128x1x256, .f32⟩
  | .hbm, ⟨13, _⟩ => ⟨S4x2048x64, .f32⟩
  | .hbm, ⟨14, _⟩ => ⟨S128x1x64, .f32⟩
  | .hbm, ⟨15, _⟩ => ⟨S4x2048x1024, .f32⟩
  | .hbm, ⟨16, _⟩ => ⟨S128x1x1024, .f32⟩
  | .hbm, ⟨17, _⟩ => ⟨S4x2048x1024, .f32⟩
  | .hbm, ⟨18, _⟩ => ⟨S128x1x1024, .f32⟩
  | .hbm, ⟨19, _⟩ => ⟨S4x2048x512, .f32⟩
  | .hbm, ⟨20, _⟩ => ⟨S128x1x512, .f32⟩
  | .hbm, ⟨21, _⟩ => ⟨S4x2048x8, .f32⟩
  | .hbm, ⟨22, _⟩ => ⟨S128x1x8, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel4.lean ====
abbrev S4x2048x2048 : Shape := ⟨3, ![4, 2048, 2048]⟩
abbrev S128x1x2048 : Shape := ⟨3, ![128, 1, 2048]⟩
abbrev S4x4x2048x256 : Shape := ⟨4, ![4, 4, 2048, 256]⟩
abbrev S4x128x1x256 : Shape := ⟨4, ![4, 128, 1, 256]⟩
abbrev S4x256x2048 : Shape := ⟨3, ![4, 256, 2048]⟩
abbrev S8192x2048 : Shape := ⟨2, ![8192, 2048]⟩
abbrev S128x2048 : Shape := ⟨2, ![128, 2048]⟩
abbrev S8320x2048 : Shape := ⟨2, ![8320, 2048]⟩
abbrev S4x8192x256 : Shape := ⟨3, ![4, 8192, 256]⟩
abbrev S4x128x256 : Shape := ⟨3, ![4, 128, 256]⟩
abbrev S4x8320x256 : Shape := ⟨3, ![4, 8320, 256]⟩
abbrev S1x2048x2048 : Shape := ⟨3, ![1, 2048, 2048]⟩
abbrev S2048x2048 : Shape := ⟨2, ![2048, 2048]⟩
abbrev S1x8320x256 : Shape := ⟨3, ![1, 8320, 256]⟩
abbrev S8320x256 : Shape := ⟨2, ![8320, 256]⟩
abbrev S1x256x2048 : Shape := ⟨3, ![1, 256, 2048]⟩
abbrev S256x2048 : Shape := ⟨2, ![256, 2048]⟩
abbrev S640x2048 : Shape := ⟨2, ![640, 2048]⟩
abbrev S640x512 : Shape := ⟨2, ![640, 512]⟩
abbrev S2048x512 : Shape := ⟨2, ![2048, 512]⟩
abbrev S640x256 : Shape := ⟨2, ![640, 256]⟩
abbrev S256x512 : Shape := ⟨2, ![256, 512]⟩

abbrev nBuf : Space → Nat
  | .hbm => 28
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S128x1x2048, .f32⟩
  | .hbm, ⟨2, _⟩ => ⟨S4x4x2048x256, .f32⟩
  | .hbm, ⟨3, _⟩ => ⟨S4x128x1x256, .f32⟩
  | .hbm, ⟨4, _⟩ => ⟨S4x2048x2048, .f32⟩
  | .hbm, ⟨5, _⟩ => ⟨S4x256x2048, .f32⟩
  | .hbm, ⟨6, _⟩ => ⟨S8192x2048, .f32⟩
  | .hbm, ⟨7, _⟩ => ⟨S128x2048, .f32⟩
  | .hbm, ⟨8, _⟩ => ⟨S8320x2048, .f32⟩
  | .hbm, ⟨9, _⟩ => ⟨S4x8192x256, .f32⟩
  | .hbm, ⟨10, _⟩ => ⟨S4x128x256, .f32⟩
  | .hbm, ⟨11, _⟩ => ⟨S4x8320x256, .f32⟩
  | .hbm, ⟨12, _⟩ => ⟨S4x8320x256, .bf16⟩
  | .hbm, ⟨13, _⟩ => ⟨S8320x2048, .bf16⟩
  | .hbm, ⟨14, _⟩ => ⟨S1x2048x2048, .f32⟩
  | .hbm, ⟨15, _⟩ => ⟨S2048x2048, .f32⟩
  | .hbm, ⟨16, _⟩ => ⟨S2048x2048, .bf16⟩
  | .hbm, ⟨17, _⟩ => ⟨S1x8320x256, .bf16⟩
  | .hbm, ⟨18, _⟩ => ⟨S8320x256, .bf16⟩
  | .hbm, ⟨19, _⟩ => ⟨S1x256x2048, .f32⟩
  | .hbm, ⟨20, _⟩ => ⟨S256x2048, .f32⟩
  | .hbm, ⟨21, _⟩ => ⟨S256x2048, .bf16⟩
  | .hbm, ⟨22, _⟩ => ⟨S8320x2048, .f32⟩
  | .hbm, ⟨23, _⟩ => ⟨S8320x2048, .bf16⟩
  | .hbm, ⟨24, _⟩ => ⟨S8192x2048, .f32⟩
  | .hbm, ⟨25, _⟩ => ⟨S4x2048x2048, .f32⟩
  | .hbm, ⟨26, _⟩ => ⟨S128x2048, .f32⟩
  | .hbm, ⟨27, _⟩ => ⟨S128x1x2048, .f32⟩
  | .local _ .vmem, ⟨0, _⟩ => ⟨S640x2048, .bf16⟩
  | .local _ .vmem, ⟨1, _⟩ => ⟨S640x2048, .bf16⟩
  | .local _ .vmem, ⟨2, _⟩ => ⟨S640x512, .f32⟩
  | .local _ .vmem, ⟨3, _⟩ => ⟨S640x512, .f32⟩
  | .local _ .vmem, ⟨4, _⟩ => ⟨S2048x512, .bf16⟩
  | .local _ .vmem, ⟨5, _⟩ => ⟨S2048x512, .bf16⟩
  | .local _ .vmem, ⟨6, _⟩ => ⟨S640x256, .bf16⟩
  | .local _ .vmem, ⟨7, _⟩ => ⟨S640x256, .bf16⟩
  | .local _ .vmem, ⟨8, _⟩ => ⟨S256x512, .bf16⟩
  | .local _ .vmem, ⟨9, _⟩ => ⟨S256x512, .bf16⟩
  | .local _ .vmem, ⟨10, _⟩ => ⟨S640x512, .f32⟩
  | .local _ .vmem, ⟨11, _⟩ => ⟨S640x512, .f32⟩
  | .local _ .vmem, ⟨12, _⟩ => ⟨S640x512, .bf16⟩
  | .local _ .vmem, ⟨13, _⟩ => ⟨S640x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S640x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x2048x2048 : Shape := ⟨3, ![4, 2048, 2048]⟩
abbrev S128x1x2048 : Shape := ⟨3, ![128, 1, 2048]⟩
abbrev S4x4x2048x256 : Shape := ⟨4, ![4, 4, 2048, 256]⟩
abbrev S4x128x1x256 : Shape := ⟨4, ![4, 128, 1, 256]⟩
abbrev S4x256x2048 : Shape := ⟨3, ![4, 256, 2048]⟩
abbrev S1x2048x2048 : Shape := ⟨3, ![1, 2048, 2048]⟩
abbrev S2048x2048 : Shape := ⟨2, ![2048, 2048]⟩
abbrev S_ : Shape := ⟨0, ![]⟩
abbrev S1x4x2048x256 : Shape := ⟨4, ![1, 4, 2048, 256]⟩
abbrev S4x2048x256 : Shape := ⟨3, ![4, 2048, 256]⟩
abbrev S1x256x2048 : Shape := ⟨3, ![1, 256, 2048]⟩
abbrev S256x2048 : Shape := ⟨2, ![256, 2048]⟩
abbrev S1x128x1x256 : Shape := ⟨4, ![1, 128, 1, 256]⟩
abbrev S128x1x256 : Shape := ⟨3, ![128, 1, 256]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x1x2048, .f32⟩
  | .hbm, ⟨2, _⟩ => ⟨S4x4x2048x256, .f32⟩
  | .hbm, ⟨3, _⟩ => ⟨S4x128x1x256, .f32⟩
  | .hbm, ⟨4, _⟩ => ⟨S4x2048x2048, .f32⟩
  | .hbm, ⟨5, _⟩ => ⟨S4x256x2048, .f32⟩
  | .hbm, ⟨6, _⟩ => ⟨S1x2048x2048, .f32⟩
  | .hbm, ⟨7, _⟩ => ⟨S2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S1x2048x2048, .f32⟩
  | .hbm, ⟨18, _⟩ => ⟨S2048x2048, .f32⟩
  | .hbm, ⟨19, _⟩ => ⟨S128x1x2048, .f32⟩
  | .hbm, ⟨20, _⟩ => ⟨S128x1x2048, .f32⟩
  | .hbm, ⟨21, _⟩ => ⟨S128x1x2048, .f32⟩
  | .hbm, ⟨22, _⟩ => ⟨S_, .f32⟩
  | .hbm, ⟨23, _⟩ => ⟨S128x1x2048, .f32⟩
  | .hbm, ⟨24, _⟩ => ⟨S128x1x2048, .f32⟩
  | .hbm, ⟨25, _⟩ => ⟨S_, .f32⟩
  | .hbm, ⟨26, _⟩ => ⟨S128x1x2048, .f32⟩
  | .hbm, ⟨27, _⟩ => ⟨S128x1x2048, .f32⟩
  | .hbm, ⟨28, _⟩ => ⟨S1x4x2048x256, .f32⟩
  | .hbm, ⟨29, _⟩ => ⟨S4x2048x256, .f32⟩
  | .hbm, ⟨30, _⟩ => ⟨S1x256x2048, .f32⟩
  | .hbm, ⟨31, _⟩ => ⟨S256x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S1x128x1x256, .f32⟩
  | .hbm, ⟨36, _⟩ => ⟨S128x1x256, .f32⟩
  | .hbm, ⟨37, _⟩ => ⟨S1x256x2048, .f32⟩
  | .hbm, ⟨38, _⟩ => ⟨S256x2048, .f32⟩
  | .hbm, ⟨39, _⟩ => ⟨S128x1x2048, .f32⟩
  | .hbm, ⟨40, _⟩ => ⟨S128x1x2048, .f32⟩
  | .hbm, ⟨41, _⟩ => ⟨S128x1x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel5.lean ====
abbrev S8320x2048 : Shape := ⟨2, ![8320, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S8320x5632 : Shape := ⟨2, ![8320, 5632]⟩
abbrev S640x2048 : Shape := ⟨2, ![640, 2048]⟩
abbrev S1x2048x512 : Shape := ⟨3, ![1, 2048, 512]⟩
abbrev S640x512 : Shape := ⟨2, ![640, 512]⟩
abbrev S2048x512 : Shape := ⟨2, ![2048, 512]⟩

abbrev nBuf : Space → Nat
  | .hbm => 8
  | .vmem => 8
  | .smem => 0
  | _ => 0

abbrev bufTy : (tb : Table) → Fin (tcTables nBuf tb) → BufTy
  | .hbm, ⟨0, _⟩ => ⟨S8320x2048, .f32⟩
  | .hbm, ⟨1, _⟩ => ⟨S2x2048x11264, .f32⟩
  | .hbm, ⟨2, _⟩ => ⟨S8320x2048, .bf16⟩
  | .hbm, ⟨3, _⟩ => ⟨S1x2048x11264, .f32⟩
  | .hbm, ⟨4, _⟩ => ⟨S2048x11264, .f32⟩
  | .hbm, ⟨5, _⟩ => ⟨S1x2048x11264, .f32⟩
  | .hbm, ⟨6, _⟩ => ⟨S1x2048x11264, .bf16⟩
  | .hbm, ⟨7, _⟩ => ⟨S8320x5632, .bf16⟩
  | .local _ .vmem, ⟨0, _⟩ => ⟨S640x2048, .bf16⟩
  | .local _ .vmem, ⟨1, _⟩ => ⟨S640x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S640x512, .bf16⟩
  | .local _ .vmem, ⟨7, _⟩ => ⟨S640x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c11_i32_10 : BitVec 32 := 11#32
  let v27 : BitVec 32 := Scalar.addi v26 c11_i32_10
  let c0_i32_11 : BitVec 32 := 0#32
  let c0_i32_12 : BitVec 32 := 0#32
  ![v16.toNat, c0_i32_11.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8320x2048 : Shape := ⟨2, ![8320, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S8320x11264 : Shape := ⟨2, ![8320, 11264]⟩
abbrev S8320x5632 : Shape := ⟨2, ![8320, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2x2048x11264, .f32⟩
  | .hbm, ⟨2, _⟩ => ⟨S1x2048x11264, .f32⟩
  | .hbm, ⟨3, _⟩ => ⟨S2048x11264, .f32⟩
  | .hbm, ⟨4, _⟩ => ⟨S8320x11264, .f32⟩
  | .hbm, ⟨5, _⟩ => ⟨S8320x5632, .f32⟩
  | .hbm, ⟨6, _⟩ => ⟨S8320x5632, .f32⟩
  | .hbm, ⟨7, _⟩ => ⟨S8320x5632, .f32⟩
  | .hbm, ⟨8, _⟩ => ⟨S8320x5632, .f32⟩
  | .hbm, ⟨9, _⟩ => ⟨S_, .f32⟩
  | .hbm, ⟨10, _⟩ => ⟨S8320x5632, .f32⟩
  | .hbm, ⟨11, _⟩ => ⟨S8320x5632, .f32⟩
  | .hbm, ⟨12, _⟩ => ⟨S_, .f32⟩
  | .hbm, ⟨13, _⟩ => ⟨S8320x5632, .f32⟩
  | .hbm, ⟨14, _⟩ => ⟨S8320x5632, .f32⟩
  | .hbm, ⟨15, _⟩ => ⟨S8320x5632, .f32⟩
  | .hbm, ⟨16, _⟩ => ⟨S8320x5632, .f32⟩
  | .hbm, ⟨17, _⟩ => ⟨S8320x5632, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel6.lean ====
abbrev S8320x5632 : Shape := ⟨2, ![8320, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S8320x2048 : Shape := ⟨2, ![8320, 2048]⟩
abbrev S640x5632 : Shape := ⟨2, ![640, 5632]⟩
abbrev S5632x512 : Shape := ⟨2, ![5632, 512]⟩
abbrev S640x512 : Shape := ⟨2, ![640, 512]⟩

abbrev nBuf : Space → Nat
  | .hbm => 6
  | .vmem => 6
  | .smem => 0
  | _ => 0

abbrev bufTy : (tb : Table) → Fin (tcTables nBuf tb) → BufTy
  | .hbm, ⟨0, _⟩ => ⟨S8320x5632, .bf16⟩
  | .hbm, ⟨1, _⟩ => ⟨S2x5632x2048, .f32⟩
  | .hbm, ⟨2, _⟩ => ⟨S1x5632x2048, .f32⟩
  | .hbm, ⟨3, _⟩ => ⟨S5632x2048, .f32⟩
  | .hbm, ⟨4, _⟩ => ⟨S5632x2048, .bf16⟩
  | .hbm, ⟨5, _⟩ => ⟨S8320x2048, .f32⟩
  | .local _ .vmem, ⟨0, _⟩ => ⟨S640x5632, .bf16⟩
  | .local _ .vmem, ⟨1, _⟩ => ⟨S640x5632, .bf16⟩
  | .local _ .vmem, ⟨2, _⟩ => ⟨S5632x512, .bf16⟩
  | .local _ .vmem, ⟨3, _⟩ => ⟨S5632x512, .bf16⟩
  | .local _ .vmem, ⟨4, _⟩ => ⟨S640x512, .f32⟩
  | .local _ .vmem, ⟨5, _⟩ => ⟨S640x512, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8320x5632 : Shape := ⟨2, ![8320, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S8320x2048 : Shape := ⟨2, ![8320, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S2x5632x2048, .f32⟩
  | .hbm, ⟨2, _⟩ => ⟨S8320x5632, .f32⟩
  | .hbm, ⟨3, _⟩ => ⟨S1x5632x2048, .f32⟩
  | .hbm, ⟨4, _⟩ => ⟨S5632x2048, .f32⟩
  | .hbm, ⟨5, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4x2048x2048 : Shape := ⟨3, ![4, 2048, 2048]⟩
abbrev S128x1x2048 : Shape := ⟨3, ![128, 1, 2048]⟩
abbrev S2x2048x1472 : Shape := ⟨3, ![2, 2048, 1472]⟩
abbrev S2x512 : Shape := ⟨2, ![2, 512]⟩
abbrev S2x256 : Shape := ⟨2, ![2, 256]⟩
abbrev S8192x2048 : Shape := ⟨2, ![8192, 2048]⟩
abbrev S128x2048 : Shape := ⟨2, ![128, 2048]⟩
abbrev S8320x2048 : Shape := ⟨2, ![8320, 2048]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S_ : Shape := ⟨0, ![]⟩
abbrev S128 : Shape := ⟨1, ![128]⟩
abbrev S8320 : Shape := ⟨1, ![8320]⟩
abbrev S32 : Shape := ⟨1, ![32]⟩
abbrev S8320x1 : Shape := ⟨2, ![8320, 1]⟩
abbrev S1x32 : Shape := ⟨2, ![1, 32]⟩
abbrev S8320x32 : Shape := ⟨2, ![8320, 32]⟩
abbrev S8320x64 : Shape := ⟨2, ![8320, 64]⟩
abbrev S8320x128 : Shape := ⟨2, ![8320, 128]⟩
abbrev S1x2048x1472 : Shape := ⟨3, ![1, 2048, 1472]⟩
abbrev S2048x1472 : Shape := ⟨2, ![2048, 1472]⟩
abbrev S2048x512 : Shape := ⟨2, ![2048, 512]⟩
abbrev S2048x8x64 : Shape := ⟨3, ![2048, 8, 64]⟩
abbrev S2048x8x128 : Shape := ⟨3, ![2048, 8, 128]⟩
abbrev S2048x1024 : Shape := ⟨2, ![2048, 1024]⟩
abbrev S2048x64 : Shape := ⟨2, ![2048, 64]⟩
abbrev S2048x128 : Shape := ⟨2, ![2048, 128]⟩
abbrev S2048x256 : Shape := ⟨2, ![2048, 256]⟩
abbrev S2048x2048 : Shape := ⟨2, ![2048, 2048]⟩
abbrev S640x2048 : Shape := ⟨2, ![640, 2048]⟩
abbrev S640x512 : Shape := ⟨2, ![640, 512]⟩
abbrev S1x512 : Shape := ⟨2, ![1, 512]⟩
abbrev S512 : Shape := ⟨1, ![512]⟩
abbrev S1x256 : Shape := ⟨2, ![1, 256]⟩
abbrev S256 : Shape := ⟨1, ![256]⟩
abbrev S8320x512 : Shape := ⟨2, ![8320, 512]⟩
abbrev S8320x384 : Shape := ⟨2, ![8320, 384]⟩
abbrev S640x1024 : Shape := ⟨2, ![640, 1024]⟩
abbrev S640x128 : Shape := ⟨2, ![640, 128]⟩
abbrev S640x384 : Shape := ⟨2, ![640, 384]⟩
abbrev S640 : Shape := ⟨1, ![640]⟩
abbrev S640x1 : Shape := ⟨2, ![640, 1]⟩
abbrev S640x256 : Shape := ⟨2, ![640, 256]⟩
abbrev S8320x320 : Shape := ⟨2, ![8320, 320]⟩
abbrev S8192x128 : Shape := ⟨2, ![8192, 128]⟩
abbrev S4x2048x128 : Shape := ⟨3, ![4, 2048, 128]⟩
abbrev S128x128 : Shape := ⟨2, ![128, 128]⟩
abbrev S128x1x128 : Shape := ⟨3, ![128, 1, 128]⟩
abbrev S8192x320 : Shape := ⟨2, ![8192, 320]⟩
abbrev S4x2048x320 : Shape := ⟨3, ![4, 2048, 320]⟩
abbrev S128x320 : Shape := ⟨2, ![128, 320]⟩
abbrev S128x1x320 : Shape := ⟨3, ![128, 1, 320]⟩
abbrev S8192x512 : Shape := ⟨2, ![8192, 512]⟩
abbrev S4x2048x512 : Shape := ⟨3, ![4, 2048, 512]⟩
abbrev S128x512 : Shape := ⟨2, ![128, 512]⟩
abbrev S128x1x512 : Shape := ⟨3, ![128, 1, 512]⟩

abbrev nBuf : Space → Nat
  | .hbm => 78
  | .vmem => 18
  | .smem => 0
  | _ => 0

abbrev bufTy : (tb : Table) → Fin (tcTables nBuf tb) → BufTy
  | .hbm, ⟨0, _⟩ => ⟨S4x2048x2048, .f32⟩
  | .hbm, ⟨1, _⟩ => ⟨S128x1x2048, .f32⟩
  | .hbm, ⟨2, _⟩ => ⟨S2x2048x1472, .f32⟩
  | .hbm, ⟨3, _⟩ => ⟨S2x512, .f32⟩
  | .hbm, ⟨4, _⟩ => ⟨S2x256, .f32⟩
  | .hbm, ⟨5, _⟩ => ⟨S8192x2048, .f32⟩
  | .hbm, ⟨6, _⟩ => ⟨S128x2048, .f32⟩
  | .hbm, ⟨7, _⟩ => ⟨S8320x2048, .f32⟩
  | .hbm, ⟨8, _⟩ => ⟨S2048, .i32⟩
  | .hbm, ⟨9, _⟩ => ⟨S1x2048, .i32⟩
  | .hbm, ⟨10, _⟩ => ⟨S4x2048, .i32⟩
  | .hbm, ⟨11, _⟩ => ⟨S8192, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S8320, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S8320, .f32⟩
  | .hbm, ⟨25, _⟩ => ⟨S8320x1, .f32⟩
  | .hbm, ⟨26, _⟩ => ⟨S1x32, .f32⟩
  | .hbm, ⟨27, _⟩ => ⟨S8320x32, .f32⟩
  | .hbm, ⟨28, _⟩ => ⟨S8320x32, .f32⟩
  | .hbm, ⟨29, _⟩ => ⟨S8320x32, .f32⟩
  | .hbm, ⟨30, _⟩ => ⟨S8320x32, .f32⟩
  | .hbm, ⟨31, _⟩ => ⟨S8320x32, .f32⟩
  | .hbm, ⟨32, _⟩ => ⟨S_, .f32⟩
  | .hbm, ⟨33, _⟩ => ⟨S8320x64, .f32⟩
  | .hbm, ⟨34, _⟩ => ⟨S8320x128, .f32⟩
  | .hbm, ⟨35, _⟩ => ⟨S8320x32, .f32⟩
  | .hbm, ⟨36, _⟩ => ⟨S8320x128, .f32⟩
  | .hbm, ⟨37, _⟩ => ⟨S8320x2048, .bf16⟩
  | .hbm, ⟨38, _⟩ => ⟨S1x2048x1472, .f32⟩
  | .hbm, ⟨39, _⟩ => ⟨S2048x1472, .f32⟩
  | .hbm, ⟨40, _⟩ => ⟨S2048x512, .f32⟩
  | .hbm, ⟨41, _⟩ => ⟨S2048x8x64, .f32⟩
  | .hbm, ⟨42, _⟩ => ⟨S_, .i32⟩
  | .hbm, ⟨43, _⟩ => ⟨S_, .f32⟩
  | .hbm, ⟨44, _⟩ => ⟨S2048x8x128, .f32⟩
  | .hbm, ⟨45, _⟩ => ⟨S2048x1024, .f32⟩
  | .hbm, ⟨46, _⟩ => ⟨S2048x64, .f32⟩
  | .hbm, ⟨47, _⟩ => ⟨S_, .i32⟩
  | .hbm, ⟨48, _⟩ => ⟨S_, .f32⟩
  | .hbm, ⟨49, _⟩ => ⟨S2048x128, .f32⟩
  | .hbm, ⟨50, _⟩ => ⟨S2048x512, .f32⟩
  | .hbm, ⟨51, _⟩ => ⟨S2048x256, .f32⟩
  | .hbm, ⟨52, _⟩ => ⟨S2048x128, .f32⟩
  | .hbm, ⟨53, _⟩ => ⟨S2048x2048, .f32⟩
  | .hbm, ⟨54, _⟩ => ⟨S2048x2048, .bf16⟩
  | .hbm, ⟨55, _⟩ => ⟨S8320x2048, .f32⟩
  | .hbm, ⟨56, _⟩ => ⟨S1x512, .f32⟩
  | .hbm, ⟨57, _⟩ => ⟨S512, .f32⟩
  | .hbm, ⟨58, _⟩ => ⟨S1x256, .f32⟩
  | .hbm, ⟨59, _⟩ => ⟨S256, .f32⟩
  | .hbm, ⟨60, _⟩ => ⟨S1x512, .f32⟩
  | .hbm, ⟨61, _⟩ => ⟨S1x256, .f32⟩
  | .hbm, ⟨62, _⟩ => ⟨S8320x512, .bf16⟩
  | .hbm, ⟨63, _⟩ => ⟨S8320x384, .f32⟩
  | .hbm, ⟨64, _⟩ => ⟨S8320x128, .f32⟩
  | .hbm, ⟨65, _⟩ => ⟨S8320x320, .f32⟩
  | .hbm, ⟨66, _⟩ => ⟨S8192x128, .f32⟩
  | .hbm, ⟨67, _⟩ => ⟨S4x2048x128, .f32⟩
  | .hbm, ⟨68, _⟩ => ⟨S128x128, .f32⟩
  | .hbm, ⟨69, _⟩ => ⟨S128x1x128, .f32⟩
  | .hbm, ⟨70, _⟩ => ⟨S8192x320, .f32⟩
  | .hbm, ⟨71, _⟩ => ⟨S4x2048x320, .f32⟩
  | .hbm, ⟨72, _⟩ => ⟨S128x320, .f32⟩
  | .hbm, ⟨73, _⟩ => ⟨S128x1x320, .f32⟩
  | .hbm, ⟨74, _⟩ => ⟨S8192x512, .bf16⟩
  | .hbm, ⟨75, _⟩ => ⟨S4x2048x512, .bf16⟩
  | .hbm, ⟨76, _⟩ => ⟨S128x512, .bf16⟩
  | .hbm, ⟨77, _⟩ => ⟨S128x1x512, .bf16⟩
  | .local _ .vmem, ⟨0, _⟩ => ⟨S640x2048, .bf16⟩
  | .local _ .vmem, ⟨1, _⟩ => ⟨S640x2048, .bf16⟩
  | .local _ .vmem, ⟨2, _⟩ => ⟨S2048x512, .bf16⟩
  | .local _ .vmem, ⟨3, _⟩ => ⟨S2048x512, .bf16⟩
  | .local _ .vmem, ⟨4, _⟩ => ⟨S640x512, .f32⟩
  | .local _ .vmem, ⟨5, _⟩ => ⟨S640x512, .f32⟩
  | .local _ .vmem, ⟨6, _⟩ => ⟨S640x1024, .f32⟩
  | .local _ .vmem, ⟨7, _⟩ => ⟨S640x1024, .f32⟩
  | .local _ .vmem, ⟨8, _⟩ => ⟨S1x512, .f32⟩
  | .local _ .vmem, ⟨9, _⟩ => ⟨S1x256, .f32⟩
  | .local _ .vmem, ⟨10, _⟩ => ⟨S640x128, .f32⟩
  | .local _ .vmem, ⟨11, _⟩ => ⟨S640x128, .f32⟩
  | .local _ .vmem, ⟨12, _⟩ => ⟨S640x128, .f32⟩
  | .local _ .vmem, ⟨13, _⟩ => ⟨S640x128, .f32⟩
  | .local _ .vmem, ⟨14, _⟩ => ⟨S640x512, .bf16⟩
  | .local _ .vmem, ⟨15, _⟩ => ⟨S640x512, .bf16⟩
  | .local _ .vmem, ⟨16, _⟩ => ⟨S640x384, .f32⟩
  | .local _ .vmem, ⟨17, _⟩ => ⟨S640x384, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_3 : Ref sig .tc := ⟨.hbm, 47, rfl⟩
abbrev main_call1_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49_0 : Ref sig .tc := ⟨.hbm, 62, rfl⟩
abbrev main_v49_1 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![13], ![false]⟩

def cc1_transform_0 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S640x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S640x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S640x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S640x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference7Ideal.lean ====
abbrev S4x2048x2048 : Shape := ⟨3, ![4, 2048, 2048]⟩
abbrev S128x1x2048 : Shape := ⟨3, ![128, 1, 2048]⟩
abbrev S2x2048x1472 : Shape := ⟨3, ![2, 2048, 1472]⟩
abbrev S2x512 : Shape := ⟨2, ![2, 512]⟩
abbrev S2x256 : Shape := ⟨2, ![2, 256]⟩
abbrev S1x2048x1472 : Shape := ⟨3, ![1, 2048, 1472]⟩
abbrev S2048x1472 : Shape := ⟨2, ![2048, 1472]⟩
abbrev S4x2048x1472 : Shape := ⟨3, ![4, 2048, 1472]⟩
abbrev S128x1x1472 : Shape := ⟨3, ![128, 1, 1472]⟩
abbrev S2048 : Shape := ⟨1, ![2048]⟩
abbrev S1x2048 : Shape := ⟨2, ![1, 2048]⟩
abbrev S1 : Shape := ⟨1, ![1]⟩
abbrev S1x1 : Shape := ⟨2, ![1, 1]⟩
abbrev S_ : Shape := ⟨0, ![]⟩
abbrev S1x256 : Shape := ⟨2, ![1, 256]⟩
abbrev S256 : Shape := ⟨1, ![256]⟩
abbrev S1x512 : Shape := ⟨2, ![1, 512]⟩
abbrev S512 : Shape := ⟨1, ![512]⟩
abbrev S4x2048x128 : Shape := ⟨3, ![4, 2048, 128]⟩
abbrev S128x1x128 : Shape := ⟨3, ![128, 1, 128]⟩
abbrev S4x2048x256 : Shape := ⟨3, ![4, 2048, 256]⟩
abbrev S4x2048 : Shape := ⟨2, ![4, 2048]⟩
abbrev S4x2048x1 : Shape := ⟨3, ![4, 2048, 1]⟩
abbrev S1x1x256 : Shape := ⟨3, ![1, 1, 256]⟩
abbrev S4x2048x64 : Shape := ⟨3, ![4, 2048, 64]⟩
abbrev S32 : Shape := ⟨1, ![32]⟩
abbrev S1x2048x1 : Shape := ⟨3, ![1, 2048, 1]⟩
abbrev S1x1x32 : Shape := ⟨3, ![1, 1, 32]⟩
abbrev S1x2048x32 : Shape := ⟨3, ![1, 2048, 32]⟩
abbrev S4x2048x32 : Shape := ⟨3, ![4, 2048, 32]⟩
abbrev S4x2048x320 : Shape := ⟨3, ![4, 2048, 320]⟩
abbrev S128x1x256 : Shape := ⟨3, ![128, 1, 256]⟩
abbrev S128x1 : Shape := ⟨2, ![128, 1]⟩
abbrev S128x1x1 : Shape := ⟨3, ![128, 1, 1]⟩
abbrev S128x1x64 : Shape := ⟨3, ![128, 1, 64]⟩
abbrev S1x1x1 : Shape := ⟨3, ![1, 1, 1]⟩
abbrev S128x1x32 : Shape := ⟨3, ![128, 1, 32]⟩
abbrev S128x1x320 : Shape := ⟨3, ![128, 1, 320]⟩
abbrev S4x2048x512 : Shape := ⟨3, ![4, 2048, 512]⟩
abbrev S1x1x512 : Shape := ⟨3, ![1, 1, 512]⟩
abbrev S128x1x512 : Shape := ⟨3, ![128, 1, 512]⟩

abbrev nBuf : Space → Nat
  | .hbm => 155
  | .vmem => 0
  | .smem => 0
  | _ => 0

abbrev hbmTy0_0 (i : Nat) : BufTy := match i % 128 with
  | 0 => ⟨S4x2048x2048, .f32⟩
  | 1 => ⟨S128x1x2048, .f32⟩
  | 2 => ⟨S2x2048x1472, .f32⟩
  | 3 => ⟨S2x512, .f32⟩
  | 4 => ⟨S2x256, .f32⟩
  | 5 => ⟨S1x2048x1472, .f32⟩
  | 6 => ⟨S2048x1472, .f32⟩
  | 7 => ⟨S4x2048x1472, .f32⟩
  | 8 => ⟨S1x2048x1472, .f32⟩
  | 9 => ⟨S2048x1472, .f32⟩
  | 10 => ⟨S128x1x1472, .f32⟩
  | 11 => ⟨S2048, .i32⟩
  | 12 => ⟨S1x2048, .i32⟩
  | 13 => ⟨S1, .i32⟩
  | 14 => ⟨S1x1, .i32⟩
  | 15 => ⟨S_, .i32⟩
  | 16 => ⟨S1x1, .i32⟩
  | 17 => ⟨S1x1, .i32⟩
  | 18 => ⟨S1x256, .f32⟩
  | 19 => ⟨S256, .f32⟩
  | 20 => ⟨S1x512, .f32⟩
  | 21 => ⟨S512, .f32⟩
  | 22 => ⟨S4x2048x128, .f32⟩
  | 23 => ⟨S128x1x128, .f32⟩
  | 24 => ⟨S4x2048x256, .f32⟩
  | 25 => ⟨S4x2048x256, .f32⟩
  | 26 => ⟨S_, .f32⟩
  | 27 => ⟨S4x2048, .f32⟩
  | 28 => ⟨S4x2048x1, .f32⟩
  | 29 => ⟨S_, .f32⟩
  | 30 => ⟨S4x2048x1, .f32⟩
  | 31 => ⟨S4x2048x1, .f32⟩
  | 32 => ⟨S_, .f32⟩
  | 33 => ⟨S4x2048x1, .f32⟩
  | 34 => ⟨S4x2048x1, .f32⟩
  | 35 => ⟨S4x2048x1, .f32⟩
  | 36 => ⟨S4x2048x256, .f32⟩
  | 37 => ⟨S4x2048x256, .f32⟩
  | 38 => ⟨S1x1x256, .f32⟩
  | 39 => ⟨S4x2048x256, .f32⟩
  | 40 => ⟨S4x2048x256, .f32⟩
  | 41 => ⟨S4x2048x64, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S1x2048, .f32⟩
  | 51 => ⟨S1x2048x1, .f32⟩
  | 52 => ⟨S1x1x32, .f32⟩
  | 53 => ⟨S1x2048x32, .f32⟩
  | 54 => ⟨S1x2048x32, .f32⟩
  | 55 => ⟨S1x2048x32, .f32⟩
  | 56 => ⟨S1x2048x32, .f32⟩
  | 57 => ⟨S1x2048x32, .f32⟩
  | 58 => ⟨S4x2048x32, .f32⟩
  | 59 => ⟨S4x2048x32, .f32⟩
  | 60 => ⟨S4x2048x32, .f32⟩
  | 61 => ⟨S4x2048x32, .f32⟩
  | 62 => ⟨S4x2048x32, .f32⟩
  | 63 => ⟨S4x2048x32, .f32⟩
  | 64 => ⟨S4x2048x32, .f32⟩
  | 65 => ⟨S4x2048x32, .f32⟩
  | 66 => ⟨S4x2048x32, .f32⟩
  | 67 => ⟨S4x2048x32, .f32⟩
  | 68 => ⟨S4x2048x32, .f32⟩
  | 69 => ⟨S4x2048x32, .f32⟩
  | 70 => ⟨S4x2048x64, .f32⟩
  | 71 => ⟨S4x2048x320, .f32⟩
  | 72 => ⟨S128x1x256, .f32⟩
  | 73 => ⟨S128x1x256, .f32⟩
  | 74 => ⟨S_, .f32⟩
  | 75 => ⟨S128x1, .f32⟩
  | 76 => ⟨S128x1x1, .f32⟩
  | 77 => ⟨S_, .f32⟩
  | 78 => ⟨S128x1x1, .f32⟩
  | 79 => ⟨S128x1x1, .f32⟩
  | 80 => ⟨S_, .f32⟩
  | 81 => ⟨S128x1x1, .f32⟩
  | 82 => ⟨S128x1x1, .f32⟩
  | 83 => ⟨S128x1x1, .f32⟩
  | 84 => ⟨S128x1x256, .f32⟩
  | 85 => ⟨S128x1x256, .f32⟩
  | 86 => ⟨S1x1x256, .f32⟩
  | 87 => ⟨S128x1x256, .f32⟩
  | 88 => ⟨S128x1x256, .f32⟩
  | 89 => ⟨S128x1x64, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S1x1, .f32⟩
  | 99 => ⟨S1x1x1, .f32⟩
  | 100 => ⟨S1x1x32, .f32⟩
  | 101 => ⟨S1x1x32, .f32⟩
  | 102 => ⟨S1x1x32, .f32⟩
  | 103 => ⟨S1x1x32, .f32⟩
  | 104 => ⟨S1x1x32, .f32⟩
  | 105 => ⟨S128x1x32, .f32⟩
  | 106 => ⟨S128x1x32, .f32⟩
  | 107 => ⟨S128x1x32, .f32⟩
  | 108 => ⟨S128x1x32, .f32⟩
  | 109 => ⟨S128x1x32, .f32⟩
  | 110 => ⟨S128x1x32, .f32⟩
  | 111 => ⟨S128x1x32, .f32⟩
  | 112 => ⟨S128x1x32, .f32⟩
  | 113 => ⟨S128x1x32, .f32⟩
  | 114 => ⟨S128x1x32, .f32⟩
  | 115 => ⟨S128x1x32, .f32⟩
  | 116 => ⟨S128x1x32, .f32⟩
  | 117 => ⟨S128x1x64, .f32⟩
  | 118 => ⟨S128x1x320, .f32⟩
  | 119 => ⟨S4x2048x512, .f32⟩
  | 120 => ⟨S4x2048x512, .f32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S_, .f32⟩
  | _ => ⟨S4x2048x2048, .f32⟩

abbrev hbmTy0_1 (i : Nat) : BufTy := match i % 128 with
  | 0 => ⟨S4x2048x1, .f32⟩
  | 1 => ⟨S4x2048x1, .f32⟩
  | 2 => ⟨S4x2048x1, .f32⟩
  | 3 => ⟨S4x2048x512, .f32⟩
  | 4 => ⟨S4x2048x512, .f32⟩
  | 5 => ⟨S1x1x512, .f32⟩
  | 6 => ⟨S4x2048x512, .f32⟩
  | 7 => ⟨S4x2048x512, .f32⟩
  | 8 => ⟨S4x2048x512, .bf16⟩
  | 9 => ⟨S128x1x512, .f32⟩
  | 10 => ⟨S128x1x512, .f32⟩
  | 11 => ⟨S_, .f32⟩
  | 12 => ⟨S128x1, .f32⟩
  | 13 => ⟨S128x1x1, .f32⟩
  | 14 => ⟨S_, .f32⟩
  | 15 => ⟨S128x1x1, .f32⟩
  | 16 => ⟨S128x1x1, .f32⟩
  | 17 => ⟨S_, .f32⟩
  | 18 => ⟨S128x1x1, .f32⟩
  | 19 => ⟨S128x1x1, .f32⟩
  | 20 => ⟨S128x1x1, .f32⟩
  | 21 => ⟨S128x1x512, .f32⟩
  | 22 => ⟨S128x1x512, .f32⟩
  | 23 => ⟨S1x1x512, .f32⟩
  | 24 => ⟨S128x1x512, .f32⟩
  | 25 => ⟨S128x1x512, .f32⟩
  | 26 => ⟨S128x1x512, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_4 : Ref sig .tc := ⟨.hbm, 74, rfl⟩
abbrev main_v63 : Ref sig .tc := ⟨.hbm, 75, rfl⟩
abbrev main_v64 : Ref sig .tc := ⟨.hbm, 76, rfl⟩
abbrev main_cst_5 : Ref sig .tc := ⟨.hbm, 77, rfl⟩
abbrev main_v65 : Ref sig .tc := ⟨.hbm, 78, rfl⟩
abbrev main_v66 : Ref sig .tc := ⟨.hbm, 79, rfl⟩
abbrev main_cst_6 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_7 : Ref sig .tc := ⟨.hbm, 92, rfl⟩
abbrev main_v78 : Ref sig .tc := ⟨.hbm, 93, rfl⟩
abbrev main_v79 : Ref sig .tc := ⟨.hbm, 94, rfl⟩
abbrev main_cst_8 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_cst_9 : Ref sig .tc := ⟨.hbm, 121, rfl⟩
abbrev main_v105 : Ref sig .tc := ⟨.hbm, 122, rfl⟩
abbrev main_v106 : Ref sig .tc := ⟨.hbm, 123, rfl⟩
abbrev main_cst_10 : Ref sig .tc := ⟨.hbm, 124, rfl⟩
abbrev main_v107 : Ref sig .tc := ⟨.hbm, 125, rfl⟩
abbrev main_v108 : Ref sig .tc := ⟨.hbm, 126, rfl⟩
abbrev main_cst_11 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_cst_12 : Ref sig .tc := ⟨.hbm, 139, rfl⟩
abbrev main_v120 : Ref sig .tc := ⟨.hbm, 140, rfl⟩
abbrev main_v121 : Ref sig .tc := ⟨.hbm, 141, rfl⟩
abbrev main_cst_13 : Ref sig .tc := ⟨.hbm, 142, rfl⟩
abbrev main_v122 : Ref sig .tc := ⟨.hbm, 143, rfl⟩
abbrev main_v123 : Ref sig .tc := ⟨.hbm, 144, rfl⟩
abbrev main_cst_14 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩

abbrev nD : Nat := 1
abbrev τ : Topo := Topo.v7x

variable {F : FTy → Type} [FloatOps F]
-- ==== Kernel8.lean ====
abbrev S8320x2048 : Shape := ⟨2, ![8320, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S640x2048 : Shape := ⟨2, ![640, 2048]⟩
abbrev S2048x512 : Shape := ⟨2, ![2048, 512]⟩
abbrev S640x512 : Shape := ⟨2, ![640, 512]⟩

abbrev nBuf : Space → Nat
  | .hbm => 6
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2x2048x2048, .f32⟩
  | .hbm, ⟨2, _⟩ => ⟨S1x2048x2048, .f32⟩
  | .hbm, ⟨3, _⟩ => ⟨S2048x2048, .f32⟩
  | .hbm, ⟨4, _⟩ => ⟨S2048x2048, .bf16⟩
  | .hbm, ⟨5, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S2048x512, .bf16⟩
  | .local _ .vmem, ⟨3, _⟩ => ⟨S2048x512, .bf16⟩
  | .local _ .vmem, ⟨4, _⟩ => ⟨S640x512, .f32⟩
  | .local _ .vmem, ⟨5, _⟩ => ⟨S640x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8320x2048 : Shape := ⟨2, ![8320, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x2048, .f32⟩
  | .hbm, ⟨2, _⟩ => ⟨S8320x2048, .f32⟩
  | .hbm, ⟨3, _⟩ => ⟨S1x2048x2048, .f32⟩
  | .hbm, ⟨4, _⟩ => ⟨S2048x2048, .f32⟩
  | .hbm, ⟨5, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8320x1536 : Shape := ⟨2, ![8320, 1536]⟩
abbrev S2x1536x2048 : Shape := ⟨3, ![2, 1536, 2048]⟩
abbrev S1x1536x2048 : Shape := ⟨3, ![1, 1536, 2048]⟩
abbrev S1536x2048 : Shape := ⟨2, ![1536, 2048]⟩
abbrev S8320x2048 : Shape := ⟨2, ![8320, 2048]⟩
abbrev S640x1536 : Shape := ⟨2, ![640, 1536]⟩
abbrev S1536x512 : Shape := ⟨2, ![1536, 512]⟩
abbrev S640x512 : Shape := ⟨2, ![640, 512]⟩

abbrev nBuf : Space → Nat
  | .hbm => 6
  | .vmem => 6
  | .smem => 0
  | _ => 0

abbrev bufTy : (tb : Table) → Fin (tcTables nBuf tb) → BufTy
  | .hbm, ⟨0, _⟩ => ⟨S8320x1536, .bf16⟩
  | .hbm, ⟨1, _⟩ => ⟨S2x1536x2048, .f32⟩
  | .hbm, ⟨2, _⟩ => ⟨S1x1536x2048, .f32⟩
  | .hbm, ⟨3, _⟩ => ⟨S1536x2048, .f32⟩
  | .hbm, ⟨4, _⟩ => ⟨S1536x2048, .bf16⟩
  | .hbm, ⟨5, _⟩ => ⟨S8320x2048, .f32⟩
  | .local _ .vmem, ⟨0, _⟩ => ⟨S640x1536, .bf16⟩
  | .local _ .vmem, ⟨1, _⟩ => ⟨S640x1536, .bf16⟩
  | .local _ .vmem, ⟨2, _⟩ => ⟨S1536x512, .bf16⟩
  | .local _ .vmem, ⟨3, _⟩ => ⟨S1536x512, .bf16⟩
  | .local _ .vmem, ⟨4, _⟩ => ⟨S640x512, .f32⟩
  | .local _ .vmem, ⟨5, _⟩ => ⟨S640x512, .f32⟩
  | _, _ => ⟨S8320x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8320x1536 : Shape := ⟨2, ![8320, 1536]⟩
abbrev S2x1536x2048 : Shape := ⟨3, ![2, 1536, 2048]⟩
abbrev S1x1536x2048 : Shape := ⟨3, ![1, 1536, 2048]⟩
abbrev S1536x2048 : Shape := ⟨2, ![1536, 2048]⟩
abbrev S8320x2048 : Shape := ⟨2, ![8320, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x1536, .bf16⟩
  | .hbm, ⟨1, _⟩ => ⟨S2x1536x2048, .f32⟩
  | .hbm, ⟨2, _⟩ => ⟨S8320x1536, .f32⟩
  | .hbm, ⟨3, _⟩ => ⟨S1x1536x2048, .f32⟩
  | .hbm, ⟨4, _⟩ => ⟨S1536x2048, .f32⟩
  | .hbm, ⟨5, _⟩ => ⟨S8320x2048, .f32⟩
  | _, _ => ⟨S8320x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8320x512 : Shape := ⟨2, ![8320, 512]⟩
abbrev S2x512x1536 : Shape := ⟨3, ![2, 512, 1536]⟩
abbrev S1x512x1536 : Shape := ⟨3, ![1, 512, 1536]⟩
abbrev S512x1536 : Shape := ⟨2, ![512, 1536]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S_ : Shape := ⟨0, ![]⟩
abbrev S512x2048 : Shape := ⟨2, ![512, 2048]⟩
abbrev S8320x2048 : Shape := ⟨2, ![8320, 2048]⟩
abbrev S640x512 : Shape := ⟨2, ![640, 512]⟩
abbrev S512x512 : Shape := ⟨2, ![512, 512]⟩
abbrev S8320x2x8x128 : Shape := ⟨4, ![8320, 2, 8, 128]⟩
abbrev S8320x1x8x128 : Shape := ⟨4, ![8320, 1, 8, 128]⟩
abbrev S8320x8x128 : Shape := ⟨3, ![8320, 8, 128]⟩
abbrev S8320x1x8x64 : Shape := ⟨4, ![8320, 1, 8, 64]⟩
abbrev S8320x8x64 : Shape := ⟨3, ![8320, 8, 64]⟩

abbrev nBuf : Space → Nat
  | .hbm => 20
  | .vmem => 6
  | .smem => 0
  | _ => 0

abbrev bufTy : (tb : Table) → Fin (tcTables nBuf tb) → BufTy
  | .hbm, ⟨0, _⟩ => ⟨S8320x512, .bf16⟩
  | .hbm, ⟨1, _⟩ => ⟨S2x512x1536, .f32⟩
  | .hbm, ⟨2, _⟩ => ⟨S1x512x1536, .f32⟩
  | .hbm, ⟨3, _⟩ => ⟨S512x1536, .f32⟩
  | .hbm, ⟨4, _⟩ => ⟨S512x8x192, .f32⟩
  | .hbm, ⟨5, _⟩ => ⟨S512x8x128, .f32⟩
  | .hbm, ⟨6, _⟩ => ⟨S512x1024, .f32⟩
  | .hbm, ⟨7, _⟩ => ⟨S512x8x64, .f32⟩
  | .hbm, ⟨8, _⟩ => ⟨S_, .i32⟩
  | .hbm, ⟨9, _⟩ => ⟨S_, .f32⟩
  | .hbm, ⟨10, _⟩ => ⟨S512x8x128, .f32⟩
  | .hbm, ⟨11, _⟩ => ⟨S512x1024, .f32⟩
  | .hbm, ⟨12, _⟩ => ⟨S512x2048, .f32⟩
  | .hbm, ⟨13, _⟩ => ⟨S512x2048, .bf16⟩
  | .hbm, ⟨14, _⟩ => ⟨S8320x2048, .f32⟩
  | .hbm, ⟨15, _⟩ => ⟨S8320x2x8x128, .f32⟩
  | .hbm, ⟨16, _⟩ => ⟨S8320x1x8x128, .f32⟩
  | .hbm, ⟨17, _⟩ => ⟨S8320x8x128, .f32⟩
  | .hbm, ⟨18, _⟩ => ⟨S8320x1x8x64, .f32⟩
  | .hbm, ⟨19, _⟩ => ⟨S8320x8x64, .f32⟩
  | .local _ .vmem, ⟨0, _⟩ => ⟨S640x512, .bf16⟩
  | .local _ .vmem, ⟨1, _⟩ => ⟨S640x512, .bf16⟩
  | .local _ .vmem, ⟨2, _⟩ => ⟨S512x512, .bf16⟩
  | .local _ .vmem, ⟨3, _⟩ => ⟨S512x512, .bf16⟩
  | .local _ .vmem, ⟨4, _⟩ => ⟨S640x512, .f32⟩
  | .local _ .vmem, ⟨5, _⟩ => ⟨S640x512, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8320x512 : Shape := ⟨2, ![8320, 512]⟩
abbrev S2x512x1536 : Shape := ⟨3, ![2, 512, 1536]⟩
abbrev S1x512x1536 : Shape := ⟨3, ![1, 512, 1536]⟩
abbrev S512x1536 : Shape := ⟨2, ![512, 1536]⟩
abbrev S8320x1536 : Shape := ⟨2, ![8320, 1536]⟩
abbrev S8320x8x192 : Shape := ⟨3, ![8320, 8, 192]⟩
abbrev S8320x8x128 : Shape := ⟨3, ![8320, 8, 128]⟩
abbrev S8320x8x64 : Shape := ⟨3, ![8320, 8, 64]⟩

abbrev nBuf : Space → Nat
  | .hbm => 9
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S2x512x1536, .f32⟩
  | .hbm, ⟨2, _⟩ => ⟨S8320x512, .f32⟩
  | .hbm, ⟨3, _⟩ => ⟨S1x512x1536, .f32⟩
  | .hbm, ⟨4, _⟩ => ⟨S512x1536, .f32⟩
  | .hbm, ⟨5, _⟩ => ⟨S8320x1536, .f32⟩
  | .hbm, ⟨6, _⟩ => ⟨S8320x8x192, .f32⟩
  | .hbm, ⟨7, _⟩ => ⟨S8320x8x128, .f32⟩
  | .hbm, ⟨8, _⟩ => ⟨S8320x8x64, .f32⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel11.lean ====
abbrev S8320x2048 : Shape := ⟨2, ![8320, 2048]⟩
abbrev S2x256x8x128 : Shape := ⟨4, ![2, 256, 8, 128]⟩
abbrev S1x256x8x128 : Shape := ⟨4, ![1, 256, 8, 128]⟩
abbrev S256x8x128 : Shape := ⟨3, ![256, 8, 128]⟩
abbrev S8x256x128 : Shape := ⟨3, ![8, 256, 128]⟩
abbrev S8320x1024 : Shape := ⟨2, ![8320, 1024]⟩
abbrev S640x2048 : Shape := ⟨2, ![640, 2048]⟩
abbrev S640x1024 : Shape := ⟨2, ![640, 1024]⟩
abbrev S640x256 : Shape := ⟨2, ![640, 256]⟩
abbrev S1x256x128 : Shape := ⟨3, ![1, 256, 128]⟩
abbrev S256x128 : Shape := ⟨2, ![256, 128]⟩
abbrev S640x128 : Shape := ⟨2, ![640, 128]⟩

abbrev nBuf : Space → Nat
  | .hbm => 7
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S2x256x8x128, .f32⟩
  | .hbm, ⟨2, _⟩ => ⟨S1x256x8x128, .f32⟩
  | .hbm, ⟨3, _⟩ => ⟨S256x8x128, .f32⟩
  | .hbm, ⟨4, _⟩ => ⟨S8x256x128, .f32⟩
  | .hbm, ⟨5, _⟩ => ⟨S8x256x128, .bf16⟩
  | .hbm, ⟨6, _⟩ => ⟨S8320x1024, .bf16⟩
  | .local _ .vmem, ⟨0, _⟩ => ⟨S640x2048, .bf16⟩
  | .local _ .vmem, ⟨1, _⟩ => ⟨S640x2048, .bf16⟩
  | .local _ .vmem, ⟨2, _⟩ => ⟨S8x256x128, .bf16⟩
  | .local _ .vmem, ⟨3, _⟩ => ⟨S640x1024, .bf16⟩
  | .local _ .vmem, ⟨4, _⟩ => ⟨S640x1024, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8320x2048 : Shape := ⟨2, ![8320, 2048]⟩
abbrev S2x256x8x128 : Shape := ⟨4, ![2, 256, 8, 128]⟩
abbrev S8320x8x256 : Shape := ⟨3, ![8320, 8, 256]⟩
abbrev S1x256x8x128 : Shape := ⟨4, ![1, 256, 8, 128]⟩
abbrev S256x8x128 : Shape := ⟨3, ![256, 8, 128]⟩
abbrev S8x128x8320 : Shape := ⟨3, ![8, 128, 8320]⟩
abbrev S8320x8x128 : Shape := ⟨3, ![8320, 8, 128]⟩
abbrev S8320x1024 : Shape := ⟨2, ![8320, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x256x8x128, .f32⟩
  | .hbm, ⟨2, _⟩ => ⟨S8320x2048, .f32⟩
  | .hbm, ⟨3, _⟩ => ⟨S8320x8x256, .f32⟩
  | .hbm, ⟨4, _⟩ => ⟨S1x256x8x128, .f32⟩
  | .hbm, ⟨5, _⟩ => ⟨S256x8x128, .f32⟩
  | .hbm, ⟨6, _⟩ => ⟨S8x128x8320, .f32⟩
  | .hbm, ⟨7, _⟩ => ⟨S8320x8x128, .f32⟩
  | .hbm, ⟨8, _⟩ => ⟨S8320x1024, .f32⟩
  | .hbm, ⟨9, _⟩ => ⟨S8320x1024, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel12.lean ====
abbrev S8320x2048 : Shape := ⟨2, ![8320, 2048]⟩
abbrev S4x2048 : Shape := ⟨2, ![4, 2048]⟩
abbrev S1x2048 : Shape := ⟨2, ![1, 2048]⟩
abbrev S2048 : Shape := ⟨1, ![2048]⟩
abbrev S320x2048 : Shape := ⟨2, ![320, 2048]⟩
abbrev S320 : Shape := ⟨1, ![320]⟩
abbrev S320x1 : Shape := ⟨2, ![320, 1]⟩

abbrev nBuf : Space → Nat
  | .hbm => 12
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S4x2048, .f32⟩
  | .hbm, ⟨3, _⟩ => ⟨S4x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8320x2048, .f32⟩
  | .hbm, ⟨11, _⟩ => ⟨S8320x2048, .bf16⟩
  | .local _ .vmem, ⟨0, _⟩ => ⟨S320x2048, .f32⟩
  | .local _ .vmem, ⟨1, _⟩ => ⟨S320x2048, .f32⟩
  | .local _ .vmem, ⟨2, _⟩ => ⟨S320x2048, .f32⟩
  | .local _ .vmem, ⟨3, _⟩ => ⟨S320x2048, .f32⟩
  | .local _ .vmem, ⟨4, _⟩ => ⟨S1x2048, .f32⟩
  | .local _ .vmem, ⟨5, _⟩ => ⟨S1x2048, .f32⟩
  | .local _ .vmem, ⟨6, _⟩ => ⟨S320x2048, .f32⟩
  | .local _ .vmem, ⟨7, _⟩ => ⟨S320x2048, .f32⟩
  | .local _ .vmem, ⟨8, _⟩ => ⟨S320x2048, .bf16⟩
  | .local _ .vmem, ⟨9, _⟩ => ⟨S320x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S8320x2048 : Shape := ⟨2, ![8320, 2048]⟩
abbrev S4x2048 : Shape := ⟨2, ![4, 2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S2048 : Shape := ⟨1, ![2048]⟩

abbrev nBuf : Space → Nat
  | .hbm => 42
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S8320x2048, .f32⟩
  | .hbm, ⟨6, _⟩ => ⟨S8320x2048, .f32⟩
  | .hbm, ⟨7, _⟩ => ⟨S8320x2048, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x2048, .f32⟩
  | .hbm, ⟨15, _⟩ => ⟨S8320x2048, .f32⟩
  | .hbm, ⟨16, _⟩ => ⟨S8320x2048, .f32⟩
  | .hbm, ⟨17, _⟩ => ⟨S_, .f32⟩
  | .hbm, ⟨18, _⟩ => ⟨S8320, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S8320x2048, .f32⟩
  | .hbm, ⟨24, _⟩ => ⟨S8320x2048, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x1, .f32⟩
  | .hbm, ⟨29, _⟩ => ⟨S8320x2048, .f32⟩
  | .hbm, ⟨30, _⟩ => ⟨S8320x2048, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S8320x2048, .f32⟩
  | .hbm, ⟨35, _⟩ => ⟨S8320x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S8320x2048, .f32⟩
  | .hbm, ⟨40, _⟩ => ⟨S8320x2048, .f32⟩
  | .hbm, ⟨41, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel13.lean ====
abbrev S8320x2048 : Shape := ⟨2, ![8320, 2048]⟩
abbrev S2x256x8x128 : Shape := ⟨4, ![2, 256, 8, 128]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S_ : Shape := ⟨0, ![]⟩
abbrev S128 : Shape := ⟨1, ![128]⟩
abbrev S8320 : Shape := ⟨1, ![8320]⟩
abbrev S32 : Shape := ⟨1, ![32]⟩
abbrev S8320x1 : Shape := ⟨2, ![8320, 1]⟩
abbrev S1x32 : Shape := ⟨2, ![1, 32]⟩
abbrev S8320x32 : Shape := ⟨2, ![8320, 32]⟩
abbrev S8320x64 : Shape := ⟨2, ![8320, 64]⟩
abbrev S8320x128 : Shape := ⟨2, ![8320, 128]⟩
abbrev S1x256x8x128 : Shape := ⟨4, ![1, 256, 8, 128]⟩
abbrev S256x8x128 : Shape := ⟨3, ![256, 8, 128]⟩
abbrev S8x128x256 : Shape := ⟨3, ![8, 128, 256]⟩
abbrev S8320x3072 : Shape := ⟨2, ![8320, 3072]⟩
abbrev S640x2048 : Shape := ⟨2, ![640, 2048]⟩
abbrev S640x128 : Shape := ⟨2, ![640, 128]⟩
abbrev S640x3072 : Shape := ⟨2, ![640, 3072]⟩
abbrev S1x128x256 : Shape := ⟨3, ![1, 128, 256]⟩
abbrev S128x256 : Shape := ⟨2, ![128, 256]⟩
abbrev S640x256 : Shape := ⟨2, ![640, 256]⟩
abbrev S8320x8x384 : Shape := ⟨3, ![8320, 8, 384]⟩
abbrev S8320x8x256 : Shape := ⟨3, ![8320, 8, 256]⟩
abbrev S8320x8x64 : Shape := ⟨3, ![8320, 8, 64]⟩

abbrev nBuf : Space → Nat
  | .hbm => 39
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S2x256x8x128, .f32⟩
  | .hbm, ⟨2, _⟩ => ⟨S2048, .i32⟩
  | .hbm, ⟨3, _⟩ => ⟨S1x2048, .i32⟩
  | .hbm, ⟨4, _⟩ => ⟨S4x2048, .i32⟩
  | .hbm, ⟨5, _⟩ => ⟨S8192, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S8320, .i32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8320, .f32⟩
  | .hbm, ⟨19, _⟩ => ⟨S8320x1, .f32⟩
  | .hbm, ⟨20, _⟩ => ⟨S1x32, .f32⟩
  | .hbm, ⟨21, _⟩ => ⟨S8320x32, .f32⟩
  | .hbm, ⟨22, _⟩ => ⟨S8320x32, .f32⟩
  | .hbm, ⟨23, _⟩ => ⟨S8320x32, .f32⟩
  | .hbm, ⟨24, _⟩ => ⟨S8320x32, .f32⟩
  | .hbm, ⟨25, _⟩ => ⟨S8320x32, .f32⟩
  | .hbm, ⟨26, _⟩ => ⟨S_, .f32⟩
  | .hbm, ⟨27, _⟩ => ⟨S8320x64, .f32⟩
  | .hbm, ⟨28, _⟩ => ⟨S8320x128, .f32⟩
  | .hbm, ⟨29, _⟩ => ⟨S8320x32, .f32⟩
  | .hbm, ⟨30, _⟩ => ⟨S8320x128, .f32⟩
  | .hbm, ⟨31, _⟩ => ⟨S1x256x8x128, .f32⟩
  | .hbm, ⟨32, _⟩ => ⟨S256x8x128, .f32⟩
  | .hbm, ⟨33, _⟩ => ⟨S8x128x256, .f32⟩
  | .hbm, ⟨34, _⟩ => ⟨S8x128x256, .bf16⟩
  | .hbm, ⟨35, _⟩ => ⟨S8320x3072, .f32⟩
  | .hbm, ⟨36, _⟩ => ⟨S8320x8x384, .f32⟩
  | .hbm, ⟨37, _⟩ => ⟨S8320x8x256, .f32⟩
  | .hbm, ⟨38, _⟩ => ⟨S8320x8x64, .f32⟩
  | .local _ .vmem, ⟨0, _⟩ => ⟨S640x2048, .f32⟩
  | .local _ .vmem, ⟨1, _⟩ => ⟨S640x2048, .f32⟩
  | .local _ .vmem, ⟨2, _⟩ => ⟨S8x128x256, .bf16⟩
  | .local _ .vmem, ⟨3, _⟩ => ⟨S640x128, .f32⟩
  | .local _ .vmem, ⟨4, _⟩ => ⟨S640x128, .f32⟩
  | .local _ .vmem, ⟨5, _⟩ => ⟨S640x128, .f32⟩
  | .local _ .vmem, ⟨6, _⟩ => ⟨S640x128, .f32⟩
  | .local _ .vmem, ⟨7, _⟩ => ⟨S640x3072, .f32⟩
  | .local _ .vmem, ⟨8, _⟩ => ⟨S640x3072, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8320x2048 : Shape := ⟨2, ![8320, 2048]⟩
abbrev S2x256x8x128 : Shape := ⟨4, ![2, 256, 8, 128]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S_ : Shape := ⟨0, ![]⟩
abbrev S128 : Shape := ⟨1, ![128]⟩
abbrev S8320 : Shape := ⟨1, ![8320]⟩
abbrev S8320x2x8x128 : Shape := ⟨4, ![8320, 2, 8, 128]⟩
abbrev S8320x1x8x128 : Shape := ⟨4, ![8320, 1, 8, 128]⟩
abbrev S8320x8x128 : Shape := ⟨3, ![8320, 8, 128]⟩
abbrev S1x256x8x128 : Shape := ⟨4, ![1, 256, 8, 128]⟩
abbrev S256x8x128 : Shape := ⟨3, ![256, 8, 128]⟩
abbrev S8x256x8320 : Shape := ⟨3, ![8, 256, 8320]⟩
abbrev S8320x8x256 : Shape := ⟨3, ![8320, 8, 256]⟩
abbrev S8320x1x8x64 : Shape := ⟨4, ![8320, 1, 8, 64]⟩
abbrev S8320x8x64 : Shape := ⟨3, ![8320, 8, 64]⟩
abbrev S8320x1 : Shape := ⟨2, ![8320, 1]⟩
abbrev S32 : Shape := ⟨1, ![32]⟩
abbrev S8320x1x1 : Shape := ⟨3, ![8320, 1, 1]⟩
abbrev S1x1x32 : Shape := ⟨3, ![1, 1, 32]⟩
abbrev S8320x1x32 : Shape := ⟨3, ![8320, 1, 32]⟩
abbrev S8320x8x32 : Shape := ⟨3, ![8320, 8, 32]⟩

abbrev nBuf : Space → Nat
  | .hbm => 49
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2x256x8x128, .f32⟩
  | .hbm, ⟨2, _⟩ => ⟨S2048, .i32⟩
  | .hbm, ⟨3, _⟩ => ⟨S1x2048, .i32⟩
  | .hbm, ⟨4, _⟩ => ⟨S4x2048, .i32⟩
  | .hbm, ⟨5, _⟩ => ⟨S8192, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S8320, .i32⟩
  | .hbm, ⟨10, _⟩ => ⟨S8320x2x8x128, .f32⟩
  | .hbm, ⟨11, _⟩ => ⟨S8320x1x8x128, .f32⟩
  | .hbm, ⟨12, _⟩ => ⟨S8320x8x128, .f32⟩
  | .hbm, ⟨13, _⟩ => ⟨S1x256x8x128, .f32⟩
  | .hbm, ⟨14, _⟩ => ⟨S256x8x128, .f32⟩
  | .hbm, ⟨15, _⟩ => ⟨S8x256x8320, .f32⟩
  | .hbm, ⟨16, _⟩ => ⟨S8320x8x256, .f32⟩
  | .hbm, ⟨17, _⟩ => ⟨S8320x1x8x64, .f32⟩
  | .hbm, ⟨18, _⟩ => ⟨S8320x8x64, .f32⟩
  | .hbm, ⟨19, _⟩ => ⟨S8320x1, .i32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S8320x1, .f32⟩
  | .hbm, ⟨29, _⟩ => ⟨S8320x1x1, .f32⟩
  | .hbm, ⟨30, _⟩ => ⟨S1x1x32, .f32⟩
  | .hbm, ⟨31, _⟩ => ⟨S8320x1x32, .f32⟩
  | .hbm, ⟨32, _⟩ => ⟨S8320x1x32, .f32⟩
  | .hbm, ⟨33, _⟩ => ⟨S8320x1x32, .f32⟩
  | .hbm, ⟨34, _⟩ => ⟨S8320x1x32, .f32⟩
  | .hbm, ⟨35, _⟩ => ⟨S8320x1x32, .f32⟩
  | .hbm, ⟨36, _⟩ => ⟨S8320x8x32, .f32⟩
  | .hbm, ⟨37, _⟩ => ⟨S8320x8x32, .f32⟩
  | .hbm, ⟨38, _⟩ => ⟨S8320x8x32, .f32⟩
  | .hbm, ⟨39, _⟩ => ⟨S8320x8x32, .f32⟩
  | .hbm, ⟨40, _⟩ => ⟨S8320x8x32, .f32⟩
  | .hbm, ⟨41, _⟩ => ⟨S8320x8x32, .f32⟩
  | .hbm, ⟨42, _⟩ => ⟨S8320x8x32, .f32⟩
  | .hbm, ⟨43, _⟩ => ⟨S8320x8x32, .f32⟩
  | .hbm, ⟨44, _⟩ => ⟨S8320x8x32, .f32⟩
  | .hbm, ⟨45, _⟩ => ⟨S8320x8x32, .f32⟩
  | .hbm, ⟨46, _⟩ => ⟨S8320x8x32, .f32⟩
  | .hbm, ⟨47, _⟩ => ⟨S8320x8x32, .f32⟩
  | .hbm, ⟨48, _⟩ => ⟨S8320x8x64, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩

abbrev nD : Nat := 1
abbrev τ : Topo := Topo.v7x

variable {F : FTy → Type} [FloatOps F]
-- ==== Kernel14.lean ====
abbrev S128x16x128 : Shape := ⟨3, ![128, 16, 128]⟩
abbrev S2x4x64 : Shape := ⟨3, ![2, 4, 64]⟩
abbrev S2x128 : Shape := ⟨2, ![2, 128]⟩
abbrev S1x4x64 : Shape := ⟨3, ![1, 4, 64]⟩
abbrev S4x64 : Shape := ⟨2, ![4, 64]⟩
abbrev S1x128 : Shape := ⟨2, ![1, 128]⟩
abbrev S128 : Shape := ⟨1, ![128]⟩
abbrev S128x8x128 : Shape := ⟨3, ![128, 8, 128]⟩
abbrev S1x64 : Shape := ⟨2, ![1, 64]⟩
abbrev S1 : Shape := ⟨1, ![1]⟩
abbrev S1x1 : Shape := ⟨2, ![1, 1]⟩
abbrev S1x1x1 : Shape := ⟨3, ![1, 1, 1]⟩
abbrev S128x8 : Shape := ⟨2, ![128, 8]⟩
abbrev S128x8x1 : Shape := ⟨3, ![128, 8, 1]⟩
abbrev S1x1x128 : Shape := ⟨3, ![1, 1, 128]⟩

abbrev nBuf : Space → Nat
  | .hbm => 9
  | .vmem => 4
  | .smem => 0
  | _ => 0

abbrev bufTy : (tb : Table) → Fin (tcTables nBuf tb) → BufTy
  | .hbm, ⟨0, _⟩ => ⟨S128x16x128, .f32⟩
  | .hbm, ⟨1, _⟩ => ⟨S2x4x64, .f32⟩
  | .hbm, ⟨2, _⟩ => ⟨S2x128, .f32⟩
  | .hbm, ⟨3, _⟩ => ⟨S1x4x64, .f32⟩
  | .hbm, ⟨4, _⟩ => ⟨S4x64, .f32⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S128x8x128, .f32⟩
  | .local _ .vmem, ⟨0, _⟩ => ⟨S128x16x128, .f32⟩
  | .local _ .vmem, ⟨1, _⟩ => ⟨S4x64, .f32⟩
  | .local _ .vmem, ⟨2, _⟩ => ⟨S1x128, .f32⟩
  | .local _ .vmem, ⟨3, _⟩ => ⟨S128x8x128, .f32⟩
  | _, _ => ⟨S128x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference14Ideal.lean ====
abbrev S128x16x128 : Shape := ⟨3, ![128, 16, 128]⟩
abbrev S2x4x64 : Shape := ⟨3, ![2, 4, 64]⟩
abbrev S2x128 : Shape := ⟨2, ![2, 128]⟩
abbrev S1x4x64 : Shape := ⟨3, ![1, 4, 64]⟩
abbrev S4x64 : Shape := ⟨2, ![4, 64]⟩
abbrev S1x64 : Shape := ⟨2, ![1, 64]⟩
abbrev S64 : Shape := ⟨1, ![64]⟩
abbrev S_ : Shape := ⟨0, ![]⟩
abbrev S128x2x8x128 : Shape := ⟨4, ![128, 2, 8, 128]⟩
abbrev S128x1x8x128 : Shape := ⟨4, ![128, 1, 8, 128]⟩
abbrev S128x8x128 : Shape := ⟨3, ![128, 8, 128]⟩
abbrev S128x8 : Shape := ⟨2, ![128, 8]⟩
abbrev S128x8x1 : Shape := ⟨3, ![128, 8, 1]⟩
abbrev S1x128 : Shape := ⟨2, ![1, 128]⟩
abbrev S128 : Shape := ⟨1, ![128]⟩
abbrev S1x1x128 : Shape := ⟨3, ![1, 1, 128]⟩

abbrev nBuf : Space → Nat
  | .hbm => 53
  | .vmem => 0
  | .smem => 0
  | _ => 0

abbrev bufTy : (tb : Table) → Fin (tcTables nBuf tb) → BufTy
  | .hbm, ⟨0, _⟩ => ⟨S128x16x128, .f32⟩
  | .hbm, ⟨1, _⟩ => ⟨S2x4x64, .f32⟩
  | .hbm, ⟨2, _⟩ => ⟨S2x128, .f32⟩
  | .hbm, ⟨3, _⟩ => ⟨S1x4x64, .f32⟩
  | .hbm, ⟨4, _⟩ => ⟨S4x64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S128x2x8x128, .f32⟩
  | .hbm, ⟨25, _⟩ => ⟨S128x1x8x128, .f32⟩
  | .hbm, ⟨26, _⟩ => ⟨S128x8x128, .f32⟩
  | .hbm, ⟨27, _⟩ => ⟨S128x1x8x128, .f32⟩
  | .hbm, ⟨28, _⟩ => ⟨S128x8x128, .f32⟩
  | .hbm, ⟨29, _⟩ => ⟨S128x8x128, .f32⟩
  | .hbm, ⟨30, _⟩ => ⟨S128x8x128, .f32⟩
  | .hbm, ⟨31, _⟩ => ⟨S128x8x128, .f32⟩
  | .hbm, ⟨32, _⟩ => ⟨S128x8x128, .f32⟩
  | .hbm, ⟨33, _⟩ => ⟨S_, .f32⟩
  | .hbm, ⟨34, _⟩ => ⟨S128x8, .f32⟩
  | .hbm, ⟨35, _⟩ => ⟨S128x8x1, .f32⟩
  | .hbm, ⟨36, _⟩ => ⟨S_, .f32⟩
  | .hbm, ⟨37, _⟩ => ⟨S128x8x1, .f32⟩
  | .hbm, ⟨38, _⟩ => ⟨S128x8x1, .f32⟩
  | .hbm, ⟨39, _⟩ => ⟨S_, .f32⟩
  | .hbm, ⟨40, _⟩ => ⟨S128x8x1, .f32⟩
  | .hbm, ⟨41, _⟩ => ⟨S128x8x1, .f32⟩
  | .hbm, ⟨42, _⟩ => ⟨S128x8x1, .f32⟩
  | .hbm, ⟨43, _⟩ => ⟨S128x8x128, .f32⟩
  | .hbm, ⟨44, _⟩ => ⟨S128x8x128, .f32⟩
  | .hbm, ⟨45, _⟩ => ⟨S1x128, .f32⟩
  | .hbm, ⟨46, _⟩ => ⟨S128, .f32⟩
  | .hbm, ⟨47, _⟩ => ⟨S1x1x128, .f32⟩
  | .hbm, ⟨48, _⟩ => ⟨S128x8x128, .f32⟩
  | .hbm, ⟨49, _⟩ => ⟨S128x8x128, .f32⟩
  | .hbm, ⟨50, _⟩ => ⟨S_, .f32⟩
  | .hbm, ⟨51, _⟩ => ⟨S128x8x128, .f32⟩
  | .hbm, ⟨52, _⟩ => ⟨S128x8x128, .f32⟩
  | _, _ => ⟨S128x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Kernel15.lean ====
abbrev S8320x2048 : Shape := ⟨2, ![8320, 2048]⟩
abbrev S2x2048x8 : Shape := ⟨3, ![2, 2048, 8]⟩
abbrev S1x2048x8 : Shape := ⟨3, ![1, 2048, 8]⟩
abbrev S2048x8 : Shape := ⟨2, ![2048, 8]⟩
abbrev S_ : Shape := ⟨0, ![]⟩
abbrev S2048x128 : Shape := ⟨2, ![2048, 128]⟩
abbrev S8320x128 : Shape := ⟨2, ![8320, 128]⟩
abbrev S640x2048 : Shape := ⟨2, ![640, 2048]⟩
abbrev S640x128 : Shape := ⟨2, ![640, 128]⟩
abbrev S640 : Shape := ⟨1, ![640]⟩
abbrev S640x1 : Shape := ⟨2, ![640, 1]⟩
abbrev S8320x2 : Shape := ⟨2, ![8320, 2]⟩

abbrev nBuf : Space → Nat
  | .hbm => 11
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S2x2048x8, .f32⟩
  | .hbm, ⟨2, _⟩ => ⟨S1x2048x8, .f32⟩
  | .hbm, ⟨3, _⟩ => ⟨S2048x8, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S8320x128, .f32⟩
  | .hbm, ⟨9, _⟩ => ⟨S8320x2, .f32⟩
  | .hbm, ⟨10, _⟩ => ⟨S8320x2, .f32⟩
  | .local _ .vmem, ⟨0, _⟩ => ⟨S640x2048, .bf16⟩
  | .local _ .vmem, ⟨1, _⟩ => ⟨S640x2048, .bf16⟩
  | .local _ .vmem, ⟨2, _⟩ => ⟨S2048x128, .bf16⟩
  | .local _ .vmem, ⟨3, _⟩ => ⟨S640x128, .f32⟩
  | .local _ .vmem, ⟨4, _⟩ => ⟨S640x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S8320x2048 : Shape := ⟨2, ![8320, 2048]⟩
abbrev S2x2048x8 : Shape := ⟨3, ![2, 2048, 8]⟩
abbrev S1x2048x8 : Shape := ⟨3, ![1, 2048, 8]⟩
abbrev S2048x8 : Shape := ⟨2, ![2048, 8]⟩
abbrev S8320x8 : Shape := ⟨2, ![8320, 8]⟩
abbrev S8320x2 : Shape := ⟨2, ![8320, 2]⟩
abbrev S_ : Shape := ⟨0, ![]⟩
abbrev S8320 : Shape := ⟨1, ![8320]⟩
abbrev S8320x1 : Shape := ⟨2, ![8320, 1]⟩

abbrev nBuf : Space → Nat
  | .hbm => 22
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x8, .f32⟩
  | .hbm, ⟨2, _⟩ => ⟨S1x2048x8, .f32⟩
  | .hbm, ⟨3, _⟩ => ⟨S2048x8, .f32⟩
  | .hbm, ⟨4, _⟩ => ⟨S8320x8, .f32⟩
  | .hbm, ⟨5, _⟩ => ⟨S8320x2, .f32⟩
  | .hbm, ⟨6, _⟩ => ⟨S8320x2, .i32⟩
  | .hbm, ⟨7, _⟩ => ⟨S8320x2, .f32⟩
  | .hbm, ⟨8, _⟩ => ⟨S_, .f32⟩
  | .hbm, ⟨9, _⟩ => ⟨S8320, .f32⟩
  | .hbm, ⟨10, _⟩ => ⟨S_, .f32⟩
  | .hbm, ⟨11, _⟩ => ⟨S8320, .f32⟩
  | .hbm, ⟨12, _⟩ => ⟨S8320, .f32⟩
  | .hbm, ⟨13, _⟩ => ⟨S8320x1, .f32⟩
  | .hbm, ⟨14, _⟩ => ⟨S8320x2, .f32⟩
  | .hbm, ⟨15, _⟩ => ⟨S8320x2, .f32⟩
  | .hbm, ⟨16, _⟩ => ⟨S8320x2, .f32⟩
  | .hbm, ⟨17, _⟩ => ⟨S_, .f32⟩
  | .hbm, ⟨18, _⟩ => ⟨S8320, .f32⟩
  | .hbm, ⟨19, _⟩ => ⟨S8320x1, .f32⟩
  | .hbm, ⟨20, _⟩ => ⟨S8320x2, .f32⟩
  | .hbm, ⟨21, _⟩ => ⟨S8320x2, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.MoeIn.Body.lean ====
/- The body of the expert layer's first product at one grid point, over any float values: the two weight blocks are narrowed
   into scratch where the expert changes, and the block of rows is multiplied by both, gated and narrowed where the row tile
   is in use; elsewhere the result block is zero. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.VecWindow
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.Proof.MoeIn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The one place of the count table. -/
def place : S1.Idx := fun a => match a with | ⟨0, _⟩ => (0 : Fin 1)

/-- Entry `k` of the tile table. -/
def entry (k : Fin 40) : S40.Idx := fun a => match a with | ⟨0, _⟩ => k

/-- The tile before, the first tile's being itself. -/
def prev (k : Fin 40) : Fin 40 := ⟨k.val - 1, by omega⟩

/-- The two tables as the body is handed them, and the two scratches. -/
abbrev tabE : Memref sig .tc .smem S40 .i32 := Memref.whole main_arg0
abbrev tabN : Memref sig .tc .smem S1 .i32 := Memref.whole main_arg1
abbrev scrG : Memref sig .tc .vmem S2048x512 .bf16 := Memref.whole cc0_scratch0
abbrev scrU : Memref sig .tc .vmem S2048x512 .bf16 := Memref.whole cc0_scratch1

/-- Row tile `i 1` is in use: its number is below the count `n`. -/
abbrev Used (i : grid0.Coords) (n : BitVec 32) : Prop := k0_cond2 i n = 1#1

/-- The bit by which the body decides to narrow the weight blocks anew, from the expert `p` and the expert before `q`. -/
abbrev change (i : grid0.Coords) (p q : BitVec 32) : BitVec 1 :=
  Scalar.cmpi .ne (Scalar.extui (Scalar.ori (Scalar.cmpi .eq (BitVec.ofNat 32 (i 1).val) 0#32) (Scalar.cmpi .ne p q))) 0#32

/-- The weight blocks are narrowed anew at the first row tile and where the expert is another one than before. -/
theorem change_iff (i : grid0.Coords) (p q : BitVec 32) : change i p q = 1#1 ↔ (BitVec.ofNat 32 (i 1).val = 0#32 ∨ p ≠ q) := by
  unfold change
  simp only [Scalar.cmpi, Scalar.extui, Scalar.ori, IntOp.cmpi]
  rw [← beq_iff_eq (a := BitVec.ofNat 32 (i 1).val), ← bne_iff_ne (a := p)]
  generalize (BitVec.ofNat 32 (i 1).val == 0#32) = u
  generalize (p != q) = v
  revert u v; decide

/-- The last condition of the body is the one before's negation. -/
theorem cond3_iff (i : grid0.Coords) (n : BitVec 32) : k0_cond3 i n = 1#1 ↔ ¬ k0_cond2 i n = 1#1 := by
  unfold k0_cond2 k0_cond3
  simp only [Scalar.cmpi, Scalar.extui, IntOp.cmpi]
  generalize BitVec.ofNat 32 (i 1).val = a
  by_cases h : a.slt n = true
  · have h' : n.sle a = false := by
      rw [Bool.eq_false_iff]; intro hc
      simp only [BitVec.slt, BitVec.sle, decide_eq_true_eq] at h hc; omega
    simp [h, h']
  · have h' : n.sle a = true := by
      simp only [BitVec.slt, BitVec.sle, decide_eq_true_eq] at h ⊢; omega
    simp [h, h']

/-- What the body leaves in the output's staging buffer. -/
def leaves (i : grid0.Coords) (n : BitVec 32) (x : Vec F S512x2048 .bf16) (wg wu : Vec F S1x1x2048x512 .f32) : Vec F S512x512 .bf16 :=
  open Classical in if Used i n then k0_pay3 x (k0_pay1 wg) (k0_pay2 wu) else k0_pay4

/-- The count as the body's scalar load reads it. -/
abbrev gotN (T1 : S1.Idx → Elt F .i32) : BitVec 32 :=
  View.readAt (Elt F) tabN.view (Rect.unit (s := S1) ![0] S1.size inb_S1_S1_0).toLoadRect T1 (Shape.Idx.first (numel1_S1.symm ▸ Nat.one_pos))
theorem readCount (T1 : S1.Idx → Elt F .i32) : gotN T1 = T1 place :=
  congrArg T1 (funext fun a => Fin.ext (by match a with | ⟨0, _⟩ => rfl))

/-- The tile's entry, and the entry before, as the body's scalar loads read them. -/
abbrev got1 (i : grid0.Coords) (T0 : S40.Idx → Elt F .i32) : BitVec 32 :=
  View.readAt (Elt F) tabE.view (Rect.unit (s := S40) (k0_off1 i) S1.size (k0_off1_inb i)).toLoadRect T0 (Shape.Idx.first (numel1_S1.symm ▸ Nat.one_pos))
abbrev got2 (i : grid0.Coords) (T0 : S40.Idx → Elt F .i32) : BitVec 32 :=
  View.readAt (Elt F) tabE.view (Rect.unit (s := S40) (k0_off2 i) S1.size (k0_off2_inb i)).toLoadRect T0 (Shape.Idx.first (numel1_S1.symm ▸ Nat.one_pos))

theorem off1_val : ∀ k : Fin 40, (Scalar.indexCast (BitVec.ofNat 32 k.val) : Index).toNat = k.val := by decide
theorem off2_val : ∀ k : Fin 40, (Scalar.indexCast (Scalar.maxsi (Scalar.subi (BitVec.ofNat 32 k.val) 1#32) 0#32) : Index).toNat = (prev k).val := by decide

theorem read1 (i : grid0.Coords) (T0 : S40.Idx → Elt F .i32) : got1 i T0 = T0 (entry (i 1)) :=
  congrArg T0 (funext fun a => Fin.ext (by match a with | ⟨0, _⟩ => exact (Nat.add_zero _).trans (off1_val (i 1))))
theorem read2 (i : grid0.Coords) (T0 : S40.Idx → Elt F .i32) : got2 i T0 = T0 (entry (prev (i 1))) :=
  congrArg T0 (funext fun a => Fin.ext (by match a with | ⟨0, _⟩ => exact (Nat.add_zero _).trans (off2_val (i 1))))

theorem zero2 : (![0, 0] : Fin 2 → ℕ) = fun _ => 0 := funext fun a => by fin_cases a <;> rfl
theorem zero4 : (![0, 0, 0, 0] : Fin 4 → ℕ) = fun _ => 0 := funext fun a => by fin_cases a <;> rfl

/-- What the body is handed beside the output's staging buffer: the staged blocks, its halves of the tables, the scratches. -/
def Before (c : Dev nD) (arg4 : Memref sig .tc .vmem S512x2048 .bf16) (arg5 arg6 : Memref sig .tc .vmem S1x1x2048x512 .f32)
    (T0 : S40.Idx → Elt F .i32) (T1 : S1.Idx → Elt F .i32) (x : Vec F S512x2048 .bf16) (wg wu : Vec F S1x1x2048x512 .f32)
    (S0 S1 : S2048x512.Idx → Elt F .bf16) : sProp 𝕄 :=
  iprop((arg4.view.loc (c : Thread nD τ) ↦[arg4.view.set]{fullShare} arg4.view.rep x)
    ∗ (arg5.view.loc (c : Thread nD τ) ↦[arg5.view.set]{fullShare} arg5.view.rep wg)
    ∗ (arg6.view.loc (c : Thread nD τ) ↦[arg6.view.set]{fullShare} arg6.view.rep wu)
    ∗ (tabE.view.loc (c : Thread nD τ) ↦{fullShare.right} T0)
    ∗ (tabN.view.loc (c : Thread nD τ) ↦{fullShare.right} T1)
    ∗ (scrG.view.loc (c : Thread nD τ) ↦{fullShare} S0)
    ∗ (scrU.view.loc (c : Thread nD τ) ↦{fullShare} S1))

set_option backward.isDefEq.respectTransparency.types false in
set_option maxHeartbeats 8000000 in
/-- The weight blocks narrowed anew, the tile in use. -/
theorem run_change_used (c : Dev nD) (i : grid0.Coords) (arg4 : Memref sig .tc .vmem S512x2048 .bf16) (harg4 : arg4.IsWhole)
    (arg5 : Memref sig .tc .vmem S1x1x2048x512 .f32) (harg5 : arg5.IsWhole) (arg6 : Memref sig .tc .vmem S1x1x2048x512 .f32) (harg6 : arg6.IsWhole)
    (arg7 : Memref sig .tc .vmem S512x512 .bf16) (harg7 : arg7.IsWhole)
    (T0 : S40.Idx → Elt F .i32) (T1 : S1.Idx → Elt F .i32) (x : Vec F S512x2048 .bf16) (wg wu : Vec F S1x1x2048x512 .f32)
    (S0 S1 : S2048x512.Idx → Elt F .bf16) (K : PUnit → sProp 𝕄)
    (hr : change i (got1 i T0) (got2 i T0) = 1#1) (h2 : k0_cond2 i (gotN T1) = 1#1) (h3 : ¬ k0_cond3 i (gotN T1) = 1#1) :
    iprop(Before c arg4 arg5 arg6 T0 T1 x wg wu S0 S1 ∗ (∃ d, owns (c : Thread nD τ) arg7 fullShare d)
        ∗ (iprop(Before c arg4 arg5 arg6 T0 T1 x wg wu (k0_pay1 wg) (k0_pay2 wu) ∗ owns (c : Thread nD τ) arg7 fullShare (k0_pay3 x (k0_pay1 wg) (k0_pay2 wu))) -∗ K ⟨⟩))
      ⊢ wp frame (wpE (defs₀ (F := F)) Variants.none c none) Set.univ
          (cc0_moe_in i tabE (Memref.isWhole_whole _) tabN (Memref.isWhole_whole _) arg4 harg4 arg5 harg5 arg6 harg6 arg7 harg7
            scrG (Memref.isWhole_whole _) scrU (Memref.isWhole_whole _)) K := by
  have hT0 : tabE.IsWhole := Memref.isWhole_whole _
  have hT1 : tabN.IsWhole := Memref.isWhole_whole _
  have hS0 : scrG.IsWhole := Memref.isWhole_whole _
  have hS1 : scrU.IsWhole := Memref.isWhole_whole _
  unfold Before owns
  rw [cc0_moe_in_eq_skeleton]; unfold cc0_moe_in_skel
  iintro ⟨⟨H0, H1, H2, HT0, HT1, HS0, HS1⟩, ⟨%d3, %f3, -, HO⟩, Hk⟩
  sl_exec! (disch := first | (guard_target = (k0_cond2 _ _ = _); exact h2) | (guard_target = ¬(k0_cond3 _ _ = _); exact h3) | exact hr)
  sl_step
  have rG : scrG.view.read (Elt F) (scrG.view.writes (Elt F) scrG.view.junk (run_change_used.sl.HS0_1 arg5 wg)) = k0_pay1 wg := by
    unfold run_change_used.sl.HS0_1
    rw [View.read_writes_full, View.readAt_eq_ld, View.read_rep, View.ld_unit_zero zero4]
  have eG : scrG.view.writes (Elt F) scrG.view.junk (run_change_used.sl.HS0_1 arg5 wg) = k0_pay1 wg := (View.read_whole cc0_scratch0 _).symm.trans rG
  have rU : scrU.view.read (Elt F) (scrU.view.writes (Elt F) scrU.view.junk (run_change_used.sl.HS1_1 arg6 wu)) = k0_pay2 wu := by
    unfold run_change_used.sl.HS1_1
    rw [View.read_writes_full, View.readAt_eq_ld, View.read_rep, View.ld_unit_zero zero4]
  have eU : scrU.view.writes (Elt F) scrU.view.junk (run_change_used.sl.HS1_1 arg6 wu) = k0_pay2 wu := (View.read_whole cc0_scratch1 _).symm.trans rU
  rw [eG, eU]
  iapply Hk
  isplitl [H0 H1 H2 HT0 HT1 HS0 HS1]
  · isplitl [H0]; · iexact H0
    isplitl [H1]; · iexact H1
    isplitl [H2]; · iexact H2
    isplitl [HT0]; · iexact HT0
    isplitl [HT1]; · iexact HT1
    isplitl [HS0]; · iexact HS0
    iexact HS1
  iexists _; isplitr; swap
  · iexact HO
  · ipureintro
    unfold run_change_used.sl.HO_1
    rw [View.read_writes_full]
    unfold run_change_used.sl.v20 run_change_used.sl.v22
    unfold View.readCov
    rw [View.readAt_eq_ld, View.readAt_eq_ld, View.readAt_eq_ld, rG, rU, View.read_rep, View.ld_unit_zero zero2, View.ld_unit_zero zero2, View.ld_unit_zero zero2]

set_option backward.isDefEq.respectTransparency.types false in
set_option maxHeartbeats 8000000 in
/-- The narrowed blocks kept, the tile in use. -/
theorem run_keep_used (c : Dev nD) (i : grid0.Coords) (arg4 : Memref sig .tc .vmem S512x2048 .bf16) (harg4 : arg4.IsWhole)
    (arg5 : Memref sig .tc .vmem S1x1x2048x512 .f32) (harg5 : arg5.IsWhole) (arg6 : Memref sig .tc .vmem S1x1x2048x512 .f32) (harg6 : arg6.IsWhole)
    (arg7 : Memref sig .tc .vmem S512x512 .bf16) (harg7 : arg7.IsWhole)
    (T0 : S40.Idx → Elt F .i32) (T1 : S1.Idx → Elt F .i32) (x : Vec F S512x2048 .bf16) (wg wu : Vec F S1x1x2048x512 .f32)
    (S0 S1 : S2048x512.Idx → Elt F .bf16) (K : PUnit → sProp 𝕄)
    (hr : ¬ change i (got1 i T0) (got2 i T0) = 1#1) (h2 : k0_cond2 i (gotN T1) = 1#1) (h3 : ¬ k0_cond3 i (gotN T1) = 1#1) :
    iprop(Before c arg4 arg5 arg6 T0 T1 x wg wu S0 S1 ∗ (∃ d, owns (c : Thread nD τ) arg7 fullShare d)
        ∗ (iprop(Before c arg4 arg5 arg6 T0 T1 x wg wu (S0) (S1) ∗ owns (c : Thread nD τ) arg7 fullShare (k0_pay3 x (S0) (S1))) -∗ K ⟨⟩))
      ⊢ wp frame (wpE (defs₀ (F := F)) Variants.none c none) Set.univ
          (cc0_moe_in i tabE (Memref.isWhole_whole _) tabN (Memref.isWhole_whole _) arg4 harg4 arg5 harg5 arg6 harg6 arg7 harg7
            scrG (Memref.isWhole_whole _) scrU (Memref.isWhole_whole _)) K := by
  have hT0 : tabE.IsWhole := Memref.isWhole_whole _
  have hT1 : tabN.IsWhole := Memref.isWhole_whole _
  have hS0 : scrG.IsWhole := Memref.isWhole_whole _
  have hS1 : scrU.IsWhole := Memref.isWhole_whole _
  unfold Before owns
  rw [cc0_moe_in_eq_skeleton]; unfold cc0_moe_in_skel
  iintro ⟨⟨H0, H1, H2, HT0, HT1, HS0, HS1⟩, ⟨%d3, %f3, -, HO⟩, Hk⟩
  sl_exec! (disch := first | (guard_target = (k0_cond2 _ _ = _); exact h2) | (guard_target = ¬(k0_cond3 _ _ = _); exact h3) | exact hr)
  sl_step
  iapply Hk
  isplitl [H0 H1 H2 HT0 HT1 HS0 HS1]
  · isplitl [H0]; · iexact H0
    isplitl [H1]; · iexact H1
    isplitl [H2]; · iexact H2
    isplitl [HT0]; · iexact HT0
    isplitl [HT1]; · iexact HT1
    isplitl [HS0]; · iexact HS0
    iexact HS1
  iexists _; isplitr; swap
  · iexact HO
  · ipureintro
    unfold run_keep_used.sl.HO_1
    rw [View.read_writes_full]
    rw [View.readAt_eq_ld, View.readAt_eq_ld, View.readAt_eq_ld, View.read_rep, View.ld_unit_zero zero2, View.ld_unit_zero zero2, View.ld_unit_zero zero2]
    rfl

set_option backward.isDefEq.respectTransparency.types false in
set_option maxHeartbeats 8000000 in
/-- The weight blocks narrowed anew, the tile not in use. -/
theorem run_change_unused (c : Dev nD) (i : grid0.Coords) (arg4 : Memref sig .tc .vmem S512x2048 .bf16) (harg4 : arg4.IsWhole)
    (arg5 : Memref sig .tc .vmem S1x1x2048x512 .f32) (harg5 : arg5.IsWhole) (arg6 : Memref sig .tc .vmem S1x1x2048x512 .f32) (harg6 : arg6.IsWhole)
    (arg7 : Memref sig .tc .vmem S512x512 .bf16) (harg7 : arg7.IsWhole)
    (T0 : S40.Idx → Elt F .i32) (T1 : S1.Idx → Elt F .i32) (x : Vec F S512x2048 .bf16) (wg wu : Vec F S1x1x2048x512 .f32)
    (S0 S1 : S2048x512.Idx → Elt F .bf16) (K : PUnit → sProp 𝕄)
    (hr : change i (got1 i T0) (got2 i T0) = 1#1) (h2 : ¬ k0_cond2 i (gotN T1) = 1#1) (h3 : k0_cond3 i (gotN T1) = 1#1) :
    iprop(Before c arg4 arg5 arg6 T0 T1 x wg wu S0 S1 ∗ (∃ d, owns (c : Thread nD τ) arg7 fullShare d)
        ∗ (iprop(Before c arg4 arg5 arg6 T0 T1 x wg wu (k0_pay1 wg) (k0_pay2 wu) ∗ owns (c : Thread nD τ) arg7 fullShare (k0_pay4)) -∗ K ⟨⟩))
      ⊢ wp frame (wpE (defs₀ (F := F)) Variants.none c none) Set.univ
          (cc0_moe_in i tabE (Memref.isWhole_whole _) tabN (Memref.isWhole_whole _) arg4 harg4 arg5 harg5 arg6 harg6 arg7 harg7
            scrG (Memref.isWhole_whole _) scrU (Memref.isWhole_whole _)) K := by
  have hT0 : tabE.IsWhole := Memref.isWhole_whole _
  have hT1 : tabN.IsWhole := Memref.isWhole_whole _
  have hS0 : scrG.IsWhole := Memref.isWhole_whole _
  have hS1 : scrU.IsWhole := Memref.isWhole_whole _
  unfold Before owns
  rw [cc0_moe_in_eq_skeleton]; unfold cc0_moe_in_skel
  iintro ⟨⟨H0, H1, H2, HT0, HT1, HS0, HS1⟩, ⟨%d3, %f3, -, HO⟩, Hk⟩
  sl_exec! (disch := first | (guard_target = ¬(k0_cond2 _ _ = _); exact h2) | (guard_target = (k0_cond3 _ _ = _); exact h3) | exact hr)
  sl_step
  have rG : scrG.view.read (Elt F) (scrG.view.writes (Elt F) scrG.view.junk (run_change_unused.sl.HS0_1 arg5 wg)) = k0_pay1 wg := by
    unfold run_change_unused.sl.HS0_1
    rw [View.read_writes_full, View.readAt_eq_ld, View.read_rep, View.ld_unit_zero zero4]
  have eG : scrG.view.writes (Elt F) scrG.view.junk (run_change_unused.sl.HS0_1 arg5 wg) = k0_pay1 wg := (View.read_whole cc0_scratch0 _).symm.trans rG
  have rU : scrU.view.read (Elt F) (scrU.view.writes (Elt F) scrU.view.junk (run_change_unused.sl.HS1_1 arg6 wu)) = k0_pay2 wu := by
    unfold run_change_unused.sl.HS1_1
    rw [View.read_writes_full, View.readAt_eq_ld, View.read_rep, View.ld_unit_zero zero4]
  have eU : scrU.view.writes (Elt F) scrU.view.junk (run_change_unused.sl.HS1_1 arg6 wu) = k0_pay2 wu := (View.read_whole cc0_scratch1 _).symm.trans rU
  rw [eG, eU]
  iapply Hk
  isplitl [H0 H1 H2 HT0 HT1 HS0 HS1]
  · isplitl [H0]; · iexact H0
    isplitl [H1]; · iexact H1
    isplitl [H2]; · iexact H2
    isplitl [HT0]; · iexact HT0
    isplitl [HT1]; · iexact HT1
    isplitl [HS0]; · iexact HS0
    iexact HS1
  iexists _; isplitr; swap
  · iexact HO
  · ipureintro
    unfold run_change_unused.sl.HO_1
    rw [View.read_writes_full]

set_option backward.isDefEq.respectTransparency.types false in
set_option maxHeartbeats 8000000 in
/-- The narrowed blocks kept, the tile not in use. -/
theorem run_keep_unused (c : Dev nD) (i : grid0.Coords) (arg4 : Memref sig .tc .vmem S512x2048 .bf16) (harg4 : arg4.IsWhole)
    (arg5 : Memref sig .tc .vmem S1x1x2048x512 .f32) (harg5 : arg5.IsWhole) (arg6 : Memref sig .tc .vmem S1x1x2048x512 .f32) (harg6 : arg6.IsWhole)
    (arg7 : Memref sig .tc .vmem S512x512 .bf16) (harg7 : arg7.IsWhole)
    (T0 : S40.Idx → Elt F .i32) (T1 : S1.Idx → Elt F .i32) (x : Vec F S512x2048 .bf16) (wg wu : Vec F S1x1x2048x512 .f32)
    (S0 S1 : S2048x512.Idx → Elt F .bf16) (K : PUnit → sProp 𝕄)
    (hr : ¬ change i (got1 i T0) (got2 i T0) = 1#1) (h2 : ¬ k0_cond2 i (gotN T1) = 1#1) (h3 : k0_cond3 i (gotN T1) = 1#1) :
    iprop(Before c arg4 arg5 arg6 T0 T1 x wg wu S0 S1 ∗ (∃ d, owns (c : Thread nD τ) arg7 fullShare d)
        ∗ (iprop(Before c arg4 arg5 arg6 T0 T1 x wg wu (S0) (S1) ∗ owns (c : Thread nD τ) arg7 fullShare (k0_pay4)) -∗ K ⟨⟩))
      ⊢ wp frame (wpE (defs₀ (F := F)) Variants.none c none) Set.univ
          (cc0_moe_in i tabE (Memref.isWhole_whole _) tabN (Memref.isWhole_whole _) arg4 harg4 arg5 harg5 arg6 harg6 arg7 harg7
            scrG (Memref.isWhole_whole _) scrU (Memref.isWhole_whole _)) K := by
  have hT0 : tabE.IsWhole := Memref.isWhole_whole _
  have hT1 : tabN.IsWhole := Memref.isWhole_whole _
  have hS0 : scrG.IsWhole := Memref.isWhole_whole _
  have hS1 : scrU.IsWhole := Memref.isWhole_whole _
  unfold Before owns
  rw [cc0_moe_in_eq_skeleton]; unfold cc0_moe_in_skel
  iintro ⟨⟨H0, H1, H2, HT0, HT1, HS0, HS1⟩, ⟨%d3, %f3, -, HO⟩, Hk⟩
  sl_exec! (disch := first | (guard_target = ¬(k0_cond2 _ _ = _); exact h2) | (guard_target = (k0_cond3 _ _ = _); exact h3) | exact hr)
  sl_step
  iapply Hk
  isplitl [H0 H1 H2 HT0 HT1 HS0 HS1]
  · isplitl [H0]; · iexact H0
    isplitl [H1]; · iexact H1
    isplitl [H2]; · iexact H2
    isplitl [HT0]; · iexact HT0
    isplitl [HT1]; · iexact HT1
    isplitl [HS0]; · iexact HS0
    iexact HS1
  iexists _; isplitr; swap
  · iexact HO
  · ipureintro
    unfold run_keep_unused.sl.HO_1
    rw [View.read_writes_full]

/-- The body's run: from scratches that hold the narrowed blocks wherever it does not narrow them, it leaves them so, and the
    output's staging buffer at its block. -/
theorem body_run (c : Dev nD) (i : grid0.Coords) (arg4 : Memref sig .tc .vmem S512x2048 .bf16) (harg4 : arg4.IsWhole)
    (arg5 : Memref sig .tc .vmem S1x1x2048x512 .f32) (harg5 : arg5.IsWhole) (arg6 : Memref sig .tc .vmem S1x1x2048x512 .f32) (harg6 : arg6.IsWhole)
    (arg7 : Memref sig .tc .vmem S512x512 .bf16) (harg7 : arg7.IsWhole)
    (T0 : S40.Idx → Elt F .i32) (T1 : S1.Idx → Elt F .i32) (x : Vec F S512x2048 .bf16) (wg wu : Vec F S1x1x2048x512 .f32)
    (S0 S1 : S2048x512.Idx → Elt F .bf16) (K : PUnit → sProp 𝕄)
    (hS : ¬ (BitVec.ofNat 32 (i 1).val = 0#32 ∨ (T0 (entry (i 1)) : BitVec 32) ≠ T0 (entry (prev (i 1)))) → S0 = k0_pay1 wg ∧ S1 = k0_pay2 wu) :
    iprop(Before c arg4 arg5 arg6 T0 T1 x wg wu S0 S1 ∗ (∃ d, owns (c : Thread nD τ) arg7 fullShare d)
        ∗ (iprop(Before c arg4 arg5 arg6 T0 T1 x wg wu (k0_pay1 wg) (k0_pay2 wu)
            ∗ owns (c : Thread nD τ) arg7 fullShare (leaves i (T1 place) x wg wu)) -∗ K ⟨⟩))
      ⊢ wp frame (wpE (defs₀ (F := F)) Variants.none c none) Set.univ
          (cc0_moe_in i tabE (Memref.isWhole_whole _) tabN (Memref.isWhole_whole _) arg4 harg4 arg5 harg5 arg6 harg6 arg7 harg7
            scrG (Memref.isWhole_whole _) scrU (Memref.isWhole_whole _)) K := by
  unfold leaves Used
  by_cases hr : change i (got1 i T0) (got2 i T0) = 1#1 <;> by_cases hu : k0_cond2 i (gotN T1) = 1#1
  · have h3 : ¬ k0_cond3 i (gotN T1) = 1#1 := by rw [cond3_iff]; exact not_not.mpr hu
    rw [if_pos (by rw [← readCount T1]; exact hu)]
    exact run_change_used c i arg4 harg4 arg5 harg5 arg6 harg6 arg7 harg7 T0 T1 x wg wu S0 S1 K hr hu h3
  · have h3 : k0_cond3 i (gotN T1) = 1#1 := by rw [cond3_iff]; exact hu
    rw [if_neg (by rw [← readCount T1]; exact hu)]
    exact run_change_unused c i arg4 harg4 arg5 harg5 arg6 harg6 arg7 harg7 T0 T1 x wg wu S0 S1 K hr hu h3
  · have h3 : ¬ k0_cond3 i (gotN T1) = 1#1 := by rw [cond3_iff]; exact not_not.mpr hu
    rw [if_pos (by rw [← readCount T1]; exact hu)]
    obtain ⟨rfl, rfl⟩ := hS (fun h => hr (by rw [read1, read2]; exact (change_iff i _ _).mpr h))
    exact run_keep_used c i arg4 harg4 arg5 harg5 arg6 harg6 arg7 harg7 T0 T1 x wg wu _ _ K hr hu h3
  · have h3 : k0_cond3 i (gotN T1) = 1#1 := by rw [cond3_iff]; exact hu
    rw [if_neg (by rw [← readCount T1]; exact hu)]
    obtain ⟨rfl, rfl⟩ := hS (fun h => hr (by rw [read1, read2]; exact (change_iff i _ _).mpr h))
    exact run_keep_unused c i arg4 harg4 arg5 harg5 arg6 harg6 arg7 harg7 T0 T1 x wg wu _ _ K hr hu h3

end Cert.Proof.MoeIn

end
-- ==== Proof.MoeIn.Run.lean ====
/- The run of the expert layer's first product, over any float values and any two tables whose entries name experts: the
   program ends, its arguments unchanged and every counter at zero, and the result array holds what the write-backs of the
   grid's points leave. -/
module

public import proofs.«01_k».proof.Proof.MoeIn.Body
public import Idealize.ShloMosaic.Lib.Pipeline.Quiescent
public import Idealize.ShloMosaic.Lib.Pipeline.Frame
public import Idealize.ShloMosaic.Lib.Pipeline.TableIdle
public import Idealize.ShloMosaic.Lib.Claim
public import Idealize.ShloMosaic.Lib.ValueIdxCore
public import Idealize.ShloMosaic.Lib.MatmulPlain
public import Idealize.ShloMosaic.Lib.Pipeline.ValueKit
public import Idealize.ShloMosaic.Lib.Affine
public import Idealize.ShloMosaic.Adequacy
public import Idealize.ShloMosaic.Init

@[expose] public section

set_option maxRecDepth 16384
set_option Elab.async false

noncomputable section

namespace Cert.Proof.MoeIn

open Cert.KernelIdeal Cert.KernelIdeal.Gen
open Idealize.ShloMosaic hiding ix1 ix2 ix3 ix4 eq_ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-! ## The tables -/

theorem entry_eq (i : grid0.Coords) : (Rect.unit (s := S40) ![(Scalar.indexCast (BitVec.ofNat 32 (i 1).val) : Index).toNat] S1.size (k0_off1_inb i)).point numel1_S1
    = entry (i 1) := by
  funext a; apply Fin.ext
  match a with
  | ⟨0, _⟩ => exact off1_val (i 1)

theorem col_val : ∀ k : Fin 14, (BitVec.ofNat 32 k.val).toNat = k.val := by decide
theorem col_val2 : ∀ k : Fin 14, (Scalar.addi (BitVec.ofNat 32 k.val) 14#32).toNat = k.val + 14 := by decide

/-- The two weight windows' index maps: entry `i 1` of the tile table names the expert. -/
theorem gate_index (pf : pre0.Contents (Elt F)) (i : grid0.Coords) :
    cc0_transform_1 k0_off1_inb numel1_S1 pf i = ![0, (pf 0 (entry (i 1)) : BitVec 32).toNat, 0, (i 0).val] := by
  unfold cc0_transform_1
  show ![_, (pf 0 ((Rect.unit (s := S40) ![(Scalar.indexCast (BitVec.ofNat 32 (i 1).val) : Index).toNat] S1.size (k0_off1_inb i)).point numel1_S1) : BitVec 32).toNat, _, (BitVec.ofNat 32 (i 0).val).toNat] = _
  rw [entry_eq, col_val (i 0)]; rfl
theorem up_index (pf : pre0.Contents (Elt F)) (i : grid0.Coords) :
    cc0_transform_2 k0_off1_inb numel1_S1 pf i = ![0, (pf 0 (entry (i 1)) : BitVec 32).toNat, 0, (i 0).val + 14] := by
  unfold cc0_transform_2
  show ![_, (pf 0 ((Rect.unit (s := S40) ![(Scalar.indexCast (BitVec.ofNat 32 (i 1).val) : Index).toNat] S1.size (k0_off1_inb i)).point numel1_S1) : BitVec 32).toNat, _, (Scalar.addi (BitVec.ofNat 32 (i 0).val) 14#32).toNat] = _
  rw [entry_eq, col_val2 (i 0)]; rfl

/-- Tables whose entries name experts are admissible: every weight block is inside the weight array. -/
theorem ok_of_small (pf : pre0.Contents (Elt F)) (h : ∀ x : S40.Idx, (pf 0 x : BitVec 32).toNat < 8) : ok0 pf := by
  refine ⟨fun i => ⟨fun a => ?_, .inl rfl⟩, fun i => ⟨fun a => ?_, .inl rfl⟩⟩
  · have h0 : (i 0).val < 14 := (i 0).isLt
    have hi := h (entry (i 1))
    rw [gate_index]
    match a with
    | ⟨0, _⟩ => show (0 + 1) * 1 ≤ 2; omega
    | ⟨1, _⟩ => show ((pf 0 (entry (i 1)) : BitVec 32).toNat + 1) * 1 ≤ 8; omega
    | ⟨2, _⟩ => show (0 + 1) * 2048 ≤ 2048; omega
    | ⟨3, _⟩ => show ((i 0).val + 1) * 512 ≤ 14336; omega
  · have h0 : (i 0).val < 14 := (i 0).isLt
    have hi := h (entry (i 1))
    rw [up_index]
    match a with
    | ⟨0, _⟩ => show (0 + 1) * 1 ≤ 2; omega
    | ⟨1, _⟩ => show ((pf 0 (entry (i 1)) : BitVec 32).toNat + 1) * 1 ≤ 8; omega
    | ⟨2, _⟩ => show (0 + 1) * 2048 ≤ 2048; omega
    | ⟨3, _⟩ => show ((i 0).val + 14 + 1) * 512 ≤ 14336; omega

variable (a : (pcfg0 (F := F)).Adm)

/-- The pipeline at the tables `a`. -/
abbrev cfgA : Pipeline.Cfg sig Λ₀ := cfg0 (F := F) a
abbrev pcs : Fin 1 → Pipeline.Cfg sig Λ₀ := Pipeline.pin (pcfgs (F := F)) fun _ => a

/-- The count of row tiles in use. -/
abbrev count : BitVec 32 := a.1 1 place

/-- Point `t`'s coordinates and staging buffers. -/
abbrev crd (t : Fin (cfgA a).N) : grid0.Coords := (cfgA a).grid.coords t
abbrev ms0 (t : Fin (cfgA a).N) : Memref sig .tc .vmem S512x2048 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x1x2048x512 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x1x2048x512 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S512x512 .bf16 := spec0_3.stage ((cfgA a).slots t (3 : Fin 4))
abbrev hs3 (t : Fin (cfgA a).N) : (ms3 a t).IsWhole := hstage0_3 (((cfgA a).slots t (3 : Fin 4)).cast nbuf0_3)

/-- One of the body's two last conditions holds at every point, so the output is stored at every point. -/
theorem never_idle (t : Fin (cfgA a).N) : (cfgA a).idle (3 : Fin 4) ((cfgA a).grid.coords t) = false := by
  show (!(k0_cond2 (crd a t) (a.1.atD 1 ![0]) == 1#1) && !(k0_cond3 (crd a t) (a.1.atD 1 ![0]) == 1#1)) = false
  by_cases h : k0_cond2 (crd a t) (a.1.atD 1 ![0]) = 1#1
  · rw [h]; rfl
  · rw [(cond3_iff _ _).mpr h]; simp

variable (m : (ℓ : Loc nD τ sig) → Buf (Elt F) ℓ) (ρ : Dev nD → PrngReg)

/-- What the buffers hold when the grid is entered: the memory as given. -/
abbrev V (c : Dev nD) (b : Ref sig .tc) : Buf (Elt F) ((c : Thread nD τ).loc b) := m ((c : Thread nD τ).loc b)

/-- Window `w`'s block of its array at point `t`. -/
def iblk (c : Dev nD) (w : Fin (cfgA a).W) (t : Fin (cfgA a).N) : (((cfgA a).win w).xblock (crd a t)).Idx → Elt F ((cfgA a).win w).elt :=
  (((cfgA a).win w).blk t).view.read (Elt F) (V m c (Pipeline.arrRef spec0 w))

/-- The three inputs' blocks, at their shapes. -/
abbrev rows (c : Dev nD) (t : Fin (cfgA a).N) : Vec F S512x2048 .bf16 := iblk a m c (0 : Fin 4) t
abbrev gate (c : Dev nD) (t : Fin (cfgA a).N) : Vec F S1x1x2048x512 .f32 := iblk a m c (1 : Fin 4) t
abbrev up (c : Dev nD) (t : Fin (cfgA a).N) : Vec F S1x1x2048x512 .f32 := iblk a m c (2 : Fin 4) t

/-- A gate block and an up block, at an index. -/
theorem gate_apply (c : Dev nD) (t : Fin (cfgA a).N) (k : Fin 2048) (q : Fin 512)
    (he : (a.1 0 (entry (crd a t 1)) : BitVec 32).toNat < 8) (hq : (crd a t 0).val * 512 + q.val < 14336) :
    gate a m c t (ix4 (0 : Fin 1) (0 : Fin 1) k q)
      = V m c main_arg3 (ix4 (0 : Fin 2) ⟨(a.1 0 (entry (crd a t 1)) : BitVec 32).toNat, he⟩ k ⟨(crd a t 0).val * 512 + q.val, hq⟩) := by
  refine congrArg (V m c main_arg3) ?_
  have e := gate_index a.1 (crd a t)
  funext d; apply Fin.ext
  match d with
  | ⟨0, _⟩ => show cc0_transform_1 k0_off1_inb numel1_S1 a.1 (crd a t) 0 * 1 + 1 * 0 = 0; rw [e]; rfl
  | ⟨1, _⟩ => show cc0_transform_1 k0_off1_inb numel1_S1 a.1 (crd a t) 1 * 1 + 1 * 0 = _; rw [e]; show (a.1 0 (entry (crd a t 1)) : BitVec 32).toNat * 1 + 1 * 0 = (a.1 0 (entry (crd a t 1)) : BitVec 32).toNat; omega
  | ⟨2, _⟩ => show cc0_transform_1 k0_off1_inb numel1_S1 a.1 (crd a t) 2 * 2048 + 1 * k.val = k.val; rw [e]; show 0 * 2048 + 1 * k.val = k.val; omega
  | ⟨3, _⟩ => show cc0_transform_1 k0_off1_inb numel1_S1 a.1 (crd a t) 3 * 512 + 1 * q.val = _; rw [e]; show (crd a t 0).val * 512 + 1 * q.val = (crd a t 0).val * 512 + q.val; omega
theorem up_apply (c : Dev nD) (t : Fin (cfgA a).N) (k : Fin 2048) (q : Fin 512)
    (he : (a.1 0 (entry (crd a t 1)) : BitVec 32).toNat < 8) (hq : 7168 + ((crd a t 0).val * 512 + q.val) < 14336) :
    up a m c t (ix4 (0 : Fin 1) (0 : Fin 1) k q)
      = V m c main_arg3 (ix4 (0 : Fin 2) ⟨(a.1 0 (entry (crd a t 1)) : BitVec 32).toNat, he⟩ k ⟨7168 + ((crd a t 0).val * 512 + q.val), hq⟩) := by
  refine congrArg (V m c main_arg3) ?_
  have e := up_index a.1 (crd a t)
  funext d; apply Fin.ext
  match d with
  | ⟨0, _⟩ => show cc0_transform_2 k0_off1_inb numel1_S1 a.1 (crd a t) 0 * 1 + 1 * 0 = 0; rw [e]; rfl
  | ⟨1, _⟩ => show cc0_transform_2 k0_off1_inb numel1_S1 a.1 (crd a t) 1 * 1 + 1 * 0 = _; rw [e]; show (a.1 0 (entry (crd a t 1)) : BitVec 32).toNat * 1 + 1 * 0 = (a.1 0 (entry (crd a t 1)) : BitVec 32).toNat; omega
  | ⟨2, _⟩ => show cc0_transform_2 k0_off1_inb numel1_S1 a.1 (crd a t) 2 * 2048 + 1 * k.val = k.val; rw [e]; show 0 * 2048 + 1 * k.val = k.val; omega
  | ⟨3, _⟩ => show cc0_transform_2 k0_off1_inb numel1_S1 a.1 (crd a t) 3 * 512 + 1 * q.val = _; rw [e]; show ((crd a t 0).val + 14) * 512 + 1 * q.val = 7168 + ((crd a t 0).val * 512 + q.val); omega

/-- The point before one that is not at the first row tile. -/
theorem point_before : ∀ t : Fin grid0.N, (grid0.coords t 1).val ≠ 0 → ∃ t' : Fin grid0.N, t'.val + 1 = t.val
    ∧ (grid0.coords t' 0).val = (grid0.coords t 0).val ∧ (grid0.coords t' 1).val = (grid0.coords t 1).val - 1 := by decide +kernel

/-- Tables whose entries name experts. -/
abbrev Small : Prop := ∀ x : S40.Idx, (a.1 0 x : BitVec 32).toNat < 8

/-- Two points of one column block whose tiles have one expert read the same weight blocks. -/
theorem same_blocks (ha : Small a) (c : Dev nD) (t t' : Fin (cfgA a).N) (h0 : crd a t' 0 = crd a t 0)
    (h1 : (a.1 0 (entry (crd a t' 1)) : BitVec 32) = a.1 0 (entry (crd a t 1))) :
    gate a m c t' = gate a m c t ∧ up a m c t' = up a m c t := by
  have hc : (crd a t 0).val < 14 := (crd a t 0).isLt
  have hc' : (crd a t' 0).val < 14 := (crd a t' 0).isLt
  have ind (y : S1x1x2048x512.Idx) : ∃ (k : Fin 2048) (q : Fin 512), y = ix4 (0 : Fin 1) (0 : Fin 1) k q := ⟨y 2, y 3, by
    funext d
    match d with
    | ⟨0, _⟩ => exact Subsingleton.elim (α := Fin 1) _ _
    | ⟨1, _⟩ => exact Subsingleton.elim (α := Fin 1) _ _
    | ⟨2, _⟩ => rfl
    | ⟨3, _⟩ => rfl⟩
  constructor
  · funext y; obtain ⟨k, q, rfl⟩ := ind y
    have hq := q.isLt
    rw [gate_apply a m c t' k q (ha _) (by omega), gate_apply a m c t k q (ha _) (by omega)]
    refine congrArg (V m c main_arg3) ?_
    congr 1
    · exact Fin.ext (congrArg BitVec.toNat h1)
    · exact Fin.ext (by show (crd a t' 0).val * 512 + q.val = (crd a t 0).val * 512 + q.val; rw [h0])
  · funext y; obtain ⟨k, q, rfl⟩ := ind y
    have hq := q.isLt
    rw [up_apply a m c t' k q (ha _) (by omega), up_apply a m c t k q (ha _) (by omega)]
    refine congrArg (V m c main_arg3) ?_
    congr 1
    · exact Fin.ext (congrArg BitVec.toNat h1)
    · exact Fin.ext (by show 7168 + ((crd a t' 0).val * 512 + q.val) = 7168 + ((crd a t 0).val * 512 + q.val); rw [h0])

/-- What the output's staging buffer holds after point `t`. -/
def left (c : Dev nD) (t : Fin (cfgA a).N) : S512x512.Idx → Elt F .bf16 :=
  leaves (crd a t) (count a) (rows a m c t) (gate a m c t) (up a m c t)

/-- What the scratches hold before point `n`: after a point, its weight blocks narrowed. -/
def Holds (c : Dev nD) (n : ℕ) (S0 S1 : S2048x512.Idx → Elt F .bf16) : Prop :=
  ∀ t : Fin (cfgA a).N, t.val + 1 = n → S0 = k0_pay1 (gate a m c t) ∧ S1 = k0_pay2 (up a m c t)

/-- The invariant: the body's halves of the tables, the scratches, and the generator register. -/
def Inv (c : Dev nD) (n : ℕ) : sProp 𝕄 :=
  iprop(∃ S0, ∃ S1, ⌜Holds a m c n S0 S1⌝
    ∗ (tabE.view.loc (c : Thread nD τ) ↦{fullShare.right} a.1 0) ∗ (tabN.view.loc (c : Thread nD τ) ↦{fullShare.right} a.1 1)
    ∗ (scrG.view.loc (c : Thread nD τ) ↦{fullShare} S0) ∗ (scrU.view.loc (c : Thread nD τ) ↦{fullShare} S1)
    ∗ (∃ r, prngReg c r))

/-- The proof data of the one pipeline on core `c`. -/
def dats (_ : Fin 1) (c : Dev nD) : Dat τ (Elt F) Unit ℕ (UR sig nD τ) ℕ (cfgA a) c where
  A w := V m c (Pipeline.arrRef spec0 w)
  after w t := match w with
    | ⟨0, _⟩ => iblk a m c (0 : Fin 4) t
    | ⟨1, _⟩ => iblk a m c (1 : Fin 4) t
    | ⟨2, _⟩ => iblk a m c (2 : Fin 4) t
    | ⟨3, _⟩ => left a m c t
  Φ n := Inv a m c n.val
  q w := Pipeline.shareOf spec0 w
  owed _ := 0

theorem after0 (c : Dev nD) (t : Fin (cfgA a).N) : (dats a m 0 c).after (0 : Fin 4) t = iblk a m c (0 : Fin 4) t := rfl
theorem after1 (c : Dev nD) (t : Fin (cfgA a).N) : (dats a m 0 c).after (1 : Fin 4) t = iblk a m c (1 : Fin 4) t := rfl
theorem after2 (c : Dev nD) (t : Fin (cfgA a).N) : (dats a m 0 c).after (2 : Fin 4) t = iblk a m c (2 : Fin 4) t := rfl
theorem after3 (c : Dev nD) (t : Fin (cfgA a).N) : (dats a m 0 c).after (3 : Fin 4) t = left a m c t := rfl

theorem inv_eq (c : Dev nD) (n : Fin ((cfgA a).N + 1)) : (dats a m 0 c).Φ n = Inv a m c n.val := rfl

/-- When the body runs, an input's staging buffer holds the input's block. -/
theorem before0 (c : Dev nD) (t : Fin (cfgA a).N) (d) : (dats a m 0 c).before (0 : Fin 4) t d = iblk a m c (0 : Fin 4) t :=
  ((dats a m 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m 0 c).before (1 : Fin 4) t d = iblk a m c (1 : Fin 4) t :=
  ((dats a m 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a m 0 c).before (2 : Fin 4) t d = iblk a m c (2 : Fin 4) t :=
  ((dats a m 0 c).before_in_eq_fetched (2 : Fin 4) rfl (fun _ => rfl) (fun _ _ _ => rfl) (fun t => by rw [after2]; unfold Dat.blockOf iblk; rfl) t d).trans
    (by unfold Dat.fetched Dat.blockOf iblk; rfl)

/-! ## The body obligation -/

abbrev bodyAt (t : Fin (cfgA a).N) : Prog (TpuEff nD τ sig (Elt F) Λ₀ .tc) PUnit :=
  cc0_moe_in (crd a t) (Memref.whole main_arg0) (Memref.isWhole_whole _) (Memref.whole main_arg1) (Memref.isWhole_whole _)
    (ms0 a t) (hs0 a t) (ms1 a t) (hs1 a t) (ms2 a t) (hs2 a t) (ms3 a t) (hs3 a t)
    (Memref.whole cc0_scratch0) (Memref.isWhole_whole _) (Memref.whole cc0_scratch1) (Memref.isWhole_whole _)

/-- Where the body does not narrow the weight blocks, the scratches hold them narrowed already. -/
theorem kept (ha : Small a) (c : Dev nD) (t : Fin (cfgA a).N) (S0 S1 : S2048x512.Idx → Elt F .bf16) (h : Holds a m c t.val S0 S1)
    (hk : ¬ (BitVec.ofNat 32 (crd a t 1).val = 0#32 ∨ (a.1 0 (entry (crd a t 1)) : BitVec 32) ≠ a.1 0 (entry (prev (crd a t 1))))) :
    S0 = k0_pay1 (gate a m c t) ∧ S1 = k0_pay2 (up a m c t) := by
  rw [not_or, not_not] at hk
  obtain ⟨t', ht, h0, h1⟩ := point_before t (fun hz => hk.1 (by
    rw [show (crd a t 1).val = 0 from hz]))
  obtain ⟨e0, e1⟩ := h t' ht
  obtain ⟨eg, eu⟩ := same_blocks a m ha c t t' (Fin.ext h0) (by
    rw [show crd a t' 1 = prev (crd a t 1) from Fin.ext h1]; exact hk.2.symm)
  rw [eg] at e0; rw [eu] at e1
  exact ⟨e0, e1⟩

set_option backward.isDefEq.respectTransparency.types false in
set_option maxHeartbeats 4000000 in
theorem body_at (ha : Small a) (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 4) t d))
        ∗ (∃ d, owns (c : Thread nD τ) (ms1 a t) fullShare ((dats a m 0 c).before (1 : Fin 4) t d))
        ∗ (∃ d, owns (c : Thread nD τ) (ms2 a t) fullShare ((dats a m 0 c).before (2 : Fin 4) t d))
        ∗ (∃ d, owns (c : Thread nD τ) (ms3 a t) fullShare ((dats a m 0 c).before (3 : Fin 4) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0, never_idle]
  simp only [before0, before1, before2, after0, after1, after2, after3]
  rewrite [inv_eq, inv_eq, Fin.val_succ, Fin.val_castSucc,
    show (dats a m 0 c).owesAt () t.succ = (dats a m 0 c).owesAt () t.castSucc from rfl]
  unfold Inv left
  iintro ⟨⟨%S0, %S1, %hS, HT0, HT1, HS0, HS1, Hp⟩, Ho, ⟨%d0, H0⟩, ⟨%d1, H1⟩, ⟨%d2, H2⟩, ⟨%d3, H3⟩⟩
  iapply (body_run c (crd a t) (ms0 a t) (hs0 a t) (ms1 a t) (hs1 a t) (ms2 a t) (hs2 a t) (ms3 a t) (hs3 a t) (a.1 0) (a.1 1)
    (rows a m c t) (gate a m c t) (up a m c t) S0 S1 _ (kept a m ha c t S0 S1 hS))
  unfold Before
  isplitl [H0 H1 H2 HT0 HT1 HS0 HS1]
  · isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HS0]; · iexact HS0
    iexact HS1
  isplitl [H3]; · iexists _; iexact H3
  iintro ⟨⟨H0, H1, H2, HT0, HT1, HS0, HS1⟩, H3⟩
  isplitl [HT0 HT1 HS0 HS1 Hp]
  · iexists (k0_pay1 (gate a m c t))
    iexists (k0_pay2 (up a m c t))
    isplitr
    · ipureintro
      intro t' ht'
      obtain rfl : t' = t := Fin.ext (by omega)
      exact ⟨rfl, rfl⟩
    isplitl [HT0]; · iexact HT0
    isplitl [HT1]; · iexact HT1
    isplitl [HS0]; · iexact HS0
    isplitl [HS1]; · iexact HS1
    iexact Hp
  isplitl [Ho]; · iexact Ho
  isplitl [H0]
  · iapply owns_of_rep; iexact H0
  isplitl [H1]
  · iapply owns_of_rep; iexact H1
  isplitl [H2]
  · iapply owns_of_rep; iexact H2
  iexact H3

theorem body_obligation (ha : Small a) (c : Dev nD) : BodyObligation (dats a m 0 c) (defs₀ (F := F)) Variants.none () Set.univ := fun t => by
  rw [bigSep_W0]
  exact body_at a m ha c t

/-! ## The launch -/

/-- The tables as the launch hands them to the region, one by one. -/
theorem held_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) : iprop(Pipeline.ΦA (cfgA a).spec c ∗ Pipeline.ΦT pre0 a.1 c) ⊢ (dats a m 0 c).Φ 0 := by
  rw [show (dats a m 0 c).Φ 0 = Inv a m c 0 from rfl]
  unfold Pipeline.ΦA Pipeline.ΦT Inv
  rw [held_eq, scopedRest0_eq]
  iintro ⟨⟨⟨⟨%S0, HS0⟩, ⟨%S1, HS1⟩⟩, Hp⟩, HT0, HT1⟩
  iexists S0
  iexists S1
  isplitr
  · ipureintro
    exact fun t ht => absurd ht (Nat.succ_ne_zero _)
  isplitl [HT0]
  · iexact HT0
  isplitl [HT1]
  · iexact HT1
  isplitl [HS0]
  · iexact HS0
  isplitl [HS1]
  · iexact HS1
  iexact Hp

theorem leave (c : Dev nD) : (dats a m 0 c).Φ (Fin.last (cfgA a).N) ⊢ Pipeline.ΦA (cfgA a).spec c := by
  rw [show (dats a m 0 c).Φ (Fin.last (cfgA a).N) = Inv a m c (cfgA a).N from rfl]
  unfold Pipeline.ΦA Inv
  rw [scopedRest0_eq]
  iintro ⟨%S0, %S1, -, -, -, HS0, HS1, Hp⟩
  isplitl [HS0 HS1]
  · isplitl [HS0]
    · iexists S0; iexact HS0
    iexists S1; iexact HS1
  iexact Hp

set_option backward.isDefEq.respectTransparency.types false in
set_option maxHeartbeats 4000000 in
/-- The run from a memory that holds the tables `a`. -/
theorem run_at (ha : Small a) (ht : ∀ c : Dev nD, ∀ k, V m c (pre0.ref k) = a.1 k) :
    θ_run (defs (F := F)) (onTc (τ := τ) (main (F := F))) ⟨m, fun _ => 0, ρ⟩
      (fun r => Pipeline.FramePost (pcs a) (dats a m) 0 (V m) r ∧ r.2.sem = fun _ => 0) :=
  Pipeline.θ_run_frameP_track_shared pcfgs (fun _ => a) (dats a m) 0 launch₀0 defs₀ Variants.none m ρ main
    (fun c => (body_obligation a m ha c).loose) (fun _ _ _ => rfl) (fun _ _ => rfl) (V m)
    (Pipeline.hmainP_region pcfgs 0 defs₀ Variants.none m main (fun _ => rfl))
    (fun _ _ => rfl) ht (enter a m) (leave a m) (Q' := _)

end Cert.Proof.MoeIn

end
-- ==== Proof.MoeIn.Frame.lean ====
/- The run of the expert layer's first product from a memory whose tile table names experts, over any float values: the
   arguments end unchanged, the counters at zero, and the result is the array that the write-backs leave. -/
module

public import proofs.«01_k».proof.Proof.MoeIn.Run

@[expose] public section

noncomputable section

namespace Cert.Proof.MoeIn

open Cert.KernelIdeal Cert.KernelIdeal.Gen
open Idealize.ShloMosaic Idealize.ShloMosaic.TcCoe Idealize.ShloMosaic.Tactic
open Idealize.SL Idealize.SL.Sem

variable {F : FTy → Type} [FloatOps F] (m : (ℓ : Loc nD τ sig) → Buf (Elt F) ℓ) (ρ : Dev nD → PrngReg)

/-- Every entry of the tile table names an expert. -/
def Named : Prop := ∀ (c : Dev nD) (x : S40.Idx), (m ((c : Thread nD τ).loc main_arg0) x : BitVec 32).toNat < 8

/-- The tables read off the memory. -/
def tables (h : Named m) : (pcfg0 (F := F)).Adm :=
  ⟨fun k => m (((0 : Dev nD) : Thread nD τ).loc (pre0.ref k)), ok_of_small _ (fun x => h 0 x)⟩

theorem tables_eq (h : Named m) (c : Dev nD) (k : Fin 2) : V m c (pre0.ref k) = (tables m h).1 k := by
  obtain rfl : c = 0 := Subsingleton.elim _ _
  rfl

/-- The run, buffer by buffer. -/
theorem run_main (h : Named m) :
    θ_run (defs (F := F)) (onTc (τ := τ) (main (F := F))) ⟨m, fun _ => 0, ρ⟩ (fun r => (∀ c : Dev nD,
      r.2.mem ((c : Thread nD τ).loc main_v0) = (dats (tables m h) m 0 c).arrAt (3 : Fin 4) (cfgA (tables m h)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run (defs (F := F)) _ _).mono (fun r (hr : Pipeline.FramePost (pcs (tables m h)) (dats (tables m h) m) 0 (V m) r ∧ _) => ⟨fun c =>
      have rest (b : Ref sig .tc) (hb : b ∈ Pipeline.restRefs sig spec0) :
          r.2.mem ((c : Thread nD τ).loc b) = m ((c : Thread nD τ).loc b) := (hr.1 c).2 b hb
      have rows : r.2.mem ((c : Thread nD τ).loc main_arg2) = V m c main_arg2 :=
        Pipeline.FramePost.in_eq (p := (0 : Fin 1)) hr.1 c (0 : Fin 4) rfl
      have weight : r.2.mem ((c : Thread nD τ).loc main_arg3) = V m c main_arg3 :=
        Pipeline.FramePost.in_eq (p := (0 : Fin 1)) hr.1 c (1 : Fin 4) rfl
      ⟨(hr.1 c).1 (3 : Fin 4), rest main_arg0 (by decide), rest main_arg1 (by decide), rows, weight⟩, hr.2⟩)
    (run_at (tables m h) m ρ (fun x => h 0 x) (tables_eq m h))

end Cert.Proof.MoeIn

end
-- ==== Proof.MoeIn.Value.lean ====
/- The expert layer's first product over the extended reals: the result array is the gated product of each row by its tile's
   expert's weight where the tile is in use, and zero elsewhere. -/
module

public import proofs.«01_k».proof.Proof.MoeIn.Frame
public import Idealize.ShloMosaic.Lib.MatmulPlain
public import Idealize.ShloMosaic.PureOps.Ideal
public import Idealize.ShloMosaic.Lib.IdealHost

@[expose] public section

set_option maxRecDepth 16384

noncomputable section

namespace Cert.Proof.MoeIn

open Cert.KernelIdeal Cert.KernelIdeal.Gen
open Idealize.ShloMosaic hiding ix1 ix2 ix3 ix4 eq_ix2
open Idealize.ShloMosaic.TcCoe Idealize.ShloMosaic.ValueIdx
open Idealize.SL Idealize.SL.Sem
open scoped BigOperators

/-- The row tile of row `r`. -/
def tile (r : Fin 20480) : Fin 40 := ⟨r.val / 512, by omega⟩

/-- The expert that the table names for row `r` (a table's entries are below 8; the remainder makes it an index). -/
def expert (te : S40.Idx → BitVec 32) (r : Fin 20480) : Fin 8 := ⟨(te (entry (tile r))).toNat % 8, Nat.mod_lt _ (by decide)⟩

theorem expert_of (te : S40.Idx → BitVec 32) (r : Fin 20480) (k : Fin 40) (hk : tile r = k) (he : (te (entry k)).toNat < 8) :
    expert te r = ⟨(te (entry k)).toNat, he⟩ := by
  subst hk; exact Fin.ext (Nat.mod_eq_of_lt he)

/-- Row `r` times a column of expert `e`'s weight: the first half's columns are the gates, the second half's the values. -/
def gateOf (x : S20480x2048.Idx → EReal) (w : S2x8x2048x14336.Idx → EReal) (r : Fin 20480) (c : Fin 7168) (e : Fin 8) : EReal :=
  ∑ k : Fin 2048, x (ix2 r k) * w (ix4 (0 : Fin 2) e k ⟨c.val, by omega⟩)
def upOf (x : S20480x2048.Idx → EReal) (w : S2x8x2048x14336.Idx → EReal) (r : Fin 20480) (c : Fin 7168) (e : Fin 8) : EReal :=
  ∑ k : Fin 2048, x (ix2 r k) * w (ix4 (0 : Fin 2) e k ⟨7168 + c.val, by omega⟩)

/-- The gate, times its logistic value, times the value. -/
def gated (g u : EReal) : EReal := g * Ideal.logistic g * u

/-- The result at a row and a column. -/
def entryAt (te : S40.Idx → BitVec 32) (n : BitVec 32) (x : S20480x2048.Idx → EReal) (w : S2x8x2048x14336.Idx → EReal)
    (r : Fin 20480) (c : Fin 7168) : EReal :=
  if (BitVec.ofNat 32 (tile r).val).slt n then gated (gateOf x w r c (expert te r)) (upOf x w r c (expert te r)) else 0

/-- The result array as one function of the arguments. -/
def G (te : S40.Idx → BitVec 32) (n : BitVec 32) (x : S20480x2048.Idx → EReal) (w : S2x8x2048x14336.Idx → EReal) :
    S20480x7168.Idx → EReal := fun y => entryAt te n x w (y 0) (y 1)

/-- The body's condition, read. -/
theorem used_iff (i : grid0.Coords) (n : BitVec 32) : Used i n ↔ (BitVec.ofNat 32 (i 1).val).slt n = true := by
  unfold Used k0_cond2
  simp only [Scalar.cmpi, Scalar.extui, IntOp.cmpi]
  generalize (BitVec.ofNat 32 (i 1).val).slt n = b
  cases b <;> decide

/-- A weight block as the scratch holds it, at an index. -/
theorem narrowed_apply (w : Vec Ideal S1x1x2048x512 .f32) (k : Fin 2048) (c : Fin 512) :
    k0_pay1 (F := Ideal) w (ix2 k c) = w (ix4 (0 : Fin 1) (0 : Fin 1) k c) := by
  unfold k0_pay1
  refine (shapeCast_apply _ shapeCasts_S2048x512_S2048x512 (ix2 k c) (ix2 k c) rfl).trans ?_
  exact shapeCast_apply w shapeCasts_S1x1x2048x512_S2048x512 (ix2 k c) (ix4 (0 : Fin 1) (0 : Fin 1) k c) (by
    rw [Shape.rowMajor_val_four, Shape.rowMajor_val_two]
    show ((0 * 1 + 0) * 2048 + k.val) * 512 + c.val = k.val * 512 + c.val
    omega)
theorem narrowed_eq (w : Vec Ideal S1x1x2048x512 .f32) : k0_pay2 (F := Ideal) w = k0_pay1 w := rfl

/-- A block of rows times a narrowed weight block, at an index. -/
theorem product_apply (x : Vec Ideal S512x2048 .bf16) (w : Vec Ideal S1x1x2048x512 .f32) (r c : Fin 512) :
    matmul (F := Ideal) (φ₁ := .bf16) (φ₂ := .bf16) dot_S512x2048_S2048x512_S512x512_1_0_0_1_n_n none x (k0_pay1 w) (constant S512x512 .f32 0x00000000#32) (ix2 r c)
      = (∑ k : Fin 2048, x (ix2 r k) * w (ix4 (0 : Fin 1) (0 : Fin 1) k c) : EReal) := by
  refine (Ideal.matmul_plain_apply (M := 512) (K := 2048) (N := 512) none _ _ _ r c).trans ?_
  rw [show (constant (F := Ideal) S512x512 .f32 0x00000000#32) (ix2 r c) = (0 : EReal) from Ideal.ofBits_zero_f32, zero_add]
  exact Finset.sum_congr rfl fun k _ => congrArg (x (ix2 r k) * ·) (narrowed_apply w k c)

/-- What the body leaves, at an index. -/
theorem leaves_apply (i : grid0.Coords) (n : BitVec 32) (x : Vec Ideal S512x2048 .bf16) (wg wu : Vec Ideal S1x1x2048x512 .f32)
    (r c : Fin 512) :
    leaves (F := Ideal) i n x wg wu (ix2 r c)
      = if (BitVec.ofNat 32 (i 1).val).slt n then gated (∑ k : Fin 2048, x (ix2 r k) * wg (ix4 (0 : Fin 1) (0 : Fin 1) k c))
          (∑ k : Fin 2048, x (ix2 r k) * wu (ix4 (0 : Fin 1) (0 : Fin 1) k c)) else (0 : EReal) := by
  unfold leaves
  by_cases h : Used i n
  · rw [if_pos h, if_pos ((used_iff i n).mp h), ← product_apply, ← product_apply, narrowed_eq]
    rfl
  · rw [if_neg h, if_neg (fun hc => h ((used_iff i n).mpr hc))]
    exact Ideal.ofBits_zero_bf16

variable (m : (ℓ : Loc nD τ sig) → Buf (Elt Ideal) ℓ) (ρ : Dev nD → PrngReg) (h : Named m)

section Blocks

variable (a : (pcfg0 (F := Ideal)).Adm)

theorem index0 : ∀ t : Fin grid0.N, cc0_transform_0 (grid0.coords t) = ![(grid0.coords t 1).val, 0] := by decide +kernel
theorem index3 : ∀ t : Fin grid0.N, cc0_transform_3 (grid0.coords t) = ![(grid0.coords t 1).val, (grid0.coords t 0).val] := by decide +kernel

/-- A block of rows, at an index. -/
theorem rows_apply (c : Dev nD) (t : Fin (cfgA a).N) (r : Fin 512) (k : Fin 2048) (hr : (crd a t 1).val * 512 + r.val < 20480) :
    rows a m c t (ix2 r k) = V m c main_arg2 (ix2 ⟨(crd a t 1).val * 512 + r.val, hr⟩ k) := by
  refine congrArg (V m c main_arg2) ?_
  have e := index0 t
  funext d; apply Fin.ext
  match d with
  | ⟨0, _⟩ => show cc0_transform_0 (grid0.coords t) 0 * 512 + 1 * r.val = _; rw [e]; show (grid0.coords t 1).val * 512 + 1 * r.val = (grid0.coords t 1).val * 512 + r.val; omega
  | ⟨1, _⟩ => show cc0_transform_0 (grid0.coords t) 1 * 2048 + 1 * k.val = _; rw [e]; show 0 * 2048 + 1 * k.val = k.val; omega

/-- The place of a result block's index in the array. -/
theorem emb3 (t : Fin (cfgA a).N) (r q : Fin 512) (hr : (crd a t 1).val * 512 + r.val < 20480) (hq : (crd a t 0).val * 512 + q.val < 7168) :
    (((cfgA a).win (3 : Fin 4)).blk t).view.emb (ix2 r q) = ix2 ⟨(crd a t 1).val * 512 + r.val, hr⟩ ⟨(crd a t 0).val * 512 + q.val, hq⟩ := by
  have e := index3 t
  funext d; apply Fin.ext
  match d with
  | ⟨0, _⟩ => show cc0_transform_3 (grid0.coords t) 0 * 512 + 1 * r.val = _; rw [e]; show (grid0.coords t 1).val * 512 + 1 * r.val = (grid0.coords t 1).val * 512 + r.val; omega
  | ⟨1, _⟩ => show cc0_transform_3 (grid0.coords t) 1 * 512 + 1 * q.val = _; rw [e]; show (grid0.coords t 0).val * 512 + 1 * q.val = (grid0.coords t 0).val * 512 + q.val; omega

/-- Every point writes its block back: the next point's block is another. -/
theorem flushes : ∀ t : Fin grid0.N, Pipeline.Window.flushOf grid0 true cc0_transform_3 t = true := by decide +kernel

/-- Every pair of a row tile and a column block is a point's. -/
theorem onto : ∀ (i : Fin 40) (j : Fin 14), ∃ t : Fin grid0.N, (grid0.coords t 1).val = i.val ∧ (grid0.coords t 0).val = j.val := by decide +kernel

/-- The result's blocks cover it. -/
theorem cover (y : S20480x7168.Idx) : ∃ t : Fin (cfgA a).N, ((cfgA a).win (3 : Fin 4)).flush t = true
    ∧ y ∈ (((cfgA a).win (3 : Fin 4)).blk t).view.set := by
  have h0 : (y 0).val < 20480 := (y 0).isLt
  have h1 : (y 1).val < 7168 := (y 1).isLt
  obtain ⟨t, e1, e0⟩ := onto ⟨(y 0).val / 512, by omega⟩ ⟨(y 1).val / 512, by omega⟩
  have e1' : (grid0.coords t 1).val = (y 0).val / 512 := e1
  have e0' : (grid0.coords t 0).val = (y 1).val / 512 := e0
  have hr : (crd a t 1).val * 512 + (y 0).val % 512 < 20480 := by show (grid0.coords t 1).val * 512 + _ < _; omega
  have hq : (crd a t 0).val * 512 + (y 1).val % 512 < 7168 := by show (grid0.coords t 0).val * 512 + _ < _; omega
  refine ⟨t, flushes t, ?_⟩
  have he := emb3 a t ⟨(y 0).val % 512, by omega⟩ ⟨(y 1).val % 512, by omega⟩ hr hq
  have hy : y = ix2 ⟨(crd a t 1).val * 512 + (y 0).val % 512, hr⟩ ⟨(crd a t 0).val * 512 + (y 1).val % 512, hq⟩ := by
    funext d; apply Fin.ext
    match d with
    | ⟨0, _⟩ => show (y 0).val = (grid0.coords t 1).val * 512 + (y 0).val % 512; omega
    | ⟨1, _⟩ => show (y 1).val = (grid0.coords t 0).val * 512 + (y 1).val % 512; omega
  rw [hy, ← he]
  exact View.emb_mem_set _ _

/-- The array after the write-backs, for tables `a` that name experts. -/
theorem final (ha : Small a) (c : Dev nD) :
    (dats a m 0 c).arrAt (3 : Fin 4) (cfgA a).N = G (a.1 0) (count a) (V m c main_arg2) (V m c main_arg3) := by
  refine (dats a m 0 c).arrAt_eq_of_emb (3 : Fin 4) _ (fun t _ y => ?_) (cover a)
  obtain ⟨r, q, rfl⟩ : ∃ r q : Fin 512, y = ix2 r q := ⟨y 0, y 1, eq_ix2 y⟩
  have h1 : (grid0.coords t 1).val < 40 := (grid0.coords t 1).isLt
  have h0 : (grid0.coords t 0).val < 14 := (grid0.coords t 0).isLt
  have hq' := q.isLt
  have hr : (crd a t 1).val * 512 + r.val < 20480 := by show (grid0.coords t 1).val * 512 + _ < _; have := r.isLt; omega
  have hq : (crd a t 0).val * 512 + q.val < 7168 := by show (grid0.coords t 0).val * 512 + _ < _; omega
  have hg : (crd a t 0).val * 512 + q.val < 14336 := by omega
  have hu : 7168 + ((crd a t 0).val * 512 + q.val) < 14336 := by omega
  refine Eq.trans ?_ (congrArg (G _ _ _ _) (emb3 a t r q hr hq)).symm
  show leaves (F := Ideal) (crd a t) (count a) (rows a m c t) (gate a m c t) (up a m c t) (ix2 r q)
    = entryAt (a.1 0) (count a) (V m c main_arg2) (V m c main_arg3) ⟨(crd a t 1).val * 512 + r.val, hr⟩ ⟨(crd a t 0).val * 512 + q.val, hq⟩
  rw [leaves_apply]
  have ht : tile ⟨(crd a t 1).val * 512 + r.val, hr⟩ = (crd a t 1) := Fin.ext (by
    show ((crd a t 1).val * 512 + r.val) / 512 = (crd a t 1).val; have := r.isLt; omega)
  unfold entryAt gateOf upOf
  rw [ht, expert_of (a.1 0) _ _ ht (ha _)]
  refine if_congr Iff.rfl (congrArg₂ gated (Finset.sum_congr rfl fun k _ => ?_) (Finset.sum_congr rfl fun k _ => ?_)) rfl
  · rw [rows_apply m a c t r k hr, gate_apply a m c t k q (ha _) hg]
  · rw [rows_apply m a c t r k hr, up_apply a m c t k q (ha _) hu]

end Blocks

/-- The result's value after the run, as a function of the arguments. -/
theorem value (c : Dev nD) : (dats (tables m h) m 0 c).arrAt (3 : Fin 4) (cfgA (tables m h)).N
    = G (m ((c : Thread nD τ).loc main_arg0)) (m ((c : Thread nD τ).loc main_arg1) place) (m ((c : Thread nD τ).loc main_arg2))
        (m ((c : Thread nD τ).loc main_arg3)) := by
  rw [final m (tables m h) (fun x => h 0 x) c]
  obtain rfl : c = 0 := Subsingleton.elim _ _
  rfl

end Cert.Proof.MoeIn

end
-- ==== Proof.Tables.lean ====
/- The tile table's entries: the precondition makes each the number of one of the eight experts, and a choice among eight
   values by comparing an entry with each number is the value at that number. -/
module

public import proofs.«01_k».proof.Pre_experts
public import proofs.«01_k».proof.Pre_experts2
public import Idealize.ShloMosaic.PureOps
public import Mathlib.Tactic.NormNum
public import Mathlib.Tactic.FinCases

@[expose] public section

namespace Cert.Proof

open Idealize.ShloMosaic

theorem ofBool_one (b : Bool) : BitVec.ofBool b = 1#1 ↔ b = true := by cases b <;> decide

/-- A word that lies between 0 and 7 as a signed number is below 8 as a natural number. -/
theorem word_lt (a : BitVec 32) (h : IntOp.cmpi .sge a 0#32 = 1#1 ∧ IntOp.cmpi .slt a 8#32 = 1#1) : a.toNat < 8 := by
  have h1 := h.1; have h2 := h.2
  simp only [IntOp.cmpi] at h1 h2
  rw [ofBool_one] at h1 h2
  simp only [BitVec.sle, BitVec.slt, decide_eq_true_eq, BitVec.toInt] at h1 h2
  have := a.isLt
  norm_num at h1 h2
  split at h1 <;> split at h2 <;> omega

variable {F : FTy → Type} [FloatOps F]

theorem lt_of_experts [Cert.Pre_experts.Facts] (te : IVec Cert.Pre_experts.S40 32) (n x w)
    (h : Cert.Pre_experts.fn (F := F) te n x w = fun _ => 1#1) (y : Cert.Pre_experts.S40.Idx) : (te y).toNat < 8 := by
  have h' := congrFun h y
  simp only [Cert.Pre_experts.fn, andi, cmpi, broadcastInDim, constantI] at h'
  exact word_lt _ (by revert h'; generalize IntOp.cmpi .sge (te y) 0#32 = p; generalize IntOp.cmpi .slt (te y) 8#32 = q; revert p q; decide)

theorem lt_of_experts2 [Cert.Pre_experts2.Facts] (te : IVec Cert.Pre_experts2.S40 32) (n x w)
    (h : Cert.Pre_experts2.fn (F := F) te n x w = fun _ => 1#1) (y : Cert.Pre_experts2.S40.Idx) : (te y).toNat < 8 := by
  have h' := congrFun h y
  simp only [Cert.Pre_experts2.fn, andi, cmpi, broadcastInDim, constantI] at h'
  exact word_lt _ (by revert h'; generalize IntOp.cmpi .sge (te y) 0#32 = p; generalize IntOp.cmpi .slt (te y) 8#32 = q; revert p q; decide)

/-- Eight values, the one whose number `p` is chosen by eight comparisons. -/
theorem pick {α : Type} (p : BitVec 32) (hp : p.toNat < 8) (d : Fin 8 → α) (z : α) :
    Scalar.select (IntOp.cmpi .eq p 7#32) (d 7) (Scalar.select (IntOp.cmpi .eq p 6#32) (d 6)
      (Scalar.select (IntOp.cmpi .eq p 5#32) (d 5) (Scalar.select (IntOp.cmpi .eq p 4#32) (d 4)
      (Scalar.select (IntOp.cmpi .eq p 3#32) (d 3) (Scalar.select (IntOp.cmpi .eq p 2#32) (d 2)
      (Scalar.select (IntOp.cmpi .eq p 1#32) (d 1) (Scalar.select (IntOp.cmpi .eq p 0#32) (d 0) z))))))) = d ⟨p.toNat, hp⟩ := by
  obtain ⟨k, rfl⟩ : ∃ k : Fin 8, p = BitVec.ofNat 32 k.val :=
    ⟨⟨p.toNat, hp⟩, BitVec.eq_of_toNat_eq (by rw [BitVec.toNat_ofNat, Nat.mod_eq_of_lt p.isLt])⟩
  fin_cases k <;> rfl

/-- A value kept where a comparison, carried as the numbers 0 and 1, holds. -/
theorem keep {α : Type} (a n : BitVec 32) (x z : α) :
    Scalar.select (IntOp.cmpi .eq ((IntOp.cmpi .slt a n).setWidth 32) 1#32) x z = if a.slt n then x else z := by
  simp only [IntOp.cmpi]
  cases a.slt n <;> rfl

end Cert.Proof
-- ==== Proof.MoeIn.Reference.lean ====
/- The reference of the expert layer's first product over the extended reals, read at an index: the gated product of the row
   by the weight of its tile's expert where the tile is in use, zero elsewhere. -/
module

public import proofs.«01_k».proof.Proof.Gen.ReferenceIdeal.Read
public import proofs.«01_k».proof.Proof.MoeIn.Value
public import proofs.«01_k».proof.Proof.Tables

@[expose] public section

set_option maxRecDepth 16384

noncomputable section

namespace Cert.Proof.MoeIn

open Cert.ReferenceIdeal Cert.ReferenceIdeal.Read
open Idealize.ShloMosaic hiding ix1 ix2 ix3 ix4 eq_ix2
open Idealize.ShloMosaic.ValueIdx
open scoped BigOperators

theorem row_of (k : Fin 2048) (c : ℕ) (hc : c < 14336) : (k.val * 14336 + c) / 14336 % 2048 = k.val := by
  have := k.isLt; omega

theorem col_of (k : Fin 2048) (c : ℕ) (hc : c < 14336) : (k.val * 14336 + c) % 14336 = c := by
  have := k.isLt; omega

theorem ext2 {n0 n1 : ℕ} {i j : (⟨2, ![n0, n1]⟩ : Shape).Idx} (h0 : (i 0).val = (j 0).val) (h1 : (i 1).val = (j 1).val) : i = j :=
  funext fun d => Fin.ext (by match d with | ⟨0, _⟩ => exact h0 | ⟨1, _⟩ => exact h1)

theorem ext4 {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j :=
  funext fun d => Fin.ext (by match d with | ⟨0, _⟩ => exact h0 | ⟨1, _⟩ => exact h1 | ⟨2, _⟩ => exact h2 | ⟨3, _⟩ => exact h3)

/-- The host's gate, spelled by negation, exponential, sum and quotient, is the gate by the logistic function. -/
theorem gated_host (g u : EReal) :
    FloatOps.mulf (F := Ideal) (φ := .f32) (FloatOps.mulf (F := Ideal) (φ := .f32) g (FloatOps.hostDivf (F := Ideal) (φ := .f32)
      (FloatOps.ofBits (F := Ideal) .f32 0x3F800000#32) (FloatOps.addf (F := Ideal) (φ := .f32) (FloatOps.ofBits (F := Ideal) .f32 0x3F800000#32)
        (FloatOps.hostUnary (F := Ideal) (φ := .f32) .exp (FloatOps.hostNegf (F := Ideal) (φ := .f32) g))))) u = gated g u := by
  rw [show (FloatOps.ofBits (F := Ideal) .f32 0x3F800000#32) = (1 : EReal) from Ideal.ofBits_one_f32]
  rfl

theorem product0 (x : S20480x2048.Idx → EReal) (w : S2x8x2048x14336.Idx → EReal) (r : Fin 20480) (c : Fin 14336) :
    val_main_v14 (F := Ideal) x w (ix2 r c) = ∑ k : Fin 2048, x (ix2 r k) * w (ix4 (0 : Fin 2) 0 k c) := by
  rw [val_main_v14_apply]
  refine Finset.sum_congr rfl fun k _ => ?_
  rw [val_main_v13_apply, val_main_v12_apply, val_main_v10_apply]
  exact congrArg₂ (· * ·) (congrArg x (ext2 rfl rfl)) (congrArg w (ext4 rfl rfl (row_of k c.val c.isLt) (col_of k c.val c.isLt)))

theorem act0 (x : S20480x2048.Idx → EReal) (w : S2x8x2048x14336.Idx → EReal) (r : Fin 20480) (c : Fin 7168) :
    val_main_v20 (F := Ideal) x w (ix2 r c) = gated (gateOf x w r c 0) (upOf x w r c 0) := by
  have hg : val_main_v15 (F := Ideal) x w (ix2 r c) = gateOf x w r c 0 := by
    rw [val_main_v15_apply, show idx_main_v15 (ix2 r c) = ix2 r (⟨c.val, by omega⟩ : Fin 14336) from ext2 rfl rfl, product0]; rfl
  have hu : val_main_v16 (F := Ideal) x w (ix2 r c) = upOf x w r c 0 := by
    rw [val_main_v16_apply, show idx_main_v16 (ix2 r c) = ix2 r (⟨7168 + c.val, by omega⟩ : Fin 14336) from ext2 rfl rfl, product0]; rfl
  rw [val_main_v20_apply, val_main_v19_apply, val_main_call0_v5_apply, val_main_call0_v4_apply, val_main_call0_cst_0_apply, val_main_call0_v3_apply,
    val_main_call0_v2_apply, val_main_call0_cst_apply, val_main_call0_v1_apply, val_main_call0_v0_apply, hg, hu]
  exact gated_host _ _

theorem product1 (x : S20480x2048.Idx → EReal) (w : S2x8x2048x14336.Idx → EReal) (r : Fin 20480) (c : Fin 14336) :
    val_main_v24 (F := Ideal) x w (ix2 r c) = ∑ k : Fin 2048, x (ix2 r k) * w (ix4 (0 : Fin 2) 1 k c) := by
  rw [val_main_v24_apply]
  refine Finset.sum_congr rfl fun k _ => ?_
  rw [val_main_v23_apply, val_main_v22_apply, val_main_v10_apply]
  exact congrArg₂ (· * ·) (congrArg x (ext2 rfl rfl)) (congrArg w (ext4 rfl rfl (row_of k c.val c.isLt) (col_of k c.val c.isLt)))

theorem act1 (x : S20480x2048.Idx → EReal) (w : S2x8x2048x14336.Idx → EReal) (r : Fin 20480) (c : Fin 7168) :
    val_main_v30 (F := Ideal) x w (ix2 r c) = gated (gateOf x w r c 1) (upOf x w r c 1) := by
  have hg : val_main_v25 (F := Ideal) x w (ix2 r c) = gateOf x w r c 1 := by
    rw [val_main_v25_apply, show idx_main_v25 (ix2 r c) = ix2 r (⟨c.val, by omega⟩ : Fin 14336) from ext2 rfl rfl, product1]; rfl
  have hu : val_main_v26 (F := Ideal) x w (ix2 r c) = upOf x w r c 1 := by
    rw [val_main_v26_apply, show idx_main_v26 (ix2 r c) = ix2 r (⟨7168 + c.val, by omega⟩ : Fin 14336) from ext2 rfl rfl, product1]; rfl
  rw [val_main_v30_apply, val_main_v29_apply, val_main_call2_v5_apply, val_main_call2_v4_apply, val_main_call2_cst_0_apply, val_main_call2_v3_apply,
    val_main_call2_v2_apply, val_main_call2_cst_apply, val_main_call2_v1_apply, val_main_call2_v0_apply, hg, hu]
  exact gated_host _ _

theorem product2 (x : S20480x2048.Idx → EReal) (w : S2x8x2048x14336.Idx → EReal) (r : Fin 20480) (c : Fin 14336) :
    val_main_v34 (F := Ideal) x w (ix2 r c) = ∑ k : Fin 2048, x (ix2 r k) * w (ix4 (0 : Fin 2) 2 k c) := by
  rw [val_main_v34_apply]
  refine Finset.sum_congr rfl fun k _ => ?_
  rw [val_main_v33_apply, val_main_v32_apply, val_main_v10_apply]
  exact congrArg₂ (· * ·) (congrArg x (ext2 rfl rfl)) (congrArg w (ext4 rfl rfl (row_of k c.val c.isLt) (col_of k c.val c.isLt)))

theorem act2 (x : S20480x2048.Idx → EReal) (w : S2x8x2048x14336.Idx → EReal) (r : Fin 20480) (c : Fin 7168) :
    val_main_v40 (F := Ideal) x w (ix2 r c) = gated (gateOf x w r c 2) (upOf x w r c 2) := by
  have hg : val_main_v35 (F := Ideal) x w (ix2 r c) = gateOf x w r c 2 := by
    rw [val_main_v35_apply, show idx_main_v35 (ix2 r c) = ix2 r (⟨c.val, by omega⟩ : Fin 14336) from ext2 rfl rfl, product2]; rfl
  have hu : val_main_v36 (F := Ideal) x w (ix2 r c) = upOf x w r c 2 := by
    rw [val_main_v36_apply, show idx_main_v36 (ix2 r c) = ix2 r (⟨7168 + c.val, by omega⟩ : Fin 14336) from ext2 rfl rfl, product2]; rfl
  rw [val_main_v40_apply, val_main_v39_apply, val_main_call4_v5_apply, val_main_call4_v4_apply, val_main_call4_cst_0_apply, val_main_call4_v3_apply,
    val_main_call4_v2_apply, val_main_call4_cst_apply, val_main_call4_v1_apply, val_main_call4_v0_apply, hg, hu]
  exact gated_host _ _

theorem product3 (x : S20480x2048.Idx → EReal) (w : S2x8x2048x14336.Idx → EReal) (r : Fin 20480) (c : Fin 14336) :
    val_main_v44 (F := Ideal) x w (ix2 r c) = ∑ k : Fin 2048, x (ix2 r k) * w (ix4 (0 : Fin 2) 3 k c) := by
  rw [val_main_v44_apply]
  refine Finset.sum_congr rfl fun k _ => ?_
  rw [val_main_v43_apply, val_main_v42_apply, val_main_v10_apply]
  exact congrArg₂ (· * ·) (congrArg x (ext2 rfl rfl)) (congrArg w (ext4 rfl rfl (row_of k c.val c.isLt) (col_of k c.val c.isLt)))

theorem act3 (x : S20480x2048.Idx → EReal) (w : S2x8x2048x14336.Idx → EReal) (r : Fin 20480) (c : Fin 7168) :
    val_main_v50 (F := Ideal) x w (ix2 r c) = gated (gateOf x w r c 3) (upOf x w r c 3) := by
  have hg : val_main_v45 (F := Ideal) x w (ix2 r c) = gateOf x w r c 3 := by
    rw [val_main_v45_apply, show idx_main_v45 (ix2 r c) = ix2 r (⟨c.val, by omega⟩ : Fin 14336) from ext2 rfl rfl, product3]; rfl
  have hu : val_main_v46 (F := Ideal) x w (ix2 r c) = upOf x w r c 3 := by
    rw [val_main_v46_apply, show idx_main_v46 (ix2 r c) = ix2 r (⟨7168 + c.val, by omega⟩ : Fin 14336) from ext2 rfl rfl, product3]; rfl
  rw [val_main_v50_apply, val_main_v49_apply, val_main_call6_v5_apply, val_main_call6_v4_apply, val_main_call6_cst_0_apply, val_main_call6_v3_apply,
    val_main_call6_v2_apply, val_main_call6_cst_apply, val_main_call6_v1_apply, val_main_call6_v0_apply, hg, hu]
  exact gated_host _ _

theorem product4 (x : S20480x2048.Idx → EReal) (w : S2x8x2048x14336.Idx → EReal) (r : Fin 20480) (c : Fin 14336) :
    val_main_v54 (F := Ideal) x w (ix2 r c) = ∑ k : Fin 2048, x (ix2 r k) * w (ix4 (0 : Fin 2) 4 k c) := by
  rw [val_main_v54_apply]
  refine Finset.sum_congr rfl fun k _ => ?_
  rw [val_main_v53_apply, val_main_v52_apply, val_main_v10_apply]
  exact congrArg₂ (· * ·) (congrArg x (ext2 rfl rfl)) (congrArg w (ext4 rfl rfl (row_of k c.val c.isLt) (col_of k c.val c.isLt)))

theorem act4 (x : S20480x2048.Idx → EReal) (w : S2x8x2048x14336.Idx → EReal) (r : Fin 20480) (c : Fin 7168) :
    val_main_v60 (F := Ideal) x w (ix2 r c) = gated (gateOf x w r c 4) (upOf x w r c 4) := by
  have hg : val_main_v55 (F := Ideal) x w (ix2 r c) = gateOf x w r c 4 := by
    rw [val_main_v55_apply, show idx_main_v55 (ix2 r c) = ix2 r (⟨c.val, by omega⟩ : Fin 14336) from ext2 rfl rfl, product4]; rfl
  have hu : val_main_v56 (F := Ideal) x w (ix2 r c) = upOf x w r c 4 := by
    rw [val_main_v56_apply, show idx_main_v56 (ix2 r c) = ix2 r (⟨7168 + c.val, by omega⟩ : Fin 14336) from ext2 rfl rfl, product4]; rfl
  rw [val_main_v60_apply, val_main_v59_apply, val_main_call8_v5_apply, val_main_call8_v4_apply, val_main_call8_cst_0_apply, val_main_call8_v3_apply,
    val_main_call8_v2_apply, val_main_call8_cst_apply, val_main_call8_v1_apply, val_main_call8_v0_apply, hg, hu]
  exact gated_host _ _

theorem product5 (x : S20480x2048.Idx → EReal) (w : S2x8x2048x14336.Idx → EReal) (r : Fin 20480) (c : Fin 14336) :
    val_main_v64 (F := Ideal) x w (ix2 r c) = ∑ k : Fin 2048, x (ix2 r k) * w (ix4 (0 : Fin 2) 5 k c) := by
  rw [val_main_v64_apply]
  refine Finset.sum_congr rfl fun k _ => ?_
  rw [val_main_v63_apply, val_main_v62_apply, val_main_v10_apply]
  exact congrArg₂ (· * ·) (congrArg x (ext2 rfl rfl)) (congrArg w (ext4 rfl rfl (row_of k c.val c.isLt) (col_of k c.val c.isLt)))

theorem act5 (x : S20480x2048.Idx → EReal) (w : S2x8x2048x14336.Idx → EReal) (r : Fin 20480) (c : Fin 7168) :
    val_main_v70 (F := Ideal) x w (ix2 r c) = gated (gateOf x w r c 5) (upOf x w r c 5) := by
  have hg : val_main_v65 (F := Ideal) x w (ix2 r c) = gateOf x w r c 5 := by
    rw [val_main_v65_apply, show idx_main_v65 (ix2 r c) = ix2 r (⟨c.val, by omega⟩ : Fin 14336) from ext2 rfl rfl, product5]; rfl
  have hu : val_main_v66 (F := Ideal) x w (ix2 r c) = upOf x w r c 5 := by
    rw [val_main_v66_apply, show idx_main_v66 (ix2 r c) = ix2 r (⟨7168 + c.val, by omega⟩ : Fin 14336) from ext2 rfl rfl, product5]; rfl
  rw [val_main_v70_apply, val_main_v69_apply, val_main_call10_v5_apply, val_main_call10_v4_apply, val_main_call10_cst_0_apply, val_main_call10_v3_apply,
    val_main_call10_v2_apply, val_main_call10_cst_apply, val_main_call10_v1_apply, val_main_call10_v0_apply, hg, hu]
  exact gated_host _ _

theorem product6 (x : S20480x2048.Idx → EReal) (w : S2x8x2048x14336.Idx → EReal) (r : Fin 20480) (c : Fin 14336) :
    val_main_v74 (F := Ideal) x w (ix2 r c) = ∑ k : Fin 2048, x (ix2 r k) * w (ix4 (0 : Fin 2) 6 k c) := by
  rw [val_main_v74_apply]
  refine Finset.sum_congr rfl fun k _ => ?_
  rw [val_main_v73_apply, val_main_v72_apply, val_main_v10_apply]
  exact congrArg₂ (· * ·) (congrArg x (ext2 rfl rfl)) (congrArg w (ext4 rfl rfl (row_of k c.val c.isLt) (col_of k c.val c.isLt)))

theorem act6 (x : S20480x2048.Idx → EReal) (w : S2x8x2048x14336.Idx → EReal) (r : Fin 20480) (c : Fin 7168) :
    val_main_v80 (F := Ideal) x w (ix2 r c) = gated (gateOf x w r c 6) (upOf x w r c 6) := by
  have hg : val_main_v75 (F := Ideal) x w (ix2 r c) = gateOf x w r c 6 := by
    rw [val_main_v75_apply, show idx_main_v75 (ix2 r c) = ix2 r (⟨c.val, by omega⟩ : Fin 14336) from ext2 rfl rfl, product6]; rfl
  have hu : val_main_v76 (F := Ideal) x w (ix2 r c) = upOf x w r c 6 := by
    rw [val_main_v76_apply, show idx_main_v76 (ix2 r c) = ix2 r (⟨7168 + c.val, by omega⟩ : Fin 14336) from ext2 rfl rfl, product6]; rfl
  rw [val_main_v80_apply, val_main_v79_apply, val_main_call12_v5_apply, val_main_call12_v4_apply, val_main_call12_cst_0_apply, val_main_call12_v3_apply,
    val_main_call12_v2_apply, val_main_call12_cst_apply, val_main_call12_v1_apply, val_main_call12_v0_apply, hg, hu]
  exact gated_host _ _

theorem product7 (x : S20480x2048.Idx → EReal) (w : S2x8x2048x14336.Idx → EReal) (r : Fin 20480) (c : Fin 14336) :
    val_main_v84 (F := Ideal) x w (ix2 r c) = ∑ k : Fin 2048, x (ix2 r k) * w (ix4 (0 : Fin 2) 7 k c) := by
  rw [val_main_v84_apply]
  refine Finset.sum_congr rfl fun k _ => ?_
  rw [val_main_v83_apply, val_main_v82_apply, val_main_v10_apply]
  exact congrArg₂ (· * ·) (congrArg x (ext2 rfl rfl)) (congrArg w (ext4 rfl rfl (row_of k c.val c.isLt) (col_of k c.val c.isLt)))

theorem act7 (x : S20480x2048.Idx → EReal) (w : S2x8x2048x14336.Idx → EReal) (r : Fin 20480) (c : Fin 7168) :
    val_main_v90 (F := Ideal) x w (ix2 r c) = gated (gateOf x w r c 7) (upOf x w r c 7) := by
  have hg : val_main_v85 (F := Ideal) x w (ix2 r c) = gateOf x w r c 7 := by
    rw [val_main_v85_apply, show idx_main_v85 (ix2 r c) = ix2 r (⟨c.val, by omega⟩ : Fin 14336) from ext2 rfl rfl, product7]; rfl
  have hu : val_main_v86 (F := Ideal) x w (ix2 r c) = upOf x w r c 7 := by
    rw [val_main_v86_apply, show idx_main_v86 (ix2 r c) = ix2 r (⟨7168 + c.val, by omega⟩ : Fin 14336) from ext2 rfl rfl, product7]; rfl
  rw [val_main_v90_apply, val_main_v89_apply, val_main_call14_v5_apply, val_main_call14_v4_apply, val_main_call14_cst_0_apply, val_main_call14_v3_apply,
    val_main_call14_v2_apply, val_main_call14_cst_apply, val_main_call14_v1_apply, val_main_call14_v0_apply, hg, hu]
  exact gated_host _ _

/-- The table's entry for a row, where the reference reads it. -/
theorem named (te : S40.Idx → BitVec 32) (r : Fin 20480) (j : S20480x1.Idx) (hj : (j 0).val = r.val) :
    val_main_v2 (F := Ideal) te j = te (entry (tile r)) := by
  rw [val_main_v2_apply, val_main_v1_apply, val_main_v0_apply]
  refine congrArg te (funext fun d => Fin.ext ?_)
  match d with
  | ⟨0, _⟩ => show (j 0).val / 512 = r.val / 512; rw [hj]

/-- The mark of the rows in use, where the reference reads it. -/
theorem marked (n : S1.Idx → BitVec 32) (r : Fin 20480) (c : Fin 7168) :
    val_main_call16_v1 (F := Ideal) n (ix2 r c)
      = IntOp.cmpi .eq ((IntOp.cmpi .slt (BitVec.ofNat 32 (tile r).val) (n place)).setWidth 32) 1#32 := by
  rw [val_main_call16_v1_apply, val_main_v93_apply, val_main_v9_apply, val_main_v8_apply, val_main_v7_apply, val_main_v6_apply,
    val_main_v5_apply, val_main_v4_apply]
  rfl

theorem mask0 (te : S40.Idx → BitVec 32) (r : Fin 20480) (c : Fin 7168) :
    val_main_call1_v0 (F := Ideal) te (ix2 r c) = IntOp.cmpi .eq (te (entry (tile r))) 0#32 := by
  rw [val_main_call1_v0_apply, val_main_v18_apply, val_main_v17_apply, named te r _ rfl]
  rfl

theorem mask1 (te : S40.Idx → BitVec 32) (r : Fin 20480) (c : Fin 7168) :
    val_main_call3_v0 (F := Ideal) te (ix2 r c) = IntOp.cmpi .eq (te (entry (tile r))) 1#32 := by
  rw [val_main_call3_v0_apply, val_main_v28_apply, val_main_v27_apply, named te r _ rfl]
  rfl

theorem mask2 (te : S40.Idx → BitVec 32) (r : Fin 20480) (c : Fin 7168) :
    val_main_call5_v0 (F := Ideal) te (ix2 r c) = IntOp.cmpi .eq (te (entry (tile r))) 2#32 := by
  rw [val_main_call5_v0_apply, val_main_v38_apply, val_main_v37_apply, named te r _ rfl]
  rfl

theorem mask3 (te : S40.Idx → BitVec 32) (r : Fin 20480) (c : Fin 7168) :
    val_main_call7_v0 (F := Ideal) te (ix2 r c) = IntOp.cmpi .eq (te (entry (tile r))) 3#32 := by
  rw [val_main_call7_v0_apply, val_main_v48_apply, val_main_v47_apply, named te r _ rfl]
  rfl

theorem mask4 (te : S40.Idx → BitVec 32) (r : Fin 20480) (c : Fin 7168) :
    val_main_call9_v0 (F := Ideal) te (ix2 r c) = IntOp.cmpi .eq (te (entry (tile r))) 4#32 := by
  rw [val_main_call9_v0_apply, val_main_v58_apply, val_main_v57_apply, named te r _ rfl]
  rfl

theorem mask5 (te : S40.Idx → BitVec 32) (r : Fin 20480) (c : Fin 7168) :
    val_main_call11_v0 (F := Ideal) te (ix2 r c) = IntOp.cmpi .eq (te (entry (tile r))) 5#32 := by
  rw [val_main_call11_v0_apply, val_main_v68_apply, val_main_v67_apply, named te r _ rfl]
  rfl

theorem mask6 (te : S40.Idx → BitVec 32) (r : Fin 20480) (c : Fin 7168) :
    val_main_call13_v0 (F := Ideal) te (ix2 r c) = IntOp.cmpi .eq (te (entry (tile r))) 6#32 := by
  rw [val_main_call13_v0_apply, val_main_v78_apply, val_main_v77_apply, named te r _ rfl]
  rfl

theorem mask7 (te : S40.Idx → BitVec 32) (r : Fin 20480) (c : Fin 7168) :
    val_main_call15_v0 (F := Ideal) te (ix2 r c) = IntOp.cmpi .eq (te (entry (tile r))) 7#32 := by
  rw [val_main_call15_v0_apply, val_main_v88_apply, val_main_v87_apply, named te r _ rfl]
  rfl

/-- The reference's result at an index. -/
theorem reference (te : S40.Idx → BitVec 32) (n : S1.Idx → BitVec 32) (x : S20480x2048.Idx → EReal) (w : S2x8x2048x14336.Idx → EReal)
    (ht : ∀ y, (te y).toNat < 8) : val_main_v95 (F := Ideal) te n x w = G te (n place) x w := by
  funext y
  obtain ⟨r, c, rfl⟩ : ∃ (r : Fin 20480) (c : Fin 7168), y = ix2 r c := ⟨y 0, y 1, eq_ix2 y⟩
  show _ = entryAt te (n place) x w r c
  unfold entryAt
  rw [val_main_v95_apply]
  refine Eq.trans (show _ = val_main_v94 (F := Ideal) te n x w (ix2 r c) from rfl) ?_
  rw [val_main_v94_apply, marked, keep, val_main_v91_apply, val_main_v81_apply, val_main_v71_apply, val_main_v61_apply, val_main_v51_apply, val_main_v41_apply, val_main_v31_apply, val_main_v21_apply]
  rw [mask0, act0, mask1, act1, mask2, act2, mask3, act3, mask4, act4, mask5, act5, mask6, act6, mask7, act7, pick _ (ht _) (fun e => gated (gateOf x w r c e) (upOf x w r c e)), ← expert_of te r _ rfl (ht _)]
  refine if_congr Iff.rfl rfl ?_
  rw [val_main_call16_v2_apply, val_main_call16_v0_apply, val_main_cst_8_apply]
  exact Ideal.ofBits_zero_f32

end Cert.Proof.MoeIn

end
-- ==== Proof.MoeIn.Claims.lean ====
/- The claims about the expert layer's first product: the three frames, and the kernel's result equal to the reference's
   over the extended reals. -/
module

public import proofs.«01_k».proof.Defs
public import proofs.«01_k».proof.Proof.Gen.Kernel
public import proofs.«01_k».proof.Proof.Gen.Pre_experts
public import proofs.«01_k».proof.Proof.Gen.ReferenceIdeal
public import proofs.«01_k».proof.Proof.MoeIn.Reference
public import Idealize.ShloMosaic.Adequacy
public import Idealize.ShloMosaic.Init

@[expose] public section

set_option maxRecDepth 16384

noncomputable section

namespace Cert.Proof.MoeIn

open Idealize.ShloMosaic Idealize.ShloMosaic.TcCoe Idealize.SL Idealize.SL.Sem

/-- The two programs' tables of bodies have the same text. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => rfl

theorem defs_eq : Cert.Kernel.defs (F := Bits) = Cert.KernelIdeal.defs (F := Bits) := by
  unfold Cert.Kernel.defs Cert.KernelIdeal.defs
  rw [bodies_eq]
  rfl

/-- The machine's program has the text of the program over the extended reals, and the run is over any float values. -/
theorem frame_kernel : Cert.quiescent_Kernel := fun m ρ hp => by
  rw [defs_eq]
  exact (θ_run (Cert.KernelIdeal.defs (F := Bits)) _ _).mono (fun _ h => ⟨fun c => (h.1 c).2, h.2⟩)
    (run_main (F := Bits) m ρ (fun c => lt_of_experts _ _ _ _ (hp c)))

theorem frame_ideal : Cert.quiescent_KernelIdeal := fun m ρ hp =>
  (θ_run Cert.KernelIdeal.defs _ _).mono (fun _ h => ⟨fun c => (h.1 c).2, h.2⟩)
    (run_main (F := Ideal) m ρ (fun c => lt_of_experts _ _ _ _ (hp c)))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m ρ m' ρ' hp hm => by
  have named : Named m := fun c => lt_of_experts _ _ _ _ (hp c)
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1) place)
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun _ h c => ⟨(h.1 c).1.trans (value m named c), (h.1 c).2⟩)
      (run_main (F := Ideal) m ρ named)
  · refine (θ_run Cert.ReferenceIdeal.defs _ _).mono (fun r h c => ⟨?_, (h c).2⟩) (Cert.ReferenceIdeal.Value.run (F := Ideal) m' ρ')
    rw [(h c).1, Cert.ReferenceIdeal.Read.val_main_v95_eq]
    show Cert.ReferenceIdeal.Read.val_main_v95 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
    rw [(hm c).1, (hm c).2.1, (hm c).2.2.1, (hm c).2.2.2]
    exact reference _ _ _ _ (named c)

end Cert.Proof.MoeIn

end
-- ==== Proof.MoeOut.Body.lean ====
/- The body of the expert layer's second product at one grid point, over any float values: from a block of rows, the block
   of the chosen expert's weight and the two tables it leaves the rows times the weight where the row tile is in use, zero
   where it is not. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Value
public import Idealize.ShloMosaic.Lib.VecWindow
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.Proof.MoeOut

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The one place of the count table. -/
def place : S1.Idx := fun a => match a with | ⟨0, _⟩ => (0 : Fin 1)

/-- The two tables as the body is handed them. -/
abbrev tabE : Memref sig .tc .smem S40 .i32 := Memref.whole main_arg0
abbrev tabN : Memref sig .tc .smem S1 .i32 := Memref.whole main_arg1

/-- Row tile `i 1` is in use: its number is below the count `n`. -/
abbrev Used (i : grid0.Coords) (n : BitVec 32) : Prop := k0_cond1 i n = 1#1

/-- The second condition of the body is the first one's negation. -/
theorem cond2_iff (i : grid0.Coords) (n : BitVec 32) : k0_cond2 i n = 1#1 ↔ ¬ k0_cond1 i n = 1#1 := by
  unfold k0_cond1 k0_cond2
  simp only [Scalar.cmpi, Scalar.extui, IntOp.cmpi]
  generalize BitVec.ofNat 32 (i 1).val = a
  by_cases h : a.slt n = true
  · have h' : n.sle a = false := by
      rw [Bool.eq_false_iff]; intro hc
      simp only [BitVec.slt, BitVec.sle, decide_eq_true_eq] at h hc; omega
    simp [h, h']
  · have h' : n.sle a = true := by
      simp only [BitVec.slt, BitVec.sle, decide_eq_true_eq] at h ⊢; omega
    simp [h, h']

/-- What the body leaves in the output's staging buffer. -/
def leaves (i : grid0.Coords) (n : BitVec 32) (x : Vec F S512x7168 .bf16) (w : Vec F S1x1x7168x512 .bf16) : Vec F S512x512 .f32 :=
  open Classical in if Used i n then k0_pay1 x w else k0_pay2

/-- The count as the body's scalar load reads it. -/
theorem readCount (T1 : S1.Idx → Elt F .i32) :
    View.readAt (Elt F) tabN.view (Rect.unit (s := S1) ![0] S1.size inb_S1_S1_0).toLoadRect T1 (Shape.Idx.first (numel1_S1.symm ▸ Nat.one_pos))
      = T1 place :=
  congrArg T1 (funext fun a => Fin.ext (by match a with | ⟨0, _⟩ => rfl))

theorem zero2 : (![0, 0] : Fin 2 → ℕ) = fun _ => 0 := funext fun a => by fin_cases a <;> rfl
theorem zero4 : (![0, 0, 0, 0] : Fin 4 → ℕ) = fun _ => 0 := funext fun a => by fin_cases a <;> rfl

set_option backward.isDefEq.respectTransparency.types false in
set_option maxHeartbeats 8000000 in
/-- The body's run, whichever way its two conditions fall. -/
theorem body_run (c : Dev nD) (i : grid0.Coords) (arg4 : Memref sig .tc .vmem S512x7168 .bf16) (harg4 : arg4.IsWhole)
    (arg5 : Memref sig .tc .vmem S1x1x7168x512 .bf16) (harg5 : arg5.IsWhole) (arg6 : Memref sig .tc .vmem S512x512 .f32) (harg6 : arg6.IsWhole)
    (T0 : S40.Idx → Elt F .i32) (T1 : S1.Idx → Elt F .i32) (x : Vec F S512x7168 .bf16) (w : Vec F S1x1x7168x512 .bf16) (K : PUnit → sProp 𝕄) :
    iprop((arg4.view.loc (c : Thread nD τ) ↦[arg4.view.set]{fullShare} arg4.view.rep x)
        ∗ (arg5.view.loc (c : Thread nD τ) ↦[arg5.view.set]{fullShare} arg5.view.rep w)
        ∗ (tabE.view.loc (c : Thread nD τ) ↦{fullShare.right} T0)
        ∗ (tabN.view.loc (c : Thread nD τ) ↦{fullShare.right} T1)
        ∗ (∃ d, owns (c : Thread nD τ) arg6 fullShare d)
        ∗ (iprop((arg4.view.loc (c : Thread nD τ) ↦[arg4.view.set]{fullShare} arg4.view.rep x)
            ∗ (arg5.view.loc (c : Thread nD τ) ↦[arg5.view.set]{fullShare} arg5.view.rep w)
            ∗ (tabE.view.loc (c : Thread nD τ) ↦{fullShare.right} T0)
            ∗ (tabN.view.loc (c : Thread nD τ) ↦{fullShare.right} T1)
            ∗ owns (c : Thread nD τ) arg6 fullShare (leaves i (T1 place) x w)) -∗ K ⟨⟩))
      ⊢ wp frame (wpE (defs₀ (F := F)) Variants.none c none) Set.univ
          (cc0_moe_out i tabE (Memref.isWhole_whole _) tabN (Memref.isWhole_whole _) arg4 harg4 arg5 harg5 arg6 harg6) K := by
  have hT0 : tabE.IsWhole := Memref.isWhole_whole _
  have hT1 : tabN.IsWhole := Memref.isWhole_whole _
  by_cases hu : Used i (T1 place)
  · have h1 : k0_cond1 i (View.readAt (Elt F) tabN.view (Rect.unit (s := S1) ![0] S1.size inb_S1_S1_0).toLoadRect T1 (Shape.Idx.first (numel1_S1.symm ▸ Nat.one_pos))) = 1#1 := by
      rw [readCount]; exact hu
    have h2 : ¬ k0_cond2 i (View.readAt (Elt F) tabN.view (Rect.unit (s := S1) ![0] S1.size inb_S1_S1_0).toLoadRect T1 (Shape.Idx.first (numel1_S1.symm ▸ Nat.one_pos))) = 1#1 := by
      rw [readCount, cond2_iff]; exact not_not.mpr hu
    unfold owns
    rw [cc0_moe_out_eq_skeleton]; unfold cc0_moe_out_skel
    iintro ⟨H0, H1, HT0, HT1, ⟨%d2, %f2, -, HO2⟩, Hk⟩
    sl_exec! (disch := first | (guard_target = ¬(k0_cond2 _ _ = _); exact h2) | (guard_target = k0_cond1 _ _ = _; exact h1))
    sl_step
    iapply Hk
    isplitl [H0]; · iexact H0
    isplitl [H1]; · iexact H1
    isplitl [HT0]; · iexact HT0
    isplitl [HT1]; · iexact HT1
    iexists _; isplitr; swap
    · iexact HO2
    · ipureintro
      unfold body_run.sl.HO2_1
      rw [View.read_writes_full, View.readAt_eq_ld, View.readAt_eq_ld, View.read_rep, View.read_rep, View.ld_unit_zero zero2, View.ld_unit_zero zero4]
      exact (if_pos hu).symm
  · have h1 : ¬ k0_cond1 i (View.readAt (Elt F) tabN.view (Rect.unit (s := S1) ![0] S1.size inb_S1_S1_0).toLoadRect T1 (Shape.Idx.first (numel1_S1.symm ▸ Nat.one_pos))) = 1#1 := by
      rw [readCount]; exact hu
    have h2 : k0_cond2 i (View.readAt (Elt F) tabN.view (Rect.unit (s := S1) ![0] S1.size inb_S1_S1_0).toLoadRect T1 (Shape.Idx.first (numel1_S1.symm ▸ Nat.one_pos))) = 1#1 := by
      rw [readCount, cond2_iff]; exact hu
    unfold owns
    rw [cc0_moe_out_eq_skeleton]; unfold cc0_moe_out_skel
    iintro ⟨H0, H1, HT0, HT1, ⟨%d2, %f2, -, HO2⟩, Hk⟩
    sl_exec! (disch := first | (guard_target = ¬(k0_cond1 _ _ = _); exact h1) | (guard_target = k0_cond2 _ _ = _; exact h2))
    sl_step
    iapply Hk
    isplitl [H0]; · iexact H0
    isplitl [H1]; · iexact H1
    isplitl [HT0]; · iexact HT0
    isplitl [HT1]; · iexact HT1
    iexists _; isplitr; swap
    · iexact HO2
    · ipureintro
      unfold body_run.sl.HO2_1_1
      rw [View.read_writes_full]
      exact (if_neg hu).symm

end Cert.Proof.MoeOut

end
-- ==== Proof.MoeOut.Run.lean ====
/- The run of the expert layer's second product, over any float values and any two tables whose entries name experts: the
   program ends, its arguments unchanged and every counter at zero, and the result array holds what the write-backs of the
   grid's points leave. -/
module

public import proofs.«01_k».proof.Proof.MoeOut.Body
public import Idealize.ShloMosaic.Lib.Pipeline.Quiescent
public import Idealize.ShloMosaic.Lib.Pipeline.Frame
public import Idealize.ShloMosaic.Lib.Pipeline.TableIdle
public import Idealize.ShloMosaic.Lib.Claim
public import Idealize.ShloMosaic.Lib.Affine
public import Idealize.ShloMosaic.Adequacy
public import Idealize.ShloMosaic.Init

@[expose] public section

set_option maxRecDepth 16384
set_option Elab.async false

noncomputable section

namespace Cert.Proof.MoeOut

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-! ## The tables -/

/-- Entry `k` of the tile table. -/
def entry (k : Fin 40) : S40.Idx := fun a => match a with | ⟨0, _⟩ => k

/-- The tables as the weight window's index map reads them: entry `i 1` of the first. -/
theorem weight_index (pf : pre0.Contents (Elt F)) (i : grid0.Coords) :
    cc0_transform_1 k0_off1_inb numel1_S1 pf i
      = ![0, (pf 0 (entry (i 1)) : BitVec 32).toNat, 0, (i 0).val] := by
  have h0 : (BitVec.ofNat 32 (i 0).val).toNat = (i 0).val := by
    have := (i 0).isLt
    rw [BitVec.toNat_ofNat]; exact Nat.mod_eq_of_lt (lt_trans this (by decide))
  have h1 : (Scalar.indexCast (BitVec.ofNat 32 (i 1).val) : Index).toNat = (i 1).val := by
    have := (i 1).isLt
    show (BitVec.ofNat 32 (i 1).val).toNat = _
    rw [BitVec.toNat_ofNat]; exact Nat.mod_eq_of_lt (lt_trans this (by decide))
  have hx : (Rect.unit (s := S40) ![(Scalar.indexCast (BitVec.ofNat 32 (i 1).val) : Index).toNat] S1.size (k0_off1_inb i)).point numel1_S1
      = entry (i 1) := by
    funext a; apply Fin.ext
    match a with
    | ⟨0, _⟩ => exact h1
  unfold cc0_transform_1
  show ![_, (pf 0 ((Rect.unit (s := S40) ![(Scalar.indexCast (BitVec.ofNat 32 (i 1).val) : Index).toNat] S1.size (k0_off1_inb i)).point numel1_S1) : BitVec 32).toNat, _, _] = _
  rw [hx, h0]; rfl

/-- Tables whose entries name experts are admissible: every weight block is inside the weight array. -/
theorem ok_of_small (pf : pre0.Contents (Elt F)) (h : ∀ x : S40.Idx, (pf 0 x : BitVec 32).toNat < 8) : ok0 pf := by
  intro i
  have h0 := (i 0).isLt
  have hi := h (entry (i 1))
  refine ⟨fun a => ?_, .inr ?_⟩
  · rw [weight_index]
    match a with
    | ⟨0, _⟩ => show (0 + 1) * 1 ≤ 2; omega
    | ⟨1, _⟩ => show ((pf 0 (entry (i 1)) : BitVec 32).toNat + 1) * 1 ≤ 8; omega
    | ⟨2, _⟩ => show (0 + 1) * 7168 ≤ 7168; omega
    | ⟨3, _⟩ => show ((i 0).val + 1) * 512 ≤ 2048; have : (i 0).val < 4 := h0; omega
  · refine Rect.PackedRows.wholeWords (.inr ⟨by decide, rfl, .inl ⟨?_, ?_⟩⟩) <;> [skip; (show 2 ∣ 7168; decide)]
    show _ ∣ cc0_transform_1 k0_off1_inb numel1_S1 pf i 2 * 7168
    rw [weight_index]
    exact Dvd.intro_left _ (by show 0 * _ = 0 * 7168; omega)

variable (a : (pcfg0 (F := F)).Adm)

/-- The pipeline at the tables `a`. -/
abbrev cfgA : Pipeline.Cfg sig Λ₀ := cfg0 (F := F) a
abbrev pcs : Fin 1 → Pipeline.Cfg sig Λ₀ := Pipeline.pin (pcfgs (F := F)) fun _ => a

/-- The count of row tiles in use. -/
abbrev count : BitVec 32 := a.1 1 place

/-- Point `t`'s coordinates and staging buffers. -/
abbrev crd (t : Fin (cfgA a).N) : grid0.Coords := (cfgA a).grid.coords t
abbrev ms0 (t : Fin (cfgA a).N) : Memref sig .tc .vmem S512x7168 .bf16 := spec0_0.stage ((cfgA a).slots t (0 : Fin 3))
abbrev hs0 (t : Fin (cfgA a).N) : (ms0 a t).IsWhole := hstage0_0 (((cfgA a).slots t (0 : Fin 3)).cast nbuf0_0)
abbrev ms1 (t : Fin (cfgA a).N) : Memref sig .tc .vmem S1x1x7168x512 .bf16 := spec0_1.stage ((cfgA a).slots t (1 : Fin 3))
abbrev hs1 (t : Fin (cfgA a).N) : (ms1 a t).IsWhole := hstage0_1 (((cfgA a).slots t (1 : Fin 3)).cast nbuf0_1)
abbrev ms2 (t : Fin (cfgA a).N) : Memref sig .tc .vmem S512x512 .f32 := spec0_2.stage ((cfgA a).slots t (2 : Fin 3))
abbrev hs2 (t : Fin (cfgA a).N) : (ms2 a t).IsWhole := hstage0_2 (((cfgA a).slots t (2 : Fin 3)).cast nbuf0_2)

/-- One of the body's two conditions holds at every point, so the output is stored at every point. -/
theorem never_idle (t : Fin (cfgA a).N) : (cfgA a).idle (2 : Fin 3) ((cfgA a).grid.coords t) = false := by
  show (!(k0_cond1 (crd a t) (a.1.atD 1 ![0]) == 1#1) && !(k0_cond2 (crd a t) (a.1.atD 1 ![0]) == 1#1)) = false
  by_cases h : k0_cond1 (crd a t) (a.1.atD 1 ![0]) = 1#1
  · rw [h]; rfl
  · rw [(cond2_iff _ _).mpr h]; simp

variable (m : (ℓ : Loc nD τ sig) → Buf (Elt F) ℓ) (ρ : Dev nD → PrngReg)

/-- What the buffers hold when the grid is entered: the arguments, and the weight narrowed. -/
abbrev V (c : Dev nD) (b : Ref sig .tc) : Buf (Elt F) ((c : Thread nD τ).loc b) := StableHlo.after hostOps0 (fun b => m (c, b)) b

/-- Window `w`'s block of its array at point `t`. -/
def iblk (c : Dev nD) (w : Fin (cfgA a).W) (t : Fin (cfgA a).N) : (((cfgA a).win w).xblock (crd a t)).Idx → Elt F ((cfgA a).win w).elt :=
  (((cfgA a).win w).blk t).view.read (Elt F) (V m c (Pipeline.arrRef spec0 w))

/-- What the output's staging buffer holds after point `t`. -/
def left (c : Dev nD) (t : Fin (cfgA a).N) : S512x512.Idx → Elt F .f32 :=
  leaves (crd a t) (count a) (iblk a m c (0 : Fin 3) t) (iblk a m c (1 : Fin 3) t)

/-- The invariant: the body's halves of the tables, and the generator register. -/
def Inv (c : Dev nD) : sProp 𝕄 :=
  iprop((tabE.view.loc (c : Thread nD τ) ↦{fullShare.right} a.1 0) ∗ (tabN.view.loc (c : Thread nD τ) ↦{fullShare.right} a.1 1)
    ∗ (∃ r, prngReg c r))

/-- The proof data of the one pipeline on core `c`. -/
def dats (_ : Fin 1) (c : Dev nD) : Dat τ (Elt F) Unit ℕ (UR sig nD τ) ℕ (cfgA a) c where
  A w := V m c (Pipeline.arrRef spec0 w)
  after w t := match w with
    | ⟨0, _⟩ => iblk a m c (0 : Fin 3) t
    | ⟨1, _⟩ => iblk a m c (1 : Fin 3) t
    | ⟨2, _⟩ => left a m c t
  Φ _ := Inv a c
  q _ := fullShare
  owed _ := 0

theorem after0 (c : Dev nD) (t : Fin (cfgA a).N) : (dats a m 0 c).after (0 : Fin 3) t = iblk a m c (0 : Fin 3) t := rfl
theorem after1 (c : Dev nD) (t : Fin (cfgA a).N) : (dats a m 0 c).after (1 : Fin 3) t = iblk a m c (1 : Fin 3) t := rfl
theorem after2 (c : Dev nD) (t : Fin (cfgA a).N) : (dats a m 0 c).after (2 : Fin 3) t = left a m c t := rfl

/-- When the body runs, an input's staging buffer holds the input's block. -/
theorem before0 (c : Dev nD) (t : Fin (cfgA a).N) (d) : (dats a m 0 c).before (0 : Fin 3) t d = iblk a m c (0 : Fin 3) t :=
  ((dats a m 0 c).before_in_eq_fetched (0 : Fin 3) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m 0 c).before (1 : Fin 3) t d = iblk a m c (1 : Fin 3) t :=
  ((dats a m 0 c).before_in_eq_fetched (1 : Fin 3) rfl (fun _ => rfl) (fun _ _ _ => rfl) (fun t => by rw [after1]; unfold Dat.blockOf iblk; rfl) t d).trans
    (by unfold Dat.fetched Dat.blockOf iblk; rfl)

/-! ## The body obligation -/

abbrev bodyAt (t : Fin (cfgA a).N) : Prog (TpuEff nD τ sig (Elt F) Λ₀ .tc) PUnit :=
  cc0_moe_out (crd a t) (Memref.whole main_arg0) (Memref.isWhole_whole _) (Memref.whole main_arg1) (Memref.isWhole_whole _) (ms0 a t) (hs0 a t) (ms1 a t) (hs1 a t) (ms2 a t) (hs2 a t)

set_option backward.isDefEq.respectTransparency.types false in
set_option maxHeartbeats 4000000 in
theorem body_at (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 3) t d))
        ∗ (∃ d, owns (c : Thread nD τ) (ms1 a t) fullShare ((dats a m 0 c).before (1 : Fin 3) t d))
        ∗ (∃ d, owns (c : Thread nD τ) (ms2 a t) fullShare ((dats a m 0 c).before (2 : Fin 3) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0, never_idle]
  simp only [before0, before1, after0, after1, after2]
  rewrite [show (dats a m 0 c).Φ t.succ = Inv a c from rfl, show (dats a m 0 c).Φ t.castSucc = Inv a c from rfl,
    show (dats a m 0 c).owesAt () t.succ = (dats a m 0 c).owesAt () t.castSucc from rfl]
  unfold Inv left
  iintro ⟨⟨HT0, HT1, Hp⟩, Ho, ⟨%d0, H0⟩, ⟨%d1, H1⟩, ⟨%d2, H2⟩⟩
  iapply (body_run c (crd a t) (ms0 a t) (hs0 a t) (ms1 a t) (hs1 a t) (ms2 a t) (hs2 a t) (a.1 0) (a.1 1) (iblk a m c (0 : Fin 3) t) (iblk a m c (1 : Fin 3) t) _)
  isplitl [H0]; · iapply rep_of_owns; iexact H0
  isplitl [H1]; · iapply rep_of_owns; iexact H1
  isplitl [HT0]; · iexact HT0
  isplitl [HT1]; · iexact HT1
  isplitl [H2]; · iexists _; iexact H2
  iintro ⟨H0, H1, HT0, HT1, H2⟩
  isplitl [HT0 HT1 Hp]
  · isplitl [HT0]
    · iexact HT0
    isplitl [HT1]
    · iexact HT1
    iexact Hp
  isplitl [Ho]; · iexact Ho
  isplitl [H0]
  · iapply owns_of_rep; iexact H0
  isplitl [H1]
  · iapply owns_of_rep; iexact H1
  iexact H2

theorem body_obligation (c : Dev nD) : BodyObligation (dats a m 0 c) (defs₀ (F := F)) Variants.none () Set.univ := fun t => by
  rw [bigSep_W0]
  exact body_at a m c t

/-! ## The launch -/

theorem share_eq (c : Dev nD) (w : Fin (cfgA a).W) : (dats a m 0 c).share w = fullShare := by unfold Dat.share; split <;> rfl

/-- The tables as the launch hands them to the region, one by one. -/
theorem held_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) : iprop(Pipeline.ΦA (cfgA a).spec c ∗ Pipeline.ΦT pre0 a.1 c) ⊢ (dats a m 0 c).Φ 0 := by
  rw [show (dats a m 0 c).Φ 0 = Inv a c from rfl]
  unfold Pipeline.ΦA Pipeline.ΦT Inv
  rw [held_eq]
  iintro ⟨⟨-, Hp⟩, HT0, HT1⟩
  isplitl [HT0]
  · iexact HT0
  isplitl [HT1]
  · iexact HT1
  iexact Hp

theorem leave (c : Dev nD) : (dats a m 0 c).Φ (Fin.last (cfgA a).N) ⊢ Pipeline.ΦA (cfgA a).spec c := by
  rw [show (dats a m 0 c).Φ (Fin.last (cfgA a).N) = Inv a c from rfl]
  unfold Pipeline.ΦA Inv
  rw [scopedRest0_eq]
  iintro ⟨-, -, Hp⟩
  isplitr; · iempintro
  iexact Hp

set_option backward.isDefEq.respectTransparency.types false in
set_option maxHeartbeats 4000000 in
/-- The run from a memory that holds the tables `a`. -/
theorem run_at (ht : ∀ c : Dev nD, ∀ k, V m c (pre0.ref k) = a.1 k) :
    θ_run (defs (F := F)) (onTc (τ := τ) (main (F := F))) ⟨m, fun _ => 0, ρ⟩
      (fun r => Pipeline.FramePost (pcs a) (dats a m) 0 (V m) r ∧ r.2.sem = fun _ => 0) :=
  Pipeline.θ_run_frameP_track pcfgs (fun _ => a) (dats a m) 0 launch0 defs₀ Variants.none m ρ main
    (fun c => (body_obligation a m c).loose) (share_eq a m) (fun _ _ => rfl) (V m)
    (Pipeline.hmainP_prefix pcfgs 0 defs₀ Variants.none m main hostOps0 hostOps0_sub (by exact rfl) main_chain)
    (fun _ _ => rfl) ht (enter a m) (leave a m) (Q' := _)

end Cert.Proof.MoeOut

end
-- ==== Proof.MoeOut.Frame.lean ====
/- The run of the expert layer's second product from a memory whose tile table names experts, over any float values: the
   arguments end unchanged, the counters at zero, and the result is the array that the write-backs leave. -/
module

public import proofs.«01_k».proof.Proof.MoeOut.Run
public import Idealize.ShloMosaic.Lib.Pipeline.ValueKit
public import Idealize.ShloMosaic.Lib.StableHlo.Run

@[expose] public section

noncomputable section

namespace Cert.Proof.MoeOut

open Cert.Kernel2Ideal Cert.Kernel2Ideal.Gen
open Idealize.ShloMosaic Idealize.ShloMosaic.TcCoe Idealize.ShloMosaic.Tactic
open Idealize.SL Idealize.SL.Sem

variable {F : FTy → Type} [FloatOps F] (m : (ℓ : Loc nD τ sig) → Buf (Elt F) ℓ) (ρ : Dev nD → PrngReg)

/-- A buffer other than the narrowed weight is found by the grid as the program was given it. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-- The narrowed weight. -/
theorem V_weight (c : Dev nD) :
    V m c main_v0 = truncf .bf16 (m ((c : Thread nD τ).loc main_arg3)) bitsLt_bf16_f32 := by
  unfold V hostOps0; after_results

/-- Every entry of the tile table names an expert. -/
def Named : Prop := ∀ (c : Dev nD) (x : S40.Idx), (m ((c : Thread nD τ).loc main_arg0) x : BitVec 32).toNat < 8

/-- The tables read off the memory. -/
def tables (h : Named m) : (pcfg0 (F := F)).Adm :=
  ⟨fun k => m (((0 : Dev nD) : Thread nD τ).loc (pre0.ref k)), ok_of_small _ (fun x => h 0 x)⟩

theorem tables_eq (h : Named m) (c : Dev nD) (k : Fin 2) : V m c (pre0.ref k) = (tables m h).1 k := by
  obtain rfl : c = 0 := Subsingleton.elim _ _
  exact V_of_ne m 0 _ (by revert k; decide)

/-- The run, buffer by buffer. -/
theorem run_main (h : Named m) :
    θ_run (defs (F := F)) (onTc (τ := τ) (main (F := F))) ⟨m, fun _ => 0, ρ⟩ (fun r => (∀ c : Dev nD,
      r.2.mem ((c : Thread nD τ).loc main_v1) = (dats (tables m h) m 0 c).arrAt (2 : Fin 3) (cfgA (tables m h)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run (defs (F := F)) _ _).mono (fun r (hr : Pipeline.FramePost (pcs (tables m h)) (dats (tables m h) m) 0 (V m) r ∧ _) => ⟨fun c =>
      have rest (b : Ref sig .tc) (hb : b ∈ Pipeline.restRefs sig spec0) (hv : b ≠ main_v0) :
          r.2.mem ((c : Thread nD τ).loc b) = m ((c : Thread nD τ).loc b) := ((hr.1 c).2 b hb).trans (V_of_ne m c b hv)
      have rows : r.2.mem ((c : Thread nD τ).loc main_arg2) = V m c main_arg2 :=
        Pipeline.FramePost.in_eq (p := (0 : Fin 1)) hr.1 c (0 : Fin 3) rfl
      ⟨(hr.1 c).1 (2 : Fin 3), rest main_arg0 (by decide) (by decide), rest main_arg1 (by decide) (by decide),
       rows.trans (V_of_ne m c main_arg2 (by decide)), rest main_arg3 (by decide) (by decide)⟩, hr.2⟩)
    (run_at (tables m h) m ρ (tables_eq m h))

end Cert.Proof.MoeOut

end
-- ==== Proof.MoeOut.Value.lean ====
/- The expert layer's second product over the extended reals: the result array is each row times its tile's expert's weight
   where the tile is in use, and zero elsewhere. -/
module

public import proofs.«01_k».proof.Proof.MoeOut.Frame
public import Idealize.ShloMosaic.Lib.MatmulPlain
public import Idealize.ShloMosaic.PureOps.Ideal

@[expose] public section

set_option maxRecDepth 16384

noncomputable section

namespace Cert.Proof.MoeOut

open Cert.Kernel2Ideal Cert.Kernel2Ideal.Gen
open Idealize.ShloMosaic hiding ix1 ix2 ix3 ix4 eq_ix2
open Idealize.ShloMosaic.TcCoe Idealize.ShloMosaic.ValueIdx
open Idealize.SL Idealize.SL.Sem
open scoped BigOperators

/-- The row tile of row `r`. -/
def tile (r : Fin 20480) : Fin 40 := ⟨r.val / 512, by omega⟩

/-- The expert that the table names for row `r` (a table's entries are below 8; the remainder makes it an index). -/
def expert (te : S40.Idx → BitVec 32) (r : Fin 20480) : Fin 8 := ⟨(te (entry (tile r))).toNat % 8, Nat.mod_lt _ (by decide)⟩

theorem expert_of (te : S40.Idx → BitVec 32) (r : Fin 20480) (k : Fin 40) (hk : tile r = k) (he : (te (entry k)).toNat < 8) :
    expert te r = ⟨(te (entry k)).toNat, he⟩ := by
  subst hk; exact Fin.ext (Nat.mod_eq_of_lt he)

/-- The result at a row and a column. -/
def entryAt (te : S40.Idx → BitVec 32) (n : BitVec 32) (x : S20480x7168.Idx → EReal) (w : S2x8x7168x2048.Idx → EReal)
    (r : Fin 20480) (c : Fin 2048) : EReal :=
  if (BitVec.ofNat 32 (tile r).val).slt n then ∑ k : Fin 7168, x (ix2 r k) * w (ix4 (0 : Fin 2) (expert te r) k c) else 0

/-- The result array as one function of the arguments. -/
def G (te : S40.Idx → BitVec 32) (n : BitVec 32) (x : S20480x7168.Idx → EReal) (w : S2x8x7168x2048.Idx → EReal) :
    S20480x2048.Idx → EReal := fun y => entryAt te n x w (y 0) (y 1)

/-- The body's condition, read. -/
theorem used_iff (i : grid0.Coords) (n : BitVec 32) : Used i n ↔ (BitVec.ofNat 32 (i 1).val).slt n = true := by
  unfold Used k0_cond1
  simp only [Scalar.cmpi, Scalar.extui, IntOp.cmpi]
  generalize (BitVec.ofNat 32 (i 1).val).slt n = b
  cases b <;> decide

/-- What the body leaves, at an index. -/
theorem leaves_apply (i : grid0.Coords) (n : BitVec 32) (x : Vec Ideal S512x7168 .bf16) (w : Vec Ideal S1x1x7168x512 .bf16)
    (r : Fin 512) (c : Fin 512) :
    leaves (F := Ideal) i n x w (ix2 r c)
      = if (BitVec.ofNat 32 (i 1).val).slt n then ∑ k : Fin 7168, x (ix2 r k) * w (ix4 (0 : Fin 1) (0 : Fin 1) k c) else (0 : EReal) := by
  unfold leaves
  by_cases h : Used i n
  · rw [if_pos h, if_pos ((used_iff i n).mp h)]
    unfold k0_pay1
    refine (Ideal.matmul_plain_apply (M := 512) (K := 7168) (N := 512) none _ _ _ r c).trans ?_
    rw [show (constant (F := Ideal) S512x512 .f32 0x00000000#32) (ix2 r c) = (0 : EReal) from Ideal.ofBits_zero_f32, zero_add]
    refine Finset.sum_congr rfl fun k _ => congrArg (x (ix2 r k) * ·) ?_
    exact shapeCast_apply w shapeCasts_S1x1x7168x512_S7168x512 (ix2 k c) (ix4 (0 : Fin 1) (0 : Fin 1) k c) (by
      rw [Shape.rowMajor_val_four, Shape.rowMajor_val_two]
      show ((0 * 1 + 0) * 7168 + k.val) * 512 + c.val = k.val * 512 + c.val
      omega)
  · rw [if_neg h, if_neg (fun hc => h ((used_iff i n).mpr hc))]
    exact Ideal.ofBits_zero_f32

variable (m : (ℓ : Loc nD τ sig) → Buf (Elt Ideal) ℓ) (ρ : Dev nD → PrngReg) (h : Named m)

section Blocks

variable (a : (pcfg0 (F := Ideal)).Adm)

theorem index0 : ∀ t : Fin grid0.N, cc0_transform_0 (grid0.coords t) = ![(grid0.coords t 1).val, 0] := by decide +kernel
theorem index2 : ∀ t : Fin grid0.N, cc0_transform_2 (grid0.coords t) = ![(grid0.coords t 1).val, (grid0.coords t 0).val] := by decide +kernel

/-- A block of rows, at an index. -/
theorem iblk0_apply (c : Dev nD) (t : Fin (cfgA a).N) (r : Fin 512) (k : Fin 7168) (hr : (crd a t 1).val * 512 + r.val < 20480) :
    iblk a m c (0 : Fin 3) t (ix2 r k) = V m c main_arg2 (ix2 ⟨(crd a t 1).val * 512 + r.val, hr⟩ k) := by
  refine congrArg (V m c main_arg2) ?_
  have e := index0 t
  funext d; apply Fin.ext
  match d with
  | ⟨0, _⟩ => show cc0_transform_0 (grid0.coords t) 0 * 512 + 1 * r.val = _; rw [e]; show (grid0.coords t 1).val * 512 + 1 * r.val = (grid0.coords t 1).val * 512 + r.val; omega
  | ⟨1, _⟩ => show cc0_transform_0 (grid0.coords t) 1 * 7168 + 1 * k.val = _; rw [e]; show 0 * 7168 + 1 * k.val = k.val; omega

/-- A block of the weight, at an index. -/
theorem iblk1_apply (c : Dev nD) (t : Fin (cfgA a).N) (k : Fin 7168) (q : Fin 512)
    (he : (a.1 0 (entry (crd a t 1)) : BitVec 32).toNat < 8) (hq : (crd a t 0).val * 512 + q.val < 2048) :
    iblk a m c (1 : Fin 3) t (ix4 (0 : Fin 1) (0 : Fin 1) k q)
      = V m c main_v0 (ix4 (0 : Fin 2) ⟨(a.1 0 (entry (crd a t 1)) : BitVec 32).toNat, he⟩ k ⟨(crd a t 0).val * 512 + q.val, hq⟩) := by
  refine congrArg (V m c main_v0) ?_
  have e := weight_index a.1 (crd a t)
  funext d; apply Fin.ext
  match d with
  | ⟨0, _⟩ => show cc0_transform_1 k0_off1_inb numel1_S1 a.1 (crd a t) 0 * 1 + 1 * 0 = 0; rw [e]; rfl
  | ⟨1, _⟩ => show cc0_transform_1 k0_off1_inb numel1_S1 a.1 (crd a t) 1 * 1 + 1 * 0 = _; rw [e]; show (a.1 0 (entry (crd a t 1)) : BitVec 32).toNat * 1 + 1 * 0 = (a.1 0 (entry (crd a t 1)) : BitVec 32).toNat; omega
  | ⟨2, _⟩ => show cc0_transform_1 k0_off1_inb numel1_S1 a.1 (crd a t) 2 * 7168 + 1 * k.val = k.val; rw [e]; show 0 * 7168 + 1 * k.val = k.val; omega
  | ⟨3, _⟩ => show cc0_transform_1 k0_off1_inb numel1_S1 a.1 (crd a t) 3 * 512 + 1 * q.val = _; rw [e]; show (crd a t 0).val * 512 + 1 * q.val = (crd a t 0).val * 512 + q.val; omega

/-- The place of a result block's index in the array. -/
theorem emb2 (t : Fin (cfgA a).N) (r q : Fin 512) (hr : (crd a t 1).val * 512 + r.val < 20480) (hq : (crd a t 0).val * 512 + q.val < 2048) :
    (((cfgA a).win (2 : Fin 3)).blk t).view.emb (ix2 r q) = ix2 ⟨(crd a t 1).val * 512 + r.val, hr⟩ ⟨(crd a t 0).val * 512 + q.val, hq⟩ := by
  have e := index2 t
  funext d; apply Fin.ext
  match d with
  | ⟨0, _⟩ => show cc0_transform_2 (grid0.coords t) 0 * 512 + 1 * r.val = _; rw [e]; show (grid0.coords t 1).val * 512 + 1 * r.val = (grid0.coords t 1).val * 512 + r.val; omega
  | ⟨1, _⟩ => show cc0_transform_2 (grid0.coords t) 1 * 512 + 1 * q.val = _; rw [e]; show (grid0.coords t 0).val * 512 + 1 * q.val = (grid0.coords t 0).val * 512 + q.val; omega

/-- Every point writes its block back: the next point's block is another. -/
theorem flushes : ∀ t : Fin grid0.N, Pipeline.Window.flushOf grid0 true cc0_transform_2 t = true := by decide +kernel

/-- Every pair of a row tile and a column block is a point's. -/
theorem onto : ∀ (i : Fin 40) (j : Fin 4), ∃ t : Fin grid0.N, (grid0.coords t 1).val = i.val ∧ (grid0.coords t 0).val = j.val := by decide +kernel

/-- The result's blocks cover it. -/
theorem cover (y : S20480x2048.Idx) : ∃ t : Fin (cfgA a).N, ((cfgA a).win (2 : Fin 3)).flush t = true
    ∧ y ∈ (((cfgA a).win (2 : Fin 3)).blk t).view.set := by
  have h0 : (y 0).val < 20480 := (y 0).isLt
  have h1 : (y 1).val < 2048 := (y 1).isLt
  obtain ⟨t, e1, e0⟩ := onto ⟨(y 0).val / 512, by omega⟩ ⟨(y 1).val / 512, by omega⟩
  have e1' : (grid0.coords t 1).val = (y 0).val / 512 := e1
  have e0' : (grid0.coords t 0).val = (y 1).val / 512 := e0
  have hr : (crd a t 1).val * 512 + (y 0).val % 512 < 20480 := by show (grid0.coords t 1).val * 512 + _ < _; omega
  have hq : (crd a t 0).val * 512 + (y 1).val % 512 < 2048 := by show (grid0.coords t 0).val * 512 + _ < _; omega
  refine ⟨t, flushes t, ?_⟩
  have he := emb2 a t ⟨(y 0).val % 512, by omega⟩ ⟨(y 1).val % 512, by omega⟩ hr hq
  have hy : y = ix2 ⟨(crd a t 1).val * 512 + (y 0).val % 512, hr⟩ ⟨(crd a t 0).val * 512 + (y 1).val % 512, hq⟩ := by
    funext d; apply Fin.ext
    match d with
    | ⟨0, _⟩ => show (y 0).val = (grid0.coords t 1).val * 512 + (y 0).val % 512; omega
    | ⟨1, _⟩ => show (y 1).val = (grid0.coords t 0).val * 512 + (y 1).val % 512; omega
  rw [hy, ← he]
  exact View.emb_mem_set _ _

/-- The array after the write-backs, for tables `a` that name experts. -/
theorem final (ha : ∀ x : S40.Idx, (a.1 0 x : BitVec 32).toNat < 8) (c : Dev nD) :
    (dats a m 0 c).arrAt (2 : Fin 3) (cfgA a).N = G (a.1 0) (count a) (V m c main_arg2) (V m c main_v0) := by
  refine (dats a m 0 c).arrAt_eq_of_emb (2 : Fin 3) _ (fun t _ y => ?_) (cover a)
  obtain ⟨r, q, rfl⟩ : ∃ r q : Fin 512, y = ix2 r q := ⟨y 0, y 1, eq_ix2 y⟩
  have h1 : (grid0.coords t 1).val < 40 := (grid0.coords t 1).isLt
  have h0 : (grid0.coords t 0).val < 4 := (grid0.coords t 0).isLt
  have hr : (crd a t 1).val * 512 + r.val < 20480 := by show (grid0.coords t 1).val * 512 + _ < _; have := r.isLt; omega
  have hq : (crd a t 0).val * 512 + q.val < 2048 := by show (grid0.coords t 0).val * 512 + _ < _; have := q.isLt; omega
  refine Eq.trans ?_ (congrArg (G _ _ _ _) (emb2 a t r q hr hq)).symm
  show leaves (F := Ideal) (crd a t) (count a) (iblk a m c (0 : Fin 3) t) (iblk a m c (1 : Fin 3) t) (ix2 r q)
    = entryAt (a.1 0) (count a) (V m c main_arg2) (V m c main_v0) ⟨(crd a t 1).val * 512 + r.val, hr⟩ ⟨(crd a t 0).val * 512 + q.val, hq⟩
  rw [leaves_apply]
  have ht : tile ⟨(crd a t 1).val * 512 + r.val, hr⟩ = (crd a t 1) := Fin.ext (by
    show ((crd a t 1).val * 512 + r.val) / 512 = (crd a t 1).val; have := r.isLt; omega)
  unfold entryAt
  rw [ht]
  refine if_congr Iff.rfl (Finset.sum_congr rfl fun k _ => ?_) rfl
  rw [iblk0_apply m a c t r k hr, iblk1_apply m a c t k q (ha _) hq]
  rw [expert_of (a.1 0) _ _ ht (ha _)]

end Blocks

/-- The result's value after the run, as a function of the arguments. -/
theorem value (c : Dev nD) : (dats (tables m h) m 0 c).arrAt (2 : Fin 3) (cfgA (tables m h)).N
    = G (m ((c : Thread nD τ).loc main_arg0)) (m ((c : Thread nD τ).loc main_arg1) place) (m ((c : Thread nD τ).loc main_arg2))
        (m ((c : Thread nD τ).loc main_arg3)) := by
  rw [final m (tables m h) (fun x => h 0 x) c, V_of_ne m c main_arg2 (by decide), V_weight]
  obtain rfl : c = 0 := Subsingleton.elim _ _
  rfl

end Cert.Proof.MoeOut

end
-- ==== Proof.MoeOut.Reference.lean ====
/- The reference of the expert layer's second product over the extended reals, read at an index: the row times the weight of
   its tile's expert where the tile is in use, zero elsewhere. -/
module

public import proofs.«01_k».proof.Proof.Gen.Reference2Ideal.Read
public import proofs.«01_k».proof.Proof.MoeOut.Value
public import proofs.«01_k».proof.Proof.Tables

@[expose] public section

set_option maxRecDepth 16384

noncomputable section

namespace Cert.Proof.MoeOut

open Cert.Reference2Ideal Cert.Reference2Ideal.Read
open Idealize.ShloMosaic hiding ix1 ix2 ix3 ix4 eq_ix2
open Idealize.ShloMosaic.ValueIdx
open scoped BigOperators

/-- Row `r` times column `c` of expert `e`'s weight. -/
def rowBy (x : S20480x7168.Idx → EReal) (w : S2x8x7168x2048.Idx → EReal) (r : Fin 20480) (c : Fin 2048) (e : Fin 8) : EReal :=
  ∑ k : Fin 7168, x (ix2 r k) * w (ix4 (0 : Fin 2) e k c)

theorem row_of (k : Fin 7168) (c : Fin 2048) : (k.val * 2048 + c.val) / 2048 % 7168 = k.val := by
  have := k.isLt; have := c.isLt; omega

theorem col_of (k : Fin 7168) (c : Fin 2048) : (k.val * 2048 + c.val) % 2048 = c.val := by
  have := c.isLt; omega

theorem ext2 {n0 n1 : ℕ} {i j : (⟨2, ![n0, n1]⟩ : Shape).Idx} (h0 : (i 0).val = (j 0).val) (h1 : (i 1).val = (j 1).val) : i = j :=
  funext fun d => Fin.ext (by match d with | ⟨0, _⟩ => exact h0 | ⟨1, _⟩ => exact h1)

theorem ext4 {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j :=
  funext fun d => Fin.ext (by match d with | ⟨0, _⟩ => exact h0 | ⟨1, _⟩ => exact h1 | ⟨2, _⟩ => exact h2 | ⟨3, _⟩ => exact h3)

theorem product0 (x : S20480x7168.Idx → EReal) (w : S2x8x7168x2048.Idx → EReal) (r : Fin 20480) (c : Fin 2048) :
    val_main_v16 (F := Ideal) x w (ix2 r c) = rowBy x w r c 0 := by
  rw [val_main_v16_apply]
  refine Finset.sum_congr rfl fun k _ => ?_
  rw [val_main_v15_apply, val_main_v14_apply]
  exact congrArg₂ (· * ·) (congrArg x (ext2 rfl rfl)) (congrArg w (ext4 rfl rfl (row_of k c) (col_of k c)))

theorem product1 (x : S20480x7168.Idx → EReal) (w : S2x8x7168x2048.Idx → EReal) (r : Fin 20480) (c : Fin 2048) :
    val_main_v22 (F := Ideal) x w (ix2 r c) = rowBy x w r c 1 := by
  rw [val_main_v22_apply]
  refine Finset.sum_congr rfl fun k _ => ?_
  rw [val_main_v21_apply, val_main_v20_apply]
  exact congrArg₂ (· * ·) (congrArg x (ext2 rfl rfl)) (congrArg w (ext4 rfl rfl (row_of k c) (col_of k c)))

theorem product2 (x : S20480x7168.Idx → EReal) (w : S2x8x7168x2048.Idx → EReal) (r : Fin 20480) (c : Fin 2048) :
    val_main_v28 (F := Ideal) x w (ix2 r c) = rowBy x w r c 2 := by
  rw [val_main_v28_apply]
  refine Finset.sum_congr rfl fun k _ => ?_
  rw [val_main_v27_apply, val_main_v26_apply]
  exact congrArg₂ (· * ·) (congrArg x (ext2 rfl rfl)) (congrArg w (ext4 rfl rfl (row_of k c) (col_of k c)))

theorem product3 (x : S20480x7168.Idx → EReal) (w : S2x8x7168x2048.Idx → EReal) (r : Fin 20480) (c : Fin 2048) :
    val_main_v34 (F := Ideal) x w (ix2 r c) = rowBy x w r c 3 := by
  rw [val_main_v34_apply]
  refine Finset.sum_congr rfl fun k _ => ?_
  rw [val_main_v33_apply, val_main_v32_apply]
  exact congrArg₂ (· * ·) (congrArg x (ext2 rfl rfl)) (congrArg w (ext4 rfl rfl (row_of k c) (col_of k c)))

theorem product4 (x : S20480x7168.Idx → EReal) (w : S2x8x7168x2048.Idx → EReal) (r : Fin 20480) (c : Fin 2048) :
    val_main_v40 (F := Ideal) x w (ix2 r c) = rowBy x w r c 4 := by
  rw [val_main_v40_apply]
  refine Finset.sum_congr rfl fun k _ => ?_
  rw [val_main_v39_apply, val_main_v38_apply]
  exact congrArg₂ (· * ·) (congrArg x (ext2 rfl rfl)) (congrArg w (ext4 rfl rfl (row_of k c) (col_of k c)))

theorem product5 (x : S20480x7168.Idx → EReal) (w : S2x8x7168x2048.Idx → EReal) (r : Fin 20480) (c : Fin 2048) :
    val_main_v46 (F := Ideal) x w (ix2 r c) = rowBy x w r c 5 := by
  rw [val_main_v46_apply]
  refine Finset.sum_congr rfl fun k _ => ?_
  rw [val_main_v45_apply, val_main_v44_apply]
  exact congrArg₂ (· * ·) (congrArg x (ext2 rfl rfl)) (congrArg w (ext4 rfl rfl (row_of k c) (col_of k c)))

theorem product6 (x : S20480x7168.Idx → EReal) (w : S2x8x7168x2048.Idx → EReal) (r : Fin 20480) (c : Fin 2048) :
    val_main_v52 (F := Ideal) x w (ix2 r c) = rowBy x w r c 6 := by
  rw [val_main_v52_apply]
  refine Finset.sum_congr rfl fun k _ => ?_
  rw [val_main_v51_apply, val_main_v50_apply]
  exact congrArg₂ (· * ·) (congrArg x (ext2 rfl rfl)) (congrArg w (ext4 rfl rfl (row_of k c) (col_of k c)))

theorem product7 (x : S20480x7168.Idx → EReal) (w : S2x8x7168x2048.Idx → EReal) (r : Fin 20480) (c : Fin 2048) :
    val_main_v58 (F := Ideal) x w (ix2 r c) = rowBy x w r c 7 := by
  rw [val_main_v58_apply]
  refine Finset.sum_congr rfl fun k _ => ?_
  rw [val_main_v57_apply, val_main_v56_apply]
  exact congrArg₂ (· * ·) (congrArg x (ext2 rfl rfl)) (congrArg w (ext4 rfl rfl (row_of k c) (col_of k c)))

/-- The table's entry for a row, where the reference reads it. -/
theorem named (te : S40.Idx → BitVec 32) (r : Fin 20480) (j : S20480x1.Idx) (hj : (j 0).val = r.val) :
    val_main_v2 (F := Ideal) te j = te (entry (tile r)) := by
  rw [val_main_v2_apply, val_main_v1_apply, val_main_v0_apply]
  refine congrArg te (funext fun d => Fin.ext ?_)
  match d with
  | ⟨0, _⟩ => show (j 0).val / 512 = r.val / 512; rw [hj]

/-- The mark of the rows in use, where the reference reads it. -/
theorem marked (n : S1.Idx → BitVec 32) (r : Fin 20480) (c : Fin 2048) :
    val_main_call8_v1 (F := Ideal) n (ix2 r c)
      = IntOp.cmpi .eq ((IntOp.cmpi .slt (BitVec.ofNat 32 (tile r).val) (n place)).setWidth 32) 1#32 := by
  rw [val_main_call8_v1_apply, val_main_v61_apply, val_main_v9_apply, val_main_v8_apply, val_main_v7_apply, val_main_v6_apply,
    val_main_v5_apply, val_main_v4_apply]
  rfl

theorem mask0 (te : S40.Idx → BitVec 32) (r : Fin 20480) (c : Fin 2048) :
    val_main_call0_v0 (F := Ideal) te (ix2 r c) = IntOp.cmpi .eq (te (entry (tile r))) 0#32 := by
  rw [val_main_call0_v0_apply, val_main_v13_apply, val_main_v12_apply, named te r _ rfl]
  rfl

theorem mask1 (te : S40.Idx → BitVec 32) (r : Fin 20480) (c : Fin 2048) :
    val_main_call1_v0 (F := Ideal) te (ix2 r c) = IntOp.cmpi .eq (te (entry (tile r))) 1#32 := by
  rw [val_main_call1_v0_apply, val_main_v19_apply, val_main_v18_apply, named te r _ rfl]
  rfl

theorem mask2 (te : S40.Idx → BitVec 32) (r : Fin 20480) (c : Fin 2048) :
    val_main_call2_v0 (F := Ideal) te (ix2 r c) = IntOp.cmpi .eq (te (entry (tile r))) 2#32 := by
  rw [val_main_call2_v0_apply, val_main_v25_apply, val_main_v24_apply, named te r _ rfl]
  rfl

theorem mask3 (te : S40.Idx → BitVec 32) (r : Fin 20480) (c : Fin 2048) :
    val_main_call3_v0 (F := Ideal) te (ix2 r c) = IntOp.cmpi .eq (te (entry (tile r))) 3#32 := by
  rw [val_main_call3_v0_apply, val_main_v31_apply, val_main_v30_apply, named te r _ rfl]
  rfl

theorem mask4 (te : S40.Idx → BitVec 32) (r : Fin 20480) (c : Fin 2048) :
    val_main_call4_v0 (F := Ideal) te (ix2 r c) = IntOp.cmpi .eq (te (entry (tile r))) 4#32 := by
  rw [val_main_call4_v0_apply, val_main_v37_apply, val_main_v36_apply, named te r _ rfl]
  rfl

theorem mask5 (te : S40.Idx → BitVec 32) (r : Fin 20480) (c : Fin 2048) :
    val_main_call5_v0 (F := Ideal) te (ix2 r c) = IntOp.cmpi .eq (te (entry (tile r))) 5#32 := by
  rw [val_main_call5_v0_apply, val_main_v43_apply, val_main_v42_apply, named te r _ rfl]
  rfl

theorem mask6 (te : S40.Idx → BitVec 32) (r : Fin 20480) (c : Fin 2048) :
    val_main_call6_v0 (F := Ideal) te (ix2 r c) = IntOp.cmpi .eq (te (entry (tile r))) 6#32 := by
  rw [val_main_call6_v0_apply, val_main_v49_apply, val_main_v48_apply, named te r _ rfl]
  rfl

theorem mask7 (te : S40.Idx → BitVec 32) (r : Fin 20480) (c : Fin 2048) :
    val_main_call7_v0 (F := Ideal) te (ix2 r c) = IntOp.cmpi .eq (te (entry (tile r))) 7#32 := by
  rw [val_main_call7_v0_apply, val_main_v55_apply, val_main_v54_apply, named te r _ rfl]
  rfl

/-- The reference's result at an index. -/
theorem reference (te : S40.Idx → BitVec 32) (n : S1.Idx → BitVec 32) (x : S20480x7168.Idx → EReal) (w : S2x8x7168x2048.Idx → EReal)
    (ht : ∀ y, (te y).toNat < 8) : val_main_v62 (F := Ideal) te n x w = G te (n place) x w := by
  funext y
  obtain ⟨r, c, rfl⟩ : ∃ (r : Fin 20480) (c : Fin 2048), y = ix2 r c := ⟨y 0, y 1, eq_ix2 y⟩
  show _ = entryAt te (n place) x w r c
  rw [val_main_v62_apply, marked, keep, val_main_v59_apply, val_main_v53_apply, val_main_v47_apply, val_main_v41_apply, val_main_v35_apply, val_main_v29_apply, val_main_v23_apply, val_main_v17_apply]
  rw [mask0, product0, mask1, product1, mask2, product2, mask3, product3, mask4, product4, mask5, product5, mask6, product6, mask7, product7, pick _ (ht _) (rowBy x w r c), ← expert_of te r _ rfl (ht _)]
  refine if_congr Iff.rfl rfl ?_
  rw [val_main_call8_v2_apply, val_main_call8_v0_apply, val_main_cst_8_apply]
  exact Ideal.ofBits_zero_f32

end Cert.Proof.MoeOut

end
-- ==== Proof.MoeOut.Claims.lean ====
/- The claims about the expert layer's second product: the three frames, and the kernel's result equal to the reference's
   over the extended reals. -/
module

public import proofs.«01_k».proof.Defs
public import proofs.«01_k».proof.Proof.Gen.Kernel2
public import proofs.«01_k».proof.Proof.Gen.Pre_experts2
public import proofs.«01_k».proof.Proof.Gen.Reference2Ideal
public import proofs.«01_k».proof.Proof.MoeOut.Reference
public import Idealize.ShloMosaic.Adequacy
public import Idealize.ShloMosaic.Init

@[expose] public section

set_option maxRecDepth 16384

noncomputable section

namespace Cert.Proof.MoeOut

open Idealize.ShloMosaic Idealize.ShloMosaic.TcCoe Idealize.SL Idealize.SL.Sem

/-- The two programs' tables of bodies have the same text. -/
theorem bodies_eq : Cert.Kernel2.defs₀ (F := Bits) = Cert.Kernel2Ideal.defs₀ (F := Bits) := by
  unfold Cert.Kernel2.defs₀ Cert.Kernel2Ideal.defs₀
  refine congrArg Defs.onTc ?_
  funext l x
  match l, x with
  | ⟨0, _⟩, (t, s) => rfl

theorem defs_eq : Cert.Kernel2.defs (F := Bits) = Cert.Kernel2Ideal.defs (F := Bits) := by
  unfold Cert.Kernel2.defs Cert.Kernel2Ideal.defs
  rw [bodies_eq]
  rfl

/-- The machine's program has the text of the program over the extended reals, and the run is over any float values. -/
theorem frame_kernel : Cert.quiescent_Kernel2 := fun m ρ hp => by
  rw [defs_eq]
  exact (θ_run (Cert.Kernel2Ideal.defs (F := Bits)) _ _).mono (fun _ h => ⟨fun c => (h.1 c).2, h.2⟩)
    (run_main (F := Bits) m ρ (fun c => lt_of_experts2 _ _ _ _ (hp c)))

theorem frame_ideal : Cert.quiescent_Kernel2Ideal := fun m ρ hp =>
  (θ_run Cert.Kernel2Ideal.defs _ _).mono (fun _ h => ⟨fun c => (h.1 c).2, h.2⟩)
    (run_main (F := Ideal) m ρ (fun c => lt_of_experts2 _ _ _ _ (hp c)))

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := fun m ρ m' ρ' hp hm => by
  have named : Named m := fun c => lt_of_experts2 _ _ _ _ (hp c)
  refine ⟨fun c => G (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1) place)
    (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), ?_, ?_⟩
  · exact (θ_run Cert.Kernel2Ideal.defs _ _).mono (fun _ h c => ⟨(h.1 c).1.trans (value m named c), (h.1 c).2⟩)
      (run_main (F := Ideal) m ρ named)
  · refine (θ_run Cert.Reference2Ideal.defs _ _).mono (fun r h c => ⟨?_, (h c).2⟩) (Cert.Reference2Ideal.Value.run (F := Ideal) m' ρ')
    rw [(h c).1, Cert.Reference2Ideal.Read.val_main_v62_eq, (hm c).1, (hm c).2.1, (hm c).2.2.1, (hm c).2.2.2]
    exact reference _ _ _ _ (named c)

end Cert.Proof.MoeOut

end
-- ==== Proof.Rows.lean ====
/- The rows of the two batches, stacked for the calls and taken apart after them, read at an index: 4 prompts of 2048 rows
   each, then the 128 sample rows. -/
module

public import Idealize.ShloMosaic.Lib.Pipeline.ValueKit
public import Idealize.ShloMosaic.PureOps.Ideal
public import Idealize.ShloMosaic.Lib.MatmulPlain

@[expose] public section

set_option maxRecDepth 16384

noncomputable section

namespace Cert.Proof.Rows

open Idealize.ShloMosaic hiding ix1 ix2 ix3 ix4 eq_ix2
open Idealize.ShloMosaic.ValueIdx
open scoped BigOperators

variable {α : Type}

theorem ext2 {n0 n1 : ℕ} {i j : (⟨2, ![n0, n1]⟩ : Shape).Idx} (h0 : (i 0).val = (j 0).val) (h1 : (i 1).val = (j 1).val) : i = j :=
  funext fun d => Fin.ext (by match d with | ⟨0, _⟩ => exact h0 | ⟨1, _⟩ => exact h1)

theorem ext3 {n0 n1 n2 : ℕ} {i j : (⟨3, ![n0, n1, n2]⟩ : Shape).Idx} (h0 : (i 0).val = (j 0).val) (h1 : (i 1).val = (j 1).val)
    (h2 : (i 2).val = (j 2).val) : i = j :=
  funext fun d => Fin.ext (by match d with | ⟨0, _⟩ => exact h0 | ⟨1, _⟩ => exact h1 | ⟨2, _⟩ => exact h2)

/-- A coordinate in block `a` of blocks of `n`, from the block map's value. -/
theorem at_block {x a : ℕ} (n r : ℕ) (e : x = a) : x * n + 1 * r = a * n + r := by rw [e, one_mul]

/-- The same in the first block. -/
theorem at_block_zero {x : ℕ} (n r : ℕ) (e : x = 0) : x * n + 1 * r = r := by rw [e, zero_mul, zero_add, one_mul]

/-- The place of row `l` of prompt `b` among the stacked rows. -/
def promptRow (b : Fin 4) (l : Fin 2048) : Fin 8320 := ⟨b.val * 2048 + l.val, by omega⟩

/-- The place of sample row `s` among the stacked rows. -/
def sampleRow (s : Fin 128) : Fin 8320 := ⟨8192 + s.val, by omega⟩

/-- The stacked rows, at a prompt's row. -/
theorem stack_prompt {d : ℕ} (xp : (⟨3, ![4, 2048, d]⟩ : Shape).Idx → α) (xs : (⟨3, ![128, 1, d]⟩ : Shape).Idx → α)
    (hp : (⟨3, ![4, 2048, d]⟩ : Shape).ShapeCasts ⟨2, ![8192, d]⟩) (hs : (⟨3, ![128, 1, d]⟩ : Shape).ShapeCasts ⟨2, ![128, d]⟩)
    (hc : Shape.Concatenates [(⟨2, ![8192, d]⟩ : Shape), ⟨2, ![128, d]⟩] ⟨2, ![8320, d]⟩ 0) (b : Fin 4) (l : Fin 2048) (k : Fin d) :
    concatenate (⟨2, ![8320, d]⟩ : Shape) 0 [⟨⟨2, ![8192, d]⟩, shapeCast _ xp hp⟩, ⟨⟨2, ![128, d]⟩, shapeCast _ xs hs⟩] hc
      (ix2 (promptRow b l) k) = xp (ix3 b l k) := by
  refine (concatenate_pair_apply_left (t := ⟨2, ![8320, d]⟩) (s₁ := ⟨2, ![8192, d]⟩) (s₂ := ⟨2, ![128, d]⟩) (0 : Fin 2) _ _ hc (ix2 (promptRow b l) k) rfl
    (ix2 ⟨b.val * 2048 + l.val, by have := b.isLt; have := l.isLt; omega⟩ k) (fun a => ?_)).trans ?_
  · match a with
    | ⟨0, _⟩ => rfl
    | ⟨1, _⟩ => rfl
  · refine shapeCast_apply xp hp _ (ix3 b l k) ?_
    rw [Shape.rowMajor_val_three, Shape.rowMajor_val_two]
    rfl

/-- The stacked rows, at a sample row. -/
theorem stack_sample {d : ℕ} (xp : (⟨3, ![4, 2048, d]⟩ : Shape).Idx → α) (xs : (⟨3, ![128, 1, d]⟩ : Shape).Idx → α)
    (hp : (⟨3, ![4, 2048, d]⟩ : Shape).ShapeCasts ⟨2, ![8192, d]⟩) (hs : (⟨3, ![128, 1, d]⟩ : Shape).ShapeCasts ⟨2, ![128, d]⟩)
    (hc : Shape.Concatenates [(⟨2, ![8192, d]⟩ : Shape), ⟨2, ![128, d]⟩] ⟨2, ![8320, d]⟩ 0) (s : Fin 128) (k : Fin d) :
    concatenate (⟨2, ![8320, d]⟩ : Shape) 0 [⟨⟨2, ![8192, d]⟩, shapeCast _ xp hp⟩, ⟨⟨2, ![128, d]⟩, shapeCast _ xs hs⟩] hc
      (ix2 (sampleRow s) k) = xs (ix3 s (0 : Fin 1) k) := by
  refine (concatenate_pair_apply_right (t := ⟨2, ![8320, d]⟩) (s₁ := ⟨2, ![8192, d]⟩) (s₂ := ⟨2, ![128, d]⟩) (0 : Fin 2) _ _ hc (ix2 (sampleRow s) k) rfl rfl (ix2 s k) (fun a ha => ?_) ?_).trans ?_
  · match a with
    | ⟨0, _⟩ => exact absurd rfl ha
    | ⟨1, _⟩ => rfl
  · show s.val + 8192 = 8192 + s.val
    omega
  · refine shapeCast_apply xs hs _ (ix3 s (0 : Fin 1) k) ?_
    rw [Shape.rowMajor_val_three, Shape.rowMajor_val_two]
    show (s.val * 1 + 0) * d + k.val = s.val * d + k.val
    rw [Nat.mul_one, Nat.add_zero]

/-- The prompt rows taken from a stack of rows. -/
theorem take_prompt {d : ℕ} (h : (⟨2, ![8320, d]⟩ : Shape).Idx → α) (hs : (⟨2, ![8320, d]⟩ : Shape).Slices ![0, 0] ⟨2, ![8192, d]⟩)
    (hc : (⟨2, ![8192, d]⟩ : Shape).ShapeCasts ⟨3, ![4, 2048, d]⟩) (b : Fin 4) (l : Fin 2048) (k : Fin d) :
    shapeCast (⟨3, ![4, 2048, d]⟩ : Shape) (extractStridedSlice ⟨2, ![8192, d]⟩ ![0, 0] h hs) hc (ix3 b l k)
      = h (ix2 (promptRow b l) k) := by
  refine (shapeCast_apply _ hc (ix3 b l k) (ix2 ⟨b.val * 2048 + l.val, by have := b.isLt; have := l.isLt; omega⟩ k) ?_).trans ?_
  · rw [Shape.rowMajor_val_three, Shape.rowMajor_val_two]
    rfl
  · refine extractStridedSlice_apply _ h hs _ (ix2 (promptRow b l) k) fun a => ?_
    match a with
    | ⟨0, _⟩ => exact (Nat.zero_add _).symm
    | ⟨1, _⟩ => exact (Nat.zero_add _).symm

/-- The sample rows taken from a stack of rows. -/
theorem take_sample {d : ℕ} (h : (⟨2, ![8320, d]⟩ : Shape).Idx → α) (hs : (⟨2, ![8320, d]⟩ : Shape).Slices ![8192, 0] ⟨2, ![128, d]⟩)
    (hc : (⟨2, ![128, d]⟩ : Shape).ShapeCasts ⟨3, ![128, 1, d]⟩) (s : Fin 128) (z : Fin 1) (k : Fin d) :
    shapeCast (⟨3, ![128, 1, d]⟩ : Shape) (extractStridedSlice ⟨2, ![128, d]⟩ ![8192, 0] h hs) hc (ix3 s z k)
      = h (ix2 (sampleRow s) k) := by
  refine (shapeCast_apply _ hc (ix3 s z k) (ix2 s k) ?_).trans ?_
  · rw [Shape.rowMajor_val_three, Shape.rowMajor_val_two]
    show s.val * d + k.val = (s.val * 1 + z.val) * d + k.val
    have hz : z.val = 0 := by have := z.isLt; omega
    rw [hz, Nat.mul_one, Nat.add_zero]
  · refine extractStridedSlice_apply _ h hs _ (ix2 (sampleRow s) k) fun a => ?_
    match a with
    | ⟨0, _⟩ => rfl
    | ⟨1, _⟩ => exact (Nat.zero_add _).symm

/-- A run of columns. -/
theorem columns {n d e : ℕ} (o : ℕ) (h : (⟨2, ![n, d]⟩ : Shape).Idx → α) (hs : (⟨2, ![n, d]⟩ : Shape).Slices ![0, o] ⟨2, ![n, e]⟩)
    (r : Fin n) (k : Fin e) (hk : o + k.val < d) :
    extractStridedSlice ⟨2, ![n, e]⟩ ![0, o] h hs (ix2 r k) = h (ix2 r ⟨o + k.val, hk⟩) := by
  refine extractStridedSlice_apply _ h hs _ (ix2 r ⟨o + k.val, hk⟩) fun a => ?_
  match a with
  | ⟨0, _⟩ => exact (Nat.zero_add _).symm
  | ⟨1, _⟩ => rfl

/-- One member of a stack of matrices. -/
theorem member {p n d : ℕ} (j : Fin p) (w : (⟨3, ![p, n, d]⟩ : Shape).Idx → α)
    (hs : (⟨3, ![p, n, d]⟩ : Shape).Slices ![j.val, 0, 0] ⟨3, ![1, n, d]⟩) (hc : (⟨3, ![1, n, d]⟩ : Shape).ShapeCasts ⟨2, ![n, d]⟩)
    (k : Fin n) (c : Fin d) :
    shapeCast (⟨2, ![n, d]⟩ : Shape) (extractStridedSlice ⟨3, ![1, n, d]⟩ ![j.val, 0, 0] w hs) hc (ix2 k c) = w (ix3 j k c) := by
  refine (shapeCast_apply _ hc (ix2 k c) (ix3 (0 : Fin 1) k c) ?_).trans ?_
  · rw [Shape.rowMajor_val_three, Shape.rowMajor_val_two]
    show (0 * n + k.val) * d + c.val = k.val * d + c.val
    rw [Nat.zero_mul, Nat.zero_add]
  · refine extractStridedSlice_apply _ w hs _ (ix3 j k c) fun a => ?_
    match a with
    | ⟨0, _⟩ => rfl
    | ⟨1, _⟩ => exact (Nat.zero_add _).symm
    | ⟨2, _⟩ => exact (Nat.zero_add _).symm

/-- The stacked rows of every member of a stack, one member taken, at a prompt's row. -/
theorem layers_prompt {p d : ℕ} (j : Fin p) (xp : (⟨4, ![p, 4, 2048, d]⟩ : Shape).Idx → α) (xs : (⟨4, ![p, 128, 1, d]⟩ : Shape).Idx → α)
    (hp : (⟨4, ![p, 4, 2048, d]⟩ : Shape).ShapeCasts ⟨3, ![p, 8192, d]⟩) (hs : (⟨4, ![p, 128, 1, d]⟩ : Shape).ShapeCasts ⟨3, ![p, 128, d]⟩)
    (hc : Shape.Concatenates [(⟨3, ![p, 8192, d]⟩ : Shape), ⟨3, ![p, 128, d]⟩] ⟨3, ![p, 8320, d]⟩ 1) (b : Fin 4) (l : Fin 2048) (k : Fin d) :
    concatenate (⟨3, ![p, 8320, d]⟩ : Shape) 1 [⟨⟨3, ![p, 8192, d]⟩, shapeCast _ xp hp⟩, ⟨⟨3, ![p, 128, d]⟩, shapeCast _ xs hs⟩] hc
      (ix3 j (promptRow b l) k) = xp (ix4 j b l k) := by
  refine (concatenate_pair_apply_left (t := ⟨3, ![p, 8320, d]⟩) (s₁ := ⟨3, ![p, 8192, d]⟩) (s₂ := ⟨3, ![p, 128, d]⟩) (1 : Fin 3) _ _ hc
    (ix3 j (promptRow b l) k) rfl (ix3 j ⟨b.val * 2048 + l.val, by have := b.isLt; have := l.isLt; omega⟩ k) (fun a => ?_)).trans ?_
  · match a with
    | ⟨0, _⟩ => rfl
    | ⟨1, _⟩ => rfl
    | ⟨2, _⟩ => rfl
  · refine shapeCast_apply xp hp _ (ix4 j b l k) ?_
    rw [Shape.rowMajor_val_three, Shape.rowMajor_val_four]
    show ((j.val * 4 + b.val) * 2048 + l.val) * d + k.val = (j.val * 8192 + (b.val * 2048 + l.val)) * d + k.val
    congr 2
    omega

/-- The stacked rows of every member of a stack, one member taken, at a sample row. -/
theorem layers_sample {p d : ℕ} (j : Fin p) (xp : (⟨4, ![p, 4, 2048, d]⟩ : Shape).Idx → α) (xs : (⟨4, ![p, 128, 1, d]⟩ : Shape).Idx → α)
    (hp : (⟨4, ![p, 4, 2048, d]⟩ : Shape).ShapeCasts ⟨3, ![p, 8192, d]⟩) (hs : (⟨4, ![p, 128, 1, d]⟩ : Shape).ShapeCasts ⟨3, ![p, 128, d]⟩)
    (hc : Shape.Concatenates [(⟨3, ![p, 8192, d]⟩ : Shape), ⟨3, ![p, 128, d]⟩] ⟨3, ![p, 8320, d]⟩ 1) (s : Fin 128) (k : Fin d) :
    concatenate (⟨3, ![p, 8320, d]⟩ : Shape) 1 [⟨⟨3, ![p, 8192, d]⟩, shapeCast _ xp hp⟩, ⟨⟨3, ![p, 128, d]⟩, shapeCast _ xs hs⟩] hc
      (ix3 j (sampleRow s) k) = xs (ix4 j s (0 : Fin 1) k) := by
  refine (concatenate_pair_apply_right (t := ⟨3, ![p, 8320, d]⟩) (s₁ := ⟨3, ![p, 8192, d]⟩) (s₂ := ⟨3, ![p, 128, d]⟩) (1 : Fin 3) _ _ hc
    (ix3 j (sampleRow s) k) rfl rfl (ix3 j s k) (fun a ha => ?_) ?_).trans ?_
  · match a with
    | ⟨0, _⟩ => rfl
    | ⟨1, _⟩ => exact absurd rfl ha
    | ⟨2, _⟩ => rfl
  · show s.val + 8192 = 8192 + s.val
    omega
  · refine shapeCast_apply xs hs _ (ix4 j s (0 : Fin 1) k) ?_
    rw [Shape.rowMajor_val_three, Shape.rowMajor_val_four]
    show ((j.val * 128 + s.val) * 1 + 0) * d + k.val = (j.val * 128 + s.val) * d + k.val
    rw [Nat.mul_one, Nat.add_zero]

/-- A product of two matrices, at a row and a column. -/
def mul {n k d : ℕ} (x : (⟨2, ![n, k]⟩ : Shape).Idx → EReal) (w : (⟨2, ![k, d]⟩ : Shape).Idx → EReal) (r : Fin n) (c : Fin d) : EReal :=
  ∑ q : Fin k, x (ix2 r q) * w (ix2 q c)

/-- The matrix product, as an array. -/
def prod {n k d : ℕ} (x : (⟨2, ![n, k]⟩ : Shape).Idx → EReal) (w : (⟨2, ![k, d]⟩ : Shape).Idx → EReal) : (⟨2, ![n, d]⟩ : Shape).Idx → EReal :=
  fun y => mul x w (y 0) (y 1)

/-- Row `(i, l)` of a batch times a column of one member of a stack of weights. -/
def rowAt {a b d p n : ℕ} (x : (⟨3, ![a, b, d]⟩ : Shape).Idx → EReal) (w : (⟨3, ![p, d, n]⟩ : Shape).Idx → EReal) (i : Fin a) (l : Fin b)
    (j : Fin p) (c : Fin n) : EReal := ∑ k : Fin d, x (ix3 i l k) * w (ix3 j k c)

/-- A product's element is a row times a column, where its operands read so. -/
theorem prod_row {a b d p n e f : ℕ} {x : (⟨2, ![f, d]⟩ : Shape).Idx → EReal} {w : (⟨2, ![d, e]⟩ : Shape).Idx → EReal}
    {xs : (⟨3, ![a, b, d]⟩ : Shape).Idx → EReal} {ws : (⟨3, ![p, d, n]⟩ : Shape).Idx → EReal} {r : Fin f} {q : Fin e} {i : Fin a}
    {l : Fin b} {j : Fin p} {c : Fin n} (hx : ∀ k, x (ix2 r k) = xs (ix3 i l k)) (hw : ∀ k, w (ix2 k q) = ws (ix3 j k c)) :
    prod x w (ix2 r q) = rowAt xs ws i l j c := by
  show (∑ k : Fin d, x (ix2 r k) * w (ix2 k q)) = ∑ k : Fin d, xs (ix3 i l k) * ws (ix3 j k c)
  exact Finset.sum_congr rfl fun k _ => congrArg₂ (· * ·) (hx k) (hw k)

/-- Row `(i, l)` of one member of a stack of batches times a column of one member of a stack of weights. -/
def rowOf {a b d p n : ℕ} (x : (⟨4, ![p, a, b, d]⟩ : Shape).Idx → EReal) (w : (⟨3, ![p, d, n]⟩ : Shape).Idx → EReal) (j : Fin p) (i : Fin a)
    (l : Fin b) (c : Fin n) : EReal := ∑ k : Fin d, x (ix4 j i l k) * w (ix3 j k c)

end Cert.Proof.Rows

end
-- ==== Proof.Even.Value.lean ====
/- The even layers' input projection over the extended reals: the result array is the matrix product. -/
module

public import proofs.«01_k».proof.Proof.Gen.Kernel3Ideal.Frame
public import proofs.«01_k».proof.Proof.Rows
public import Idealize.ShloMosaic.Lib.MatmulPlain
public import Idealize.ShloMosaic.PureOps.Ideal

@[expose] public section

set_option maxRecDepth 16384

noncomputable section

namespace Cert.Proof.Even

open Cert.Kernel3Ideal Cert.Kernel3Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- The block product, at an index. -/
theorem product_apply (x : Vec Ideal S640x2048 .bf16) (w : Vec Ideal S2048x640 .bf16) (r : Fin 640) (q : Fin 640) :
    k0_pay1 (F := Ideal) x w (ix2 r q) = ∑ k : Fin 2048, x (ix2 r k) * w (ix2 k q) := by
  unfold k0_pay1
  refine (Ideal.matmul_plain_apply (φ₁ := .bf16) (φ₂ := .bf16) (M := 640) (K := 2048) (N := 640) none _ _ _ r q).trans ?_
  rw [show (constant (F := Ideal) S640x640 .f32 0x00000000#32) (ix2 r q) = (0 : EReal) from Ideal.ofBits_zero_f32, zero_add]
  exact Finset.sum_congr rfl fun k _ => congrArg₂ (· * ·)
    (shapeCast_apply x _ (ix2 r k) (ix2 r k) rfl) (shapeCast_apply w _ (ix2 k q) (ix2 k q) rfl)

/-- What the body leaves, from the blocks it reads. -/
theorem leaves_apply (x : Vec Ideal S640x2048 .bf16) (w : Vec Ideal S2048x640 .bf16) (r : Fin 640) (q : Fin 640) :
    out0_2 (F := Ideal) x w (ix2 r q) = ∑ k : Fin 2048, x (ix2 r k) * w (ix2 k q) := by
  have z : (![0, 0] : Fin 2 → ℕ) = fun _ => 0 := by decide
  unfold out0_2
  rw [View.canon_unit_zero (Val := Elt Ideal) (S := S640x640) z, View.ld_unit_zero (Val := Elt Ideal) (S := S640x2048) z, View.ld_unit_zero (Val := Elt Ideal) (S := S2048x640) z]
  exact product_apply x w r q

variable (m : (ℓ : Loc nD τ sig) → Buf (Elt Ideal) ℓ)

theorem index0 : ∀ t : Fin grid0.N, cc0_transform_0 (grid0.coords t) = ![(grid0.coords t 0).val, 0] := by decide +kernel
theorem index1 : ∀ t : Fin grid0.N, cc0_transform_1 (grid0.coords t) = ![0, (grid0.coords t 1).val] := by decide +kernel
theorem index2 : ∀ t : Fin grid0.N, cc0_transform_2 (grid0.coords t) = ![(grid0.coords t 0).val, (grid0.coords t 1).val] := by decide +kernel

/-- A block of rows, at an index. -/
theorem rows_apply (c : Dev nD) (t : Fin cfg0.N) (r : Fin 640) (k : Fin 2048) (hr : (grid0.coords t 0).val * 640 + r.val < 8320) :
    iblk m c (0 : Fin 3) t (ix2 r k) = V m c main_v3 (ix2 ⟨(grid0.coords t 0).val * 640 + r.val, hr⟩ k) := by
  refine congrArg (V m c main_v3) ?_
  have e := index0 t
  refine ext2 ?_ ?_
  · exact (at_block 640 r.val (congrFun e 0) :)
  · exact (at_block_zero 2048 k.val (congrFun e 1) :)

/-- A block of columns of the weight, at an index. -/
theorem weight_apply (c : Dev nD) (t : Fin cfg0.N) (k : Fin 2048) (q : Fin 640) (hq : (grid0.coords t 1).val * 640 + q.val < 3200) :
    iblk m c (1 : Fin 3) t (ix2 k q) = V m c main_v14 (ix2 k ⟨(grid0.coords t 1).val * 640 + q.val, hq⟩) := by
  refine congrArg (V m c main_v14) ?_
  have e := index1 t
  refine ext2 ?_ ?_
  · exact (at_block_zero 2048 k.val (congrFun e 0) :)
  · exact (at_block 640 q.val (congrFun e 1) :)

/-- The place of a result block's index in the array. -/
theorem place_apply (t : Fin cfg0.N) (r : Fin 640) (q : Fin 640) (hr : (grid0.coords t 0).val * 640 + r.val < 8320)
    (hq : (grid0.coords t 1).val * 640 + q.val < 3200) : ((cfg0.win (2 : Fin 3)).blk t).view.emb (ix2 r q)
      = ix2 ⟨(grid0.coords t 0).val * 640 + r.val, hr⟩ ⟨(grid0.coords t 1).val * 640 + q.val, hq⟩ := by
  have e := index2 t
  refine ext2 ?_ ?_
  · exact (at_block 640 r.val (congrFun e 0) :)
  · exact (at_block 640 q.val (congrFun e 1) :)

/-- Every point writes its block back: the next point's block is another. -/
theorem flushes : ∀ t : Fin grid0.N, Pipeline.Window.flushOf grid0 true cc0_transform_2 t = true := by decide +kernel

/-- Every pair of a row tile and a column block is a point's. -/
theorem onto : ∀ (i : Fin 13) (j : Fin 5), ∃ t : Fin grid0.N, (grid0.coords t 0).val = i.val ∧ (grid0.coords t 1).val = j.val := by
  decide +kernel

/-- The result's blocks cover it. -/
theorem cover (y : S8320x3200.Idx) : ∃ t : Fin cfg0.N, (cfg0.win (2 : Fin 3)).flush t = true ∧ y ∈ ((cfg0.win (2 : Fin 3)).blk t).view.set := by
  have h0 : (y 0).val < 8320 := (y 0).isLt
  have h1 : (y 1).val < 3200 := (y 1).isLt
  obtain ⟨t, e0, e1⟩ := onto ⟨(y 0).val / 640, by omega⟩ ⟨(y 1).val / 640, by omega⟩
  have e0' : (grid0.coords t 0).val = (y 0).val / 640 := e0
  have e1' : (grid0.coords t 1).val = (y 1).val / 640 := e1
  have hr : (grid0.coords t 0).val * 640 + (y 0).val % 640 < 8320 := by omega
  have hq : (grid0.coords t 1).val * 640 + (y 1).val % 640 < 3200 := by omega
  refine ⟨t, flushes t, ?_⟩
  have he := place_apply t ⟨(y 0).val % 640, by omega⟩ ⟨(y 1).val % 640, by omega⟩ hr hq
  have hy : y = ix2 ⟨(grid0.coords t 0).val * 640 + (y 0).val % 640, hr⟩ ⟨(grid0.coords t 1).val * 640 + (y 1).val % 640, hq⟩ :=
    ext2 (by show (y 0).val = (grid0.coords t 0).val * 640 + (y 0).val % 640; omega)
      (by show (y 1).val = (grid0.coords t 1).val * 640 + (y 1).val % 640; omega)
  rw [hy, ← he]
  exact View.emb_mem_set _ _

/-- The array after the write-backs: the matrix product. -/
theorem final (c : Dev nD) : (dats m 0 c).arrAt (2 : Fin 3) cfg0.N = prod (V m c main_v3) (V m c main_v14) := by
  refine (dats m 0 c).arrAt_eq_of_emb (2 : Fin 3) _ (fun t _ y => ?_) cover
  obtain ⟨r, q, rfl⟩ : ∃ (r : Fin 640) (q : Fin 640), y = ix2 r q := ⟨y 0, y 1, eq_ix2 y⟩
  have h0 : (grid0.coords t 0).val < 13 := (grid0.coords t 0).isLt
  have h1 : (grid0.coords t 1).val < 5 := (grid0.coords t 1).isLt
  have hr : (grid0.coords t 0).val * 640 + r.val < 8320 := by have := r.isLt; omega
  have hq : (grid0.coords t 1).val * 640 + q.val < 3200 := by have := q.isLt; omega
  refine Eq.trans ?_ (congrArg (prod _ _) (place_apply t r q hr hq)).symm
  refine (congrFun (after0_2 m c t) (ix2 r q)).trans ?_
  refine (leaves_apply _ _ r q).trans ?_
  show _ = mul _ _ _ _
  unfold mul
  refine Finset.sum_congr rfl fun k _ => ?_
  rw [rows_apply m c t r k hr, weight_apply m c t k q hq]

end Cert.Proof.Even

end
-- ==== Proof.Even.Host.lean ====
/- The host operations around the even layers' input projection: the rows and the weight the region reads, and the results
   after it, from the arguments. -/
module

public import proofs.«01_k».proof.Proof.Even.Value

@[expose] public section

set_option maxRecDepth 16384

noncomputable section

namespace Cert.Proof.Even

open Cert.Kernel3Ideal Cert.Kernel3Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

variable (m : (ℓ : Loc nD τ sig) → Buf (Elt Ideal) ℓ)

/-- The rows the region reads: the prompts' and the samples', stacked. -/
theorem rows_eq (c : Dev nD) : V m c main_v3 = truncf (F := Ideal) .bf16 (concatenate S8320x2048 0
      [⟨S8192x2048, shapeCast S8192x2048 (m ((c : Thread nD τ).loc main_arg0)) shapeCasts_S4x2048x2048_S8192x2048⟩,
        ⟨S128x2048, shapeCast S128x2048 (m ((c : Thread nD τ).loc main_arg1)) shapeCasts_S128x1x2048_S128x2048⟩]
      concatenates_S8192x2048_S128x2048_S8320x2048_d0) bitsLt_bf16_f32 := by
  unfold V V0
  simp only [hostOps0, List.flatten_cons, List.flatten_nil, List.append_nil,
    List.cons_append, List.nil_append]
  after_results; rfl

theorem stacked_prompt (c : Dev nD) (b : Fin 4) (l k : Fin 2048) :
    V m c main_v3 (ix2 (promptRow b l) k) = m ((c : Thread nD τ).loc main_arg0) (ix3 b l k) := by
  rw [rows_eq]
  exact stack_prompt (d := 2048) (m ((c : Thread nD τ).loc main_arg0)) (m ((c : Thread nD τ).loc main_arg1))
    shapeCasts_S4x2048x2048_S8192x2048 shapeCasts_S128x1x2048_S128x2048 concatenates_S8192x2048_S128x2048_S8320x2048_d0 b l k

theorem stacked_sample (c : Dev nD) (s : Fin 128) (k : Fin 2048) :
    V m c main_v3 (ix2 (sampleRow s) k) = m ((c : Thread nD τ).loc main_arg1) (ix3 s (0 : Fin 1) k) := by
  rw [rows_eq]
  exact stack_sample (d := 2048) (m ((c : Thread nD τ).loc main_arg0)) (m ((c : Thread nD τ).loc main_arg1))
    shapeCasts_S4x2048x2048_S8192x2048 shapeCasts_S128x1x2048_S128x2048 concatenates_S8192x2048_S128x2048_S8320x2048_d0 s k

/-- The weight the region reads, from its seven pieces. -/
theorem weight_eq (c : Dev nD) : V m c main_v14 = truncf (F := Ideal) .bf16 (concatenate S2048x3200 1
      [⟨S2048x1024, V m c main_v7⟩, ⟨S2048x1024, V m c main_v8⟩, ⟨S2048x512, V m c main_v9⟩, ⟨S2048x256, V m c main_v10⟩,
        ⟨S2048x256, V m c main_v11⟩, ⟨S2048x72, V m c main_v12⟩, ⟨S2048x56, V m c main_v6⟩]
      concatenates_S2048x1024_S2048x1024_S2048x512_S2048x256_S2048x256_S2048x72_S2048x56_S2048x3200_d1) bitsLt_bf16_f32 := by
  unfold V V0
  simp only [hostOps0, List.flatten_cons, List.flatten_nil, List.append_nil, List.cons_append, List.nil_append]
  after_results; rfl

/-- The weight's diff columns, as the host cuts them. -/
theorem diff_piece (c : Dev nD) : V m c main_v10 = extractStridedSlice S2048x256 ![0, 1024]
      (shapeCast S2048x3144 (extractStridedSlice S1x2048x3144 ![0, 0, 0] (m ((c : Thread nD τ).loc main_arg2))
        slices_S2x2048x3144_S1x2048x3144_0_0_0) shapeCasts_S1x2048x3144_S2048x3144) slices_S2048x3144_S2048x256_0_1024 := by
  unfold V V0
  simp only [hostOps0, List.flatten_cons, List.flatten_nil, List.append_nil, List.cons_append, List.nil_append]
  after_results; rfl

theorem diff_weight (c : Dev nD) (k : Fin 2048) (q : Fin 256) : V m c main_v14 (ix2 k ⟨2560 + q.val, by omega⟩)
    = m ((c : Thread nD τ).loc main_arg2) (ix3 (0 : Fin 2) k ⟨1024 + q.val, by omega⟩) := by
  rw [weight_eq]
  refine (concatenate_apply_piece (t := S2048x3200) (1 : Fin 2)
      [⟨S2048x1024, V m c main_v7⟩, ⟨S2048x1024, V m c main_v8⟩, ⟨S2048x512, V m c main_v9⟩, ⟨S2048x256, V m c main_v10⟩,
        ⟨S2048x256, V m c main_v11⟩, ⟨S2048x72, V m c main_v12⟩, ⟨S2048x56, V m c main_v6⟩] concatenates_S2048x1024_S2048x1024_S2048x512_S2048x256_S2048x256_S2048x72_S2048x56_S2048x3200_d1
    (ix2 k ⟨2560 + q.val, by omega⟩) 3 (show 3 < 7 by decide) S2048x256 (V m c main_v10) rfl rfl 2560 rfl (ix2 k q) (fun a ha => ?_)
    rfl).trans ?_
  · match a with
    | ⟨0, _⟩ => rfl
    | ⟨1, _⟩ => exact absurd rfl ha
  · rw [diff_piece]
    refine (columns 1024 _ slices_S2048x3144_S2048x256_0_1024 k q (by omega)).trans ?_
    exact member (0 : Fin 2) (m ((c : Thread nD τ).loc main_arg2)) slices_S2x2048x3144_S1x2048x3144_0_0_0
      shapeCasts_S1x2048x3144_S2048x3144 k _

/-- The weight's dsa columns, as the host cuts them. -/
theorem dsa_piece (c : Dev nD) : V m c main_v11 = extractStridedSlice S2048x256 ![0, 2304]
      (shapeCast S2048x3144 (extractStridedSlice S1x2048x3144 ![0, 0, 0] (m ((c : Thread nD τ).loc main_arg2))
        slices_S2x2048x3144_S1x2048x3144_0_0_0) shapeCasts_S1x2048x3144_S2048x3144) slices_S2048x3144_S2048x256_0_2304 := by
  unfold V V0
  simp only [hostOps0, List.flatten_cons, List.flatten_nil, List.append_nil, List.cons_append, List.nil_append]
  after_results; rfl

theorem dsa_weight (c : Dev nD) (k : Fin 2048) (q : Fin 256) : V m c main_v14 (ix2 k ⟨2816 + q.val, by omega⟩)
    = m ((c : Thread nD τ).loc main_arg2) (ix3 (0 : Fin 2) k ⟨2304 + q.val, by omega⟩) := by
  rw [weight_eq]
  refine (concatenate_apply_piece (t := S2048x3200) (1 : Fin 2)
      [⟨S2048x1024, V m c main_v7⟩, ⟨S2048x1024, V m c main_v8⟩, ⟨S2048x512, V m c main_v9⟩, ⟨S2048x256, V m c main_v10⟩,
        ⟨S2048x256, V m c main_v11⟩, ⟨S2048x72, V m c main_v12⟩, ⟨S2048x56, V m c main_v6⟩] concatenates_S2048x1024_S2048x1024_S2048x512_S2048x256_S2048x256_S2048x72_S2048x56_S2048x3200_d1
    (ix2 k ⟨2816 + q.val, by omega⟩) 4 (show 4 < 7 by decide) S2048x256 (V m c main_v11) rfl rfl 2816 rfl (ix2 k q) (fun a ha => ?_)
    rfl).trans ?_
  · match a with
    | ⟨0, _⟩ => rfl
    | ⟨1, _⟩ => exact absurd rfl ha
  · rw [dsa_piece]
    refine (columns 2304 _ slices_S2048x3144_S2048x256_0_2304 k q (by omega)).trans ?_
    exact member (0 : Fin 2) (m ((c : Thread nD τ).loc main_arg2)) slices_S2x2048x3144_S1x2048x3144_0_0_0
      shapeCasts_S1x2048x3144_S2048x3144 k _

/-- The weight's index columns, as the host cuts them. -/
theorem index_piece (c : Dev nD) : V m c main_v12 = extractStridedSlice S2048x72 ![0, 3072]
      (shapeCast S2048x3144 (extractStridedSlice S1x2048x3144 ![0, 0, 0] (m ((c : Thread nD τ).loc main_arg2))
        slices_S2x2048x3144_S1x2048x3144_0_0_0) shapeCasts_S1x2048x3144_S2048x3144) slices_S2048x3144_S2048x72_0_3072 := by
  unfold V V0
  simp only [hostOps0, List.flatten_cons, List.flatten_nil, List.append_nil, List.cons_append, List.nil_append]
  after_results; rfl

theorem index_weight (c : Dev nD) (k : Fin 2048) (q : Fin 72) : V m c main_v14 (ix2 k ⟨3072 + q.val, by omega⟩)
    = m ((c : Thread nD τ).loc main_arg2) (ix3 (0 : Fin 2) k ⟨3072 + q.val, by omega⟩) := by
  rw [weight_eq]
  refine (concatenate_apply_piece (t := S2048x3200) (1 : Fin 2)
      [⟨S2048x1024, V m c main_v7⟩, ⟨S2048x1024, V m c main_v8⟩, ⟨S2048x512, V m c main_v9⟩, ⟨S2048x256, V m c main_v10⟩,
        ⟨S2048x256, V m c main_v11⟩, ⟨S2048x72, V m c main_v12⟩, ⟨S2048x56, V m c main_v6⟩] concatenates_S2048x1024_S2048x1024_S2048x512_S2048x256_S2048x256_S2048x72_S2048x56_S2048x3200_d1
    (ix2 k ⟨3072 + q.val, by omega⟩) 5 (show 5 < 7 by decide) S2048x72 (V m c main_v12) rfl rfl 3072 rfl (ix2 k q) (fun a ha => ?_)
    rfl).trans ?_
  · match a with
    | ⟨0, _⟩ => rfl
    | ⟨1, _⟩ => exact absurd rfl ha
  · rw [index_piece]
    refine (columns 3072 _ slices_S2048x3144_S2048x72_0_3072 k q (by omega)).trans ?_
    exact member (0 : Fin 2) (m ((c : Thread nD τ).loc main_arg2)) slices_S2x2048x3144_S1x2048x3144_0_0_0
      shapeCasts_S1x2048x3144_S2048x3144 k _

/-- The weight's columns of the grouped queries, as the host cuts them. -/
theorem grouped_queries_piece (c : Dev nD) : V m c main_v7 = extractStridedSlice S2048x1024 ![0, 0]
      (shapeCast S2048x3144 (extractStridedSlice S1x2048x3144 ![0, 0, 0] (m ((c : Thread nD τ).loc main_arg2))
        slices_S2x2048x3144_S1x2048x3144_0_0_0) shapeCasts_S1x2048x3144_S2048x3144) slices_S2048x3144_S2048x1024_0_0 := by
  unfold V V0
  simp only [hostOps0, List.flatten_cons, List.flatten_nil, List.append_nil, List.cons_append, List.nil_append]
  after_results; rfl

theorem grouped_queries_weight (c : Dev nD) (k : Fin 2048) (q : Fin 1024) : V m c main_v14 (ix2 k ⟨0 + q.val, by omega⟩)
    = m ((c : Thread nD τ).loc main_arg2) (ix3 (0 : Fin 2) k ⟨0 + q.val, by omega⟩) := by
  rw [weight_eq]
  refine (concatenate_apply_piece (t := S2048x3200) (1 : Fin 2)
      [⟨S2048x1024, V m c main_v7⟩, ⟨S2048x1024, V m c main_v8⟩, ⟨S2048x512, V m c main_v9⟩, ⟨S2048x256, V m c main_v10⟩,
        ⟨S2048x256, V m c main_v11⟩, ⟨S2048x72, V m c main_v12⟩, ⟨S2048x56, V m c main_v6⟩] concatenates_S2048x1024_S2048x1024_S2048x512_S2048x256_S2048x256_S2048x72_S2048x56_S2048x3200_d1
    (ix2 k ⟨0 + q.val, by omega⟩) 0 (show 0 < 7 by decide) S2048x1024 (V m c main_v7) rfl rfl 0 rfl (ix2 k q) (fun a ha => ?_)
    rfl).trans ?_
  · match a with
    | ⟨0, _⟩ => rfl
    | ⟨1, _⟩ => exact absurd rfl ha
  · rw [grouped_queries_piece]
    refine (columns 0 _ slices_S2048x3144_S2048x1024_0_0 k q (by omega)).trans ?_
    exact member (0 : Fin 2) (m ((c : Thread nD τ).loc main_arg2)) slices_S2x2048x3144_S1x2048x3144_0_0_0
      shapeCasts_S1x2048x3144_S2048x3144 k _

/-- The weight's columns of the sparse queries, as the host cuts them. -/
theorem sparse_queries_piece (c : Dev nD) : V m c main_v8 = extractStridedSlice S2048x1024 ![0, 1280]
      (shapeCast S2048x3144 (extractStridedSlice S1x2048x3144 ![0, 0, 0] (m ((c : Thread nD τ).loc main_arg2))
        slices_S2x2048x3144_S1x2048x3144_0_0_0) shapeCasts_S1x2048x3144_S2048x3144) slices_S2048x3144_S2048x1024_0_1280 := by
  unfold V V0
  simp only [hostOps0, List.flatten_cons, List.flatten_nil, List.append_nil, List.cons_append, List.nil_append]
  after_results; rfl

theorem sparse_queries_weight (c : Dev nD) (k : Fin 2048) (q : Fin 1024) : V m c main_v14 (ix2 k ⟨1024 + q.val, by omega⟩)
    = m ((c : Thread nD τ).loc main_arg2) (ix3 (0 : Fin 2) k ⟨1280 + q.val, by omega⟩) := by
  rw [weight_eq]
  refine (concatenate_apply_piece (t := S2048x3200) (1 : Fin 2)
      [⟨S2048x1024, V m c main_v7⟩, ⟨S2048x1024, V m c main_v8⟩, ⟨S2048x512, V m c main_v9⟩, ⟨S2048x256, V m c main_v10⟩,
        ⟨S2048x256, V m c main_v11⟩, ⟨S2048x72, V m c main_v12⟩, ⟨S2048x56, V m c main_v6⟩] concatenates_S2048x1024_S2048x1024_S2048x512_S2048x256_S2048x256_S2048x72_S2048x56_S2048x3200_d1
    (ix2 k ⟨1024 + q.val, by omega⟩) 1 (show 1 < 7 by decide) S2048x1024 (V m c main_v8) rfl rfl 1024 rfl (ix2 k q) (fun a ha => ?_)
    rfl).trans ?_
  · match a with
    | ⟨0, _⟩ => rfl
    | ⟨1, _⟩ => exact absurd rfl ha
  · rw [sparse_queries_piece]
    refine (columns 1280 _ slices_S2048x3144_S2048x1024_0_1280 k q (by omega)).trans ?_
    exact member (0 : Fin 2) (m ((c : Thread nD τ).loc main_arg2)) slices_S2x2048x3144_S1x2048x3144_0_0_0
      shapeCasts_S1x2048x3144_S2048x3144 k _

/-- The weight's columns of the index queries, as the host cuts them. -/
theorem index_queries_piece (c : Dev nD) : V m c main_v9 = extractStridedSlice S2048x512 ![0, 2560]
      (shapeCast S2048x3144 (extractStridedSlice S1x2048x3144 ![0, 0, 0] (m ((c : Thread nD τ).loc main_arg2))
        slices_S2x2048x3144_S1x2048x3144_0_0_0) shapeCasts_S1x2048x3144_S2048x3144) slices_S2048x3144_S2048x512_0_2560 := by
  unfold V V0
  simp only [hostOps0, List.flatten_cons, List.flatten_nil, List.append_nil, List.cons_append, List.nil_append]
  after_results; rfl

theorem index_queries_weight (c : Dev nD) (k : Fin 2048) (q : Fin 512) : V m c main_v14 (ix2 k ⟨2048 + q.val, by omega⟩)
    = m ((c : Thread nD τ).loc main_arg2) (ix3 (0 : Fin 2) k ⟨2560 + q.val, by omega⟩) := by
  rw [weight_eq]
  refine (concatenate_apply_piece (t := S2048x3200) (1 : Fin 2)
      [⟨S2048x1024, V m c main_v7⟩, ⟨S2048x1024, V m c main_v8⟩, ⟨S2048x512, V m c main_v9⟩, ⟨S2048x256, V m c main_v10⟩,
        ⟨S2048x256, V m c main_v11⟩, ⟨S2048x72, V m c main_v12⟩, ⟨S2048x56, V m c main_v6⟩] concatenates_S2048x1024_S2048x1024_S2048x512_S2048x256_S2048x256_S2048x72_S2048x56_S2048x3200_d1
    (ix2 k ⟨2048 + q.val, by omega⟩) 2 (show 2 < 7 by decide) S2048x512 (V m c main_v9) rfl rfl 2048 rfl (ix2 k q) (fun a ha => ?_)
    rfl).trans ?_
  · match a with
    | ⟨0, _⟩ => rfl
    | ⟨1, _⟩ => exact absurd rfl ha
  · rw [index_queries_piece]
    refine (columns 2560 _ slices_S2048x3144_S2048x512_0_2560 k q (by omega)).trans ?_
    exact member (0 : Fin 2) (m ((c : Thread nD τ).loc main_arg2)) slices_S2x2048x3144_S1x2048x3144_0_0_0
      shapeCasts_S1x2048x3144_S2048x3144 k _

/-- The last eight of the index columns: the heads' weights. -/
theorem index_weights_weight (c : Dev nD) (k : Fin 2048) (q : Fin 8) : V m c main_v14 (ix2 k ⟨3136 + q.val, by omega⟩)
    = m ((c : Thread nD τ).loc main_arg2) (ix3 (0 : Fin 2) k ⟨3136 + q.val, by omega⟩) := by
  have a : (⟨3136 + q.val, by omega⟩ : Fin 3200) = ⟨3072 + (64 + q.val), by omega⟩ :=
    Fin.ext (by show 3136 + q.val = 3072 + (64 + q.val); omega)
  have b : (⟨3136 + q.val, by omega⟩ : Fin 3144) = ⟨3072 + (64 + q.val), by omega⟩ :=
    Fin.ext (by show 3136 + q.val = 3072 + (64 + q.val); omega)
  rw [a, b]
  exact index_weight m c k ⟨64 + q.val, by omega⟩

/-- The prompts' diff rows after the region, from the region's array. -/
theorem diff_prompt_tail (c : Dev nD) : Pipeline.afterTail₀ cfgs (dats m) 0 (V0 m) [hostOps1] c main_v24
    = shapeCast S4x2048x256 (extractStridedSlice S8192x256 ![0, 0] (extractStridedSlice S8320x256 ![0, 2560]
        (prod (V m c main_v3) (V m c main_v14)) slices_S8320x3200_S8320x256_0_2560) slices_S8320x256_S8192x256_0_0)
        shapeCasts_S8192x256_S4x2048x256 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

theorem diff_sample_tail (c : Dev nD) : Pipeline.afterTail₀ cfgs (dats m) 0 (V0 m) [hostOps1] c main_v26
    = shapeCast S128x1x256 (extractStridedSlice S128x256 ![8192, 0] (extractStridedSlice S8320x256 ![0, 2560]
        (prod (V m c main_v3) (V m c main_v14)) slices_S8320x3200_S8320x256_0_2560) slices_S8320x256_S128x256_8192_0)
        shapeCasts_S128x256_S128x1x256 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

/-- The prompts' diff rows, at an index. -/
theorem diff_prompt_apply (c : Dev nD) (b : Fin 4) (l : Fin 2048) (q : Fin 256) :
    Pipeline.afterTail₀ cfgs (dats m) 0 (V0 m) [hostOps1] c main_v24 (ix3 b l q)
      = rowAt (m ((c : Thread nD τ).loc main_arg0)) (m ((c : Thread nD τ).loc main_arg2)) b l (0 : Fin 2) ⟨1024 + q.val, by omega⟩ := by
  rw [diff_prompt_tail]
  refine (take_prompt _ slices_S8320x256_S8192x256_0_0 shapeCasts_S8192x256_S4x2048x256 b l q).trans ?_
  refine (columns 2560 _ slices_S8320x3200_S8320x256_0_2560 (promptRow b l) q (by omega)).trans ?_
  exact prod_row (stacked_prompt m c b l) (fun k => diff_weight m c k q)

/-- The samples' diff rows, at an index. -/
theorem diff_sample_apply (c : Dev nD) (s : Fin 128) (z : Fin 1) (q : Fin 256) :
    Pipeline.afterTail₀ cfgs (dats m) 0 (V0 m) [hostOps1] c main_v26 (ix3 s z q)
      = rowAt (m ((c : Thread nD τ).loc main_arg1)) (m ((c : Thread nD τ).loc main_arg2)) s z (0 : Fin 2) ⟨1024 + q.val, by omega⟩ := by
  obtain rfl : z = 0 := Subsingleton.elim _ _
  rw [diff_sample_tail]
  refine (take_sample _ slices_S8320x256_S128x256_8192_0 shapeCasts_S128x256_S128x1x256 s 0 q).trans ?_
  refine (columns 2560 _ slices_S8320x3200_S8320x256_0_2560 (sampleRow s) q (by omega)).trans ?_
  exact prod_row (stacked_sample m c s) (fun k => diff_weight m c k q)

/-- The prompts' dsa rows after the region, from the region's array. -/
theorem dsa_prompt_tail (c : Dev nD) : Pipeline.afterTail₀ cfgs (dats m) 0 (V0 m) [hostOps1] c main_v28
    = shapeCast S4x2048x256 (extractStridedSlice S8192x256 ![0, 0] (extractStridedSlice S8320x256 ![0, 2816]
        (prod (V m c main_v3) (V m c main_v14)) slices_S8320x3200_S8320x256_0_2816) slices_S8320x256_S8192x256_0_0)
        shapeCasts_S8192x256_S4x2048x256 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

theorem dsa_sample_tail (c : Dev nD) : Pipeline.afterTail₀ cfgs (dats m) 0 (V0 m) [hostOps1] c main_v30
    = shapeCast S128x1x256 (extractStridedSlice S128x256 ![8192, 0] (extractStridedSlice S8320x256 ![0, 2816]
        (prod (V m c main_v3) (V m c main_v14)) slices_S8320x3200_S8320x256_0_2816) slices_S8320x256_S128x256_8192_0)
        shapeCasts_S128x256_S128x1x256 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

/-- The prompts' dsa rows, at an index. -/
theorem dsa_prompt_apply (c : Dev nD) (b : Fin 4) (l : Fin 2048) (q : Fin 256) :
    Pipeline.afterTail₀ cfgs (dats m) 0 (V0 m) [hostOps1] c main_v28 (ix3 b l q)
      = rowAt (m ((c : Thread nD τ).loc main_arg0)) (m ((c : Thread nD τ).loc main_arg2)) b l (0 : Fin 2) ⟨2304 + q.val, by omega⟩ := by
  rw [dsa_prompt_tail]
  refine (take_prompt _ slices_S8320x256_S8192x256_0_0 shapeCasts_S8192x256_S4x2048x256 b l q).trans ?_
  refine (columns 2816 _ slices_S8320x3200_S8320x256_0_2816 (promptRow b l) q (by omega)).trans ?_
  exact prod_row (stacked_prompt m c b l) (fun k => dsa_weight m c k q)

/-- The samples' dsa rows, at an index. -/
theorem dsa_sample_apply (c : Dev nD) (s : Fin 128) (z : Fin 1) (q : Fin 256) :
    Pipeline.afterTail₀ cfgs (dats m) 0 (V0 m) [hostOps1] c main_v30 (ix3 s z q)
      = rowAt (m ((c : Thread nD τ).loc main_arg1)) (m ((c : Thread nD τ).loc main_arg2)) s z (0 : Fin 2) ⟨2304 + q.val, by omega⟩ := by
  obtain rfl : z = 0 := Subsingleton.elim _ _
  rw [dsa_sample_tail]
  refine (take_sample _ slices_S8320x256_S128x256_8192_0 shapeCasts_S128x256_S128x1x256 s 0 q).trans ?_
  refine (columns 2816 _ slices_S8320x3200_S8320x256_0_2816 (sampleRow s) q (by omega)).trans ?_
  exact prod_row (stacked_sample m c s) (fun k => dsa_weight m c k q)

/-- The prompts' index rows after the region, from the region's array. -/
theorem index_prompt_tail (c : Dev nD) : Pipeline.afterTail₀ cfgs (dats m) 0 (V0 m) [hostOps1] c main_v32
    = shapeCast S4x2048x64 (extractStridedSlice S8192x64 ![0, 0] (extractStridedSlice S8320x64 ![0, 3072]
        (prod (V m c main_v3) (V m c main_v14)) slices_S8320x3200_S8320x64_0_3072) slices_S8320x64_S8192x64_0_0)
        shapeCasts_S8192x64_S4x2048x64 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

theorem index_sample_tail (c : Dev nD) : Pipeline.afterTail₀ cfgs (dats m) 0 (V0 m) [hostOps1] c main_v34
    = shapeCast S128x1x64 (extractStridedSlice S128x64 ![8192, 0] (extractStridedSlice S8320x64 ![0, 3072]
        (prod (V m c main_v3) (V m c main_v14)) slices_S8320x3200_S8320x64_0_3072) slices_S8320x64_S128x64_8192_0)
        shapeCasts_S128x64_S128x1x64 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

/-- The prompts' index rows, at an index. -/
theorem index_prompt_apply (c : Dev nD) (b : Fin 4) (l : Fin 2048) (q : Fin 64) :
    Pipeline.afterTail₀ cfgs (dats m) 0 (V0 m) [hostOps1] c main_v32 (ix3 b l q)
      = rowAt (m ((c : Thread nD τ).loc main_arg0)) (m ((c : Thread nD τ).loc main_arg2)) b l (0 : Fin 2) ⟨3072 + q.val, by omega⟩ := by
  rw [index_prompt_tail]
  refine (take_prompt _ slices_S8320x64_S8192x64_0_0 shapeCasts_S8192x64_S4x2048x64 b l q).trans ?_
  refine (columns 3072 _ slices_S8320x3200_S8320x64_0_3072 (promptRow b l) q (by omega)).trans ?_
  exact prod_row (stacked_prompt m c b l) (fun k => index_weight m c k ⟨q.val, by omega⟩)

/-- The samples' index rows, at an index. -/
theorem index_sample_apply (c : Dev nD) (s : Fin 128) (z : Fin 1) (q : Fin 64) :
    Pipeline.afterTail₀ cfgs (dats m) 0 (V0 m) [hostOps1] c main_v34 (ix3 s z q)
      = rowAt (m ((c : Thread nD τ).loc main_arg1)) (m ((c : Thread nD τ).loc main_arg2)) s z (0 : Fin 2) ⟨3072 + q.val, by omega⟩ := by
  obtain rfl : z = 0 := Subsingleton.elim _ _
  rw [index_sample_tail]
  refine (take_sample _ slices_S8320x64_S128x64_8192_0 shapeCasts_S128x64_S128x1x64 s 0 q).trans ?_
  refine (columns 3072 _ slices_S8320x3200_S8320x64_0_3072 (sampleRow s) q (by omega)).trans ?_
  exact prod_row (stacked_sample m c s) (fun k => index_weight m c k ⟨q.val, by omega⟩)

/-- The prompts' grouped queries after the region, from the region's array. -/
theorem grouped_queries_prompt_tail (c : Dev nD) : Pipeline.afterTail₀ cfgs (dats m) 0 (V0 m) [hostOps1] c main_v36
    = shapeCast S4x2048x1024 (extractStridedSlice S8192x1024 ![0, 0] (extractStridedSlice S8320x1024 ![0, 0]
        (prod (V m c main_v3) (V m c main_v14)) slices_S8320x3200_S8320x1024_0_0) slices_S8320x1024_S8192x1024_0_0)
        shapeCasts_S8192x1024_S4x2048x1024 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

theorem grouped_queries_sample_tail (c : Dev nD) : Pipeline.afterTail₀ cfgs (dats m) 0 (V0 m) [hostOps1] c main_v38
    = shapeCast S128x1x1024 (extractStridedSlice S128x1024 ![8192, 0] (extractStridedSlice S8320x1024 ![0, 0]
        (prod (V m c main_v3) (V m c main_v14)) slices_S8320x3200_S8320x1024_0_0) slices_S8320x1024_S128x1024_8192_0)
        shapeCasts_S128x1024_S128x1x1024 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

/-- The prompts' grouped queries, at an index. -/
theorem grouped_queries_prompt_apply (c : Dev nD) (b : Fin 4) (l : Fin 2048) (q : Fin 1024) :
    Pipeline.afterTail₀ cfgs (dats m) 0 (V0 m) [hostOps1] c main_v36 (ix3 b l q)
      = rowAt (m ((c : Thread nD τ).loc main_arg0)) (m ((c : Thread nD τ).loc main_arg2)) b l (0 : Fin 2) ⟨0 + q.val, by omega⟩ := by
  rw [grouped_queries_prompt_tail]
  refine (take_prompt _ slices_S8320x1024_S8192x1024_0_0 shapeCasts_S8192x1024_S4x2048x1024 b l q).trans ?_
  refine (columns 0 _ slices_S8320x3200_S8320x1024_0_0 (promptRow b l) q (by omega)).trans ?_
  exact prod_row (stacked_prompt m c b l) (fun k => grouped_queries_weight m c k q)

/-- The samples' grouped queries, at an index. -/
theorem grouped_queries_sample_apply (c : Dev nD) (s : Fin 128) (z : Fin 1) (q : Fin 1024) :
    Pipeline.afterTail₀ cfgs (dats m) 0 (V0 m) [hostOps1] c main_v38 (ix3 s z q)
      = rowAt (m ((c : Thread nD τ).loc main_arg1)) (m ((c : Thread nD τ).loc main_arg2)) s z (0 : Fin 2) ⟨0 + q.val, by omega⟩ := by
  obtain rfl : z = 0 := Subsingleton.elim _ _
  rw [grouped_queries_sample_tail]
  refine (take_sample _ slices_S8320x1024_S128x1024_8192_0 shapeCasts_S128x1024_S128x1x1024 s 0 q).trans ?_
  refine (columns 0 _ slices_S8320x3200_S8320x1024_0_0 (sampleRow s) q (by omega)).trans ?_
  exact prod_row (stacked_sample m c s) (fun k => grouped_queries_weight m c k q)

/-- The prompts' sparse queries after the region, from the region's array. -/
theorem sparse_queries_prompt_tail (c : Dev nD) : Pipeline.afterTail₀ cfgs (dats m) 0 (V0 m) [hostOps1] c main_v40
    = shapeCast S4x2048x1024 (extractStridedSlice S8192x1024 ![0, 0] (extractStridedSlice S8320x1024 ![0, 1024]
        (prod (V m c main_v3) (V m c main_v14)) slices_S8320x3200_S8320x1024_0_1024) slices_S8320x1024_S8192x1024_0_0)
        shapeCasts_S8192x1024_S4x2048x1024 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

theorem sparse_queries_sample_tail (c : Dev nD) : Pipeline.afterTail₀ cfgs (dats m) 0 (V0 m) [hostOps1] c main_v42
    = shapeCast S128x1x1024 (extractStridedSlice S128x1024 ![8192, 0] (extractStridedSlice S8320x1024 ![0, 1024]
        (prod (V m c main_v3) (V m c main_v14)) slices_S8320x3200_S8320x1024_0_1024) slices_S8320x1024_S128x1024_8192_0)
        shapeCasts_S128x1024_S128x1x1024 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

/-- The prompts' sparse queries, at an index. -/
theorem sparse_queries_prompt_apply (c : Dev nD) (b : Fin 4) (l : Fin 2048) (q : Fin 1024) :
    Pipeline.afterTail₀ cfgs (dats m) 0 (V0 m) [hostOps1] c main_v40 (ix3 b l q)
      = rowAt (m ((c : Thread nD τ).loc main_arg0)) (m ((c : Thread nD τ).loc main_arg2)) b l (0 : Fin 2) ⟨1280 + q.val, by omega⟩ := by
  rw [sparse_queries_prompt_tail]
  refine (take_prompt _ slices_S8320x1024_S8192x1024_0_0 shapeCasts_S8192x1024_S4x2048x1024 b l q).trans ?_
  refine (columns 1024 _ slices_S8320x3200_S8320x1024_0_1024 (promptRow b l) q (by omega)).trans ?_
  exact prod_row (stacked_prompt m c b l) (fun k => sparse_queries_weight m c k q)

/-- The samples' sparse queries, at an index. -/
theorem sparse_queries_sample_apply (c : Dev nD) (s : Fin 128) (z : Fin 1) (q : Fin 1024) :
    Pipeline.afterTail₀ cfgs (dats m) 0 (V0 m) [hostOps1] c main_v42 (ix3 s z q)
      = rowAt (m ((c : Thread nD τ).loc main_arg1)) (m ((c : Thread nD τ).loc main_arg2)) s z (0 : Fin 2) ⟨1280 + q.val, by omega⟩ := by
  obtain rfl : z = 0 := Subsingleton.elim _ _
  rw [sparse_queries_sample_tail]
  refine (take_sample _ slices_S8320x1024_S128x1024_8192_0 shapeCasts_S128x1024_S128x1x1024 s 0 q).trans ?_
  refine (columns 1024 _ slices_S8320x3200_S8320x1024_0_1024 (sampleRow s) q (by omega)).trans ?_
  exact prod_row (stacked_sample m c s) (fun k => sparse_queries_weight m c k q)

/-- The prompts' index queries after the region, from the region's array. -/
theorem index_queries_prompt_tail (c : Dev nD) : Pipeline.afterTail₀ cfgs (dats m) 0 (V0 m) [hostOps1] c main_v44
    = shapeCast S4x2048x512 (extractStridedSlice S8192x512 ![0, 0] (extractStridedSlice S8320x512 ![0, 2048]
        (prod (V m c main_v3) (V m c main_v14)) slices_S8320x3200_S8320x512_0_2048) slices_S8320x512_S8192x512_0_0)
        shapeCasts_S8192x512_S4x2048x512 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

theorem index_queries_sample_tail (c : Dev nD) : Pipeline.afterTail₀ cfgs (dats m) 0 (V0 m) [hostOps1] c main_v46
    = shapeCast S128x1x512 (extractStridedSlice S128x512 ![8192, 0] (extractStridedSlice S8320x512 ![0, 2048]
        (prod (V m c main_v3) (V m c main_v14)) slices_S8320x3200_S8320x512_0_2048) slices_S8320x512_S128x512_8192_0)
        shapeCasts_S128x512_S128x1x512 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

/-- The prompts' index queries, at an index. -/
theorem index_queries_prompt_apply (c : Dev nD) (b : Fin 4) (l : Fin 2048) (q : Fin 512) :
    Pipeline.afterTail₀ cfgs (dats m) 0 (V0 m) [hostOps1] c main_v44 (ix3 b l q)
      = rowAt (m ((c : Thread nD τ).loc main_arg0)) (m ((c : Thread nD τ).loc main_arg2)) b l (0 : Fin 2) ⟨2560 + q.val, by omega⟩ := by
  rw [index_queries_prompt_tail]
  refine (take_prompt _ slices_S8320x512_S8192x512_0_0 shapeCasts_S8192x512_S4x2048x512 b l q).trans ?_
  refine (columns 2048 _ slices_S8320x3200_S8320x512_0_2048 (promptRow b l) q (by omega)).trans ?_
  exact prod_row (stacked_prompt m c b l) (fun k => index_queries_weight m c k q)

/-- The samples' index queries, at an index. -/
theorem index_queries_sample_apply (c : Dev nD) (s : Fin 128) (z : Fin 1) (q : Fin 512) :
    Pipeline.afterTail₀ cfgs (dats m) 0 (V0 m) [hostOps1] c main_v46 (ix3 s z q)
      = rowAt (m ((c : Thread nD τ).loc main_arg1)) (m ((c : Thread nD τ).loc main_arg2)) s z (0 : Fin 2) ⟨2560 + q.val, by omega⟩ := by
  obtain rfl : z = 0 := Subsingleton.elim _ _
  rw [index_queries_sample_tail]
  refine (take_sample _ slices_S8320x512_S128x512_8192_0 shapeCasts_S128x512_S128x1x512 s 0 q).trans ?_
  refine (columns 2048 _ slices_S8320x3200_S8320x512_0_2048 (sampleRow s) q (by omega)).trans ?_
  exact prod_row (stacked_sample m c s) (fun k => index_queries_weight m c k q)

/-- The prompts' index weights after the region, from the region's array. -/
theorem index_weights_prompt_tail (c : Dev nD) : Pipeline.afterTail₀ cfgs (dats m) 0 (V0 m) [hostOps1] c main_v48
    = shapeCast S4x2048x8 (extractStridedSlice S8192x8 ![0, 0] (extractStridedSlice S8320x8 ![0, 3136]
        (prod (V m c main_v3) (V m c main_v14)) slices_S8320x3200_S8320x8_0_3136) slices_S8320x8_S8192x8_0_0)
        shapeCasts_S8192x8_S4x2048x8 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

theorem index_weights_sample_tail (c : Dev nD) : Pipeline.afterTail₀ cfgs (dats m) 0 (V0 m) [hostOps1] c main_v50
    = shapeCast S128x1x8 (extractStridedSlice S128x8 ![8192, 0] (extractStridedSlice S8320x8 ![0, 3136]
        (prod (V m c main_v3) (V m c main_v14)) slices_S8320x3200_S8320x8_0_3136) slices_S8320x8_S128x8_8192_0)
        shapeCasts_S128x8_S128x1x8 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

/-- The prompts' index weights, at an index. -/
theorem index_weights_prompt_apply (c : Dev nD) (b : Fin 4) (l : Fin 2048) (q : Fin 8) :
    Pipeline.afterTail₀ cfgs (dats m) 0 (V0 m) [hostOps1] c main_v48 (ix3 b l q)
      = rowAt (m ((c : Thread nD τ).loc main_arg0)) (m ((c : Thread nD τ).loc main_arg2)) b l (0 : Fin 2) ⟨3136 + q.val, by omega⟩ := by
  rw [index_weights_prompt_tail]
  refine (take_prompt _ slices_S8320x8_S8192x8_0_0 shapeCasts_S8192x8_S4x2048x8 b l q).trans ?_
  refine (columns 3136 _ slices_S8320x3200_S8320x8_0_3136 (promptRow b l) q (by omega)).trans ?_
  exact prod_row (stacked_prompt m c b l) (fun k => index_weights_weight m c k q)

/-- The samples' index weights, at an index. -/
theorem index_weights_sample_apply (c : Dev nD) (s : Fin 128) (z : Fin 1) (q : Fin 8) :
    Pipeline.afterTail₀ cfgs (dats m) 0 (V0 m) [hostOps1] c main_v50 (ix3 s z q)
      = rowAt (m ((c : Thread nD τ).loc main_arg1)) (m ((c : Thread nD τ).loc main_arg2)) s z (0 : Fin 2) ⟨3136 + q.val, by omega⟩ := by
  obtain rfl : z = 0 := Subsingleton.elim _ _
  rw [index_weights_sample_tail]
  refine (take_sample _ slices_S8320x8_S128x8_8192_0 shapeCasts_S128x8_S128x1x8 s 0 q).trans ?_
  refine (columns 3136 _ slices_S8320x3200_S8320x8_0_3136 (sampleRow s) q (by omega)).trans ?_
  exact prod_row (stacked_sample m c s) (fun k => index_weights_weight m c k q)

end Cert.Proof.Even

end
-- ==== Proof.Even.Claims.lean ====
/- The claims about the even layers' input projection: the three frames, and the kernel's results equal to the reference's over
   the extended reals. -/
module

public import proofs.«01_k».proof.Defs
public import proofs.«01_k».proof.Proof.Gen.Kernel3
public import proofs.«01_k».proof.Proof.Gen.Kernel3.Frame
public import proofs.«01_k».proof.Proof.Gen.Reference3Ideal
public import proofs.«01_k».proof.Proof.Gen.Reference3Ideal.Run
public import proofs.«01_k».proof.Proof.Gen.Reference3Ideal.Read
public import proofs.«01_k».proof.Proof.Even.Host
public import Idealize.ShloMosaic.Adequacy
public import Idealize.ShloMosaic.Init

@[expose] public section

set_option maxRecDepth 16384

noncomputable section

namespace Cert.Proof.Even

open Cert.Proof.Rows
open Idealize.ShloMosaic hiding ix1 ix2 ix3 ix4 eq_ix2
open Idealize.ShloMosaic.TcCoe Idealize.ShloMosaic.ValueIdx
open Idealize.SL Idealize.SL.Sem
open scoped BigOperators

section Reference

open Cert.Reference3Ideal Cert.Reference3Ideal.Read

/-- The reference's projection of the prompts' rows. -/
theorem product_prompt (x : S4x2048x2048.Idx → EReal) (w : S2x2048x3144.Idx → EReal) (i : Fin 4) (l : Fin 2048) (c : Fin 3144) :
    val_main_v2 (F := Ideal) x w (ix3 i l c) = rowAt x w i l (0 : Fin 2) c := by
  show _ = ∑ k : Fin 2048, x (ix3 i l k) * w (ix3 (0 : Fin 2) k c)
  rw [val_main_v2_apply]
  refine Finset.sum_congr rfl fun k _ => ?_
  rw [val_main_v1_apply, val_main_v0_apply]
  have hk := k.isLt
  have hc := c.isLt
  refine congrArg₂ (· * ·) (congrArg x (ext3 rfl rfl rfl)) (congrArg w (ext3 rfl ?_ ?_))
  · show (k.val * 3144 + c.val) / 3144 % 2048 = k.val; omega
  · show (k.val * 3144 + c.val) % 3144 = c.val; omega

/-- The reference's projection of the samples' rows. -/
theorem product_sample (x : S128x1x2048.Idx → EReal) (w : S2x2048x3144.Idx → EReal) (i : Fin 128) (l : Fin 1) (c : Fin 3144) :
    val_main_v5 (F := Ideal) x w (ix3 i l c) = rowAt x w i l (0 : Fin 2) c := by
  show _ = ∑ k : Fin 2048, x (ix3 i l k) * w (ix3 (0 : Fin 2) k c)
  rw [val_main_v5_apply]
  refine Finset.sum_congr rfl fun k _ => ?_
  rw [val_main_v4_apply, val_main_v3_apply]
  have hk := k.isLt
  have hc := c.isLt
  refine congrArg₂ (· * ·) (congrArg x (ext3 rfl rfl rfl)) (congrArg w (ext3 rfl ?_ ?_))
  · show (k.val * 3144 + c.val) / 3144 % 2048 = k.val; omega
  · show (k.val * 3144 + c.val) % 3144 = c.val; omega

/-- The reference's diff of the prompts. -/
theorem reference_diff_prompt (x : S4x2048x2048.Idx → EReal) (w : S2x2048x3144.Idx → EReal) (i : Fin 4) (l : Fin 2048) (q : Fin 256) :
    val_main_v6 (F := Ideal) x w (ix3 i l q) = rowAt x w i l (0 : Fin 2) ⟨1024 + q.val, by omega⟩ := by
  rw [val_main_v6_apply]
  have e : idx_main_v6 (ix3 i l q) = ix3 i l (⟨1024 + q.val, by omega⟩ : Fin 3144) := ext3 rfl rfl rfl
  rw [e]
  exact product_prompt x w i l ⟨1024 + q.val, by omega⟩

/-- The reference's diff of the samples. -/
theorem reference_diff_sample (x : S128x1x2048.Idx → EReal) (w : S2x2048x3144.Idx → EReal) (i : Fin 128) (l : Fin 1) (q : Fin 256) :
    val_main_v7 (F := Ideal) x w (ix3 i l q) = rowAt x w i l (0 : Fin 2) ⟨1024 + q.val, by omega⟩ := by
  rw [val_main_v7_apply]
  have e : idx_main_v7 (ix3 i l q) = ix3 i l (⟨1024 + q.val, by omega⟩ : Fin 3144) := ext3 rfl rfl rfl
  rw [e]
  exact product_sample x w i l ⟨1024 + q.val, by omega⟩

/-- The reference's dsa of the prompts. -/
theorem reference_dsa_prompt (x : S4x2048x2048.Idx → EReal) (w : S2x2048x3144.Idx → EReal) (i : Fin 4) (l : Fin 2048) (q : Fin 256) :
    val_main_v8 (F := Ideal) x w (ix3 i l q) = rowAt x w i l (0 : Fin 2) ⟨2304 + q.val, by omega⟩ := by
  rw [val_main_v8_apply]
  have e : idx_main_v8 (ix3 i l q) = ix3 i l (⟨2304 + q.val, by omega⟩ : Fin 3144) := ext3 rfl rfl rfl
  rw [e]
  exact product_prompt x w i l ⟨2304 + q.val, by omega⟩

/-- The reference's dsa of the samples. -/
theorem reference_dsa_sample (x : S128x1x2048.Idx → EReal) (w : S2x2048x3144.Idx → EReal) (i : Fin 128) (l : Fin 1) (q : Fin 256) :
    val_main_v9 (F := Ideal) x w (ix3 i l q) = rowAt x w i l (0 : Fin 2) ⟨2304 + q.val, by omega⟩ := by
  rw [val_main_v9_apply]
  have e : idx_main_v9 (ix3 i l q) = ix3 i l (⟨2304 + q.val, by omega⟩ : Fin 3144) := ext3 rfl rfl rfl
  rw [e]
  exact product_sample x w i l ⟨2304 + q.val, by omega⟩

/-- The reference's index of the prompts. -/
theorem reference_index_prompt (x : S4x2048x2048.Idx → EReal) (w : S2x2048x3144.Idx → EReal) (i : Fin 4) (l : Fin 2048) (q : Fin 64) :
    val_main_v10 (F := Ideal) x w (ix3 i l q) = rowAt x w i l (0 : Fin 2) ⟨3072 + q.val, by omega⟩ := by
  rw [val_main_v10_apply]
  have e : idx_main_v10 (ix3 i l q) = ix3 i l (⟨3072 + q.val, by omega⟩ : Fin 3144) := ext3 rfl rfl rfl
  rw [e]
  exact product_prompt x w i l ⟨3072 + q.val, by omega⟩

/-- The reference's index of the samples. -/
theorem reference_index_sample (x : S128x1x2048.Idx → EReal) (w : S2x2048x3144.Idx → EReal) (i : Fin 128) (l : Fin 1) (q : Fin 64) :
    val_main_v11 (F := Ideal) x w (ix3 i l q) = rowAt x w i l (0 : Fin 2) ⟨3072 + q.val, by omega⟩ := by
  rw [val_main_v11_apply]
  have e : idx_main_v11 (ix3 i l q) = ix3 i l (⟨3072 + q.val, by omega⟩ : Fin 3144) := ext3 rfl rfl rfl
  rw [e]
  exact product_sample x w i l ⟨3072 + q.val, by omega⟩

/-- The reference's grouped_queries of the prompts. -/
theorem reference_grouped_queries_prompt (x : S4x2048x2048.Idx → EReal) (w : S2x2048x3144.Idx → EReal) (i : Fin 4) (l : Fin 2048) (q : Fin 1024) :
    val_main_v12 (F := Ideal) x w (ix3 i l q) = rowAt x w i l (0 : Fin 2) ⟨0 + q.val, by omega⟩ := by
  rw [val_main_v12_apply]
  have e : idx_main_v12 (ix3 i l q) = ix3 i l (⟨0 + q.val, by omega⟩ : Fin 3144) :=
    ext3 rfl rfl (by show q.val = 0 + q.val; omega)
  rw [e]
  exact product_prompt x w i l ⟨0 + q.val, by omega⟩

/-- The reference's grouped_queries of the samples. -/
theorem reference_grouped_queries_sample (x : S128x1x2048.Idx → EReal) (w : S2x2048x3144.Idx → EReal) (i : Fin 128) (l : Fin 1) (q : Fin 1024) :
    val_main_v13 (F := Ideal) x w (ix3 i l q) = rowAt x w i l (0 : Fin 2) ⟨0 + q.val, by omega⟩ := by
  rw [val_main_v13_apply]
  have e : idx_main_v13 (ix3 i l q) = ix3 i l (⟨0 + q.val, by omega⟩ : Fin 3144) :=
    ext3 rfl rfl (by show q.val = 0 + q.val; omega)
  rw [e]
  exact product_sample x w i l ⟨0 + q.val, by omega⟩

/-- The reference's sparse_queries of the prompts. -/
theorem reference_sparse_queries_prompt (x : S4x2048x2048.Idx → EReal) (w : S2x2048x3144.Idx → EReal) (i : Fin 4) (l : Fin 2048) (q : Fin 1024) :
    val_main_v14 (F := Ideal) x w (ix3 i l q) = rowAt x w i l (0 : Fin 2) ⟨1280 + q.val, by omega⟩ := by
  rw [val_main_v14_apply]
  have e : idx_main_v14 (ix3 i l q) = ix3 i l (⟨1280 + q.val, by omega⟩ : Fin 3144) := ext3 rfl rfl rfl
  rw [e]
  exact product_prompt x w i l ⟨1280 + q.val, by omega⟩

/-- The reference's sparse_queries of the samples. -/
theorem reference_sparse_queries_sample (x : S128x1x2048.Idx → EReal) (w : S2x2048x3144.Idx → EReal) (i : Fin 128) (l : Fin 1) (q : Fin 1024) :
    val_main_v15 (F := Ideal) x w (ix3 i l q) = rowAt x w i l (0 : Fin 2) ⟨1280 + q.val, by omega⟩ := by
  rw [val_main_v15_apply]
  have e : idx_main_v15 (ix3 i l q) = ix3 i l (⟨1280 + q.val, by omega⟩ : Fin 3144) := ext3 rfl rfl rfl
  rw [e]
  exact product_sample x w i l ⟨1280 + q.val, by omega⟩

/-- The reference's index_queries of the prompts. -/
theorem reference_index_queries_prompt (x : S4x2048x2048.Idx → EReal) (w : S2x2048x3144.Idx → EReal) (i : Fin 4) (l : Fin 2048) (q : Fin 512) :
    val_main_v16 (F := Ideal) x w (ix3 i l q) = rowAt x w i l (0 : Fin 2) ⟨2560 + q.val, by omega⟩ := by
  rw [val_main_v16_apply]
  have e : idx_main_v16 (ix3 i l q) = ix3 i l (⟨2560 + q.val, by omega⟩ : Fin 3144) := ext3 rfl rfl rfl
  rw [e]
  exact product_prompt x w i l ⟨2560 + q.val, by omega⟩

/-- The reference's index_queries of the samples. -/
theorem reference_index_queries_sample (x : S128x1x2048.Idx → EReal) (w : S2x2048x3144.Idx → EReal) (i : Fin 128) (l : Fin 1) (q : Fin 512) :
    val_main_v17 (F := Ideal) x w (ix3 i l q) = rowAt x w i l (0 : Fin 2) ⟨2560 + q.val, by omega⟩ := by
  rw [val_main_v17_apply]
  have e : idx_main_v17 (ix3 i l q) = ix3 i l (⟨2560 + q.val, by omega⟩ : Fin 3144) := ext3 rfl rfl rfl
  rw [e]
  exact product_sample x w i l ⟨2560 + q.val, by omega⟩

/-- The reference's index_weights of the prompts. -/
theorem reference_index_weights_prompt (x : S4x2048x2048.Idx → EReal) (w : S2x2048x3144.Idx → EReal) (i : Fin 4) (l : Fin 2048) (q : Fin 8) :
    val_main_v18 (F := Ideal) x w (ix3 i l q) = rowAt x w i l (0 : Fin 2) ⟨3136 + q.val, by omega⟩ := by
  rw [val_main_v18_apply]
  have e : idx_main_v18 (ix3 i l q) = ix3 i l (⟨3136 + q.val, by omega⟩ : Fin 3144) := ext3 rfl rfl rfl
  rw [e]
  exact product_prompt x w i l ⟨3136 + q.val, by omega⟩

/-- The reference's index_weights of the samples. -/
theorem reference_index_weights_sample (x : S128x1x2048.Idx → EReal) (w : S2x2048x3144.Idx → EReal) (i : Fin 128) (l : Fin 1) (q : Fin 8) :
    val_main_v19 (F := Ideal) x w (ix3 i l q) = rowAt x w i l (0 : Fin 2) ⟨3136 + q.val, by omega⟩ := by
  rw [val_main_v19_apply]
  have e : idx_main_v19 (ix3 i l q) = ix3 i l (⟨3136 + q.val, by omega⟩ : Fin 3144) := ext3 rfl rfl rfl
  rw [e]
  exact product_sample x w i l ⟨3136 + q.val, by omega⟩

end Reference

section Results

open Cert.Kernel3Ideal Cert.Kernel3Ideal.Gen

variable (m : (ℓ : Loc nD τ sig) → Buf (Elt Ideal) ℓ)

/-- The kernel's diff of the prompts is the reference's. -/
theorem diff_prompt (c : Dev nD) : Pipeline.afterTail₀ cfgs (dats m) 0 (V0 m) [hostOps1] c main_v24
    = Cert.Reference3Ideal.Read.val_main_v6 (F := Ideal) (m ((c : Thread nD τ).loc main_arg0)) (m ((c : Thread nD τ).loc main_arg2)) := by
  funext y
  obtain ⟨i, l, q, rfl⟩ : ∃ (i : Fin 4) (l : Fin 2048) (q : Fin 256), y = ix3 i l q := ⟨y 0, y 1, y 2, ext3 rfl rfl rfl⟩
  exact (diff_prompt_apply m c i l q).trans (reference_diff_prompt _ _ i l q).symm

/-- The kernel's diff of the samples is the reference's. -/
theorem diff_sample (c : Dev nD) : Pipeline.afterTail₀ cfgs (dats m) 0 (V0 m) [hostOps1] c main_v26
    = Cert.Reference3Ideal.Read.val_main_v7 (F := Ideal) (m ((c : Thread nD τ).loc main_arg1)) (m ((c : Thread nD τ).loc main_arg2)) := by
  funext y
  obtain ⟨i, l, q, rfl⟩ : ∃ (i : Fin 128) (l : Fin 1) (q : Fin 256), y = ix3 i l q := ⟨y 0, y 1, y 2, ext3 rfl rfl rfl⟩
  exact (diff_sample_apply m c i l q).trans (reference_diff_sample _ _ i l q).symm

/-- The kernel's dsa of the prompts is the reference's. -/
theorem dsa_prompt (c : Dev nD) : Pipeline.afterTail₀ cfgs (dats m) 0 (V0 m) [hostOps1] c main_v28
    = Cert.Reference3Ideal.Read.val_main_v8 (F := Ideal) (m ((c : Thread nD τ).loc main_arg0)) (m ((c : Thread nD τ).loc main_arg2)) := by
  funext y
  obtain ⟨i, l, q, rfl⟩ : ∃ (i : Fin 4) (l : Fin 2048) (q : Fin 256), y = ix3 i l q := ⟨y 0, y 1, y 2, ext3 rfl rfl rfl⟩
  exact (dsa_prompt_apply m c i l q).trans (reference_dsa_prompt _ _ i l q).symm

/-- The kernel's dsa of the samples is the reference's. -/
theorem dsa_sample (c : Dev nD) : Pipeline.afterTail₀ cfgs (dats m) 0 (V0 m) [hostOps1] c main_v30
    = Cert.Reference3Ideal.Read.val_main_v9 (F := Ideal) (m ((c : Thread nD τ).loc main_arg1)) (m ((c : Thread nD τ).loc main_arg2)) := by
  funext y
  obtain ⟨i, l, q, rfl⟩ : ∃ (i : Fin 128) (l : Fin 1) (q : Fin 256), y = ix3 i l q := ⟨y 0, y 1, y 2, ext3 rfl rfl rfl⟩
  exact (dsa_sample_apply m c i l q).trans (reference_dsa_sample _ _ i l q).symm

/-- The kernel's index of the prompts is the reference's. -/
theorem index_prompt (c : Dev nD) : Pipeline.afterTail₀ cfgs (dats m) 0 (V0 m) [hostOps1] c main_v32
    = Cert.Reference3Ideal.Read.val_main_v10 (F := Ideal) (m ((c : Thread nD τ).loc main_arg0)) (m ((c : Thread nD τ).loc main_arg2)) := by
  funext y
  obtain ⟨i, l, q, rfl⟩ : ∃ (i : Fin 4) (l : Fin 2048) (q : Fin 64), y = ix3 i l q := ⟨y 0, y 1, y 2, ext3 rfl rfl rfl⟩
  exact (index_prompt_apply m c i l q).trans (reference_index_prompt _ _ i l q).symm

/-- The kernel's index of the samples is the reference's. -/
theorem index_sample (c : Dev nD) : Pipeline.afterTail₀ cfgs (dats m) 0 (V0 m) [hostOps1] c main_v34
    = Cert.Reference3Ideal.Read.val_main_v11 (F := Ideal) (m ((c : Thread nD τ).loc main_arg1)) (m ((c : Thread nD τ).loc main_arg2)) := by
  funext y
  obtain ⟨i, l, q, rfl⟩ : ∃ (i : Fin 128) (l : Fin 1) (q : Fin 64), y = ix3 i l q := ⟨y 0, y 1, y 2, ext3 rfl rfl rfl⟩
  exact (index_sample_apply m c i l q).trans (reference_index_sample _ _ i l q).symm

/-- The kernel's grouped_queries of the prompts is the reference's. -/
theorem grouped_queries_prompt (c : Dev nD) : Pipeline.afterTail₀ cfgs (dats m) 0 (V0 m) [hostOps1] c main_v36
    = Cert.Reference3Ideal.Read.val_main_v12 (F := Ideal) (m ((c : Thread nD τ).loc main_arg0)) (m ((c : Thread nD τ).loc main_arg2)) := by
  funext y
  obtain ⟨i, l, q, rfl⟩ : ∃ (i : Fin 4) (l : Fin 2048) (q : Fin 1024), y = ix3 i l q := ⟨y 0, y 1, y 2, ext3 rfl rfl rfl⟩
  exact (grouped_queries_prompt_apply m c i l q).trans (reference_grouped_queries_prompt _ _ i l q).symm

/-- The kernel's grouped_queries of the samples is the reference's. -/
theorem grouped_queries_sample (c : Dev nD) : Pipeline.afterTail₀ cfgs (dats m) 0 (V0 m) [hostOps1] c main_v38
    = Cert.Reference3Ideal.Read.val_main_v13 (F := Ideal) (m ((c : Thread nD τ).loc main_arg1)) (m ((c : Thread nD τ).loc main_arg2)) := by
  funext y
  obtain ⟨i, l, q, rfl⟩ : ∃ (i : Fin 128) (l : Fin 1) (q : Fin 1024), y = ix3 i l q := ⟨y 0, y 1, y 2, ext3 rfl rfl rfl⟩
  exact (grouped_queries_sample_apply m c i l q).trans (reference_grouped_queries_sample _ _ i l q).symm

/-- The kernel's sparse_queries of the prompts is the reference's. -/
theorem sparse_queries_prompt (c : Dev nD) : Pipeline.afterTail₀ cfgs (dats m) 0 (V0 m) [hostOps1] c main_v40
    = Cert.Reference3Ideal.Read.val_main_v14 (F := Ideal) (m ((c : Thread nD τ).loc main_arg0)) (m ((c : Thread nD τ).loc main_arg2)) := by
  funext y
  obtain ⟨i, l, q, rfl⟩ : ∃ (i : Fin 4) (l : Fin 2048) (q : Fin 1024), y = ix3 i l q := ⟨y 0, y 1, y 2, ext3 rfl rfl rfl⟩
  exact (sparse_queries_prompt_apply m c i l q).trans (reference_sparse_queries_prompt _ _ i l q).symm

/-- The kernel's sparse_queries of the samples is the reference's. -/
theorem sparse_queries_sample (c : Dev nD) : Pipeline.afterTail₀ cfgs (dats m) 0 (V0 m) [hostOps1] c main_v42
    = Cert.Reference3Ideal.Read.val_main_v15 (F := Ideal) (m ((c : Thread nD τ).loc main_arg1)) (m ((c : Thread nD τ).loc main_arg2)) := by
  funext y
  obtain ⟨i, l, q, rfl⟩ : ∃ (i : Fin 128) (l : Fin 1) (q : Fin 1024), y = ix3 i l q := ⟨y 0, y 1, y 2, ext3 rfl rfl rfl⟩
  exact (sparse_queries_sample_apply m c i l q).trans (reference_sparse_queries_sample _ _ i l q).symm

/-- The kernel's index_queries of the prompts is the reference's. -/
theorem index_queries_prompt (c : Dev nD) : Pipeline.afterTail₀ cfgs (dats m) 0 (V0 m) [hostOps1] c main_v44
    = Cert.Reference3Ideal.Read.val_main_v16 (F := Ideal) (m ((c : Thread nD τ).loc main_arg0)) (m ((c : Thread nD τ).loc main_arg2)) := by
  funext y
  obtain ⟨i, l, q, rfl⟩ : ∃ (i : Fin 4) (l : Fin 2048) (q : Fin 512), y = ix3 i l q := ⟨y 0, y 1, y 2, ext3 rfl rfl rfl⟩
  exact (index_queries_prompt_apply m c i l q).trans (reference_index_queries_prompt _ _ i l q).symm

/-- The kernel's index_queries of the samples is the reference's. -/
theorem index_queries_sample (c : Dev nD) : Pipeline.afterTail₀ cfgs (dats m) 0 (V0 m) [hostOps1] c main_v46
    = Cert.Reference3Ideal.Read.val_main_v17 (F := Ideal) (m ((c : Thread nD τ).loc main_arg1)) (m ((c : Thread nD τ).loc main_arg2)) := by
  funext y
  obtain ⟨i, l, q, rfl⟩ : ∃ (i : Fin 128) (l : Fin 1) (q : Fin 512), y = ix3 i l q := ⟨y 0, y 1, y 2, ext3 rfl rfl rfl⟩
  exact (index_queries_sample_apply m c i l q).trans (reference_index_queries_sample _ _ i l q).symm

/-- The kernel's index_weights of the prompts is the reference's. -/
theorem index_weights_prompt (c : Dev nD) : Pipeline.afterTail₀ cfgs (dats m) 0 (V0 m) [hostOps1] c main_v48
    = Cert.Reference3Ideal.Read.val_main_v18 (F := Ideal) (m ((c : Thread nD τ).loc main_arg0)) (m ((c : Thread nD τ).loc main_arg2)) := by
  funext y
  obtain ⟨i, l, q, rfl⟩ : ∃ (i : Fin 4) (l : Fin 2048) (q : Fin 8), y = ix3 i l q := ⟨y 0, y 1, y 2, ext3 rfl rfl rfl⟩
  exact (index_weights_prompt_apply m c i l q).trans (reference_index_weights_prompt _ _ i l q).symm

/-- The kernel's index_weights of the samples is the reference's. -/
theorem index_weights_sample (c : Dev nD) : Pipeline.afterTail₀ cfgs (dats m) 0 (V0 m) [hostOps1] c main_v50
    = Cert.Reference3Ideal.Read.val_main_v19 (F := Ideal) (m ((c : Thread nD τ).loc main_arg1)) (m ((c : Thread nD τ).loc main_arg2)) := by
  funext y
  obtain ⟨i, l, q, rfl⟩ : ∃ (i : Fin 128) (l : Fin 1) (q : Fin 8), y = ix3 i l q := ⟨y 0, y 1, y 2, ext3 rfl rfl rfl⟩
  exact (index_weights_sample_apply m c i l q).trans (reference_index_weights_sample _ _ i l q).symm

end Results

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2.2.2.2.2.2.2.2.2.2.2.2.2.2, sem_eq_zero_of_no_sems (by decide) r.2⟩)
    (Cert.Reference3Ideal.Value.run (F := Ideal) m ρ)

theorem algebraic : Cert.algebraic_Kernel3Ideal_Reference3Ideal := fun m ρ m' ρ' _ hm => by
  refine ⟨fun c => Cert.Reference3Ideal.Read.val_main_v6 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg2)),
    fun c => Cert.Reference3Ideal.Read.val_main_v7 (F := Ideal)
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)),
    fun c => Cert.Reference3Ideal.Read.val_main_v8 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg2)),
    fun c => Cert.Reference3Ideal.Read.val_main_v9 (F := Ideal)
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)),
    fun c => Cert.Reference3Ideal.Read.val_main_v10 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg2)),
    fun c => Cert.Reference3Ideal.Read.val_main_v11 (F := Ideal)
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)),
    fun c => Cert.Reference3Ideal.Read.val_main_v12 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg2)),
    fun c => Cert.Reference3Ideal.Read.val_main_v13 (F := Ideal)
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)),
    fun c => Cert.Reference3Ideal.Read.val_main_v14 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg2)),
    fun c => Cert.Reference3Ideal.Read.val_main_v15 (F := Ideal)
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)),
    fun c => Cert.Reference3Ideal.Read.val_main_v16 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg2)),
    fun c => Cert.Reference3Ideal.Read.val_main_v17 (F := Ideal)
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)),
    fun c => Cert.Reference3Ideal.Read.val_main_v18 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg2)),
    fun c => Cert.Reference3Ideal.Read.val_main_v19 (F := Ideal)
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)), ?_, ?_⟩
  · exact (θ_run Cert.Kernel3Ideal.defs _ _).mono (fun _ h c => ⟨((h c).2 Cert.Kernel3Ideal.main_v24 (Pipeline.mem_restRefs_of Cert.Kernel3Ideal.main_v24 (by decide) (by decide))).trans
        (diff_prompt m c),
      ((h c).2 Cert.Kernel3Ideal.main_v26 (Pipeline.mem_restRefs_of Cert.Kernel3Ideal.main_v26 (by decide) (by decide))).trans
        (diff_sample m c),
      ((h c).2 Cert.Kernel3Ideal.main_v28 (Pipeline.mem_restRefs_of Cert.Kernel3Ideal.main_v28 (by decide) (by decide))).trans
        (dsa_prompt m c),
      ((h c).2 Cert.Kernel3Ideal.main_v30 (Pipeline.mem_restRefs_of Cert.Kernel3Ideal.main_v30 (by decide) (by decide))).trans
        (dsa_sample m c),
      ((h c).2 Cert.Kernel3Ideal.main_v32 (Pipeline.mem_restRefs_of Cert.Kernel3Ideal.main_v32 (by decide) (by decide))).trans
        (index_prompt m c),
      ((h c).2 Cert.Kernel3Ideal.main_v34 (Pipeline.mem_restRefs_of Cert.Kernel3Ideal.main_v34 (by decide) (by decide))).trans
        (index_sample m c),
      ((h c).2 Cert.Kernel3Ideal.main_v36 (Pipeline.mem_restRefs_of Cert.Kernel3Ideal.main_v36 (by decide) (by decide))).trans
        (grouped_queries_prompt m c),
      ((h c).2 Cert.Kernel3Ideal.main_v38 (Pipeline.mem_restRefs_of Cert.Kernel3Ideal.main_v38 (by decide) (by decide))).trans
        (grouped_queries_sample m c),
      ((h c).2 Cert.Kernel3Ideal.main_v40 (Pipeline.mem_restRefs_of Cert.Kernel3Ideal.main_v40 (by decide) (by decide))).trans
        (sparse_queries_prompt m c),
      ((h c).2 Cert.Kernel3Ideal.main_v42 (Pipeline.mem_restRefs_of Cert.Kernel3Ideal.main_v42 (by decide) (by decide))).trans
        (sparse_queries_sample m c),
      ((h c).2 Cert.Kernel3Ideal.main_v44 (Pipeline.mem_restRefs_of Cert.Kernel3Ideal.main_v44 (by decide) (by decide))).trans
        (index_queries_prompt m c),
      ((h c).2 Cert.Kernel3Ideal.main_v46 (Pipeline.mem_restRefs_of Cert.Kernel3Ideal.main_v46 (by decide) (by decide))).trans
        (index_queries_sample m c),
      ((h c).2 Cert.Kernel3Ideal.main_v48 (Pipeline.mem_restRefs_of Cert.Kernel3Ideal.main_v48 (by decide) (by decide))).trans
        (index_weights_prompt m c),
      ((h c).2 Cert.Kernel3Ideal.main_v50 (Pipeline.mem_restRefs_of Cert.Kernel3Ideal.main_v50 (by decide) (by decide))).trans
        (index_weights_sample m c),
      ((h c).2 Cert.Kernel3Ideal.main_arg0 (Pipeline.mem_restRefs_of Cert.Kernel3Ideal.main_arg0 (by decide) (by decide))).trans
        (Cert.Kernel3Ideal.Gen.W_main_arg0 m (Cert.Kernel3Ideal.Gen.dats m) c),
      ((h c).2 Cert.Kernel3Ideal.main_arg1 (Pipeline.mem_restRefs_of Cert.Kernel3Ideal.main_arg1 (by decide) (by decide))).trans
        (Cert.Kernel3Ideal.Gen.W_main_arg1 m (Cert.Kernel3Ideal.Gen.dats m) c),
      ((h c).2 Cert.Kernel3Ideal.main_arg2 (Pipeline.mem_restRefs_of Cert.Kernel3Ideal.main_arg2 (by decide) (by decide))).trans
        (Cert.Kernel3Ideal.Gen.W_main_arg2 m (Cert.Kernel3Ideal.Gen.dats m) c)⟩)
      (Cert.Kernel3Ideal.Gen.run_main (F := Ideal) m ρ)
  · exact (θ_run Cert.Reference3Ideal.defs _ _).mono (fun _ h c => ⟨((h c).1).trans ((Cert.Reference3Ideal.Read.val_main_v6_eq _ _).trans
        (congrArg₂ (Cert.Reference3Ideal.Read.val_main_v6 (F := Ideal)) (hm c).1 (hm c).2.2)),
      ((h c).2.1).trans ((Cert.Reference3Ideal.Read.val_main_v7_eq _ _).trans
        (congrArg₂ (Cert.Reference3Ideal.Read.val_main_v7 (F := Ideal)) (hm c).2.1 (hm c).2.2)),
      ((h c).2.2.1).trans ((Cert.Reference3Ideal.Read.val_main_v8_eq _ _).trans
        (congrArg₂ (Cert.Reference3Ideal.Read.val_main_v8 (F := Ideal)) (hm c).1 (hm c).2.2)),
      ((h c).2.2.2.1).trans ((Cert.Reference3Ideal.Read.val_main_v9_eq _ _).trans
        (congrArg₂ (Cert.Reference3Ideal.Read.val_main_v9 (F := Ideal)) (hm c).2.1 (hm c).2.2)),
      ((h c).2.2.2.2.1).trans ((Cert.Reference3Ideal.Read.val_main_v10_eq _ _).trans
        (congrArg₂ (Cert.Reference3Ideal.Read.val_main_v10 (F := Ideal)) (hm c).1 (hm c).2.2)),
      ((h c).2.2.2.2.2.1).trans ((Cert.Reference3Ideal.Read.val_main_v11_eq _ _).trans
        (congrArg₂ (Cert.Reference3Ideal.Read.val_main_v11 (F := Ideal)) (hm c).2.1 (hm c).2.2)),
      ((h c).2.2.2.2.2.2.1).trans ((Cert.Reference3Ideal.Read.val_main_v12_eq _ _).trans
        (congrArg₂ (Cert.Reference3Ideal.Read.val_main_v12 (F := Ideal)) (hm c).1 (hm c).2.2)),
      ((h c).2.2.2.2.2.2.2.1).trans ((Cert.Reference3Ideal.Read.val_main_v13_eq _ _).trans
        (congrArg₂ (Cert.Reference3Ideal.Read.val_main_v13 (F := Ideal)) (hm c).2.1 (hm c).2.2)),
      ((h c).2.2.2.2.2.2.2.2.1).trans ((Cert.Reference3Ideal.Read.val_main_v14_eq _ _).trans
        (congrArg₂ (Cert.Reference3Ideal.Read.val_main_v14 (F := Ideal)) (hm c).1 (hm c).2.2)),
      ((h c).2.2.2.2.2.2.2.2.2.1).trans ((Cert.Reference3Ideal.Read.val_main_v15_eq _ _).trans
        (congrArg₂ (Cert.Reference3Ideal.Read.val_main_v15 (F := Ideal)) (hm c).2.1 (hm c).2.2)),
      ((h c).2.2.2.2.2.2.2.2.2.2.1).trans ((Cert.Reference3Ideal.Read.val_main_v16_eq _ _).trans
        (congrArg₂ (Cert.Reference3Ideal.Read.val_main_v16 (F := Ideal)) (hm c).1 (hm c).2.2)),
      ((h c).2.2.2.2.2.2.2.2.2.2.2.1).trans ((Cert.Reference3Ideal.Read.val_main_v17_eq _ _).trans
        (congrArg₂ (Cert.Reference3Ideal.Read.val_main_v17 (F := Ideal)) (hm c).2.1 (hm c).2.2)),
      ((h c).2.2.2.2.2.2.2.2.2.2.2.2.1).trans ((Cert.Reference3Ideal.Read.val_main_v18_eq _ _).trans
        (congrArg₂ (Cert.Reference3Ideal.Read.val_main_v18 (F := Ideal)) (hm c).1 (hm c).2.2)),
      ((h c).2.2.2.2.2.2.2.2.2.2.2.2.2.1).trans ((Cert.Reference3Ideal.Read.val_main_v19_eq _ _).trans
        (congrArg₂ (Cert.Reference3Ideal.Read.val_main_v19 (F := Ideal)) (hm c).2.1 (hm c).2.2)),
      (h c).2.2.2.2.2.2.2.2.2.2.2.2.2.2⟩) (Cert.Reference3Ideal.Value.run (F := Ideal) m' ρ')

end Cert.Proof.Even

end
-- ==== Proof.Gate.Value.lean ====
/- The per-layer embedding gate over the extended reals: each entry of the result is the row's entry plus the logistic value of
   the row's gate product times the embedding's product. -/
module

public import proofs.«01_k».proof.Proof.Gen.Kernel4Ideal.Frame
public import proofs.«01_k».proof.Proof.Rows
public import Idealize.ShloMosaic.Lib.MatmulPlain
public import Idealize.ShloMosaic.PureOps.Ideal

@[expose] public section

set_option maxRecDepth 16384

noncomputable section

namespace Cert.Proof.Gate

open Cert.Kernel4Ideal Cert.Kernel4Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- The gate's product of a block of rows with a block of columns, at an index. -/
theorem gate_product (x : Vec Ideal S640x2048 .bf16) (w : Vec Ideal S2048x512 .bf16) (r : Fin 640) (q : Fin 512) :
    matmul (φ₁ := .bf16) (φ₂ := .bf16) dot_S640x2048_S2048x512_S640x512_1_0_0_1_n_n none (shapeCast S640x2048 x shapeCasts_S640x2048_S640x2048)
      (shapeCast S2048x512 w shapeCasts_S2048x512_S2048x512) (constant (F := Ideal) S640x512 .f32 0x00000000#32) (ix2 r q)
      = mul x w r q := by
  refine (Ideal.matmul_plain_apply (φ₁ := .bf16) (φ₂ := .bf16) (M := 640) (K := 2048) (N := 512) none _ _ _ r q).trans ?_
  rw [show (constant (F := Ideal) S640x512 .f32 0x00000000#32) (ix2 r q) = (0 : EReal) from Ideal.ofBits_zero_f32, zero_add]
  exact Finset.sum_congr rfl fun k _ => congrArg₂ (· * ·) (shapeCast_apply x _ (ix2 r k) (ix2 r k) rfl)
    (shapeCast_apply w _ (ix2 k q) (ix2 k q) rfl)

/-- The embedding's product of a block of rows with a block of columns, at an index. -/
theorem embedding_product (x : Vec Ideal S640x256 .bf16) (w : Vec Ideal S256x512 .bf16) (r : Fin 640) (q : Fin 512) :
    matmul (φ₁ := .bf16) (φ₂ := .bf16) dot_S640x256_S256x512_S640x512_1_0_0_1_n_n none (shapeCast S640x256 x shapeCasts_S640x256_S640x256)
      (shapeCast S256x512 w shapeCasts_S256x512_S256x512) (constant (F := Ideal) S640x512 .f32 0x00000000#32) (ix2 r q)
      = mul x w r q := by
  refine (Ideal.matmul_plain_apply (φ₁ := .bf16) (φ₂ := .bf16) (M := 640) (K := 256) (N := 512) none _ _ _ r q).trans ?_
  rw [show (constant (F := Ideal) S640x512 .f32 0x00000000#32) (ix2 r q) = (0 : EReal) from Ideal.ofBits_zero_f32, zero_add]
  exact Finset.sum_congr rfl fun k _ => congrArg₂ (· * ·) (shapeCast_apply x _ (ix2 r k) (ix2 r k) rfl)
    (shapeCast_apply w _ (ix2 k q) (ix2 k q) rfl)

/-- An entry, plus the logistic value of the gate's times the embedding's. -/
def lifted (x g p : EReal) : EReal := x + Ideal.logistic g * p

/-- What the body leaves, from the blocks it reads. -/
theorem leaves_apply (xb : Vec Ideal S640x2048 .bf16) (x : Vec Ideal S640x512 .f32) (g : Vec Ideal S2048x512 .bf16)
    (pb : Vec Ideal S640x256 .bf16) (wp : Vec Ideal S256x512 .bf16) (r : Fin 640) (q : Fin 512) :
    out0_5 (F := Ideal) xb x g pb wp (ix2 r q) = lifted (x (ix2 r q)) (mul xb g r q) (mul pb wp r q) := by
  have z : (![0, 0] : Fin 2 → ℕ) = fun _ => 0 := by decide
  unfold out0_5
  rw [View.canon_unit_zero (Val := Elt Ideal) (S := S640x512) z, View.ld_unit_zero (Val := Elt Ideal) (S := S640x2048) z,
    View.ld_unit_zero (Val := Elt Ideal) (S := S2048x512) z, View.ld_unit_zero (Val := Elt Ideal) (S := S640x256) z,
    View.ld_unit_zero (Val := Elt Ideal) (S := S256x512) z, View.ld_unit_zero (Val := Elt Ideal) (S := S640x512) z]
  rw [← gate_product xb g r q, ← embedding_product pb wp r q, ← shapeCast_apply x shapeCasts_S640x512_S640x512 (ix2 r q) (ix2 r q) rfl]
  rfl

variable (m : (ℓ : Loc nD τ sig) → Buf (Elt Ideal) ℓ)

theorem index0 : ∀ t : Fin grid0.N, cc0_transform_0 (grid0.coords t) = ![(grid0.coords t 0).val, 0] := by decide +kernel
theorem index1 : ∀ t : Fin grid0.N, cc0_transform_1 (grid0.coords t) = ![(grid0.coords t 0).val, (grid0.coords t 1).val] := by decide +kernel
theorem index2 : ∀ t : Fin grid0.N, cc0_transform_2 (grid0.coords t) = ![0, (grid0.coords t 1).val] := by decide +kernel
theorem index3 : ∀ t : Fin grid0.N, cc0_transform_3 (grid0.coords t) = ![(grid0.coords t 0).val, 0] := by decide +kernel
theorem index4 : ∀ t : Fin grid0.N, cc0_transform_4 (grid0.coords t) = ![0, (grid0.coords t 1).val] := by decide +kernel
theorem index5 : ∀ t : Fin grid0.N, cc0_transform_5 (grid0.coords t) = ![(grid0.coords t 0).val, (grid0.coords t 1).val] := by decide +kernel

/-- A block of rows for the gate, at an index. -/
theorem rows_apply (c : Dev nD) (t : Fin cfg0.N) (r : Fin 640) (k : Fin 2048) (hr : (grid0.coords t 0).val * 640 + r.val < 8320) :
    iblk m c (0 : Fin 7) t (ix2 r k) = V m c main_v7 (ix2 ⟨(grid0.coords t 0).val * 640 + r.val, hr⟩ k) := by
  refine congrArg (V m c main_v7) ?_
  have e := index0 t
  refine ext2 ?_ ?_
  · exact (at_block 640 r.val (congrFun e 0) :)
  · exact (at_block_zero 2048 k.val (congrFun e 1) :)

/-- A block of the rows' entries, at an index. -/
theorem entry_apply (c : Dev nD) (t : Fin cfg0.N) (r : Fin 640) (q : Fin 512) (hr : (grid0.coords t 0).val * 640 + r.val < 8320) (hq : (grid0.coords t 1).val * 512 + q.val < 2048) :
    iblk m c (1 : Fin 7) t (ix2 r q) = V m c main_v2 (ix2 ⟨(grid0.coords t 0).val * 640 + r.val, hr⟩ ⟨(grid0.coords t 1).val * 512 + q.val, hq⟩) := by
  refine congrArg (V m c main_v2) ?_
  have e := index1 t
  refine ext2 ?_ ?_
  · exact (at_block 640 r.val (congrFun e 0) :)
  · exact (at_block 512 q.val (congrFun e 1) :)

/-- A block of the gate's columns, at an index. -/
theorem gate_apply (c : Dev nD) (t : Fin cfg0.N) (k : Fin 2048) (q : Fin 512) (hq : (grid0.coords t 1).val * 512 + q.val < 2048) :
    iblk m c (2 : Fin 7) t (ix2 k q) = V m c main_v10 (ix2 k ⟨(grid0.coords t 1).val * 512 + q.val, hq⟩) := by
  refine congrArg (V m c main_v10) ?_
  have e := index2 t
  refine ext2 ?_ ?_
  · exact (at_block_zero 2048 k.val (congrFun e 0) :)
  · exact (at_block 512 q.val (congrFun e 1) :)

/-- A block of the embedding's rows, at an index. -/
theorem embedding_apply (c : Dev nD) (t : Fin cfg0.N) (r : Fin 640) (k : Fin 256) (hr : (grid0.coords t 0).val * 640 + r.val < 8320) :
    iblk m c (3 : Fin 7) t (ix2 r k) = V m c main_v12 (ix2 ⟨(grid0.coords t 0).val * 640 + r.val, hr⟩ k) := by
  refine congrArg (V m c main_v12) ?_
  have e := index3 t
  refine ext2 ?_ ?_
  · exact (at_block 640 r.val (congrFun e 0) :)
  · exact (at_block_zero 256 k.val (congrFun e 1) :)

/-- A block of the embedding's columns, at an index. -/
theorem projection_apply (c : Dev nD) (t : Fin cfg0.N) (k : Fin 256) (q : Fin 512) (hq : (grid0.coords t 1).val * 512 + q.val < 2048) :
    iblk m c (4 : Fin 7) t (ix2 k q) = V m c main_v15 (ix2 k ⟨(grid0.coords t 1).val * 512 + q.val, hq⟩) := by
  refine congrArg (V m c main_v15) ?_
  have e := index4 t
  refine ext2 ?_ ?_
  · exact (at_block_zero 256 k.val (congrFun e 0) :)
  · exact (at_block 512 q.val (congrFun e 1) :)

/-- The place of a result block's index in the array. -/
theorem place_apply (t : Fin cfg0.N) (r : Fin 640) (q : Fin 512) (hr : (grid0.coords t 0).val * 640 + r.val < 8320)
    (hq : (grid0.coords t 1).val * 512 + q.val < 2048) : ((cfg0.win (5 : Fin 7)).blk t).view.emb (ix2 r q)
      = ix2 ⟨(grid0.coords t 0).val * 640 + r.val, hr⟩ ⟨(grid0.coords t 1).val * 512 + q.val, hq⟩ := by
  have e := index5 t
  refine ext2 ?_ ?_
  · exact (at_block 640 r.val (congrFun e 0) :)
  · exact (at_block 512 q.val (congrFun e 1) :)

/-- Every point writes its block back: the next point's block is another. -/
theorem flushes : ∀ t : Fin grid0.N, Pipeline.Window.flushOf grid0 true cc0_transform_5 t = true := by decide +kernel

/-- Every pair of a row tile and a column block is a point's. -/
theorem onto : ∀ (i : Fin 13) (j : Fin 4), ∃ t : Fin grid0.N, (grid0.coords t 0).val = i.val ∧ (grid0.coords t 1).val = j.val := by
  decide +kernel

/-- The result's blocks cover it. -/
theorem cover (y : S8320x2048.Idx) : ∃ t : Fin cfg0.N, (cfg0.win (5 : Fin 7)).flush t = true ∧ y ∈ ((cfg0.win (5 : Fin 7)).blk t).view.set := by
  have h0 : (y 0).val < 8320 := (y 0).isLt
  have h1 : (y 1).val < 2048 := (y 1).isLt
  obtain ⟨t, e0, e1⟩ := onto ⟨(y 0).val / 640, by omega⟩ ⟨(y 1).val / 512, by omega⟩
  have e0' : (grid0.coords t 0).val = (y 0).val / 640 := e0
  have e1' : (grid0.coords t 1).val = (y 1).val / 512 := e1
  have hr : (grid0.coords t 0).val * 640 + (y 0).val % 640 < 8320 := by omega
  have hq : (grid0.coords t 1).val * 512 + (y 1).val % 512 < 2048 := by omega
  refine ⟨t, flushes t, ?_⟩
  have he := place_apply t ⟨(y 0).val % 640, by omega⟩ ⟨(y 1).val % 512, by omega⟩ hr hq
  have hy : y = ix2 ⟨(grid0.coords t 0).val * 640 + (y 0).val % 640, hr⟩ ⟨(grid0.coords t 1).val * 512 + (y 1).val % 512, hq⟩ :=
    ext2 (by show (y 0).val = (grid0.coords t 0).val * 640 + (y 0).val % 640; omega)
      (by show (y 1).val = (grid0.coords t 1).val * 512 + (y 1).val % 512; omega)
  rw [hy, ← he]
  exact View.emb_mem_set _ _

/-- The result as one function of the rows, the two weights and the embedding's rows. -/
def G (xb x : S8320x2048.Idx → EReal) (g : S2048x2048.Idx → EReal) (pb : S8320x256.Idx → EReal) (wp : S256x2048.Idx → EReal) :
    S8320x2048.Idx → EReal := fun y => lifted (x (ix2 (y 0) (y 1))) (mul xb g (y 0) (y 1)) (mul pb wp (y 0) (y 1))

/-- The array after the write-backs. -/
theorem final (c : Dev nD) : (dats m 0 c).arrAt (5 : Fin 7) cfg0.N
    = G (V m c main_v7) (V m c main_v2) (V m c main_v10) (V m c main_v12) (V m c main_v15) := by
  refine (dats m 0 c).arrAt_eq_of_emb (5 : Fin 7) _ (fun t _ y => ?_) cover
  obtain ⟨r, q, rfl⟩ : ∃ (r : Fin 640) (q : Fin 512), y = ix2 r q := ⟨y 0, y 1, eq_ix2 y⟩
  have h0 : (grid0.coords t 0).val < 13 := (grid0.coords t 0).isLt
  have h1 : (grid0.coords t 1).val < 4 := (grid0.coords t 1).isLt
  have hr : (grid0.coords t 0).val * 640 + r.val < 8320 := by have := r.isLt; omega
  have hq : (grid0.coords t 1).val * 512 + q.val < 2048 := by have := q.isLt; omega
  refine Eq.trans ?_ (congrArg (G _ _ _ _ _) (place_apply t r q hr hq)).symm
  refine (congrFun (after0_5 m c t) (ix2 r q)).trans ?_
  refine (leaves_apply _ _ _ _ _ r q).trans ?_
  show lifted _ (∑ k : Fin 2048, _) (∑ k : Fin 256, _) = lifted _ (∑ k : Fin 2048, _) (∑ k : Fin 256, _)
  rw [entry_apply m c t r q hr hq]
  refine congrArg₂ (lifted _) (Finset.sum_congr rfl fun k _ => ?_) (Finset.sum_congr rfl fun k _ => ?_)
  · rw [rows_apply m c t r k hr, gate_apply m c t k q hq]
  · rw [embedding_apply m c t r k hr, projection_apply m c t k q hq]

end Cert.Proof.Gate

end
-- ==== Proof.Gate.Host.lean ====
/- The host operations around the per-layer embedding gate: what the region reads and the two results after it, from the
   arguments. -/
module

public import proofs.«01_k».proof.Proof.Gate.Value

@[expose] public section

set_option maxRecDepth 16384

noncomputable section

namespace Cert.Proof.Gate

open Cert.Kernel4Ideal Cert.Kernel4Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

variable (m : (ℓ : Loc nD τ sig) → Buf (Elt Ideal) ℓ)

/-- The rows: the prompts' and the samples', stacked. -/
theorem entries_eq (c : Dev nD) : V m c main_v2 = concatenate S8320x2048 0
      [⟨S8192x2048, shapeCast S8192x2048 (m ((c : Thread nD τ).loc main_arg0)) shapeCasts_S4x2048x2048_S8192x2048⟩,
        ⟨S128x2048, shapeCast S128x2048 (m ((c : Thread nD τ).loc main_arg1)) shapeCasts_S128x1x2048_S128x2048⟩]
      concatenates_S8192x2048_S128x2048_S8320x2048_d0 := by
  unfold V V0
  simp only [hostOps0, List.flatten_cons, List.flatten_nil, List.append_nil, List.cons_append, List.nil_append]
  after_results; rfl

/-- The rows for the gate are the rows. -/
theorem rounded_eq (c : Dev nD) : V m c main_v7 = truncf (F := Ideal) .bf16 (V m c main_v2) bitsLt_bf16_f32 := by
  unfold V V0
  simp only [hostOps0, List.flatten_cons, List.flatten_nil, List.append_nil, List.cons_append, List.nil_append]
  after_results

theorem entries_prompt (c : Dev nD) (b : Fin 4) (l k : Fin 2048) : V m c main_v2 (ix2 (promptRow b l) k) = m ((c : Thread nD τ).loc main_arg0) (ix3 b l k) := by
  rw [entries_eq]
  exact stack_prompt (d := 2048) (m ((c : Thread nD τ).loc main_arg0)) (m ((c : Thread nD τ).loc main_arg1))
    shapeCasts_S4x2048x2048_S8192x2048 shapeCasts_S128x1x2048_S128x2048 concatenates_S8192x2048_S128x2048_S8320x2048_d0 b l k

theorem entries_sample (c : Dev nD) (s : Fin 128) (k : Fin 2048) : V m c main_v2 (ix2 (sampleRow s) k) = m ((c : Thread nD τ).loc main_arg1) (ix3 s (0 : Fin 1) k) := by
  rw [entries_eq]
  exact stack_sample (d := 2048) (m ((c : Thread nD τ).loc main_arg0)) (m ((c : Thread nD τ).loc main_arg1))
    shapeCasts_S4x2048x2048_S8192x2048 shapeCasts_S128x1x2048_S128x2048 concatenates_S8192x2048_S128x2048_S8320x2048_d0 s k

theorem rounded_prompt (c : Dev nD) (b : Fin 4) (l k : Fin 2048) : V m c main_v7 (ix2 (promptRow b l) k) = m ((c : Thread nD τ).loc main_arg0) (ix3 b l k) := by
  rw [rounded_eq]
  exact entries_prompt m c b l k

theorem rounded_sample (c : Dev nD) (s : Fin 128) (k : Fin 2048) : V m c main_v7 (ix2 (sampleRow s) k) = m ((c : Thread nD τ).loc main_arg1) (ix3 s (0 : Fin 1) k) := by
  rw [rounded_eq]
  exact entries_sample m c s k

/-- The gate's weight. -/
theorem gate_eq (c : Dev nD) : V m c main_v10 = truncf (F := Ideal) .bf16 (shapeCast S2048x2048 (extractStridedSlice S1x2048x2048 ![3, 0, 0] (m ((c : Thread nD τ).loc main_arg4))
      slices_S4x2048x2048_S1x2048x2048_3_0_0) shapeCasts_S1x2048x2048_S2048x2048) bitsLt_bf16_f32 := by
  unfold V V0
  simp only [hostOps0, List.flatten_cons, List.flatten_nil, List.append_nil, List.cons_append, List.nil_append]
  after_results; rfl

theorem gate_weight (c : Dev nD) (k q : Fin 2048) : V m c main_v10 (ix2 k q) = m ((c : Thread nD τ).loc main_arg4) (ix3 (3 : Fin 4) k q) := by
  rw [gate_eq]
  exact member (3 : Fin 4) (m ((c : Thread nD τ).loc main_arg4)) slices_S4x2048x2048_S1x2048x2048_3_0_0 shapeCasts_S1x2048x2048_S2048x2048 k q

/-- The embedding's projection. -/
theorem projection_eq (c : Dev nD) : V m c main_v15 = truncf (F := Ideal) .bf16 (shapeCast S256x2048 (extractStridedSlice S1x256x2048 ![3, 0, 0] (m ((c : Thread nD τ).loc main_arg5))
      slices_S4x256x2048_S1x256x2048_3_0_0) shapeCasts_S1x256x2048_S256x2048) bitsLt_bf16_f32 := by
  unfold V V0
  simp only [hostOps0, List.flatten_cons, List.flatten_nil, List.append_nil, List.cons_append, List.nil_append]
  after_results; rfl

theorem projection_weight (c : Dev nD) (k : Fin 256) (q : Fin 2048) : V m c main_v15 (ix2 k q) = m ((c : Thread nD τ).loc main_arg5) (ix3 (3 : Fin 4) k q) := by
  rw [projection_eq]
  exact member (3 : Fin 4) (m ((c : Thread nD τ).loc main_arg5)) slices_S4x256x2048_S1x256x2048_3_0_0 shapeCasts_S1x256x2048_S256x2048 k q

/-- The embedding's rows of every layer, the prompts' and the samples' stacked. -/
theorem layers_eq (c : Dev nD) : V m c main_v6 = truncf (F := Ideal) .bf16 (concatenate S4x8320x256 1
      [⟨S4x8192x256, shapeCast S4x8192x256 (m ((c : Thread nD τ).loc main_arg2)) shapeCasts_S4x4x2048x256_S4x8192x256⟩,
        ⟨S4x128x256, shapeCast S4x128x256 (m ((c : Thread nD τ).loc main_arg3)) shapeCasts_S4x128x1x256_S4x128x256⟩]
      concatenates_S4x8192x256_S4x128x256_S4x8320x256_d1) bitsLt_bf16_f32 := by
  unfold V V0
  simp only [hostOps0, List.flatten_cons, List.flatten_nil, List.append_nil, List.cons_append, List.nil_append]
  after_results; rfl

/-- The embedding's rows of the layer. -/
theorem embedding_eq (c : Dev nD) : V m c main_v12 = shapeCast S8320x256 (extractStridedSlice S1x8320x256 ![3, 0, 0] (V m c main_v6)
      slices_S4x8320x256_S1x8320x256_3_0_0) shapeCasts_S1x8320x256_S8320x256 := by
  unfold V V0
  simp only [hostOps0, List.flatten_cons, List.flatten_nil, List.append_nil, List.cons_append, List.nil_append]
  after_results; rfl

theorem embedding_prompt (c : Dev nD) (b : Fin 4) (l : Fin 2048) (k : Fin 256) :
    V m c main_v12 (ix2 (promptRow b l) k) = m ((c : Thread nD τ).loc main_arg2) (ix4 (3 : Fin 4) b l k) := by
  rw [embedding_eq]
  refine (member (3 : Fin 4) (V m c main_v6) slices_S4x8320x256_S1x8320x256_3_0_0 shapeCasts_S1x8320x256_S8320x256 (promptRow b l) k).trans ?_
  rw [layers_eq]
  exact layers_prompt (d := 256) (3 : Fin 4) (m ((c : Thread nD τ).loc main_arg2)) (m ((c : Thread nD τ).loc main_arg3))
    shapeCasts_S4x4x2048x256_S4x8192x256 shapeCasts_S4x128x1x256_S4x128x256 concatenates_S4x8192x256_S4x128x256_S4x8320x256_d1 b l k

theorem embedding_sample (c : Dev nD) (s : Fin 128) (k : Fin 256) :
    V m c main_v12 (ix2 (sampleRow s) k) = m ((c : Thread nD τ).loc main_arg3) (ix4 (3 : Fin 4) s (0 : Fin 1) k) := by
  rw [embedding_eq]
  refine (member (3 : Fin 4) (V m c main_v6) slices_S4x8320x256_S1x8320x256_3_0_0 shapeCasts_S1x8320x256_S8320x256 (sampleRow s) k).trans ?_
  rw [layers_eq]
  exact layers_sample (d := 256) (3 : Fin 4) (m ((c : Thread nD τ).loc main_arg2)) (m ((c : Thread nD τ).loc main_arg3))
    shapeCasts_S4x4x2048x256_S4x8192x256 shapeCasts_S4x128x1x256_S4x128x256 concatenates_S4x8192x256_S4x128x256_S4x8320x256_d1 s k

/-- The prompts' result after the region, from the region's array. -/
theorem tail_prompt (c : Dev nD) : Pipeline.afterTail₀ cfgs (dats m) 0 (V0 m) [hostOps1] c main_v18
    = shapeCast S4x2048x2048 (extractStridedSlice S8192x2048 ![0, 0]
        (G (V m c main_v7) (V m c main_v2) (V m c main_v10) (V m c main_v12) (V m c main_v15)) slices_S8320x2048_S8192x2048_0_0)
        shapeCasts_S8192x2048_S4x2048x2048 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (5 : Fin 7)]
  rfl

theorem tail_sample (c : Dev nD) : Pipeline.afterTail₀ cfgs (dats m) 0 (V0 m) [hostOps1] c main_v20
    = shapeCast S128x1x2048 (extractStridedSlice S128x2048 ![8192, 0]
        (G (V m c main_v7) (V m c main_v2) (V m c main_v10) (V m c main_v12) (V m c main_v15)) slices_S8320x2048_S128x2048_8192_0)
        shapeCasts_S128x2048_S128x1x2048 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (5 : Fin 7)]
  rfl

/-- The gated entry at a row of a batch and a column, from the batch, its embedding and the two weights. -/
def liftedAt {a b : ℕ} (x : (⟨3, ![a, b, 2048]⟩ : Shape).Idx → EReal) (p : (⟨4, ![4, a, b, 256]⟩ : Shape).Idx → EReal)
    (g : (⟨3, ![4, 2048, 2048]⟩ : Shape).Idx → EReal) (w : (⟨3, ![4, 256, 2048]⟩ : Shape).Idx → EReal) (i : Fin a) (l : Fin b) (q : Fin 2048) :
    EReal := lifted (x (ix3 i l q)) (rowAt x g i l (3 : Fin 4) q) (rowOf p w (3 : Fin 4) i l q)

/-- The region's entry is the gated entry, where what it reads is so. -/
theorem entry_eq {a b : ℕ} {xb x : S8320x2048.Idx → EReal} {g : S2048x2048.Idx → EReal} {pb : S8320x256.Idx → EReal} {wp : S256x2048.Idx → EReal}
    {xs : (⟨3, ![a, b, 2048]⟩ : Shape).Idx → EReal} {ps : (⟨4, ![4, a, b, 256]⟩ : Shape).Idx → EReal}
    {gs : (⟨3, ![4, 2048, 2048]⟩ : Shape).Idx → EReal} {ws : (⟨3, ![4, 256, 2048]⟩ : Shape).Idx → EReal} {r : Fin 8320} {i : Fin a} {l : Fin b}
    (q : Fin 2048) (hb : ∀ k, xb (ix2 r k) = xs (ix3 i l k)) (hx : ∀ k, x (ix2 r k) = xs (ix3 i l k))
    (hg : ∀ k q, g (ix2 k q) = gs (ix3 (3 : Fin 4) k q)) (hp : ∀ k, pb (ix2 r k) = ps (ix4 (3 : Fin 4) i l k))
    (hw : ∀ k q, wp (ix2 k q) = ws (ix3 (3 : Fin 4) k q)) : G xb x g pb wp (ix2 r q) = liftedAt xs ps gs ws i l q := by
  show lifted (x (ix2 r q)) (∑ k : Fin 2048, xb (ix2 r k) * g (ix2 k q)) (∑ k : Fin 256, pb (ix2 r k) * wp (ix2 k q))
    = lifted (xs (ix3 i l q)) (∑ k : Fin 2048, xs (ix3 i l k) * gs (ix3 (3 : Fin 4) k q))
      (∑ k : Fin 256, ps (ix4 (3 : Fin 4) i l k) * ws (ix3 (3 : Fin 4) k q))
  rw [hx q]
  exact congrArg₂ (lifted _) (Finset.sum_congr rfl fun k _ => congrArg₂ (· * ·) (hb k) (hg k q))
    (Finset.sum_congr rfl fun k _ => congrArg₂ (· * ·) (hp k) (hw k q))

/-- The prompts' result, at an index. -/
theorem prompt_apply (c : Dev nD) (b : Fin 4) (l q : Fin 2048) :
    Pipeline.afterTail₀ cfgs (dats m) 0 (V0 m) [hostOps1] c main_v18 (ix3 b l q) = liftedAt (m ((c : Thread nD τ).loc main_arg0)) (m ((c : Thread nD τ).loc main_arg2))
      (m ((c : Thread nD τ).loc main_arg4)) (m ((c : Thread nD τ).loc main_arg5)) b l q := by
  rw [tail_prompt]
  refine (take_prompt _ slices_S8320x2048_S8192x2048_0_0 shapeCasts_S8192x2048_S4x2048x2048 b l q).trans ?_
  exact entry_eq q (rounded_prompt m c b l) (entries_prompt m c b l) (gate_weight m c) (embedding_prompt m c b l) (projection_weight m c)

/-- The samples' result, at an index. -/
theorem sample_apply (c : Dev nD) (s : Fin 128) (z : Fin 1) (q : Fin 2048) :
    Pipeline.afterTail₀ cfgs (dats m) 0 (V0 m) [hostOps1] c main_v20 (ix3 s z q) = liftedAt (m ((c : Thread nD τ).loc main_arg1)) (m ((c : Thread nD τ).loc main_arg3))
      (m ((c : Thread nD τ).loc main_arg4)) (m ((c : Thread nD τ).loc main_arg5)) s z q := by
  obtain rfl : z = 0 := Subsingleton.elim _ _
  rw [tail_sample]
  refine (take_sample _ slices_S8320x2048_S128x2048_8192_0 shapeCasts_S128x2048_S128x1x2048 s 0 q).trans ?_
  exact entry_eq q (rounded_sample m c s) (entries_sample m c s) (gate_weight m c) (embedding_sample m c s) (projection_weight m c)

end Cert.Proof.Gate

end
-- ==== Proof.Gate.Claims.lean ====
/- The claims about the per-layer embedding gate: the three frames, and the kernel's results equal to the reference's over the
   extended reals. -/
module

public import proofs.«01_k».proof.Defs
public import proofs.«01_k».proof.Proof.Gen.Kernel4
public import proofs.«01_k».proof.Proof.Gen.Kernel4.Frame
public import proofs.«01_k».proof.Proof.Gen.Reference4Ideal
public import proofs.«01_k».proof.Proof.Gen.Reference4Ideal.Run
public import proofs.«01_k».proof.Proof.Gen.Reference4Ideal.Read
public import proofs.«01_k».proof.Proof.Gate.Host
public import Idealize.ShloMosaic.Adequacy
public import Idealize.ShloMosaic.Init

@[expose] public section

set_option maxRecDepth 16384

noncomputable section

namespace Cert.Proof.Gate

open Cert.Proof.Rows
open Idealize.ShloMosaic hiding ix1 ix2 ix3 ix4 eq_ix2
open Idealize.ShloMosaic.TcCoe Idealize.ShloMosaic.ValueIdx
open Idealize.SL Idealize.SL.Sem
open scoped BigOperators

/-- The host's gate, spelled by negation, exponential, sum and quotient, is the gate by the logistic function. -/
theorem lifted_host (x g p : EReal) :
    FloatOps.addf (F := Ideal) (φ := .f32) x (FloatOps.mulf (F := Ideal) (φ := .f32) (FloatOps.hostDivf (F := Ideal) (φ := .f32)
      (FloatOps.ofBits (F := Ideal) .f32 0x3F800000#32) (FloatOps.addf (F := Ideal) (φ := .f32) (FloatOps.ofBits (F := Ideal) .f32 0x3F800000#32)
        (FloatOps.hostUnary (F := Ideal) (φ := .f32) .exp (FloatOps.hostNegf (F := Ideal) (φ := .f32) g)))) p) = lifted x g p := by
  rw [show (FloatOps.ofBits (F := Ideal) .f32 0x3F800000#32) = (1 : EReal) from Ideal.ofBits_one_f32]
  rfl

/-- Two indices of rank four are equal when their coordinates are. -/
theorem ext4 {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j :=
  funext fun d => Fin.ext (by match d with | ⟨0, _⟩ => exact h0 | ⟨1, _⟩ => exact h1 | ⟨2, _⟩ => exact h2 | ⟨3, _⟩ => exact h3)

section Reference

open Cert.Reference4Ideal Cert.Reference4Ideal.Read

/-- The reference's gate product of the prompts' rows. -/
theorem gate_prompt (x : S4x2048x2048.Idx → EReal) (w : S4x2048x2048.Idx → EReal) (i : Fin 4) (l : Fin 2048) (c : Fin 2048) :
    val_main_v2 (F := Ideal) x w (ix3 i l c) = rowAt x w i l (3 : Fin 4) c := by
  show _ = ∑ k : Fin 2048, x (ix3 i l k) * w (ix3 (3 : Fin 4) k c)
  rw [val_main_v2_apply]
  refine Finset.sum_congr rfl fun k _ => ?_
  rw [val_main_v1_apply, val_main_v0_apply]
  have hk := k.isLt
  have hc := c.isLt
  refine congrArg₂ (· * ·) (congrArg x (ext3 rfl rfl rfl)) (congrArg w (ext3 rfl ?_ ?_))
  · show (k.val * 2048 + c.val) / 2048 % 2048 = k.val; omega
  · show (k.val * 2048 + c.val) % 2048 = c.val; omega

/-- The reference's embedding product of the prompts' rows. -/
theorem embedding_prompt_product (p : S4x4x2048x256.Idx → EReal) (w : S4x256x2048.Idx → EReal) (i : Fin 4) (l : Fin 2048) (c : Fin 2048) :
    val_main_v22 (F := Ideal) p w (ix3 i l c) = rowOf p w (3 : Fin 4) i l c := by
  show _ = ∑ k : Fin 256, p (ix4 (3 : Fin 4) i l k) * w (ix3 (3 : Fin 4) k c)
  rw [val_main_v22_apply]
  refine Finset.sum_congr rfl fun k _ => ?_
  rw [val_main_v19_apply, val_main_v18_apply, val_main_v21_apply, val_main_v20_apply]
  have hk := k.isLt
  have hc := c.isLt
  have hi := i.isLt
  have hl := l.isLt
  refine congrArg₂ (· * ·) (congrArg p (ext4 rfl ?_ ?_ ?_)) (congrArg w (ext3 rfl ?_ ?_))
  · show ((i.val * 2048 + l.val) * 256 + k.val) / 524288 % 4 = i.val; omega
  · show ((i.val * 2048 + l.val) * 256 + k.val) / 256 % 2048 = l.val; omega
  · show ((i.val * 2048 + l.val) * 256 + k.val) % 256 = k.val; omega
  · show (k.val * 2048 + c.val) / 2048 % 256 = k.val; omega
  · show (k.val * 2048 + c.val) % 2048 = c.val; omega

/-- The reference's result for the prompts. -/
theorem reference_prompt (x : S4x2048x2048.Idx → EReal) (p : S4x4x2048x256.Idx → EReal) (g : S4x2048x2048.Idx → EReal) (w : S4x256x2048.Idx → EReal) (i : Fin 4) (l : Fin 2048)
    (q : Fin 2048) : val_main_v24 (F := Ideal) x p g w (ix3 i l q) = liftedAt x p g w i l q := by
  show _ = lifted (x (ix3 i l q)) (rowAt x g i l (3 : Fin 4) q) (rowOf p w (3 : Fin 4) i l q)
  rw [val_main_v24_apply, val_main_v23_apply, val_main_v8_apply, val_main_v7_apply, val_main_cst_0_apply, val_main_v6_apply, val_main_v5_apply, val_main_cst_apply, val_main_v4_apply, val_main_v3_apply]
  rw [gate_prompt, embedding_prompt_product]
  exact lifted_host _ _ _

/-- The reference's gate product of the samples' rows. -/
theorem gate_sample (x : S128x1x2048.Idx → EReal) (w : S4x2048x2048.Idx → EReal) (i : Fin 128) (l : Fin 1) (c : Fin 2048) :
    val_main_v11 (F := Ideal) x w (ix3 i l c) = rowAt x w i l (3 : Fin 4) c := by
  show _ = ∑ k : Fin 2048, x (ix3 i l k) * w (ix3 (3 : Fin 4) k c)
  rw [val_main_v11_apply]
  refine Finset.sum_congr rfl fun k _ => ?_
  rw [val_main_v10_apply, val_main_v9_apply]
  have hk := k.isLt
  have hc := c.isLt
  refine congrArg₂ (· * ·) (congrArg x (ext3 rfl rfl rfl)) (congrArg w (ext3 rfl ?_ ?_))
  · show (k.val * 2048 + c.val) / 2048 % 2048 = k.val; omega
  · show (k.val * 2048 + c.val) % 2048 = c.val; omega

/-- The reference's embedding product of the samples' rows. -/
theorem embedding_sample_product (p : S4x128x1x256.Idx → EReal) (w : S4x256x2048.Idx → EReal) (i : Fin 128) (l : Fin 1) (c : Fin 2048) :
    val_main_v29 (F := Ideal) p w (ix3 i l c) = rowOf p w (3 : Fin 4) i l c := by
  show _ = ∑ k : Fin 256, p (ix4 (3 : Fin 4) i l k) * w (ix3 (3 : Fin 4) k c)
  rw [val_main_v29_apply]
  refine Finset.sum_congr rfl fun k _ => ?_
  rw [val_main_v26_apply, val_main_v25_apply, val_main_v28_apply, val_main_v27_apply]
  have hk := k.isLt
  have hc := c.isLt
  have hi := i.isLt
  have hl := l.isLt
  refine congrArg₂ (· * ·) (congrArg p (ext4 rfl ?_ ?_ ?_)) (congrArg w (ext3 rfl ?_ ?_))
  · show ((i.val * 1 + l.val) * 256 + k.val) / 256 % 128 = i.val; omega
  · show 0 = l.val; omega
  · show ((i.val * 1 + l.val) * 256 + k.val) % 256 = k.val; omega
  · show (k.val * 2048 + c.val) / 2048 % 256 = k.val; omega
  · show (k.val * 2048 + c.val) % 2048 = c.val; omega

/-- The reference's result for the samples. -/
theorem reference_sample (x : S128x1x2048.Idx → EReal) (p : S4x128x1x256.Idx → EReal) (g : S4x2048x2048.Idx → EReal) (w : S4x256x2048.Idx → EReal) (i : Fin 128) (l : Fin 1)
    (q : Fin 2048) : val_main_v31 (F := Ideal) x p g w (ix3 i l q) = liftedAt x p g w i l q := by
  show _ = lifted (x (ix3 i l q)) (rowAt x g i l (3 : Fin 4) q) (rowOf p w (3 : Fin 4) i l q)
  rw [val_main_v31_apply, val_main_v30_apply, val_main_v17_apply, val_main_v16_apply, val_main_cst_2_apply, val_main_v15_apply, val_main_v14_apply, val_main_cst_1_apply, val_main_v13_apply, val_main_v12_apply]
  rw [gate_sample, embedding_sample_product]
  exact lifted_host _ _ _

end Reference

section Results

open Cert.Kernel4Ideal Cert.Kernel4Ideal.Gen

variable (m : (ℓ : Loc nD τ sig) → Buf (Elt Ideal) ℓ)

/-- The kernel's result for the prompts is the reference's. -/
theorem result_prompt (c : Dev nD) : Pipeline.afterTail₀ cfgs (dats m) 0 (V0 m) [hostOps1] c main_v18
    = Cert.Reference4Ideal.Read.val_main_v24 (F := Ideal) (m ((c : Thread nD τ).loc main_arg0)) (m ((c : Thread nD τ).loc main_arg2))
      (m ((c : Thread nD τ).loc main_arg4)) (m ((c : Thread nD τ).loc main_arg5)) := by
  funext y
  obtain ⟨i, l, q, rfl⟩ : ∃ (i : Fin 4) (l : Fin 2048) (q : Fin 2048), y = ix3 i l q := ⟨y 0, y 1, y 2, ext3 rfl rfl rfl⟩
  exact (prompt_apply m c i l q).trans (reference_prompt _ _ _ _ i l q).symm

/-- The kernel's result for the samples is the reference's. -/
theorem result_sample (c : Dev nD) : Pipeline.afterTail₀ cfgs (dats m) 0 (V0 m) [hostOps1] c main_v20
    = Cert.Reference4Ideal.Read.val_main_v31 (F := Ideal) (m ((c : Thread nD τ).loc main_arg1)) (m ((c : Thread nD τ).loc main_arg3))
      (m ((c : Thread nD τ).loc main_arg4)) (m ((c : Thread nD τ).loc main_arg5)) := by
  funext y
  obtain ⟨i, l, q, rfl⟩ : ∃ (i : Fin 128) (l : Fin 1) (q : Fin 2048), y = ix3 i l q := ⟨y 0, y 1, y 2, ext3 rfl rfl rfl⟩
  exact (sample_apply m c i l q).trans (reference_sample _ _ _ _ i l q).symm

end Results

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic : Cert.algebraic_Kernel4Ideal_Reference4Ideal := fun m ρ m' ρ' _ hm => by
  refine ⟨fun c => Cert.Reference4Ideal.Read.val_main_v24 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5)),
    fun c => Cert.Reference4Ideal.Read.val_main_v31 (F := Ideal)
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5)), ?_, ?_⟩
  · exact (θ_run Cert.Kernel4Ideal.defs _ _).mono (fun _ h c => ⟨((h c).2 Cert.Kernel4Ideal.main_v18 (Pipeline.mem_restRefs_of Cert.Kernel4Ideal.main_v18 (by decide) (by decide))).trans
        (result_prompt m c),
      ((h c).2 Cert.Kernel4Ideal.main_v20 (Pipeline.mem_restRefs_of Cert.Kernel4Ideal.main_v20 (by decide) (by decide))).trans
        (result_sample m c),
      ((h c).2 Cert.Kernel4Ideal.main_arg0 (Pipeline.mem_restRefs_of Cert.Kernel4Ideal.main_arg0 (by decide) (by decide))).trans
        (Cert.Kernel4Ideal.Gen.W_main_arg0 m (Cert.Kernel4Ideal.Gen.dats m) c),
      ((h c).2 Cert.Kernel4Ideal.main_arg1 (Pipeline.mem_restRefs_of Cert.Kernel4Ideal.main_arg1 (by decide) (by decide))).trans
        (Cert.Kernel4Ideal.Gen.W_main_arg1 m (Cert.Kernel4Ideal.Gen.dats m) c),
      ((h c).2 Cert.Kernel4Ideal.main_arg2 (Pipeline.mem_restRefs_of Cert.Kernel4Ideal.main_arg2 (by decide) (by decide))).trans
        (Cert.Kernel4Ideal.Gen.W_main_arg2 m (Cert.Kernel4Ideal.Gen.dats m) c),
      ((h c).2 Cert.Kernel4Ideal.main_arg3 (Pipeline.mem_restRefs_of Cert.Kernel4Ideal.main_arg3 (by decide) (by decide))).trans
        (Cert.Kernel4Ideal.Gen.W_main_arg3 m (Cert.Kernel4Ideal.Gen.dats m) c),
      ((h c).2 Cert.Kernel4Ideal.main_arg4 (Pipeline.mem_restRefs_of Cert.Kernel4Ideal.main_arg4 (by decide) (by decide))).trans
        (Cert.Kernel4Ideal.Gen.W_main_arg4 m (Cert.Kernel4Ideal.Gen.dats m) c),
      ((h c).2 Cert.Kernel4Ideal.main_arg5 (Pipeline.mem_restRefs_of Cert.Kernel4Ideal.main_arg5 (by decide) (by decide))).trans
        (Cert.Kernel4Ideal.Gen.W_main_arg5 m (Cert.Kernel4Ideal.Gen.dats m) c)⟩)
      (Cert.Kernel4Ideal.Gen.run_main (F := Ideal) m ρ)
  · refine (θ_run Cert.Reference4Ideal.defs _ _).mono (fun _ h c => ⟨(h c).1.trans ((Cert.Reference4Ideal.Read.val_main_v24_eq _ _ _ _).trans ?_),
      (h c).2.1.trans ((Cert.Reference4Ideal.Read.val_main_v31_eq _ _ _ _).trans ?_), (h c).2.2⟩) (Cert.Reference4Ideal.Value.run (F := Ideal) m' ρ')
    · rw [(hm c).1, (hm c).2.2.1, (hm c).2.2.2.2.1, (hm c).2.2.2.2.2]
    · rw [(hm c).2.1, (hm c).2.2.2.1, (hm c).2.2.2.2.1, (hm c).2.2.2.2.2]

end Cert.Proof.Gate

end
-- ==== Proof.FfnIn.Value.lean ====
/- The dense layer's first product over the extended reals: each entry of the result is a gate entry times its logistic value
   times a value entry, both of the matrix product. -/
module

public import proofs.«01_k».proof.Proof.Gen.Kernel5Ideal.Frame
public import proofs.«01_k».proof.Proof.Rows
public import Idealize.ShloMosaic.Lib.MatmulPlain
public import Idealize.ShloMosaic.PureOps.Ideal

@[expose] public section

set_option maxRecDepth 16384

noncomputable section

namespace Cert.Proof.FfnIn

open Cert.Kernel5Ideal Cert.Kernel5Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- A matrix product of a block of rows with a block of the weight, at an index. -/
theorem product_apply (x : Vec Ideal S640x2048 .bf16) (w : Vec Ideal S1x2048x512 .bf16) (r : Fin 640) (q : Fin 512) :
    matmul (φ₁ := .bf16) (φ₂ := .bf16) dot_S640x2048_S2048x512_S640x512_1_0_0_1_n_n none (shapeCast S640x2048 x shapeCasts_S640x2048_S640x2048)
      (shapeCast S2048x512 w shapeCasts_S1x2048x512_S2048x512) (constant (F := Ideal) S640x512 .f32 0x00000000#32) (ix2 r q)
      = ∑ k : Fin 2048, x (ix2 r k) * w (ix3 (0 : Fin 1) k q) := by
  refine (Ideal.matmul_plain_apply (φ₁ := .bf16) (φ₂ := .bf16) (M := 640) (K := 2048) (N := 512) none _ _ _ r q).trans ?_
  rw [show (constant (F := Ideal) S640x512 .f32 0x00000000#32) (ix2 r q) = (0 : EReal) from Ideal.ofBits_zero_f32, zero_add]
  refine Finset.sum_congr rfl fun k _ => congrArg₂ (· * ·) (shapeCast_apply x _ (ix2 r k) (ix2 r k) rfl)
    (shapeCast_apply w shapeCasts_S1x2048x512_S2048x512 (ix2 k q) (ix3 (0 : Fin 1) k q) ?_)
  rw [Shape.rowMajor_val_three, Shape.rowMajor_val_two]
  show (0 * 2048 + k.val) * 512 + q.val = k.val * 512 + q.val
  omega

/-- A gate entry, times its logistic value, times the value entry. -/
def gated (g u : EReal) : EReal := g * Ideal.logistic g * u

/-- What the body leaves, from the blocks it reads. -/
theorem leaves_apply (x : Vec Ideal S640x2048 .bf16) (g u : Vec Ideal S1x2048x512 .bf16) (r : Fin 640) (q : Fin 512) :
    out0_3 (F := Ideal) x g u (ix2 r q)
      = gated (∑ k : Fin 2048, x (ix2 r k) * g (ix3 (0 : Fin 1) k q)) (∑ k : Fin 2048, x (ix2 r k) * u (ix3 (0 : Fin 1) k q)) := by
  have z : (![0, 0] : Fin 2 → ℕ) = fun _ => 0 := by decide
  have z' : (![0, 0, 0] : Fin 3 → ℕ) = fun _ => 0 := by decide
  unfold out0_3
  rw [View.canon_unit_zero (Val := Elt Ideal) (S := S640x512) z, View.ld_unit_zero (Val := Elt Ideal) (S := S640x2048) z,
    View.ld_unit_zero (Val := Elt Ideal) (S := S1x2048x512) z', View.ld_unit_zero (Val := Elt Ideal) (S := S1x2048x512) z']
  rw [← product_apply x g r q, ← product_apply x u r q]
  rfl

variable (m : (ℓ : Loc nD τ sig) → Buf (Elt Ideal) ℓ)

theorem index0 : ∀ t : Fin grid0.N, cc0_transform_0 (grid0.coords t) = ![(grid0.coords t 0).val, 0] := by decide +kernel
theorem index1 : ∀ t : Fin grid0.N, cc0_transform_1 (grid0.coords t) = ![0, 0, (grid0.coords t 1).val] := by decide +kernel
theorem index2 : ∀ t : Fin grid0.N, cc0_transform_2 (grid0.coords t) = ![0, 0, (grid0.coords t 1).val + 11] := by decide +kernel
theorem index3 : ∀ t : Fin grid0.N, cc0_transform_3 (grid0.coords t) = ![(grid0.coords t 0).val, (grid0.coords t 1).val] := by decide +kernel

/-- A block of rows, at an index. -/
theorem rows_apply (c : Dev nD) (t : Fin cfg0.N) (r : Fin 640) (k : Fin 2048) (hr : (grid0.coords t 0).val * 640 + r.val < 8320) :
    iblk m c (0 : Fin 4) t (ix2 r k) = V m c main_v0 (ix2 ⟨(grid0.coords t 0).val * 640 + r.val, hr⟩ k) := by
  refine congrArg (V m c main_v0) ?_
  have e := index0 t
  refine ext2 ?_ ?_
  · exact (at_block 640 r.val (congrFun e 0) :)
  · exact (at_block_zero 2048 k.val (congrFun e 1) :)

/-- A block of the gate's columns of the weight, at an index. -/
theorem gate_apply (c : Dev nD) (t : Fin cfg0.N) (k : Fin 2048) (q : Fin 512) (hq : (grid0.coords t 1).val * 512 + q.val < 11264) :
    iblk m c (1 : Fin 4) t (ix3 (0 : Fin 1) k q) = V m c main_v4 (ix3 (0 : Fin 1) k ⟨(grid0.coords t 1).val * 512 + q.val, hq⟩) := by
  refine congrArg (V m c main_v4) ?_
  have e := index1 t
  refine ext3 ?_ ?_ ?_
  · show cc0_transform_1 (grid0.coords t) 0 * 1 + 1 * 0 = 0
    rw [e]; rfl
  · exact (at_block_zero 2048 k.val (congrFun e 1) :)
  · exact (at_block 512 q.val (congrFun e 2) :)

/-- A block of the value's columns of the weight, at an index. -/
theorem value_apply (c : Dev nD) (t : Fin cfg0.N) (k : Fin 2048) (q : Fin 512) (hq : 5632 + ((grid0.coords t 1).val * 512 + q.val) < 11264) :
    iblk m c (2 : Fin 4) t (ix3 (0 : Fin 1) k q) = V m c main_v4 (ix3 (0 : Fin 1) k ⟨5632 + ((grid0.coords t 1).val * 512 + q.val), hq⟩) := by
  refine congrArg (V m c main_v4) ?_
  have e := index2 t
  refine ext3 ?_ ?_ ?_
  · show cc0_transform_2 (grid0.coords t) 0 * 1 + 1 * 0 = 0
    rw [e]; rfl
  · exact (at_block_zero 2048 k.val (congrFun e 1) :)
  · show cc0_transform_2 (grid0.coords t) 2 * 512 + 1 * q.val = 5632 + ((grid0.coords t 1).val * 512 + q.val)
    rw [e]; show ((grid0.coords t 1).val + 11) * 512 + 1 * q.val = 5632 + ((grid0.coords t 1).val * 512 + q.val); omega

/-- The place of a result block's index in the array. -/
theorem place_apply (t : Fin cfg0.N) (r : Fin 640) (q : Fin 512) (hr : (grid0.coords t 0).val * 640 + r.val < 8320)
    (hq : (grid0.coords t 1).val * 512 + q.val < 5632) : ((cfg0.win (3 : Fin 4)).blk t).view.emb (ix2 r q)
      = ix2 ⟨(grid0.coords t 0).val * 640 + r.val, hr⟩ ⟨(grid0.coords t 1).val * 512 + q.val, hq⟩ := by
  have e := index3 t
  refine ext2 ?_ ?_
  · exact (at_block 640 r.val (congrFun e 0) :)
  · exact (at_block 512 q.val (congrFun e 1) :)

/-- Every point writes its block back: the next point's block is another. -/
theorem flushes : ∀ t : Fin grid0.N, Pipeline.Window.flushOf grid0 true cc0_transform_3 t = true := by decide +kernel

/-- Every pair of a row tile and a column block is a point's. -/
theorem onto : ∀ (i : Fin 13) (j : Fin 11), ∃ t : Fin grid0.N, (grid0.coords t 0).val = i.val ∧ (grid0.coords t 1).val = j.val := by
  decide +kernel

/-- The result's blocks cover it. -/
theorem cover (y : S8320x5632.Idx) : ∃ t : Fin cfg0.N, (cfg0.win (3 : Fin 4)).flush t = true ∧ y ∈ ((cfg0.win (3 : Fin 4)).blk t).view.set := by
  have h0 : (y 0).val < 8320 := (y 0).isLt
  have h1 : (y 1).val < 5632 := (y 1).isLt
  obtain ⟨t, e0, e1⟩ := onto ⟨(y 0).val / 640, by omega⟩ ⟨(y 1).val / 512, by omega⟩
  have e0' : (grid0.coords t 0).val = (y 0).val / 640 := e0
  have e1' : (grid0.coords t 1).val = (y 1).val / 512 := e1
  have hr : (grid0.coords t 0).val * 640 + (y 0).val % 640 < 8320 := by omega
  have hq : (grid0.coords t 1).val * 512 + (y 1).val % 512 < 5632 := by omega
  refine ⟨t, flushes t, ?_⟩
  have he := place_apply t ⟨(y 0).val % 640, by omega⟩ ⟨(y 1).val % 512, by omega⟩ hr hq
  have hy : y = ix2 ⟨(grid0.coords t 0).val * 640 + (y 0).val % 640, hr⟩ ⟨(grid0.coords t 1).val * 512 + (y 1).val % 512, hq⟩ :=
    ext2 (by show (y 0).val = (grid0.coords t 0).val * 640 + (y 0).val % 640; omega)
      (by show (y 1).val = (grid0.coords t 1).val * 512 + (y 1).val % 512; omega)
  rw [hy, ← he]
  exact View.emb_mem_set _ _

/-- The result at a row and a column, from the rows and the weight. -/
def entryAt (x : S8320x2048.Idx → EReal) (w : S1x2048x11264.Idx → EReal) (r : Fin 8320) (c : Fin 5632) : EReal :=
  gated (∑ k : Fin 2048, x (ix2 r k) * w (ix3 (0 : Fin 1) k ⟨c.val, by omega⟩))
    (∑ k : Fin 2048, x (ix2 r k) * w (ix3 (0 : Fin 1) k ⟨5632 + c.val, by omega⟩))

/-- The result array as one function of the rows and the weight. -/
def G (x : S8320x2048.Idx → EReal) (w : S1x2048x11264.Idx → EReal) : S8320x5632.Idx → EReal := fun y => entryAt x w (y 0) (y 1)

/-- The array after the write-backs. -/
theorem final (c : Dev nD) : (dats m 0 c).arrAt (3 : Fin 4) cfg0.N = G (V m c main_v0) (V m c main_v4) := by
  refine (dats m 0 c).arrAt_eq_of_emb (3 : Fin 4) _ (fun t _ y => ?_) cover
  obtain ⟨r, q, rfl⟩ : ∃ (r : Fin 640) (q : Fin 512), y = ix2 r q := ⟨y 0, y 1, eq_ix2 y⟩
  have h0 : (grid0.coords t 0).val < 13 := (grid0.coords t 0).isLt
  have h1 : (grid0.coords t 1).val < 11 := (grid0.coords t 1).isLt
  have hr : (grid0.coords t 0).val * 640 + r.val < 8320 := by have := r.isLt; omega
  have hq : (grid0.coords t 1).val * 512 + q.val < 5632 := by have := q.isLt; omega
  refine Eq.trans ?_ (congrArg (G _ _) (place_apply t r q hr hq)).symm
  refine (congrFun (after0_3 m c t) (ix2 r q)).trans ?_
  refine (leaves_apply _ _ _ r q).trans ?_
  show _ = gated _ _
  refine congrArg₂ gated (Finset.sum_congr rfl fun k _ => ?_) (Finset.sum_congr rfl fun k _ => ?_)
  · rw [rows_apply m c t r k hr, gate_apply m c t k q (by omega)]
  · rw [rows_apply m c t r k hr, value_apply m c t k q (by omega)]

end Cert.Proof.FfnIn

end
-- ==== Proof.FfnIn.Claims.lean ====
/- The claims about the dense layer's first product: the three frames, and the kernel's result equal to the reference's over
   the extended reals. -/
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.FfnIn.Value
public import Idealize.ShloMosaic.Adequacy
public import Idealize.ShloMosaic.Init

@[expose] public section

set_option maxRecDepth 16384

noncomputable section

namespace Cert.Proof.FfnIn

open Cert.Proof.Rows
open Idealize.ShloMosaic hiding ix1 ix2 ix3 ix4 eq_ix2
open Idealize.ShloMosaic.TcCoe Idealize.ShloMosaic.ValueIdx
open Idealize.SL Idealize.SL.Sem
open scoped BigOperators

section Kernel

open Cert.Kernel5Ideal Cert.Kernel5Ideal.Gen

variable (m : (ℓ : Loc nD τ sig) → Buf (Elt Ideal) ℓ)

/-- The rows the region reads. -/
theorem rows_of (c : Dev nD) : V m c main_v0 = m ((c : Thread nD τ).loc main_arg0) := by
  have e : V m c main_v0 = truncf (F := Ideal) .bf16 (m ((c : Thread nD τ).loc main_arg0)) bitsLt_bf16_f32 := by
    unfold V hostOps0; after_results
  rw [e]
  rfl

/-- The weight the region reads, at an index. -/
theorem weight_of (c : Dev nD) (k : Fin 2048) (q : Fin 11264) :
    V m c main_v4 (ix3 (0 : Fin 1) k q) = m ((c : Thread nD τ).loc main_arg1) (ix3 (0 : Fin 2) k q) := by
  have e : V m c main_v4 = truncf (F := Ideal) .bf16 (broadcastInDim S1x2048x11264 ![1, 2] bcast_S2048x11264_S1x2048x11264_1_2
      (shapeCast S2048x11264 (extractStridedSlice S1x2048x11264 ![0, 0, 0] (m ((c : Thread nD τ).loc main_arg1))
        slices_S2x2048x11264_S1x2048x11264_0_0_0) shapeCasts_S1x2048x11264_S2048x11264)) bitsLt_bf16_f32 := by
    unfold V hostOps0; after_results; rfl
  rw [e]
  refine Eq.trans ?_ (member (0 : Fin 2) (m ((c : Thread nD τ).loc main_arg1)) slices_S2x2048x11264_S1x2048x11264_0_0_0
    shapeCasts_S1x2048x11264_S2048x11264 k q)
  refine (show _ = broadcastInDim S1x2048x11264 ![1, 2] bcast_S2048x11264_S1x2048x11264_1_2
      (shapeCast S2048x11264 (extractStridedSlice S1x2048x11264 ![0, 0, 0] (m ((c : Thread nD τ).loc main_arg1))
        slices_S2x2048x11264_S1x2048x11264_0_0_0) shapeCasts_S1x2048x11264_S2048x11264) (ix3 (0 : Fin 1) k q) from rfl).trans ?_
  refine broadcastInDim_apply _ bcast_S2048x11264_S1x2048x11264_1_2 _ (ix3 (0 : Fin 1) k q) (ix2 k q) fun a => ?_
  match a with
  | ⟨0, _⟩ => rfl
  | ⟨1, _⟩ => rfl

end Kernel

/-- The host's gate, spelled by negation, exponential, sum and quotient, is the gate by the logistic function. -/
theorem gated_host (g u : EReal) :
    FloatOps.mulf (F := Ideal) (φ := .f32) (FloatOps.mulf (F := Ideal) (φ := .f32) g (FloatOps.hostDivf (F := Ideal) (φ := .f32)
      (FloatOps.ofBits (F := Ideal) .f32 0x3F800000#32) (FloatOps.addf (F := Ideal) (φ := .f32) (FloatOps.ofBits (F := Ideal) .f32 0x3F800000#32)
        (FloatOps.hostUnary (F := Ideal) (φ := .f32) .exp (FloatOps.hostNegf (F := Ideal) (φ := .f32) g))))) u = gated g u := by
  rw [show (FloatOps.ofBits (F := Ideal) .f32 0x3F800000#32) = (1 : EReal) from Ideal.ofBits_one_f32]
  rfl

section Reference

open Cert.Reference5Ideal Cert.Reference5Ideal.Read

/-- The reference's matrix product, at a row and a column. -/
theorem product (x : S8320x2048.Idx → EReal) (w : S2x2048x11264.Idx → EReal) (v : S1x2048x11264.Idx → EReal)
    (hv : ∀ k q, v (ix3 (0 : Fin 1) k q) = w (ix3 (0 : Fin 2) k q)) (i : S8320x11264.Idx) (r : Fin 8320) (q : Fin 11264)
    (h0 : (i 0).val = r.val) (h1 : (i 1).val = q.val) :
    val_main_v2 (F := Ideal) x w i = ∑ k : Fin 2048, x (ix2 r k) * v (ix3 (0 : Fin 1) k q) := by
  rw [val_main_v2_apply]
  refine Finset.sum_congr rfl fun k _ => ?_
  rw [val_main_v1_apply, val_main_v0_apply, hv]
  have hk := k.isLt
  have hq := q.isLt
  refine congrArg₂ (· * ·) (congrArg x (ext2 h0 rfl)) (congrArg w (ext3 rfl ?_ ?_))
  · show (k.val * 11264 + (i 1).val) / 11264 % 2048 = k.val; omega
  · show (k.val * 11264 + (i 1).val) % 11264 = q.val; omega

/-- The reference's result. -/
theorem reference (x : S8320x2048.Idx → EReal) (w : S2x2048x11264.Idx → EReal) (v : S1x2048x11264.Idx → EReal)
    (hv : ∀ k q, v (ix3 (0 : Fin 1) k q) = w (ix3 (0 : Fin 2) k q)) : val_main_v7 (F := Ideal) x w = G x v := by
  funext y
  obtain ⟨r, q, rfl⟩ : ∃ (r : Fin 8320) (q : Fin 5632), y = ix2 r q := ⟨y 0, y 1, eq_ix2 y⟩
  show _ = gated (∑ k : Fin 2048, x (ix2 r k) * v (ix3 (0 : Fin 1) k ⟨q.val, by omega⟩))
    (∑ k : Fin 2048, x (ix2 r k) * v (ix3 (0 : Fin 1) k ⟨5632 + q.val, by omega⟩))
  rw [val_main_v7_apply, val_main_v6_apply, val_main_v5_apply, val_main_call0_v5_apply, val_main_call0_v4_apply,
    val_main_call0_cst_0_apply, val_main_call0_v3_apply, val_main_call0_v2_apply, val_main_call0_cst_apply, val_main_call0_v1_apply,
    val_main_call0_v0_apply, val_main_v4_apply, val_main_v3_apply]
  rw [product x w v hv _ r ⟨q.val, by omega⟩ rfl rfl, product x w v hv _ r ⟨5632 + q.val, by omega⟩ rfl rfl]
  exact gated_host _ _

end Reference

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := fun m ρ m' ρ' _ hm => by
  refine ⟨fun c => Cert.Reference5Ideal.Read.val_main_v7 (F := Ideal)
    (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · refine (θ_run Cert.Kernel5Ideal.defs _ _).mono (fun _ h c => ⟨?_, (h c).2⟩) (Cert.Kernel5Ideal.Value.run_blocks (F := Ideal) m ρ)
    rw [(h c).1, final m c, rows_of m c]
    exact (reference _ _ _ (weight_of m c)).symm
  · refine (θ_run Cert.Reference5Ideal.defs _ _).mono (fun _ h c => ⟨?_, (h c).2⟩) (Cert.Reference5Ideal.Value.run (F := Ideal) m' ρ')
    rw [(h c).1, Cert.Reference5Ideal.Read.val_main_v7_eq, (hm c).1, (hm c).2]

end Cert.Proof.FfnIn

end
-- ==== Proof.FfnOut.Value.lean ====
/- The dense layer's second product over the extended reals: the result array is the matrix product. -/
module

public import proofs.«01_k».proof.Proof.Gen.Kernel6Ideal.Frame
public import proofs.«01_k».proof.Proof.Rows
public import Idealize.ShloMosaic.Lib.MatmulPlain
public import Idealize.ShloMosaic.PureOps.Ideal

@[expose] public section

set_option maxRecDepth 16384

noncomputable section

namespace Cert.Proof.FfnOut

open Cert.Kernel6Ideal Cert.Kernel6Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- The block product, at an index. -/
theorem product_apply (x : Vec Ideal S640x5632 .bf16) (w : Vec Ideal S5632x512 .bf16) (r : Fin 640) (q : Fin 512) :
    k0_pay1 (F := Ideal) x w (ix2 r q) = ∑ k : Fin 5632, x (ix2 r k) * w (ix2 k q) := by
  unfold k0_pay1
  refine (Ideal.matmul_plain_apply (φ₁ := .bf16) (φ₂ := .bf16) (M := 640) (K := 5632) (N := 512) none _ _ _ r q).trans ?_
  rw [show (constant (F := Ideal) S640x512 .f32 0x00000000#32) (ix2 r q) = (0 : EReal) from Ideal.ofBits_zero_f32, zero_add]
  exact Finset.sum_congr rfl fun k _ => congrArg₂ (· * ·)
    (rfl) (shapeCast_apply w _ (ix2 k q) (ix2 k q) rfl)

/-- What the body leaves, from the blocks it reads. -/
theorem leaves_apply (x : Vec Ideal S640x5632 .bf16) (w : Vec Ideal S5632x512 .bf16) (r : Fin 640) (q : Fin 512) :
    out0_2 (F := Ideal) x w (ix2 r q) = ∑ k : Fin 5632, x (ix2 r k) * w (ix2 k q) := by
  have z : (![0, 0] : Fin 2 → ℕ) = fun _ => 0 := by decide
  unfold out0_2
  rw [View.canon_unit_zero (Val := Elt Ideal) (S := S640x512) z, View.ld_unit_zero (Val := Elt Ideal) (S := S640x5632) z, View.ld_unit_zero (Val := Elt Ideal) (S := S5632x512) z]
  exact product_apply x w r q

variable (m : (ℓ : Loc nD τ sig) → Buf (Elt Ideal) ℓ)

theorem index0 : ∀ t : Fin grid0.N, cc0_transform_0 (grid0.coords t) = ![(grid0.coords t 0).val, 0] := by decide +kernel
theorem index1 : ∀ t : Fin grid0.N, cc0_transform_1 (grid0.coords t) = ![0, (grid0.coords t 1).val] := by decide +kernel
theorem index2 : ∀ t : Fin grid0.N, cc0_transform_2 (grid0.coords t) = ![(grid0.coords t 0).val, (grid0.coords t 1).val] := by decide +kernel

/-- A block of rows, at an index. -/
theorem rows_apply (c : Dev nD) (t : Fin cfg0.N) (r : Fin 640) (k : Fin 5632) (hr : (grid0.coords t 0).val * 640 + r.val < 8320) :
    iblk m c (0 : Fin 3) t (ix2 r k) = V m c main_arg0 (ix2 ⟨(grid0.coords t 0).val * 640 + r.val, hr⟩ k) := by
  refine congrArg (V m c main_arg0) ?_
  have e := index0 t
  refine ext2 ?_ ?_
  · exact (at_block 640 r.val (congrFun e 0) :)
  · exact (at_block_zero 5632 k.val (congrFun e 1) :)

/-- A block of columns of the weight, at an index. -/
theorem weight_apply (c : Dev nD) (t : Fin cfg0.N) (k : Fin 5632) (q : Fin 512) (hq : (grid0.coords t 1).val * 512 + q.val < 2048) :
    iblk m c (1 : Fin 3) t (ix2 k q) = V m c main_v2 (ix2 k ⟨(grid0.coords t 1).val * 512 + q.val, hq⟩) := by
  refine congrArg (V m c main_v2) ?_
  have e := index1 t
  refine ext2 ?_ ?_
  · exact (at_block_zero 5632 k.val (congrFun e 0) :)
  · exact (at_block 512 q.val (congrFun e 1) :)

/-- The place of a result block's index in the array. -/
theorem place_apply (t : Fin cfg0.N) (r : Fin 640) (q : Fin 512) (hr : (grid0.coords t 0).val * 640 + r.val < 8320)
    (hq : (grid0.coords t 1).val * 512 + q.val < 2048) : ((cfg0.win (2 : Fin 3)).blk t).view.emb (ix2 r q)
      = ix2 ⟨(grid0.coords t 0).val * 640 + r.val, hr⟩ ⟨(grid0.coords t 1).val * 512 + q.val, hq⟩ := by
  have e := index2 t
  refine ext2 ?_ ?_
  · exact (at_block 640 r.val (congrFun e 0) :)
  · exact (at_block 512 q.val (congrFun e 1) :)

/-- Every point writes its block back: the next point's block is another. -/
theorem flushes : ∀ t : Fin grid0.N, Pipeline.Window.flushOf grid0 true cc0_transform_2 t = true := by decide +kernel

/-- Every pair of a row tile and a column block is a point's. -/
theorem onto : ∀ (i : Fin 13) (j : Fin 4), ∃ t : Fin grid0.N, (grid0.coords t 0).val = i.val ∧ (grid0.coords t 1).val = j.val := by
  decide +kernel

/-- The result's blocks cover it. -/
theorem cover (y : S8320x2048.Idx) : ∃ t : Fin cfg0.N, (cfg0.win (2 : Fin 3)).flush t = true ∧ y ∈ ((cfg0.win (2 : Fin 3)).blk t).view.set := by
  have h0 : (y 0).val < 8320 := (y 0).isLt
  have h1 : (y 1).val < 2048 := (y 1).isLt
  obtain ⟨t, e0, e1⟩ := onto ⟨(y 0).val / 640, by omega⟩ ⟨(y 1).val / 512, by omega⟩
  have e0' : (grid0.coords t 0).val = (y 0).val / 640 := e0
  have e1' : (grid0.coords t 1).val = (y 1).val / 512 := e1
  have hr : (grid0.coords t 0).val * 640 + (y 0).val % 640 < 8320 := by omega
  have hq : (grid0.coords t 1).val * 512 + (y 1).val % 512 < 2048 := by omega
  refine ⟨t, flushes t, ?_⟩
  have he := place_apply t ⟨(y 0).val % 640, by omega⟩ ⟨(y 1).val % 512, by omega⟩ hr hq
  have hy : y = ix2 ⟨(grid0.coords t 0).val * 640 + (y 0).val % 640, hr⟩ ⟨(grid0.coords t 1).val * 512 + (y 1).val % 512, hq⟩ :=
    ext2 (by show (y 0).val = (grid0.coords t 0).val * 640 + (y 0).val % 640; omega)
      (by show (y 1).val = (grid0.coords t 1).val * 512 + (y 1).val % 512; omega)
  rw [hy, ← he]
  exact View.emb_mem_set _ _

/-- The array after the write-backs: the matrix product. -/
theorem final (c : Dev nD) : (dats m 0 c).arrAt (2 : Fin 3) cfg0.N = prod (V m c main_arg0) (V m c main_v2) := by
  refine (dats m 0 c).arrAt_eq_of_emb (2 : Fin 3) _ (fun t _ y => ?_) cover
  obtain ⟨r, q, rfl⟩ : ∃ (r : Fin 640) (q : Fin 512), y = ix2 r q := ⟨y 0, y 1, eq_ix2 y⟩
  have h0 : (grid0.coords t 0).val < 13 := (grid0.coords t 0).isLt
  have h1 : (grid0.coords t 1).val < 4 := (grid0.coords t 1).isLt
  have hr : (grid0.coords t 0).val * 640 + r.val < 8320 := by have := r.isLt; omega
  have hq : (grid0.coords t 1).val * 512 + q.val < 2048 := by have := q.isLt; omega
  refine Eq.trans ?_ (congrArg (prod _ _) (place_apply t r q hr hq)).symm
  refine (congrFun (after0_2 m c t) (ix2 r q)).trans ?_
  refine (leaves_apply _ _ r q).trans ?_
  show _ = mul _ _ _ _
  unfold mul
  refine Finset.sum_congr rfl fun k _ => ?_
  rw [rows_apply m c t r k hr, weight_apply m c t k q hq]

end Cert.Proof.FfnOut

end
-- ==== Proof.FfnOut.Claims.lean ====
/- The claims about the dense layer's second product: the three frames, and the kernel's result equal to the reference's over
   the extended reals. -/
module

public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.FfnOut.Value
public import Idealize.ShloMosaic.Adequacy
public import Idealize.ShloMosaic.Init

@[expose] public section

set_option maxRecDepth 16384

noncomputable section

namespace Cert.Proof.FfnOut

open Cert.Proof.Rows
open Idealize.ShloMosaic hiding ix1 ix2 ix3 ix4 eq_ix2
open Idealize.ShloMosaic.TcCoe Idealize.ShloMosaic.ValueIdx
open Idealize.SL Idealize.SL.Sem
open scoped BigOperators

section Kernel

open Cert.Kernel6Ideal Cert.Kernel6Ideal.Gen

variable (m : (ℓ : Loc nD τ sig) → Buf (Elt Ideal) ℓ)

/-- The weight the region reads, at an index. -/
theorem weight_of (c : Dev nD) (k : Fin 5632) (q : Fin 2048) :
    V m c main_v2 (ix2 k q) = m ((c : Thread nD τ).loc main_arg1) (ix3 (0 : Fin 2) k q) := by
  have e : V m c main_v2 = truncf (F := Ideal) .bf16 (shapeCast _ (extractStridedSlice S1x5632x2048 ![0, 0, 0] (m ((c : Thread nD τ).loc main_arg1))
      slices_S2x5632x2048_S1x5632x2048_0_0_0) shapeCasts_S1x5632x2048_S5632x2048) bitsLt_bf16_f32 := by
    unfold V hostOps0; after_results; rfl
  rw [e]
  refine Eq.trans ?_ (member (0 : Fin 2) (m ((c : Thread nD τ).loc main_arg1)) slices_S2x5632x2048_S1x5632x2048_0_0_0 shapeCasts_S1x5632x2048_S5632x2048 k q)
  rfl

end Kernel

/-- The reference's result is the matrix product. -/
theorem reference (x : Cert.Reference6Ideal.S8320x5632.Idx → EReal) (w : Cert.Reference6Ideal.S2x5632x2048.Idx → EReal)
    (v : (⟨2, ![5632, 2048]⟩ : Shape).Idx → EReal) (hv : ∀ k q, v (ix2 k q) = w (ix3 (0 : Fin 2) k q)) :
    Cert.Reference6Ideal.Read.val_main_v3 (F := Ideal) x w = prod x v := by
  funext y
  obtain ⟨r, q, rfl⟩ : ∃ (r : Fin 8320) (q : Fin 2048), y = ix2 r q := ⟨y 0, y 1, eq_ix2 y⟩
  show _ = ∑ k : Fin 5632, x (ix2 r k) * v (ix2 k q)
  rw [Cert.Reference6Ideal.Read.val_main_v3_apply]
  refine Finset.sum_congr rfl fun k _ => ?_
  rw [Cert.Reference6Ideal.Read.val_main_v0_apply, Cert.Reference6Ideal.Read.val_main_v2_apply, Cert.Reference6Ideal.Read.val_main_v1_apply, hv]
  have hk := k.isLt
  have hq := q.isLt
  refine congrArg₂ (· * ·) (congrArg x (ext2 rfl rfl)) (congrArg w (ext3 rfl ?_ ?_))
  · show (k.val * 2048 + q.val) / 2048 % 5632 = k.val; omega
  · show (k.val * 2048 + q.val) % 2048 = q.val; omega

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := fun m ρ m' ρ' _ hm => by
  refine ⟨fun c => Cert.Reference6Ideal.Read.val_main_v3 (F := Ideal)
    (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · refine (θ_run Cert.Kernel6Ideal.defs _ _).mono (fun _ h c => ⟨?_, (h c).2⟩) (Cert.Kernel6Ideal.Value.run_blocks (F := Ideal) m ρ)
    rw [(h c).1, final m c, Cert.Kernel6Ideal.Gen.V_main_arg0 m c]
    exact (reference _ _ _ (weight_of m c)).symm
  · refine (θ_run Cert.Reference6Ideal.defs _ _).mono (fun _ h c => ⟨?_, (h c).2⟩) (Cert.Reference6Ideal.Value.run (F := Ideal) m' ρ')
    rw [(h c).1, Cert.Reference6Ideal.Read.val_main_v3_eq, (hm c).1, (hm c).2]

end Cert.Proof.FfnOut

end
-- ==== Proof.Odd.Run.lean ====
/- The run of the odd layers' input projection and the call after it: both regions and the host operations around them, to
   the contents of every buffer at the end. -/
module

public import proofs.«01_k».proof.Proof.Gen.Kernel7Ideal.Frame

@[expose] public section

set_option maxRecDepth 16384

noncomputable section

namespace Cert.Proof.Odd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each core's buffers at what the host operations and the two regions leave in turn. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W9 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz c b hb => h c _ (mem_uc b hb))

end Cert.Proof.Odd

end
-- ==== Proof.Odd.Value.lean ====
/- The odd layers' input projection over the extended reals: the result array is the matrix product. -/
module

public import proofs.«01_k».proof.Proof.Gen.Kernel7Ideal.Frame
public import proofs.«01_k».proof.Proof.Rows
public import Idealize.ShloMosaic.Lib.MatmulPlain
public import Idealize.ShloMosaic.PureOps.Ideal

@[expose] public section

set_option maxRecDepth 16384

noncomputable section

namespace Cert.Proof.Odd

open Cert.Kernel7Ideal Cert.Kernel7Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- The block product, at an index. -/
theorem product_apply (x : Vec Ideal S640x2048 .bf16) (w : Vec Ideal S2048x512 .bf16) (r : Fin 640) (q : Fin 512) :
    k0_pay1 (F := Ideal) x w (ix2 r q) = ∑ k : Fin 2048, x (ix2 r k) * w (ix2 k q) := by
  unfold k0_pay1
  refine (Ideal.matmul_plain_apply (φ₁ := .bf16) (φ₂ := .bf16) (M := 640) (K := 2048) (N := 512) none _ _ _ r q).trans ?_
  rw [show (constant (F := Ideal) S640x512 .f32 0x00000000#32) (ix2 r q) = (0 : EReal) from Ideal.ofBits_zero_f32, zero_add]
  exact Finset.sum_congr rfl fun k _ => congrArg₂ (· * ·)
    (shapeCast_apply x _ (ix2 r k) (ix2 r k) rfl) (shapeCast_apply w _ (ix2 k q) (ix2 k q) rfl)

/-- What the body leaves, from the blocks it reads. -/
theorem leaves_apply (x : Vec Ideal S640x2048 .bf16) (w : Vec Ideal S2048x512 .bf16) (r : Fin 640) (q : Fin 512) :
    out0_2 (F := Ideal) x w (ix2 r q) = ∑ k : Fin 2048, x (ix2 r k) * w (ix2 k q) := by
  have z : (![0, 0] : Fin 2 → ℕ) = fun _ => 0 := by decide
  unfold out0_2
  rw [View.canon_unit_zero (Val := Elt Ideal) (S := S640x512) z, View.ld_unit_zero (Val := Elt Ideal) (S := S640x2048) z, View.ld_unit_zero (Val := Elt Ideal) (S := S2048x512) z]
  exact product_apply x w r q

variable (V : (c : Dev nD) → (b : Ref sig .tc) → Buf (Elt Ideal) ((c : Thread nD τ).loc b))

theorem index0 : ∀ t : Fin grid0.N, cc0_transform_0 (grid0.coords t) = ![(grid0.coords t 0).val, 0] := by decide +kernel
theorem index1 : ∀ t : Fin grid0.N, cc0_transform_1 (grid0.coords t) = ![0, (grid0.coords t 1).val] := by decide +kernel
theorem index2 : ∀ t : Fin grid0.N, cc0_transform_2 (grid0.coords t) = ![(grid0.coords t 0).val, (grid0.coords t 1).val] := by decide +kernel

/-- A block of rows, at an index. -/
theorem rows_apply (c : Dev nD) (t : Fin cfg0.N) (r : Fin 640) (k : Fin 2048) (hr : (grid0.coords t 0).val * 640 + r.val < 8320) :
    iblk0 V c (0 : Fin 3) t (ix2 r k) = V c main_v28 (ix2 ⟨(grid0.coords t 0).val * 640 + r.val, hr⟩ k) := by
  refine congrArg (V c main_v28) ?_
  have e := index0 t
  refine ext2 ?_ ?_
  · exact (at_block 640 r.val (congrFun e 0) :)
  · exact (at_block_zero 2048 k.val (congrFun e 1) :)

/-- A block of columns of the weight, at an index. -/
theorem weight_apply (c : Dev nD) (t : Fin cfg0.N) (k : Fin 2048) (q : Fin 512) (hq : (grid0.coords t 1).val * 512 + q.val < 2048) :
    iblk0 V c (1 : Fin 3) t (ix2 k q) = V c main_v41 (ix2 k ⟨(grid0.coords t 1).val * 512 + q.val, hq⟩) := by
  refine congrArg (V c main_v41) ?_
  have e := index1 t
  refine ext2 ?_ ?_
  · exact (at_block_zero 2048 k.val (congrFun e 0) :)
  · exact (at_block 512 q.val (congrFun e 1) :)

/-- The place of a result block's index in the array. -/
theorem place_apply (t : Fin cfg0.N) (r : Fin 640) (q : Fin 512) (hr : (grid0.coords t 0).val * 640 + r.val < 8320)
    (hq : (grid0.coords t 1).val * 512 + q.val < 2048) : ((cfg0.win (2 : Fin 3)).blk t).view.emb (ix2 r q)
      = ix2 ⟨(grid0.coords t 0).val * 640 + r.val, hr⟩ ⟨(grid0.coords t 1).val * 512 + q.val, hq⟩ := by
  have e := index2 t
  refine ext2 ?_ ?_
  · exact (at_block 640 r.val (congrFun e 0) :)
  · exact (at_block 512 q.val (congrFun e 1) :)

/-- Every point writes its block back: the next point's block is another. -/
theorem flushes : ∀ t : Fin grid0.N, Pipeline.Window.flushOf grid0 true cc0_transform_2 t = true := by decide +kernel

/-- Every pair of a row tile and a column block is a point's. -/
theorem onto : ∀ (i : Fin 13) (j : Fin 4), ∃ t : Fin grid0.N, (grid0.coords t 0).val = i.val ∧ (grid0.coords t 1).val = j.val := by
  decide +kernel

/-- The result's blocks cover it. -/
theorem cover (y : S8320x2048.Idx) : ∃ t : Fin cfg0.N, (cfg0.win (2 : Fin 3)).flush t = true ∧ y ∈ ((cfg0.win (2 : Fin 3)).blk t).view.set := by
  have h0 : (y 0).val < 8320 := (y 0).isLt
  have h1 : (y 1).val < 2048 := (y 1).isLt
  obtain ⟨t, e0, e1⟩ := onto ⟨(y 0).val / 640, by omega⟩ ⟨(y 1).val / 512, by omega⟩
  have e0' : (grid0.coords t 0).val = (y 0).val / 640 := e0
  have e1' : (grid0.coords t 1).val = (y 1).val / 512 := e1
  have hr : (grid0.coords t 0).val * 640 + (y 0).val % 640 < 8320 := by omega
  have hq : (grid0.coords t 1).val * 512 + (y 1).val % 512 < 2048 := by omega
  refine ⟨t, flushes t, ?_⟩
  have he := place_apply t ⟨(y 0).val % 640, by omega⟩ ⟨(y 1).val % 512, by omega⟩ hr hq
  have hy : y = ix2 ⟨(grid0.coords t 0).val * 640 + (y 0).val % 640, hr⟩ ⟨(grid0.coords t 1).val * 512 + (y 1).val % 512, hq⟩ :=
    ext2 (by show (y 0).val = (grid0.coords t 0).val * 640 + (y 0).val % 640; omega)
      (by show (y 1).val = (grid0.coords t 1).val * 512 + (y 1).val % 512; omega)
  rw [hy, ← he]
  exact View.emb_mem_set _ _

/-- The array after the write-backs: the matrix product. -/
theorem final (c : Dev nD) : (dat0 V c).arrAt (2 : Fin 3) cfg0.N = prod (V c main_v28) (V c main_v41) := by
  refine (dat0 V c).arrAt_eq_of_emb (2 : Fin 3) _ (fun t _ y => ?_) cover
  obtain ⟨r, q, rfl⟩ : ∃ (r : Fin 640) (q : Fin 512), y = ix2 r q := ⟨y 0, y 1, eq_ix2 y⟩
  have h0 : (grid0.coords t 0).val < 13 := (grid0.coords t 0).isLt
  have h1 : (grid0.coords t 1).val < 4 := (grid0.coords t 1).isLt
  have hr : (grid0.coords t 0).val * 640 + r.val < 8320 := by have := r.isLt; omega
  have hq : (grid0.coords t 1).val * 512 + q.val < 2048 := by have := q.isLt; omega
  refine Eq.trans ?_ (congrArg (prod _ _) (place_apply t r q hr hq)).symm
  refine (congrFun (after0_2 V c t) (ix2 r q)).trans ?_
  refine (leaves_apply _ _ r q).trans ?_
  show _ = mul _ _ _ _
  unfold mul
  refine Finset.sum_congr rfl fun k _ => ?_
  rw [rows_apply V c t r k hr, weight_apply V c t k q hq]

end Cert.Proof.Odd

end
-- ==== Proof.Odd.Host.lean ====
/- The host operations before the odd layers' input projection: the rows and the weight it reads, and the gains the next call
   reads, from the arguments. -/
module

public import proofs.«01_k».proof.Proof.Odd.Value
public import Idealize.ShloMosaic.Lib.KernelVsHost

@[expose] public section

set_option maxRecDepth 16384

noncomputable section

namespace Cert.Proof.Odd

open Cert.Kernel7Ideal Cert.Kernel7Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

/-- The rows the region reads: the prompts' and the samples', stacked. -/
theorem rows_eq (c : Dev nD) : V5 m ρ c main_v28 = truncf (F := Ideal) .bf16 (concatenate S8320x2048 0
      [⟨S8192x2048, shapeCast S8192x2048 (m ((c : Thread nD τ).loc main_arg0)) shapeCasts_S4x2048x2048_S8192x2048⟩,
        ⟨S128x2048, shapeCast S128x2048 (m ((c : Thread nD τ).loc main_arg1)) shapeCasts_S128x1x2048_S128x2048⟩]
      concatenates_S8192x2048_S128x2048_S8320x2048_d0) bitsLt_bf16_f32 := by
  refine (W5_of m ρ c main_v28 (by decide)).trans <| (W4_of m ρ c main_v28 (by decide)).trans <|
    (W3_of m ρ c main_v28 (by decide)).trans <| (W2_of m ρ c main_v28 (by decide)).trans ?_
  show StableHlo.after hostOps0 (W0 m ρ c) (Proc.devRef .tc main_v28) = _
  unfold hostOps0
  after_results; rfl

theorem stacked_prompt (c : Dev nD) (b : Fin 4) (l k : Fin 2048) :
    V5 m ρ c main_v28 (ix2 (promptRow b l) k) = m ((c : Thread nD τ).loc main_arg0) (ix3 b l k) := by
  rw [rows_eq]
  exact stack_prompt (d := 2048) (m ((c : Thread nD τ).loc main_arg0)) (m ((c : Thread nD τ).loc main_arg1))
    shapeCasts_S4x2048x2048_S8192x2048 shapeCasts_S128x1x2048_S128x2048 concatenates_S8192x2048_S128x2048_S8320x2048_d0 b l k

theorem stacked_sample (c : Dev nD) (s : Fin 128) (k : Fin 2048) :
    V5 m ρ c main_v28 (ix2 (sampleRow s) k) = m ((c : Thread nD τ).loc main_arg1) (ix3 s (0 : Fin 1) k) := by
  rw [rows_eq]
  exact stack_sample (d := 2048) (m ((c : Thread nD τ).loc main_arg0)) (m ((c : Thread nD τ).loc main_arg1))
    shapeCasts_S4x2048x2048_S8192x2048 shapeCasts_S128x1x2048_S128x2048 concatenates_S8192x2048_S128x2048_S8320x2048_d0 s k

/-- The weight of the first odd layer. -/
def first (c : Dev nD) : S2048x1472.Idx → EReal :=
  shapeCast S2048x1472 (extractStridedSlice S1x2048x1472 ![0, 0, 0] (m ((c : Thread nD τ).loc main_arg2))
    slices_S2x2048x1472_S1x2048x1472_0_0_0) shapeCasts_S1x2048x1472_S2048x1472

theorem first_apply (c : Dev nD) (k : Fin 2048) (q : Fin 1472) :
    first m c (ix2 k q) = m ((c : Thread nD τ).loc main_arg2) (ix3 (0 : Fin 2) k q) :=
  member (0 : Fin 2) (m ((c : Thread nD τ).loc main_arg2)) slices_S2x2048x1472_S1x2048x1472_0_0_0
    shapeCasts_S1x2048x1472_S2048x1472 k q

theorem first_eq (c : Dev nD) : W1 m ρ c (Proc.devRef .tc main_v30) = first m c := by
  show StableHlo.after hostOps0 (W0 m ρ c) (Proc.devRef .tc main_v30) = _
  unfold hostOps0
  after_results; rfl

theorem first_kept2 (c : Dev nD) : W2 m ρ c (Proc.devRef .tc main_v30) = first m c :=
  (W2_of m ρ c main_v30 (by decide)).trans (first_eq m ρ c)

theorem first_kept4 (c : Dev nD) : W4 m ρ c (Proc.devRef .tc main_v30) = first m c :=
  (W4_of m ρ c main_v30 (by decide)).trans <| (W3_of m ρ c main_v30 (by decide)).trans (first_kept2 m ρ c)

/-- The keys' turned columns, before they are padded. -/
theorem turned_eq (c : Dev nD) : W3 m ρ c (Proc.devRef .tc main_v35)
    = extractStridedSlice S2048x64 ![0, 1408] (first m c) slices_S2048x1472_S2048x64_0_1408 := by
  rw [← first_kept2 m ρ c]
  show StableHlo.after hostOps0_2 (W2 m ρ c) (Proc.devRef .tc main_v35) = _
  unfold hostOps0_2
  after_results

/-- The keys' turned columns, padded to a tile's width. -/
theorem padded_eq (c : Dev nD) : W4 m ρ c (Proc.devRef .tc main_v36)
    = pad S2048x128 ![0, 0] ![0, 64] ![0, 0] (W3 m ρ c (Proc.devRef .tc main_v35) : S2048x64.Idx → EReal)
        (sitofp (F := Ideal) .f32 (W3 m ρ c (Proc.devRef .tc main_c_3) : S_.Idx → BitVec 32)) pads_S2048x64_S2048x128_000_0640 h_S_ := by
  show StableHlo.after hostOps0_3 (W3 m ρ c) (Proc.devRef .tc main_v36) = _
  unfold hostOps0_3
  after_results; rfl

theorem padded_apply (c : Dev nD) (k : Fin 2048) (q : Fin 64) : W4 m ρ c (Proc.devRef .tc main_v36) (ix2 k (⟨q.val, by omega⟩ : Fin 128))
    = first m c (ix2 k ⟨1408 + q.val, by omega⟩) := by
  rw [padded_eq]
  refine (pad_apply_of_inside (s := S2048x64) (t := S2048x128) ![0, 0] ![0, 64] ![0, 0] _ _ pads_S2048x64_S2048x128_000_0640 h_S_
    (ix2 k (⟨q.val, by omega⟩ : Fin 128)) (ix2 k q) fun a => ?_).trans ?_
  · match a with
    | ⟨0, _⟩ => show k.val = 0 + k.val * (0 + 1); omega
    | ⟨1, _⟩ => show q.val = 0 + q.val * (0 + 1); omega
  · rw [turned_eq]
    exact columns 1408 _ slices_S2048x1472_S2048x64_0_1408 k q (by omega)

/-- The weight the region reads, from its five pieces. -/
theorem weight_eq (c : Dev nD) : V5 m ρ c main_v41 = truncf (F := Ideal) .bf16 (concatenate S2048x2048 1
      [⟨S2048x1024, W4 m ρ c (Proc.devRef .tc main_v34)⟩,
        ⟨S2048x512, extractStridedSlice S2048x512 ![0, 640] (first m c) slices_S2048x1472_S2048x512_0_640⟩,
        ⟨S2048x256, extractStridedSlice S2048x256 ![0, 1152] (first m c) slices_S2048x1472_S2048x256_0_1152⟩,
        ⟨S2048x128, extractStridedSlice S2048x128 ![0, 512] (first m c) slices_S2048x1472_S2048x128_0_512⟩,
        ⟨S2048x128, W4 m ρ c (Proc.devRef .tc main_v36)⟩]
      concatenates_S2048x1024_S2048x512_S2048x256_S2048x128_S2048x128_S2048x2048_d1) bitsLt_bf16_f32 := by
  rw [← first_kept4 m ρ c]
  show StableHlo.after hostOps0_4 (W4 m ρ c) (Proc.devRef .tc main_v41) = _
  unfold hostOps0_4
  after_results; rfl

/-- Five pieces of columns side by side, at a column of the second to the fifth. -/
theorem pieces {a : S2048x1024.Idx → EReal} {b : S2048x512.Idx → EReal} {d : S2048x256.Idx → EReal} {e f : S2048x128.Idx → EReal} (k : Fin 2048) :
    let g := truncf (F := Ideal) (φ := .f32) .bf16 (concatenate S2048x2048 1 [⟨S2048x1024, a⟩, ⟨S2048x512, b⟩, ⟨S2048x256, d⟩, ⟨S2048x128, e⟩, ⟨S2048x128, f⟩]
      concatenates_S2048x1024_S2048x512_S2048x256_S2048x128_S2048x128_S2048x2048_d1) bitsLt_bf16_f32
    (∀ q : Fin 512, g (ix2 k ⟨1024 + q.val, by omega⟩) = b (ix2 k q)) ∧ (∀ q : Fin 256, g (ix2 k ⟨1536 + q.val, by omega⟩) = d (ix2 k q))
      ∧ (∀ q : Fin 128, g (ix2 k ⟨1792 + q.val, by omega⟩) = e (ix2 k q)) ∧ (∀ q : Fin 128, g (ix2 k ⟨1920 + q.val, by omega⟩) = f (ix2 k q)) := by
  refine ⟨fun q => ?_, fun q => ?_, fun q => ?_, fun q => ?_⟩
  · refine concatenate_apply_piece (t := S2048x2048) (1 : Fin 2) [⟨S2048x1024, a⟩, ⟨S2048x512, b⟩, ⟨S2048x256, d⟩, ⟨S2048x128, e⟩, ⟨S2048x128, f⟩]
      concatenates_S2048x1024_S2048x512_S2048x256_S2048x128_S2048x128_S2048x2048_d1 (ix2 k ⟨1024 + q.val, by omega⟩) 1 (show 1 < 5 by decide)
      S2048x512 b rfl rfl 1024 rfl (ix2 k q) (fun z hz => ?_) rfl
    match z with
    | ⟨0, _⟩ => rfl
    | ⟨1, _⟩ => exact absurd rfl hz
  · refine concatenate_apply_piece (t := S2048x2048) (1 : Fin 2) [⟨S2048x1024, a⟩, ⟨S2048x512, b⟩, ⟨S2048x256, d⟩, ⟨S2048x128, e⟩, ⟨S2048x128, f⟩]
      concatenates_S2048x1024_S2048x512_S2048x256_S2048x128_S2048x128_S2048x2048_d1 (ix2 k ⟨1536 + q.val, by omega⟩) 2 (show 2 < 5 by decide)
      S2048x256 d rfl rfl 1536 rfl (ix2 k q) (fun z hz => ?_) rfl
    match z with
    | ⟨0, _⟩ => rfl
    | ⟨1, _⟩ => exact absurd rfl hz
  · refine concatenate_apply_piece (t := S2048x2048) (1 : Fin 2) [⟨S2048x1024, a⟩, ⟨S2048x512, b⟩, ⟨S2048x256, d⟩, ⟨S2048x128, e⟩, ⟨S2048x128, f⟩]
      concatenates_S2048x1024_S2048x512_S2048x256_S2048x128_S2048x128_S2048x2048_d1 (ix2 k ⟨1792 + q.val, by omega⟩) 3 (show 3 < 5 by decide)
      S2048x128 e rfl rfl 1792 rfl (ix2 k q) (fun z hz => ?_) rfl
    match z with
    | ⟨0, _⟩ => rfl
    | ⟨1, _⟩ => exact absurd rfl hz
  · refine concatenate_apply_piece (t := S2048x2048) (1 : Fin 2) [⟨S2048x1024, a⟩, ⟨S2048x512, b⟩, ⟨S2048x256, d⟩, ⟨S2048x128, e⟩, ⟨S2048x128, f⟩]
      concatenates_S2048x1024_S2048x512_S2048x256_S2048x128_S2048x128_S2048x2048_d1 (ix2 k ⟨1920 + q.val, by omega⟩) 4 (show 4 < 5 by decide)
      S2048x128 f rfl rfl 1920 rfl (ix2 k q) (fun z hz => ?_) rfl
    match z with
    | ⟨0, _⟩ => rfl
    | ⟨1, _⟩ => exact absurd rfl hz

/-- The queries' columns of the weight. -/
theorem weight_queries (c : Dev nD) (k : Fin 2048) (q : Fin 512) : V5 m ρ c main_v41 (ix2 k ⟨1024 + q.val, by omega⟩)
    = m ((c : Thread nD τ).loc main_arg2) (ix3 (0 : Fin 2) k ⟨640 + q.val, by omega⟩) := by
  rw [weight_eq]
  refine ((pieces k).1 q).trans ?_
  exact (columns 640 _ slices_S2048x1472_S2048x512_0_640 k q (by omega)).trans (first_apply m c k _)

/-- The columns of the keys' and values' latent row. -/
theorem weight_latent (c : Dev nD) (k : Fin 2048) (q : Fin 256) : V5 m ρ c main_v41 (ix2 k ⟨1536 + q.val, by omega⟩)
    = m ((c : Thread nD τ).loc main_arg2) (ix3 (0 : Fin 2) k ⟨1152 + q.val, by omega⟩) := by
  rw [weight_eq]
  refine ((pieces k).2.1 q).trans ?_
  exact (columns 1152 _ slices_S2048x1472_S2048x256_0_1152 k q (by omega)).trans (first_apply m c k _)

/-- The columns of the block attention's keys and values. -/
theorem weight_of (c : Dev nD) (k : Fin 2048) (q : Fin 128) : V5 m ρ c main_v41 (ix2 k ⟨1792 + q.val, by omega⟩)
    = m ((c : Thread nD τ).loc main_arg2) (ix3 (0 : Fin 2) k ⟨512 + q.val, by omega⟩) := by
  rw [weight_eq]
  refine ((pieces k).2.2.1 q).trans ?_
  exact (columns 512 _ slices_S2048x1472_S2048x128_0_512 k q (by omega)).trans (first_apply m c k _)

/-- The columns of the key that is turned. -/
theorem weight_turned (c : Dev nD) (k : Fin 2048) (q : Fin 64) : V5 m ρ c main_v41 (ix2 k ⟨1920 + q.val, by omega⟩)
    = m ((c : Thread nD τ).loc main_arg2) (ix3 (0 : Fin 2) k ⟨1408 + q.val, by omega⟩) := by
  rw [weight_eq]
  refine ((pieces k).2.2.2 (⟨q.val, by omega⟩ : Fin 128)).trans ?_
  exact (padded_apply m ρ c k q).trans (first_apply m c k _)

/-- The projection after its region, and as the next call reads it. -/
theorem projected (c : Dev nD) : W6 m ρ c (Proc.devRef .tc main_v42) = prod (V5 m ρ c main_v28) (V5 m ρ c main_v41) :=
  (W6_arr m ρ c (2 : Fin 3)).trans (final (V5 m ρ) c)

theorem projected_kept (c : Dev nD) : V7 m ρ c main_v42 = prod (V5 m ρ c main_v28) (V5 m ρ c main_v41) :=
  (W7_of m ρ c main_v42 (by decide)).trans (projected m ρ c)

/-- The queries' gains. -/
theorem gain_queries (c : Dev nD) (q : Fin 512) :
    V7 m ρ c main_v47 (ix2 (0 : Fin 1) q) = m ((c : Thread nD τ).loc main_arg3) (ix2 (0 : Fin 2) q) := by
  have e : V7 m ρ c main_v47 = shapeCast S1x512 (shapeCast S512 (extractStridedSlice S1x512 ![0, 0]
      (W6 m ρ c (Proc.devRef .tc main_arg3) : S2x512.Idx → EReal) slices_S2x512_S1x512_0_0) shapeCasts_S1x512_S512) shapeCasts_S512_S1x512 := by
    show StableHlo.after hostOps1 (W6 m ρ c) (Proc.devRef .tc main_v47) = _
    unfold hostOps1
    after_results; rfl
  rw [e, W6_args m ρ c main_arg3 (by decide)]
  refine (shapeCast_apply _ shapeCasts_S512_S1x512 (ix2 (0 : Fin 1) q) (ix1 q) ?_).trans ?_
  · rw [Shape.rowMajor_val_two, Shape.rowMajor_val_one]
    show q.val = 0 * 512 + q.val
    omega
  refine (shapeCast_apply _ shapeCasts_S1x512_S512 (ix1 q) (ix2 (0 : Fin 1) q) ?_).trans ?_
  · rw [Shape.rowMajor_val_two, Shape.rowMajor_val_one]
    show 0 * 512 + q.val = q.val
    omega
  refine extractStridedSlice_apply _ _ slices_S2x512_S1x512_0_0 _ (ix2 (0 : Fin 2) q) fun a => ?_
  match a with
  | ⟨0, _⟩ => rfl
  | ⟨1, _⟩ => exact (Nat.zero_add _).symm

/-- The latent rows' gains. -/
theorem gain_latent (c : Dev nD) (q : Fin 256) :
    V7 m ρ c main_v48 (ix2 (0 : Fin 1) q) = m ((c : Thread nD τ).loc main_arg4) (ix2 (0 : Fin 2) q) := by
  have e : V7 m ρ c main_v48 = shapeCast S1x256 (shapeCast S256 (extractStridedSlice S1x256 ![0, 0]
      (W6 m ρ c (Proc.devRef .tc main_arg4) : S2x256.Idx → EReal) slices_S2x256_S1x256_0_0) shapeCasts_S1x256_S256) shapeCasts_S256_S1x256 := by
    show StableHlo.after hostOps1 (W6 m ρ c) (Proc.devRef .tc main_v48) = _
    unfold hostOps1
    after_results; rfl
  rw [e, W6_args m ρ c main_arg4 (by decide)]
  refine (shapeCast_apply _ shapeCasts_S256_S1x256 (ix2 (0 : Fin 1) q) (ix1 q) ?_).trans ?_
  · rw [Shape.rowMajor_val_two, Shape.rowMajor_val_one]
    show q.val = 0 * 256 + q.val
    omega
  refine (shapeCast_apply _ shapeCasts_S1x256_S256 (ix1 q) (ix2 (0 : Fin 1) q) ?_).trans ?_
  · rw [Shape.rowMajor_val_two, Shape.rowMajor_val_one]
    show 0 * 256 + q.val = q.val
    omega
  refine extractStridedSlice_apply _ _ slices_S2x256_S1x256_0_0 _ (ix2 (0 : Fin 2) q) fun a => ?_
  match a with
  | ⟨0, _⟩ => rfl
  | ⟨1, _⟩ => exact (Nat.zero_add _).symm

end Cert.Proof.Odd

end
-- ==== Proof.Odd.Formula.lean ====
/- The formulas of the latent attention's rows over the extended reals: a row's root-mean-square norm, and a key turned by the
   angles of its position. -/
module

public import proofs.«01_k».proof.Proof.Rows
public import Idealize.ShloMosaic.PureOps.Ideal

@[expose] public section

noncomputable section

namespace Cert.Proof.Odd

open Idealize.ShloMosaic hiding ix1 ix2 ix3 ix4 eq_ix2
open scoped BigOperators

/-- Entry `q` of the row `f` over the root of its mean square and a small constant, times a gain. The mean's divisor is the
    number with the bits `n`. -/
def norm {d : ℕ} (n : BitVec 32) (f : Fin d → EReal) (g : EReal) (q : Fin d) : EReal :=
  f q * Ideal.rsqrt (Ideal.div (∑ k : Fin d, f k * f k) (Ideal.ofBits .f32 n) + Ideal.ofBits .f32 0x3727C5AC#32) * g

/-- Pair `j`'s frequency: ten thousand to the power of `-j / 32`. -/
def freq (j : Fin 32) : EReal :=
  FloatOps.hostPowf (F := Ideal) (φ := .f32) (Ideal.ofBits .f32 0x461C4000#32)
    (FloatOps.hostDivf (F := Ideal) (φ := .f32) (FloatOps.hostNegf (F := Ideal) (φ := .f32) (FloatOps.sitofp (F := Ideal) .f32 (BitVec.ofNat 32 j.val)))
      (Ideal.ofBits .f32 0x42000000#32))

/-- The angle by which pair `j` is turned at the position `p`. -/
def angle (p : BitVec 32) (j : Fin 32) : EReal := FloatOps.sitofp (F := Ideal) .f32 p * freq j

/-- The cosine of a pair's angle at a position. -/
def cosine (p : BitVec 32) (j : Fin 32) : EReal := FloatOps.hostUnary (F := Ideal) (φ := .f32) .cos (angle p j)

/-- The sine of a pair's angle at a position. -/
def sine (p : BitVec 32) (j : Fin 32) : EReal := FloatOps.hostUnary (F := Ideal) (φ := .f32) .sin (angle p j)

/-- The first half of a turned key: `x₁ cos - x₂ sin`. -/
def turnLow (f : Fin 64 → EReal) (p : BitVec 32) (j : Fin 32) : EReal :=
  f ⟨j.val, by omega⟩ * cosine p j - f ⟨32 + j.val, by omega⟩ * sine p j

/-- The second half of a turned key: `x₁ sin + x₂ cos`. -/
def turnHigh (f : Fin 64 → EReal) (p : BitVec 32) (j : Fin 32) : EReal :=
  f ⟨j.val, by omega⟩ * sine p j + f ⟨32 + j.val, by omega⟩ * cosine p j

end Cert.Proof.Odd

end
-- ==== Proof.Odd.Angles.lean ====
/- The tables of cosines and sines the host prepares for the odd layers' keys, at a row and a lane. -/
module

public import proofs.«01_k».proof.Proof.Gen.Kernel7Ideal.Frame
public import proofs.«01_k».proof.Proof.Odd.Formula
public import Idealize.ShloMosaic.Lib.KernelVsHost
public import Idealize.ShloMosaic.Lib.Pipeline.ValueKit

@[expose] public section

set_option maxRecDepth 16384

noncomputable section

namespace Cert.Proof.Odd

open Cert.Kernel7Ideal Cert.Kernel7Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- Every stacked row's position: its place in its prompt, or 8192 for a sample. -/
def positions : S8320.Idx → BitVec 32 :=
  concatenate S8320 0 [⟨S8192, shapeCast S8192 (broadcastInDim S4x2048 ![0, 1] bcast_S1x2048_S4x2048_0_1
      (shapeCast S1x2048 (iotaInDim S2048 32 0) shapeCasts_S2048_S1x2048)) shapeCasts_S4x2048_S8192⟩,
    ⟨S128, broadcastInDim S128 ![] bcast_S_S128 (constantI S_ 32 8192#32)⟩] concatenates_S8192_S128_S8320_d0

theorem positions_prompt (b : Fin 4) (l : Fin 2048) : positions (ix1 (promptRow b l)) = BitVec.ofNat 32 l.val := by
  refine (concatenate_pair_apply_left (t := S8320) (s₁ := S8192) (s₂ := S128) (0 : Fin 1) _ _ concatenates_S8192_S128_S8320_d0
    (ix1 (promptRow b l)) rfl (ix1 ⟨b.val * 2048 + l.val, by have := b.isLt; have := l.isLt; omega⟩) (fun a => ?_)).trans ?_
  · match a with
    | ⟨0, _⟩ => rfl
  · refine (shapeCast_apply _ shapeCasts_S4x2048_S8192 _ (ix2 b l) ?_).trans ?_
    · rw [Shape.rowMajor_val_two, Shape.rowMajor_val_one]
      rfl
    refine (broadcastInDim_apply _ bcast_S1x2048_S4x2048_0_1 _ (ix2 b l) (ix2 (0 : Fin 1) l) fun a => ?_).trans ?_
    · match a with
      | ⟨0, _⟩ => rfl
      | ⟨1, _⟩ => rfl
    refine (shapeCast_apply _ shapeCasts_S2048_S1x2048 (ix2 (0 : Fin 1) l) (ix1 l) ?_).trans rfl
    rw [Shape.rowMajor_val_two, Shape.rowMajor_val_one]
    show l.val = 0 * 2048 + l.val
    omega

theorem positions_sample (s : Fin 128) : positions (ix1 (sampleRow s)) = 8192#32 := by
  refine (concatenate_pair_apply_right (t := S8320) (s₁ := S8192) (s₂ := S128) (0 : Fin 1) _ _ concatenates_S8192_S128_S8320_d0
    (ix1 (sampleRow s)) rfl rfl (ix1 s) (fun a ha => ?_) ?_).trans rfl
  · match a with
    | ⟨0, _⟩ => exact absurd rfl ha
  · show s.val + 8192 = 8192 + s.val
    omega

/-- The frequencies, as the host computes them. -/
def freqs : S32.Idx → EReal :=
  Host.powf (F := Ideal) (φ := .f32) (broadcastInDim S32 ![] bcast_S_S32 (constant (F := Ideal) S_ .f32 0x461C4000#32))
    (Host.divf (F := Ideal) (φ := .f32) (Host.negf (F := Ideal) (φ := .f32) (sitofp (F := Ideal) .f32 (iotaInDim S32 32 0)))
      (broadcastInDim S32 ![] bcast_S_S32 (constant (F := Ideal) S_ .f32 0x42000000#32)))

theorem freqs_apply (j : Fin 32) : freqs (ix1 j) = freq j := rfl

/-- Every row's angles, as the host computes them. -/
def angles : S8320x32.Idx → EReal :=
  mulf (F := Ideal) (φ := .f32) (broadcastInDim S8320x32 ![0, 1] bcast_S8320x1_S8320x32_0_1
      (broadcastInDim S8320x1 ![0] bcast_S8320_S8320x1_0 (sitofp (F := Ideal) .f32 positions)))
    (broadcastInDim S8320x32 ![0, 1] bcast_S1x32_S8320x32_0_1 (broadcastInDim S1x32 ![1] bcast_S32_S1x32_1 freqs))

theorem angles_apply (i : Fin 8320) (j : Fin 32) : angles (ix2 i j) = angle (positions (ix1 i)) j := by
  refine congrArg₂ (fun a b : EReal => a * b) ?_ ?_
  · refine (broadcastInDim_apply _ bcast_S8320x1_S8320x32_0_1 _ (ix2 i j) (ix2 i (0 : Fin 1)) fun a => ?_).trans ?_
    · match a with
      | ⟨0, _⟩ => rfl
      | ⟨1, _⟩ => rfl
    refine (broadcastInDim_apply _ bcast_S8320_S8320x1_0 _ (ix2 i (0 : Fin 1)) (ix1 i) fun a => ?_).trans rfl
    match a with
    | ⟨0, _⟩ => rfl
  · refine (broadcastInDim_apply _ bcast_S1x32_S8320x32_0_1 _ (ix2 i j) (ix2 (0 : Fin 1) j) fun a => ?_).trans ?_
    · match a with
      | ⟨0, _⟩ => rfl
      | ⟨1, _⟩ => rfl
    refine (broadcastInDim_apply _ bcast_S32_S1x32_1 _ (ix2 (0 : Fin 1) j) (ix1 j) fun a => ?_).trans (freqs_apply j)
    match a with
    | ⟨0, _⟩ => rfl

/-- Two half tables of 32 lanes and a rest of 64, side by side. -/
def lanes (x y : S8320x32.Idx → EReal) : S8320x128.Idx → EReal :=
  concatenate S8320x128 1 [⟨S8320x32, x⟩, ⟨S8320x32, y⟩, ⟨S8320x64, broadcastInDim S8320x64 ![] bcast_S_S8320x64 (constant (F := Ideal) S_ .f32 0x00000000#32)⟩]
    concatenates_S8320x32_S8320x32_S8320x64_S8320x128_d1

theorem lanes_low (x y : S8320x32.Idx → EReal) (i : Fin 8320) (j : Fin 32) : lanes x y (ix2 i ⟨j.val, by omega⟩) = x (ix2 i j) := by
  refine concatenate_apply_piece (t := S8320x128) (1 : Fin 2)
    [⟨S8320x32, x⟩, ⟨S8320x32, y⟩, ⟨S8320x64, broadcastInDim S8320x64 ![] bcast_S_S8320x64 (constant (F := Ideal) S_ .f32 0x00000000#32)⟩]
    concatenates_S8320x32_S8320x32_S8320x64_S8320x128_d1 (ix2 i ⟨j.val, by omega⟩) 0 (show 0 < 3 by decide) S8320x32 x rfl rfl 0 rfl
    (ix2 i j) (fun a ha => ?_) (Nat.zero_add _)
  match a with
  | ⟨0, _⟩ => rfl
  | ⟨1, _⟩ => exact absurd rfl ha

theorem lanes_high (x y : S8320x32.Idx → EReal) (i : Fin 8320) (j : Fin 32) : lanes x y (ix2 i ⟨32 + j.val, by omega⟩) = y (ix2 i j) := by
  refine concatenate_apply_piece (t := S8320x128) (1 : Fin 2)
    [⟨S8320x32, x⟩, ⟨S8320x32, y⟩, ⟨S8320x64, broadcastInDim S8320x64 ![] bcast_S_S8320x64 (constant (F := Ideal) S_ .f32 0x00000000#32)⟩]
    concatenates_S8320x32_S8320x32_S8320x64_S8320x128_d1 (ix2 i ⟨32 + j.val, by omega⟩) 1 (show 1 < 3 by decide) S8320x32 y rfl rfl 32 rfl
    (ix2 i j) (fun a ha => ?_) rfl
  match a with
  | ⟨0, _⟩ => rfl
  | ⟨1, _⟩ => exact absurd rfl ha

variable (m : (ℓ : Loc nD τ sig) → Buf (Elt Ideal) ℓ) (ρ : Dev nD → PrngReg)

theorem cosines_eq (c : Dev nD) : W1 m ρ c (Proc.devRef .tc main_v25) = lanes (Host.cos (F := Ideal) (φ := .f32) angles) (Host.cos (F := Ideal) (φ := .f32) angles) := by
  show StableHlo.after hostOps0 (W0 m ρ c) (Proc.devRef .tc main_v25) = _
  unfold hostOps0
  after_results; rfl

theorem sines_eq (c : Dev nD) : W1 m ρ c (Proc.devRef .tc main_v27)
    = lanes (Host.negf (F := Ideal) (φ := .f32) (Host.sin (F := Ideal) (φ := .f32) angles)) (Host.sin (F := Ideal) (φ := .f32) angles) := by
  show StableHlo.after hostOps0 (W0 m ρ c) (Proc.devRef .tc main_v27) = _
  unfold hostOps0
  after_results; rfl

/-- What the second region reads of the table of cosines is what the host left before the first. -/
theorem cosines_kept (c : Dev nD) : V7 m ρ c main_v25 = lanes (Host.cos (F := Ideal) (φ := .f32) angles) (Host.cos (F := Ideal) (φ := .f32) angles) :=
  (W7_of m ρ c main_v25 (by decide)).trans <| (W6_of m ρ c main_v25 (by decide)).trans <| (W5_of m ρ c main_v25 (by decide)).trans <|
    (W4_of m ρ c main_v25 (by decide)).trans <| (W3_of m ρ c main_v25 (by decide)).trans <| (W2_of m ρ c main_v25 (by decide)).trans (cosines_eq m ρ c)

theorem sines_kept (c : Dev nD) : V7 m ρ c main_v27
    = lanes (Host.negf (F := Ideal) (φ := .f32) (Host.sin (F := Ideal) (φ := .f32) angles)) (Host.sin (F := Ideal) (φ := .f32) angles) :=
  (W7_of m ρ c main_v27 (by decide)).trans <| (W6_of m ρ c main_v27 (by decide)).trans <| (W5_of m ρ c main_v27 (by decide)).trans <|
    (W4_of m ρ c main_v27 (by decide)).trans <| (W3_of m ρ c main_v27 (by decide)).trans <| (W2_of m ρ c main_v27 (by decide)).trans (sines_eq m ρ c)

variable {i : Fin 8320} {p : BitVec 32}

theorem cosines_low (c : Dev nD) (h : positions (ix1 i) = p) (j : Fin 32) : V7 m ρ c main_v25 (ix2 i ⟨j.val, by omega⟩) = cosine p j := by
  rw [cosines_kept]
  refine (lanes_low _ _ i j).trans ?_
  exact congrArg (FloatOps.hostUnary (F := Ideal) (φ := .f32) .cos) ((angles_apply i j).trans (by rw [h]))

theorem cosines_high (c : Dev nD) (h : positions (ix1 i) = p) (j : Fin 32) : V7 m ρ c main_v25 (ix2 i ⟨32 + j.val, by omega⟩) = cosine p j := by
  rw [cosines_kept]
  refine (lanes_high _ _ i j).trans ?_
  exact congrArg (FloatOps.hostUnary (F := Ideal) (φ := .f32) .cos) ((angles_apply i j).trans (by rw [h]))

theorem sines_low (c : Dev nD) (h : positions (ix1 i) = p) (j : Fin 32) : V7 m ρ c main_v27 (ix2 i ⟨j.val, by omega⟩) = -sine p j := by
  rw [sines_kept]
  refine (lanes_low _ _ i j).trans ?_
  exact congrArg (fun a : EReal => -FloatOps.hostUnary (F := Ideal) (φ := .f32) .sin a) ((angles_apply i j).trans (by rw [h]))

theorem sines_high (c : Dev nD) (h : positions (ix1 i) = p) (j : Fin 32) : V7 m ρ c main_v27 (ix2 i ⟨32 + j.val, by omega⟩) = sine p j := by
  rw [sines_kept]
  refine (lanes_high _ _ i j).trans ?_
  exact congrArg (FloatOps.hostUnary (F := Ideal) (φ := .f32) .sin) ((angles_apply i j).trans (by rw [h]))

end Cert.Proof.Odd

end
-- ==== Proof.Odd.Payload.lean ====
/- What the call after the odd layers' projection computes from the blocks it reads, at an index. -/
module

public import proofs.«01_k».proof.Proof.Gen.Kernel7Ideal.Frame
public import proofs.«01_k».proof.Proof.Odd.Formula
public import Idealize.ShloMosaic.Lib.KernelVsHost
public import Idealize.ShloMosaic.Lib.ValueLayout
public import Idealize.ShloMosaic.Lib.WordCmp

@[expose] public section

set_option maxRecDepth 16384

noncomputable section

namespace Cert.Proof.Odd

open Cert.Kernel7Ideal Cert.Kernel7Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- A column spread over the lanes, at an index. -/
theorem spread_apply {d : ℕ} (v : S640x1.Idx → EReal) (h : S640x1.Broadcasts ⟨2, ![640, d]⟩) (r : Fin 640) (q : Fin d) :
    broadcastTo ⟨2, ![640, d]⟩ v h (ix2 r q) = v (ix2 r (0 : Fin 1)) := by
  refine broadcastTo_apply v h (ix2 r q) (ix2 r (0 : Fin 1)) fun a => ?_
  match a with
  | ⟨0, _⟩ => rfl
  | ⟨1, _⟩ => rfl

/-- One row spread over the rows, at an index. -/
theorem repeat_apply {d : ℕ} (v : (⟨2, ![1, d]⟩ : Shape).Idx → EReal) (h : (⟨2, ![1, d]⟩ : Shape).Broadcasts ⟨2, ![640, d]⟩)
    (r : Fin 640) (q : Fin d) : broadcastTo ⟨2, ![640, d]⟩ v h (ix2 r q) = v (ix2 (0 : Fin 1) q) :=
  broadcastTo_1b_ab_apply v h r q

/-- The sum of a row, kept as a column, at an index. -/
theorem rowSum_apply {d : ℕ} (x : FVec Ideal ⟨2, ![640, d]⟩ .f32) (h : (⟨2, ![640, d]⟩ : Shape).Reduces [(1 : Fin 2)] S640)
    (hφ : FKind.Formats .f32) (ha : 0x00000000#32 = FKind.add.neutral .f32 hφ) (hs : S640.ShapeCasts S640x1) (r : Fin 640) :
    shapeCast S640x1 (multiReduction (F := Ideal) (φ := .f32) .add [(1 : Fin 2)] S640 x 0x00000000#32 h hφ ha) hs (ix2 r (0 : Fin 1))
      = ∑ k : Fin d, x (ix2 r k) := by
  refine (shapeCast_apply _ hs (ix2 r (0 : Fin 1)) (ix1 r) ?_).trans ?_
  · rw [Shape.rowMajor_val_two, Shape.rowMajor_val_one]
    show r.val = r.val * 1 + 0; omega
  · refine (Ideal.multiReduction_add_single (φ := .f32) (s := ⟨2, ![640, d]⟩) (t := S640) (a := (1 : Fin 2)) x 0x00000000#32 h hφ ha (ix1 r)).trans ?_
    refine Finset.sum_congr rfl fun k _ => congrArg x (ext2 rfl rfl)

/-- The normed queries, at an index. -/
theorem queries_apply (x : Vec Ideal S640x512 .f32) (g : Vec Ideal S1x512 .f32) (r : Fin 640) (q : Fin 512) :
    k1_pay2 (F := Ideal) x g (ix2 r q) = norm 0x44000000#32 (fun k => x (ix2 r k)) (g (ix2 (0 : Fin 1) q)) q := by
  have hx : shapeCast S640x512 x shapeCasts_S640x512_S640x512 = x := funext fun y => shapeCast_apply x _ y y rfl
  have hg : shapeCast S1x512 g shapeCasts_S1x512_S1x512 = g := funext fun y => shapeCast_apply g _ y y rfl
  unfold k1_pay2 norm
  simp only [hx, hg]
  refine congrArg₂ (· * ·) (congrArg₂ (· * ·) rfl ((spread_apply _ broadcasts_S640x1_S640x512 r q).trans ?_))
    (repeat_apply g broadcasts_S1x512_S640x512 r q)
  refine congrArg Ideal.rsqrt (congrArg₂ (· + ·) (congrArg₂ Ideal.div ?_ rfl) rfl)
  exact rowSum_apply (mulf x x) reduces_S640x512_S640 (.inl rfl) rfl shapeCasts_S640_S640x1 r

/-- The normed keys and values, at an index. -/
theorem latent_apply (x : Vec Ideal S640x256 .f32) (g : Vec Ideal S1x256 .f32) (r : Fin 640) (q : Fin 256) :
    k1_pay3 (F := Ideal) x g (ix2 r q) = norm 0x43800000#32 (fun k => x (ix2 r k)) (g (ix2 (0 : Fin 1) q)) q := by
  have hx : shapeCast S640x256 x shapeCasts_S640x256_S640x256 = x := funext fun y => shapeCast_apply x _ y y rfl
  have hg : shapeCast S1x256 g shapeCasts_S1x256_S1x256 = g := funext fun y => shapeCast_apply g _ y y rfl
  unfold k1_pay3 norm
  simp only [hx, hg]
  refine congrArg₂ (· * ·) (congrArg₂ (· * ·) rfl ((spread_apply _ broadcasts_S640x1_S640x256 r q).trans ?_))
    (repeat_apply g broadcasts_S1x256_S640x256 r q)
  refine congrArg Ideal.rsqrt (congrArg₂ (· + ·) (congrArg₂ Ideal.div ?_ rfl) rfl)
  exact rowSum_apply (mulf x x) reduces_S640x256_S640 (.inl rfl) rfl shapeCasts_S640_S640x1 r

/-- The key passes unchanged into the turn. -/
theorem key_eq (x : Vec Ideal S640x128 .f32) : k1_pay4 (F := Ideal) x = x := funext fun y => shapeCast_apply x _ y y rfl

/-- The partner lane of lane `q`: 32 on for the first 32 lanes, 32 back for the others, around the end. -/
def partner (q : Fin 128) : Fin 128 := if q.val < 32 then ⟨(q.val + 32) % 128, by omega⟩ else ⟨(q.val + 96) % 128, by omega⟩

/-- The turned keys, at an index. -/
theorem turned_apply (x cs sn : Vec Ideal S640x128 .f32) (r : Fin 640) (q : Fin 128) :
    k1_pay1 (F := Ideal) x cs sn (ix2 r q) = x (ix2 r q) * cs (ix2 r q) + x (ix2 r (partner q)) * sn (ix2 r q) := by
  have hc : shapeCast S640x128 cs shapeCasts_S640x128_S640x128 = cs := funext fun y => shapeCast_apply cs _ y y rfl
  have hn : shapeCast S640x128 sn shapeCasts_S640x128_S640x128 = sn := funext fun y => shapeCast_apply sn _ y y rfl
  unfold k1_pay1
  simp only [hc, hn]
  refine congrArg₂ (· + ·) rfl (congrArg₂ (· * ·) ?_ rfl)
  rw [select_apply]
  have hcmp : cmpi .slt (iota .tc S640x128 32 [1] iota_S640x128_d1_w32) (broadcast S640x128 32#32) (ix2 r q)
      = BitVec.ofBool (decide (q.val < 32)) := by
    have e : iota .tc S640x128 32 [1] iota_S640x128_d1_w32 (ix2 r q) = BitVec.ofNat 32 q.val := by
      show BitVec.ofNat 32 _ = _
      refine congrArg (BitVec.ofNat 32) ?_
      show (0 * 128 + q.val) = q.val
      omega
    show IntOp.cmpi .slt _ (BitVec.ofNat 32 32) = _
    rw [e]
    exact WordCmp.cmpi_slt_ofNat (by have := q.isLt; omega) (by decide)
  rw [hcmp]
  unfold partner
  by_cases hq : q.val < 32
  · rw [if_pos hq, decide_eq_true hq]
    refine (dynamicRotate_apply (1 : Fin 2) 96#32 x rotates_S640x128_d1 (ix2 r q) (ix2 r ⟨(q.val + 32) % 128, by omega⟩) fun b => ?_)
    match b with
    | ⟨0, _⟩ => rfl
    | ⟨1, _⟩ => show (q.val + 32) % 128 = (q.val + 128 - 96 % 128) % 128; omega
  · rw [if_neg hq, decide_eq_false hq]
    refine (dynamicRotate_apply (1 : Fin 2) 32#32 x rotates_S640x128_d1 (ix2 r q) (ix2 r ⟨(q.val + 96) % 128, by omega⟩) fun b => ?_)
    match b with
    | ⟨0, _⟩ => rfl
    | ⟨1, _⟩ => show (q.val + 96) % 128 = (q.val + 128 - 32 % 128) % 128; omega

end Cert.Proof.Odd

end
-- ==== Proof.Odd.Prep.lean ====
/- The call after the odd layers' projection over the extended reals: its two result arrays, from the arrays it reads. -/
module

public import proofs.«01_k».proof.Proof.Odd.Payload
public import Idealize.ShloMosaic.Lib.Pipeline.ValueKit

@[expose] public section

set_option maxRecDepth 16384

noncomputable section

namespace Cert.Proof.Odd

open Cert.Kernel7Ideal Cert.Kernel7Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

/-- What the body leaves of the queries at a point. -/
theorem left_queries (c : Dev nD) (t : Fin cfg1.N) : (outsAt1 V c t).1
    = k1_pay2 (F := Ideal) (View.ld (iblk1 V c 0 t) (Rect.unit (s := S640x1024) ![0, 0] S640x512.size inb_S640x1024_S640x512_0_0)) (iblk1 V c 1 t) := by
  unfold outsAt1
  dsimp only
  frame_out
  rfl

/-- What the body leaves of the keys and values at a point. -/
theorem left_latent (c : Dev nD) (t : Fin cfg1.N) : (outsAt1 V c t).2
    = View.canon (Val := Elt Ideal) [⟨Rect.unit (s := S640x384) ![0, 256] S640x128.size inb_S640x384_S640x128_0_256,
        k1_pay1 (F := Ideal) (k1_pay4 (View.ld (iblk1 V c 0 t) (Rect.unit (s := S640x1024) ![0, 896] S640x128.size inb_S640x1024_S640x128_0_896)))
          (iblk1 V c 3 t) (iblk1 V c 4 t)⟩,
      ⟨Rect.unit (s := S640x384) ![0, 0] S640x256.size inb_S640x384_S640x256_0_0,
        k1_pay3 (F := Ideal) (View.ld (iblk1 V c 0 t) (Rect.unit (s := S640x1024) ![0, 512] S640x256.size inb_S640x1024_S640x256_0_512)) (iblk1 V c 2 t)⟩] := by
  unfold outsAt1
  dsimp only
  frame_out
  rfl

theorem place0 : ∀ t : Fin grid1.N, cc1_transform_0 (grid1.coords t) = ![(grid1.coords t 0).val, 1] := by decide +kernel
theorem place1 : ∀ t : Fin grid1.N, cc1_transform_1 (grid1.coords t) = ![0, 0] := by decide +kernel
theorem place2 : ∀ t : Fin grid1.N, cc1_transform_2 (grid1.coords t) = ![0, 0] := by decide +kernel
theorem place3 : ∀ t : Fin grid1.N, cc1_transform_3 (grid1.coords t) = ![(grid1.coords t 0).val, 0] := by decide +kernel
theorem place4 : ∀ t : Fin grid1.N, cc1_transform_4 (grid1.coords t) = ![(grid1.coords t 0).val, 0] := by decide +kernel
theorem place5 : ∀ t : Fin grid1.N, cc1_transform_5 (grid1.coords t) = ![(grid1.coords t 0).val, 0] := by decide +kernel
theorem place6 : ∀ t : Fin grid1.N, cc1_transform_6 (grid1.coords t) = ![(grid1.coords t 0).val, 0] := by decide +kernel

/-- The projection's block, at an index: the second half of its columns. -/
theorem block0_apply (c : Dev nD) (t : Fin cfg1.N) (r : Fin 640) (k : Fin 1024) (hr : (grid1.coords t 0).val * 640 + r.val < 8320) :
    iblk1 V c (0 : Fin 7) t (ix2 r k) = V c main_v42 (ix2 ⟨(grid1.coords t 0).val * 640 + r.val, hr⟩ ⟨1024 + k.val, by omega⟩) := by
  refine congrArg (V c main_v42) ?_
  have e := place0 t
  refine ext2 ?_ ?_
  · exact (at_block 640 r.val (congrFun e 0) :)
  · show cc1_transform_0 (grid1.coords t) 1 * 1024 + 1 * k.val = 1024 + k.val
    rw [e]; show 1 * 1024 + 1 * k.val = 1024 + k.val; omega

/-- The queries' gains, at an index. -/
theorem block1_apply (c : Dev nD) (t : Fin cfg1.N) (q : Fin 512) : iblk1 V c (1 : Fin 7) t (ix2 (0 : Fin 1) q) = V c main_v47 (ix2 (0 : Fin 1) q) := by
  refine congrArg (V c main_v47) ?_
  have e := place1 t
  refine ext2 ?_ ?_
  · show cc1_transform_1 (grid1.coords t) 0 * 1 + 1 * 0 = 0
    rw [e]; rfl
  · exact (at_block_zero 512 q.val (congrFun e 1) :)

/-- The keys' and values' gains, at an index. -/
theorem block2_apply (c : Dev nD) (t : Fin cfg1.N) (q : Fin 256) : iblk1 V c (2 : Fin 7) t (ix2 (0 : Fin 1) q) = V c main_v48 (ix2 (0 : Fin 1) q) := by
  refine congrArg (V c main_v48) ?_
  have e := place2 t
  refine ext2 ?_ ?_
  · show cc1_transform_2 (grid1.coords t) 0 * 1 + 1 * 0 = 0
    rw [e]; rfl
  · exact (at_block_zero 256 q.val (congrFun e 1) :)

/-- A block of the table of cosines, at an index. -/
theorem block3_apply (c : Dev nD) (t : Fin cfg1.N) (r : Fin 640) (k : Fin 128) (hr : (grid1.coords t 0).val * 640 + r.val < 8320) :
    iblk1 V c (3 : Fin 7) t (ix2 r k) = V c main_v25 (ix2 ⟨(grid1.coords t 0).val * 640 + r.val, hr⟩ k) := by
  refine congrArg (V c main_v25) ?_
  have e := place3 t
  refine ext2 ?_ ?_
  · exact (at_block 640 r.val (congrFun e 0) :)
  · exact (at_block_zero 128 k.val (congrFun e 1) :)

/-- A block of the table of sines, at an index. -/
theorem block4_apply (c : Dev nD) (t : Fin cfg1.N) (r : Fin 640) (k : Fin 128) (hr : (grid1.coords t 0).val * 640 + r.val < 8320) :
    iblk1 V c (4 : Fin 7) t (ix2 r k) = V c main_v27 (ix2 ⟨(grid1.coords t 0).val * 640 + r.val, hr⟩ k) := by
  refine congrArg (V c main_v27) ?_
  have e := place4 t
  refine ext2 ?_ ?_
  · exact (at_block 640 r.val (congrFun e 0) :)
  · exact (at_block_zero 128 k.val (congrFun e 1) :)

/-- The place of an index of the queries' block. -/
theorem place_queries (t : Fin cfg1.N) (r : Fin 640) (q : Fin 512) (hr : (grid1.coords t 0).val * 640 + r.val < 8320) :
    ((cfg1.win (5 : Fin 7)).blk t).view.emb (ix2 r q) = ix2 ⟨(grid1.coords t 0).val * 640 + r.val, hr⟩ q := by
  have e := place5 t
  refine ext2 ?_ ?_
  · exact (at_block 640 r.val (congrFun e 0) :)
  · exact (at_block_zero 512 q.val (congrFun e 1) :)

/-- The place of an index of the keys' and values' block. -/
theorem place_latent (t : Fin cfg1.N) (r : Fin 640) (q : Fin 384) (hr : (grid1.coords t 0).val * 640 + r.val < 8320) :
    ((cfg1.win (6 : Fin 7)).blk t).view.emb (ix2 r q) = ix2 ⟨(grid1.coords t 0).val * 640 + r.val, hr⟩ q := by
  have e := place6 t
  refine ext2 ?_ ?_
  · exact (at_block 640 r.val (congrFun e 0) :)
  · exact (at_block_zero 384 q.val (congrFun e 1) :)

theorem flushes5 : ∀ t : Fin grid1.N, Pipeline.Window.flushOf grid1 true cc1_transform_5 t = true := by decide +kernel
theorem flushes6 : ∀ t : Fin grid1.N, Pipeline.Window.flushOf grid1 true cc1_transform_6 t = true := by decide +kernel

/-- Every row tile is a point's. -/
theorem tiles : ∀ i : Fin 13, ∃ t : Fin grid1.N, (grid1.coords t 0).val = i.val := by decide +kernel

theorem cover_queries (y : S8320x512.Idx) : ∃ t : Fin cfg1.N, (cfg1.win (5 : Fin 7)).flush t = true ∧ y ∈ ((cfg1.win (5 : Fin 7)).blk t).view.set := by
  have h0 : (y 0).val < 8320 := (y 0).isLt
  have h1 : (y 1).val < 512 := (y 1).isLt
  obtain ⟨t, e0⟩ := tiles ⟨(y 0).val / 640, by omega⟩
  have e0' : (grid1.coords t 0).val = (y 0).val / 640 := e0
  have hr : (grid1.coords t 0).val * 640 + (y 0).val % 640 < 8320 := by omega
  refine ⟨t, flushes5 t, ?_⟩
  have he := place_queries t ⟨(y 0).val % 640, by omega⟩ ⟨(y 1).val, h1⟩ hr
  have hy : y = ix2 ⟨(grid1.coords t 0).val * 640 + (y 0).val % 640, hr⟩ ⟨(y 1).val, h1⟩ :=
    ext2 (by show (y 0).val = (grid1.coords t 0).val * 640 + (y 0).val % 640; omega) rfl
  rw [hy, ← he]
  exact View.emb_mem_set _ _

theorem cover_latent (y : S8320x384.Idx) : ∃ t : Fin cfg1.N, (cfg1.win (6 : Fin 7)).flush t = true ∧ y ∈ ((cfg1.win (6 : Fin 7)).blk t).view.set := by
  have h0 : (y 0).val < 8320 := (y 0).isLt
  have h1 : (y 1).val < 384 := (y 1).isLt
  obtain ⟨t, e0⟩ := tiles ⟨(y 0).val / 640, by omega⟩
  have e0' : (grid1.coords t 0).val = (y 0).val / 640 := e0
  have hr : (grid1.coords t 0).val * 640 + (y 0).val % 640 < 8320 := by omega
  refine ⟨t, flushes6 t, ?_⟩
  have he := place_latent t ⟨(y 0).val % 640, by omega⟩ ⟨(y 1).val, h1⟩ hr
  have hy : y = ix2 ⟨(grid1.coords t 0).val * 640 + (y 0).val % 640, hr⟩ ⟨(y 1).val, h1⟩ :=
    ext2 (by show (y 0).val = (grid1.coords t 0).val * 640 + (y 0).val % 640; omega) rfl
  rw [hy, ← he]
  exact View.emb_mem_set _ _

/-- The queries' array: each row's norm over 512 columns of the projection. -/
def queries (h : S8320x2048.Idx → EReal) (g : S1x512.Idx → EReal) : S8320x512.Idx → EReal := fun y =>
  norm 0x44000000#32 (fun k : Fin 512 => h (ix2 (y 0) ⟨1024 + k.val, by omega⟩)) (g (ix2 (0 : Fin 1) (y 1))) (y 1)

/-- The first part of the keys' and values' array: each row's norm over 256 columns of the projection. -/
def latent (h : S8320x2048.Idx → EReal) (g : S1x256.Idx → EReal) (i : Fin 8320) (q : Fin 256) : EReal :=
  norm 0x43800000#32 (fun k : Fin 256 => h (ix2 i ⟨1536 + k.val, by omega⟩)) (g (ix2 (0 : Fin 1) q)) q

/-- The second part: 128 columns of the projection turned by the tables. -/
def turned (h : S8320x2048.Idx → EReal) (cs sn : S8320x128.Idx → EReal) (i : Fin 8320) (q : Fin 128) : EReal :=
  h (ix2 i ⟨1920 + q.val, by omega⟩) * cs (ix2 i q) + h (ix2 i ⟨1920 + (partner q).val, by omega⟩) * sn (ix2 i q)

/-- The keys' and values' array. -/
def rows (h : S8320x2048.Idx → EReal) (g : S1x256.Idx → EReal) (cs sn : S8320x128.Idx → EReal) : S8320x384.Idx → EReal := fun y =>
  if hq : (y 1).val < 256 then latent h g (y 0) ⟨(y 1).val, hq⟩
  else turned h cs sn (y 0) ⟨(y 1).val - 256, by have h1 : (y 1).val < 384 := (y 1).isLt; omega⟩

/-- The queries' array after the write-backs. -/
theorem final_queries (c : Dev nD) : (dat1 V c).arrAt (5 : Fin 7) cfg1.N = queries (V c main_v42) (V c main_v47) := by
  refine (dat1 V c).arrAt_eq_of_emb (5 : Fin 7) _ (fun t _ y => ?_) cover_queries
  obtain ⟨r, q, rfl⟩ : ∃ (r : Fin 640) (q : Fin 512), y = ix2 r q := ⟨y 0, y 1, eq_ix2 y⟩
  have h0 : (grid1.coords t 0).val < 13 := (grid1.coords t 0).isLt
  have hr : (grid1.coords t 0).val * 640 + r.val < 8320 := by have := r.isLt; omega
  refine Eq.trans ?_ (congrArg (queries _ _) (place_queries t r q hr)).symm
  refine (congrFun (after1_5 V c t) (ix2 r q)).trans ?_
  rw [left_queries]
  refine (queries_apply _ _ r q).trans ?_
  show _ = norm 0x44000000#32 (fun k : Fin 512 => V c main_v42 (ix2 ⟨(grid1.coords t 0).val * 640 + r.val, hr⟩ ⟨1024 + k.val, by omega⟩))
    (V c main_v47 (ix2 (0 : Fin 1) q)) q
  rw [block1_apply]
  refine congrArg (fun f => norm 0x44000000#32 f (V c main_v47 (ix2 (0 : Fin 1) q)) q) (funext fun k => ?_)
  refine Eq.trans (congrArg (iblk1 V c (0 : Fin 7) t) (show _ = ix2 r (⟨k.val, by omega⟩ : Fin 1024) from ext2 ?_ ?_)) (block0_apply V c t r ⟨k.val, by omega⟩ hr)
  · show 0 + 1 * r.val = r.val; omega
  · show 0 + 1 * k.val = k.val; omega

/-- Two pieces side by side, read in the left one. -/
theorem left_piece (p : S640x128.Idx → EReal) (q : S640x256.Idx → EReal) (r : Fin 640) (k : Fin 256) :
    View.canon (Val := Elt Ideal) (s := S640x384) (e := .f32)
      [⟨Rect.unit (s := S640x384) ![0, 256] S640x128.size inb_S640x384_S640x128_0_256, p⟩,
        ⟨Rect.unit (s := S640x384) ![0, 0] S640x256.size inb_S640x384_S640x256_0_0, q⟩] (ix2 r ⟨k.val, by omega⟩) = q (ix2 r k) := by
  rw [View.canon_cons_of_not_mem]
  · have e : (Rect.unit (s := S640x384) ![0, 0] S640x256.size inb_S640x384_S640x256_0_0).emb (ix2 r k) = ix2 r (⟨k.val, by omega⟩ : Fin 384) :=
      ext2 (by show 0 + 1 * r.val = r.val; omega) (by show 0 + 1 * k.val = k.val; omega)
    rw [← e]
    exact View.canon_cons_emb (Val := Elt Ideal) (s := S640x384) (e := .f32)
      (Rect.unit (s := S640x384) ![0, 0] S640x256.size inb_S640x384_S640x256_0_0) q [] (ix2 r k)
  · intro h
    have h1 : 256 ≤ k.val := (Rect.mem_set_unit (inb := inb_S640x384_S640x128_0_256).mp h (1 : Fin 2)).1
    have := k.isLt
    omega

/-- Two pieces side by side, read in the right one. -/
theorem right_piece (p : S640x128.Idx → EReal) (q : S640x256.Idx → EReal) (r : Fin 640) (k : Fin 128) :
    View.canon (Val := Elt Ideal) (s := S640x384) (e := .f32)
      [⟨Rect.unit (s := S640x384) ![0, 256] S640x128.size inb_S640x384_S640x128_0_256, p⟩,
        ⟨Rect.unit (s := S640x384) ![0, 0] S640x256.size inb_S640x384_S640x256_0_0, q⟩] (ix2 r ⟨256 + k.val, by omega⟩) = p (ix2 r k) := by
  have e : (Rect.unit (s := S640x384) ![0, 256] S640x128.size inb_S640x384_S640x128_0_256).emb (ix2 r k) = ix2 r (⟨256 + k.val, by omega⟩ : Fin 384) :=
    ext2 (by show 0 + 1 * r.val = r.val; omega) (by show 256 + 1 * k.val = 256 + k.val; omega)
  rw [← e]
  exact View.canon_cons_emb (Val := Elt Ideal) (s := S640x384) (e := .f32)
    (Rect.unit (s := S640x384) ![0, 256] S640x128.size inb_S640x384_S640x128_0_256) p _ (ix2 r k)

/-- What the body leaves of the keys and values, in the first part. -/
theorem left_low (c : Dev nD) (t : Fin cfg1.N) (r : Fin 640) (q : Fin 256) (hr : (grid1.coords t 0).val * 640 + r.val < 8320) :
    (outsAt1 V c t).2 (ix2 r ⟨q.val, by omega⟩)
      = latent (V c main_v42) (V c main_v48) ⟨(grid1.coords t 0).val * 640 + r.val, hr⟩ q := by
  rw [left_latent]
  refine (left_piece _ _ r q).trans ?_
  refine (latent_apply _ _ r q).trans ?_
  unfold latent
  rw [block2_apply]
  refine congrArg (fun f => norm 0x43800000#32 f (V c main_v48 (ix2 (0 : Fin 1) q)) q) (funext fun k => ?_)
  refine (Eq.trans (congrArg (iblk1 V c (0 : Fin 7) t) (show _ = ix2 r (⟨512 + k.val, by omega⟩ : Fin 1024) from ext2 ?_ ?_)) (block0_apply V c t r ⟨512 + k.val, by omega⟩ hr)).trans ?_
  · show 0 + 1 * r.val = r.val; omega
  · show 512 + 1 * k.val = 512 + k.val; omega
  · refine congrArg (V c main_v42) (ext2 rfl ?_)
    show 1024 + (512 + k.val) = 1536 + k.val; omega

/-- What the body leaves of the keys and values, in the second part. -/
theorem left_high (c : Dev nD) (t : Fin cfg1.N) (r : Fin 640) (q : Fin 128) (hr : (grid1.coords t 0).val * 640 + r.val < 8320) :
    (outsAt1 V c t).2 (ix2 r ⟨256 + q.val, by omega⟩)
      = turned (V c main_v42) (V c main_v25) (V c main_v27) ⟨(grid1.coords t 0).val * 640 + r.val, hr⟩ q := by
  rw [left_latent]
  refine (right_piece _ _ r q).trans ?_
  rw [key_eq]
  refine (turned_apply _ _ _ r q).trans ?_
  have key : ∀ k : Fin 128, View.ld (iblk1 V c 0 t) (Rect.unit (s := S640x1024) ![0, 896] S640x128.size inb_S640x1024_S640x128_0_896) (ix2 r k)
      = V c main_v42 (ix2 ⟨(grid1.coords t 0).val * 640 + r.val, hr⟩ ⟨1920 + k.val, by omega⟩) := fun k => by
    refine (Eq.trans (congrArg (iblk1 V c (0 : Fin 7) t) (show _ = ix2 r (⟨896 + k.val, by omega⟩ : Fin 1024) from ext2 ?_ ?_)) (block0_apply V c t r ⟨896 + k.val, by omega⟩ hr)).trans ?_
    · show 0 + 1 * r.val = r.val; omega
    · show 896 + 1 * k.val = 896 + k.val; omega
    · refine congrArg (V c main_v42) (ext2 rfl ?_)
      show 1024 + (896 + k.val) = 1920 + k.val; omega
  unfold turned
  exact congrArg₂ (· + ·) (congrArg₂ (· * ·) (key q) (block3_apply V c t r q hr)) (congrArg₂ (· * ·) (key (partner q)) (block4_apply V c t r q hr))

/-- The keys' and values' array after the write-backs. -/
theorem final_rows (c : Dev nD) : (dat1 V c).arrAt (6 : Fin 7) cfg1.N = rows (V c main_v42) (V c main_v48) (V c main_v25) (V c main_v27) := by
  refine (dat1 V c).arrAt_eq_of_emb (6 : Fin 7) _ (fun t _ y => ?_) cover_latent
  obtain ⟨r, q, rfl⟩ : ∃ (r : Fin 640) (q : Fin 384), y = ix2 r q := ⟨y 0, y 1, eq_ix2 y⟩
  have h0 : (grid1.coords t 0).val < 13 := (grid1.coords t 0).isLt
  have hr : (grid1.coords t 0).val * 640 + r.val < 8320 := by have := r.isLt; omega
  refine Eq.trans ?_ (congrArg (rows _ _ _ _) (place_latent t r q hr)).symm
  refine (congrFun (after1_6 V c t) (ix2 r q)).trans ?_
  by_cases hq : q.val < 256
  · refine (left_low V c t r ⟨q.val, hq⟩ hr).trans ?_
    refine Eq.symm ?_
    unfold rows
    exact dif_pos hq
  · have hq' : q.val < 384 := q.isLt
    have eq : q = ⟨256 + (q.val - 256), by omega⟩ := Fin.ext (by show q.val = 256 + (q.val - 256); omega)
    refine (congrArg (fun z => (outsAt1 V c t).2 (ix2 r z)) eq).trans ?_
    refine (left_high V c t r ⟨q.val - 256, by omega⟩ hr).trans ?_
    refine Eq.symm ?_
    unfold rows
    exact dif_neg hq

end Cert.Proof.Odd

end
-- ==== Proof.Odd.Results.lean ====
/- The six results of the odd layers' two calls, at an index, from the arguments. -/
module

public import proofs.«01_k».proof.Proof.Odd.Host
public import proofs.«01_k».proof.Proof.Odd.Angles
public import proofs.«01_k».proof.Proof.Odd.Prep

@[expose] public section

set_option maxRecDepth 16384

noncomputable section

namespace Cert.Proof.Odd

open Cert.Kernel7Ideal Cert.Kernel7Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

/-- The projection, the queries' and the rows' arrays after both calls. -/
theorem after_projected (c : Dev nD) : W8 m ρ c (Proc.devRef .tc main_v42) = prod (V5 m ρ c main_v28) (V5 m ρ c main_v41) :=
  (W8_of m ρ c main_v42 (by decide)).trans (projected_kept m ρ c)

theorem after_queries (c : Dev nD) : W8 m ρ c (Proc.devRef .tc main_v49_0)
    = queries (prod (V5 m ρ c main_v28) (V5 m ρ c main_v41)) (V7 m ρ c main_v47) := by
  rw [← projected_kept m ρ c]
  exact (W8_arr m ρ c (5 : Fin 7)).trans (final_queries (V7 m ρ) c)

theorem after_rows (c : Dev nD) : W8 m ρ c (Proc.devRef .tc main_v49_1)
    = rows (prod (V5 m ρ c main_v28) (V5 m ρ c main_v41)) (V7 m ρ c main_v48) (V7 m ρ c main_v25) (V7 m ρ c main_v27) := by
  rw [← projected_kept m ρ c]
  exact (W8_arr m ρ c (6 : Fin 7)).trans (final_rows (V7 m ρ) c)

/-- A norm depends only on its row's entries and its gain. -/
theorem norm_congr {d : ℕ} {n : BitVec 32} {f f' : Fin d → EReal} {g g' : EReal} (hf : ∀ k, f k = f' k) (hg : g = g') (q : Fin d) :
    norm n f g q = norm n f' g' q := by
  obtain rfl : f = f' := funext hf
  rw [hg]

/-- Lanes of the first half are turned with the lane 32 above, lanes of the second half with the lane 32 below. -/
theorem turned_low {h : S8320x2048.Idx → EReal} {cs sn : S8320x128.Idx → EReal} {i : Fin 8320} {f : Fin 64 → EReal} {p : BitVec 32}
    (hf : ∀ k : Fin 64, h (ix2 i ⟨1920 + k.val, by omega⟩) = f k) (j : Fin 32) (hc : cs (ix2 i ⟨j.val, by omega⟩) = cosine p j)
    (hs : sn (ix2 i ⟨j.val, by omega⟩) = -sine p j) : turned h cs sn i ⟨j.val, by omega⟩ = turnLow f p j := by
  have hj := j.isLt
  have ep : partner ⟨j.val, by omega⟩ = ⟨32 + j.val, by omega⟩ := by
    unfold partner
    rw [if_pos (show j.val < 32 from hj)]
    exact Fin.ext (show (j.val + 32) % 128 = 32 + j.val by omega)
  have eh : h (ix2 i ⟨1920 + (partner ⟨j.val, by omega⟩).val, by have := (partner ⟨j.val, by omega⟩).isLt; omega⟩) = f ⟨32 + j.val, by omega⟩ :=
    (congrArg (fun a : Fin 2048 => h (ix2 i a)) (Fin.ext (congrArg (fun a : Fin 128 => 1920 + a.val) ep))).trans (hf ⟨32 + j.val, by omega⟩)
  refine (congrArg₂ (fun a b : EReal => a + b) (congrArg₂ (fun a b : EReal => a * b) (hf ⟨j.val, by omega⟩) hc)
    (congrArg₂ (fun a b : EReal => a * b) eh hs)).trans ?_
  unfold turnLow
  rw [sub_eq_add_neg, mul_neg]

theorem turned_high {h : S8320x2048.Idx → EReal} {cs sn : S8320x128.Idx → EReal} {i : Fin 8320} {f : Fin 64 → EReal} {p : BitVec 32}
    (hf : ∀ k : Fin 64, h (ix2 i ⟨1920 + k.val, by omega⟩) = f k) (j : Fin 32) (hc : cs (ix2 i ⟨32 + j.val, by omega⟩) = cosine p j)
    (hs : sn (ix2 i ⟨32 + j.val, by omega⟩) = sine p j) : turned h cs sn i ⟨32 + j.val, by omega⟩ = turnHigh f p j := by
  have hj := j.isLt
  have ep : partner ⟨32 + j.val, by omega⟩ = ⟨j.val, by omega⟩ := by
    unfold partner
    rw [if_neg (show ¬ 32 + j.val < 32 by omega)]
    exact Fin.ext (show (32 + j.val + 96) % 128 = j.val by omega)
  have eh : h (ix2 i ⟨1920 + (partner ⟨32 + j.val, by omega⟩).val, by have := (partner ⟨32 + j.val, by omega⟩).isLt; omega⟩) = f ⟨j.val, by omega⟩ :=
    (congrArg (fun a : Fin 2048 => h (ix2 i a)) (Fin.ext (congrArg (fun a : Fin 128 => 1920 + a.val) ep))).trans (hf ⟨j.val, by omega⟩)
  refine (congrArg₂ (fun a b : EReal => a + b) (congrArg₂ (fun a b : EReal => a * b) (hf ⟨32 + j.val, by omega⟩) hc)
    (congrArg₂ (fun a b : EReal => a * b) eh hs)).trans ?_
  exact add_comm _ _

/-- The rows' array, in its first 256 columns and in the 128 after them. -/
theorem rows_first (h : S8320x2048.Idx → EReal) (g : S1x256.Idx → EReal) (cs sn : S8320x128.Idx → EReal) (i : Fin 8320) (q : Fin 256) :
    rows h g cs sn (ix2 i ⟨q.val, by omega⟩) = latent h g i q := by
  unfold rows
  exact dif_pos (show q.val < 256 from q.isLt)

theorem rows_second (h : S8320x2048.Idx → EReal) (g : S1x256.Idx → EReal) (cs sn : S8320x128.Idx → EReal) (i : Fin 8320) (q : Fin 128)
    (z : Fin 384) (hz : z.val = 256 + q.val) : rows h g cs sn (ix2 i z) = turned h cs sn i q := by
  unfold rows
  refine (dif_neg (show ¬ z.val < 256 by omega)).trans (congrArg (turned h cs sn i) (Fin.ext ?_))
  show z.val - 256 = q.val
  omega

theorem tail53 (c : Dev nD) : W9 m ρ c (Proc.devRef .tc main_v53) = shapeCast S4x2048x128 (extractStridedSlice S8192x128 ![0, 0]
      (extractStridedSlice S8320x128 ![0, 1792] (W8 m ρ c (Proc.devRef .tc main_v42) : S8320x2048.Idx → EReal) slices_S8320x2048_S8320x128_0_1792)
      slices_S8320x128_S8192x128_0_0) shapeCasts_S8192x128_S4x2048x128 := by
  show StableHlo.after hostOps2 (W8 m ρ c) (Proc.devRef .tc main_v53) = _
  unfold hostOps2
  after_results; rfl

theorem tail57 (c : Dev nD) : W9 m ρ c (Proc.devRef .tc main_v57) = shapeCast S4x2048x320 (extractStridedSlice S8192x320 ![0, 0]
      (extractStridedSlice S8320x320 ![0, 0] (W8 m ρ c (Proc.devRef .tc main_v49_1) : S8320x384.Idx → EReal) slices_S8320x384_S8320x320_0_0)
      slices_S8320x320_S8192x320_0_0) shapeCasts_S8192x320_S4x2048x320 := by
  show StableHlo.after hostOps2 (W8 m ρ c) (Proc.devRef .tc main_v57) = _
  unfold hostOps2
  after_results; rfl

theorem tail61 (c : Dev nD) : W9 m ρ c (Proc.devRef .tc main_v61) = shapeCast S4x2048x512 (extractStridedSlice S8192x512 ![0, 0]
      (W8 m ρ c (Proc.devRef .tc main_v49_0) : S8320x512.Idx → EReal) slices_S8320x512_S8192x512_0_0) shapeCasts_S8192x512_S4x2048x512 := by
  show StableHlo.after hostOps2 (W8 m ρ c) (Proc.devRef .tc main_v61) = _
  unfold hostOps2
  after_results; rfl

/-- The block attention's keys and values of the prompts, at an index. -/
theorem block_prompt (c : Dev nD) (b : Fin 4) (l : Fin 2048) (q : Fin 128) : W9 m ρ c (Proc.devRef .tc main_v53) (ix3 b l q)
    = rowAt (m ((c : Thread nD τ).loc main_arg0)) (m ((c : Thread nD τ).loc main_arg2)) b l (0 : Fin 2) ⟨512 + q.val, by omega⟩ := by
  rw [tail53, after_projected]
  refine (take_prompt _ slices_S8320x128_S8192x128_0_0 shapeCasts_S8192x128_S4x2048x128 b l q).trans ?_
  refine (columns 1792 _ slices_S8320x2048_S8320x128_0_1792 (promptRow b l) q (by omega)).trans ?_
  exact prod_row (stacked_prompt m ρ c b l) (fun k => weight_of m ρ c k q)

/-- The queries of the prompts, at an index. -/
theorem queries_prompt (c : Dev nD) (b : Fin 4) (l : Fin 2048) (q : Fin 512) : W9 m ρ c (Proc.devRef .tc main_v61) (ix3 b l q)
    = norm 0x44000000#32 (fun k : Fin 512 => rowAt (m ((c : Thread nD τ).loc main_arg0)) (m ((c : Thread nD τ).loc main_arg2)) b l (0 : Fin 2) ⟨640 + k.val, by omega⟩)
        (m ((c : Thread nD τ).loc main_arg3) (ix2 (0 : Fin 2) q)) q := by
  rw [tail61, after_queries]
  refine (take_prompt _ slices_S8320x512_S8192x512_0_0 shapeCasts_S8192x512_S4x2048x512 b l q).trans ?_
  exact norm_congr (fun k => prod_row (stacked_prompt m ρ c b l) (fun x => weight_queries m ρ c x k)) (gain_queries m ρ c q) q

/-- The latent attention's rows of the prompts, from the array they are cut from. -/
theorem cut_prompt (c : Dev nD) (b : Fin 4) (l : Fin 2048) (q : Fin 320) : W9 m ρ c (Proc.devRef .tc main_v57) (ix3 b l q)
    = rows (prod (V5 m ρ c main_v28) (V5 m ρ c main_v41)) (V7 m ρ c main_v48) (V7 m ρ c main_v25) (V7 m ρ c main_v27)
        (ix2 (promptRow b l) ⟨q.val, by omega⟩) := by
  rw [tail57, after_rows]
  refine (take_prompt _ slices_S8320x320_S8192x320_0_0 shapeCasts_S8192x320_S4x2048x320 b l q).trans ?_
  refine (columns 0 _ slices_S8320x384_S8320x320_0_0 (promptRow b l) q (by omega)).trans ?_
  exact congrArg (rows _ _ _ _) (ext2 rfl (Nat.zero_add _))

/-- Their latent part. -/
theorem latent_prompt (c : Dev nD) (b : Fin 4) (l : Fin 2048) (q : Fin 256) : W9 m ρ c (Proc.devRef .tc main_v57) (ix3 b l (⟨q.val, by omega⟩ : Fin 320))
    = norm 0x43800000#32 (fun k : Fin 256 => rowAt (m ((c : Thread nD τ).loc main_arg0)) (m ((c : Thread nD τ).loc main_arg2)) b l (0 : Fin 2) ⟨1152 + k.val, by omega⟩)
        (m ((c : Thread nD τ).loc main_arg4) (ix2 (0 : Fin 2) q)) q := by
  refine (cut_prompt m ρ c b l ⟨q.val, by omega⟩).trans ((rows_first _ _ _ _ (promptRow b l) q).trans ?_)
  exact norm_congr (fun k => prod_row (stacked_prompt m ρ c b l) (fun x => weight_latent m ρ c x k)) (gain_latent m ρ c q) q

/-- Their turned key, its first half. -/
theorem low_prompt (c : Dev nD) (b : Fin 4) (l : Fin 2048) (j : Fin 32) : W9 m ρ c (Proc.devRef .tc main_v57) (ix3 b l (⟨256 + j.val, by omega⟩ : Fin 320))
    = turnLow (fun k : Fin 64 => rowAt (m ((c : Thread nD τ).loc main_arg0)) (m ((c : Thread nD τ).loc main_arg2)) b l (0 : Fin 2) ⟨1408 + k.val, by omega⟩) (BitVec.ofNat 32 l.val) j := by
  refine (cut_prompt m ρ c b l ⟨256 + j.val, by omega⟩).trans
    ((rows_second _ _ _ _ (promptRow b l) ⟨j.val, by omega⟩ ⟨256 + j.val, by omega⟩ rfl).trans ?_)
  exact turned_low (fun k => prod_row (stacked_prompt m ρ c b l) (fun x => weight_turned m ρ c x k)) j (cosines_low m ρ c (positions_prompt b l) j)
    (sines_low m ρ c (positions_prompt b l) j)

/-- Its second half. -/
theorem high_prompt (c : Dev nD) (b : Fin 4) (l : Fin 2048) (j : Fin 32) : W9 m ρ c (Proc.devRef .tc main_v57) (ix3 b l (⟨288 + j.val, by omega⟩ : Fin 320))
    = turnHigh (fun k : Fin 64 => rowAt (m ((c : Thread nD τ).loc main_arg0)) (m ((c : Thread nD τ).loc main_arg2)) b l (0 : Fin 2) ⟨1408 + k.val, by omega⟩) (BitVec.ofNat 32 l.val) j := by
  refine (cut_prompt m ρ c b l ⟨288 + j.val, by omega⟩).trans
    ((rows_second _ _ _ _ (promptRow b l) ⟨32 + j.val, by omega⟩ ⟨288 + j.val, by omega⟩ (by show 288 + j.val = 256 + (32 + j.val); omega)).trans ?_)
  exact turned_high (fun k => prod_row (stacked_prompt m ρ c b l) (fun x => weight_turned m ρ c x k)) j (cosines_high m ρ c (positions_prompt b l) j)
    (sines_high m ρ c (positions_prompt b l) j)

theorem tail55 (c : Dev nD) : W9 m ρ c (Proc.devRef .tc main_v55) = shapeCast S128x1x128 (extractStridedSlice S128x128 ![8192, 0]
      (extractStridedSlice S8320x128 ![0, 1792] (W8 m ρ c (Proc.devRef .tc main_v42) : S8320x2048.Idx → EReal) slices_S8320x2048_S8320x128_0_1792)
      slices_S8320x128_S128x128_8192_0) shapeCasts_S128x128_S128x1x128 := by
  show StableHlo.after hostOps2 (W8 m ρ c) (Proc.devRef .tc main_v55) = _
  unfold hostOps2
  after_results; rfl

theorem tail59 (c : Dev nD) : W9 m ρ c (Proc.devRef .tc main_v59) = shapeCast S128x1x320 (extractStridedSlice S128x320 ![8192, 0]
      (extractStridedSlice S8320x320 ![0, 0] (W8 m ρ c (Proc.devRef .tc main_v49_1) : S8320x384.Idx → EReal) slices_S8320x384_S8320x320_0_0)
      slices_S8320x320_S128x320_8192_0) shapeCasts_S128x320_S128x1x320 := by
  show StableHlo.after hostOps2 (W8 m ρ c) (Proc.devRef .tc main_v59) = _
  unfold hostOps2
  after_results; rfl

theorem tail63 (c : Dev nD) : W9 m ρ c (Proc.devRef .tc main_v63) = shapeCast S128x1x512 (extractStridedSlice S128x512 ![8192, 0]
      (W8 m ρ c (Proc.devRef .tc main_v49_0) : S8320x512.Idx → EReal) slices_S8320x512_S128x512_8192_0) shapeCasts_S128x512_S128x1x512 := by
  show StableHlo.after hostOps2 (W8 m ρ c) (Proc.devRef .tc main_v63) = _
  unfold hostOps2
  after_results; rfl

/-- The block attention's keys and values of the samples, at an index. -/
theorem block_sample (c : Dev nD) (s : Fin 128) (z : Fin 1) (q : Fin 128) : W9 m ρ c (Proc.devRef .tc main_v55) (ix3 s z q)
    = rowAt (m ((c : Thread nD τ).loc main_arg1)) (m ((c : Thread nD τ).loc main_arg2)) s z (0 : Fin 2) ⟨512 + q.val, by omega⟩ := by
  obtain rfl : z = 0 := Subsingleton.elim _ _
  rw [tail55, after_projected]
  refine (take_sample _ slices_S8320x128_S128x128_8192_0 shapeCasts_S128x128_S128x1x128 s 0 q).trans ?_
  refine (columns 1792 _ slices_S8320x2048_S8320x128_0_1792 (sampleRow s) q (by omega)).trans ?_
  exact prod_row (stacked_sample m ρ c s) (fun k => weight_of m ρ c k q)

/-- The queries of the samples, at an index. -/
theorem queries_sample (c : Dev nD) (s : Fin 128) (z : Fin 1) (q : Fin 512) : W9 m ρ c (Proc.devRef .tc main_v63) (ix3 s z q)
    = norm 0x44000000#32 (fun k : Fin 512 => rowAt (m ((c : Thread nD τ).loc main_arg1)) (m ((c : Thread nD τ).loc main_arg2)) s z (0 : Fin 2) ⟨640 + k.val, by omega⟩)
        (m ((c : Thread nD τ).loc main_arg3) (ix2 (0 : Fin 2) q)) q := by
  obtain rfl : z = 0 := Subsingleton.elim _ _
  rw [tail63, after_queries]
  refine (take_sample _ slices_S8320x512_S128x512_8192_0 shapeCasts_S128x512_S128x1x512 s 0 q).trans ?_
  exact norm_congr (fun k => prod_row (stacked_sample m ρ c s) (fun x => weight_queries m ρ c x k)) (gain_queries m ρ c q) q

/-- The latent attention's rows of the samples, from the array they are cut from. -/
theorem cut_sample (c : Dev nD) (s : Fin 128) (z : Fin 1) (q : Fin 320) : W9 m ρ c (Proc.devRef .tc main_v59) (ix3 s z q)
    = rows (prod (V5 m ρ c main_v28) (V5 m ρ c main_v41)) (V7 m ρ c main_v48) (V7 m ρ c main_v25) (V7 m ρ c main_v27)
        (ix2 (sampleRow s) ⟨q.val, by omega⟩) := by
  obtain rfl : z = 0 := Subsingleton.elim _ _
  rw [tail59, after_rows]
  refine (take_sample _ slices_S8320x320_S128x320_8192_0 shapeCasts_S128x320_S128x1x320 s 0 q).trans ?_
  refine (columns 0 _ slices_S8320x384_S8320x320_0_0 (sampleRow s) q (by omega)).trans ?_
  exact congrArg (rows _ _ _ _) (ext2 rfl (Nat.zero_add _))

/-- Their latent part. -/
theorem latent_sample (c : Dev nD) (s : Fin 128) (z : Fin 1) (q : Fin 256) : W9 m ρ c (Proc.devRef .tc main_v59) (ix3 s z (⟨q.val, by omega⟩ : Fin 320))
    = norm 0x43800000#32 (fun k : Fin 256 => rowAt (m ((c : Thread nD τ).loc main_arg1)) (m ((c : Thread nD τ).loc main_arg2)) s z (0 : Fin 2) ⟨1152 + k.val, by omega⟩)
        (m ((c : Thread nD τ).loc main_arg4) (ix2 (0 : Fin 2) q)) q := by
  obtain rfl : z = 0 := Subsingleton.elim _ _
  refine (cut_sample m ρ c s 0 ⟨q.val, by omega⟩).trans ((rows_first _ _ _ _ (sampleRow s) q).trans ?_)
  exact norm_congr (fun k => prod_row (stacked_sample m ρ c s) (fun x => weight_latent m ρ c x k)) (gain_latent m ρ c q) q

/-- Their turned key, its first half. -/
theorem low_sample (c : Dev nD) (s : Fin 128) (z : Fin 1) (j : Fin 32) : W9 m ρ c (Proc.devRef .tc main_v59) (ix3 s z (⟨256 + j.val, by omega⟩ : Fin 320))
    = turnLow (fun k : Fin 64 => rowAt (m ((c : Thread nD τ).loc main_arg1)) (m ((c : Thread nD τ).loc main_arg2)) s z (0 : Fin 2) ⟨1408 + k.val, by omega⟩) 8192#32 j := by
  obtain rfl : z = 0 := Subsingleton.elim _ _
  refine (cut_sample m ρ c s 0 ⟨256 + j.val, by omega⟩).trans
    ((rows_second _ _ _ _ (sampleRow s) ⟨j.val, by omega⟩ ⟨256 + j.val, by omega⟩ rfl).trans ?_)
  exact turned_low (fun k => prod_row (stacked_sample m ρ c s) (fun x => weight_turned m ρ c x k)) j (cosines_low m ρ c (positions_sample s) j)
    (sines_low m ρ c (positions_sample s) j)

/-- Its second half. -/
theorem high_sample (c : Dev nD) (s : Fin 128) (z : Fin 1) (j : Fin 32) : W9 m ρ c (Proc.devRef .tc main_v59) (ix3 s z (⟨288 + j.val, by omega⟩ : Fin 320))
    = turnHigh (fun k : Fin 64 => rowAt (m ((c : Thread nD τ).loc main_arg1)) (m ((c : Thread nD τ).loc main_arg2)) s z (0 : Fin 2) ⟨1408 + k.val, by omega⟩) 8192#32 j := by
  obtain rfl : z = 0 := Subsingleton.elim _ _
  refine (cut_sample m ρ c s 0 ⟨288 + j.val, by omega⟩).trans
    ((rows_second _ _ _ _ (sampleRow s) ⟨32 + j.val, by omega⟩ ⟨288 + j.val, by omega⟩ (by show 288 + j.val = 256 + (32 + j.val); omega)).trans ?_)
  exact turned_high (fun k => prod_row (stacked_sample m ρ c s) (fun x => weight_turned m ρ c x k)) j (cosines_high m ρ c (positions_sample s) j)
    (sines_high m ρ c (positions_sample s) j)

end Cert.Proof.Odd

end
-- ==== Proof.Odd.Reference.lean ====
/- The odd layers' reference over the extended reals, at an index: its products, its norms and its turned keys. -/
module

public import proofs.«01_k».proof.Proof.Gen.Reference7Ideal.Read
public import proofs.«01_k».proof.Proof.Odd.Formula
public import Idealize.ShloMosaic.Lib.KernelVsHost
public import Idealize.ShloMosaic.Lib.Pipeline.ValueKit

@[expose] public section

set_option maxRecDepth 16384

noncomputable section

namespace Cert.Proof.Odd

open Cert.Proof.Rows
open Cert.Reference7Ideal Cert.Reference7Ideal.Gen Cert.Reference7Ideal.Read
open Idealize.ShloMosaic hiding ix1 ix2 ix3 ix4 eq_ix2
open Idealize.ShloMosaic.TcCoe Idealize.ShloMosaic.ValueIdx
open Idealize.SL Idealize.SL.Sem
open scoped BigOperators

/-- The reference's projection of the prompts' rows. -/
theorem product_prompt (x : S4x2048x2048.Idx → EReal) (w : S2x2048x1472.Idx → EReal) (i : Fin 4) (l : Fin 2048) (c : Fin 1472) :
    val_main_v2 (F := Ideal) x w (ix3 i l c) = rowAt x w i l (0 : Fin 2) c := by
  show _ = ∑ k : Fin 2048, x (ix3 i l k) * w (ix3 (0 : Fin 2) k c)
  rw [val_main_v2_apply]
  refine Finset.sum_congr rfl fun k _ => ?_
  rw [val_main_v1_apply, val_main_v0_apply]
  have hk := k.isLt
  have hc := c.isLt
  refine congrArg₂ (· * ·) (congrArg x (ext3 rfl rfl rfl)) (congrArg w (ext3 rfl ?_ ?_))
  · show (k.val * 1472 + c.val) / 1472 % 2048 = k.val; omega
  · show (k.val * 1472 + c.val) % 1472 = c.val; omega

/-- The reference's projection of the samples' rows. -/
theorem product_sample (x : S128x1x2048.Idx → EReal) (w : S2x2048x1472.Idx → EReal) (i : Fin 128) (l : Fin 1) (c : Fin 1472) :
    val_main_v5 (F := Ideal) x w (ix3 i l c) = rowAt x w i l (0 : Fin 2) c := by
  show _ = ∑ k : Fin 2048, x (ix3 i l k) * w (ix3 (0 : Fin 2) k c)
  rw [val_main_v5_apply]
  refine Finset.sum_congr rfl fun k _ => ?_
  rw [val_main_v4_apply, val_main_v3_apply]
  have hk := k.isLt
  have hc := c.isLt
  refine congrArg₂ (· * ·) (congrArg x (ext3 rfl rfl rfl)) (congrArg w (ext3 rfl ?_ ?_))
  · show (k.val * 1472 + c.val) / 1472 % 2048 = k.val; omega
  · show (k.val * 1472 + c.val) % 1472 = c.val; omega

/-- The reference's rows of the block attention's keys and values, of the prompts. -/
theorem reference_block_prompt (x : S4x2048x2048.Idx → EReal) (w : S2x2048x1472.Idx → EReal) (i : Fin 4) (l : Fin 2048) (q : Fin 128) :
    val_main_v16 (F := Ideal) x w (ix3 i l q) = rowAt x w i l (0 : Fin 2) ⟨512 + q.val, by omega⟩ := by
  rw [val_main_v16_apply]
  have e : idx_main_v16 (ix3 i l q) = ix3 i l (⟨512 + q.val, by omega⟩ : Fin 1472) := ext3 rfl rfl rfl
  rw [e]
  exact product_prompt x w i l ⟨512 + q.val, by omega⟩

/-- The reference's rows of the block attention's keys and values, of the samples. -/
theorem reference_block_sample (x : S128x1x2048.Idx → EReal) (w : S2x2048x1472.Idx → EReal) (i : Fin 128) (l : Fin 1) (q : Fin 128) :
    val_main_v17 (F := Ideal) x w (ix3 i l q) = rowAt x w i l (0 : Fin 2) ⟨512 + q.val, by omega⟩ := by
  rw [val_main_v17_apply]
  have e : idx_main_v17 (ix3 i l q) = ix3 i l (⟨512 + q.val, by omega⟩ : Fin 1472) := ext3 rfl rfl rfl
  rw [e]
  exact product_sample x w i l ⟨512 + q.val, by omega⟩

/-- The reference's norm of the latent rows, of the prompts. -/
theorem reference_latent_prompt (x : S4x2048x2048.Idx → EReal) (w : S2x2048x1472.Idx → EReal) (g : S2x256.Idx → EReal) (i : Fin 4) (l : Fin 2048) (q : Fin 256) :
    val_main_v31 (F := Ideal) x w g (ix3 i l q)
      = norm 0x43800000#32 (fun k : Fin 256 => rowAt x w i l (0 : Fin 2) ⟨1152 + k.val, by omega⟩) (g (ix2 (0 : Fin 2) q)) q := by
  have hf : ∀ k : Fin 256, val_main_v18 (F := Ideal) x w (ix3 i l k) = rowAt x w i l (0 : Fin 2) ⟨1152 + k.val, by omega⟩ := fun k => by
    rw [val_main_v18_apply]
    have e : idx_main_v18 (ix3 i l k) = ix3 i l (⟨1152 + k.val, by omega⟩ : Fin 1472) := ext3 rfl rfl rfl
    rw [e]
    exact product_prompt x w i l ⟨1152 + k.val, by omega⟩
  have hs : val_main_v21 (F := Ideal) x w (idx_main_v27 (ix3 i l q))
      = ∑ k : Fin 256, rowAt x w i l (0 : Fin 2) ⟨1152 + k.val, by omega⟩ * rowAt x w i l (0 : Fin 2) ⟨1152 + k.val, by omega⟩ := by
    rw [val_main_v21_apply, val_main_v20_apply]
    refine (congrArg (fun z : EReal => z + _) Ideal.ofBits_zero_f32).trans ((zero_add _).trans ?_)
    refine Finset.sum_congr rfl fun k _ => ?_
    have e : idx_main_v20 (idx_main_v21 (idx_main_v27 (ix3 i l q))) k = ix3 i l k := ext3 rfl rfl rfl
    rw [e, val_main_v19_apply, hf k]
    rfl
  have hg : val_main_v30 (F := Ideal) g (ix3 i l q) = g (ix2 (0 : Fin 2) q) := by
    rw [val_main_v30_apply, val_main_v29_apply, val_main_v13_apply, val_main_v12_apply]
    exact congrArg g (ext2 rfl (Nat.mod_eq_of_lt q.isLt))
  rw [val_main_v31_apply, val_main_v28_apply, val_main_v27_apply, val_main_v26_apply, val_main_v25_apply, val_main_v23_apply, hs, hg, hf q, val_main_v22_apply, val_main_v24_apply]
  rfl

/-- The reference's norm of the latent rows, of the samples. -/
theorem reference_latent_sample (x : S128x1x2048.Idx → EReal) (w : S2x2048x1472.Idx → EReal) (g : S2x256.Idx → EReal) (i : Fin 128) (l : Fin 1) (q : Fin 256) :
    val_main_v74 (F := Ideal) x w g (ix3 i l q)
      = norm 0x43800000#32 (fun k : Fin 256 => rowAt x w i l (0 : Fin 2) ⟨1152 + k.val, by omega⟩) (g (ix2 (0 : Fin 2) q)) q := by
  have hf : ∀ k : Fin 256, val_main_v61 (F := Ideal) x w (ix3 i l k) = rowAt x w i l (0 : Fin 2) ⟨1152 + k.val, by omega⟩ := fun k => by
    rw [val_main_v61_apply]
    have e : idx_main_v61 (ix3 i l k) = ix3 i l (⟨1152 + k.val, by omega⟩ : Fin 1472) := ext3 rfl rfl rfl
    rw [e]
    exact product_sample x w i l ⟨1152 + k.val, by omega⟩
  have hs : val_main_v64 (F := Ideal) x w (idx_main_v70 (ix3 i l q))
      = ∑ k : Fin 256, rowAt x w i l (0 : Fin 2) ⟨1152 + k.val, by omega⟩ * rowAt x w i l (0 : Fin 2) ⟨1152 + k.val, by omega⟩ := by
    rw [val_main_v64_apply, val_main_v63_apply]
    refine (congrArg (fun z : EReal => z + _) Ideal.ofBits_zero_f32).trans ((zero_add _).trans ?_)
    refine Finset.sum_congr rfl fun k _ => ?_
    have e : idx_main_v63 (idx_main_v64 (idx_main_v70 (ix3 i l q))) k = ix3 i l k := ext3 rfl (by show (0 : ℕ) = l.val; omega) rfl
    rw [e, val_main_v62_apply, hf k]
    rfl
  have hg : val_main_v73 (F := Ideal) g (ix3 i l q) = g (ix2 (0 : Fin 2) q) := by
    rw [val_main_v73_apply, val_main_v72_apply, val_main_v13_apply, val_main_v12_apply]
    exact congrArg g (ext2 rfl (Nat.mod_eq_of_lt q.isLt))
  rw [val_main_v74_apply, val_main_v71_apply, val_main_v70_apply, val_main_v69_apply, val_main_v68_apply, val_main_v66_apply, hs, hg, hf q, val_main_v65_apply, val_main_v67_apply]
  rfl

/-- The reference's norm of the queries' rows, of the prompts. -/
theorem reference_query_prompt (x : S4x2048x2048.Idx → EReal) (w : S2x2048x1472.Idx → EReal) (g : S2x512.Idx → EReal) (i : Fin 4) (l : Fin 2048) (q : Fin 512) :
    val_main_v116 (F := Ideal) x w g (ix3 i l q)
      = norm 0x44000000#32 (fun k : Fin 512 => rowAt x w i l (0 : Fin 2) ⟨640 + k.val, by omega⟩) (g (ix2 (0 : Fin 2) q)) q := by
  have hf : ∀ k : Fin 512, val_main_v103 (F := Ideal) x w (ix3 i l k) = rowAt x w i l (0 : Fin 2) ⟨640 + k.val, by omega⟩ := fun k => by
    rw [val_main_v103_apply]
    have e : idx_main_v103 (ix3 i l k) = ix3 i l (⟨640 + k.val, by omega⟩ : Fin 1472) := ext3 rfl rfl rfl
    rw [e]
    exact product_prompt x w i l ⟨640 + k.val, by omega⟩
  have hs : val_main_v106 (F := Ideal) x w (idx_main_v112 (ix3 i l q))
      = ∑ k : Fin 512, rowAt x w i l (0 : Fin 2) ⟨640 + k.val, by omega⟩ * rowAt x w i l (0 : Fin 2) ⟨640 + k.val, by omega⟩ := by
    rw [val_main_v106_apply, val_main_v105_apply]
    refine (congrArg (fun z : EReal => z + _) Ideal.ofBits_zero_f32).trans ((zero_add _).trans ?_)
    refine Finset.sum_congr rfl fun k _ => ?_
    have e : idx_main_v105 (idx_main_v106 (idx_main_v112 (ix3 i l q))) k = ix3 i l k := ext3 rfl rfl rfl
    rw [e, val_main_v104_apply, hf k]
    rfl
  have hg : val_main_v115 (F := Ideal) g (ix3 i l q) = g (ix2 (0 : Fin 2) q) := by
    rw [val_main_v115_apply, val_main_v114_apply, val_main_v15_apply, val_main_v14_apply]
    exact congrArg g (ext2 rfl (Nat.mod_eq_of_lt q.isLt))
  rw [val_main_v116_apply, val_main_v113_apply, val_main_v112_apply, val_main_v111_apply, val_main_v110_apply, val_main_v108_apply, hs, hg, hf q, val_main_v107_apply, val_main_v109_apply]
  rfl

/-- The reference's norm of the queries' rows, of the samples. -/
theorem reference_query_sample (x : S128x1x2048.Idx → EReal) (w : S2x2048x1472.Idx → EReal) (g : S2x512.Idx → EReal) (i : Fin 128) (l : Fin 1) (q : Fin 512) :
    val_main_v131 (F := Ideal) x w g (ix3 i l q)
      = norm 0x44000000#32 (fun k : Fin 512 => rowAt x w i l (0 : Fin 2) ⟨640 + k.val, by omega⟩) (g (ix2 (0 : Fin 2) q)) q := by
  have hf : ∀ k : Fin 512, val_main_v118 (F := Ideal) x w (ix3 i l k) = rowAt x w i l (0 : Fin 2) ⟨640 + k.val, by omega⟩ := fun k => by
    rw [val_main_v118_apply]
    have e : idx_main_v118 (ix3 i l k) = ix3 i l (⟨640 + k.val, by omega⟩ : Fin 1472) := ext3 rfl rfl rfl
    rw [e]
    exact product_sample x w i l ⟨640 + k.val, by omega⟩
  have hs : val_main_v121 (F := Ideal) x w (idx_main_v127 (ix3 i l q))
      = ∑ k : Fin 512, rowAt x w i l (0 : Fin 2) ⟨640 + k.val, by omega⟩ * rowAt x w i l (0 : Fin 2) ⟨640 + k.val, by omega⟩ := by
    rw [val_main_v121_apply, val_main_v120_apply]
    refine (congrArg (fun z : EReal => z + _) Ideal.ofBits_zero_f32).trans ((zero_add _).trans ?_)
    refine Finset.sum_congr rfl fun k _ => ?_
    have e : idx_main_v120 (idx_main_v121 (idx_main_v127 (ix3 i l q))) k = ix3 i l k := ext3 rfl (by show (0 : ℕ) = l.val; omega) rfl
    rw [e, val_main_v119_apply, hf k]
    rfl
  have hg : val_main_v130 (F := Ideal) g (ix3 i l q) = g (ix2 (0 : Fin 2) q) := by
    rw [val_main_v130_apply, val_main_v129_apply, val_main_v15_apply, val_main_v14_apply]
    exact congrArg g (ext2 rfl (Nat.mod_eq_of_lt q.isLt))
  rw [val_main_v131_apply, val_main_v128_apply, val_main_v127_apply, val_main_v126_apply, val_main_v125_apply, val_main_v123_apply, hs, hg, hf q, val_main_v122_apply, val_main_v124_apply]
  rfl

theorem ext1 {n : ℕ} {i j : (⟨1, ![n]⟩ : Shape).Idx} (h : (i 0).val = (j 0).val) : i = j :=
  funext fun d => Fin.ext (by match d with | ⟨0, _⟩ => exact h)

/-- The reference's frequencies. -/
theorem reference_freq_prompt (j : Fin 32) : val_main_v38 (F := Ideal) (ix1 j) = freq j := by
  rw [val_main_v38_apply, val_main_v37_apply, val_main_v36_apply, val_main_v35_apply, val_main_v34_apply]
  rfl

theorem reference_freq_sample (j : Fin 32) : val_main_v81 (F := Ideal) (ix1 j) = freq j := by
  rw [val_main_v81_apply, val_main_v80_apply, val_main_v79_apply, val_main_v78_apply, val_main_v77_apply]
  rfl

/-- The reference's angles of the prompts' positions. -/
theorem reference_angle_prompt (l : Fin 2048) (j : Fin 32) :
    val_main_v44 (F := Ideal) (ix3 (0 : Fin 1) l j) = angle (BitVec.ofNat 32 l.val) j := by
  rw [val_main_v44_apply, val_main_v42_apply, val_main_v43_apply, val_main_v40_apply, val_main_v41_apply, val_main_v39_apply,
    val_main_v7_apply, val_main_v6_apply]
  have e : idx_main_v41 (idx_main_v43 (ix3 (0 : Fin 1) l j)) = ix1 j := ext1 rfl
  rw [e, reference_freq_prompt]
  rfl

/-- The reference's angles of the samples' position. -/
theorem reference_angle_sample (j : Fin 32) :
    val_main_v86 (F := Ideal) (ix3 (0 : Fin 1) (0 : Fin 1) j) = angle 8192#32 j := by
  rw [val_main_v86_apply, val_main_v85_apply, val_main_v84_apply, val_main_v83_apply, val_main_v82_apply, val_main_v11_apply,
    val_main_v10_apply, val_main_v9_apply, val_main_v8_apply]
  have e : idx_main_v84 (ix3 (0 : Fin 1) (0 : Fin 1) j) = ix1 j := ext1 rfl
  rw [e, reference_freq_sample]
  rfl

/-- The reference's columns that are turned, of the prompts. -/
theorem reference_key_prompt (x : S4x2048x2048.Idx → EReal) (w : S2x2048x1472.Idx → EReal) (i : Fin 4) (l : Fin 2048) (q : Fin 64) :
    val_main_v32 (F := Ideal) x w (ix3 i l q) = rowAt x w i l (0 : Fin 2) ⟨1408 + q.val, by omega⟩ := by
  rw [val_main_v32_apply]
  have e : idx_main_v32 (ix3 i l q) = ix3 i l (⟨1408 + q.val, by omega⟩ : Fin 1472) := ext3 rfl rfl rfl
  rw [e]
  exact product_prompt x w i l ⟨1408 + q.val, by omega⟩

theorem reference_left_prompt (x : S4x2048x2048.Idx → EReal) (w : S2x2048x1472.Idx → EReal) (i : Fin 4) (l : Fin 2048) (j : Fin 32) :
    val_main_v47 (F := Ideal) x w (ix3 i l j) = rowAt x w i l (0 : Fin 2) ⟨1408 + j.val, by omega⟩ := by
  rw [val_main_v47_apply]
  have e : idx_main_v47 (ix3 i l j) = ix3 i l (⟨j.val, by omega⟩ : Fin 64) := ext3 rfl rfl rfl
  rw [e]
  exact reference_key_prompt x w i l ⟨j.val, by omega⟩

theorem reference_right_prompt (x : S4x2048x2048.Idx → EReal) (w : S2x2048x1472.Idx → EReal) (i : Fin 4) (l : Fin 2048) (j : Fin 32) :
    val_main_v48 (F := Ideal) x w (ix3 i l j) = rowAt x w i l (0 : Fin 2) ⟨1408 + (32 + j.val), by omega⟩ := by
  rw [val_main_v48_apply]
  have e : idx_main_v48 (ix3 i l j) = ix3 i l (⟨32 + j.val, by omega⟩ : Fin 64) := ext3 rfl rfl rfl
  rw [e]
  exact reference_key_prompt x w i l ⟨32 + j.val, by omega⟩

/-- The reference's turned keys of the prompts, their first half. -/
theorem reference_low_prompt (x : S4x2048x2048.Idx → EReal) (w : S2x2048x1472.Idx → EReal) (i : Fin 4) (l : Fin 2048) (j : Fin 32) :
    val_main_v53 (F := Ideal) x w (ix3 i l j)
      = turnLow (fun k : Fin 64 => rowAt x w i l (0 : Fin 2) ⟨1408 + k.val, by omega⟩) (BitVec.ofNat 32 l.val) j := by
  have hc : val_main_v49 (F := Ideal) (ix3 i l j) = cosine (BitVec.ofNat 32 l.val) j := by
    rw [val_main_v49_apply]
    have e : idx_main_v49 (ix3 i l j) = ix3 (0 : Fin 1) l j := ext3 rfl rfl rfl
    rw [e, val_main_v45_apply, reference_angle_prompt]
    rfl
  have hs : val_main_v51 (F := Ideal) (ix3 i l j) = sine (BitVec.ofNat 32 l.val) j := by
    rw [val_main_v51_apply]
    have e : idx_main_v51 (ix3 i l j) = ix3 (0 : Fin 1) l j := ext3 rfl rfl rfl
    rw [e, val_main_v46_apply, reference_angle_prompt]
    rfl
  rw [val_main_v53_apply, val_main_v50_apply, val_main_v52_apply, hc, hs, reference_left_prompt, reference_right_prompt]
  rfl

/-- Their second half. -/
theorem reference_high_prompt (x : S4x2048x2048.Idx → EReal) (w : S2x2048x1472.Idx → EReal) (i : Fin 4) (l : Fin 2048) (j : Fin 32) :
    val_main_v58 (F := Ideal) x w (ix3 i l j)
      = turnHigh (fun k : Fin 64 => rowAt x w i l (0 : Fin 2) ⟨1408 + k.val, by omega⟩) (BitVec.ofNat 32 l.val) j := by
  have hc : val_main_v56 (F := Ideal) (ix3 i l j) = cosine (BitVec.ofNat 32 l.val) j := by
    rw [val_main_v56_apply]
    have e : idx_main_v56 (ix3 i l j) = ix3 (0 : Fin 1) l j := ext3 rfl rfl rfl
    rw [e, val_main_v45_apply, reference_angle_prompt]
    rfl
  have hs : val_main_v54 (F := Ideal) (ix3 i l j) = sine (BitVec.ofNat 32 l.val) j := by
    rw [val_main_v54_apply]
    have e : idx_main_v54 (ix3 i l j) = ix3 (0 : Fin 1) l j := ext3 rfl rfl rfl
    rw [e, val_main_v46_apply, reference_angle_prompt]
    rfl
  rw [val_main_v58_apply, val_main_v55_apply, val_main_v57_apply, hc, hs, reference_left_prompt, reference_right_prompt]
  rfl

/-- The reference's columns that are turned, of the samples. -/
theorem reference_key_sample (x : S128x1x2048.Idx → EReal) (w : S2x2048x1472.Idx → EReal) (i : Fin 128) (l : Fin 1) (q : Fin 64) :
    val_main_v75 (F := Ideal) x w (ix3 i l q) = rowAt x w i l (0 : Fin 2) ⟨1408 + q.val, by omega⟩ := by
  rw [val_main_v75_apply]
  have e : idx_main_v75 (ix3 i l q) = ix3 i l (⟨1408 + q.val, by omega⟩ : Fin 1472) := ext3 rfl rfl rfl
  rw [e]
  exact product_sample x w i l ⟨1408 + q.val, by omega⟩

theorem reference_left_sample (x : S128x1x2048.Idx → EReal) (w : S2x2048x1472.Idx → EReal) (i : Fin 128) (l : Fin 1) (j : Fin 32) :
    val_main_v89 (F := Ideal) x w (ix3 i l j) = rowAt x w i l (0 : Fin 2) ⟨1408 + j.val, by omega⟩ := by
  rw [val_main_v89_apply]
  have e : idx_main_v89 (ix3 i l j) = ix3 i l (⟨j.val, by omega⟩ : Fin 64) := ext3 rfl rfl rfl
  rw [e]
  exact reference_key_sample x w i l ⟨j.val, by omega⟩

theorem reference_right_sample (x : S128x1x2048.Idx → EReal) (w : S2x2048x1472.Idx → EReal) (i : Fin 128) (l : Fin 1) (j : Fin 32) :
    val_main_v90 (F := Ideal) x w (ix3 i l j) = rowAt x w i l (0 : Fin 2) ⟨1408 + (32 + j.val), by omega⟩ := by
  rw [val_main_v90_apply]
  have e : idx_main_v90 (ix3 i l j) = ix3 i l (⟨32 + j.val, by omega⟩ : Fin 64) := ext3 rfl rfl rfl
  rw [e]
  exact reference_key_sample x w i l ⟨32 + j.val, by omega⟩

/-- The reference's turned keys of the samples, their first half. -/
theorem reference_low_sample (x : S128x1x2048.Idx → EReal) (w : S2x2048x1472.Idx → EReal) (i : Fin 128) (l : Fin 1) (j : Fin 32) :
    val_main_v95 (F := Ideal) x w (ix3 i l j)
      = turnLow (fun k : Fin 64 => rowAt x w i l (0 : Fin 2) ⟨1408 + k.val, by omega⟩) 8192#32 j := by
  have hc : val_main_v91 (F := Ideal) (ix3 i l j) = cosine 8192#32 j := by
    rw [val_main_v91_apply]
    have e : idx_main_v91 (ix3 i l j) = ix3 (0 : Fin 1) (0 : Fin 1) j := ext3 rfl rfl rfl
    rw [e, val_main_v87_apply, reference_angle_sample]
    rfl
  have hs : val_main_v93 (F := Ideal) (ix3 i l j) = sine 8192#32 j := by
    rw [val_main_v93_apply]
    have e : idx_main_v93 (ix3 i l j) = ix3 (0 : Fin 1) (0 : Fin 1) j := ext3 rfl rfl rfl
    rw [e, val_main_v88_apply, reference_angle_sample]
    rfl
  rw [val_main_v95_apply, val_main_v92_apply, val_main_v94_apply, hc, hs, reference_left_sample, reference_right_sample]
  rfl

/-- Their second half. -/
theorem reference_high_sample (x : S128x1x2048.Idx → EReal) (w : S2x2048x1472.Idx → EReal) (i : Fin 128) (l : Fin 1) (j : Fin 32) :
    val_main_v100 (F := Ideal) x w (ix3 i l j)
      = turnHigh (fun k : Fin 64 => rowAt x w i l (0 : Fin 2) ⟨1408 + k.val, by omega⟩) 8192#32 j := by
  have hc : val_main_v98 (F := Ideal) (ix3 i l j) = cosine 8192#32 j := by
    rw [val_main_v98_apply]
    have e : idx_main_v98 (ix3 i l j) = ix3 (0 : Fin 1) (0 : Fin 1) j := ext3 rfl rfl rfl
    rw [e, val_main_v87_apply, reference_angle_sample]
    rfl
  have hs : val_main_v96 (F := Ideal) (ix3 i l j) = sine 8192#32 j := by
    rw [val_main_v96_apply]
    have e : idx_main_v96 (ix3 i l j) = ix3 (0 : Fin 1) (0 : Fin 1) j := ext3 rfl rfl rfl
    rw [e, val_main_v88_apply, reference_angle_sample]
    rfl
  rw [val_main_v100_apply, val_main_v97_apply, val_main_v99_apply, hc, hs, reference_left_sample, reference_right_sample]
  rfl

/-- The reference's rows of the latent attention's keys and values, of the prompts: the latent row. -/
theorem reference_rows_latent_prompt (x : S4x2048x2048.Idx → EReal) (w : S2x2048x1472.Idx → EReal) (g : S2x256.Idx → EReal) (i : Fin 4) (l : Fin 2048)
    (q : Fin 256) : val_main_v60 (F := Ideal) x w g (ix3 i l ⟨q.val, by omega⟩)
      = norm 0x43800000#32 (fun k : Fin 256 => rowAt x w i l (0 : Fin 2) ⟨1152 + k.val, by omega⟩) (g (ix2 (0 : Fin 2) q)) q := by
  refine (concatenate_pair_apply_left (t := S4x2048x320) (s₁ := S4x2048x256) (s₂ := S4x2048x64) (2 : Fin 3) _ _
    concatenates_S4x2048x256_S4x2048x64_S4x2048x320_d2 (ix3 i l ⟨q.val, by omega⟩) rfl (ix3 i l q) fun a => ?_).trans
    (reference_latent_prompt x w g i l q)
  match a with
  | ⟨0, _⟩ => rfl
  | ⟨1, _⟩ => rfl
  | ⟨2, _⟩ => rfl

theorem reference_rows_key_prompt (x : S4x2048x2048.Idx → EReal) (w : S2x2048x1472.Idx → EReal) (g : S2x256.Idx → EReal) (i : Fin 4) (l : Fin 2048)
    (q : Fin 64) : val_main_v60 (F := Ideal) x w g (ix3 i l ⟨256 + q.val, by omega⟩) = val_main_v59 (F := Ideal) x w (ix3 i l q) := by
  refine concatenate_pair_apply_right (t := S4x2048x320) (s₁ := S4x2048x256) (s₂ := S4x2048x64) (2 : Fin 3) _ _
    concatenates_S4x2048x256_S4x2048x64_S4x2048x320_d2 (ix3 i l ⟨256 + q.val, by omega⟩) rfl rfl (ix3 i l q) (fun a ha => ?_) ?_
  · match a with
    | ⟨0, _⟩ => rfl
    | ⟨1, _⟩ => rfl
    | ⟨2, _⟩ => exact absurd rfl ha
  · show q.val + 256 = 256 + q.val
    omega

/-- The first half of the turned key. -/
theorem reference_rows_low_prompt (x : S4x2048x2048.Idx → EReal) (w : S2x2048x1472.Idx → EReal) (g : S2x256.Idx → EReal) (i : Fin 4) (l : Fin 2048)
    (j : Fin 32) : val_main_v60 (F := Ideal) x w g (ix3 i l ⟨256 + j.val, by omega⟩)
      = turnLow (fun k : Fin 64 => rowAt x w i l (0 : Fin 2) ⟨1408 + k.val, by omega⟩) (BitVec.ofNat 32 l.val) j := by
  refine (reference_rows_key_prompt x w g i l ⟨j.val, by omega⟩).trans ?_
  refine (concatenate_pair_apply_left (t := S4x2048x64) (s₁ := S4x2048x32) (s₂ := S4x2048x32) (2 : Fin 3) _ _
    concatenates_S4x2048x32_S4x2048x32_S4x2048x64_d2 (ix3 i l ⟨j.val, by omega⟩) rfl (ix3 i l j) fun a => ?_).trans
    (reference_low_prompt x w i l j)
  match a with
  | ⟨0, _⟩ => rfl
  | ⟨1, _⟩ => rfl
  | ⟨2, _⟩ => rfl

/-- The second half of the turned key. -/
theorem reference_rows_high_prompt (x : S4x2048x2048.Idx → EReal) (w : S2x2048x1472.Idx → EReal) (g : S2x256.Idx → EReal) (i : Fin 4) (l : Fin 2048)
    (j : Fin 32) : val_main_v60 (F := Ideal) x w g (ix3 i l ⟨288 + j.val, by omega⟩)
      = turnHigh (fun k : Fin 64 => rowAt x w i l (0 : Fin 2) ⟨1408 + k.val, by omega⟩) (BitVec.ofNat 32 l.val) j := by
  have e : (ix3 i l ⟨288 + j.val, by omega⟩ : S4x2048x320.Idx) = ix3 i l ⟨256 + (32 + j.val), by omega⟩ :=
    ext3 rfl rfl (by show 288 + j.val = 256 + (32 + j.val); omega)
  rw [e]
  refine (reference_rows_key_prompt x w g i l ⟨32 + j.val, by omega⟩).trans ?_
  refine (concatenate_pair_apply_right (t := S4x2048x64) (s₁ := S4x2048x32) (s₂ := S4x2048x32) (2 : Fin 3) _ _
    concatenates_S4x2048x32_S4x2048x32_S4x2048x64_d2 (ix3 i l ⟨32 + j.val, by omega⟩) rfl rfl (ix3 i l j) (fun a ha => ?_) ?_).trans
    (reference_high_prompt x w i l j)
  · match a with
    | ⟨0, _⟩ => rfl
    | ⟨1, _⟩ => rfl
    | ⟨2, _⟩ => exact absurd rfl ha
  · show j.val + 32 = 32 + j.val
    omega

/-- The reference's rows of the latent attention's keys and values, of the samples: the latent row. -/
theorem reference_rows_latent_sample (x : S128x1x2048.Idx → EReal) (w : S2x2048x1472.Idx → EReal) (g : S2x256.Idx → EReal) (i : Fin 128) (l : Fin 1)
    (q : Fin 256) : val_main_v102 (F := Ideal) x w g (ix3 i l ⟨q.val, by omega⟩)
      = norm 0x43800000#32 (fun k : Fin 256 => rowAt x w i l (0 : Fin 2) ⟨1152 + k.val, by omega⟩) (g (ix2 (0 : Fin 2) q)) q := by
  refine (concatenate_pair_apply_left (t := S128x1x320) (s₁ := S128x1x256) (s₂ := S128x1x64) (2 : Fin 3) _ _
    concatenates_S128x1x256_S128x1x64_S128x1x320_d2 (ix3 i l ⟨q.val, by omega⟩) rfl (ix3 i l q) fun a => ?_).trans
    (reference_latent_sample x w g i l q)
  match a with
  | ⟨0, _⟩ => rfl
  | ⟨1, _⟩ => rfl
  | ⟨2, _⟩ => rfl

theorem reference_rows_key_sample (x : S128x1x2048.Idx → EReal) (w : S2x2048x1472.Idx → EReal) (g : S2x256.Idx → EReal) (i : Fin 128) (l : Fin 1)
    (q : Fin 64) : val_main_v102 (F := Ideal) x w g (ix3 i l ⟨256 + q.val, by omega⟩) = val_main_v101 (F := Ideal) x w (ix3 i l q) := by
  refine concatenate_pair_apply_right (t := S128x1x320) (s₁ := S128x1x256) (s₂ := S128x1x64) (2 : Fin 3) _ _
    concatenates_S128x1x256_S128x1x64_S128x1x320_d2 (ix3 i l ⟨256 + q.val, by omega⟩) rfl rfl (ix3 i l q) (fun a ha => ?_) ?_
  · match a with
    | ⟨0, _⟩ => rfl
    | ⟨1, _⟩ => rfl
    | ⟨2, _⟩ => exact absurd rfl ha
  · show q.val + 256 = 256 + q.val
    omega

/-- The first half of the turned key. -/
theorem reference_rows_low_sample (x : S128x1x2048.Idx → EReal) (w : S2x2048x1472.Idx → EReal) (g : S2x256.Idx → EReal) (i : Fin 128) (l : Fin 1)
    (j : Fin 32) : val_main_v102 (F := Ideal) x w g (ix3 i l ⟨256 + j.val, by omega⟩)
      = turnLow (fun k : Fin 64 => rowAt x w i l (0 : Fin 2) ⟨1408 + k.val, by omega⟩) 8192#32 j := by
  refine (reference_rows_key_sample x w g i l ⟨j.val, by omega⟩).trans ?_
  refine (concatenate_pair_apply_left (t := S128x1x64) (s₁ := S128x1x32) (s₂ := S128x1x32) (2 : Fin 3) _ _
    concatenates_S128x1x32_S128x1x32_S128x1x64_d2 (ix3 i l ⟨j.val, by omega⟩) rfl (ix3 i l j) fun a => ?_).trans
    (reference_low_sample x w i l j)
  match a with
  | ⟨0, _⟩ => rfl
  | ⟨1, _⟩ => rfl
  | ⟨2, _⟩ => rfl

/-- The second half of the turned key. -/
theorem reference_rows_high_sample (x : S128x1x2048.Idx → EReal) (w : S2x2048x1472.Idx → EReal) (g : S2x256.Idx → EReal) (i : Fin 128) (l : Fin 1)
    (j : Fin 32) : val_main_v102 (F := Ideal) x w g (ix3 i l ⟨288 + j.val, by omega⟩)
      = turnHigh (fun k : Fin 64 => rowAt x w i l (0 : Fin 2) ⟨1408 + k.val, by omega⟩) 8192#32 j := by
  have e : (ix3 i l ⟨288 + j.val, by omega⟩ : S128x1x320.Idx) = ix3 i l ⟨256 + (32 + j.val), by omega⟩ :=
    ext3 rfl rfl (by show 288 + j.val = 256 + (32 + j.val); omega)
  rw [e]
  refine (reference_rows_key_sample x w g i l ⟨32 + j.val, by omega⟩).trans ?_
  refine (concatenate_pair_apply_right (t := S128x1x64) (s₁ := S128x1x32) (s₂ := S128x1x32) (2 : Fin 3) _ _
    concatenates_S128x1x32_S128x1x32_S128x1x64_d2 (ix3 i l ⟨32 + j.val, by omega⟩) rfl rfl (ix3 i l j) (fun a ha => ?_) ?_).trans
    (reference_high_sample x w i l j)
  · match a with
    | ⟨0, _⟩ => rfl
    | ⟨1, _⟩ => rfl
    | ⟨2, _⟩ => exact absurd rfl ha
  · show j.val + 32 = 32 + j.val
    omega

end Cert.Proof.Odd

end
-- ==== Proof.Odd.Claims.lean ====
/- The claims about the odd layers' input projection and the norms and turned keys after it: the three frames, and the kernel's
   results equal to the reference's over the extended reals. -/
module

public import proofs.«01_k».proof.Defs
public import proofs.«01_k».proof.Proof.Gen.Kernel7
public import proofs.«01_k».proof.Proof.Gen.Kernel7.Frame
public import proofs.«01_k».proof.Proof.Gen.Reference7Ideal
public import proofs.«01_k».proof.Proof.Gen.Reference7Ideal.Run
public import proofs.«01_k».proof.Proof.Odd.Run
public import proofs.«01_k».proof.Proof.Odd.Results
public import proofs.«01_k».proof.Proof.Odd.Reference
public import Idealize.ShloMosaic.Adequacy
public import Idealize.ShloMosaic.Init

@[expose] public section

set_option maxRecDepth 16384

noncomputable section

namespace Cert.Proof.Odd

open Cert.Proof.Rows
open Idealize.ShloMosaic hiding ix1 ix2 ix3 ix4 eq_ix2
open Idealize.ShloMosaic.TcCoe Idealize.ShloMosaic.ValueIdx
open Idealize.SL Idealize.SL.Sem
open scoped BigOperators

section Results

open Cert.Kernel7Ideal Cert.Kernel7Ideal.Gen

variable (m : (ℓ : Loc nD τ sig) → Buf (Elt Ideal) ℓ) (ρ : Dev nD → PrngReg)

/-- A column of 320 is one of the first 256, of the next 32 or of the last 32. -/
theorem column_cases (q : Fin 320) : (∃ k : Fin 256, q = ⟨k.val, by omega⟩) ∨ (∃ j : Fin 32, q = ⟨256 + j.val, by omega⟩)
    ∨ ∃ j : Fin 32, q = ⟨288 + j.val, by omega⟩ := by
  have hq := q.isLt
  by_cases h : q.val < 256
  · exact Or.inl ⟨⟨q.val, h⟩, rfl⟩
  · by_cases h' : q.val < 288
    · exact Or.inr (Or.inl ⟨⟨q.val - 256, by omega⟩, Fin.ext (show q.val = 256 + (q.val - 256) by omega)⟩)
    · exact Or.inr (Or.inr ⟨⟨q.val - 288, by omega⟩, Fin.ext (show q.val = 288 + (q.val - 288) by omega)⟩)

/-- The kernel's results of the prompts are the reference's: the block attention's keys and values. -/
theorem same_block_prompt (c : Dev nD) : W9 m ρ c (Proc.devRef .tc main_v53) = Cert.Reference7Ideal.Read.val_main_v16 (F := Ideal) (m ((c : Thread nD τ).loc main_arg0)) (m ((c : Thread nD τ).loc main_arg2)) := by
  funext y
  obtain ⟨i, l, q, rfl⟩ : ∃ (i : Fin 4) (l : Fin 2048) (q : Fin 128), y = ix3 i l q := ⟨y 0, y 1, y 2, ext3 rfl rfl rfl⟩
  exact (block_prompt m ρ c i l q).trans (reference_block_prompt _ _ i l q).symm

/-- The latent attention's rows. -/
theorem same_rows_prompt (c : Dev nD) : W9 m ρ c (Proc.devRef .tc main_v57) = Cert.Reference7Ideal.Read.val_main_v60 (F := Ideal) (m ((c : Thread nD τ).loc main_arg0)) (m ((c : Thread nD τ).loc main_arg2)) (m ((c : Thread nD τ).loc main_arg4)) := by
  funext y
  obtain ⟨i, l, q, rfl⟩ : ∃ (i : Fin 4) (l : Fin 2048) (q : Fin 320), y = ix3 i l q := ⟨y 0, y 1, y 2, ext3 rfl rfl rfl⟩
  rcases column_cases q with ⟨k, rfl⟩ | ⟨j, rfl⟩ | ⟨j, rfl⟩
  · exact (latent_prompt m ρ c i l k).trans (reference_rows_latent_prompt _ _ _ i l k).symm
  · exact (low_prompt m ρ c i l j).trans (reference_rows_low_prompt _ _ _ i l j).symm
  · exact (high_prompt m ρ c i l j).trans (reference_rows_high_prompt _ _ _ i l j).symm

/-- The latent attention's queries. -/
theorem same_queries_prompt (c : Dev nD) : W9 m ρ c (Proc.devRef .tc main_v61) = Cert.Reference7Ideal.Read.val_main_v117 (F := Ideal) (m ((c : Thread nD τ).loc main_arg0)) (m ((c : Thread nD τ).loc main_arg2)) (m ((c : Thread nD τ).loc main_arg3)) := by
  funext y
  obtain ⟨i, l, q, rfl⟩ : ∃ (i : Fin 4) (l : Fin 2048) (q : Fin 512), y = ix3 i l q := ⟨y 0, y 1, y 2, ext3 rfl rfl rfl⟩
  refine (queries_prompt m ρ c i l q).trans (Eq.symm ?_)
  rw [Cert.Reference7Ideal.Read.val_main_v117_apply]
  exact reference_query_prompt _ _ _ i l q

/-- The kernel's results of the samples are the reference's: the block attention's keys and values. -/
theorem same_block_sample (c : Dev nD) : W9 m ρ c (Proc.devRef .tc main_v55) = Cert.Reference7Ideal.Read.val_main_v17 (F := Ideal) (m ((c : Thread nD τ).loc main_arg1)) (m ((c : Thread nD τ).loc main_arg2)) := by
  funext y
  obtain ⟨i, l, q, rfl⟩ : ∃ (i : Fin 128) (l : Fin 1) (q : Fin 128), y = ix3 i l q := ⟨y 0, y 1, y 2, ext3 rfl rfl rfl⟩
  exact (block_sample m ρ c i l q).trans (reference_block_sample _ _ i l q).symm

/-- The latent attention's rows. -/
theorem same_rows_sample (c : Dev nD) : W9 m ρ c (Proc.devRef .tc main_v59) = Cert.Reference7Ideal.Read.val_main_v102 (F := Ideal) (m ((c : Thread nD τ).loc main_arg1)) (m ((c : Thread nD τ).loc main_arg2)) (m ((c : Thread nD τ).loc main_arg4)) := by
  funext y
  obtain ⟨i, l, q, rfl⟩ : ∃ (i : Fin 128) (l : Fin 1) (q : Fin 320), y = ix3 i l q := ⟨y 0, y 1, y 2, ext3 rfl rfl rfl⟩
  rcases column_cases q with ⟨k, rfl⟩ | ⟨j, rfl⟩ | ⟨j, rfl⟩
  · exact (latent_sample m ρ c i l k).trans (reference_rows_latent_sample _ _ _ i l k).symm
  · exact (low_sample m ρ c i l j).trans (reference_rows_low_sample _ _ _ i l j).symm
  · exact (high_sample m ρ c i l j).trans (reference_rows_high_sample _ _ _ i l j).symm

/-- The latent attention's queries. -/
theorem same_queries_sample (c : Dev nD) : W9 m ρ c (Proc.devRef .tc main_v63) = Cert.Reference7Ideal.Read.val_main_v132 (F := Ideal) (m ((c : Thread nD τ).loc main_arg1)) (m ((c : Thread nD τ).loc main_arg2)) (m ((c : Thread nD τ).loc main_arg3)) := by
  funext y
  obtain ⟨i, l, q, rfl⟩ : ∃ (i : Fin 128) (l : Fin 1) (q : Fin 512), y = ix3 i l q := ⟨y 0, y 1, y 2, ext3 rfl rfl rfl⟩
  refine (queries_sample m ρ c i l q).trans (Eq.symm ?_)
  rw [Cert.Reference7Ideal.Read.val_main_v132_apply]
  exact reference_query_sample _ _ _ i l q

end Results

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2.2.2.2.2.2, sem_eq_zero_of_no_sems (by decide) r.2⟩)
    (Cert.Reference7Ideal.Value.run (F := Ideal) m ρ)

theorem algebraic : Cert.algebraic_Kernel7Ideal_Reference7Ideal := fun m ρ m' ρ' _ hm => by
  refine ⟨fun c => Cert.Reference7Ideal.Read.val_main_v16 (F := Ideal) (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg2)),
    fun c => Cert.Reference7Ideal.Read.val_main_v17 (F := Ideal) (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2)),
    fun c => Cert.Reference7Ideal.Read.val_main_v60 (F := Ideal) (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg4)),
    fun c => Cert.Reference7Ideal.Read.val_main_v102 (F := Ideal) (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg4)),
    fun c => Cert.Reference7Ideal.Read.val_main_v117 (F := Ideal) (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3)),
    fun c => Cert.Reference7Ideal.Read.val_main_v132 (F := Ideal) (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3)), ?_, ?_⟩
  · exact (θ_run Cert.Kernel7Ideal.defs _ _).mono (fun _ h c => ⟨(h c Cert.Kernel7Ideal.main_v53 (by decide)).trans (same_block_prompt m ρ c),
      (h c Cert.Kernel7Ideal.main_v55 (by decide)).trans (same_block_sample m ρ c),
      (h c Cert.Kernel7Ideal.main_v57 (by decide)).trans (same_rows_prompt m ρ c),
      (h c Cert.Kernel7Ideal.main_v59 (by decide)).trans (same_rows_sample m ρ c),
      (h c Cert.Kernel7Ideal.main_v61 (by decide)).trans (same_queries_prompt m ρ c),
      (h c Cert.Kernel7Ideal.main_v63 (by decide)).trans (same_queries_sample m ρ c),
      (h c Cert.Kernel7Ideal.main_arg0 (by decide)).trans (Cert.Kernel7Ideal.Gen.W9_main_arg0 m ρ c),
      (h c Cert.Kernel7Ideal.main_arg1 (by decide)).trans (Cert.Kernel7Ideal.Gen.W9_main_arg1 m ρ c),
      (h c Cert.Kernel7Ideal.main_arg2 (by decide)).trans (Cert.Kernel7Ideal.Gen.W9_main_arg2 m ρ c),
      (h c Cert.Kernel7Ideal.main_arg3 (by decide)).trans (Cert.Kernel7Ideal.Gen.W9_main_arg3 m ρ c),
      (h c Cert.Kernel7Ideal.main_arg4 (by decide)).trans (Cert.Kernel7Ideal.Gen.W9_main_arg4 m ρ c)⟩)
      (run (F := Ideal) m ρ)
  · refine (θ_run Cert.Reference7Ideal.defs _ _).mono (fun _ h c => ?_) (Cert.Reference7Ideal.Value.run (F := Ideal) m' ρ')
    obtain ⟨e0, e1, e2, e3, e4⟩ := hm c
    obtain ⟨h0, h1, h2, h3, h4, h5, hr⟩ := h c
    refine ⟨h0.trans ?_, h1.trans ?_, h2.trans ?_, h3.trans ?_, h4.trans ?_, h5.trans ?_, hr⟩
    · refine (Cert.Reference7Ideal.Read.val_main_v16_eq _ _).trans ?_
      rw [e0, e2]
    · refine (Cert.Reference7Ideal.Read.val_main_v17_eq _ _).trans ?_
      rw [e1, e2]
    · refine (Cert.Reference7Ideal.Read.val_main_v60_eq _ _).trans ?_
      rw [e0, e2, e4]
    · refine (Cert.Reference7Ideal.Read.val_main_v102_eq _ _).trans ?_
      rw [e1, e2, e4]
    · refine (Cert.Reference7Ideal.Read.val_main_v117_eq _ _ _).trans ?_
      rw [e0, e2, e3]
    · refine (Cert.Reference7Ideal.Read.val_main_v132_eq _ _ _).trans ?_
      rw [e1, e2, e3]

end Cert.Proof.Odd

end
-- ==== Proof.OutEven.Value.lean ====
/- The even layers' output projection over the extended reals: the result array is the matrix product. -/
module

public import proofs.«01_k».proof.Proof.Gen.Kernel8Ideal.Frame
public import proofs.«01_k».proof.Proof.Rows
public import Idealize.ShloMosaic.Lib.MatmulPlain
public import Idealize.ShloMosaic.PureOps.Ideal

@[expose] public section

set_option maxRecDepth 16384

noncomputable section

namespace Cert.Proof.OutEven

open Cert.Kernel8Ideal Cert.Kernel8Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- The block product, at an index. -/
theorem product_apply (x : Vec Ideal S640x2048 .bf16) (w : Vec Ideal S2048x512 .bf16) (r : Fin 640) (q : Fin 512) :
    k0_pay1 (F := Ideal) x w (ix2 r q) = ∑ k : Fin 2048, x (ix2 r k) * w (ix2 k q) := by
  unfold k0_pay1
  refine (Ideal.matmul_plain_apply (φ₁ := .bf16) (φ₂ := .bf16) (M := 640) (K := 2048) (N := 512) none _ _ _ r q).trans ?_
  rw [show (constant (F := Ideal) S640x512 .f32 0x00000000#32) (ix2 r q) = (0 : EReal) from Ideal.ofBits_zero_f32, zero_add]
  exact Finset.sum_congr rfl fun k _ => congrArg₂ (· * ·)
    (rfl) (shapeCast_apply w _ (ix2 k q) (ix2 k q) rfl)

/-- What the body leaves, from the blocks it reads. -/
theorem leaves_apply (x : Vec Ideal S640x2048 .bf16) (w : Vec Ideal S2048x512 .bf16) (r : Fin 640) (q : Fin 512) :
    out0_2 (F := Ideal) x w (ix2 r q) = ∑ k : Fin 2048, x (ix2 r k) * w (ix2 k q) := by
  have z : (![0, 0] : Fin 2 → ℕ) = fun _ => 0 := by decide
  unfold out0_2
  rw [View.canon_unit_zero (Val := Elt Ideal) (S := S640x512) z, View.ld_unit_zero (Val := Elt Ideal) (S := S640x2048) z, View.ld_unit_zero (Val := Elt Ideal) (S := S2048x512) z]
  exact product_apply x w r q

variable (m : (ℓ : Loc nD τ sig) → Buf (Elt Ideal) ℓ)

theorem index0 : ∀ t : Fin grid0.N, cc0_transform_0 (grid0.coords t) = ![(grid0.coords t 0).val, 0] := by decide +kernel
theorem index1 : ∀ t : Fin grid0.N, cc0_transform_1 (grid0.coords t) = ![0, (grid0.coords t 1).val] := by decide +kernel
theorem index2 : ∀ t : Fin grid0.N, cc0_transform_2 (grid0.coords t) = ![(grid0.coords t 0).val, (grid0.coords t 1).val] := by decide +kernel

/-- A block of rows, at an index. -/
theorem rows_apply (c : Dev nD) (t : Fin cfg0.N) (r : Fin 640) (k : Fin 2048) (hr : (grid0.coords t 0).val * 640 + r.val < 8320) :
    iblk m c (0 : Fin 3) t (ix2 r k) = V m c main_arg0 (ix2 ⟨(grid0.coords t 0).val * 640 + r.val, hr⟩ k) := by
  refine congrArg (V m c main_arg0) ?_
  have e := index0 t
  refine ext2 ?_ ?_
  · exact (at_block 640 r.val (congrFun e 0) :)
  · exact (at_block_zero 2048 k.val (congrFun e 1) :)

/-- A block of columns of the weight, at an index. -/
theorem weight_apply (c : Dev nD) (t : Fin cfg0.N) (k : Fin 2048) (q : Fin 512) (hq : (grid0.coords t 1).val * 512 + q.val < 2048) :
    iblk m c (1 : Fin 3) t (ix2 k q) = V m c main_v2 (ix2 k ⟨(grid0.coords t 1).val * 512 + q.val, hq⟩) := by
  refine congrArg (V m c main_v2) ?_
  have e := index1 t
  refine ext2 ?_ ?_
  · exact (at_block_zero 2048 k.val (congrFun e 0) :)
  · exact (at_block 512 q.val (congrFun e 1) :)

/-- The place of a result block's index in the array. -/
theorem place_apply (t : Fin cfg0.N) (r : Fin 640) (q : Fin 512) (hr : (grid0.coords t 0).val * 640 + r.val < 8320)
    (hq : (grid0.coords t 1).val * 512 + q.val < 2048) : ((cfg0.win (2 : Fin 3)).blk t).view.emb (ix2 r q)
      = ix2 ⟨(grid0.coords t 0).val * 640 + r.val, hr⟩ ⟨(grid0.coords t 1).val * 512 + q.val, hq⟩ := by
  have e := index2 t
  refine ext2 ?_ ?_
  · exact (at_block 640 r.val (congrFun e 0) :)
  · exact (at_block 512 q.val (congrFun e 1) :)

/-- Every point writes its block back: the next point's block is another. -/
theorem flushes : ∀ t : Fin grid0.N, Pipeline.Window.flushOf grid0 true cc0_transform_2 t = true := by decide +kernel

/-- Every pair of a row tile and a column block is a point's. -/
theorem onto : ∀ (i : Fin 13) (j : Fin 4), ∃ t : Fin grid0.N, (grid0.coords t 0).val = i.val ∧ (grid0.coords t 1).val = j.val := by
  decide +kernel

/-- The result's blocks cover it. -/
theorem cover (y : S8320x2048.Idx) : ∃ t : Fin cfg0.N, (cfg0.win (2 : Fin 3)).flush t = true ∧ y ∈ ((cfg0.win (2 : Fin 3)).blk t).view.set := by
  have h0 : (y 0).val < 8320 := (y 0).isLt
  have h1 : (y 1).val < 2048 := (y 1).isLt
  obtain ⟨t, e0, e1⟩ := onto ⟨(y 0).val / 640, by omega⟩ ⟨(y 1).val / 512, by omega⟩
  have e0' : (grid0.coords t 0).val = (y 0).val / 640 := e0
  have e1' : (grid0.coords t 1).val = (y 1).val / 512 := e1
  have hr : (grid0.coords t 0).val * 640 + (y 0).val % 640 < 8320 := by omega
  have hq : (grid0.coords t 1).val * 512 + (y 1).val % 512 < 2048 := by omega
  refine ⟨t, flushes t, ?_⟩
  have he := place_apply t ⟨(y 0).val % 640, by omega⟩ ⟨(y 1).val % 512, by omega⟩ hr hq
  have hy : y = ix2 ⟨(grid0.coords t 0).val * 640 + (y 0).val % 640, hr⟩ ⟨(grid0.coords t 1).val * 512 + (y 1).val % 512, hq⟩ :=
    ext2 (by show (y 0).val = (grid0.coords t 0).val * 640 + (y 0).val % 640; omega)
      (by show (y 1).val = (grid0.coords t 1).val * 512 + (y 1).val % 512; omega)
  rw [hy, ← he]
  exact View.emb_mem_set _ _

/-- The array after the write-backs: the matrix product. -/
theorem final (c : Dev nD) : (dats m 0 c).arrAt (2 : Fin 3) cfg0.N = prod (V m c main_arg0) (V m c main_v2) := by
  refine (dats m 0 c).arrAt_eq_of_emb (2 : Fin 3) _ (fun t _ y => ?_) cover
  obtain ⟨r, q, rfl⟩ : ∃ (r : Fin 640) (q : Fin 512), y = ix2 r q := ⟨y 0, y 1, eq_ix2 y⟩
  have h0 : (grid0.coords t 0).val < 13 := (grid0.coords t 0).isLt
  have h1 : (grid0.coords t 1).val < 4 := (grid0.coords t 1).isLt
  have hr : (grid0.coords t 0).val * 640 + r.val < 8320 := by have := r.isLt; omega
  have hq : (grid0.coords t 1).val * 512 + q.val < 2048 := by have := q.isLt; omega
  refine Eq.trans ?_ (congrArg (prod _ _) (place_apply t r q hr hq)).symm
  refine (congrFun (after0_2 m c t) (ix2 r q)).trans ?_
  refine (leaves_apply _ _ r q).trans ?_
  show _ = mul _ _ _ _
  unfold mul
  refine Finset.sum_congr rfl fun k _ => ?_
  rw [rows_apply m c t r k hr, weight_apply m c t k q hq]

end Cert.Proof.OutEven

end
-- ==== Proof.OutEven.Claims.lean ====
/- The claims about the even layers' output projection: the three frames, and the kernel's result equal to the reference's over
   the extended reals. -/
module

public import proofs.«01_k».proof.Defs
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.OutEven.Value
public import Idealize.ShloMosaic.Adequacy
public import Idealize.ShloMosaic.Init

@[expose] public section

set_option maxRecDepth 16384

noncomputable section

namespace Cert.Proof.OutEven

open Cert.Proof.Rows
open Idealize.ShloMosaic hiding ix1 ix2 ix3 ix4 eq_ix2
open Idealize.ShloMosaic.TcCoe Idealize.ShloMosaic.ValueIdx
open Idealize.SL Idealize.SL.Sem
open scoped BigOperators

section Kernel

open Cert.Kernel8Ideal Cert.Kernel8Ideal.Gen

variable (m : (ℓ : Loc nD τ sig) → Buf (Elt Ideal) ℓ)

/-- The weight the region reads, at an index. -/
theorem weight_of (c : Dev nD) (k : Fin 2048) (q : Fin 2048) :
    V m c main_v2 (ix2 k q) = m ((c : Thread nD τ).loc main_arg1) (ix3 (0 : Fin 2) k q) := by
  have e : V m c main_v2 = truncf (F := Ideal) .bf16 (shapeCast _ (extractStridedSlice S1x2048x2048 ![0, 0, 0] (m ((c : Thread nD τ).loc main_arg1))
      slices_S2x2048x2048_S1x2048x2048_0_0_0) shapeCasts_S1x2048x2048_S2048x2048) bitsLt_bf16_f32 := by
    unfold V hostOps0; after_results; rfl
  rw [e]
  refine Eq.trans ?_ (member (0 : Fin 2) (m ((c : Thread nD τ).loc main_arg1)) slices_S2x2048x2048_S1x2048x2048_0_0_0 shapeCasts_S1x2048x2048_S2048x2048 k q)
  rfl

end Kernel

/-- The reference's result is the matrix product. -/
theorem reference (x : Cert.Reference8Ideal.S8320x2048.Idx → EReal) (w : Cert.Reference8Ideal.S2x2048x2048.Idx → EReal)
    (v : (⟨2, ![2048, 2048]⟩ : Shape).Idx → EReal) (hv : ∀ k q, v (ix2 k q) = w (ix3 (0 : Fin 2) k q)) :
    Cert.Reference8Ideal.Read.val_main_v3 (F := Ideal) x w = prod x v := by
  funext y
  obtain ⟨r, q, rfl⟩ : ∃ (r : Fin 8320) (q : Fin 2048), y = ix2 r q := ⟨y 0, y 1, eq_ix2 y⟩
  show _ = ∑ k : Fin 2048, x (ix2 r k) * v (ix2 k q)
  rw [Cert.Reference8Ideal.Read.val_main_v3_apply]
  refine Finset.sum_congr rfl fun k _ => ?_
  rw [Cert.Reference8Ideal.Read.val_main_v0_apply, Cert.Reference8Ideal.Read.val_main_v2_apply, Cert.Reference8Ideal.Read.val_main_v1_apply, hv]
  have hk := k.isLt
  have hq := q.isLt
  refine congrArg₂ (· * ·) (congrArg x (ext2 rfl rfl)) (congrArg w (ext3 rfl ?_ ?_))
  · show (k.val * 2048 + q.val) / 2048 % 2048 = k.val; omega
  · show (k.val * 2048 + q.val) % 2048 = q.val; omega

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := fun m ρ m' ρ' _ hm => by
  refine ⟨fun c => Cert.Reference8Ideal.Read.val_main_v3 (F := Ideal)
    (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1)), ?_, ?_⟩
  · refine (θ_run Cert.Kernel8Ideal.defs _ _).mono (fun _ h c => ⟨?_, (h c).2⟩) (Cert.Kernel8Ideal.Value.run_blocks (F := Ideal) m ρ)
    rw [(h c).1, final m c, Cert.Kernel8Ideal.Gen.V_main_arg0 m c]
    exact (reference _ _ _ (weight_of m c)).symm
  · refine (θ_run Cert.Reference8Ideal.defs _ _).mono (fun _ h c => ⟨?_, (h c).2⟩) (Cert.Reference8Ideal.Value.run (F := Ideal) m' ρ')
    rw [(h c).1, Cert.Reference8Ideal.Read.val_main_v3_eq, (hm c).1, (hm c).2]

end Cert.Proof.OutEven

end
-- ==== Proof.OutOdd.Value.lean ====
/- The odd layers' output projection over the extended reals: the result array is the matrix product. -/
module

public import proofs.«01_k».proof.Proof.Gen.Kernel9Ideal.Frame
public import proofs.«01_k».proof.Proof.Rows
public import Idealize.ShloMosaic.Lib.MatmulPlain
public import Idealize.ShloMosaic.PureOps.Ideal

@[expose] public section

set_option maxRecDepth 16384

noncomputable section

namespace Cert.Proof.OutOdd

open Cert.Kernel9Ideal Cert.Kernel9Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- The block product, at an index. -/
theorem product_apply (x : Vec Ideal S640x1536 .bf16) (w : Vec Ideal S1536x512 .bf16) (r : Fin 640) (q : Fin 512) :
    k0_pay1 (F := Ideal) x w (ix2 r q) = ∑ k : Fin 1536, x (ix2 r k) * w (ix2 k q) := by
  unfold k0_pay1
  refine (Ideal.matmul_plain_apply (φ₁ := .bf16) (φ₂ := .bf16) (M := 640) (K := 1536) (N := 512) none _ _ _ r q).trans ?_
  rw [show (constant (F := Ideal) S640x512 .f32 0x00000000#32) (ix2 r q) = (0 : EReal) from Ideal.ofBits_zero_f32, zero_add]
  exact Finset.sum_congr rfl fun k _ => congrArg₂ (· * ·)
    (rfl) (shapeCast_apply w _ (ix2 k q) (ix2 k q) rfl)

/-- What the body leaves, from the blocks it reads. -/
theorem leaves_apply (x : Vec Ideal S640x1536 .bf16) (w : Vec Ideal S1536x512 .bf16) (r : Fin 640) (q : Fin 512) :
    out0_2 (F := Ideal) x w (ix2 r q) = ∑ k : Fin 1536, x (ix2 r k) * w (ix2 k q) := by
  have z : (![0, 0] : Fin 2 → ℕ) = fun _ => 0 := by decide
  unfold out0_2
  rw [View.canon_unit_zero (Val := Elt Ideal) (S := S640x512) z, View.ld_unit_zero (Val := Elt Ideal) (S := S640x1536) z, View.ld_unit_zero (Val := Elt Ideal) (S := S1536x512) z]
  exact product_apply x w r q

variable (m : (ℓ : Loc nD τ sig) → Buf (Elt Ideal) ℓ)

theorem index0 : ∀ t : Fin grid0.N, cc0_transform_0 (grid0.coords t) = ![(grid0.coords t 0).val, 0] := by decide +kernel
theorem index1 : ∀ t : Fin grid0.N, cc0_transform_1 (grid0.coords t) = ![0, (grid0.coords t 1).val] := by decide +kernel
theorem index2 : ∀ t : Fin grid0.N, cc0_transform_2 (grid0.coords t) = ![(grid0.coords t 0).val, (grid0.coords t 1).val] := by decide +kernel

/-- A block of rows, at an index. -/
theorem rows_apply (c : Dev nD) (t : Fin cfg0.N) (r : Fin 640) (k : Fin 1536) (hr : (grid0.coords t 0).val * 640 + r.val < 8320) :
    iblk m c (0 : Fin 3) t (ix2 r k) = V m c main_arg0 (ix2 ⟨(grid0.coords t 0).val * 640 + r.val, hr⟩ k) := by
  refine congrArg (V m c main_arg0) ?_
  have e := index0 t
  refine ext2 ?_ ?_
  · exact (at_block 640 r.val (congrFun e 0) :)
  · exact (at_block_zero 1536 k.val (congrFun e 1) :)

/-- A block of columns of the weight, at an index. -/
theorem weight_apply (c : Dev nD) (t : Fin cfg0.N) (k : Fin 1536) (q : Fin 512) (hq : (grid0.coords t 1).val * 512 + q.val < 2048) :
    iblk m c (1 : Fin 3) t (ix2 k q) = V m c main_v2 (ix2 k ⟨(grid0.coords t 1).val * 512 + q.val, hq⟩) := by
  refine congrArg (V m c main_v2) ?_
  have e := index1 t
  refine ext2 ?_ ?_
  · exact (at_block_zero 1536 k.val (congrFun e 0) :)
  · exact (at_block 512 q.val (congrFun e 1) :)

/-- The place of a result block's index in the array. -/
theorem place_apply (t : Fin cfg0.N) (r : Fin 640) (q : Fin 512) (hr : (grid0.coords t 0).val * 640 + r.val < 8320)
    (hq : (grid0.coords t 1).val * 512 + q.val < 2048) : ((cfg0.win (2 : Fin 3)).blk t).view.emb (ix2 r q)
      = ix2 ⟨(grid0.coords t 0).val * 640 + r.val, hr⟩ ⟨(grid0.coords t 1).val * 512 + q.val, hq⟩ := by
  have e := index2 t
  refine ext2 ?_ ?_
  · exact (at_block 640 r.val (congrFun e 0) :)
  · exact (at_block 512 q.val (congrFun e 1) :)

/-- Every point writes its block back: the next point's block is another. -/
theorem flushes : ∀ t : Fin grid0.N, Pipeline.Window.flushOf grid0 true cc0_transform_2 t = true := by decide +kernel

/-- Every pair of a row tile and a column block is a point's. -/
theorem onto : ∀ (i : Fin 13) (j : Fin 4), ∃ t : Fin grid0.N, (grid0.coords t 0).val = i.val ∧ (grid0.coords t 1).val = j.val := by
  decide +kernel

/-- The result's blocks cover it. -/
theorem cover (y : S8320x2048.Idx) : ∃ t : Fin cfg0.N, (cfg0.win (2 : Fin 3)).flush t = true ∧ y ∈ ((cfg0.win (2 : Fin 3)).blk t).view.set := by
  have h0 : (y 0).val < 8320 := (y 0).isLt
  have h1 : (y 1).val < 2048 := (y 1).isLt
  obtain ⟨t, e0, e1⟩ := onto ⟨(y 0).val / 640, by omega⟩ ⟨(y 1).val / 512, by omega⟩
  have e0' : (grid0.coords t 0).val = (y 0).val / 640 := e0
  have e1' : (grid0.coords t 1).val = (y 1).val / 512 := e1
  have hr : (grid0.coords t 0).val * 640 + (y 0).val % 640 < 8320 := by omega
  have hq : (grid0.coords t 1).val * 512 + (y 1).val % 512 < 2048 := by omega
  refine ⟨t, flushes t, ?_⟩
  have he := place_apply t ⟨(y 0).val % 640, by omega⟩ ⟨(y 1).val % 512, by omega⟩ hr hq
  have hy : y = ix2 ⟨(grid0.coords t 0).val * 640 + (y 0).val % 640, hr⟩ ⟨(grid0.coords t 1).val * 512 + (y 1).val % 512, hq⟩ :=
    ext2 (by show (y 0).val = (grid0.coords t 0).val * 640 + (y 0).val % 640; omega)
      (by show (y 1).val = (grid0.coords t 1).val * 512 + (y 1).val % 512; omega)
  rw [hy, ← he]
  exact View.emb_mem_set _ _

/-- The array after the write-backs: the matrix product. -/
theorem final (c : Dev nD) : (dats m 0 c).arrAt (2 : Fin 3) cfg0.N = prod (V m c main_arg0) (V m c main_v2) := by
  refine (dats m 0 c).arrAt_eq_of_emb (2 : Fin 3) _ (fun t _ y => ?_) cover
  obtain ⟨r, q, rfl⟩ : ∃ (r : Fin 640) (q : Fin 512), y = ix2 r q := ⟨y 0, y 1, eq_ix2 y⟩
  have h0 : (grid0.coords t 0).val < 13 := (grid0.coords t 0).isLt
  have h1 : (grid0.coords t 1).val < 4 := (grid0.coords t 1).isLt
  have hr : (grid0.coords t 0).val * 640 + r.val < 8320 := by have := r.isLt; omega
  have hq : (grid0.coords t 1).val * 512 + q.val < 2048 := by have := q.isLt; omega
  refine Eq.trans ?_ (congrArg (prod _ _) (place_apply t r q hr hq)).symm
  refine (congrFun (after0_2 m c t) (ix2 r q)).trans ?_
  refine (leaves_apply _ _ r q).trans ?_
  show _ = mul _ _ _ _
  unfold mul
  refine Finset.sum_congr rfl fun k _ => ?_
  rw [rows_apply m c t r k hr, weight_apply m c t k q hq]

end Cert.Proof.OutOdd

end
-- ==== Proof.OutOdd.Claims.lean ====
/- The claims about the odd layers' output projection: the three frames, and the kernel's result equal to the reference's over
   the extended reals. -/
module

public import proofs.«01_k».proof.Defs
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.OutOdd.Value
public import Idealize.ShloMosaic.Adequacy
public import Idealize.ShloMosaic.Init

@[expose] public section

set_option maxRecDepth 16384

noncomputable section

namespace Cert.Proof.OutOdd

open Cert.Proof.Rows
open Idealize.ShloMosaic hiding ix1 ix2 ix3 ix4 eq_ix2
open Idealize.ShloMosaic.TcCoe Idealize.ShloMosaic.ValueIdx
open Idealize.SL Idealize.SL.Sem
open scoped BigOperators

section Kernel

open Cert.Kernel9Ideal Cert.Kernel9Ideal.Gen

variable (m : (ℓ : Loc nD τ sig) → Buf (Elt Ideal) ℓ)

/-- The weight the region reads, at an index. -/
theorem weight_of (c : Dev nD) (k : Fin 1536) (q : Fin 2048) :
    V m c main_v2 (ix2 k q) = m ((c : Thread nD τ).loc main_arg1) (ix3 (0 : Fin 2) k q) := by
  have e : V m c main_v2 = truncf (F := Ideal) .bf16 (shapeCast _ (extractStridedSlice S1x1536x2048 ![0, 0, 0] (m ((c : Thread nD τ).loc main_arg1))
      slices_S2x1536x2048_S1x1536x2048_0_0_0) shapeCasts_S1x1536x2048_S1536x2048) bitsLt_bf16_f32 := by
    unfold V hostOps0; after_results; rfl
  rw [e]
  refine Eq.trans ?_ (member (0 : Fin 2) (m ((c : Thread nD τ).loc main_arg1)) slices_S2x1536x2048_S1x1536x2048_0_0_0 shapeCasts_S1x1536x2048_S1536x2048 k q)
  rfl

end Kernel

/-- The reference's result is the matrix product. -/
theorem reference (x : Cert.Reference9Ideal.S8320x1536.Idx → EReal) (w : Cert.Reference9Ideal.S2x1536x2048.Idx → EReal)
    (v : (⟨2, ![1536, 2048]⟩ : Shape).Idx → EReal) (hv : ∀ k q, v (ix2 k q) = w (ix3 (0 : Fin 2) k q)) :
    Cert.Reference9Ideal.Read.val_main_v3 (F := Ideal) x w = prod x v := by
  funext y
  obtain ⟨r, q, rfl⟩ : ∃ (r : Fin 8320) (q : Fin 2048), y = ix2 r q := ⟨y 0, y 1, eq_ix2 y⟩
  show _ = ∑ k : Fin 1536, x (ix2 r k) * v (ix2 k q)
  rw [Cert.Reference9Ideal.Read.val_main_v3_apply]
  refine Finset.sum_congr rfl fun k _ => ?_
  rw [Cert.Reference9Ideal.Read.val_main_v0_apply, Cert.Reference9Ideal.Read.val_main_v2_apply, Cert.Reference9Ideal.Read.val_main_v1_apply, hv]
  have hk := k.isLt
  have hq := q.isLt
  refine congrArg₂ (· * ·) (congrArg x (ext2 rfl rfl)) (congrArg w (ext3 rfl ?_ ?_))
  · show (k.val * 2048 + q.val) / 2048 % 1536 = k.val; omega
  · show (k.val * 2048 + q.val) % 2048 = q.val; omega

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := fun m ρ m' ρ' _ hm => by
  refine ⟨fun c => Cert.Reference9Ideal.Read.val_main_v3 (F := Ideal)
    (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1)), ?_, ?_⟩
  · refine (θ_run Cert.Kernel9Ideal.defs _ _).mono (fun _ h c => ⟨?_, (h c).2⟩) (Cert.Kernel9Ideal.Value.run_blocks (F := Ideal) m ρ)
    rw [(h c).1, final m c, Cert.Kernel9Ideal.Gen.V_main_arg0 m c]
    exact (reference _ _ _ (weight_of m c)).symm
  · refine (θ_run Cert.Reference9Ideal.defs _ _).mono (fun _ h c => ⟨?_, (h c).2⟩) (Cert.Reference9Ideal.Value.run (F := Ideal) m' ρ')
    rw [(h c).1, Cert.Reference9Ideal.Read.val_main_v3_eq, (hm c).1, (hm c).2]

end Cert.Proof.OutOdd

end
-- ==== Proof.Query.Value.lean ====
/- The up-projection of the latent queries over the extended reals: the result array is the matrix product. -/
module

public import proofs.«01_k».proof.Proof.Gen.Kernel10Ideal.Frame
public import proofs.«01_k».proof.Proof.Rows
public import Idealize.ShloMosaic.Lib.MatmulPlain
public import Idealize.ShloMosaic.PureOps.Ideal

@[expose] public section

set_option maxRecDepth 16384

noncomputable section

namespace Cert.Proof.Query

open Cert.Kernel10Ideal Cert.Kernel10Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- The block product, at an index. -/
theorem product_apply (x : Vec Ideal S640x512 .bf16) (w : Vec Ideal S512x512 .bf16) (r : Fin 640) (q : Fin 512) :
    k0_pay1 (F := Ideal) x w (ix2 r q) = ∑ k : Fin 512, x (ix2 r k) * w (ix2 k q) := by
  unfold k0_pay1
  refine (Ideal.matmul_plain_apply (φ₁ := .bf16) (φ₂ := .bf16) (M := 640) (K := 512) (N := 512) none _ _ _ r q).trans ?_
  rw [show (constant (F := Ideal) S640x512 .f32 0x00000000#32) (ix2 r q) = (0 : EReal) from Ideal.ofBits_zero_f32, zero_add]
  exact Finset.sum_congr rfl fun k _ => congrArg₂ (· * ·)
    (rfl) (shapeCast_apply w _ (ix2 k q) (ix2 k q) rfl)

/-- What the body leaves, from the blocks it reads. -/
theorem leaves_apply (x : Vec Ideal S640x512 .bf16) (w : Vec Ideal S512x512 .bf16) (r : Fin 640) (q : Fin 512) :
    out0_2 (F := Ideal) x w (ix2 r q) = ∑ k : Fin 512, x (ix2 r k) * w (ix2 k q) := by
  have z : (![0, 0] : Fin 2 → ℕ) = fun _ => 0 := by decide
  unfold out0_2
  rw [View.canon_unit_zero (Val := Elt Ideal) (S := S640x512) z, View.ld_unit_zero (Val := Elt Ideal) (S := S640x512) z, View.ld_unit_zero (Val := Elt Ideal) (S := S512x512) z]
  exact product_apply x w r q

variable (m : (ℓ : Loc nD τ sig) → Buf (Elt Ideal) ℓ)

theorem index0 : ∀ t : Fin grid0.N, cc0_transform_0 (grid0.coords t) = ![(grid0.coords t 0).val, 0] := by decide +kernel
theorem index1 : ∀ t : Fin grid0.N, cc0_transform_1 (grid0.coords t) = ![0, (grid0.coords t 1).val] := by decide +kernel
theorem index2 : ∀ t : Fin grid0.N, cc0_transform_2 (grid0.coords t) = ![(grid0.coords t 0).val, (grid0.coords t 1).val] := by decide +kernel

/-- A block of rows, at an index. -/
theorem rows_apply (c : Dev nD) (t : Fin cfg0.N) (r : Fin 640) (k : Fin 512) (hr : (grid0.coords t 0).val * 640 + r.val < 8320) :
    iblk m c (0 : Fin 3) t (ix2 r k) = V m c main_arg0 (ix2 ⟨(grid0.coords t 0).val * 640 + r.val, hr⟩ k) := by
  refine congrArg (V m c main_arg0) ?_
  have e := index0 t
  refine ext2 ?_ ?_
  · exact (at_block 640 r.val (congrFun e 0) :)
  · exact (at_block_zero 512 k.val (congrFun e 1) :)

/-- A block of columns of the weight, at an index. -/
theorem weight_apply (c : Dev nD) (t : Fin cfg0.N) (k : Fin 512) (q : Fin 512) (hq : (grid0.coords t 1).val * 512 + q.val < 2048) :
    iblk m c (1 : Fin 3) t (ix2 k q) = V m c main_v9 (ix2 k ⟨(grid0.coords t 1).val * 512 + q.val, hq⟩) := by
  refine congrArg (V m c main_v9) ?_
  have e := index1 t
  refine ext2 ?_ ?_
  · exact (at_block_zero 512 k.val (congrFun e 0) :)
  · exact (at_block 512 q.val (congrFun e 1) :)

/-- The place of a result block's index in the array. -/
theorem place_apply (t : Fin cfg0.N) (r : Fin 640) (q : Fin 512) (hr : (grid0.coords t 0).val * 640 + r.val < 8320)
    (hq : (grid0.coords t 1).val * 512 + q.val < 2048) : ((cfg0.win (2 : Fin 3)).blk t).view.emb (ix2 r q)
      = ix2 ⟨(grid0.coords t 0).val * 640 + r.val, hr⟩ ⟨(grid0.coords t 1).val * 512 + q.val, hq⟩ := by
  have e := index2 t
  refine ext2 ?_ ?_
  · exact (at_block 640 r.val (congrFun e 0) :)
  · exact (at_block 512 q.val (congrFun e 1) :)

/-- Every point writes its block back: the next point's block is another. -/
theorem flushes : ∀ t : Fin grid0.N, Pipeline.Window.flushOf grid0 true cc0_transform_2 t = true := by decide +kernel

/-- Every pair of a row tile and a column block is a point's. -/
theorem onto : ∀ (i : Fin 13) (j : Fin 4), ∃ t : Fin grid0.N, (grid0.coords t 0).val = i.val ∧ (grid0.coords t 1).val = j.val := by
  decide +kernel

/-- The result's blocks cover it. -/
theorem cover (y : S8320x2048.Idx) : ∃ t : Fin cfg0.N, (cfg0.win (2 : Fin 3)).flush t = true ∧ y ∈ ((cfg0.win (2 : Fin 3)).blk t).view.set := by
  have h0 : (y 0).val < 8320 := (y 0).isLt
  have h1 : (y 1).val < 2048 := (y 1).isLt
  obtain ⟨t, e0, e1⟩ := onto ⟨(y 0).val / 640, by omega⟩ ⟨(y 1).val / 512, by omega⟩
  have e0' : (grid0.coords t 0).val = (y 0).val / 640 := e0
  have e1' : (grid0.coords t 1).val = (y 1).val / 512 := e1
  have hr : (grid0.coords t 0).val * 640 + (y 0).val % 640 < 8320 := by omega
  have hq : (grid0.coords t 1).val * 512 + (y 1).val % 512 < 2048 := by omega
  refine ⟨t, flushes t, ?_⟩
  have he := place_apply t ⟨(y 0).val % 640, by omega⟩ ⟨(y 1).val % 512, by omega⟩ hr hq
  have hy : y = ix2 ⟨(grid0.coords t 0).val * 640 + (y 0).val % 640, hr⟩ ⟨(grid0.coords t 1).val * 512 + (y 1).val % 512, hq⟩ :=
    ext2 (by show (y 0).val = (grid0.coords t 0).val * 640 + (y 0).val % 640; omega)
      (by show (y 1).val = (grid0.coords t 1).val * 512 + (y 1).val % 512; omega)
  rw [hy, ← he]
  exact View.emb_mem_set _ _

/-- The array after the write-backs: the matrix product. -/
theorem final (c : Dev nD) : (dats m 0 c).arrAt (2 : Fin 3) cfg0.N = prod (V m c main_arg0) (V m c main_v9) := by
  refine (dats m 0 c).arrAt_eq_of_emb (2 : Fin 3) _ (fun t _ y => ?_) cover
  obtain ⟨r, q, rfl⟩ : ∃ (r : Fin 640) (q : Fin 512), y = ix2 r q := ⟨y 0, y 1, eq_ix2 y⟩
  have h0 : (grid0.coords t 0).val < 13 := (grid0.coords t 0).isLt
  have h1 : (grid0.coords t 1).val < 4 := (grid0.coords t 1).isLt
  have hr : (grid0.coords t 0).val * 640 + r.val < 8320 := by have := r.isLt; omega
  have hq : (grid0.coords t 1).val * 512 + q.val < 2048 := by have := q.isLt; omega
  refine Eq.trans ?_ (congrArg (prod _ _) (place_apply t r q hr hq)).symm
  refine (congrFun (after0_2 m c t) (ix2 r q)).trans ?_
  refine (leaves_apply _ _ r q).trans ?_
  show _ = mul _ _ _ _
  unfold mul
  refine Finset.sum_congr rfl fun k _ => ?_
  rw [rows_apply m c t r k hr, weight_apply m c t k q hq]

end Cert.Proof.Query

end
-- ==== Proof.Query.Host.lean ====
/- The host operations around the up-projection of the latent queries: the weight the region reads, its columns ordered by
   half and head, and the two results after it, from the arguments. -/
module

public import proofs.«01_k».proof.Proof.Query.Value
public import Idealize.ShloMosaic.Lib.KernelVsHost

@[expose] public section

set_option maxRecDepth 16384

noncomputable section

namespace Cert.Proof.Query

open Cert.Kernel10Ideal Cert.Kernel10Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- The first member of the stack of weights, its columns split by head. -/
def split (w : S2x512x1536.Idx → EReal) : S512x8x192.Idx → EReal :=
  shapeCast S512x8x192 (shapeCast S512x1536 (extractStridedSlice S1x512x1536 ![0, 0, 0] w slices_S2x512x1536_S1x512x1536_0_0_0)
    shapeCasts_S1x512x1536_S512x1536) shapeCasts_S512x1536_S512x8x192

theorem split_apply (w : S2x512x1536.Idx → EReal) (k : Fin 512) (h : Fin 8) (q : Fin 192) :
    split w (ix3 k h q) = w (ix3 (0 : Fin 2) k ⟨h.val * 192 + q.val, by omega⟩) := by
  unfold split
  refine (shapeCast_apply _ shapeCasts_S512x1536_S512x8x192 (ix3 k h q) (ix2 k ⟨h.val * 192 + q.val, by omega⟩) ?_).trans ?_
  · rw [Shape.rowMajor_val_three, Shape.rowMajor_val_two]
    show k.val * 1536 + (h.val * 192 + q.val) = (k.val * 8 + h.val) * 192 + q.val
    omega
  · exact member (0 : Fin 2) w slices_S2x512x1536_S1x512x1536_0_0_0 shapeCasts_S1x512x1536_S512x1536 k _

variable (m : (ℓ : Loc nD τ sig) → Buf (Elt Ideal) ℓ)

/-- The weight the region reads: every head's first 128 columns, then every head's last 64 padded to 128. -/
theorem weight_eq (c : Dev nD) : V m c main_v9 = truncf (F := Ideal) .bf16 (concatenate S512x2048 1
      [⟨S512x1024, shapeCast S512x1024 (extractStridedSlice S512x8x128 ![0, 0, 0] (split (m ((c : Thread nD τ).loc main_arg1)))
          slices_S512x8x192_S512x8x128_0_0_0) shapeCasts_S512x8x128_S512x1024⟩,
        ⟨S512x1024, shapeCast S512x1024 (pad S512x8x128 ![0, 0, 0] ![0, 0, 64] ![0, 0, 0]
          (extractStridedSlice S512x8x64 ![0, 0, 128] (split (m ((c : Thread nD τ).loc main_arg1))) slices_S512x8x192_S512x8x64_0_0_128)
          (sitofp (F := Ideal) .f32 (constantI S_ 32 0#32)) pads_S512x8x64_S512x8x128_000_000_0640 h_S_) shapeCasts_S512x8x128_S512x1024⟩]
      concatenates_S512x1024_S512x1024_S512x2048_d1) bitsLt_bf16_f32 := by
  unfold V V0 split
  simp only [hostOps0, hostOps0_1, hostOps0_2, List.flatten_cons, List.flatten_nil, List.append_nil,
    List.cons_append, List.nil_append]
  after_results; rfl

/-- A column of the first half: the head's column of the argument. -/
theorem weight_first (c : Dev nD) (k : Fin 512) (h : Fin 8) (q : Fin 128) :
    V m c main_v9 (ix2 k ⟨h.val * 128 + q.val, by omega⟩)
      = m ((c : Thread nD τ).loc main_arg1) (ix3 (0 : Fin 2) k ⟨h.val * 192 + q.val, by omega⟩) := by
  rw [weight_eq]
  refine Eq.trans ?_ (split_apply (m ((c : Thread nD τ).loc main_arg1)) k h ⟨q.val, by omega⟩)
  refine (concatenate_pair_apply_left (t := S512x2048) (s₁ := S512x1024) (s₂ := S512x1024) (1 : Fin 2) _ _
    concatenates_S512x1024_S512x1024_S512x2048_d1 _ rfl (ix2 k ⟨h.val * 128 + q.val, by omega⟩) (fun a => ?_)).trans ?_
  · match a with
    | ⟨0, _⟩ => rfl
    | ⟨1, _⟩ => rfl
  refine (shapeCast_apply _ shapeCasts_S512x8x128_S512x1024 _ (ix3 k h q) ?_).trans ?_
  · rw [Shape.rowMajor_val_three, Shape.rowMajor_val_two]
    show (k.val * 8 + h.val) * 128 + q.val = k.val * 1024 + (h.val * 128 + q.val)
    omega
  refine extractStridedSlice_apply _ _ slices_S512x8x192_S512x8x128_0_0_0 _ (ix3 k h ⟨q.val, by omega⟩) fun a => ?_
  match a with
  | ⟨0, _⟩ => exact (Nat.zero_add _).symm
  | ⟨1, _⟩ => exact (Nat.zero_add _).symm
  | ⟨2, _⟩ => exact (Nat.zero_add _).symm

/-- A column of the second half, before the padding: the head's column of the argument, past its first 128. -/
theorem weight_second (c : Dev nD) (k : Fin 512) (h : Fin 8) (q : Fin 64) :
    V m c main_v9 (ix2 k ⟨1024 + (h.val * 128 + q.val), by omega⟩)
      = m ((c : Thread nD τ).loc main_arg1) (ix3 (0 : Fin 2) k ⟨h.val * 192 + (128 + q.val), by omega⟩) := by
  rw [weight_eq]
  refine Eq.trans ?_ (split_apply (m ((c : Thread nD τ).loc main_arg1)) k h ⟨128 + q.val, by omega⟩)
  refine (concatenate_pair_apply_right (t := S512x2048) (s₁ := S512x1024) (s₂ := S512x1024) (1 : Fin 2) _ _
    concatenates_S512x1024_S512x1024_S512x2048_d1 _ rfl rfl (ix2 k ⟨h.val * 128 + q.val, by omega⟩) (fun a ha => ?_) ?_).trans ?_
  · match a with
    | ⟨0, _⟩ => rfl
    | ⟨1, _⟩ => exact absurd rfl ha
  · show h.val * 128 + q.val + 1024 = 1024 + (h.val * 128 + q.val)
    omega
  refine (shapeCast_apply _ shapeCasts_S512x8x128_S512x1024 _ (ix3 k h (⟨q.val, by omega⟩ : Fin 128)) ?_).trans ?_
  · rw [Shape.rowMajor_val_three, Shape.rowMajor_val_two]
    show (k.val * 8 + h.val) * 128 + q.val = k.val * 1024 + (h.val * 128 + q.val)
    omega
  refine (pad_apply_of_inside (s := S512x8x64) (t := S512x8x128) _ _ _ _ _ pads_S512x8x64_S512x8x128_000_000_0640 h_S_ _ (ix3 k h q) fun a => ?_).trans ?_
  · match a with
    | ⟨0, _⟩ => show k.val = 0 + k.val * 1; omega
    | ⟨1, _⟩ => show h.val = 0 + h.val * 1; omega
    | ⟨2, _⟩ => show q.val = 0 + q.val * 1; omega
  refine extractStridedSlice_apply _ _ slices_S512x8x192_S512x8x64_0_0_128 _ (ix3 k h ⟨128 + q.val, by omega⟩) fun a => ?_
  match a with
  | ⟨0, _⟩ => exact (Nat.zero_add _).symm
  | ⟨1, _⟩ => exact (Nat.zero_add _).symm
  | ⟨2, _⟩ => rfl

/-- The first result after the region, from the region's array. -/
theorem first_tail (c : Dev nD) : Pipeline.afterTail₀ cfgs (dats m) 0 (V0 m) [hostOps1] c main_v13
    = shapeCast S8320x8x128 (extractStridedSlice S8320x1x8x128 ![0, 0, 0, 0] (shapeCast S8320x2x8x128
        (prod (V m c main_arg0) (V m c main_v9)) shapeCasts_S8320x2048_S8320x2x8x128) slices_S8320x2x8x128_S8320x1x8x128_0_0_0_0)
        shapeCasts_S8320x1x8x128_S8320x8x128 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

theorem second_tail (c : Dev nD) : Pipeline.afterTail₀ cfgs (dats m) 0 (V0 m) [hostOps1] c main_v15
    = shapeCast S8320x8x64 (extractStridedSlice S8320x1x8x64 ![0, 1, 0, 0] (shapeCast S8320x2x8x128
        (prod (V m c main_arg0) (V m c main_v9)) shapeCasts_S8320x2048_S8320x2x8x128) slices_S8320x2x8x128_S8320x1x8x64_0_1_0_0)
        shapeCasts_S8320x1x8x64_S8320x8x64 := by
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]
  rfl

/-- A row times a column of the first member of the stack of weights. -/
def entry (x : S8320x512.Idx → EReal) (w : S2x512x1536.Idx → EReal) (r : Fin 8320) (c : Fin 1536) : EReal :=
  ∑ k : Fin 512, x (ix2 r k) * w (ix3 (0 : Fin 2) k c)

theorem prod_entry {x : S8320x512.Idx → EReal} {v : S512x2048.Idx → EReal} {w : S2x512x1536.Idx → EReal} {r : Fin 8320} {q : Fin 2048}
    {c : Fin 1536} (hv : ∀ k, v (ix2 k q) = w (ix3 (0 : Fin 2) k c)) : prod x v (ix2 r q) = entry x w r c := by
  show (∑ k : Fin 512, x (ix2 r k) * v (ix2 k q)) = ∑ k : Fin 512, x (ix2 r k) * w (ix3 (0 : Fin 2) k c)
  exact Finset.sum_congr rfl fun k _ => congrArg (x (ix2 r k) * ·) (hv k)

/-- The first result, at an index. -/
theorem first_apply (c : Dev nD) (r : Fin 8320) (h : Fin 8) (q : Fin 128) :
    Pipeline.afterTail₀ cfgs (dats m) 0 (V0 m) [hostOps1] c main_v13 (ix3 r h q)
      = entry (m ((c : Thread nD τ).loc main_arg0)) (m ((c : Thread nD τ).loc main_arg1)) r ⟨h.val * 192 + q.val, by omega⟩ := by
  rw [first_tail]
  refine (shapeCast_apply _ shapeCasts_S8320x1x8x128_S8320x8x128 (ix3 r h q) (ix4 r (0 : Fin 1) h q) ?_).trans ?_
  · rw [Shape.rowMajor_val_three, Shape.rowMajor_val_four]
    show ((r.val * 1 + 0) * 8 + h.val) * 128 + q.val = (r.val * 8 + h.val) * 128 + q.val
    omega
  refine (extractStridedSlice_apply _ _ slices_S8320x2x8x128_S8320x1x8x128_0_0_0_0 _ (ix4 r (0 : Fin 2) h q) fun a => ?_).trans ?_
  · match a with
    | ⟨0, _⟩ => exact (Nat.zero_add _).symm
    | ⟨1, _⟩ => rfl
    | ⟨2, _⟩ => exact (Nat.zero_add _).symm
    | ⟨3, _⟩ => exact (Nat.zero_add _).symm
  refine (shapeCast_apply _ shapeCasts_S8320x2048_S8320x2x8x128 _ (ix2 r (⟨h.val * 128 + q.val, by omega⟩ : Fin 2048)) ?_).trans ?_
  · rw [Shape.rowMajor_val_two, Shape.rowMajor_val_four]
    show r.val * 2048 + (h.val * 128 + q.val) = ((r.val * 2 + 0) * 8 + h.val) * 128 + q.val
    omega
  rw [V_main_arg0 m c]
  exact prod_entry fun k => weight_first m c k h q

/-- The second result, at an index. -/
theorem second_apply (c : Dev nD) (r : Fin 8320) (h : Fin 8) (q : Fin 64) :
    Pipeline.afterTail₀ cfgs (dats m) 0 (V0 m) [hostOps1] c main_v15 (ix3 r h q)
      = entry (m ((c : Thread nD τ).loc main_arg0)) (m ((c : Thread nD τ).loc main_arg1)) r ⟨h.val * 192 + (128 + q.val), by omega⟩ := by
  rw [second_tail]
  refine (shapeCast_apply _ shapeCasts_S8320x1x8x64_S8320x8x64 (ix3 r h q) (ix4 r (0 : Fin 1) h q) ?_).trans ?_
  · rw [Shape.rowMajor_val_three, Shape.rowMajor_val_four]
    show ((r.val * 1 + 0) * 8 + h.val) * 64 + q.val = (r.val * 8 + h.val) * 64 + q.val
    omega
  refine (extractStridedSlice_apply _ _ slices_S8320x2x8x128_S8320x1x8x64_0_1_0_0 _
    (ix4 r (1 : Fin 2) h (⟨q.val, by omega⟩ : Fin 128)) fun a => ?_).trans ?_
  · match a with
    | ⟨0, _⟩ => exact (Nat.zero_add _).symm
    | ⟨1, _⟩ => rfl
    | ⟨2, _⟩ => exact (Nat.zero_add _).symm
    | ⟨3, _⟩ => exact (Nat.zero_add _).symm
  refine (shapeCast_apply _ shapeCasts_S8320x2048_S8320x2x8x128 _ (ix2 r (⟨1024 + (h.val * 128 + q.val), by omega⟩ : Fin 2048)) ?_).trans ?_
  · rw [Shape.rowMajor_val_two, Shape.rowMajor_val_four]
    show r.val * 2048 + (1024 + (h.val * 128 + q.val)) = ((r.val * 2 + 1) * 8 + h.val) * 128 + q.val
    omega
  rw [V_main_arg0 m c]
  exact prod_entry fun k => weight_second m c k h q

end Cert.Proof.Query

end
-- ==== Proof.Query.Claims.lean ====
/- The claims about the up-projection of the latent queries: the three frames, and the kernel's two results equal to the
   reference's over the extended reals. -/
module

public import proofs.«01_k».proof.Defs
public import proofs.«01_k».proof.Proof.Gen.Kernel10
public import proofs.«01_k».proof.Proof.Gen.Kernel10.Frame
public import proofs.«01_k».proof.Proof.Gen.Reference10Ideal
public import proofs.«01_k».proof.Proof.Gen.Reference10Ideal.Run
public import proofs.«01_k».proof.Proof.Gen.Reference10Ideal.Read
public import proofs.«01_k».proof.Proof.Query.Host
public import Idealize.ShloMosaic.Adequacy
public import Idealize.ShloMosaic.Init

@[expose] public section

set_option maxRecDepth 16384

noncomputable section

namespace Cert.Proof.Query

open Cert.Proof.Rows
open Idealize.ShloMosaic hiding ix1 ix2 ix3 ix4 eq_ix2
open Idealize.ShloMosaic.TcCoe Idealize.ShloMosaic.ValueIdx
open Idealize.SL Idealize.SL.Sem
open scoped BigOperators

section Reference

open Cert.Reference10Ideal Cert.Reference10Ideal.Read

/-- The reference's product, at a place of a head. -/
theorem product (x : S8320x512.Idx → EReal) (w : S2x512x1536.Idx → EReal) (i : S8320x8x192.Idx) (r : Fin 8320) (h : Fin 8) (q : Fin 192)
    (h0 : (i 0).val = r.val) (h1 : (i 1).val = h.val) (h2 : (i 2).val = q.val) :
    val_main_v4 (F := Ideal) x w i = entry x w r ⟨h.val * 192 + q.val, by omega⟩ := by
  have e : i = ix3 r h q := ext3 h0 h1 h2
  subst e
  rw [val_main_v4_apply, val_main_v3_apply]
  refine Finset.sum_congr rfl fun k _ => ?_
  have hr := r.isLt
  have hh := h.isLt
  have hq := q.isLt
  have hk := k.isLt
  rw [val_main_v0_apply, val_main_v2_apply, val_main_v1_apply]
  refine congrArg₂ (fun a b : EReal => a * b) (congrArg x (ext2 ?_ rfl)) (congrArg w (ext3 rfl ?_ ?_))
  · show ((r.val * 8 + h.val) * 192 + q.val) / 1536 = r.val
    omega
  · show (k.val * 1536 + ((r.val * 8 + h.val) * 192 + q.val) % 1536) / 1536 % 512 = k.val
    omega
  · show (k.val * 1536 + ((r.val * 8 + h.val) * 192 + q.val) % 1536) % 1536 = h.val * 192 + q.val
    omega

theorem reference_first (x : S8320x512.Idx → EReal) (w : S2x512x1536.Idx → EReal) (r : Fin 8320) (h : Fin 8) (q : Fin 128) :
    val_main_v5 (F := Ideal) x w (ix3 r h q) = entry x w r ⟨h.val * 192 + q.val, by omega⟩ := by
  rw [val_main_v5_apply]
  exact product x w _ r h ⟨q.val, by omega⟩ rfl rfl rfl

theorem reference_second (x : S8320x512.Idx → EReal) (w : S2x512x1536.Idx → EReal) (r : Fin 8320) (h : Fin 8) (q : Fin 64) :
    val_main_v6 (F := Ideal) x w (ix3 r h q) = entry x w r ⟨h.val * 192 + (128 + q.val), by omega⟩ := by
  rw [val_main_v6_apply]
  exact product x w _ r h ⟨128 + q.val, by omega⟩ rfl rfl rfl

end Reference

section Results

open Cert.Kernel10Ideal Cert.Kernel10Ideal.Gen

variable (m : (ℓ : Loc nD τ sig) → Buf (Elt Ideal) ℓ)

/-- The kernel's first result is the reference's. -/
theorem first (c : Dev nD) : Pipeline.afterTail₀ cfgs (dats m) 0 (V0 m) [hostOps1] c main_v13
    = Cert.Reference10Ideal.Read.val_main_v5 (F := Ideal) (m ((c : Thread nD τ).loc main_arg0)) (m ((c : Thread nD τ).loc main_arg1)) := by
  funext y
  obtain ⟨r, h, q, rfl⟩ : ∃ (r : Fin 8320) (h : Fin 8) (q : Fin 128), y = ix3 r h q := ⟨y 0, y 1, y 2, ValueIdx.eq_ix3 y⟩
  exact (first_apply m c r h q).trans (reference_first _ _ r h q).symm

/-- The kernel's second result is the reference's. -/
theorem second (c : Dev nD) : Pipeline.afterTail₀ cfgs (dats m) 0 (V0 m) [hostOps1] c main_v15
    = Cert.Reference10Ideal.Read.val_main_v6 (F := Ideal) (m ((c : Thread nD τ).loc main_arg0)) (m ((c : Thread nD τ).loc main_arg1)) := by
  funext y
  obtain ⟨r, h, q, rfl⟩ : ∃ (r : Fin 8320) (h : Fin 8) (q : Fin 64), y = ix3 r h q := ⟨y 0, y 1, y 2, ValueIdx.eq_ix3 y⟩
  exact (second_apply m c r h q).trans (reference_second _ _ r h q).symm

end Results

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem algebraic : Cert.algebraic_Kernel10Ideal_Reference10Ideal := fun m ρ m' ρ' _ hm => by
  refine ⟨fun c => Cert.Reference10Ideal.Read.val_main_v5 (F := Ideal)
      (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1)),
    fun c => Cert.Reference10Ideal.Read.val_main_v6 (F := Ideal)
      (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1)), ?_, ?_⟩
  · exact (θ_run Cert.Kernel10Ideal.defs _ _).mono (fun _ h c => ⟨((h c).2 Cert.Kernel10Ideal.main_v13 (Pipeline.mem_restRefs_of Cert.Kernel10Ideal.main_v13 (by decide) (by decide))).trans
        (first m c),
      ((h c).2 Cert.Kernel10Ideal.main_v15 (Pipeline.mem_restRefs_of Cert.Kernel10Ideal.main_v15 (by decide) (by decide))).trans
        (second m c),
      ((h c).1 0).trans (((Cert.Kernel10Ideal.Gen.dats m 0 c).arrAt_in 0 rfl _).trans
        ((Cert.Kernel10Ideal.Gen.A_eq m c 0).trans (Cert.Kernel10Ideal.Gen.V_main_arg0 m c))),
      ((h c).2 Cert.Kernel10Ideal.main_arg1 (Pipeline.mem_restRefs_of Cert.Kernel10Ideal.main_arg1 (by decide) (by decide))).trans
        (Cert.Kernel10Ideal.Gen.W_main_arg1 m (Cert.Kernel10Ideal.Gen.dats m) c)⟩)
      (Cert.Kernel10Ideal.Gen.run_main (F := Ideal) m ρ)
  · exact (θ_run Cert.Reference10Ideal.defs _ _).mono (fun _ h c => ⟨((h c).1).trans ((Cert.Reference10Ideal.Read.val_main_v5_eq _ _).trans
        (congrArg₂ (Cert.Reference10Ideal.Read.val_main_v5 (F := Ideal)) (hm c).1 (hm c).2)),
      ((h c).2.1).trans ((Cert.Reference10Ideal.Read.val_main_v6_eq _ _).trans
        (congrArg₂ (Cert.Reference10Ideal.Read.val_main_v6 (F := Ideal)) (hm c).1 (hm c).2)),
      (h c).2.2⟩) (Cert.Reference10Ideal.Value.run (F := Ideal) m' ρ')

end Cert.Proof.Query

end
-- ==== Proof.ValueUp.Value.lean ====
/- The value product over the extended reals: each head's columns of the result are that head's columns of the rows times that
   head's matrix of the weight. -/
module

public import proofs.«01_k».proof.Proof.Gen.Kernel11Ideal.Frame
public import proofs.«01_k».proof.Proof.Rows
public import Idealize.ShloMosaic.Lib.MatmulPlain
public import Idealize.ShloMosaic.PureOps.Ideal

@[expose] public section

set_option maxRecDepth 16384

noncomputable section

namespace Cert.Proof.ValueUp

open Cert.Kernel11Ideal Cert.Kernel11Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

theorem ext4 {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j :=
  funext fun d => Fin.ext (by match d with | ⟨0, _⟩ => exact h0 | ⟨1, _⟩ => exact h1 | ⟨2, _⟩ => exact h2 | ⟨3, _⟩ => exact h3)

/-- One head's product, at an index. -/
theorem product_apply (x : Vec Ideal S640x256 .bf16) (w : Vec Ideal S1x256x128 .bf16) (r : Fin 640) (q : Fin 128) :
    matmul (φ₁ := .bf16) (φ₂ := .bf16) dot_S640x256_S256x128_S640x128_1_0_0_1_n_n none x
      (shapeCast S256x128 w shapeCasts_S1x256x128_S256x128) (constant (F := Ideal) S640x128 .f32 0x00000000#32) (ix2 r q)
      = ∑ k : Fin 256, x (ix2 r k) * w (ix3 (0 : Fin 1) k q) := by
  refine (Ideal.matmul_plain_apply (φ₁ := .bf16) (φ₂ := .bf16) (M := 640) (K := 256) (N := 128) none _ _ _ r q).trans ?_
  rw [show (constant (F := Ideal) S640x128 .f32 0x00000000#32) (ix2 r q) = (0 : EReal) from Ideal.ofBits_zero_f32, zero_add]
  refine Finset.sum_congr rfl fun k _ => congrArg₂ (· * ·) rfl
    (shapeCast_apply w shapeCasts_S1x256x128_S256x128 (ix2 k q) (ix3 (0 : Fin 1) k q) ?_)
  rw [Shape.rowMajor_val_three, Shape.rowMajor_val_two]
  show (0 * 256 + k.val) * 128 + q.val = k.val * 128 + q.val
  omega

/-- The result at row `r` and column `q` of head `h`, from `n` rows and the weight. -/
def headAt {n : ℕ} (x : (⟨2, ![n, 2048]⟩ : Shape).Idx → EReal) (w : S8x256x128.Idx → EReal) (r : Fin n) (h : Fin 8) (q : Fin 128) : EReal :=
  ∑ k : Fin 256, x (ix2 r ⟨h.val * 256 + k.val, by omega⟩) * w (ix3 h k q)

/-- The result of `n` rows: column `c` is column `c % 128` of head `c / 128`. -/
def heads {n : ℕ} (x : (⟨2, ![n, 2048]⟩ : Shape).Idx → EReal) (w : S8x256x128.Idx → EReal) : (⟨2, ![n, 1024]⟩ : Shape).Idx → EReal := fun y =>
  headAt x w ⟨(y 0).val, (y 0).isLt⟩ ⟨(y 1).val / 128, by have h : (y 1).val < 1024 := (y 1).isLt; omega⟩
    ⟨(y 1).val % 128, Nat.mod_lt _ (by omega)⟩

/-- The result at a place of a head. -/
theorem heads_apply {n : ℕ} (x : (⟨2, ![n, 2048]⟩ : Shape).Idx → EReal) (w : S8x256x128.Idx → EReal) (y : (⟨2, ![n, 1024]⟩ : Shape).Idx)
    (r : Fin n) (h : Fin 8) (q : Fin 128) (h0 : (y 0).val = r.val) (h1 : (y 1).val = h.val * 128 + q.val) :
    heads x w y = headAt x w r h q := by
  have e0 : (⟨(y 0).val, (y 0).isLt⟩ : Fin n) = r := Fin.ext h0
  have e1 : (⟨(y 1).val / 128, by have h : (y 1).val < 1024 := (y 1).isLt; omega⟩ : Fin 8) = h := Fin.ext (by
    show (y 1).val / 128 = h.val
    have := q.isLt; omega)
  have e2 : (⟨(y 1).val % 128, Nat.mod_lt _ (by omega)⟩ : Fin 128) = q := Fin.ext (by
    show (y 1).val % 128 = q.val
    have := q.isLt; omega)
  show headAt x w _ _ _ = _
  rw [e0, e1, e2]

/-- What the body stores for head `h`, from that head's columns and matrix. -/
theorem piece_apply (h : Fin 8) (x : Vec Ideal S640x2048 .bf16) (w : Vec Ideal S8x256x128 .bf16) (a : Vec Ideal S640x256 .bf16)
    (b : Vec Ideal S1x256x128 .bf16) (ha : ∀ (r : Fin 640) (k : Fin 256), a (ix2 r k) = x (ix2 r ⟨h.val * 256 + k.val, by omega⟩))
    (hb : ∀ (k : Fin 256) (q : Fin 128), b (ix3 (0 : Fin 1) k q) = w (ix3 h k q)) (z : S640x128.Idx) (y : S640x1024.Idx)
    (h0 : (y 0).val = (z 0).val) (h1 : (y 1).val = h.val * 128 + (z 1).val) :
    matmul (φ₁ := .bf16) (φ₂ := .bf16) dot_S640x256_S256x128_S640x128_1_0_0_1_n_n none a
      (shapeCast S256x128 b shapeCasts_S1x256x128_S256x128) (constant (F := Ideal) S640x128 .f32 0x00000000#32) z = heads x w y := by
  obtain ⟨r, q, rfl⟩ : ∃ (r : Fin 640) (q : Fin 128), z = ix2 r q := ⟨z 0, z 1, eq_ix2 z⟩
  rw [product_apply, heads_apply (n := 640) x w y r h q h0 h1]
  exact Finset.sum_congr rfl fun k _ => by rw [ha, hb]

/-- What the body leaves, from the blocks it reads. -/
theorem leaves_apply (x : Vec Ideal S640x2048 .bf16) (w : Vec Ideal S8x256x128 .bf16) (y : S640x1024.Idx) :
    out0_2 (F := Ideal) x w y = heads x w y := by
  unfold out0_2
  refine View.canon_apply_of_pieces (Val := Elt Ideal) (e := .bf16) (S := S640x1024) (heads (n := 640) x w) _ ?_ y (cover0_2 _ _ _ _ _ _ _ _ _)
  intro p hp z
  simp only [List.mem_cons, List.not_mem_nil, or_false] at hp
  rcases hp with rfl | rfl | rfl | rfl | rfl | rfl | rfl | rfl
  · refine piece_apply 7 x w (View.ld x r0_21) (View.ld w r0_22) (fun r k => congrArg x (ext2 ?_ ?_)) (fun k q => congrArg w (ext3 ?_ ?_ ?_)) z _ ?_ ?_
    · show 0 + 1 * r.val = r.val; omega
    · show 1792 + 1 * k.val = 7 * 256 + k.val; omega
    · show 7 + 1 * 0 = 7; rfl
    · show 0 + 1 * k.val = k.val; omega
    · show 0 + 1 * q.val = q.val; omega
    · show 0 + 1 * (z 0).val = (z 0).val; omega
    · show 896 + 1 * (z 1).val = 7 * 128 + (z 1).val; omega
  · refine piece_apply 6 x w (View.ld x r0_18) (View.ld w r0_19) (fun r k => congrArg x (ext2 ?_ ?_)) (fun k q => congrArg w (ext3 ?_ ?_ ?_)) z _ ?_ ?_
    · show 0 + 1 * r.val = r.val; omega
    · show 1536 + 1 * k.val = 6 * 256 + k.val; omega
    · show 6 + 1 * 0 = 6; rfl
    · show 0 + 1 * k.val = k.val; omega
    · show 0 + 1 * q.val = q.val; omega
    · show 0 + 1 * (z 0).val = (z 0).val; omega
    · show 768 + 1 * (z 1).val = 6 * 128 + (z 1).val; omega
  · refine piece_apply 5 x w (View.ld x r0_15) (View.ld w r0_16) (fun r k => congrArg x (ext2 ?_ ?_)) (fun k q => congrArg w (ext3 ?_ ?_ ?_)) z _ ?_ ?_
    · show 0 + 1 * r.val = r.val; omega
    · show 1280 + 1 * k.val = 5 * 256 + k.val; omega
    · show 5 + 1 * 0 = 5; rfl
    · show 0 + 1 * k.val = k.val; omega
    · show 0 + 1 * q.val = q.val; omega
    · show 0 + 1 * (z 0).val = (z 0).val; omega
    · show 640 + 1 * (z 1).val = 5 * 128 + (z 1).val; omega
  · refine piece_apply 4 x w (View.ld x r0_12) (View.ld w r0_13) (fun r k => congrArg x (ext2 ?_ ?_)) (fun k q => congrArg w (ext3 ?_ ?_ ?_)) z _ ?_ ?_
    · show 0 + 1 * r.val = r.val; omega
    · show 1024 + 1 * k.val = 4 * 256 + k.val; omega
    · show 4 + 1 * 0 = 4; rfl
    · show 0 + 1 * k.val = k.val; omega
    · show 0 + 1 * q.val = q.val; omega
    · show 0 + 1 * (z 0).val = (z 0).val; omega
    · show 512 + 1 * (z 1).val = 4 * 128 + (z 1).val; omega
  · refine piece_apply 3 x w (View.ld x r0_9) (View.ld w r0_10) (fun r k => congrArg x (ext2 ?_ ?_)) (fun k q => congrArg w (ext3 ?_ ?_ ?_)) z _ ?_ ?_
    · show 0 + 1 * r.val = r.val; omega
    · show 768 + 1 * k.val = 3 * 256 + k.val; omega
    · show 3 + 1 * 0 = 3; rfl
    · show 0 + 1 * k.val = k.val; omega
    · show 0 + 1 * q.val = q.val; omega
    · show 0 + 1 * (z 0).val = (z 0).val; omega
    · show 384 + 1 * (z 1).val = 3 * 128 + (z 1).val; omega
  · refine piece_apply 2 x w (View.ld x r0_6) (View.ld w r0_7) (fun r k => congrArg x (ext2 ?_ ?_)) (fun k q => congrArg w (ext3 ?_ ?_ ?_)) z _ ?_ ?_
    · show 0 + 1 * r.val = r.val; omega
    · show 512 + 1 * k.val = 2 * 256 + k.val; omega
    · show 2 + 1 * 0 = 2; rfl
    · show 0 + 1 * k.val = k.val; omega
    · show 0 + 1 * q.val = q.val; omega
    · show 0 + 1 * (z 0).val = (z 0).val; omega
    · show 256 + 1 * (z 1).val = 2 * 128 + (z 1).val; omega
  · refine piece_apply 1 x w (View.ld x r0_3) (View.ld w r0_4) (fun r k => congrArg x (ext2 ?_ ?_)) (fun k q => congrArg w (ext3 ?_ ?_ ?_)) z _ ?_ ?_
    · show 0 + 1 * r.val = r.val; omega
    · show 256 + 1 * k.val = 1 * 256 + k.val; omega
    · show 1 + 1 * 0 = 1; rfl
    · show 0 + 1 * k.val = k.val; omega
    · show 0 + 1 * q.val = q.val; omega
    · show 0 + 1 * (z 0).val = (z 0).val; omega
    · show 128 + 1 * (z 1).val = 1 * 128 + (z 1).val; omega
  · refine piece_apply 0 x w (View.ld x r0_0) (View.ld w r0_1) (fun r k => congrArg x (ext2 ?_ ?_)) (fun k q => congrArg w (ext3 ?_ ?_ ?_)) z _ ?_ ?_
    · show 0 + 1 * r.val = r.val; omega
    · show 0 + 1 * k.val = 0 * 256 + k.val; omega
    · show 0 + 1 * 0 = 0; rfl
    · show 0 + 1 * k.val = k.val; omega
    · show 0 + 1 * q.val = q.val; omega
    · show 0 + 1 * (z 0).val = (z 0).val; omega
    · show 0 + 1 * (z 1).val = 0 * 128 + (z 1).val; omega

variable (m : (ℓ : Loc nD τ sig) → Buf (Elt Ideal) ℓ)

theorem index0 : ∀ t : Fin grid0.N, cc0_transform_0 (grid0.coords t) = ![(grid0.coords t 0).val, 0] := by decide +kernel
theorem index1 : ∀ t : Fin grid0.N, cc0_transform_1 (grid0.coords t) = ![0, 0, 0] := by decide +kernel
theorem index2 : ∀ t : Fin grid0.N, cc0_transform_2 (grid0.coords t) = ![(grid0.coords t 0).val, 0] := by decide +kernel

/-- A block of rows, at an index. -/
theorem rows_apply (c : Dev nD) (t : Fin cfg0.N) (r : Fin 640) (k : Fin 2048) (hr : (grid0.coords t 0).val * 640 + r.val < 8320) :
    iblk m c (0 : Fin 3) t (ix2 r k) = V m c main_arg0 (ix2 ⟨(grid0.coords t 0).val * 640 + r.val, hr⟩ k) := by
  refine congrArg (V m c main_arg0) ?_
  have e := index0 t
  refine ext2 ?_ ?_
  · exact (at_block 640 r.val (congrFun e 0) :)
  · exact (at_block_zero 2048 k.val (congrFun e 1) :)

/-- The block of the weight, which is the whole of it, at an index. -/
theorem weight_apply (c : Dev nD) (t : Fin cfg0.N) (h : Fin 8) (k : Fin 256) (q : Fin 128) :
    iblk m c (1 : Fin 3) t (ix3 h k q) = V m c main_v3 (ix3 h k q) := by
  refine congrArg (V m c main_v3) ?_
  have e := index1 t
  refine ext3 ?_ ?_ ?_
  · exact (at_block_zero 8 h.val (congrFun e 0) :)
  · exact (at_block_zero 256 k.val (congrFun e 1) :)
  · exact (at_block_zero 128 q.val (congrFun e 2) :)

/-- The place of a result block's index in the array. -/
theorem place_apply (t : Fin cfg0.N) (r : Fin 640) (q : Fin 1024) (hr : (grid0.coords t 0).val * 640 + r.val < 8320) :
    ((cfg0.win (2 : Fin 3)).blk t).view.emb (ix2 r q) = ix2 ⟨(grid0.coords t 0).val * 640 + r.val, hr⟩ q := by
  have e := index2 t
  refine ext2 ?_ ?_
  · exact (at_block 640 r.val (congrFun e 0) :)
  · exact (at_block_zero 1024 q.val (congrFun e 1) :)

/-- Every point writes its block back: the next point's block is another. -/
theorem flushes : ∀ t : Fin grid0.N, Pipeline.Window.flushOf grid0 true cc0_transform_2 t = true := by decide +kernel

/-- Every row tile is a point's. -/
theorem onto : ∀ i : Fin 13, ∃ t : Fin grid0.N, (grid0.coords t 0).val = i.val := by decide +kernel

/-- The result's blocks cover it. -/
theorem cover (y : S8320x1024.Idx) : ∃ t : Fin cfg0.N, (cfg0.win (2 : Fin 3)).flush t = true ∧ y ∈ ((cfg0.win (2 : Fin 3)).blk t).view.set := by
  have h0 : (y 0).val < 8320 := (y 0).isLt
  have h1 : (y 1).val < 1024 := (y 1).isLt
  obtain ⟨t, e0⟩ := onto ⟨(y 0).val / 640, by omega⟩
  have e0' : (grid0.coords t 0).val = (y 0).val / 640 := e0
  have hr : (grid0.coords t 0).val * 640 + (y 0).val % 640 < 8320 := by omega
  refine ⟨t, flushes t, ?_⟩
  have he := place_apply t ⟨(y 0).val % 640, by omega⟩ ⟨(y 1).val, h1⟩ hr
  have hy : y = ix2 ⟨(grid0.coords t 0).val * 640 + (y 0).val % 640, hr⟩ ⟨(y 1).val, h1⟩ :=
    ext2 (by show (y 0).val = (grid0.coords t 0).val * 640 + (y 0).val % 640; omega) rfl
  rw [hy, ← he]
  exact View.emb_mem_set _ _

/-- The array after the write-backs. -/
theorem final (c : Dev nD) : (dats m 0 c).arrAt (2 : Fin 3) cfg0.N = heads (n := 8320) (V m c main_arg0) (V m c main_v3) := by
  refine (dats m 0 c).arrAt_eq_of_emb (2 : Fin 3) _ (fun t _ y => ?_) cover
  obtain ⟨r, q, rfl⟩ : ∃ (r : Fin 640) (q : Fin 1024), y = ix2 r q := ⟨y 0, y 1, eq_ix2 y⟩
  have h0 : (grid0.coords t 0).val < 13 := (grid0.coords t 0).isLt
  have hr : (grid0.coords t 0).val * 640 + r.val < 8320 := by have := r.isLt; omega
  refine Eq.trans ?_ (congrArg (heads _ _) (place_apply t r q hr)).symm
  refine (congrFun (after0_2 m c t) (ix2 r q)).trans ?_
  refine (leaves_apply _ _ (ix2 r q)).trans ?_
  show headAt _ _ _ _ _ = headAt _ _ _ _ _
  refine Finset.sum_congr rfl fun k _ => ?_
  rw [weight_apply m c t]
  refine congrArg₂ (· * ·) (rows_apply m c t _ _ hr) rfl

end Cert.Proof.ValueUp

end
-- ==== Proof.ValueUp.Claims.lean ====
/- The claims about the value product: the three frames, and the kernel's result equal to the reference's over the extended
   reals. -/
module

public import proofs.«01_k».proof.Defs
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.ValueUp.Value
public import Idealize.ShloMosaic.Adequacy
public import Idealize.ShloMosaic.Init

@[expose] public section

set_option maxRecDepth 16384

noncomputable section

namespace Cert.Proof.ValueUp

open Cert.Proof.Rows
open Idealize.ShloMosaic hiding ix1 ix2 ix3 ix4 eq_ix2
open Idealize.ShloMosaic.TcCoe Idealize.ShloMosaic.ValueIdx
open Idealize.SL Idealize.SL.Sem
open scoped BigOperators

section Kernel

open Cert.Kernel11Ideal Cert.Kernel11Ideal.Gen

variable (m : (ℓ : Loc nD τ sig) → Buf (Elt Ideal) ℓ)

/-- The weight the region reads, at an index: the heads come first. -/
theorem weight_of (c : Dev nD) (h : Fin 8) (k : Fin 256) (q : Fin 128) :
    V m c main_v3 (ix3 h k q) = m ((c : Thread nD τ).loc main_arg1) (ix4 (0 : Fin 2) k h q) := by
  have e : V m c main_v3 = truncf (F := Ideal) .bf16 (transpose S8x256x128 [1, 0, 2] (shapeCast S256x8x128
      (extractStridedSlice S1x256x8x128 ![0, 0, 0, 0] (m ((c : Thread nD τ).loc main_arg1)) slices_S2x256x8x128_S1x256x8x128_0_0_0_0)
      shapeCasts_S1x256x8x128_S256x8x128) transposes_S256x8x128_S8x256x128_1_0_2) bitsLt_bf16_f32 := by
    unfold V hostOps0; after_results; rfl
  rw [e]
  refine (show _ = transpose S8x256x128 [1, 0, 2] (shapeCast S256x8x128
      (extractStridedSlice S1x256x8x128 ![0, 0, 0, 0] (m ((c : Thread nD τ).loc main_arg1)) slices_S2x256x8x128_S1x256x8x128_0_0_0_0)
      shapeCasts_S1x256x8x128_S256x8x128) transposes_S256x8x128_S8x256x128_1_0_2 (ix3 h k q) from rfl).trans ?_
  refine (transpose_apply [1, 0, 2] _ transposes_S256x8x128_S8x256x128_1_0_2 (ix3 h k q) (ix3 k h q) (fun b => match b with
    | ⟨0, _⟩ => rfl
    | ⟨1, _⟩ => rfl
    | ⟨2, _⟩ => rfl)).trans ?_
  refine (shapeCast_apply _ shapeCasts_S1x256x8x128_S256x8x128 (ix3 k h q) (ix4 (0 : Fin 1) k h q) ?_).trans ?_
  · rw [Shape.rowMajor_val_three, Shape.rowMajor_val_four]
    show ((0 * 256 + k.val) * 8 + h.val) * 128 + q.val = (k.val * 8 + h.val) * 128 + q.val
    omega
  refine extractStridedSlice_apply _ _ slices_S2x256x8x128_S1x256x8x128_0_0_0_0 _ (ix4 (0 : Fin 2) k h q) fun a => ?_
  match a with
  | ⟨0, _⟩ => rfl
  | ⟨1, _⟩ => exact (Nat.zero_add _).symm
  | ⟨2, _⟩ => exact (Nat.zero_add _).symm
  | ⟨3, _⟩ => exact (Nat.zero_add _).symm

end Kernel

section Reference

open Cert.Reference11Ideal Cert.Reference11Ideal.Read

/-- The reference's result. -/
theorem reference (x : S8320x2048.Idx → EReal) (w : S2x256x8x128.Idx → EReal) (v : Cert.Kernel11Ideal.S8x256x128.Idx → EReal)
    (hv : ∀ h k q, v (ix3 h k q) = w (ix4 (0 : Fin 2) k h q)) : val_main_v7 (F := Ideal) x w = heads (n := 8320) x v := by
  funext y
  obtain ⟨r, c, rfl⟩ : ∃ (r : Fin 8320) (c : Fin 1024), y = ix2 r c := ⟨y 0, y 1, eq_ix2 y⟩
  have hr := r.isLt
  have hc := c.isLt
  rw [heads_apply (n := 8320) x v (ix2 r c) r ⟨c.val / 128, by omega⟩ ⟨c.val % 128, by omega⟩ rfl
    (by show c.val = c.val / 128 * 128 + c.val % 128; omega)]
  rw [val_main_v7_apply, val_main_v6_apply, val_main_v5_apply, val_main_v4_apply]
  show (∑ k : Fin 256, val_main_v3 (F := Ideal) w (lidx_main_v4 (idx_main_v5 (idx_main_v6 (ix2 r c))) k)
    * val_main_v1 (F := Ideal) x (ridx_main_v4 (idx_main_v5 (idx_main_v6 (ix2 r c))) k)) = _
  refine Finset.sum_congr rfl fun k _ => ?_
  have hk := k.isLt
  rw [val_main_v3_apply, val_main_v2_apply, val_main_v1_apply, val_main_v0_apply, hv]
  refine (mul_comm _ _).trans (congrArg₂ (· * ·) (congrArg x (ext2 ?_ ?_)) (congrArg w (ext4 rfl ?_ ?_ ?_)))
  · show (((r.val * 1024 + c.val) / 1024 * 8 + (r.val * 1024 + c.val) / 128 % 8) * 256 + k.val) / 2048 = r.val
    omega
  · show (((r.val * 1024 + c.val) / 1024 * 8 + (r.val * 1024 + c.val) / 128 % 8) * 256 + k.val) % 2048 = c.val / 128 * 256 + k.val
    omega
  · show ((k.val * 8 + (r.val * 1024 + c.val) / 128 % 8) * 128 + (r.val * 1024 + c.val) % 128) / 1024 % 256 = k.val
    omega
  · show ((k.val * 8 + (r.val * 1024 + c.val) / 128 % 8) * 128 + (r.val * 1024 + c.val) % 128) / 128 % 8 = c.val / 128
    omega
  · show ((k.val * 8 + (r.val * 1024 + c.val) / 128 % 8) * 128 + (r.val * 1024 + c.val) % 128) % 128 = c.val % 128
    omega

end Reference

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := fun m ρ m' ρ' _ hm => by
  refine ⟨fun c => Cert.Reference11Ideal.Read.val_main_v7 (F := Ideal)
    (m ((c.tc : Thread Cert.Kernel11Ideal.nD Cert.Kernel11Ideal.τ).loc Cert.Kernel11Ideal.main_arg0))
    (m ((c.tc : Thread Cert.Kernel11Ideal.nD Cert.Kernel11Ideal.τ).loc Cert.Kernel11Ideal.main_arg1)), ?_, ?_⟩
  · refine (θ_run Cert.Kernel11Ideal.defs _ _).mono (fun _ h c => ⟨?_, (h c).2⟩) (Cert.Kernel11Ideal.Value.run_blocks (F := Ideal) m ρ)
    rw [(h c).1, final m c, Cert.Kernel11Ideal.Gen.V_main_arg0 m c]
    exact (reference _ _ _ (weight_of m c)).symm
  · refine (θ_run Cert.Reference11Ideal.defs _ _).mono (fun _ h c => ⟨?_, (h c).2⟩) (Cert.Reference11Ideal.Value.run (F := Ideal) m' ρ')
    rw [(h c).1, Cert.Reference11Ideal.Read.val_main_v7_eq, (hm c).1, (hm c).2]

end Cert.Proof.ValueUp

end
-- ==== Proof.Norm.Value.lean ====
/- The layer norm of the scaled rows and what is added to them, over the extended reals: what the call's two result arrays hold. -/
module

public import proofs.«01_k».proof.Proof.Gen.Kernel12Ideal.Frame
public import proofs.«01_k».proof.Proof.Rows
public import Idealize.ShloMosaic.Lib.KernelVsHost
public import Idealize.ShloMosaic.Lib.ValueLayout
public import Idealize.ShloMosaic.PureOps.Ideal

@[expose] public section

set_option maxRecDepth 16384

noncomputable section

namespace Cert.Proof.Norm

open Cert.Kernel12Ideal Cert.Kernel12Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- An entry scaled by the fourth root of eight, and what the mixer adds to it. -/
def joined (x h : EReal) : EReal := Ideal.ofBits .f32 0x3FD744FD#32 * x + h

/-- The mean of a row of 2048 entries. -/
def mean (f : Fin 2048 → EReal) : EReal := Ideal.div (∑ k : Fin 2048, f k) (Ideal.ofBits .f32 0x45000000#32)

/-- Entry `q` of the row `f` less the mean, over the root of the variance and a small constant, times a gain, plus a bias. -/
def layer (f : Fin 2048 → EReal) (g b : EReal) (q : Fin 2048) : EReal :=
  (f q - mean f) * Ideal.rsqrt (mean (fun k => (f k - mean f) * (f k - mean f)) + Ideal.ofBits .f32 0x3727C5AC#32) * g + b

/-- A column spread over the lanes, at an index. -/
theorem spread_apply (v : S320x1.Idx → EReal) (h : S320x1.Broadcasts S320x2048) (r : Fin 320) (q : Fin 2048) :
    broadcastTo S320x2048 v h (ix2 r q) = v (ix2 r (0 : Fin 1)) := by
  refine broadcastTo_apply v h (ix2 r q) (ix2 r (0 : Fin 1)) fun a => ?_
  match a with
  | ⟨0, _⟩ => rfl
  | ⟨1, _⟩ => rfl

/-- The sum of a row, kept as a column, at an index. -/
theorem rowSum_apply (x : FVec Ideal S320x2048 .f32) (hφ : FKind.Formats .f32) (ha : 0x00000000#32 = FKind.add.neutral .f32 hφ) (r : Fin 320) :
    shapeCast S320x1 (multiReduction (F := Ideal) (φ := .f32) .add [(1 : Fin 2)] S320 x 0x00000000#32 reduces_S320x2048_S320 hφ ha)
      shapeCasts_S320_S320x1 (ix2 r (0 : Fin 1)) = ∑ k : Fin 2048, x (ix2 r k) := by
  refine (shapeCast_apply _ shapeCasts_S320_S320x1 (ix2 r (0 : Fin 1)) (ix1 r) ?_).trans ?_
  · rw [Shape.rowMajor_val_two, Shape.rowMajor_val_one]
    show r.val = r.val * 1 + 0; omega
  · refine (Ideal.multiReduction_add_single (φ := .f32) (s := S320x2048) (t := S320) (a := (1 : Fin 2)) x 0x00000000#32 reduces_S320x2048_S320 hφ ha (ix1 r)).trans ?_
    refine Finset.sum_congr rfl fun k _ => congrArg x (ext2 rfl rfl)

/-- The rows less their means, as the body computes them. -/
def centred (z : FVec Ideal S320x2048 .f32) : FVec Ideal S320x2048 .f32 :=
  subf z (broadcastTo S320x2048 (divf (shapeCast S320x1 (multiReduction .add [1] S320 z 0x00000000#32 reduces_S320x2048_S320 (.inl rfl) rfl)
    shapeCasts_S320_S320x1) (broadcast S320x1 (Scalar.ofBits .f32 0x45000000#32))) broadcasts_S320x1_S320x2048)

theorem centred_apply (z : FVec Ideal S320x2048 .f32) (r : Fin 320) (q : Fin 2048) :
    centred z (ix2 r q) = z (ix2 r q) - mean (fun k => z (ix2 r k)) := by
  unfold centred mean
  refine congrArg (z (ix2 r q) - ·) ((spread_apply _ broadcasts_S320x1_S320x2048 r q).trans ?_)
  exact congrArg₂ Ideal.div (rowSum_apply z (.inl rfl) rfl r) rfl

/-- The normed rows, at an index. -/
theorem normed_apply (x h : Vec Ideal S320x2048 .f32) (g b : Vec Ideal S1x2048 .f32) (r : Fin 320) (q : Fin 2048) :
    k0_pay1 (F := Ideal) x h g b (ix2 r q)
      = layer (fun k => joined (x (ix2 r k)) (h (ix2 r k))) (g (ix2 (0 : Fin 1) q)) (b (ix2 (0 : Fin 1) q)) q := by
  have hg : shapeCast S1x2048 g shapeCasts_S1x2048_S1x2048 = g := funext fun y => shapeCast_apply g _ y y rfl
  have hb : shapeCast S1x2048 b shapeCasts_S1x2048_S1x2048 = b := funext fun y => shapeCast_apply b _ y y rfl
  have hc := centred_apply (addf (mulf (broadcast S320x2048 (Scalar.ofBits .f32 0x3FD744FD#32)) x) h) r
  unfold k0_pay1 layer
  simp only [hg, hb]
  refine congrArg₂ (· + ·) (congrArg₂ (· * ·) (congrArg₂ (· * ·) (hc q) ((spread_apply _ broadcasts_S320x1_S320x2048 r q).trans ?_))
    (broadcastTo_1b_ab_apply g broadcasts_S1x2048_S320x2048 r q)) (broadcastTo_1b_ab_apply b broadcasts_S1x2048_S320x2048 r q)
  refine congrArg Ideal.rsqrt (congrArg₂ (· + ·) (congrArg₂ Ideal.div ?_ rfl) rfl)
  refine (rowSum_apply _ (.inl rfl) rfl r).trans ?_
  exact Finset.sum_congr rfl fun k _ => congrArg₂ (· * ·) (hc k) (hc k)

/-- What the body leaves, from the blocks it reads. -/
theorem leaves_apply (x h : Vec Ideal S320x2048 .f32) (g b : Vec Ideal S1x2048 .f32) (r : Fin 320) (q : Fin 2048) :
    out0_4 (F := Ideal) x h g b (ix2 r q)
      = layer (fun k => joined (x (ix2 r k)) (h (ix2 r k))) (g (ix2 (0 : Fin 1) q)) (b (ix2 (0 : Fin 1) q)) q := by
  have z : (![0, 0] : Fin 2 → ℕ) = fun _ => 0 := by decide
  unfold out0_4
  rw [View.canon_unit_zero (Val := Elt Ideal) (S := S320x2048) z, View.ld_unit_zero (Val := Elt Ideal) (S := S320x2048) z,
    View.ld_unit_zero (Val := Elt Ideal) (S := S320x2048) z, View.ld_unit_zero (Val := Elt Ideal) (S := S1x2048) z,
    View.ld_unit_zero (Val := Elt Ideal) (S := S1x2048) z]
  exact normed_apply x h g b r q

/-- The narrowed result holds the same. -/
theorem narrowed (x h : Vec Ideal S320x2048 .f32) (g b : Vec Ideal S1x2048 .f32) (y : S320x2048.Idx) :
    out0_5 (F := Ideal) x h g b y = out0_4 (F := Ideal) x h g b y := by
  have z : (![0, 0] : Fin 2 → ℕ) = fun _ => 0 := by decide
  unfold out0_5 out0_4
  rw [View.canon_unit_zero (Val := Elt Ideal) (S := S320x2048) z, View.canon_unit_zero (Val := Elt Ideal) (S := S320x2048) z]
  rfl

variable (m : (ℓ : Loc nD τ sig) → Buf (Elt Ideal) ℓ)

theorem index0 : ∀ t : Fin grid0.N, cc0_transform_0 (grid0.coords t) = ![(grid0.coords t 0).val, 0] := by decide +kernel
theorem index1 : ∀ t : Fin grid0.N, cc0_transform_1 (grid0.coords t) = ![(grid0.coords t 0).val, 0] := by decide +kernel
theorem index2 : ∀ t : Fin grid0.N, cc0_transform_2 (grid0.coords t) = ![0, 0] := by decide +kernel
theorem index3 : ∀ t : Fin grid0.N, cc0_transform_3 (grid0.coords t) = ![0, 0] := by decide +kernel
theorem index4 : ∀ t : Fin grid0.N, cc0_transform_4 (grid0.coords t) = ![(grid0.coords t 0).val, 0] := by decide +kernel
theorem index5 : ∀ t : Fin grid0.N, cc0_transform_5 (grid0.coords t) = ![(grid0.coords t 0).val, 0] := by decide +kernel

/-- A block of rows, at an index. -/
theorem rows_apply (c : Dev nD) (t : Fin cfg0.N) (r : Fin 320) (k : Fin 2048) (hr : (grid0.coords t 0).val * 320 + r.val < 8320) :
    iblk m c (0 : Fin 6) t (ix2 r k) = V m c main_arg0 (ix2 ⟨(grid0.coords t 0).val * 320 + r.val, hr⟩ k) := by
  refine congrArg (V m c main_arg0) ?_
  have e := index0 t
  refine ext2 ?_ ?_
  · exact (at_block 320 r.val (congrFun e 0) :)
  · exact (at_block_zero 2048 k.val (congrFun e 1) :)

/-- A block of what is added, at an index. -/
theorem added_apply (c : Dev nD) (t : Fin cfg0.N) (r : Fin 320) (k : Fin 2048) (hr : (grid0.coords t 0).val * 320 + r.val < 8320) :
    iblk m c (1 : Fin 6) t (ix2 r k) = V m c main_arg1 (ix2 ⟨(grid0.coords t 0).val * 320 + r.val, hr⟩ k) := by
  refine congrArg (V m c main_arg1) ?_
  have e := index1 t
  refine ext2 ?_ ?_
  · exact (at_block 320 r.val (congrFun e 0) :)
  · exact (at_block_zero 2048 k.val (congrFun e 1) :)

/-- The gains, at an index. -/
theorem gains_apply (c : Dev nD) (t : Fin cfg0.N) (k : Fin 2048) :
    iblk m c (2 : Fin 6) t (ix2 (0 : Fin 1) k) = V m c main_v4 (ix2 (0 : Fin 1) k) := by
  refine congrArg (V m c main_v4) ?_
  have e := index2 t
  refine ext2 ?_ ?_
  · show cc0_transform_2 (grid0.coords t) 0 * 1 + 1 * 0 = 0
    rw [e]; rfl
  · exact (at_block_zero 2048 k.val (congrFun e 1) :)

/-- The biases, at an index. -/
theorem biases_apply (c : Dev nD) (t : Fin cfg0.N) (k : Fin 2048) :
    iblk m c (3 : Fin 6) t (ix2 (0 : Fin 1) k) = V m c main_v5 (ix2 (0 : Fin 1) k) := by
  refine congrArg (V m c main_v5) ?_
  have e := index3 t
  refine ext2 ?_ ?_
  · show cc0_transform_3 (grid0.coords t) 0 * 1 + 1 * 0 = 0
    rw [e]; rfl
  · exact (at_block_zero 2048 k.val (congrFun e 1) :)

/-- The place of a result block's index in its array. -/
theorem place4_apply (t : Fin cfg0.N) (r : Fin 320) (q : Fin 2048) (hr : (grid0.coords t 0).val * 320 + r.val < 8320) :
    ((cfg0.win (4 : Fin 6)).blk t).view.emb (ix2 r q) = ix2 ⟨(grid0.coords t 0).val * 320 + r.val, hr⟩ q := by
  have e := index4 t
  refine ext2 ?_ ?_
  · exact (at_block 320 r.val (congrFun e 0) :)
  · exact (at_block_zero 2048 q.val (congrFun e 1) :)

theorem place5_apply (t : Fin cfg0.N) (r : Fin 320) (q : Fin 2048) (hr : (grid0.coords t 0).val * 320 + r.val < 8320) :
    ((cfg0.win (5 : Fin 6)).blk t).view.emb (ix2 r q) = ix2 ⟨(grid0.coords t 0).val * 320 + r.val, hr⟩ q := by
  have e := index5 t
  refine ext2 ?_ ?_
  · exact (at_block 320 r.val (congrFun e 0) :)
  · exact (at_block_zero 2048 q.val (congrFun e 1) :)

/-- Every point writes its blocks back. -/
theorem flushes4 : ∀ t : Fin grid0.N, Pipeline.Window.flushOf grid0 true cc0_transform_4 t = true := by decide +kernel
theorem flushes5 : ∀ t : Fin grid0.N, Pipeline.Window.flushOf grid0 true cc0_transform_5 t = true := by decide +kernel

/-- Every row tile is a point's. -/
theorem onto : ∀ i : Fin 26, ∃ t : Fin grid0.N, (grid0.coords t 0).val = i.val := by decide +kernel

/-- The results' blocks cover them. -/
theorem cover4 (y : S8320x2048.Idx) : ∃ t : Fin cfg0.N, (cfg0.win (4 : Fin 6)).flush t = true ∧ y ∈ ((cfg0.win (4 : Fin 6)).blk t).view.set := by
  have h0 : (y 0).val < 8320 := (y 0).isLt
  have h1 : (y 1).val < 2048 := (y 1).isLt
  obtain ⟨t, e0⟩ := onto ⟨(y 0).val / 320, by omega⟩
  have e0' : (grid0.coords t 0).val = (y 0).val / 320 := e0
  have hr : (grid0.coords t 0).val * 320 + (y 0).val % 320 < 8320 := by omega
  refine ⟨t, flushes4 t, ?_⟩
  have he := place4_apply t ⟨(y 0).val % 320, by omega⟩ ⟨(y 1).val, h1⟩ hr
  have hy : y = ix2 ⟨(grid0.coords t 0).val * 320 + (y 0).val % 320, hr⟩ ⟨(y 1).val, h1⟩ :=
    ext2 (by show (y 0).val = (grid0.coords t 0).val * 320 + (y 0).val % 320; omega) rfl
  rw [hy, ← he]
  exact View.emb_mem_set _ _

theorem cover5 (y : S8320x2048.Idx) : ∃ t : Fin cfg0.N, (cfg0.win (5 : Fin 6)).flush t = true ∧ y ∈ ((cfg0.win (5 : Fin 6)).blk t).view.set := by
  have h0 : (y 0).val < 8320 := (y 0).isLt
  have h1 : (y 1).val < 2048 := (y 1).isLt
  obtain ⟨t, e0⟩ := onto ⟨(y 0).val / 320, by omega⟩
  have e0' : (grid0.coords t 0).val = (y 0).val / 320 := e0
  have hr : (grid0.coords t 0).val * 320 + (y 0).val % 320 < 8320 := by omega
  refine ⟨t, flushes5 t, ?_⟩
  have he := place5_apply t ⟨(y 0).val % 320, by omega⟩ ⟨(y 1).val, h1⟩ hr
  have hy : y = ix2 ⟨(grid0.coords t 0).val * 320 + (y 0).val % 320, hr⟩ ⟨(y 1).val, h1⟩ :=
    ext2 (by show (y 0).val = (grid0.coords t 0).val * 320 + (y 0).val % 320; omega) rfl
  rw [hy, ← he]
  exact View.emb_mem_set _ _

/-- The normed rows, as an array. -/
def normed (x h : S8320x2048.Idx → EReal) (g b : Fin 2048 → EReal) (y : S8320x2048.Idx) : EReal :=
  layer (fun k => joined (x (ix2 (y 0) k)) (h (ix2 (y 0) k))) (g (y 1)) (b (y 1)) (y 1)

/-- A point's block is that part of the normed rows. -/
theorem point (c : Dev nD) (t : Fin cfg0.N) (r : Fin 320) (q : Fin 2048) (hr : (grid0.coords t 0).val * 320 + r.val < 8320) :
    out0_4 (F := Ideal) (iblk m c 0 t) (iblk m c 1 t) (iblk m c 2 t) (iblk m c 3 t) (ix2 r q)
      = normed (V m c main_arg0) (V m c main_arg1) (fun k => V m c main_v4 (ix2 (0 : Fin 1) k)) (fun k => V m c main_v5 (ix2 (0 : Fin 1) k))
          (ix2 ⟨(grid0.coords t 0).val * 320 + r.val, hr⟩ q) := by
  refine (leaves_apply _ _ _ _ r q).trans ?_
  show _ = layer (fun k => joined (V m c main_arg0 (ix2 ⟨(grid0.coords t 0).val * 320 + r.val, hr⟩ k)) (V m c main_arg1 (ix2 ⟨(grid0.coords t 0).val * 320 + r.val, hr⟩ k)))
    (V m c main_v4 (ix2 (0 : Fin 1) q)) (V m c main_v5 (ix2 (0 : Fin 1) q)) q
  have hf : (fun k => joined (iblk m c (0 : Fin 6) t (ix2 r k)) (iblk m c (1 : Fin 6) t (ix2 r k)))
      = fun k => joined (V m c main_arg0 (ix2 ⟨(grid0.coords t 0).val * 320 + r.val, hr⟩ k)) (V m c main_arg1 (ix2 ⟨(grid0.coords t 0).val * 320 + r.val, hr⟩ k)) :=
    funext fun k => congrArg₂ joined (rows_apply m c t r k hr) (added_apply m c t r k hr)
  exact (congrArg (fun f => layer f _ _ q) hf).trans (congrArg₂ (fun a b => layer _ a b q) (gains_apply m c t q) (biases_apply m c t q))

/-- The two arrays after the write-backs: the normed rows. -/
theorem final4 (c : Dev nD) : (dats m 0 c).arrAt (4 : Fin 6) cfg0.N
    = normed (V m c main_arg0) (V m c main_arg1) (fun k => V m c main_v4 (ix2 (0 : Fin 1) k)) (fun k => V m c main_v5 (ix2 (0 : Fin 1) k)) := by
  refine (dats m 0 c).arrAt_eq_of_emb (4 : Fin 6) _ (fun t _ y => ?_) cover4
  obtain ⟨r, q, rfl⟩ : ∃ (r : Fin 320) (q : Fin 2048), y = ix2 r q := ⟨y 0, y 1, eq_ix2 y⟩
  have h0 : (grid0.coords t 0).val < 26 := (grid0.coords t 0).isLt
  have hr : (grid0.coords t 0).val * 320 + r.val < 8320 := by have := r.isLt; omega
  refine Eq.trans ?_ (congrArg (normed _ _ _ _) (place4_apply t r q hr)).symm
  exact (congrFun (after0_4 m c t) (ix2 r q)).trans (point m c t r q hr)

theorem final5 (c : Dev nD) : (dats m 0 c).arrAt (5 : Fin 6) cfg0.N
    = normed (V m c main_arg0) (V m c main_arg1) (fun k => V m c main_v4 (ix2 (0 : Fin 1) k)) (fun k => V m c main_v5 (ix2 (0 : Fin 1) k)) := by
  refine (dats m 0 c).arrAt_eq_of_emb (5 : Fin 6) _ (fun t _ y => ?_) cover5
  obtain ⟨r, q, rfl⟩ : ∃ (r : Fin 320) (q : Fin 2048), y = ix2 r q := ⟨y 0, y 1, eq_ix2 y⟩
  have h0 : (grid0.coords t 0).val < 26 := (grid0.coords t 0).isLt
  have hr : (grid0.coords t 0).val * 320 + r.val < 8320 := by have := r.isLt; omega
  refine Eq.trans ?_ (congrArg (normed _ _ _ _) (place5_apply t r q hr)).symm
  exact (congrFun (after0_5 m c t) (ix2 r q)).trans ((narrowed _ _ _ _ _).trans (point m c t r q hr))

end Cert.Proof.Norm

end
-- ==== Proof.Norm.Claims.lean ====
/- The claims about the layer norm: the three frames, and the kernel's two results equal to the reference's over the extended
   reals. -/
module

public import proofs.«01_k».proof.Defs
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Norm.Value
public import Idealize.ShloMosaic.Adequacy
public import Idealize.ShloMosaic.Init

@[expose] public section

set_option maxRecDepth 16384

noncomputable section

namespace Cert.Proof.Norm

open Cert.Proof.Rows
open Idealize.ShloMosaic hiding ix1 ix2 ix3 ix4 eq_ix2
open Idealize.ShloMosaic.TcCoe Idealize.ShloMosaic.ValueIdx
open Idealize.SL Idealize.SL.Sem
open scoped BigOperators

section Kernel

open Cert.Kernel12Ideal Cert.Kernel12Ideal.Gen

/-- The first row of a table of four, reshaped to a vector and back, at an index. -/
theorem first_apply (g : S4x2048.Idx → EReal) (q : Fin 2048) :
    shapeCast S1x2048 (shapeCast S2048 (extractStridedSlice S1x2048 ![0, 0] g slices_S4x2048_S1x2048_0_0) shapeCasts_S1x2048_S2048)
      shapeCasts_S2048_S1x2048 (ix2 (0 : Fin 1) q) = g (ix2 (0 : Fin 4) q) := by
  refine (shapeCast_apply _ shapeCasts_S2048_S1x2048 (ix2 (0 : Fin 1) q) (ix1 q) ?_).trans ?_
  · rw [Shape.rowMajor_val_one, Shape.rowMajor_val_two]
    show q.val = 0 * 2048 + q.val; omega
  refine (shapeCast_apply _ shapeCasts_S1x2048_S2048 (ix1 q) (ix2 (0 : Fin 1) q) ?_).trans ?_
  · rw [Shape.rowMajor_val_one, Shape.rowMajor_val_two]
    show 0 * 2048 + q.val = q.val; omega
  refine extractStridedSlice_apply _ g slices_S4x2048_S1x2048_0_0 _ (ix2 (0 : Fin 4) q) fun a => ?_
  match a with
  | ⟨0, _⟩ => rfl
  | ⟨1, _⟩ => exact (Nat.zero_add _).symm

variable (m : (ℓ : Loc nD τ sig) → Buf (Elt Ideal) ℓ)

theorem gains_of (c : Dev nD) (q : Fin 2048) :
    V m c main_v4 (ix2 (0 : Fin 1) q) = m ((c : Thread nD τ).loc main_arg2) (ix2 (0 : Fin 4) q) := by
  have e : V m c main_v4 = shapeCast S1x2048 (shapeCast S2048 (extractStridedSlice S1x2048 ![0, 0] (m ((c : Thread nD τ).loc main_arg2))
      slices_S4x2048_S1x2048_0_0) shapeCasts_S1x2048_S2048) shapeCasts_S2048_S1x2048 := by
    unfold V hostOps0; after_results; rfl
  rw [e]
  exact first_apply _ q

theorem biases_of (c : Dev nD) (q : Fin 2048) :
    V m c main_v5 (ix2 (0 : Fin 1) q) = m ((c : Thread nD τ).loc main_arg3) (ix2 (0 : Fin 4) q) := by
  have e : V m c main_v5 = shapeCast S1x2048 (shapeCast S2048 (extractStridedSlice S1x2048 ![0, 0] (m ((c : Thread nD τ).loc main_arg3))
      slices_S4x2048_S1x2048_0_0) shapeCasts_S1x2048_S2048) shapeCasts_S2048_S1x2048 := by
    unfold V hostOps0; after_results; rfl
  rw [e]
  exact first_apply _ q

/-- The normed rows of the kernel's arrays are those of its arguments. -/
theorem normed_of (c : Dev nD) :
    normed (V m c main_arg0) (V m c main_arg1) (fun k => V m c main_v4 (ix2 (0 : Fin 1) k)) (fun k => V m c main_v5 (ix2 (0 : Fin 1) k))
      = normed (m ((c : Thread nD τ).loc main_arg0)) (m ((c : Thread nD τ).loc main_arg1))
          (fun k => m ((c : Thread nD τ).loc main_arg2) (ix2 (0 : Fin 4) k)) (fun k => m ((c : Thread nD τ).loc main_arg3) (ix2 (0 : Fin 4) k)) := by
  rw [V_main_arg0 m c, V_main_arg1 m c, funext (gains_of m c), funext (biases_of m c)]

end Kernel

section Reference

open Cert.Reference12Ideal Cert.Reference12Ideal.Read

variable (x h : S8320x2048.Idx → EReal) (g b : S4x2048.Idx → EReal)

/-- The reference's joined rows, at an index. -/
theorem joined_reference (i : S8320x2048.Idx) (r : Fin 8320) (q : Fin 2048) (h0 : (i 0).val = r.val) (h1 : (i 1).val = q.val) :
    val_main_v2 (F := Ideal) x h i = joined (x (ix2 r q)) (h (ix2 r q)) := by
  have e : i = ix2 r q := ext2 h0 h1
  subst e
  rw [val_main_v2_apply, val_main_v1_apply, val_main_v0_apply, val_main_cst_apply]
  rfl

/-- The reference's means, at a row. -/
theorem mean_reference (i : S8320x1.Idx) (r : Fin 8320) (h0 : (i 0).val = r.val) :
    val_main_v6 (F := Ideal) x h i = mean (fun k => joined (x (ix2 r k)) (h (ix2 r k))) := by
  rw [val_main_v6_apply, val_main_v4_apply, val_main_v3_apply, val_main_v5_apply, val_main_cst_1_apply, val_main_cst_0_apply]
  rw [show (FloatOps.ofBits (F := Ideal) .f32 0x00000000#32) = (0 : EReal) from Ideal.ofBits_zero_f32, zero_add]
  rw [Finset.sum_congr rfl fun k _ => joined_reference x h (idx_main_v3 (idx_main_v4 i) k) r k h0 rfl]
  rfl

/-- The reference's variances, at a row. -/
theorem variance_reference (i : S8320x1.Idx) (r : Fin 8320) (h0 : (i 0).val = r.val) :
    val_main_v13 (F := Ideal) x h i = mean (fun k => (joined (x (ix2 r k)) (h (ix2 r k)) - mean (fun k => joined (x (ix2 r k)) (h (ix2 r k))))
      * (joined (x (ix2 r k)) (h (ix2 r k)) - mean (fun k => joined (x (ix2 r k)) (h (ix2 r k))))) := by
  rw [val_main_v13_apply, val_main_v11_apply, val_main_v10_apply, val_main_v12_apply, val_main_cst_3_apply, val_main_cst_2_apply]
  rw [show (FloatOps.ofBits (F := Ideal) .f32 0x00000000#32) = (0 : EReal) from Ideal.ofBits_zero_f32, zero_add]
  have e : ∀ k : Fin 2048, val_main_v9 (F := Ideal) x h (idx_main_v10 (idx_main_v11 i) k)
      = (joined (x (ix2 r k)) (h (ix2 r k)) - mean (fun k => joined (x (ix2 r k)) (h (ix2 r k))))
        * (joined (x (ix2 r k)) (h (ix2 r k)) - mean (fun k => joined (x (ix2 r k)) (h (ix2 r k)))) := fun k => by
    rw [val_main_v9_apply, val_main_v8_apply, val_main_v7_apply, joined_reference x h _ r k h0 rfl,
      mean_reference x h (idx_main_v7 (idx_main_v10 (idx_main_v11 i) k)) r h0]
    rfl
  rw [Finset.sum_congr rfl fun k _ => e k]
  rfl

/-- The reference's result. -/
theorem reference : val_main_v30 (F := Ideal) x h g b
    = normed x h (fun k => g (ix2 (0 : Fin 4) k)) (fun k => b (ix2 (0 : Fin 4) k)) := by
  funext y
  obtain ⟨r, q, rfl⟩ : ∃ (r : Fin 8320) (q : Fin 2048), y = ix2 r q := ⟨y 0, y 1, eq_ix2 y⟩
  rw [val_main_v30_apply, val_main_v25_apply, val_main_v20_apply, val_main_v15_apply, val_main_v14_apply, val_main_v19_apply,
    val_main_v18_apply, val_main_v17_apply, val_main_v16_apply, val_main_cst_4_apply, val_main_v24_apply, val_main_v23_apply,
    val_main_v22_apply, val_main_v21_apply, val_main_v29_apply, val_main_v28_apply, val_main_v27_apply, val_main_v26_apply]
  rw [joined_reference x h _ r q rfl rfl, mean_reference x h _ r rfl, variance_reference x h _ r rfl]
  have eg : idx_main_v21 (idx_main_v22 (idx_main_v23 (idx_main_v24 (ix2 r q)))) = ix2 (0 : Fin 4) q :=
    ext2 rfl (Nat.mod_eq_of_lt q.isLt)
  have eb : idx_main_v26 (idx_main_v27 (idx_main_v28 (idx_main_v29 (ix2 r q)))) = ix2 (0 : Fin 4) q :=
    ext2 rfl (Nat.mod_eq_of_lt q.isLt)
  rw [eg, eb]
  rfl

theorem reference_narrowed : val_main_v31 (F := Ideal) x h g b
    = normed x h (fun k => g (ix2 (0 : Fin 4) k)) (fun k => b (ix2 (0 : Fin 4) k)) := by
  rw [← reference]
  rfl

end Reference

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem algebraic : Cert.algebraic_Kernel12Ideal_Reference12Ideal := fun m ρ m' ρ' _ hm => by
  refine ⟨fun c => Cert.Reference12Ideal.Read.val_main_v30 (F := Ideal)
    (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1))
    (m ((c.tc : Thread Cert.Kernel12Ideal.nD Cert.Kernel12Ideal.τ).loc Cert.Kernel12Ideal.main_arg2))
    (m ((c.tc : Thread Cert.Kernel12Ideal.nD Cert.Kernel12Ideal.τ).loc Cert.Kernel12Ideal.main_arg3)),
    fun c => Cert.Reference12Ideal.Read.val_main_v31 (F := Ideal)
    (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1))
    (m ((c.tc : Thread Cert.Kernel12Ideal.nD Cert.Kernel12Ideal.τ).loc Cert.Kernel12Ideal.main_arg2))
    (m ((c.tc : Thread Cert.Kernel12Ideal.nD Cert.Kernel12Ideal.τ).loc Cert.Kernel12Ideal.main_arg3)), ?_, ?_⟩
  · refine (θ_run Cert.Kernel12Ideal.defs _ _).mono (fun _ h c => ⟨?_, ?_, (h c).2.2⟩) (Cert.Kernel12Ideal.Value.run_blocks (F := Ideal) m ρ)
    · rw [(h c).1, final4 m c, normed_of m c]
      exact (reference _ _ _ _).symm
    · rw [(h c).2.1, final5 m c, normed_of m c]
      exact (reference_narrowed _ _ _ _).symm
  · refine (θ_run Cert.Reference12Ideal.defs _ _).mono (fun _ h c => ⟨?_, ?_, (h c).2.2⟩) (Cert.Reference12Ideal.Value.run (F := Ideal) m' ρ')
    · rw [(h c).1, Cert.Reference12Ideal.Read.val_main_v30_eq, (hm c).1, (hm c).2.1, (hm c).2.2.1, (hm c).2.2.2]
    · rw [(h c).2.1, Cert.Reference12Ideal.Read.val_main_v31_eq, (hm c).1, (hm c).2.1, (hm c).2.2.1, (hm c).2.2.2]

end Cert.Proof.Norm

end
-- ==== Proof.Latent.Value.lean ====
/- The latent attention's queries over the extended reals: each head's 256 first columns of the result are its columns of the
   rows times its matrix of the weight, and the 128 after them its columns with positions, turned by the tables. -/
module

public import proofs.«01_k».proof.Proof.Gen.Kernel13Ideal.Frame
public import proofs.«01_k».proof.Proof.Rows
public import proofs.«01_k».proof.Proof.Odd.Payload
public import Idealize.ShloMosaic.Lib.MatmulPlain
public import Idealize.ShloMosaic.PureOps.Ideal

@[expose] public section

set_option maxRecDepth 16384

noncomputable section

namespace Cert.Proof.Latent

open Cert.Kernel13Ideal Cert.Kernel13Ideal.Gen Cert.Proof.Rows
open Cert.Proof.Odd (partner)
open Idealize.ShloMosaic hiding ix1 ix2 ix3 ix4 eq_ix2
open Idealize.ShloMosaic.TcCoe Idealize.ShloMosaic.ValueIdx
open Idealize.SL Idealize.SL.Sem
open scoped BigOperators

/-- One head's product, at an index. -/
theorem product_apply (x : Vec Ideal S640x128 .f32) (w : Vec Ideal S1x128x256 .bf16) (r : Fin 640) (q : Fin 256) :
    k0_pay3 (F := Ideal) x w (ix2 r q) = ∑ k : Fin 128, x (ix2 r k) * w (ix3 (0 : Fin 1) k q) := by
  unfold k0_pay3
  refine (Ideal.matmul_plain_apply (φ₁ := .bf16) (φ₂ := .bf16) (M := 640) (K := 128) (N := 256) none _ _ _ r q).trans ?_
  rw [show (constant (F := Ideal) S640x256 .f32 0x00000000#32) (ix2 r q) = (0 : EReal) from Ideal.ofBits_zero_f32, zero_add]
  refine Finset.sum_congr rfl fun k _ => congrArg₂ (· * ·) rfl
    (shapeCast_apply w shapeCasts_S1x128x256_S128x256 (ix2 k q) (ix3 (0 : Fin 1) k q) ?_)
  rw [Shape.rowMajor_val_three, Shape.rowMajor_val_two]
  show (0 * 128 + k.val) * 256 + q.val = k.val * 256 + q.val
  omega

/-- The turned part, at an index. -/
theorem turned_apply (x cs sn : Vec Ideal S640x128 .f32) (r : Fin 640) (q : Fin 128) :
    k0_pay4 (F := Ideal) x cs sn (ix2 r q) = x (ix2 r q) * cs (ix2 r q) + x (ix2 r (partner q)) * sn (ix2 r q) :=
  Odd.turned_apply x cs sn r q

/-- The product at row `r` and column `q` of head `h`, from `n` rows and the weight. -/
def lowAt {n : ℕ} (x : (⟨2, ![n, 2048]⟩ : Shape).Idx → EReal) (w : S8x128x256.Idx → EReal) (r : Fin n) (h : Fin 8) (q : Fin 256) : EReal :=
  ∑ k : Fin 128, x (ix2 r ⟨h.val * 128 + k.val, by omega⟩) * w (ix3 h k q)

/-- The turned part at row `r` and lane `q` of head `h`, from `n` rows and the tables. -/
def highAt {n : ℕ} (x : (⟨2, ![n, 2048]⟩ : Shape).Idx → EReal) (cs sn : (⟨2, ![n, 128]⟩ : Shape).Idx → EReal) (r : Fin n) (h : Fin 8)
    (q : Fin 128) : EReal :=
  x (ix2 r ⟨1024 + (h.val * 128 + q.val), by omega⟩) * cs (ix2 r q)
    + x (ix2 r ⟨1024 + (h.val * 128 + (partner q).val), by omega⟩) * sn (ix2 r q)

/-- Column `q` of head `h`: the product's in the first 256, the turned part's after them. -/
def placeAt {n : ℕ} (x : (⟨2, ![n, 2048]⟩ : Shape).Idx → EReal) (w : S8x128x256.Idx → EReal) (cs sn : (⟨2, ![n, 128]⟩ : Shape).Idx → EReal)
    (r : Fin n) (h : Fin 8) (q : Fin 384) : EReal :=
  if hq : q.val < 256 then lowAt x w r h ⟨q.val, hq⟩ else highAt x cs sn r h ⟨q.val - 256, by omega⟩

/-- The result of `n` rows: column `c` is column `c % 384` of head `c / 384`. -/
def heads {n : ℕ} (x : (⟨2, ![n, 2048]⟩ : Shape).Idx → EReal) (w : S8x128x256.Idx → EReal) (cs sn : (⟨2, ![n, 128]⟩ : Shape).Idx → EReal) :
    (⟨2, ![n, 3072]⟩ : Shape).Idx → EReal := fun y =>
  placeAt x w cs sn ⟨(y 0).val, (y 0).isLt⟩ ⟨(y 1).val / 384, by have h : (y 1).val < 3072 := (y 1).isLt; omega⟩
    ⟨(y 1).val % 384, Nat.mod_lt _ (by omega)⟩

/-- The result at a place of a head. -/
theorem heads_apply {n : ℕ} (x : (⟨2, ![n, 2048]⟩ : Shape).Idx → EReal) (w : S8x128x256.Idx → EReal)
    (cs sn : (⟨2, ![n, 128]⟩ : Shape).Idx → EReal) (y : (⟨2, ![n, 3072]⟩ : Shape).Idx) (r : Fin n) (h : Fin 8) (q : Fin 384)
    (h0 : (y 0).val = r.val) (h1 : (y 1).val = h.val * 384 + q.val) : heads x w cs sn y = placeAt x w cs sn r h q := by
  have e0 : (⟨(y 0).val, (y 0).isLt⟩ : Fin n) = r := Fin.ext h0
  have e1 : (⟨(y 1).val / 384, by have h : (y 1).val < 3072 := (y 1).isLt; omega⟩ : Fin 8) = h := Fin.ext (by
    show (y 1).val / 384 = h.val
    have := q.isLt; omega)
  have e2 : (⟨(y 1).val % 384, Nat.mod_lt _ (by omega)⟩ : Fin 384) = q := Fin.ext (by
    show (y 1).val % 384 = q.val
    have := q.isLt; omega)
  show placeAt x w cs sn _ _ _ = _
  rw [e0, e1, e2]

theorem heads_low {n : ℕ} (x : (⟨2, ![n, 2048]⟩ : Shape).Idx → EReal) (w : S8x128x256.Idx → EReal)
    (cs sn : (⟨2, ![n, 128]⟩ : Shape).Idx → EReal) (y : (⟨2, ![n, 3072]⟩ : Shape).Idx) (r : Fin n) (h : Fin 8) (q : Fin 256)
    (h0 : (y 0).val = r.val) (h1 : (y 1).val = h.val * 384 + q.val) : heads x w cs sn y = lowAt x w r h q :=
  (heads_apply x w cs sn y r h ⟨q.val, by omega⟩ h0 h1).trans (dif_pos q.isLt)

theorem heads_high {n : ℕ} (x : (⟨2, ![n, 2048]⟩ : Shape).Idx → EReal) (w : S8x128x256.Idx → EReal)
    (cs sn : (⟨2, ![n, 128]⟩ : Shape).Idx → EReal) (y : (⟨2, ![n, 3072]⟩ : Shape).Idx) (r : Fin n) (h : Fin 8) (q : Fin 128)
    (h0 : (y 0).val = r.val) (h1 : (y 1).val = h.val * 384 + (256 + q.val)) : heads x w cs sn y = highAt x cs sn r h q := by
  refine (heads_apply x w cs sn y r h ⟨256 + q.val, by omega⟩ h0 h1).trans ?_
  unfold placeAt
  rw [dif_neg (show ¬ 256 + q.val < 256 by omega)]
  exact congrArg (highAt x cs sn r h) (Fin.ext (show 256 + q.val - 256 = q.val by omega))

/-- What the body stores of the product for head `h`, from that head's columns and matrix. -/
theorem low_piece (h : Fin 8) (x : Vec Ideal S640x2048 .f32) (w : Vec Ideal S8x128x256 .bf16) (cs sn : Vec Ideal S640x128 .f32)
    (a : Vec Ideal S640x128 .f32) (b : Vec Ideal S1x128x256 .bf16)
    (ha : ∀ (r : Fin 640) (k : Fin 128), a (ix2 r k) = x (ix2 r ⟨h.val * 128 + k.val, by omega⟩))
    (hb : ∀ (k : Fin 128) (q : Fin 256), b (ix3 (0 : Fin 1) k q) = w (ix3 h k q)) (z : S640x256.Idx) (y : S640x3072.Idx)
    (h0 : (y 0).val = (z 0).val) (h1 : (y 1).val = h.val * 384 + (z 1).val) :
    k0_pay3 (F := Ideal) a b z = heads (n := 640) x w cs sn y := by
  obtain ⟨r, q, rfl⟩ : ∃ (r : Fin 640) (q : Fin 256), z = ix2 r q := ⟨z 0, z 1, eq_ix2 z⟩
  rw [product_apply, heads_low (n := 640) x w cs sn y r h q h0 h1]
  exact Finset.sum_congr rfl fun k _ => by rw [ha, hb]

/-- What the body stores of the turned part for head `h`, from that head's columns and the tables. -/
theorem high_piece (h : Fin 8) (x : Vec Ideal S640x2048 .f32) (w : Vec Ideal S8x128x256 .bf16) (cs sn : Vec Ideal S640x128 .f32)
    (a : Vec Ideal S640x128 .f32)
    (ha : ∀ (r : Fin 640) (k : Fin 128), a (ix2 r k) = x (ix2 r ⟨1024 + (h.val * 128 + k.val), by omega⟩))
    (z : S640x128.Idx) (y : S640x3072.Idx) (h0 : (y 0).val = (z 0).val) (h1 : (y 1).val = h.val * 384 + (256 + (z 1).val)) :
    k0_pay4 (F := Ideal) a cs sn z = heads (n := 640) x w cs sn y := by
  obtain ⟨r, q, rfl⟩ : ∃ (r : Fin 640) (q : Fin 128), z = ix2 r q := ⟨z 0, z 1, eq_ix2 z⟩
  rw [turned_apply, heads_high (n := 640) x w cs sn y r h q h0 h1, ha, ha]
  rfl

variable (m : (ℓ : Loc nD τ sig) → Buf (Elt Ideal) ℓ)

/-- What the body leaves at a point, store by store. -/
theorem left (c : Dev nD) (t : Fin cfg0.N) : outsAt0 m c t
    = View.canon (Val := Elt Ideal) (e := .f32) [⟨Rect.unit (s := S640x3072) ![0, 2944] S640x128.size inb_S640x3072_S640x128_0_2944,
        k0_pay2 (F := Ideal) (View.ld (iblk m c 0 t) (Rect.unit (s := S640x2048) ![0, 1920] S640x128.size inb_S640x2048_S640x128_0_1920)) (iblk m c 2 t) (iblk m c 3 t)⟩,
      ⟨Rect.unit (s := S640x3072) ![0, 2688] S640x256.size inb_S640x3072_S640x256_0_2688,
        k0_pay1 (F := Ideal) (k0_pay23 (View.ld (iblk m c 0 t) (Rect.unit (s := S640x2048) ![0, 896] S640x128.size inb_S640x2048_S640x128_0_896))) (View.ld (iblk m c 1 t) (Rect.unit (s := S8x128x256) ![7, 0, 0] S1x128x256.size inb_S8x128x256_S1x128x256_7_0_0))⟩,
      ⟨Rect.unit (s := S640x3072) ![0, 2560] S640x128.size inb_S640x3072_S640x128_0_2560,
        k0_pay22 (F := Ideal) (View.ld (iblk m c 0 t) (Rect.unit (s := S640x2048) ![0, 1792] S640x128.size inb_S640x2048_S640x128_0_1792)) (iblk m c 2 t) (iblk m c 3 t)⟩,
      ⟨Rect.unit (s := S640x3072) ![0, 2304] S640x256.size inb_S640x3072_S640x256_0_2304,
        k0_pay21 (F := Ideal) (View.ld (iblk m c 0 t) (Rect.unit (s := S640x2048) ![0, 768] S640x128.size inb_S640x2048_S640x128_0_768)) (View.ld (iblk m c 1 t) (Rect.unit (s := S8x128x256) ![6, 0, 0] S1x128x256.size inb_S8x128x256_S1x128x256_6_0_0))⟩,
      ⟨Rect.unit (s := S640x3072) ![0, 2176] S640x128.size inb_S640x3072_S640x128_0_2176,
        k0_pay20 (F := Ideal) (View.ld (iblk m c 0 t) (Rect.unit (s := S640x2048) ![0, 1664] S640x128.size inb_S640x2048_S640x128_0_1664)) (k0_pay17 (iblk m c 2 t)) (k0_pay18 (iblk m c 3 t)) (iota .tc S640x128 32 [1] iota_S640x128_d1_w32) k0_pay19⟩,
      ⟨Rect.unit (s := S640x3072) ![0, 1920] S640x256.size inb_S640x3072_S640x256_0_1920,
        k0_pay16 (F := Ideal) (View.ld (iblk m c 0 t) (Rect.unit (s := S640x2048) ![0, 640] S640x128.size inb_S640x2048_S640x128_0_640)) (View.ld (iblk m c 1 t) (Rect.unit (s := S8x128x256) ![5, 0, 0] S1x128x256.size inb_S8x128x256_S1x128x256_5_0_0))⟩,
      ⟨Rect.unit (s := S640x3072) ![0, 1792] S640x128.size inb_S640x3072_S640x128_0_1792,
        k0_pay15 (F := Ideal) (View.ld (iblk m c 0 t) (Rect.unit (s := S640x2048) ![0, 1536] S640x128.size inb_S640x2048_S640x128_0_1536)) (iblk m c 2 t) (iblk m c 3 t)⟩,
      ⟨Rect.unit (s := S640x3072) ![0, 1536] S640x256.size inb_S640x3072_S640x256_0_1536,
        k0_pay14 (F := Ideal) (View.ld (iblk m c 0 t) (Rect.unit (s := S640x2048) ![0, 512] S640x128.size inb_S640x2048_S640x128_0_512)) (View.ld (iblk m c 1 t) (Rect.unit (s := S8x128x256) ![4, 0, 0] S1x128x256.size inb_S8x128x256_S1x128x256_4_0_0))⟩,
      ⟨Rect.unit (s := S640x3072) ![0, 1408] S640x128.size inb_S640x3072_S640x128_0_1408,
        k0_pay13 (F := Ideal) (View.ld (iblk m c 0 t) (Rect.unit (s := S640x2048) ![0, 1408] S640x128.size inb_S640x2048_S640x128_0_1408)) (iblk m c 2 t) (iblk m c 3 t)⟩,
      ⟨Rect.unit (s := S640x3072) ![0, 1152] S640x256.size inb_S640x3072_S640x256_0_1152,
        k0_pay12 (F := Ideal) (View.ld (iblk m c 0 t) (Rect.unit (s := S640x2048) ![0, 384] S640x128.size inb_S640x2048_S640x128_0_384)) (View.ld (iblk m c 1 t) (Rect.unit (s := S8x128x256) ![3, 0, 0] S1x128x256.size inb_S8x128x256_S1x128x256_3_0_0))⟩,
      ⟨Rect.unit (s := S640x3072) ![0, 1024] S640x128.size inb_S640x3072_S640x128_0_1024,
        k0_pay11 (F := Ideal) (View.ld (iblk m c 0 t) (Rect.unit (s := S640x2048) ![0, 1280] S640x128.size inb_S640x2048_S640x128_0_1280)) (k0_pay8 (iblk m c 2 t)) (k0_pay9 (iblk m c 3 t)) (k0_pay10 (View.ld (iblk m c 0 t) (Rect.unit (s := S640x2048) ![0, 1280] S640x128.size inb_S640x2048_S640x128_0_1280)))⟩,
      ⟨Rect.unit (s := S640x3072) ![0, 768] S640x256.size inb_S640x3072_S640x256_0_768,
        k0_pay7 (F := Ideal) (View.ld (iblk m c 0 t) (Rect.unit (s := S640x2048) ![0, 256] S640x128.size inb_S640x2048_S640x128_0_256)) (View.ld (iblk m c 1 t) (Rect.unit (s := S8x128x256) ![2, 0, 0] S1x128x256.size inb_S8x128x256_S1x128x256_2_0_0))⟩,
      ⟨Rect.unit (s := S640x3072) ![0, 640] S640x128.size inb_S640x3072_S640x128_0_640,
        k0_pay6 (F := Ideal) (View.ld (iblk m c 0 t) (Rect.unit (s := S640x2048) ![0, 1152] S640x128.size inb_S640x2048_S640x128_0_1152)) (iblk m c 2 t) (iblk m c 3 t)⟩,
      ⟨Rect.unit (s := S640x3072) ![0, 384] S640x256.size inb_S640x3072_S640x256_0_384,
        k0_pay5 (F := Ideal) (View.ld (iblk m c 0 t) (Rect.unit (s := S640x2048) ![0, 128] S640x128.size inb_S640x2048_S640x128_0_128)) (View.ld (iblk m c 1 t) (Rect.unit (s := S8x128x256) ![1, 0, 0] S1x128x256.size inb_S8x128x256_S1x128x256_1_0_0))⟩,
      ⟨Rect.unit (s := S640x3072) ![0, 256] S640x128.size inb_S640x3072_S640x128_0_256,
        k0_pay4 (F := Ideal) (View.ld (iblk m c 0 t) (Rect.unit (s := S640x2048) ![0, 1024] S640x128.size inb_S640x2048_S640x128_0_1024)) (iblk m c 2 t) (iblk m c 3 t)⟩,
      ⟨Rect.unit (s := S640x3072) ![0, 0] S640x256.size inb_S640x3072_S640x256_0_0,
        k0_pay3 (F := Ideal) (View.ld (iblk m c 0 t) (Rect.unit (s := S640x2048) ![0, 0] S640x128.size inb_S640x2048_S640x128_0_0)) (View.ld (iblk m c 1 t) (Rect.unit (s := S8x128x256) ![0, 0, 0] S1x128x256.size inb_S8x128x256_S1x128x256_0_0_0))⟩] := by
  unfold outsAt0
  frame_out
  rfl

/-- What the body leaves, from the blocks it reads. -/
theorem leaves_apply (c : Dev nD) (t : Fin cfg0.N) (y : S640x3072.Idx) :
    outsAt0 m c t y = heads (n := 640) (iblk m c 0 t) (iblk m c 1 t) (iblk m c 2 t) (iblk m c 3 t) y := by
  rw [left]
  refine View.canon_apply_of_pieces (Val := Elt Ideal) (e := .f32) (S := S640x3072)
    (heads (n := 640) (iblk m c 0 t) (iblk m c 1 t) (iblk m c 2 t) (iblk m c 3 t)) _ ?_ y (View.cover_of_tiledBy _ ![640, 128] (by sl_kernel_rfl) y)
  intro p hp z
  simp only [List.mem_cons, List.not_mem_nil, or_false] at hp
  rcases hp with rfl | rfl | rfl | rfl | rfl | rfl | rfl | rfl | rfl | rfl | rfl | rfl | rfl | rfl | rfl | rfl
  · refine high_piece 7 (iblk m c 0 t) (iblk m c 1 t) (iblk m c 2 t) (iblk m c 3 t) (View.ld (iblk m c 0 t) (Rect.unit (s := S640x2048) ![0, 1920] S640x128.size inb_S640x2048_S640x128_0_1920))
      (fun r k => congrArg (iblk m c 0 t) (ext2 ?_ ?_)) z _ ?_ ?_
    · show 0 + 1 * r.val = r.val; omega
    · show 1920 + 1 * k.val = 1024 + (7 * 128 + k.val); omega
    · show 0 + 1 * (z 0).val = (z 0).val; omega
    · show 2944 + 1 * (z 1).val = 7 * 384 + (256 + (z 1).val); omega
  · refine low_piece 7 (iblk m c 0 t) (iblk m c 1 t) (iblk m c 2 t) (iblk m c 3 t) (View.ld (iblk m c 0 t) (Rect.unit (s := S640x2048) ![0, 896] S640x128.size inb_S640x2048_S640x128_0_896))
      (View.ld (iblk m c 1 t) (Rect.unit (s := S8x128x256) ![7, 0, 0] S1x128x256.size inb_S8x128x256_S1x128x256_7_0_0))
      (fun r k => congrArg (iblk m c 0 t) (ext2 ?_ ?_)) (fun k q => congrArg (iblk m c 1 t) (ext3 ?_ ?_ ?_)) z _ ?_ ?_
    · show 0 + 1 * r.val = r.val; omega
    · show 896 + 1 * k.val = 7 * 128 + k.val; omega
    · show 7 + 1 * 0 = 7; rfl
    · show 0 + 1 * k.val = k.val; omega
    · show 0 + 1 * q.val = q.val; omega
    · show 0 + 1 * (z 0).val = (z 0).val; omega
    · show 2688 + 1 * (z 1).val = 7 * 384 + (z 1).val; omega
  · refine high_piece 6 (iblk m c 0 t) (iblk m c 1 t) (iblk m c 2 t) (iblk m c 3 t) (View.ld (iblk m c 0 t) (Rect.unit (s := S640x2048) ![0, 1792] S640x128.size inb_S640x2048_S640x128_0_1792))
      (fun r k => congrArg (iblk m c 0 t) (ext2 ?_ ?_)) z _ ?_ ?_
    · show 0 + 1 * r.val = r.val; omega
    · show 1792 + 1 * k.val = 1024 + (6 * 128 + k.val); omega
    · show 0 + 1 * (z 0).val = (z 0).val; omega
    · show 2560 + 1 * (z 1).val = 6 * 384 + (256 + (z 1).val); omega
  · refine low_piece 6 (iblk m c 0 t) (iblk m c 1 t) (iblk m c 2 t) (iblk m c 3 t) (View.ld (iblk m c 0 t) (Rect.unit (s := S640x2048) ![0, 768] S640x128.size inb_S640x2048_S640x128_0_768))
      (View.ld (iblk m c 1 t) (Rect.unit (s := S8x128x256) ![6, 0, 0] S1x128x256.size inb_S8x128x256_S1x128x256_6_0_0))
      (fun r k => congrArg (iblk m c 0 t) (ext2 ?_ ?_)) (fun k q => congrArg (iblk m c 1 t) (ext3 ?_ ?_ ?_)) z _ ?_ ?_
    · show 0 + 1 * r.val = r.val; omega
    · show 768 + 1 * k.val = 6 * 128 + k.val; omega
    · show 6 + 1 * 0 = 6; rfl
    · show 0 + 1 * k.val = k.val; omega
    · show 0 + 1 * q.val = q.val; omega
    · show 0 + 1 * (z 0).val = (z 0).val; omega
    · show 2304 + 1 * (z 1).val = 6 * 384 + (z 1).val; omega
  · refine high_piece 5 (iblk m c 0 t) (iblk m c 1 t) (iblk m c 2 t) (iblk m c 3 t) (View.ld (iblk m c 0 t) (Rect.unit (s := S640x2048) ![0, 1664] S640x128.size inb_S640x2048_S640x128_0_1664))
      (fun r k => congrArg (iblk m c 0 t) (ext2 ?_ ?_)) z _ ?_ ?_
    · show 0 + 1 * r.val = r.val; omega
    · show 1664 + 1 * k.val = 1024 + (5 * 128 + k.val); omega
    · show 0 + 1 * (z 0).val = (z 0).val; omega
    · show 2176 + 1 * (z 1).val = 5 * 384 + (256 + (z 1).val); omega
  · refine low_piece 5 (iblk m c 0 t) (iblk m c 1 t) (iblk m c 2 t) (iblk m c 3 t) (View.ld (iblk m c 0 t) (Rect.unit (s := S640x2048) ![0, 640] S640x128.size inb_S640x2048_S640x128_0_640))
      (View.ld (iblk m c 1 t) (Rect.unit (s := S8x128x256) ![5, 0, 0] S1x128x256.size inb_S8x128x256_S1x128x256_5_0_0))
      (fun r k => congrArg (iblk m c 0 t) (ext2 ?_ ?_)) (fun k q => congrArg (iblk m c 1 t) (ext3 ?_ ?_ ?_)) z _ ?_ ?_
    · show 0 + 1 * r.val = r.val; omega
    · show 640 + 1 * k.val = 5 * 128 + k.val; omega
    · show 5 + 1 * 0 = 5; rfl
    · show 0 + 1 * k.val = k.val; omega
    · show 0 + 1 * q.val = q.val; omega
    · show 0 + 1 * (z 0).val = (z 0).val; omega
    · show 1920 + 1 * (z 1).val = 5 * 384 + (z 1).val; omega
  · refine high_piece 4 (iblk m c 0 t) (iblk m c 1 t) (iblk m c 2 t) (iblk m c 3 t) (View.ld (iblk m c 0 t) (Rect.unit (s := S640x2048) ![0, 1536] S640x128.size inb_S640x2048_S640x128_0_1536))
      (fun r k => congrArg (iblk m c 0 t) (ext2 ?_ ?_)) z _ ?_ ?_
    · show 0 + 1 * r.val = r.val; omega
    · show 1536 + 1 * k.val = 1024 + (4 * 128 + k.val); omega
    · show 0 + 1 * (z 0).val = (z 0).val; omega
    · show 1792 + 1 * (z 1).val = 4 * 384 + (256 + (z 1).val); omega
  · refine low_piece 4 (iblk m c 0 t) (iblk m c 1 t) (iblk m c 2 t) (iblk m c 3 t) (View.ld (iblk m c 0 t) (Rect.unit (s := S640x2048) ![0, 512] S640x128.size inb_S640x2048_S640x128_0_512))
      (View.ld (iblk m c 1 t) (Rect.unit (s := S8x128x256) ![4, 0, 0] S1x128x256.size inb_S8x128x256_S1x128x256_4_0_0))
      (fun r k => congrArg (iblk m c 0 t) (ext2 ?_ ?_)) (fun k q => congrArg (iblk m c 1 t) (ext3 ?_ ?_ ?_)) z _ ?_ ?_
    · show 0 + 1 * r.val = r.val; omega
    · show 512 + 1 * k.val = 4 * 128 + k.val; omega
    · show 4 + 1 * 0 = 4; rfl
    · show 0 + 1 * k.val = k.val; omega
    · show 0 + 1 * q.val = q.val; omega
    · show 0 + 1 * (z 0).val = (z 0).val; omega
    · show 1536 + 1 * (z 1).val = 4 * 384 + (z 1).val; omega
  · refine high_piece 3 (iblk m c 0 t) (iblk m c 1 t) (iblk m c 2 t) (iblk m c 3 t) (View.ld (iblk m c 0 t) (Rect.unit (s := S640x2048) ![0, 1408] S640x128.size inb_S640x2048_S640x128_0_1408))
      (fun r k => congrArg (iblk m c 0 t) (ext2 ?_ ?_)) z _ ?_ ?_
    · show 0 + 1 * r.val = r.val; omega
    · show 1408 + 1 * k.val = 1024 + (3 * 128 + k.val); omega
    · show 0 + 1 * (z 0).val = (z 0).val; omega
    · show 1408 + 1 * (z 1).val = 3 * 384 + (256 + (z 1).val); omega
  · refine low_piece 3 (iblk m c 0 t) (iblk m c 1 t) (iblk m c 2 t) (iblk m c 3 t) (View.ld (iblk m c 0 t) (Rect.unit (s := S640x2048) ![0, 384] S640x128.size inb_S640x2048_S640x128_0_384))
      (View.ld (iblk m c 1 t) (Rect.unit (s := S8x128x256) ![3, 0, 0] S1x128x256.size inb_S8x128x256_S1x128x256_3_0_0))
      (fun r k => congrArg (iblk m c 0 t) (ext2 ?_ ?_)) (fun k q => congrArg (iblk m c 1 t) (ext3 ?_ ?_ ?_)) z _ ?_ ?_
    · show 0 + 1 * r.val = r.val; omega
    · show 384 + 1 * k.val = 3 * 128 + k.val; omega
    · show 3 + 1 * 0 = 3; rfl
    · show 0 + 1 * k.val = k.val; omega
    · show 0 + 1 * q.val = q.val; omega
    · show 0 + 1 * (z 0).val = (z 0).val; omega
    · show 1152 + 1 * (z 1).val = 3 * 384 + (z 1).val; omega
  · refine high_piece 2 (iblk m c 0 t) (iblk m c 1 t) (iblk m c 2 t) (iblk m c 3 t) (View.ld (iblk m c 0 t) (Rect.unit (s := S640x2048) ![0, 1280] S640x128.size inb_S640x2048_S640x128_0_1280))
      (fun r k => congrArg (iblk m c 0 t) (ext2 ?_ ?_)) z _ ?_ ?_
    · show 0 + 1 * r.val = r.val; omega
    · show 1280 + 1 * k.val = 1024 + (2 * 128 + k.val); omega
    · show 0 + 1 * (z 0).val = (z 0).val; omega
    · show 1024 + 1 * (z 1).val = 2 * 384 + (256 + (z 1).val); omega
  · refine low_piece 2 (iblk m c 0 t) (iblk m c 1 t) (iblk m c 2 t) (iblk m c 3 t) (View.ld (iblk m c 0 t) (Rect.unit (s := S640x2048) ![0, 256] S640x128.size inb_S640x2048_S640x128_0_256))
      (View.ld (iblk m c 1 t) (Rect.unit (s := S8x128x256) ![2, 0, 0] S1x128x256.size inb_S8x128x256_S1x128x256_2_0_0))
      (fun r k => congrArg (iblk m c 0 t) (ext2 ?_ ?_)) (fun k q => congrArg (iblk m c 1 t) (ext3 ?_ ?_ ?_)) z _ ?_ ?_
    · show 0 + 1 * r.val = r.val; omega
    · show 256 + 1 * k.val = 2 * 128 + k.val; omega
    · show 2 + 1 * 0 = 2; rfl
    · show 0 + 1 * k.val = k.val; omega
    · show 0 + 1 * q.val = q.val; omega
    · show 0 + 1 * (z 0).val = (z 0).val; omega
    · show 768 + 1 * (z 1).val = 2 * 384 + (z 1).val; omega
  · refine high_piece 1 (iblk m c 0 t) (iblk m c 1 t) (iblk m c 2 t) (iblk m c 3 t) (View.ld (iblk m c 0 t) (Rect.unit (s := S640x2048) ![0, 1152] S640x128.size inb_S640x2048_S640x128_0_1152))
      (fun r k => congrArg (iblk m c 0 t) (ext2 ?_ ?_)) z _ ?_ ?_
    · show 0 + 1 * r.val = r.val; omega
    · show 1152 + 1 * k.val = 1024 + (1 * 128 + k.val); omega
    · show 0 + 1 * (z 0).val = (z 0).val; omega
    · show 640 + 1 * (z 1).val = 1 * 384 + (256 + (z 1).val); omega
  · refine low_piece 1 (iblk m c 0 t) (iblk m c 1 t) (iblk m c 2 t) (iblk m c 3 t) (View.ld (iblk m c 0 t) (Rect.unit (s := S640x2048) ![0, 128] S640x128.size inb_S640x2048_S640x128_0_128))
      (View.ld (iblk m c 1 t) (Rect.unit (s := S8x128x256) ![1, 0, 0] S1x128x256.size inb_S8x128x256_S1x128x256_1_0_0))
      (fun r k => congrArg (iblk m c 0 t) (ext2 ?_ ?_)) (fun k q => congrArg (iblk m c 1 t) (ext3 ?_ ?_ ?_)) z _ ?_ ?_
    · show 0 + 1 * r.val = r.val; omega
    · show 128 + 1 * k.val = 1 * 128 + k.val; omega
    · show 1 + 1 * 0 = 1; rfl
    · show 0 + 1 * k.val = k.val; omega
    · show 0 + 1 * q.val = q.val; omega
    · show 0 + 1 * (z 0).val = (z 0).val; omega
    · show 384 + 1 * (z 1).val = 1 * 384 + (z 1).val; omega
  · refine high_piece 0 (iblk m c 0 t) (iblk m c 1 t) (iblk m c 2 t) (iblk m c 3 t) (View.ld (iblk m c 0 t) (Rect.unit (s := S640x2048) ![0, 1024] S640x128.size inb_S640x2048_S640x128_0_1024))
      (fun r k => congrArg (iblk m c 0 t) (ext2 ?_ ?_)) z _ ?_ ?_
    · show 0 + 1 * r.val = r.val; omega
    · show 1024 + 1 * k.val = 1024 + (0 * 128 + k.val); omega
    · show 0 + 1 * (z 0).val = (z 0).val; omega
    · show 256 + 1 * (z 1).val = 0 * 384 + (256 + (z 1).val); omega
  · refine low_piece 0 (iblk m c 0 t) (iblk m c 1 t) (iblk m c 2 t) (iblk m c 3 t) (View.ld (iblk m c 0 t) (Rect.unit (s := S640x2048) ![0, 0] S640x128.size inb_S640x2048_S640x128_0_0))
      (View.ld (iblk m c 1 t) (Rect.unit (s := S8x128x256) ![0, 0, 0] S1x128x256.size inb_S8x128x256_S1x128x256_0_0_0))
      (fun r k => congrArg (iblk m c 0 t) (ext2 ?_ ?_)) (fun k q => congrArg (iblk m c 1 t) (ext3 ?_ ?_ ?_)) z _ ?_ ?_
    · show 0 + 1 * r.val = r.val; omega
    · show 0 + 1 * k.val = 0 * 128 + k.val; omega
    · show 0 + 1 * 0 = 0; rfl
    · show 0 + 1 * k.val = k.val; omega
    · show 0 + 1 * q.val = q.val; omega
    · show 0 + 1 * (z 0).val = (z 0).val; omega
    · show 0 + 1 * (z 1).val = 0 * 384 + (z 1).val; omega

theorem index0 : ∀ t : Fin grid0.N, cc0_transform_0 (grid0.coords t) = ![(grid0.coords t 0).val, 0] := by decide +kernel
theorem index1 : ∀ t : Fin grid0.N, cc0_transform_1 (grid0.coords t) = ![0, 0, 0] := by decide +kernel
theorem index2 : ∀ t : Fin grid0.N, cc0_transform_2 (grid0.coords t) = ![(grid0.coords t 0).val, 0] := by decide +kernel
theorem index3 : ∀ t : Fin grid0.N, cc0_transform_3 (grid0.coords t) = ![(grid0.coords t 0).val, 0] := by decide +kernel
theorem index4 : ∀ t : Fin grid0.N, cc0_transform_4 (grid0.coords t) = ![(grid0.coords t 0).val, 0] := by decide +kernel

/-- A block of rows, at an index. -/
theorem rows_apply (c : Dev nD) (t : Fin cfg0.N) (r : Fin 640) (k : Fin 2048) (hr : (grid0.coords t 0).val * 640 + r.val < 8320) :
    iblk m c (0 : Fin 5) t (ix2 r k) = V m c main_arg0 (ix2 ⟨(grid0.coords t 0).val * 640 + r.val, hr⟩ k) := by
  refine congrArg (V m c main_arg0) ?_
  have e := index0 t
  refine ext2 ?_ ?_
  · exact (at_block 640 r.val (congrFun e 0) :)
  · exact (at_block_zero 2048 k.val (congrFun e 1) :)

/-- The block of the weight, which is the whole of it, at an index. -/
theorem weight_apply (c : Dev nD) (t : Fin cfg0.N) (h : Fin 8) (k : Fin 128) (q : Fin 256) :
    iblk m c (1 : Fin 5) t (ix3 h k q) = V m c main_v28 (ix3 h k q) := by
  refine congrArg (V m c main_v28) ?_
  have e := index1 t
  refine ext3 ?_ ?_ ?_
  · exact (at_block_zero 8 h.val (congrFun e 0) :)
  · exact (at_block_zero 128 k.val (congrFun e 1) :)
  · exact (at_block_zero 256 q.val (congrFun e 2) :)

/-- A block of the table of cosines, at an index. -/
theorem cosines_apply (c : Dev nD) (t : Fin cfg0.N) (r : Fin 640) (k : Fin 128) (hr : (grid0.coords t 0).val * 640 + r.val < 8320) :
    iblk m c (2 : Fin 5) t (ix2 r k) = V m c main_v22 (ix2 ⟨(grid0.coords t 0).val * 640 + r.val, hr⟩ k) := by
  refine congrArg (V m c main_v22) ?_
  have e := index2 t
  refine ext2 ?_ ?_
  · exact (at_block 640 r.val (congrFun e 0) :)
  · exact (at_block_zero 128 k.val (congrFun e 1) :)

/-- A block of the table of sines, at an index. -/
theorem sines_apply (c : Dev nD) (t : Fin cfg0.N) (r : Fin 640) (k : Fin 128) (hr : (grid0.coords t 0).val * 640 + r.val < 8320) :
    iblk m c (3 : Fin 5) t (ix2 r k) = V m c main_v24 (ix2 ⟨(grid0.coords t 0).val * 640 + r.val, hr⟩ k) := by
  refine congrArg (V m c main_v24) ?_
  have e := index3 t
  refine ext2 ?_ ?_
  · exact (at_block 640 r.val (congrFun e 0) :)
  · exact (at_block_zero 128 k.val (congrFun e 1) :)

/-- The place of a result block's index in the array. -/
theorem place_apply (t : Fin cfg0.N) (r : Fin 640) (q : Fin 3072) (hr : (grid0.coords t 0).val * 640 + r.val < 8320) :
    ((cfg0.win (4 : Fin 5)).blk t).view.emb (ix2 r q) = ix2 ⟨(grid0.coords t 0).val * 640 + r.val, hr⟩ q := by
  have e := index4 t
  refine ext2 ?_ ?_
  · exact (at_block 640 r.val (congrFun e 0) :)
  · exact (at_block_zero 3072 q.val (congrFun e 1) :)

/-- Every point writes its block back: the next point's block is another. -/
theorem flushes : ∀ t : Fin grid0.N, Pipeline.Window.flushOf grid0 true cc0_transform_4 t = true := by decide +kernel

/-- Every row tile is a point's. -/
theorem onto : ∀ i : Fin 13, ∃ t : Fin grid0.N, (grid0.coords t 0).val = i.val := by decide +kernel

/-- The result's blocks cover it. -/
theorem cover (y : S8320x3072.Idx) : ∃ t : Fin cfg0.N, (cfg0.win (4 : Fin 5)).flush t = true ∧ y ∈ ((cfg0.win (4 : Fin 5)).blk t).view.set := by
  have h0 : (y 0).val < 8320 := (y 0).isLt
  have h1 : (y 1).val < 3072 := (y 1).isLt
  obtain ⟨t, e0⟩ := onto ⟨(y 0).val / 640, by omega⟩
  have e0' : (grid0.coords t 0).val = (y 0).val / 640 := e0
  have hr : (grid0.coords t 0).val * 640 + (y 0).val % 640 < 8320 := by omega
  refine ⟨t, flushes t, ?_⟩
  have he := place_apply t ⟨(y 0).val % 640, by omega⟩ ⟨(y 1).val, h1⟩ hr
  have hy : y = ix2 ⟨(grid0.coords t 0).val * 640 + (y 0).val % 640, hr⟩ ⟨(y 1).val, h1⟩ :=
    ext2 (by show (y 0).val = (grid0.coords t 0).val * 640 + (y 0).val % 640; omega) rfl
  rw [hy, ← he]
  exact View.emb_mem_set _ _

/-- The array after the write-backs. -/
theorem final (c : Dev nD) : (dats m 0 c).arrAt (4 : Fin 5) cfg0.N
    = heads (n := 8320) (V m c main_arg0) (V m c main_v28) (V m c main_v22) (V m c main_v24) := by
  refine (dats m 0 c).arrAt_eq_of_emb (4 : Fin 5) _ (fun t _ y => ?_) cover
  obtain ⟨r, q, rfl⟩ : ∃ (r : Fin 640) (q : Fin 3072), y = ix2 r q := ⟨y 0, y 1, eq_ix2 y⟩
  have h0 : (grid0.coords t 0).val < 13 := (grid0.coords t 0).isLt
  have hr : (grid0.coords t 0).val * 640 + r.val < 8320 := by have := r.isLt; omega
  refine Eq.trans ?_ (congrArg (heads _ _ _ _) (place_apply t r q hr)).symm
  refine (congrFun (after0_4 m c t) (ix2 r q)).trans ?_
  refine (leaves_apply m c t (ix2 r q)).trans ?_
  show placeAt _ _ _ _ _ _ _ = placeAt _ _ _ _ _ _ _
  unfold placeAt
  by_cases hq : q.val % 384 < 256
  · refine (dif_pos hq).trans (Eq.trans ?_ (dif_pos hq).symm)
    refine Finset.sum_congr rfl fun k _ => ?_
    rw [weight_apply m c t]
    exact congrArg₂ (· * ·) (rows_apply m c t _ _ hr) rfl
  · refine (dif_neg hq).trans (Eq.trans ?_ (dif_neg hq).symm)
    exact congrArg₂ (· + ·) (congrArg₂ (· * ·) (rows_apply m c t _ _ hr) (cosines_apply m c t _ _ hr))
      (congrArg₂ (· * ·) (rows_apply m c t _ _ hr) (sines_apply m c t _ _ hr))

end Cert.Proof.Latent

end
-- ==== Proof.Latent.Host.lean ====
/- The host operations around the latent attention's queries: the weight the region reads, head by head, the tables of cosines
   and sines of every row's position, and the two results after the region, from the arguments. -/
module

public import proofs.«01_k».proof.Proof.Latent.Value
public import proofs.«01_k».proof.Proof.Odd.Angles
public import Idealize.ShloMosaic.Lib.KernelVsHost

@[expose] public section

set_option maxRecDepth 16384

noncomputable section

namespace Cert.Proof.Latent

open Cert.Kernel13Ideal Cert.Kernel13Ideal.Gen Cert.Proof.Rows
open Cert.Proof.Odd (partner positions angles angles_apply lanes lanes_low lanes_high cosine sine turnLow turnHigh)
open Idealize.ShloMosaic hiding ix1 ix2 ix3 ix4 eq_ix2
open Idealize.ShloMosaic.TcCoe Idealize.ShloMosaic.ValueIdx
open Idealize.SL Idealize.SL.Sem
open scoped BigOperators

/-- Lanes of the first half are turned with the lane 32 above. -/
theorem high_low {x : S8320x2048.Idx → EReal} {cs sn : S8320x128.Idx → EReal} {r : Fin 8320} {h : Fin 8} {p : BitVec 32} (j : Fin 32)
    (hc : cs (ix2 r ⟨j.val, by omega⟩) = cosine p j) (hs : sn (ix2 r ⟨j.val, by omega⟩) = -sine p j) :
    highAt (n := 8320) x cs sn r h ⟨j.val, by omega⟩ = turnLow (fun k : Fin 64 => x (ix2 r ⟨1024 + (h.val * 128 + k.val), by omega⟩)) p j := by
  have hj := j.isLt
  have ep : partner ⟨j.val, by omega⟩ = ⟨32 + j.val, by omega⟩ := by
    unfold partner
    rw [if_pos (show j.val < 32 from hj)]
    exact Fin.ext (show (j.val + 32) % 128 = 32 + j.val by omega)
  have ex : x (ix2 r ⟨1024 + (h.val * 128 + (partner ⟨j.val, by omega⟩).val), by have := (partner ⟨j.val, by omega⟩).isLt; omega⟩)
      = x (ix2 r ⟨1024 + (h.val * 128 + (32 + j.val)), by omega⟩) :=
    congrArg (fun a : Fin 2048 => x (ix2 r a)) (Fin.ext (congrArg (fun a : Fin 128 => 1024 + (h.val * 128 + a.val)) ep))
  refine (congrArg₂ (fun a b : EReal => a + b) (congrArg₂ (fun a b : EReal => a * b) rfl hc) (congrArg₂ (fun a b : EReal => a * b) ex hs)).trans ?_
  unfold turnLow
  rw [sub_eq_add_neg, mul_neg]

/-- Lanes of the second half are turned with the lane 32 below. -/
theorem high_high {x : S8320x2048.Idx → EReal} {cs sn : S8320x128.Idx → EReal} {r : Fin 8320} {h : Fin 8} {p : BitVec 32} (j : Fin 32)
    (hc : cs (ix2 r ⟨32 + j.val, by omega⟩) = cosine p j) (hs : sn (ix2 r ⟨32 + j.val, by omega⟩) = sine p j) :
    highAt (n := 8320) x cs sn r h ⟨32 + j.val, by omega⟩ = turnHigh (fun k : Fin 64 => x (ix2 r ⟨1024 + (h.val * 128 + k.val), by omega⟩)) p j := by
  have hj := j.isLt
  have ep : partner ⟨32 + j.val, by omega⟩ = ⟨j.val, by omega⟩ := by
    unfold partner
    rw [if_neg (show ¬ 32 + j.val < 32 by omega)]
    exact Fin.ext (show (32 + j.val + 96) % 128 = j.val by omega)
  have ex : x (ix2 r ⟨1024 + (h.val * 128 + (partner ⟨32 + j.val, by omega⟩).val), by have := (partner ⟨32 + j.val, by omega⟩).isLt; omega⟩)
      = x (ix2 r ⟨1024 + (h.val * 128 + (j.val)), by omega⟩) :=
    congrArg (fun a : Fin 2048 => x (ix2 r a)) (Fin.ext (congrArg (fun a : Fin 128 => 1024 + (h.val * 128 + a.val)) ep))
  refine (congrArg₂ (fun a b : EReal => a + b) (congrArg₂ (fun a b : EReal => a * b) rfl hc) (congrArg₂ (fun a b : EReal => a * b) ex hs)).trans ?_
  unfold turnHigh
  exact add_comm _ _

variable (m : (ℓ : Loc nD τ sig) → Buf (Elt Ideal) ℓ)

/-- The weight the region reads: the first member of the stack of weights, by head and column. -/
theorem weight_of (c : Dev nD) (h : Fin 8) (k : Fin 128) (q : Fin 256) :
    V m c main_v28 (ix3 h k q) = m ((c : Thread nD τ).loc main_arg1) (ix4 (0 : Fin 2) q h k) := by
  have e : V m c main_v28 = truncf (F := Ideal) .bf16 (transpose S8x128x256 [1, 2, 0] (shapeCast S256x8x128
      (extractStridedSlice S1x256x8x128 ![0, 0, 0, 0] (m ((c : Thread nD τ).loc main_arg1)) slices_S2x256x8x128_S1x256x8x128_0_0_0_0)
      shapeCasts_S1x256x8x128_S256x8x128) transposes_S256x8x128_S8x128x256_1_2_0) bitsLt_bf16_f32 := by
    unfold V V0
    simp only [hostOps0, List.flatten_cons, List.flatten_nil, List.append_nil]
    after_results; rfl
  rw [e]
  refine (show _ = transpose S8x128x256 [1, 2, 0] (shapeCast S256x8x128
      (extractStridedSlice S1x256x8x128 ![0, 0, 0, 0] (m ((c : Thread nD τ).loc main_arg1)) slices_S2x256x8x128_S1x256x8x128_0_0_0_0)
      shapeCasts_S1x256x8x128_S256x8x128) transposes_S256x8x128_S8x128x256_1_2_0 (ix3 h k q) from rfl).trans ?_
  refine (transpose_apply [1, 2, 0] _ transposes_S256x8x128_S8x128x256_1_2_0 (ix3 h k q) (ix3 q h k) (fun b => match b with
    | ⟨0, _⟩ => rfl
    | ⟨1, _⟩ => rfl
    | ⟨2, _⟩ => rfl)).trans ?_
  refine (shapeCast_apply _ shapeCasts_S1x256x8x128_S256x8x128 (ix3 q h k) (ix4 (0 : Fin 1) q h k) ?_).trans ?_
  · rw [Shape.rowMajor_val_three, Shape.rowMajor_val_four]
    show ((0 * 256 + q.val) * 8 + h.val) * 128 + k.val = (q.val * 8 + h.val) * 128 + k.val
    omega
  refine extractStridedSlice_apply _ _ slices_S2x256x8x128_S1x256x8x128_0_0_0_0 _ (ix4 (0 : Fin 2) q h k) fun a => ?_
  match a with
  | ⟨0, _⟩ => rfl
  | ⟨1, _⟩ => exact (Nat.zero_add _).symm
  | ⟨2, _⟩ => exact (Nat.zero_add _).symm
  | ⟨3, _⟩ => exact (Nat.zero_add _).symm

theorem cosines_eq (c : Dev nD) : V m c main_v22 = lanes (Host.cos (F := Ideal) (φ := .f32) angles) (Host.cos (F := Ideal) (φ := .f32) angles) := by
  unfold V V0
  simp only [hostOps0, List.flatten_cons, List.flatten_nil, List.append_nil]
  after_results; rfl

theorem sines_eq (c : Dev nD) : V m c main_v24
    = lanes (Host.negf (F := Ideal) (φ := .f32) (Host.sin (F := Ideal) (φ := .f32) angles)) (Host.sin (F := Ideal) (φ := .f32) angles) := by
  unfold V V0
  simp only [hostOps0, List.flatten_cons, List.flatten_nil, List.append_nil]
  after_results; rfl

theorem cosines_low (c : Dev nD) (i : Fin 8320) (j : Fin 32) : V m c main_v22 (ix2 i ⟨j.val, by omega⟩) = cosine (positions (ix1 i)) j := by
  rw [cosines_eq]
  exact (lanes_low _ _ i j).trans (congrArg (FloatOps.hostUnary (F := Ideal) (φ := .f32) .cos) (angles_apply i j))

theorem cosines_high (c : Dev nD) (i : Fin 8320) (j : Fin 32) : V m c main_v22 (ix2 i ⟨32 + j.val, by omega⟩) = cosine (positions (ix1 i)) j := by
  rw [cosines_eq]
  exact (lanes_high _ _ i j).trans (congrArg (FloatOps.hostUnary (F := Ideal) (φ := .f32) .cos) (angles_apply i j))

theorem sines_low (c : Dev nD) (i : Fin 8320) (j : Fin 32) : V m c main_v24 (ix2 i ⟨j.val, by omega⟩) = -sine (positions (ix1 i)) j := by
  rw [sines_eq]
  exact (lanes_low _ _ i j).trans (congrArg (fun a : EReal => -FloatOps.hostUnary (F := Ideal) (φ := .f32) .sin a) (angles_apply i j))

theorem sines_high (c : Dev nD) (i : Fin 8320) (j : Fin 32) : V m c main_v24 (ix2 i ⟨32 + j.val, by omega⟩) = sine (positions (ix1 i)) j := by
  rw [sines_eq]
  exact (lanes_high _ _ i j).trans (congrArg (FloatOps.hostUnary (F := Ideal) (φ := .f32) .sin) (angles_apply i j))

/-- The region's array, from what the host leaves before it. -/
def regionOut (c : Dev nD) : S8320x3072.Idx → EReal :=
  heads (n := 8320) (V m c main_arg0) (V m c main_v28) (V m c main_v22) (V m c main_v24)

/-- The first result after the region, from the region's array. -/
theorem first_tail (c : Dev nD) : Pipeline.afterTail₀ cfgs (dats m) 0 (V0 m) [hostOps1] c main_v31
    = extractStridedSlice S8320x8x256 ![0, 0, 0] (shapeCast S8320x8x384 (regionOut m c) shapeCasts_S8320x3072_S8320x8x384)
        slices_S8320x8x384_S8320x8x256_0_0_0 := by
  unfold regionOut
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (4 : Fin 5)]
  rfl

theorem second_tail (c : Dev nD) : Pipeline.afterTail₀ cfgs (dats m) 0 (V0 m) [hostOps1] c main_v32
    = extractStridedSlice S8320x8x64 ![0, 0, 256] (shapeCast S8320x8x384 (regionOut m c) shapeCasts_S8320x3072_S8320x8x384)
        slices_S8320x8x384_S8320x8x64_0_0_256 := by
  unfold regionOut
  rw [← final m c]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (4 : Fin 5)]
  rfl

/-- The columns of a head, by row, head and column. -/
theorem split_apply (g : S8320x3072.Idx → EReal) (r : Fin 8320) (h : Fin 8) (q : Fin 384) :
    shapeCast S8320x8x384 g shapeCasts_S8320x3072_S8320x8x384 (ix3 r h q) = g (ix2 r ⟨h.val * 384 + q.val, by omega⟩) := by
  refine shapeCast_apply _ shapeCasts_S8320x3072_S8320x8x384 (ix3 r h q) (ix2 r ⟨h.val * 384 + q.val, by omega⟩) ?_
  rw [Shape.rowMajor_val_three, Shape.rowMajor_val_two]
  show r.val * 3072 + (h.val * 384 + q.val) = (r.val * 8 + h.val) * 384 + q.val
  omega

/-- A head's columns of a row times that head's matrix of the first member of the stack of weights. -/
def entry (x : S8320x2048.Idx → EReal) (w : S2x256x8x128.Idx → EReal) (r : Fin 8320) (h : Fin 8) (q : Fin 256) : EReal :=
  ∑ k : Fin 128, x (ix2 r ⟨h.val * 128 + k.val, by omega⟩) * w (ix4 (0 : Fin 2) q h k)

theorem low_entry {x : S8320x2048.Idx → EReal} {v : S8x128x256.Idx → EReal} {w : S2x256x8x128.Idx → EReal} {r : Fin 8320} {h : Fin 8}
    {q : Fin 256} (hv : ∀ k, v (ix3 h k q) = w (ix4 (0 : Fin 2) q h k)) : lowAt (n := 8320) x v r h q = entry x w r h q := by
  show (∑ k : Fin 128, x (ix2 r ⟨h.val * 128 + k.val, by omega⟩) * v (ix3 h k q)) = ∑ k : Fin 128, x (ix2 r ⟨h.val * 128 + k.val, by omega⟩) * w (ix4 (0 : Fin 2) q h k)
  exact Finset.sum_congr rfl fun k _ => congrArg (x (ix2 r ⟨h.val * 128 + k.val, by omega⟩) * ·) (hv k)

/-- The columns with positions of head `h` of row `r`, before the padding. -/
def key (x : S8320x2048.Idx → EReal) (r : Fin 8320) (h : Fin 8) : Fin 64 → EReal :=
  fun k => x (ix2 r ⟨1024 + (h.val * 128 + k.val), by omega⟩)

/-- The first result, at an index. -/
theorem first_apply (c : Dev nD) (r : Fin 8320) (h : Fin 8) (q : Fin 256) :
    Pipeline.afterTail₀ cfgs (dats m) 0 (V0 m) [hostOps1] c main_v31 (ix3 r h q)
      = entry (m ((c : Thread nD τ).loc main_arg0)) (m ((c : Thread nD τ).loc main_arg1)) r h q := by
  rw [first_tail]
  refine (extractStridedSlice_apply _ _ slices_S8320x8x384_S8320x8x256_0_0_0 _ (ix3 r h (⟨q.val, by omega⟩ : Fin 384)) fun a => ?_).trans ?_
  · match a with
    | ⟨0, _⟩ => exact (Nat.zero_add _).symm
    | ⟨1, _⟩ => exact (Nat.zero_add _).symm
    | ⟨2, _⟩ => exact (Nat.zero_add _).symm
  refine (split_apply _ r h _).trans ?_
  unfold regionOut
  refine (heads_low (n := 8320) _ _ _ _ _ r h q rfl rfl).trans ?_
  rw [V_main_arg0 m c]
  exact low_entry fun k => weight_of m c h k q

/-- A lane of the second result, from the tables. -/
theorem second_lane (c : Dev nD) (r : Fin 8320) (h : Fin 8) (q : Fin 64) :
    Pipeline.afterTail₀ cfgs (dats m) 0 (V0 m) [hostOps1] c main_v32 (ix3 r h q)
      = highAt (n := 8320) (m ((c : Thread nD τ).loc main_arg0)) (V m c main_v22) (V m c main_v24) r h ⟨q.val, by omega⟩ := by
  rw [second_tail]
  refine (extractStridedSlice_apply _ _ slices_S8320x8x384_S8320x8x64_0_0_256 _ (ix3 r h (⟨256 + q.val, by omega⟩ : Fin 384)) fun a => ?_).trans ?_
  · match a with
    | ⟨0, _⟩ => exact (Nat.zero_add _).symm
    | ⟨1, _⟩ => exact (Nat.zero_add _).symm
    | ⟨2, _⟩ => rfl
  refine (split_apply _ r h _).trans ?_
  unfold regionOut
  refine (heads_high (n := 8320) _ _ _ _ _ r h ⟨q.val, by omega⟩ rfl rfl).trans ?_
  rw [V_main_arg0 m c]

/-- The second result, its first half of every head. -/
theorem second_low (c : Dev nD) (r : Fin 8320) (h : Fin 8) (j : Fin 32) :
    Pipeline.afterTail₀ cfgs (dats m) 0 (V0 m) [hostOps1] c main_v32 (ix3 r h (⟨j.val, by omega⟩ : Fin 64))
      = turnLow (key (m ((c : Thread nD τ).loc main_arg0)) r h) (positions (ix1 r)) j :=
  (second_lane m c r h ⟨j.val, by omega⟩).trans (high_low j (cosines_low m c r j) (sines_low m c r j))

/-- Its second half. -/
theorem second_high (c : Dev nD) (r : Fin 8320) (h : Fin 8) (j : Fin 32) :
    Pipeline.afterTail₀ cfgs (dats m) 0 (V0 m) [hostOps1] c main_v32 (ix3 r h (⟨32 + j.val, by omega⟩ : Fin 64))
      = turnHigh (key (m ((c : Thread nD τ).loc main_arg0)) r h) (positions (ix1 r)) j :=
  (second_lane m c r h ⟨32 + j.val, by omega⟩).trans (high_high j (cosines_high m c r j) (sines_high m c r j))

end Cert.Proof.Latent

end
-- ==== Proof.Latent.Claims.lean ====
/- The claims about the latent attention's queries: the three frames, and the kernel's two results equal to the reference's
   over the extended reals. -/
module

public import proofs.«01_k».proof.Defs
public import proofs.«01_k».proof.Proof.Gen.Kernel13
public import proofs.«01_k».proof.Proof.Gen.Kernel13.Frame
public import proofs.«01_k».proof.Proof.Gen.Reference13Ideal
public import proofs.«01_k».proof.Proof.Gen.Reference13Ideal.Run
public import proofs.«01_k».proof.Proof.Gen.Reference13Ideal.Read
public import proofs.«01_k».proof.Proof.Latent.Host
public import proofs.«01_k».proof.Proof.Odd.Reference
public import proofs.«01_k».proof.Proof.ValueUp.Value
public import Idealize.ShloMosaic.Adequacy
public import Idealize.ShloMosaic.Init

@[expose] public section

set_option maxRecDepth 16384

noncomputable section

namespace Cert.Proof.Latent

open Cert.Proof.Rows
open Cert.Proof.Odd (positions freq angle cosine sine turnLow turnHigh ext1)
open Idealize.ShloMosaic hiding ix1 ix2 ix3 ix4 eq_ix2
open Idealize.ShloMosaic.TcCoe Idealize.ShloMosaic.ValueIdx
open Idealize.SL Idealize.SL.Sem
open scoped BigOperators

section Reference

open Cert.Reference13Ideal Cert.Reference13Ideal.Gen Cert.Reference13Ideal.Read

/-- The reference's rows, split into halves and heads. -/
theorem reference_split (x : S8320x2048.Idx → EReal) (i : S8320x2x8x128.Idx) (r : Fin 8320) (a : Fin 2) (h : Fin 8) (k : Fin 128)
    (h0 : (i 0).val = r.val) (h1 : (i 1).val = a.val) (h2 : (i 2).val = h.val) (h3 : (i 3).val = k.val)
    (c : Fin 2048) (hc : c.val = a.val * 1024 + (h.val * 128 + k.val)) : val_main_v7 (F := Ideal) x i = x (ix2 r c) := by
  have hr := r.isLt
  have hh := h.isLt
  have hk := k.isLt
  have ha := a.isLt
  rw [val_main_v7_apply]
  refine congrArg x (ext2 ?_ ?_)
  · show ((((i 0).val * 2 + (i 1).val) * 8 + (i 2).val) * 128 + (i 3).val) / 2048 = r.val
    rw [h0, h1, h2, h3]; omega
  · show ((((i 0).val * 2 + (i 1).val) * 8 + (i 2).val) * 128 + (i 3).val) % 2048 = c.val
    rw [h0, h1, h2, h3, hc]; omega

/-- The reference's first result: the product of a head's columns and its matrix. -/
theorem reference_first (x : S8320x2048.Idx → EReal) (w : S2x256x8x128.Idx → EReal) (r : Fin 8320) (h : Fin 8) (q : Fin 256) :
    val_main_v13 (F := Ideal) x w (ix3 r h q) = entry x w r h q := by
  rw [val_main_v13_apply, val_main_v12_apply]
  refine Finset.sum_congr rfl fun k _ => ?_
  have hr := r.isLt
  have hh := h.isLt
  have hq := q.isLt
  have hk := k.isLt
  rw [val_main_v11_apply, val_main_v10_apply, val_main_v9_apply, val_main_v8_apply]
  refine (mul_comm _ _).trans (congrArg₂ (fun a b : EReal => a * b) ?_ (congrArg w (Cert.Proof.ValueUp.ext4 rfl ?_ ?_ ?_)))
  · refine reference_split x _ r (0 : Fin 2) h k ?_ rfl ?_ ?_ _ ?_
    · show ((r.val * 8 + h.val) * 128 + k.val) / 1024 = r.val
      omega
    · show ((r.val * 8 + h.val) * 128 + k.val) / 128 % 8 = h.val
      omega
    · show ((r.val * 8 + h.val) * 128 + k.val) % 128 = k.val
      omega
    · show h.val * 128 + k.val = 0 * 1024 + (h.val * 128 + k.val)
      omega
  · show ((q.val * 8 + h.val) * 128 + k.val) / 1024 % 256 = q.val
    omega
  · show ((q.val * 8 + h.val) * 128 + k.val) / 128 % 8 = h.val
    omega
  · show ((q.val * 8 + h.val) * 128 + k.val) % 128 = k.val
    omega

/-- The reference's columns that are turned. -/
theorem reference_key (x : S8320x2048.Idx → EReal) (r : Fin 8320) (h : Fin 8) (k : Fin 64) :
    val_main_v15 (F := Ideal) x (ix3 r h k) = key x r h k := by
  have hr := r.isLt
  have hh := h.isLt
  have hk := k.isLt
  rw [val_main_v15_apply, val_main_v14_apply]
  refine reference_split x _ r (1 : Fin 2) h (⟨k.val, by omega⟩ : Fin 128) ?_ rfl ?_ ?_ _ ?_
  · show ((r.val * 8 + h.val) * 64 + k.val) / 512 = r.val
    omega
  · show ((r.val * 8 + h.val) * 64 + k.val) / 64 % 8 = h.val
    omega
  · show ((r.val * 8 + h.val) * 64 + k.val) % 64 = k.val
    omega
  · show 1024 + (h.val * 128 + k.val) = 1 * 1024 + (h.val * 128 + k.val)
    omega

/-- The reference's frequencies. -/
theorem reference_freq (j : Fin 32) : val_main_v22 (F := Ideal) (ix1 j) = freq j := by
  rw [val_main_v22_apply, val_main_v21_apply, val_main_v20_apply, val_main_v19_apply, val_main_v18_apply]
  rfl

/-- The reference's positions. -/
theorem reference_positions : val_main_v6 (F := Ideal) = positions := rfl

/-- The reference's angles. -/
theorem reference_angle (r : Fin 8320) (j : Fin 32) :
    val_main_v28 (F := Ideal) (ix3 r (0 : Fin 1) j) = angle (positions (ix1 r)) j := by
  rw [val_main_v28_apply, val_main_v26_apply, val_main_v27_apply, val_main_v24_apply, val_main_v25_apply, val_main_v23_apply,
    val_main_v16_apply, reference_positions]
  have e : idx_main_v25 (idx_main_v27 (ix3 r (0 : Fin 1) j)) = ix1 j := ext1 rfl
  have e' : idx_main_v16 (idx_main_v24 (idx_main_v26 (ix3 r (0 : Fin 1) j))) = ix1 r := ext1 rfl
  rw [e, e', reference_freq]
  rfl

theorem reference_left (x : S8320x2048.Idx → EReal) (r : Fin 8320) (h : Fin 8) (j : Fin 32) :
    val_main_v31 (F := Ideal) x (ix3 r h j) = key x r h ⟨j.val, by omega⟩ := by
  rw [val_main_v31_apply]
  have e : idx_main_v31 (ix3 r h j) = ix3 r h (⟨j.val, by omega⟩ : Fin 64) := ext3 rfl rfl rfl
  rw [e]
  exact reference_key x r h ⟨j.val, by omega⟩

theorem reference_right (x : S8320x2048.Idx → EReal) (r : Fin 8320) (h : Fin 8) (j : Fin 32) :
    val_main_v32 (F := Ideal) x (ix3 r h j) = key x r h ⟨32 + j.val, by omega⟩ := by
  rw [val_main_v32_apply]
  have e : idx_main_v32 (ix3 r h j) = ix3 r h (⟨32 + j.val, by omega⟩ : Fin 64) := ext3 rfl rfl rfl
  rw [e]
  exact reference_key x r h ⟨32 + j.val, by omega⟩

/-- The reference's turned columns, their first half. -/
theorem reference_low (x : S8320x2048.Idx → EReal) (r : Fin 8320) (h : Fin 8) (j : Fin 32) :
    val_main_v37 (F := Ideal) x (ix3 r h j) = turnLow (key x r h) (positions (ix1 r)) j := by
  have hc : val_main_v33 (F := Ideal) (ix3 r h j) = cosine (positions (ix1 r)) j := by
    rw [val_main_v33_apply]
    have e : idx_main_v33 (ix3 r h j) = ix3 r (0 : Fin 1) j := ext3 rfl rfl rfl
    rw [e, val_main_v29_apply, reference_angle]
    rfl
  have hs : val_main_v35 (F := Ideal) (ix3 r h j) = sine (positions (ix1 r)) j := by
    rw [val_main_v35_apply]
    have e : idx_main_v35 (ix3 r h j) = ix3 r (0 : Fin 1) j := ext3 rfl rfl rfl
    rw [e, val_main_v30_apply, reference_angle]
    rfl
  rw [val_main_v37_apply, val_main_v34_apply, val_main_v36_apply, hc, hs, reference_left, reference_right]
  rfl

/-- Their second half. -/
theorem reference_high (x : S8320x2048.Idx → EReal) (r : Fin 8320) (h : Fin 8) (j : Fin 32) :
    val_main_v42 (F := Ideal) x (ix3 r h j) = turnHigh (key x r h) (positions (ix1 r)) j := by
  have hc : val_main_v40 (F := Ideal) (ix3 r h j) = cosine (positions (ix1 r)) j := by
    rw [val_main_v40_apply]
    have e : idx_main_v40 (ix3 r h j) = ix3 r (0 : Fin 1) j := ext3 rfl rfl rfl
    rw [e, val_main_v29_apply, reference_angle]
    rfl
  have hs : val_main_v38 (F := Ideal) (ix3 r h j) = sine (positions (ix1 r)) j := by
    rw [val_main_v38_apply]
    have e : idx_main_v38 (ix3 r h j) = ix3 r (0 : Fin 1) j := ext3 rfl rfl rfl
    rw [e, val_main_v30_apply, reference_angle]
    rfl
  rw [val_main_v42_apply, val_main_v39_apply, val_main_v41_apply, hc, hs, reference_left, reference_right]
  rfl

/-- The reference's second result, its first half of every head. -/
theorem reference_second_low (x : S8320x2048.Idx → EReal) (r : Fin 8320) (h : Fin 8) (j : Fin 32) :
    val_main_v43 (F := Ideal) x (ix3 r h ⟨j.val, by omega⟩) = turnLow (key x r h) (positions (ix1 r)) j := by
  refine (concatenate_pair_apply_left (t := S8320x8x64) (s₁ := S8320x8x32) (s₂ := S8320x8x32) (2 : Fin 3) _ _
    concatenates_S8320x8x32_S8320x8x32_S8320x8x64_d2 (ix3 r h ⟨j.val, by omega⟩) rfl (ix3 r h j) fun a => ?_).trans
    (reference_low x r h j)
  match a with
  | ⟨0, _⟩ => rfl
  | ⟨1, _⟩ => rfl
  | ⟨2, _⟩ => rfl

/-- Its second half. -/
theorem reference_second_high (x : S8320x2048.Idx → EReal) (r : Fin 8320) (h : Fin 8) (j : Fin 32) :
    val_main_v43 (F := Ideal) x (ix3 r h ⟨32 + j.val, by omega⟩) = turnHigh (key x r h) (positions (ix1 r)) j := by
  refine (concatenate_pair_apply_right (t := S8320x8x64) (s₁ := S8320x8x32) (s₂ := S8320x8x32) (2 : Fin 3) _ _
    concatenates_S8320x8x32_S8320x8x32_S8320x8x64_d2 (ix3 r h ⟨32 + j.val, by omega⟩) rfl rfl (ix3 r h j) (fun a ha => ?_) ?_).trans
    (reference_high x r h j)
  · match a with
    | ⟨0, _⟩ => rfl
    | ⟨1, _⟩ => rfl
    | ⟨2, _⟩ => exact absurd rfl ha
  · show j.val + 32 = 32 + j.val
    omega

end Reference

section Results

open Cert.Kernel13Ideal Cert.Kernel13Ideal.Gen

variable (m : (ℓ : Loc nD τ sig) → Buf (Elt Ideal) ℓ)

/-- The kernel's first result is the reference's. -/
theorem first (c : Dev nD) : Pipeline.afterTail₀ cfgs (dats m) 0 (V0 m) [hostOps1] c main_v31
    = Cert.Reference13Ideal.Read.val_main_v13 (F := Ideal) (m ((c : Thread nD τ).loc main_arg0)) (m ((c : Thread nD τ).loc main_arg1)) := by
  funext y
  obtain ⟨r, h, q, rfl⟩ : ∃ (r : Fin 8320) (h : Fin 8) (q : Fin 256), y = ix3 r h q := ⟨y 0, y 1, y 2, ValueIdx.eq_ix3 y⟩
  exact (first_apply m c r h q).trans (reference_first _ _ r h q).symm

/-- The kernel's second result is the reference's. -/
theorem second (c : Dev nD) : Pipeline.afterTail₀ cfgs (dats m) 0 (V0 m) [hostOps1] c main_v32
    = Cert.Reference13Ideal.Read.val_main_v43 (F := Ideal) (m ((c : Thread nD τ).loc main_arg0)) := by
  funext y
  obtain ⟨r, h, q, rfl⟩ : ∃ (r : Fin 8320) (h : Fin 8) (q : Fin 64), y = ix3 r h q := ⟨y 0, y 1, y 2, ValueIdx.eq_ix3 y⟩
  have hq := q.isLt
  by_cases hj : q.val < 32
  · exact (second_low m c r h ⟨q.val, hj⟩).trans (reference_second_low _ r h ⟨q.val, hj⟩).symm
  · have e : q = ⟨32 + (⟨q.val - 32, by omega⟩ : Fin 32).val, by show 32 + (q.val - 32) < 64; omega⟩ :=
      Fin.ext (show q.val = 32 + (q.val - 32) by omega)
    rw [e]
    exact (second_high m c r h ⟨q.val - 32, by omega⟩).trans (reference_second_high _ r h ⟨q.val - 32, by omega⟩).symm

end Results

theorem frame_kernel : Cert.quiescent_Kernel13 := fun m ρ _ => Cert.Kernel13.Gen.frame m ρ

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

theorem algebraic : Cert.algebraic_Kernel13Ideal_Reference13Ideal := fun m ρ m' ρ' _ hm => by
  refine ⟨fun c => Cert.Reference13Ideal.Read.val_main_v13 (F := Ideal)
      (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1)),
    fun c => Cert.Reference13Ideal.Read.val_main_v43 (F := Ideal)
      (m ((c.tc : Thread Cert.Kernel13Ideal.nD Cert.Kernel13Ideal.τ).loc Cert.Kernel13Ideal.main_arg0)), ?_, ?_⟩
  · exact (θ_run Cert.Kernel13Ideal.defs _ _).mono (fun _ h c => ⟨((h c).2 Cert.Kernel13Ideal.main_v31 (Pipeline.mem_restRefs_of Cert.Kernel13Ideal.main_v31 (by decide) (by decide))).trans
        (first m c),
      ((h c).2 Cert.Kernel13Ideal.main_v32 (Pipeline.mem_restRefs_of Cert.Kernel13Ideal.main_v32 (by decide) (by decide))).trans
        (second m c),
      ((h c).1 0).trans (((Cert.Kernel13Ideal.Gen.dats m 0 c).arrAt_in 0 rfl _).trans
        ((Cert.Kernel13Ideal.Gen.A_eq m c 0).trans (Cert.Kernel13Ideal.Gen.V_main_arg0 m c))),
      ((h c).2 Cert.Kernel13Ideal.main_arg1 (Pipeline.mem_restRefs_of Cert.Kernel13Ideal.main_arg1 (by decide) (by decide))).trans
        (Cert.Kernel13Ideal.Gen.W_main_arg1 m (Cert.Kernel13Ideal.Gen.dats m) c)⟩)
      (Cert.Kernel13Ideal.Gen.run_main (F := Ideal) m ρ)
  · exact (θ_run Cert.Reference13Ideal.defs _ _).mono (fun _ h c => ⟨((h c).1).trans ((Cert.Reference13Ideal.Read.val_main_v13_eq _ _).trans
        (congrArg₂ (Cert.Reference13Ideal.Read.val_main_v13 (F := Ideal)) (hm c).1 (hm c).2)),
      ((h c).2.1).trans ((Cert.Reference13Ideal.Read.val_main_v43_eq m' c).trans
        (congrArg (Cert.Reference13Ideal.Read.val_main_v43 (F := Ideal)) (hm c).1)),
      (h c).2.2⟩) (Cert.Reference13Ideal.Value.run (F := Ideal) m' ρ')

end Cert.Proof.Latent

end
-- ==== Proof.Diff.Value.lean ====
/- The difference of the two softmax maps' results and its norm, over the extended reals: what the call's result array holds. -/
module

public import proofs.«01_k».proof.Proof.Gen.Kernel14Ideal.Frame
public import proofs.«01_k».proof.Proof.Rows
public import Idealize.ShloMosaic.Lib.KernelVsHost
public import Idealize.ShloMosaic.Lib.ValueLayout
public import Idealize.ShloMosaic.PureOps.Ideal

@[expose] public section

set_option maxRecDepth 16384

noncomputable section

namespace Cert.Proof.Diff

open Cert.Kernel14Ideal Cert.Kernel14Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- The layer's factor, from its four rows: the exponential of one inner product less that of another, plus a constant. -/
def factor (l : Fin 4 → Fin 64 → EReal) : EReal :=
  Ideal.exp (∑ k : Fin 64, l 0 k * l 1 k) - Ideal.exp (∑ k : Fin 64, l 2 k * l 3 k) + Ideal.ofBits .f32 0x3E4CCCCD#32

/-- Entry `q` of head `h` of sample `s`: the first map's result less the second's times the factor. -/
def apart (o : S128x16x128.Idx → EReal) (f : EReal) (s : Fin 128) (h : Fin 8) (q : Fin 128) : EReal :=
  o (ix3 s (⟨h.val, by omega⟩ : Fin 16) q) - f * o (ix3 s (⟨8 + h.val, by omega⟩ : Fin 16) q)

/-- Entry `q` of the row `d` over the root of its mean square and a small constant, times a gain and a constant. -/
def scaled (d : Fin 128 → EReal) (g : EReal) (q : Fin 128) : EReal :=
  d q * Ideal.rsqrt (Ideal.div (∑ k : Fin 128, d k * d k) (Ideal.ofBits .f32 0x43000000#32) + Ideal.ofBits .f32 0x3727C5AC#32) * g
    * Ideal.ofBits .f32 0x3F4CCCCD#32

/-- The result, as an array. -/
def result (o : S128x16x128.Idx → EReal) (l : Fin 4 → Fin 64 → EReal) (g : Fin 128 → EReal) (y : S128x8x128.Idx) : EReal :=
  scaled (apart o (factor l) (y 0) (y 1)) (g (y 2)) (y 2)

/-- The inner product of two of the four rows, as the body computes it. -/
theorem inner_apply (v : FVec Ideal S4x64 .f32) (a b : Fin 4) (ha : S4x64.Slices ![a.val, 0] S1x64) (hb : S4x64.Slices ![b.val, 0] S1x64) :
    shapeCast S1x1 (multiReduction (F := Ideal) (φ := .f32) .add [(1 : Fin 2)] S1
      (mulf (extractStridedSlice S1x64 ![a.val, 0] v ha) (extractStridedSlice S1x64 ![b.val, 0] v hb)) 0x00000000#32 reduces_S1x64_S1 (.inl rfl) rfl)
      shapeCasts_S1_S1x1 (ix2 (0 : Fin 1) (0 : Fin 1)) = ∑ k : Fin 64, v (ix2 a k) * v (ix2 b k) := by
  refine (shapeCast_apply _ shapeCasts_S1_S1x1 (ix2 (0 : Fin 1) (0 : Fin 1)) (ix1 (0 : Fin 1)) ?_).trans ?_
  · rw [Shape.rowMajor_val_two, Shape.rowMajor_val_one]; rfl
  refine (Ideal.multiReduction_add_single (φ := .f32) (s := S1x64) (t := S1) (a := (1 : Fin 2)) _ 0x00000000#32 reduces_S1x64_S1 (.inl rfl) rfl (ix1 (0 : Fin 1))).trans ?_
  refine Finset.sum_congr rfl fun k _ => congrArg₂ (· * ·) ?_ ?_
  · refine extractStridedSlice_apply _ v ha _ (ix2 a k) fun x => ?_
    match x with
    | ⟨0, _⟩ => rfl
    | ⟨1, _⟩ => exact (Nat.zero_add _).symm
  · refine extractStridedSlice_apply _ v hb _ (ix2 b k) fun x => ?_
    match x with
    | ⟨0, _⟩ => rfl
    | ⟨1, _⟩ => exact (Nat.zero_add _).symm

/-- The factor, as the body computes it. -/
def factors (v : FVec Ideal S4x64 .f32) : FVec Ideal S1x1 .f32 :=
  addf (subf
      (exp (shapeCast S1x1 (multiReduction .add [1] S1 (mulf (extractStridedSlice S1x64 ![0, 0] v slices_S4x64_o0_0_S1x64)
        (extractStridedSlice S1x64 ![1, 0] v slices_S4x64_o1_0_S1x64)) 0x00000000#32 reduces_S1x64_S1 (.inl rfl) rfl) shapeCasts_S1_S1x1))
      (exp (shapeCast S1x1 (multiReduction .add [1] S1 (mulf (extractStridedSlice S1x64 ![2, 0] v slices_S4x64_o2_0_S1x64)
        (extractStridedSlice S1x64 ![3, 0] v slices_S4x64_o3_0_S1x64)) 0x00000000#32 reduces_S1x64_S1 (.inl rfl) rfl) shapeCasts_S1_S1x1)))
    (broadcast S1x1 (Scalar.ofBits .f32 0x3E4CCCCD#32))

theorem factors_apply (v : FVec Ideal S4x64 .f32) : factors v (ix2 (0 : Fin 1) (0 : Fin 1)) = factor (fun a k => v (ix2 a k)) := by
  unfold factors factor
  exact congrArg₂ (· + ·) (congrArg₂ (fun x y => Ideal.exp x - Ideal.exp y)
    (inner_apply v 0 1 slices_S4x64_o0_0_S1x64 slices_S4x64_o1_0_S1x64) (inner_apply v 2 3 slices_S4x64_o2_0_S1x64 slices_S4x64_o3_0_S1x64)) rfl

/-- The differences, as the body computes them. -/
def differences (f : FVec Ideal S1x1 .f32) (o : FVec Ideal S128x16x128 .f32) : FVec Ideal S128x8x128 .f32 :=
  subf (extractStridedSlice S128x8x128 ![0, 0, 0] o slices_S128x16x128_o0_0_0_S128x8x128)
    (mulf (broadcastTo S128x8x128 (shapeCast S1x1x1 f shapeCasts_S1x1_S1x1x1) broadcasts_S1x1x1_S128x8x128)
      (extractStridedSlice S128x8x128 ![0, 8, 0] o slices_S128x16x128_o0_8_0_S128x8x128))

theorem differences_apply (f : FVec Ideal S1x1 .f32) (o : FVec Ideal S128x16x128 .f32) (s : Fin 128) (h : Fin 8) (q : Fin 128) :
    differences f o (ix3 s h q) = apart o (f (ix2 (0 : Fin 1) (0 : Fin 1))) s h q := by
  unfold differences apart
  refine congrArg₂ (· - ·) ?_ (congrArg₂ (· * ·) ?_ ?_)
  · refine extractStridedSlice_apply _ o _ _ (ix3 s (⟨h.val, by omega⟩ : Fin 16) q) fun x => ?_
    match x with
    | ⟨0, _⟩ => exact (Nat.zero_add _).symm
    | ⟨1, _⟩ => exact (Nat.zero_add _).symm
    | ⟨2, _⟩ => exact (Nat.zero_add _).symm
  · refine (broadcastTo_apply _ broadcasts_S1x1x1_S128x8x128 (ix3 s h q) (ix3 (0 : Fin 1) (0 : Fin 1) (0 : Fin 1)) fun a => ?_).trans ?_
    · match a with
      | ⟨0, _⟩ => rfl
      | ⟨1, _⟩ => rfl
      | ⟨2, _⟩ => rfl
    · refine shapeCast_apply f _ _ (ix2 (0 : Fin 1) (0 : Fin 1)) ?_
      rw [Shape.rowMajor_val_two, Shape.rowMajor_val_three]; rfl
  · refine extractStridedSlice_apply _ o _ _ (ix3 s (⟨8 + h.val, by omega⟩ : Fin 16) q) fun x => ?_
    match x with
    | ⟨0, _⟩ => exact (Nat.zero_add _).symm
    | ⟨1, _⟩ => rfl
    | ⟨2, _⟩ => exact (Nat.zero_add _).symm

/-- The sum of a head's lanes, kept as a column, at an index. -/
theorem laneSum_apply (x : FVec Ideal S128x8x128 .f32) (s : Fin 128) (h : Fin 8) :
    shapeCast S128x8x1 (multiReduction (F := Ideal) (φ := .f32) .add [(2 : Fin 3)] S128x8 x 0x00000000#32 reduces_S128x8x128_S128x8 (.inl rfl) rfl)
      shapeCasts_S128x8_S128x8x1 (ix3 s h (0 : Fin 1)) = ∑ k : Fin 128, x (ix3 s h k) := by
  refine (shapeCast_apply _ shapeCasts_S128x8_S128x8x1 (ix3 s h (0 : Fin 1)) (ix2 s h) ?_).trans ?_
  · rw [Shape.rowMajor_val_two, Shape.rowMajor_val_three]
    show s.val * 8 + h.val = (s.val * 8 + h.val) * 1 + 0; omega
  refine (Ideal.multiReduction_add_single (φ := .f32) (s := S128x8x128) (t := S128x8) (a := (2 : Fin 3)) x 0x00000000#32 reduces_S128x8x128_S128x8 (.inl rfl) rfl (ix2 s h)).trans ?_
  exact Finset.sum_congr rfl fun k _ => congrArg x (ext3 rfl rfl rfl)

/-- What the body computes from its arrays, at an index. -/
theorem body_apply (v : Vec Ideal S4x64 .f32) (o : Vec Ideal S128x16x128 .f32) (g : Vec Ideal S1x128 .f32) (s : Fin 128) (h : Fin 8) (q : Fin 128) :
    k0_pay1 (F := Ideal) v o g (ix3 s h q)
      = scaled (apart o (factor (fun a k => v (ix2 a k))) s h) (g (ix2 (0 : Fin 1) q)) q := by
  have hv : shapeCast S4x64 v shapeCasts_S4x64_S4x64 = v := funext fun y => shapeCast_apply v _ y y rfl
  have hg : shapeCast S1x128 g shapeCasts_S1x128_S1x128 = g := funext fun y => shapeCast_apply g _ y y rfl
  have hd : ∀ k, differences (factors v) o (ix3 s h k) = apart o (factor (fun a k => v (ix2 a k))) s h k := fun k =>
    (differences_apply (factors v) o s h k).trans (congrArg (fun f => apart o f s h k) (factors_apply v))
  unfold k0_pay1 scaled
  simp only [hv, hg]
  refine congrArg₂ (· * ·) (congrArg₂ (· * ·) (congrArg₂ (· * ·) (hd q) ?_) ?_) rfl
  · refine (broadcastTo_apply _ broadcasts_S128x8x1_S128x8x128 (ix3 s h q) (ix3 s h (0 : Fin 1)) fun a => ?_).trans ?_
    · match a with
      | ⟨0, _⟩ => rfl
      | ⟨1, _⟩ => rfl
      | ⟨2, _⟩ => rfl
    refine congrArg Ideal.rsqrt (congrArg₂ (· + ·) (congrArg₂ Ideal.div ?_ rfl) rfl)
    refine (laneSum_apply _ s h).trans ?_
    exact Finset.sum_congr rfl fun k _ => congrArg₂ (· * ·) (hd k) (hd k)
  · refine (broadcastTo_apply _ broadcasts_S1x1x128_S128x8x128 (ix3 s h q) (ix3 (0 : Fin 1) (0 : Fin 1) q) fun a => ?_).trans ?_
    · match a with
      | ⟨0, _⟩ => rfl
      | ⟨1, _⟩ => rfl
      | ⟨2, _⟩ => rfl
    · refine shapeCast_apply g _ _ (ix2 (0 : Fin 1) q) ?_
      rw [Shape.rowMajor_val_two, Shape.rowMajor_val_three]; rfl

/-- What the body leaves, from the arrays it reads. -/
theorem leaves_apply (o : Vec Ideal S128x16x128 .f32) (v : Vec Ideal S4x64 .f32) (g : Vec Ideal S1x128 .f32) (s : Fin 128) (h : Fin 8) (q : Fin 128) :
    out0_3 (F := Ideal) o v g (ix3 s h q)
      = scaled (apart o (factor (fun a k => v (ix2 a k))) s h) (g (ix2 (0 : Fin 1) q)) q := by
  have z : (![0, 0] : Fin 2 → ℕ) = fun _ => 0 := by decide
  have z3 : (![0, 0, 0] : Fin 3 → ℕ) = fun _ => 0 := by decide
  unfold out0_3
  rw [View.canon_unit_zero (Val := Elt Ideal) (S := S128x8x128) z3, View.ld_unit_zero (Val := Elt Ideal) (S := S4x64) z,
    View.ld_unit_zero (Val := Elt Ideal) (S := S128x16x128) z3, View.ld_unit_zero (Val := Elt Ideal) (S := S1x128) z]
  exact body_apply v o g s h q

variable (m : (ℓ : Loc nD τ sig) → Buf (Elt Ideal) ℓ)

/-- The only point's blocks are the whole arrays. -/
theorem maps_whole (c : Dev nD) (t : Fin cfg0.N) : iblk m c (0 : Fin 4) t = V m c main_arg0 := by
  funext y
  refine congrArg (V m c main_arg0) (ext3 ?_ ?_ ?_)
  · show 0 * 128 + 1 * (y 0).val = (y 0).val; omega
  · show 0 * 16 + 1 * (y 1).val = (y 1).val; omega
  · show 0 * 128 + 1 * (y 2).val = (y 2).val; omega

theorem rows_whole (c : Dev nD) (t : Fin cfg0.N) : iblk m c (1 : Fin 4) t = V m c main_v1 := by
  funext y
  refine congrArg (V m c main_v1) (ext2 ?_ ?_)
  · show 0 * 4 + 1 * (y 0).val = (y 0).val; omega
  · show 0 * 64 + 1 * (y 1).val = (y 1).val; omega

theorem gains_whole (c : Dev nD) (t : Fin cfg0.N) : iblk m c (2 : Fin 4) t = V m c main_v4 := by
  funext y
  refine congrArg (V m c main_v4) (ext2 ?_ ?_)
  · show 0 * 1 + 1 * (y 0).val = (y 0).val; omega
  · show 0 * 128 + 1 * (y 1).val = (y 1).val; omega

theorem place (t : Fin cfg0.N) (y : S128x8x128.Idx) : ((cfg0.win (3 : Fin 4)).blk t).view.emb y = y := by
  refine ext3 ?_ ?_ ?_
  · show 0 * 128 + 1 * (y 0).val = (y 0).val; omega
  · show 0 * 8 + 1 * (y 1).val = (y 1).val; omega
  · show 0 * 128 + 1 * (y 2).val = (y 2).val; omega

/-- The result's block covers it. -/
theorem cover (y : S128x8x128.Idx) : ∃ t : Fin cfg0.N, (cfg0.win (3 : Fin 4)).flush t = true ∧ y ∈ ((cfg0.win (3 : Fin 4)).blk t).view.set := by
  refine ⟨⟨0, by decide⟩, by decide +kernel, ?_⟩
  have h := View.emb_mem_set (v := ((cfg0.win (3 : Fin 4)).blk ⟨0, by decide⟩).view) y
  rwa [place] at h

/-- The array after the call. -/
theorem final (c : Dev nD) : (dats m 0 c).arrAt (3 : Fin 4) cfg0.N
    = result (V m c main_arg0) (fun a k => V m c main_v1 (ix2 a k)) (fun k => V m c main_v4 (ix2 (0 : Fin 1) k)) := by
  refine (dats m 0 c).arrAt_eq_of_emb (3 : Fin 4) _ (fun t _ y => ?_) cover
  obtain ⟨s, h, q, rfl⟩ : ∃ (s : Fin 128) (h : Fin 8) (q : Fin 128), y = ix3 s h q := ⟨y 0, y 1, y 2, ext3 rfl rfl rfl⟩
  refine Eq.trans ?_ (congrArg (result _ _ _) (place t (ix3 s h q))).symm
  refine (congrFun (after0_3 m c t) (ix3 s h q)).trans ?_
  rw [maps_whole, rows_whole, gains_whole]
  exact leaves_apply _ _ _ s h q

end Cert.Proof.Diff

end
-- ==== Proof.Diff.Claims.lean ====
/- The claims about the samples' difference of the two softmax maps: the three frames, and the kernel's result equal to the
   reference's over the extended reals. -/
module

public import proofs.«01_k».proof.Defs
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Diff.Value
public import Idealize.ShloMosaic.Adequacy
public import Idealize.ShloMosaic.Init

@[expose] public section

set_option maxRecDepth 16384

noncomputable section

namespace Cert.Proof.Diff

open Cert.Proof.Rows
open Idealize.ShloMosaic hiding ix1 ix2 ix3 ix4 eq_ix1 eq_ix2
open Idealize.ShloMosaic.TcCoe Idealize.ShloMosaic.ValueIdx
open Idealize.SL Idealize.SL.Sem
open scoped BigOperators

section Kernel

open Cert.Kernel14Ideal Cert.Kernel14Ideal.Gen

variable (m : (ℓ : Loc nD τ sig) → Buf (Elt Ideal) ℓ)

/-- The four rows that the call reads are the first layer's. -/
theorem rows_of (c : Dev nD) (a : Fin 4) (k : Fin 64) :
    V m c main_v1 (ix2 a k) = m ((c : Thread nD τ).loc main_arg1) (ix3 (0 : Fin 2) a k) := by
  have e : V m c main_v1 = shapeCast S4x64 (extractStridedSlice S1x4x64 ![0, 0, 0] (m ((c : Thread nD τ).loc main_arg1))
      slices_S2x4x64_S1x4x64_0_0_0) shapeCasts_S1x4x64_S4x64 := by
    unfold V hostOps0; after_results; rfl
  rw [e]
  refine (shapeCast_apply _ shapeCasts_S1x4x64_S4x64 (ix2 a k) (ix3 (0 : Fin 1) a k) ?_).trans ?_
  · rw [Shape.rowMajor_val_three, Shape.rowMajor_val_two]
    show (0 * 4 + a.val) * 64 + k.val = a.val * 64 + k.val; omega
  refine extractStridedSlice_apply _ _ slices_S2x4x64_S1x4x64_0_0_0 _ (ix3 (0 : Fin 2) a k) fun x => ?_
  match x with
  | ⟨0, _⟩ => rfl
  | ⟨1, _⟩ => exact (Nat.zero_add _).symm
  | ⟨2, _⟩ => exact (Nat.zero_add _).symm

/-- The gains that the call reads are the first layer's. -/
theorem gains_of (c : Dev nD) (q : Fin 128) :
    V m c main_v4 (ix2 (0 : Fin 1) q) = m ((c : Thread nD τ).loc main_arg2) (ix2 (0 : Fin 2) q) := by
  have e : V m c main_v4 = shapeCast S1x128 (shapeCast S128 (extractStridedSlice S1x128 ![0, 0] (m ((c : Thread nD τ).loc main_arg2))
      slices_S2x128_S1x128_0_0) shapeCasts_S1x128_S128) shapeCasts_S128_S1x128 := by
    unfold V hostOps0; after_results; rfl
  rw [e]
  refine (shapeCast_apply _ shapeCasts_S128_S1x128 (ix2 (0 : Fin 1) q) (ix1 q) ?_).trans ?_
  · rw [Shape.rowMajor_val_one, Shape.rowMajor_val_two]
    show q.val = 0 * 128 + q.val; omega
  refine (shapeCast_apply _ shapeCasts_S1x128_S128 (ix1 q) (ix2 (0 : Fin 1) q) ?_).trans ?_
  · rw [Shape.rowMajor_val_one, Shape.rowMajor_val_two]
    show 0 * 128 + q.val = q.val; omega
  refine extractStridedSlice_apply _ _ slices_S2x128_S1x128_0_0 _ (ix2 (0 : Fin 2) q) fun x => ?_
  match x with
  | ⟨0, _⟩ => rfl
  | ⟨1, _⟩ => exact (Nat.zero_add _).symm

/-- The result from the call's arrays is the result from the kernel's arguments. -/
theorem result_of (c : Dev nD) :
    result (V m c main_arg0) (fun a k => V m c main_v1 (ix2 a k)) (fun k => V m c main_v4 (ix2 (0 : Fin 1) k))
      = result (m ((c : Thread nD τ).loc main_arg0)) (fun a k => m ((c : Thread nD τ).loc main_arg1) (ix3 (0 : Fin 2) a k))
          (fun k => m ((c : Thread nD τ).loc main_arg2) (ix2 (0 : Fin 2) k)) := by
  rw [V_main_arg0 m c, funext fun a => funext (rows_of m c a), funext (gains_of m c)]

end Kernel

section Reference

open Cert.Reference14Ideal Cert.Reference14Ideal.Read

variable (o : S128x16x128.Idx → EReal) (l : S2x4x64.Idx → EReal) (g : S2x128.Idx → EReal)

/-- A sum over the indices of a vector is a sum over its entries. -/
theorem sum_vector (f : S64.Idx → EReal) : ∑ j : S64.Idx, f j = ∑ k : Fin 64, f (ix1 k) :=
  Fintype.sum_equiv ⟨fun j => j 0, ix1, fun j => (eq_ix1 j).symm, fun _ => rfl⟩ _ _ fun j => congrArg f (eq_ix1 j)

/-- The reference's two inner products. -/
theorem first_inner (i : S_.Idx) : val_main_v7 (F := Ideal) l i = ∑ k : Fin 64, l (ix3 (0 : Fin 2) (0 : Fin 4) k) * l (ix3 (0 : Fin 2) (1 : Fin 4) k) := by
  rw [val_main_v7_apply, val_main_cst_apply,
    show (FloatOps.ofBits (F := Ideal) .f32 0x00000000#32) = (0 : EReal) from Ideal.ofBits_zero_f32, zero_add, sum_vector]
  refine Finset.sum_congr rfl fun k _ => ?_
  rw [val_main_v6_apply, val_main_v3_apply, val_main_v2_apply, val_main_v1_apply, val_main_v0_apply,
    val_main_v5_apply, val_main_v4_apply, val_main_v1_apply, val_main_v0_apply]
  refine congrArg₂ (· * ·) (congrArg l (ext3 ?_ ?_ ?_)) (congrArg l (ext3 ?_ ?_ ?_))
  · rfl
  · show (0 * 64 + k.val % 64) / 64 % 4 = 0; omega
  · show (0 * 64 + k.val % 64) % 64 = k.val; omega
  · rfl
  · show (1 * 64 + k.val % 64) / 64 % 4 = 1; omega
  · show (1 * 64 + k.val % 64) % 64 = k.val; omega

theorem second_inner (i : S_.Idx) : val_main_v14 (F := Ideal) l i = ∑ k : Fin 64, l (ix3 (0 : Fin 2) (2 : Fin 4) k) * l (ix3 (0 : Fin 2) (3 : Fin 4) k) := by
  rw [val_main_v14_apply, val_main_cst_0_apply,
    show (FloatOps.ofBits (F := Ideal) .f32 0x00000000#32) = (0 : EReal) from Ideal.ofBits_zero_f32, zero_add, sum_vector]
  refine Finset.sum_congr rfl fun k _ => ?_
  rw [val_main_v13_apply, val_main_v10_apply, val_main_v9_apply, val_main_v1_apply, val_main_v0_apply,
    val_main_v12_apply, val_main_v11_apply, val_main_v1_apply, val_main_v0_apply]
  refine congrArg₂ (· * ·) (congrArg l (ext3 ?_ ?_ ?_)) (congrArg l (ext3 ?_ ?_ ?_))
  · rfl
  · show (2 * 64 + k.val % 64) / 64 % 4 = 2; omega
  · show (2 * 64 + k.val % 64) % 64 = k.val; omega
  · rfl
  · show (3 * 64 + k.val % 64) / 64 % 4 = 3; omega
  · show (3 * 64 + k.val % 64) % 64 = k.val; omega

/-- The reference's factor. -/
theorem factor_reference (i : S_.Idx) : val_main_v17 (F := Ideal) l i = factor (fun a k => l (ix3 (0 : Fin 2) a k)) := by
  rw [val_main_v17_apply, val_main_v16_apply, val_main_v8_apply, val_main_v15_apply, first_inner, second_inner, val_main_cst_1_apply]
  rfl

/-- The reference's difference, at an index. -/
theorem apart_reference (i : S128x8x128.Idx) (s : Fin 128) (h : Fin 8) (q : Fin 128) (h0 : (i 0).val = s.val) (h1 : (i 1).val = h.val)
    (h2 : (i 2).val = q.val) : val_main_v25 (F := Ideal) o l i = apart o (factor (fun a k => l (ix3 (0 : Fin 2) a k))) s h q := by
  have e : i = ix3 s h q := ext3 h0 h1 h2
  subst e
  rw [val_main_v25_apply, val_main_v20_apply, val_main_v19_apply, val_main_v18_apply, val_main_v24_apply, val_main_v23_apply,
    factor_reference, val_main_v22_apply, val_main_v21_apply, val_main_v18_apply]
  have ea : idx_main_v18 (idx_main_v19 (idx_main_v20 (ix3 s h q))) = ix3 s (⟨h.val, by omega⟩ : Fin 16) q := by
    refine ext3 ?_ ?_ ?_
    · show ((((((s.val * 8 + h.val) * 128 + q.val) / 1024) * 2 + 0) * 8 + ((s.val * 8 + h.val) * 128 + q.val) / 128 % 8) * 128
        + ((s.val * 8 + h.val) * 128 + q.val) % 128) / 2048 = s.val
      omega
    · show ((((((s.val * 8 + h.val) * 128 + q.val) / 1024) * 2 + 0) * 8 + ((s.val * 8 + h.val) * 128 + q.val) / 128 % 8) * 128
        + ((s.val * 8 + h.val) * 128 + q.val) % 128) / 128 % 16 = h.val
      omega
    · show ((((((s.val * 8 + h.val) * 128 + q.val) / 1024) * 2 + 0) * 8 + ((s.val * 8 + h.val) * 128 + q.val) / 128 % 8) * 128
        + ((s.val * 8 + h.val) * 128 + q.val) % 128) % 128 = q.val
      omega
  have eb : idx_main_v18 (idx_main_v21 (idx_main_v22 (ix3 s h q))) = ix3 s (⟨8 + h.val, by omega⟩ : Fin 16) q := by
    refine ext3 ?_ ?_ ?_
    · show ((((((s.val * 8 + h.val) * 128 + q.val) / 1024) * 2 + 1) * 8 + ((s.val * 8 + h.val) * 128 + q.val) / 128 % 8) * 128
        + ((s.val * 8 + h.val) * 128 + q.val) % 128) / 2048 = s.val
      omega
    · show ((((((s.val * 8 + h.val) * 128 + q.val) / 1024) * 2 + 1) * 8 + ((s.val * 8 + h.val) * 128 + q.val) / 128 % 8) * 128
        + ((s.val * 8 + h.val) * 128 + q.val) % 128) / 128 % 16 = 8 + h.val
      omega
    · show ((((((s.val * 8 + h.val) * 128 + q.val) / 1024) * 2 + 1) * 8 + ((s.val * 8 + h.val) * 128 + q.val) / 128 % 8) * 128
        + ((s.val * 8 + h.val) * 128 + q.val) % 128) % 128 = q.val
      omega
  rw [ea, eb]
  rfl

/-- The reference's result. -/
theorem reference : val_main_v42 (F := Ideal) o l g
    = result o (fun a k => l (ix3 (0 : Fin 2) a k)) (fun k => g (ix2 (0 : Fin 2) k)) := by
  funext y
  obtain ⟨s, h, q, rfl⟩ : ∃ (s : Fin 128) (h : Fin 8) (q : Fin 128), y = ix3 s h q := ⟨y 0, y 1, y 2, ext3 rfl rfl rfl⟩
  rw [val_main_v42_apply, val_main_v40_apply, val_main_v35_apply, val_main_v34_apply, val_main_v33_apply, val_main_v32_apply,
    val_main_v30_apply, val_main_v28_apply, val_main_v27_apply, val_main_v29_apply, val_main_v31_apply, val_main_v39_apply,
    val_main_v38_apply, val_main_v37_apply, val_main_v36_apply, val_main_v41_apply, val_main_cst_2_apply, val_main_cst_3_apply,
    val_main_cst_4_apply, val_main_cst_5_apply]
  rw [show (FloatOps.ofBits (F := Ideal) .f32 0x00000000#32) = (0 : EReal) from Ideal.ofBits_zero_f32, zero_add]
  have ed : ∀ k : Fin 128, val_main_v26 (F := Ideal) o l (idx_main_v27 (idx_main_v28 (idx_main_v34 (ix3 s h q))) k)
      = apart o (factor (fun a k => l (ix3 (0 : Fin 2) a k))) s h k * apart o (factor (fun a k => l (ix3 (0 : Fin 2) a k))) s h k := fun k => by
    rw [val_main_v26_apply, apart_reference o l _ s h k rfl rfl rfl]
    rfl
  rw [Finset.sum_congr rfl fun k _ => ed k, apart_reference o l _ s h q rfl rfl rfl]
  have eg : idx_main_v36 (idx_main_v37 (idx_main_v38 (idx_main_v39 (ix3 s h q)))) = ix2 (0 : Fin 2) q :=
    ext2 rfl (Nat.mod_eq_of_lt q.isLt)
  rw [eg]
  rfl

end Reference

theorem frame_kernel : Cert.quiescent_Kernel14 := fun m ρ _ => Cert.Kernel14.Gen.frame m ρ

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic : Cert.algebraic_Kernel14Ideal_Reference14Ideal := fun m ρ m' ρ' _ hm => by
  refine ⟨fun c => Cert.Reference14Ideal.Read.val_main_v42 (F := Ideal)
    (m ((c.tc : Thread Cert.Kernel14Ideal.nD Cert.Kernel14Ideal.τ).loc Cert.Kernel14Ideal.main_arg0))
    (m ((c.tc : Thread Cert.Kernel14Ideal.nD Cert.Kernel14Ideal.τ).loc Cert.Kernel14Ideal.main_arg1))
    (m ((c.tc : Thread Cert.Kernel14Ideal.nD Cert.Kernel14Ideal.τ).loc Cert.Kernel14Ideal.main_arg2)), ?_, ?_⟩
  · refine (θ_run Cert.Kernel14Ideal.defs _ _).mono (fun _ h c => ⟨?_, (h c).2⟩) (Cert.Kernel14Ideal.Value.run_blocks (F := Ideal) m ρ)
    rw [(h c).1, final m c, result_of m c]
    exact (reference _ _ _).symm
  · refine (θ_run Cert.Reference14Ideal.defs _ _).mono (fun _ h c => ⟨?_, (h c).2⟩) (Cert.Reference14Ideal.Value.run (F := Ideal) m' ρ')
    rw [(h c).1, Cert.Reference14Ideal.Read.val_main_v42_eq, (hm c).1, (hm c).2.1, (hm c).2.2]

end Cert.Proof.Diff

end
-- ==== Proof.Route.Best.lean ====
/- The first place where a row is greatest and the first among the others: that they exist, the greatest value and its place as a
   fold of the maximum and a fold of the least number find them, and the first two places of the stable descending sort. -/
module

public import Idealize.ShloMosaic.Lib.SortPrefix
public import Idealize.ShloMosaic.PureOps.Ideal
public import Idealize.ShloMosaic.PureOps.Reduce

@[expose] public section

noncomputable section

namespace Cert.Proof.Route

open Idealize.ShloMosaic

variable {n : ℕ}

/-- `a` is the first place where `f` is greatest among the places of `p`. -/
def Best (f : Fin n → EReal) (p : Fin n → Prop) (a : Fin n) : Prop := p a ∧ ∀ k, p k → f k < f a ∨ (f k = f a ∧ a ≤ k)

theorem exists_best (f : Fin n → EReal) (p : Fin n → Prop) (hp : ∃ k, p k) : ∃ a, Best f p a := by
  classical
  obtain ⟨k, hk⟩ := hp
  obtain ⟨g, hg, hmax⟩ := Finset.exists_max_image (Finset.univ.filter p) f ⟨k, by simpa using hk⟩
  have hne : (Finset.univ.filter fun k => p k ∧ f k = f g).Nonempty := ⟨g, by simpa using hg⟩
  refine ⟨Finset.min' _ hne, ?_, fun j hj => ?_⟩
  · have := Finset.min'_mem _ hne
    rw [Finset.mem_filter] at this
    exact this.2.1
  · have e : f (Finset.min' _ hne) = f g := by
      have := Finset.min'_mem _ hne
      rw [Finset.mem_filter] at this
      exact this.2.2
    rw [e]
    rcases lt_or_eq_of_le (hmax j (by simpa using hj)) with h | h
    · exact Or.inl h
    · exact Or.inr ⟨h, Finset.min'_le _ _ (by rw [Finset.mem_filter]; exact ⟨Finset.mem_univ _, hj, h⟩)⟩

/-- The first place of eight where `f` is greatest. -/
def best (f : Fin 8 → EReal) : Fin 8 := Classical.choose (exists_best f (fun _ => True) ⟨0, trivial⟩)

theorem best_spec (f : Fin 8 → EReal) : Best f (fun _ => True) (best f) := Classical.choose_spec (exists_best f (fun _ => True) ⟨0, trivial⟩)

theorem exists_other (a : Fin 8) : ∃ k : Fin 8, k ≠ a := by
  by_cases h : a = 0
  · exact ⟨1, by rw [h]; decide⟩
  · exact ⟨0, fun e => h e.symm⟩

/-- The first place of the other seven where `f` is greatest. -/
def next (f : Fin 8 → EReal) : Fin 8 := Classical.choose (exists_best f (fun k => k ≠ best f) (exists_other _))

theorem next_spec (f : Fin 8 → EReal) : Best f (fun k => k ≠ best f) (next f) :=
  Classical.choose_spec (exists_best f (fun k => k ≠ best f) (exists_other _))

theorem fold_best {f : Fin n → EReal} {a : Fin n} (h : Best f (fun _ => True) a) :
    (Finset.univ : Finset (Fin n)).fold max ⊥ f = f a :=
  le_antisymm ((Finset.fold_max_le _).2 ⟨bot_le, fun k _ => (h.2 k trivial).elim le_of_lt fun e => le_of_eq e.1⟩)
    ((Finset.le_fold_max _).2 (Or.inr ⟨a, Finset.mem_univ _, le_rfl⟩))

theorem minsi_eq {v r : BitVec 32} (h : v.toInt ≤ r.toInt) : IntOp.minsi v r = v := by
  unfold IntOp.minsi
  split
  · rfl
  · next hs =>
    simp only [BitVec.slt, decide_eq_true_eq, not_lt] at hs
    exact BitVec.toInt_inj.mp (le_antisymm hs h)

theorem le_minsi {v a b : BitVec 32} (ha : v.toInt ≤ a.toInt) (hb : v.toInt ≤ b.toInt) : v.toInt ≤ (IntOp.minsi a b).toInt := by
  unfold IntOp.minsi
  split <;> assumption

theorem fold_least (g : Fin n → BitVec 32) (c v : BitVec 32) (hc : v.toInt ≤ c.toInt) (a : Fin n) (ha : g a = v)
    (h : ∀ k, v.toInt ≤ (g k).toInt) : (Finset.univ : Finset (Fin n)).fold IntOp.minsi c g = v := by
  classical
  have low : ∀ s : Finset (Fin n), v.toInt ≤ (s.fold IntOp.minsi c g).toInt := fun s => by
    induction s using Finset.induction_on with
    | empty => exact hc
    | insert x s hx ih => rw [Finset.fold_insert hx]; exact le_minsi (h x) ih
  rw [← Finset.insert_erase (Finset.mem_univ a), Finset.fold_insert (Finset.notMem_erase _ _), ha]
  exact minsi_eq (low _)

theorem toInt_small {k : ℕ} (h : k ≤ 128) : (BitVec.ofNat 32 k).toInt = k := by
  rw [BitVec.toInt_eq_toNat_cond, BitVec.toNat_ofNat, Nat.mod_eq_of_lt (by omega), if_pos (by omega)]

/-- Before in the descending order, ties left where they are. -/
def above (f : Fin n → EReal) (k k' : Fin n) : Bool := decide (f k' < f k)

/-- Before in the descending order, ties by place. -/
def aboveThenPlace (f : Fin n → EReal) (k k' : Fin n) : Bool := decide (f k' < f k) || (decide (f k = f k') && decide (k < k'))

theorem insert_congr (f : Fin n → EReal) (a : Fin n) (l : List (Fin n)) (h : ∀ b ∈ l, a < b) :
    insertBefore (above f) a l = insertBefore (aboveThenPlace f) a l := by
  induction l with
  | nil => rfl
  | cons b l ih =>
    have e : aboveThenPlace f b a = above f b a := by
      unfold aboveThenPlace above
      rw [decide_eq_false (not_lt.2 (le_of_lt (h b List.mem_cons_self))), Bool.and_false, Bool.or_false]
    unfold insertBefore
    rw [e, ih fun c hc => h c (List.mem_cons_of_mem b hc)]

theorem sort_congr (f : Fin n → EReal) (l : List (Fin n)) (h : l.Pairwise (· < ·)) : stableSort (above f) l = stableSort (aboveThenPlace f) l := by
  induction l with
  | nil => rfl
  | cons a l ih =>
    have h' := List.pairwise_cons.mp h
    unfold stableSort
    rw [ih h'.2]
    exact insert_congr f a _ fun b hb => h'.1 b ((perm_stableSort _ l).mem_iff.mp hb)

theorem sorted_congr (f : Fin n → EReal) : sortedFrom (above f) = sortedFrom (aboveThenPlace f) := by
  funext k
  unfold sortedFrom
  have e : sortPositions n (above f) = sortPositions n (aboveThenPlace f) := sort_congr f _ (List.pairwise_lt_finRange n)
  rw [List.get_of_eq e]
  rfl

theorem strict (f : Fin n → EReal) : StrictTotalBefore (aboveThenPlace f) :=
  StrictTotalBefore.of_key_then_position (fun a b : EReal => decide (b < a)) f (fun a => by simp)
    (fun a b c h h' => by
      rw [decide_eq_true_eq] at h h' ⊢
      exact lt_trans h' h)
    (fun a b => by
      rcases lt_trichotomy a b with h | h | h
      · exact Or.inr (Or.inr (by simpa using h))
      · exact Or.inr (Or.inl h)
      · exact Or.inl (by simpa using h))

theorem not_before {f : Fin n → EReal} {a k : Fin n} (h : f k < f a ∨ (f k = f a ∧ a ≤ k)) : aboveThenPlace f k a = false := by
  unfold aboveThenPlace
  rcases h with h | ⟨e, h⟩
  · rw [decide_eq_false (not_lt.2 (le_of_lt h)), decide_eq_false (ne_of_lt h)]; rfl
  · rw [decide_eq_false (not_lt.2 (le_of_eq e)), decide_eq_false (not_lt.2 h), Bool.and_false]; rfl

/-- The stable descending sort's first two places. -/
theorem sorted_two (f : Fin 8 → EReal) (i : Fin 2) : sortedFrom (above f) (i.castLE (by decide)) = ![best f, next f] i := by
  have hb := best_spec f
  have hn := next_spec f
  rw [sorted_congr]
  refine (strict f).sortedFrom_eq_of_prefix (by decide) ![best f, next f] ?_ ?_ ?_ i
  · intro i j e
    match i, j with
    | 0, 0 => rfl
    | 0, 1 => exact absurd e.symm hn.1
    | 1, 0 => exact absurd e hn.1
    | 1, 1 => rfl
  · intro i j hij
    match i, j with
    | 0, 0 => exact absurd hij (by decide)
    | 0, 1 => exact not_before (hb.2 _ trivial)
    | 1, 0 => exact absurd hij (by decide)
    | 1, 1 => exact absurd hij (by decide)
  · intro i p hp
    match i with
    | 0 => exact not_before (hb.2 _ trivial)
    | 1 => exact not_before (hn.2 _ fun e => hp 0 e.symm)

end Cert.Proof.Route

end
-- ==== Proof.Route.Body.lean ====
/- The router's body over the extended reals: the two experts of greatest logit of every row, and the softmax of their logits. -/
module

public import proofs.«01_k».proof.Proof.Gen.Kernel15Ideal.Frame
public import proofs.«01_k».proof.Proof.Rows
public import proofs.«01_k».proof.Proof.Route.Best
public import Idealize.ShloMosaic.Lib.MatmulPlain
public import Idealize.ShloMosaic.PureOps.Ideal.Laws

@[expose] public section

set_option maxRecDepth 16384

noncomputable section

namespace Cert.Proof.Route

open Cert.Kernel15Ideal Cert.Kernel15Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

theorem neg_inf : Ideal.ofBits .f32 0xFF800000#32 = (⊥ : EReal) := by
  show Ideal.ieee 8 23 0xFF800000#32 = _
  unfold Ideal.ieee
  rw [if_pos (by decide), if_pos (by decide), if_pos (by decide)]

theorem select_bool {α : Type} (b : Bool) (x y : α) : Scalar.select (BitVec.ofBool b) x y = if b = true then x else y := by
  cases b <;> rfl

/-- The weight of the second expert relative to the first's. -/
def gate (f : Fin 8 → EReal) : EReal := Ideal.exp (f (next f) - f (best f))

/-- A place as a float. -/
def place (n : ℕ) : EReal := FloatOps.sitofp (F := Ideal) .f32 (BitVec.ofNat 32 n)

/-- A row of the result, from the row's logits: the two experts, then their weights, then zeros. -/
def entry (f : Fin 8 → EReal) (q : Fin 128) : EReal :=
  if q.val = 0 then place (best f).val else if q.val = 1 then place (next f).val
  else if q.val = 2 then Ideal.div 1 (1 + gate f) else if q.val = 3 then Ideal.div (gate f) (1 + gate f) else 0

/-- The logits across a tile's lanes: -∞ past the experts. -/
def wide (f : Fin 8 → EReal) (q : Fin 128) : EReal := if h : q.val < 8 then f ⟨q.val, h⟩ else ⊥

/-- The lane of an expert. -/
def lane (a : Fin 8) : Fin 128 := ⟨a.val, by omega⟩

theorem wide_lane (f : Fin 8 → EReal) (a : Fin 8) : wide f (lane a) = f a := dif_pos (show a.val < 8 from a.isLt)

/-- The first expert is the first greatest lane. -/
theorem wide_best (f : Fin 8 → EReal) : Best (wide f) (fun _ => True) (lane (best f)) := ⟨trivial, fun k _ => by
  have hb := (best_spec f).2
  rw [wide_lane]
  by_cases hk : k.val < 8
  · have e : wide f k = f ⟨k.val, hk⟩ := dif_pos hk
    rw [e]
    exact (hb ⟨k.val, hk⟩ trivial).imp_right fun h => ⟨h.1, h.2⟩
  · have e : wide f k = ⊥ := dif_neg hk
    rw [e]
    rcases lt_or_eq_of_le (bot_le : ⊥ ≤ f (best f)) with h | h
    · exact Or.inl h
    · exact Or.inr ⟨h, show (best f).val ≤ k.val by have := (best f).isLt; omega⟩⟩

/-- The second expert is the first greatest lane once the first is taken out. -/
theorem wide_next (f : Fin 8 → EReal) (hf : f (next f) ≠ ⊥) :
    Best (fun q => if q = lane (best f) then ⊥ else wide f q) (fun _ => True) (lane (next f)) := ⟨trivial, fun k _ => by
  have hn := next_spec f
  have pos : ⊥ < f (next f) := bot_lt_iff_ne_bot.mpr hf
  have ne : lane (next f) ≠ lane (best f) := fun e => hn.1 (Fin.ext (congrArg (fun a : Fin 128 => a.val) e))
  show (if k = lane (best f) then ⊥ else wide f k) < (if lane (next f) = lane (best f) then ⊥ else wide f (lane (next f))) ∨ _
  simp only [if_neg ne, wide_lane]
  by_cases h : k = lane (best f)
  · rw [if_pos h]; exact Or.inl pos
  rw [if_neg h]
  by_cases hk : k.val < 8
  · have e : wide f k = f ⟨k.val, hk⟩ := dif_pos hk
    rw [e]
    exact (hn.2 ⟨k.val, hk⟩ fun e => h (Fin.ext (congrArg (fun a : Fin 8 => a.val) e))).imp_right fun h => ⟨h.1, h.2⟩
  · have e : wide f k = ⊥ := dif_neg hk
    rw [e]; exact Or.inl pos⟩

theorem exp_at (a b : FVec Ideal S640x1 .f32) (i : S640x1.Idx) : exp (subf a b) i = Ideal.exp (a i - b i) := rfl

theorem div_at (a b : FVec Ideal S640x1 .f32) (i : S640x1.Idx) : divf a b i = Ideal.div (a i) (b i) := rfl

/-- A column of one value a row, across the lanes. -/
theorem across_apply {α : Type} (x : S640x1.Idx → α) (r : Fin 640) (q : Fin 128) :
    broadcastTo S640x128 x broadcasts_S640x1_S640x128 (ix2 r q) = x (ix2 r (0 : Fin 1)) :=
  broadcastTo_apply _ broadcasts_S640x1_S640x128 (ix2 r q) (ix2 r (0 : Fin 1)) fun a => match a with
    | ⟨0, _⟩ => rfl
    | ⟨1, _⟩ => rfl

/-- One value a row, as a column. -/
theorem column_apply {α : Type} (x : S640.Idx → α) (r : Fin 640) : shapeCast S640x1 x shapeCasts_S640_S640x1 (ix2 r (0 : Fin 1)) = x (ix1 r) := by
  refine shapeCast_apply _ shapeCasts_S640_S640x1 (ix2 r (0 : Fin 1)) (ix1 r) ?_
  rw [Shape.rowMajor_val_two, Shape.rowMajor_val_one]
  show r.val = r.val * 1 + 0; omega

theorem lanes_apply (r : Fin 640) (q : Fin 128) : iota .tc S640x128 32 [1] iota_S640x128_d1_w32 (ix2 r q) = BitVec.ofNat 32 q.val := by
  show BitVec.ofNat 32 (0 * 128 + q.val) = _
  rw [Nat.zero_mul, Nat.zero_add]

theorem ofNat_inj {a b : ℕ} (ha : a ≤ 128) (hb : b ≤ 128) : (BitVec.ofNat 32 a = BitVec.ofNat 32 b) ↔ a = b := by
  refine ⟨fun h => ?_, fun h => by rw [h]⟩
  have := congrArg BitVec.toInt h
  rw [toInt_small ha, toInt_small hb] at this
  omega

/-- A choice by lane. -/
theorem at_lane (n : ℕ) (hn : n ≤ 128) (r : Fin 640) (q : Fin 128) (x y : EReal) :
    Scalar.select (IntOp.cmpi .eq (iota .tc S640x128 32 [1] iota_S640x128_d1_w32 (ix2 r q)) (BitVec.ofNat 32 n)) x y = if q.val = n then x else y := by
  have hq := q.isLt
  rw [lanes_apply]
  unfold IntOp.cmpi
  rw [select_bool]
  refine if_congr ?_ rfl rfl
  rw [beq_iff_eq]
  exact ofNat_inj (by omega) hn

/-- The greatest of a row. -/
theorem greatest_apply (v : FVec Ideal S640x128 .f32) (r : Fin 640) {g : Fin 128 → EReal} {a : Fin 128} (hv : ∀ q, v (ix2 r q) = g q)
    (h : Best g (fun _ => True) a) :
    shapeCast S640x1 (multiReduction (F := Ideal) (φ := .f32) .maximumf [(1 : Fin 2)] S640 v 0xFF800000#32 reduces_S640x128_S640 (.inl rfl) rfl)
      shapeCasts_S640_S640x1 (ix2 r (0 : Fin 1)) = g a := by
  refine (column_apply _ r).trans ?_
  refine (Ideal.multiReduction_maximumf_single (φ := .f32) (s := S640x128) (t := S640) (a := (1 : Fin 2)) v 0xFF800000#32 reduces_S640x128_S640 (.inl rfl) rfl (ix1 r)).trans ?_
  rw [← fold_best h]
  refine (congrArg (fun b => (Finset.univ : Finset (Fin 128)).fold max b _) neg_inf).trans ?_
  refine Finset.fold_congr fun k _ => ?_
  rw [← hv k]
  exact congrArg v (ext2 rfl rfl)

/-- The first lane of a row that holds the greatest. -/
theorem firstLane_apply (v : FVec Ideal S640x128 .f32) (M : FVec Ideal S640x1 .f32) (r : Fin 640) {g : Fin 128 → EReal} {a : Fin 128}
    (hv : ∀ q, v (ix2 r q) = g q) (hM : M (ix2 r (0 : Fin 1)) = g a) (h : Best g (fun _ => True) a) :
    shapeCast S640x1 (multiReductionI .minsi [(1 : Fin 2)] S640 (select (cmpf .oeq v (broadcastTo S640x128 M broadcasts_S640x1_S640x128))
        (iota .tc S640x128 32 [1] iota_S640x128_d1_w32) (broadcast S640x128 128#32)) 2147483647#32 reduces_S640x128_S640 rfl)
      shapeCasts_S640_S640x1 (ix2 r (0 : Fin 1)) = BitVec.ofNat 32 a.val := by
  refine (column_apply _ r).trans ?_
  refine (multiReductionI_eq_fold .minsi _ _ _ _ _).trans ?_
  refine (Shape.Reduces.fold_filter_drop_single (s := S640x128) (t := S640) (a := (1 : Fin 2)) reduces_S640x128_S640 IntOp.minsi _ _ (ix1 r)).trans ?_
  have pick : ∀ k : Fin 128, (select (cmpf .oeq v (broadcastTo S640x128 M broadcasts_S640x1_S640x128))
      (iota .tc S640x128 32 [1] iota_S640x128_d1_w32) (broadcast S640x128 128#32) ∘ (reduces_S640x128_S640).lift (ix1 r)) k
        = if g k = g a then BitVec.ofNat 32 k.val else 128#32 := fun k => by
    have e : (reduces_S640x128_S640).lift (ix1 r) k = ix2 r k := ext2 rfl rfl
    show select _ _ _ ((reduces_S640x128_S640).lift (ix1 r) k) = _
    rw [e]
    show Scalar.select (Ideal.cmp .oeq (v (ix2 r k)) (broadcastTo S640x128 M broadcasts_S640x1_S640x128 (ix2 r k)))
      (iota .tc S640x128 32 [1] iota_S640x128_d1_w32 (ix2 r k)) 128#32 = _
    rw [across_apply, hM, hv, lanes_apply]
    unfold Ideal.cmp
    rw [select_bool]
    simp only [decide_eq_true_eq]
  have ha := a.isLt
  refine fold_least _ _ _ ?_ a ((pick a).trans (if_pos rfl)) fun k => ?_
  · rw [toInt_small (by omega)]
    have : (2147483647#32).toInt = 2147483647 := by decide
    rw [this]; omega
  · have hk : k.val < 128 := k.isLt
    have e := pick k
    refine le_of_le_of_eq ?_ (congrArg BitVec.toInt e).symm
    rw [toInt_small (by omega)]
    by_cases he : g k = g a
    · rw [if_pos he, toInt_small (by omega)]
      rcases h.2 k trivial with h | h
      · exact absurd he (ne_of_lt h)
      · have : a.val ≤ k.val := h.2
        omega
    · rw [if_neg he]
      have : (128#32).toInt = 128 := by decide
      rw [this]; omega

section Row

variable (x : Vec Ideal S640x2048 .bf16) (w : Vec Ideal S2048x128 .bf16) (r : Fin 640)

/-- A row's logits, from the blocks. -/
def logits (j : Fin 8) : EReal := ∑ k : Fin 2048, x (ix2 r k) * w (ix2 k (lane j))

theorem logits_apply (q : Fin 128) : k0_pay2 (F := Ideal) x w (ix2 r q) = wide (logits x w r) q := by
  have hq := q.isLt
  unfold k0_pay2
  show Scalar.select (IntOp.cmpi .slt (iota .tc S640x128 32 [1] iota_S640x128_d1_w32 (ix2 r q)) 8#32) (matmul (F := Ideal) dot_S640x2048_S2048x128_S640x128_1_0_0_1_n_n none x
      (shapeCast S2048x128 w shapeCasts_S2048x128_S2048x128) (constant S640x128 .f32 0x00000000#32) (ix2 r q)) (Ideal.ofBits .f32 0xFF800000#32) = _
  rw [lanes_apply, neg_inf]
  unfold IntOp.cmpi
  rw [select_bool]
  have e8 : (BitVec.ofNat 32 q.val).slt 8#32 = true ↔ q.val < 8 := by
    have : (8#32).toInt = 8 := by decide
    unfold BitVec.slt
    rw [decide_eq_true_eq, toInt_small (by omega), this]
    omega
  unfold wide
  by_cases h : q.val < 8
  · rw [if_pos (e8.2 h), dif_pos h]
    refine (Ideal.matmul_plain_apply (φ₁ := .bf16) (φ₂ := .bf16) (M := 640) (K := 2048) (N := 128) none _ _ _ r q).trans ?_
    rw [show (constant (F := Ideal) S640x128 .f32 0x00000000#32) (ix2 r q) = (0 : EReal) from Ideal.ofBits_zero_f32, zero_add]
    exact Finset.sum_congr rfl fun k _ => congrArg (x (ix2 r k) * ·) (shapeCast_apply w _ (ix2 k q) (ix2 k q) rfl)
  · rw [if_neg fun e => h (e8.1 e), dif_neg h]

theorem first_value : k0_pay3 (F := Ideal) x w (ix2 r (0 : Fin 1)) = logits x w r (best (logits x w r)) :=
  (greatest_apply _ r (logits_apply x w r) (wide_best _)).trans (wide_lane _ _)

theorem first_place : k0_pay4 (F := Ideal) x w (ix2 r (0 : Fin 1)) = BitVec.ofNat 32 (best (logits x w r)).val :=
  firstLane_apply _ _ r (logits_apply x w r) ((first_value x w r).trans (wide_lane _ _).symm) (wide_best _)

theorem others_apply (q : Fin 128) : k0_pay5 (F := Ideal) x w (ix2 r q)
    = if q = lane (best (logits x w r)) then ⊥ else wide (logits x w r) q := by
  have hb := (best (logits x w r)).isLt
  unfold k0_pay5
  show Scalar.select (IntOp.cmpi .eq (iota .tc S640x128 32 [1] iota_S640x128_d1_w32 (ix2 r q)) (broadcastTo S640x128 (k0_pay4 (F := Ideal) x w) broadcasts_S640x1_S640x128 (ix2 r q)))
    (Ideal.ofBits .f32 0xFF800000#32) (k0_pay2 (F := Ideal) x w (ix2 r q)) = _
  rw [across_apply, first_place, at_lane _ (by omega), neg_inf, logits_apply]
  exact if_congr ⟨fun h => Fin.ext h, fun h => congrArg (fun a : Fin 128 => a.val) h⟩ rfl rfl

variable (hf : logits x w r (next (logits x w r)) ≠ ⊥)

include hf

theorem others_next : (if lane (next (logits x w r)) = lane (best (logits x w r)) then ⊥ else wide (logits x w r) (lane (next (logits x w r))))
    = logits x w r (next (logits x w r)) := by
  rw [if_neg fun e => (next_spec (logits x w r)).1 (Fin.ext (congrArg (fun a : Fin 128 => a.val) e)), wide_lane]

theorem second_value : k0_pay6 (F := Ideal) x w (ix2 r (0 : Fin 1)) = logits x w r (next (logits x w r)) :=
  (greatest_apply _ r (others_apply x w r) (wide_next _ hf)).trans (others_next x w r hf)

theorem gate_apply : k0_pay7 (F := Ideal) x w (ix2 r (0 : Fin 1)) = gate (logits x w r) := by
  unfold k0_pay7 gate
  refine (exp_at _ _ _).trans ?_
  rw [second_value x w r hf, first_value x w r]

theorem denominator_apply : k0_pay8 (F := Ideal) x w (ix2 r (0 : Fin 1)) = 1 + gate (logits x w r) := by
  unfold k0_pay8
  exact congrArg₂ (fun a b : EReal => a + b) Ideal.ofBits_one_f32 (gate_apply x w r hf)

theorem second_place : k0_pay12 (F := Ideal) x w (ix2 r (0 : Fin 1)) = place (next (logits x w r)).val :=
  congrArg (FloatOps.sitofp (F := Ideal) .f32) (firstLane_apply _ _ r (others_apply x w r)
    ((second_value x w r hf).trans (others_next x w r hf).symm) (wide_next _ hf))

/-- What the body leaves, from the blocks it reads. -/
theorem leaves_apply (q : Fin 128) : out0_2 (F := Ideal) x w (ix2 r q) = entry (logits x w r) q := by
  have z : (![0, 0] : Fin 2 → ℕ) = fun _ => 0 := by decide
  unfold out0_2
  rw [View.canon_unit_zero (Val := Elt Ideal) (S := S640x128) z, View.ld_unit_zero (Val := Elt Ideal) (S := S640x2048) z, View.ld_unit_zero (Val := Elt Ideal) (S := S2048x128) z]
  unfold k0_pay1 k0_pay9 k0_pay10 k0_pay11 k0_pay13 entry
  have same : ∀ (y : FVec Ideal S640x1 .f32), broadcastTo S640x128 (shapeCast S640x1 y shapeCasts_S640x1_S640x1) broadcasts_S640x1_S640x128 (ix2 r q)
      = y (ix2 r (0 : Fin 1)) := fun y => (across_apply _ r q).trans (shapeCast_apply y _ _ _ rfl)
  refine (at_lane 0 (by omega) r q _ _).trans (if_congr Iff.rfl ((same _).trans (congrArg (FloatOps.sitofp (F := Ideal) .f32) (first_place x w r))) ?_)
  refine (at_lane 1 (by omega) r q _ _).trans (if_congr Iff.rfl ((same _).trans (second_place x w r hf)) ?_)
  refine (at_lane 2 (by omega) r q _ _).trans (if_congr Iff.rfl ((same _).trans ?_) ?_)
  · refine (div_at _ _ _).trans ?_
    rw [denominator_apply x w r hf]
    exact congrArg (fun a : EReal => Ideal.div a (1 + gate (logits x w r))) Ideal.ofBits_one_f32
  refine (at_lane 3 (by omega) r q _ _).trans (if_congr Iff.rfl ((same _).trans ?_) Ideal.ofBits_zero_f32)
  refine (div_at _ _ _).trans ?_
  rw [gate_apply x w r hf, denominator_apply x w r hf]

end Row

end Cert.Proof.Route

end
-- ==== Proof.Route.Value.lean ====
/- The router over the extended reals: the region's array and the two results cut from it, from the arguments. -/
module

public import proofs.«01_k».proof.Proof.Route.Body
public import Idealize.ShloMosaic.Lib.KernelVsHost

@[expose] public section

set_option maxRecDepth 16384

noncomputable section

namespace Cert.Proof.Route

open Cert.Kernel15Ideal Cert.Kernel15Ideal.Gen Cert.Proof.Rows
open Idealize.ShloMosaic hiding ix1 ix2 ix3 ix4 eq_ix2
open Idealize.ShloMosaic.TcCoe Idealize.ShloMosaic.ValueIdx
open Idealize.SL Idealize.SL.Sem
open scoped BigOperators

/-- A row's logits: the row times the first member of the stack of routing weights. -/
def scores (x : S8320x2048.Idx → EReal) (u : S2x2048x8.Idx → EReal) (r : Fin 8320) (j : Fin 8) : EReal :=
  ∑ k : Fin 2048, x (ix2 r k) * u (ix3 (0 : Fin 2) k j)

/-- The region's array, from the arguments. -/
def routes (x : S8320x2048.Idx → EReal) (u : S2x2048x8.Idx → EReal) (y : S8320x128.Idx) : EReal := entry (scores x u (y 0)) (y 1)

variable (m : (ℓ : Loc nD τ sig) → Buf (Elt Ideal) ℓ)

theorem index0 : ∀ t : Fin grid0.N, cc0_transform_0 (grid0.coords t) = ![(grid0.coords t 0).val, 0] := by decide +kernel
theorem index1 : ∀ t : Fin grid0.N, cc0_transform_1 (grid0.coords t) = ![0, 0] := by decide +kernel
theorem index2 : ∀ t : Fin grid0.N, cc0_transform_2 (grid0.coords t) = ![(grid0.coords t 0).val, 0] := by decide +kernel

/-- A block of rows, at an index. -/
theorem rows_apply (c : Dev nD) (t : Fin cfg0.N) (r : Fin 640) (k : Fin 2048) (hr : (grid0.coords t 0).val * 640 + r.val < 8320) :
    iblk m c (0 : Fin 3) t (ix2 r k) = V m c main_arg0 (ix2 ⟨(grid0.coords t 0).val * 640 + r.val, hr⟩ k) := by
  refine congrArg (V m c main_arg0) ?_
  have e := index0 t
  refine ext2 ?_ ?_
  · exact (at_block 640 r.val (congrFun e 0) :)
  · exact (at_block_zero 2048 k.val (congrFun e 1) :)

/-- The weight, whole at every point. -/
theorem weight_apply (c : Dev nD) (t : Fin cfg0.N) (k : Fin 2048) (q : Fin 128) : iblk m c (1 : Fin 3) t (ix2 k q) = V m c main_v3 (ix2 k q) := by
  refine congrArg (V m c main_v3) ?_
  have e := index1 t
  refine ext2 ?_ ?_
  · exact (at_block_zero 2048 k.val (congrFun e 0) :)
  · exact (at_block_zero 128 q.val (congrFun e 1) :)

/-- The place of a result block's index in the array. -/
theorem place_apply (t : Fin cfg0.N) (r : Fin 640) (q : Fin 128) (hr : (grid0.coords t 0).val * 640 + r.val < 8320) :
    ((cfg0.win (2 : Fin 3)).blk t).view.emb (ix2 r q) = ix2 ⟨(grid0.coords t 0).val * 640 + r.val, hr⟩ q := by
  have e := index2 t
  refine ext2 ?_ ?_
  · exact (at_block 640 r.val (congrFun e 0) :)
  · exact (at_block_zero 128 q.val (congrFun e 1) :)

/-- Every point writes its block back. -/
theorem flushes : ∀ t : Fin grid0.N, Pipeline.Window.flushOf grid0 true cc0_transform_2 t = true := by decide +kernel

/-- Every row tile is a point's. -/
theorem onto : ∀ i : Fin 13, ∃ t : Fin grid0.N, (grid0.coords t 0).val = i.val := by decide +kernel

/-- The result's blocks cover it. -/
theorem cover (y : S8320x128.Idx) : ∃ t : Fin cfg0.N, (cfg0.win (2 : Fin 3)).flush t = true ∧ y ∈ ((cfg0.win (2 : Fin 3)).blk t).view.set := by
  obtain ⟨r, q, rfl⟩ : ∃ (r : Fin 8320) (q : Fin 128), y = ix2 r q := ⟨y 0, y 1, eq_ix2 y⟩
  have h0 := r.isLt
  obtain ⟨t, e0⟩ := onto ⟨r.val / 640, by omega⟩
  have e0' : (grid0.coords t 0).val = r.val / 640 := e0
  have hr : (grid0.coords t 0).val * 640 + r.val % 640 < 8320 := by omega
  refine ⟨t, flushes t, ?_⟩
  have he := place_apply t ⟨r.val % 640, by omega⟩ q hr
  have hy : ix2 r q = ix2 ⟨(grid0.coords t 0).val * 640 + r.val % 640, hr⟩ q :=
    ext2 (by show r.val = (grid0.coords t 0).val * 640 + r.val % 640; omega) rfl
  rw [hy, ← he]
  exact View.emb_mem_set _ _

/-- The weight the region reads: the first member of the stack, padded to a tile's lanes. -/
theorem weight_of (c : Dev nD) (k : Fin 2048) (j : Fin 8) :
    V m c main_v3 (ix2 k (lane j)) = m ((c : Thread nD τ).loc main_arg1) (ix3 (0 : Fin 2) k j) := by
  have e : V m c main_v3 = truncf (F := Ideal) .bf16 (pad S2048x128 ![0, 0] ![0, 120] ![0, 0] (shapeCast S2048x8
      (extractStridedSlice S1x2048x8 ![0, 0, 0] (m ((c : Thread nD τ).loc main_arg1)) slices_S2x2048x8_S1x2048x8_0_0_0)
      shapeCasts_S1x2048x8_S2048x8) (sitofp (F := Ideal) .f32 (constantI S_ 32 0#32)) pads_S2048x8_S2048x128_000_01200 h_S_) bitsLt_bf16_f32 := by
    unfold V V0
    simp only [hostOps0, hostOps0_1, hostOps0_2, List.flatten_cons, List.flatten_nil, List.append_nil, List.cons_append, List.nil_append]
    after_results; rfl
  rw [e]
  refine (show _ = pad S2048x128 ![0, 0] ![0, 120] ![0, 0] (shapeCast S2048x8
      (extractStridedSlice S1x2048x8 ![0, 0, 0] (m ((c : Thread nD τ).loc main_arg1)) slices_S2x2048x8_S1x2048x8_0_0_0)
      shapeCasts_S1x2048x8_S2048x8) (sitofp (F := Ideal) .f32 (constantI S_ 32 0#32)) pads_S2048x8_S2048x128_000_01200 h_S_ (ix2 k (lane j)) from rfl).trans ?_
  refine (pad_apply_of_inside (s := S2048x8) (t := S2048x128) ![0, 0] ![0, 120] ![0, 0] _ _ pads_S2048x8_S2048x128_000_01200 h_S_
    (ix2 k (lane j)) (ix2 k j) fun a => ?_).trans ?_
  · match a with
    | ⟨0, _⟩ => show k.val = 0 + k.val * (0 + 1); omega
    | ⟨1, _⟩ => show j.val = 0 + j.val * (0 + 1); omega
  refine (shapeCast_apply _ shapeCasts_S1x2048x8_S2048x8 (ix2 k j) (ix3 (0 : Fin 1) k j) ?_).trans ?_
  · rw [Shape.rowMajor_val_three, Shape.rowMajor_val_two]
    show (0 * 2048 + k.val) * 8 + j.val = k.val * 8 + j.val
    omega
  refine extractStridedSlice_apply _ _ slices_S2x2048x8_S1x2048x8_0_0_0 _ (ix3 (0 : Fin 2) k j) fun a => ?_
  match a with
  | ⟨0, _⟩ => rfl
  | ⟨1, _⟩ => exact (Nat.zero_add _).symm
  | ⟨2, _⟩ => exact (Nat.zero_add _).symm

/-- A block's logits are the rows'. -/
theorem logits_of (c : Dev nD) (t : Fin cfg0.N) (r : Fin 640) (hr : (grid0.coords t 0).val * 640 + r.val < 8320) :
    logits (iblk m c (0 : Fin 3) t) (iblk m c (1 : Fin 3) t) r
      = scores (m ((c : Thread nD τ).loc main_arg0)) (m ((c : Thread nD τ).loc main_arg1)) ⟨(grid0.coords t 0).val * 640 + r.val, hr⟩ := by
  funext j
  unfold logits scores
  refine Finset.sum_congr rfl fun k _ => ?_
  rw [rows_apply m c t r k hr, weight_apply m c t k (lane j), weight_of m c k j, V_main_arg0 m c]

section Results

variable (c : Dev nD) (hs : ∀ r j, scores (m ((c : Thread nD τ).loc main_arg0)) (m ((c : Thread nD τ).loc main_arg1)) r j ≠ ⊥)

include hs

/-- The array after the write-backs, where every logit is above -∞. -/
theorem final : (dats m 0 c).arrAt (2 : Fin 3) cfg0.N = routes (m ((c : Thread nD τ).loc main_arg0)) (m ((c : Thread nD τ).loc main_arg1)) := by
  refine (dats m 0 c).arrAt_eq_of_emb (2 : Fin 3) _ (fun t _ y => ?_) cover
  obtain ⟨r, q, rfl⟩ : ∃ (r : Fin 640) (q : Fin 128), y = ix2 r q := ⟨y 0, y 1, eq_ix2 y⟩
  have h0 : (grid0.coords t 0).val < 13 := (grid0.coords t 0).isLt
  have hr : (grid0.coords t 0).val * 640 + r.val < 8320 := by have := r.isLt; omega
  refine Eq.trans ?_ (congrArg (routes _ _) (place_apply t r q hr)).symm
  refine (congrFun (after0_2 m c t) (ix2 r q)).trans ?_
  have e := logits_of m c t r hr
  refine (leaves_apply _ _ r ?_ q).trans ?_
  · rw [e]; exact hs _ _
  · exact congrArg (fun f => entry f q) e

theorem first_tail : Pipeline.afterTail₀ cfgs (dats m) 0 (V0 m) [hostOps1] c main_v5
    = extractStridedSlice S8320x2 ![0, 0] (routes (m ((c : Thread nD τ).loc main_arg0)) (m ((c : Thread nD τ).loc main_arg1)))
        slices_S8320x128_S8320x2_0_0 := by
  rw [← final m c hs]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]

theorem second_tail : Pipeline.afterTail₀ cfgs (dats m) 0 (V0 m) [hostOps1] c main_v6
    = extractStridedSlice S8320x2 ![0, 2] (routes (m ((c : Thread nD τ).loc main_arg0)) (m ((c : Thread nD τ).loc main_arg1)))
        slices_S8320x128_S8320x2_0_2 := by
  rw [← final m c hs]
  unfold Pipeline.afterTail₀
  simp only [List.flatten_cons, List.flatten_nil, List.append_nil]
  unfold hostOps1
  after_results
  erw [Pipeline.withArrays_arr spec0 launch0.win.arr_inj c (V0 m c) (fun w => (dats m 0 c).arrAt w cfg0.N) (2 : Fin 3)]

/-- The first result: the two experts of a row. -/
theorem first_apply (r : Fin 8320) (i : Fin 2) : Pipeline.afterTail₀ cfgs (dats m) 0 (V0 m) [hostOps1] c main_v5 (ix2 r i)
    = entry (scores (m ((c : Thread nD τ).loc main_arg0)) (m ((c : Thread nD τ).loc main_arg1)) r) ⟨i.val, by omega⟩ := by
  rw [first_tail m c hs]
  refine extractStridedSlice_apply _ _ slices_S8320x128_S8320x2_0_0 _ (ix2 r (⟨i.val, by omega⟩ : Fin 128)) fun a => ?_
  match a with
  | ⟨0, _⟩ => exact (Nat.zero_add _).symm
  | ⟨1, _⟩ => exact (Nat.zero_add _).symm

/-- The second result: their weights. -/
theorem second_apply (r : Fin 8320) (i : Fin 2) : Pipeline.afterTail₀ cfgs (dats m) 0 (V0 m) [hostOps1] c main_v6 (ix2 r i)
    = entry (scores (m ((c : Thread nD τ).loc main_arg0)) (m ((c : Thread nD τ).loc main_arg1)) r) ⟨2 + i.val, by omega⟩ := by
  rw [second_tail m c hs]
  refine extractStridedSlice_apply _ _ slices_S8320x128_S8320x2_0_2 _ (ix2 r (⟨2 + i.val, by omega⟩ : Fin 128)) fun a => ?_
  match a with
  | ⟨0, _⟩ => exact (Nat.zero_add _).symm
  | ⟨1, _⟩ => rfl

end Results

end Cert.Proof.Route

end
-- ==== Proof.Route.Reference.lean ====
/- The routing's reference over the extended reals, at an index: the first two of the stable descending sort of a row's logits, and
   their softmax; and the arguments a row's logits are finite of. -/
module

public import proofs.«01_k».proof.Proof.Route.Value
public import proofs.«01_k».proof.Proof.Gen.Reference15Ideal.Read
public import proofs.«01_k».proof.Proof.Gen.Pre_finite
public import Idealize.ShloMosaic.Lib.ReduceAll

@[expose] public section

set_option maxRecDepth 16384

noncomputable section

namespace Cert.Proof.Route

open Cert.Reference15Ideal Cert.Reference15Ideal.Gen Cert.Reference15Ideal.Read Cert.Proof.Rows
open Idealize.ShloMosaic hiding ix1 ix2 ix3 ix4 eq_ix2
open Idealize.ShloMosaic.TcCoe Idealize.ShloMosaic.ValueIdx
open scoped BigOperators

/-- The two experts. -/
def pair (f : Fin 8 → EReal) (i : Fin 2) : Fin 8 := ![best f, next f] i

theorem along_row (r : Fin 8320) (j k : Fin 8) : Shape.Idx.along (s := S8320x8) (ix2 r j) (1 : Fin 2) k = ix2 r k := by
  unfold Shape.Idx.along
  refine ext2 ?_ ?_
  · exact congrArg Fin.val (Function.update_of_ne (by decide) _ _)
  · exact congrArg Fin.val (Function.update_self _ _ _)

/-- The order the sort is by, on a row. -/
theorem order_eq (v : S8320x8.Idx → EReal) (r : Fin 8320) (j : Fin 8) :
    (fun k k' : Fin 8 => FloatOps.cmpfTotal (F := Ideal) (φ := .f32) .gt (v (Shape.Idx.along (s := S8320x8) (ix2 r j) (1 : Fin 2) k))
      (v (Shape.Idx.along (s := S8320x8) (ix2 r j) (1 : Fin 2) k')) == 1#1) = above fun k => v (ix2 r k) := by
  funext k k'
  rw [along_row, along_row]
  unfold above
  show (BitVec.ofBool (decide (v (ix2 r k') < v (ix2 r k))) == 1#1) = _
  cases decide (v (ix2 r k') < v (ix2 r k)) <;> rfl

theorem sorted_row (v : S8320x8.Idx → EReal) (r : Fin 8320) (i : Fin 2) :
    sortedFrom (fun k k' : Fin 8 => FloatOps.cmpfTotal (F := Ideal) (φ := .f32) .gt
      (v (Shape.Idx.along (s := S8320x8) (ix2 r (i.castLE (by decide))) (1 : Fin 2) k))
      (v (Shape.Idx.along (s := S8320x8) (ix2 r (i.castLE (by decide))) (1 : Fin 2) k')) == 1#1) (i.castLE (by decide)) = pair (fun k => v (ix2 r k)) i := by
  rw [order_eq]
  exact sorted_two _ i

/-- The greatest two of a row. -/
theorem values_apply (v : S8320x8.Idx → EReal) (h : S8320x8.Slices (fun _ => 0) S8320x2) (r : Fin 8320) (i : Fin 2) :
    (Host.topK S8320x2 1 (FloatOps.cmpfTotal (F := Ideal) (φ := .f32) .gt) v h).1 (ix2 r i) = v (ix2 r (pair (fun k => v (ix2 r k)) i)) := by
  unfold Host.topK
  dsimp only
  refine (extractStridedSlice_apply _ _ h (ix2 r i) (ix2 r (i.castLE (by decide))) fun a => ?_).trans ?_
  · match a with
    | ⟨0, _⟩ => exact (Nat.zero_add _).symm
    | ⟨1, _⟩ => exact (Nat.zero_add _).symm
  unfold Host.sort2
  rw [dif_pos (by decide)]
  refine (congrArg v (along_row r _ _)).trans ?_
  exact congrArg (fun a : Fin 8 => v (ix2 r a)) (sorted_row v r i)

/-- Their places. -/
theorem indices_apply (v : S8320x8.Idx → EReal) (h : S8320x8.Slices (fun _ => 0) S8320x2) (r : Fin 8320) (i : Fin 2) :
    (Host.topK S8320x2 1 (FloatOps.cmpfTotal (F := Ideal) (φ := .f32) .gt) v h).2 (ix2 r i) = BitVec.ofNat 32 (pair (fun k => v (ix2 r k)) i).val := by
  unfold Host.topK
  dsimp only
  refine (extractStridedSlice_apply _ _ h (ix2 r i) (ix2 r (i.castLE (by decide))) fun a => ?_).trans ?_
  · match a with
    | ⟨0, _⟩ => exact (Nat.zero_add _).symm
    | ⟨1, _⟩ => exact (Nat.zero_add _).symm
  unfold Host.sort2
  rw [dif_pos (by decide)]
  refine (congrArg (fun j : S8320x8.Idx => BitVec.ofNat 32 (j 1).val) (along_row r _ _)).trans ?_
  exact congrArg (fun a : Fin 8 => BitVec.ofNat 32 a.val) (sorted_row v r i)

variable (x : S8320x2048.Idx → EReal) (u : S2x2048x8.Idx → EReal)

theorem reference_scores (r : Fin 8320) (j : Fin 8) : val_main_v2 (F := Ideal) x u (ix2 r j) = scores x u r j := by
  rw [val_main_v2_apply]
  refine Finset.sum_congr rfl fun k _ => congrArg₂ (· * ·) (congrArg x (ext2 rfl rfl)) ?_
  rw [val_main_v1_apply, val_main_v0_apply]
  refine congrArg u (ext3 ?_ ?_ ?_)
  · rfl
  · show (k.val * 8 + j.val) / 8 % 2048 = k.val
    omega
  · show (k.val * 8 + j.val) % 8 = j.val
    omega

theorem reference_row (r : Fin 8320) : (fun j => val_main_v2 (F := Ideal) x u (ix2 r j)) = scores x u r := funext fun j => reference_scores x u r j

theorem reference_values (r : Fin 8320) (i : Fin 2) : val_main_values (F := Ideal) x u (ix2 r i) = scores x u r (pair (scores x u r) i) := by
  refine (values_apply (val_main_v2 (F := Ideal) x u) _ r i).trans ?_
  rw [reference_row, reference_scores]

/-- The reference's first result, at an index. -/
theorem reference_first (r : Fin 8320) (i : Fin 2) : val_main_v3 (F := Ideal) x u (ix2 r i) = place (pair (scores x u r) i).val := by
  rw [val_main_v3_apply]
  refine congrArg (FloatOps.sitofp (F := Ideal) .f32) ((indices_apply (val_main_v2 (F := Ideal) x u) _ r i).trans ?_)
  rw [reference_row]

/-- The greatest of the two, as the reference computes it. -/
theorem reference_greatest (r : Fin 8320) : val_main_v4 (F := Ideal) x u (ix1 r) = scores x u r (best (scores x u r)) := by
  unfold val_main_v4
  refine (Host.reduce_eq_fold_single (s := S8320x2) (t := S8320) (a := (1 : Fin 2)) (FloatOps.maximumf (F := Ideal) (φ := .f32)) _ _ reducesTo_S8320x2_S8320_d1 (by decide) h_S_ (ix1 r)).trans ?_
  refine (congrArg (fun b => (Finset.univ : Finset (Fin 2)).fold max b _) neg_inf).trans ?_
  refine (Finset.fold_congr (g := fun i : Fin 2 => scores x u r (pair (scores x u r) i)) fun k _ => ?_).trans ?_
  · refine Eq.trans ?_ (reference_values x u r k)
    exact congrArg (val_main_values (F := Ideal) x u) (ext2 rfl rfl)
  · refine fold_best (f := fun i : Fin 2 => scores x u r (pair (scores x u r) i)) (a := 0) ⟨trivial, fun k _ => ?_⟩
    rcases (best_spec (scores x u r)).2 (pair (scores x u r) k) trivial with h | h
    · exact Or.inl h
    · exact Or.inr ⟨h.1, Fin.zero_le _⟩

theorem reference_shift (r : Fin 8320) (i : Fin 2) : val_main_v8 (F := Ideal) x u (ix2 r i) = scores x u r (best (scores x u r)) := by
  rw [val_main_v8_apply, val_main_v7_apply, val_main_v6_apply, val_main_v5_apply]
  refine (congrArg₂ (fun a b : EReal => max a b) neg_inf ((congrArg (val_main_v4 (F := Ideal) x u) (?_ : _ = ix1 r)).trans (reference_greatest x u r))).trans (max_eq_right bot_le)
  exact funext fun a => Fin.ext (by match a with | ⟨0, _⟩ => rfl)

theorem reference_exp (r : Fin 8320) (i : Fin 2) : val_main_v10 (F := Ideal) x u (ix2 r i)
    = Ideal.exp (scores x u r (pair (scores x u r) i) - scores x u r (best (scores x u r))) := by
  rw [val_main_v10_apply, val_main_v9_apply]
  exact congrArg Ideal.exp (congrArg₂ (fun a b : EReal => a - b) (reference_values x u r i) (reference_shift x u r i))

section Finite

variable (hs : ∀ r j, ∃ s : ℝ, scores x u r j = (s : EReal))

include hs

theorem exp_first (r : Fin 8320) : val_main_v10 (F := Ideal) x u (ix2 r (0 : Fin 2)) = 1 := by
  rw [reference_exp]
  obtain ⟨s, e⟩ := hs r (best (scores x u r))
  show Ideal.exp (scores x u r (best (scores x u r)) - scores x u r (best (scores x u r))) = 1
  rw [e, ← EReal.coe_sub, sub_self]
  show ((Real.exp 0 : ℝ) : EReal) = 1
  rw [Real.exp_zero]; rfl

theorem denominator (r : Fin 8320) (i : Fin 2) : val_main_v13 (F := Ideal) x u (ix2 r i) = 1 + gate (scores x u r) := by
  rw [val_main_v13_apply, val_main_v12_apply, val_main_v11_apply, Fin.sum_univ_two]
  refine (congrArg₂ (fun a b : EReal => a + b) Ideal.ofBits_zero_f32 (congrArg₂ (fun a b : EReal => a + b)
    ((congrArg (val_main_v10 (F := Ideal) x u) (?_ : _ = ix2 r (0 : Fin 2))).trans (exp_first x u hs r))
    ((congrArg (val_main_v10 (F := Ideal) x u) (?_ : _ = ix2 r (1 : Fin 2))).trans (reference_exp x u r 1)))).trans (zero_add _)
  · exact ext2 rfl rfl
  · exact ext2 rfl rfl

/-- The reference's second result, at an index. -/
theorem reference_second (r : Fin 8320) (i : Fin 2) : val_main_v14 (F := Ideal) x u (ix2 r i) = entry (scores x u r) ⟨2 + i.val, by omega⟩ := by
  rw [val_main_v14_apply]
  refine (congrArg (Ideal.div (val_main_v10 (F := Ideal) x u (ix2 r i))) (denominator x u hs r i)).trans ?_
  match i with
  | 0 => exact congrArg (fun a => Ideal.div a (1 + gate (scores x u r))) (exp_first x u hs r)
  | 1 => exact congrArg (fun a => Ideal.div a (1 + gate (scores x u r))) (reference_exp x u r 1)

end Finite

theorem entry_pair (f : Fin 8 → EReal) (i : Fin 2) : entry f ⟨i.val, by omega⟩ = place (pair f i).val := by
  match i with
  | 0 => rfl
  | 1 => rfl

theorem inf32 : Ideal.ofBits .f32 0x7F800000#32 = (⊤ : EReal) := by
  show Ideal.ieee 8 23 0x7F800000#32 = _
  unfold Ideal.ieee
  rw [if_pos (by decide), if_pos (by decide), if_neg (by decide)]

theorem inf16 : Ideal.ofBits .bf16 0x7F80#16 = (⊤ : EReal) := by
  show Ideal.ieee 8 7 0x7F80#16 = _
  unfold Ideal.ieee
  rw [if_pos (by decide), if_pos (by decide), if_neg (by decide)]

theorem real_of_below {a : EReal} (h : BitVec.ofBool (decide (max a (-a) < ⊤)) = 1#1) : ∃ s : ℝ, a = (s : EReal) := by
  have h' : max a (-a) < ⊤ := by
    by_contra hn
    rw [decide_eq_false hn] at h
    exact absurd h (by decide)
  refine ⟨a.toReal, (EReal.coe_toReal (ne_of_lt (lt_of_le_of_lt (le_max_left _ _) h')) fun e => ?_).symm⟩
  rw [e] at h'
  exact absurd h' (by simp)

/-- What the precondition says of the arguments. -/
theorem real_of_finite (h : Cert.Pre_finite.fn (F := Ideal) x u = fun _ => 1#1) :
    (∀ i, ∃ s : ℝ, x i = (s : EReal)) ∧ ∀ i, ∃ s : ℝ, u i = (s : EReal) := by
  have h0 := congrFun h (Shape.Idx.first h_S_)
  unfold Cert.Pre_finite.fn at h0
  have both : ∀ a b : BitVec 1, IntOp.andi a b = 1#1 → a = 1#1 ∧ b = 1#1 := by decide
  obtain ⟨hx, hu⟩ := both _ _ h0
  haveI : Subsingleton Cert.Pre_finite.S_.Idx := ⟨fun i j => funext fun a => a.elim0⟩
  refine ⟨fun i => real_of_below ?_, fun i => real_of_below ?_⟩
  · have e := Host.reduce_andi_all _ _ _ _ _ hx i
    rw [← inf16]; exact e
  · have e := Host.reduce_andi_all _ _ _ _ _ hu i
    rw [← inf32]; exact e

/-- Rows and weights that are numbers have logits that are. -/
theorem scores_real (hx : ∀ i, ∃ s : ℝ, x i = (s : EReal)) (hu : ∀ i, ∃ s : ℝ, u i = (s : EReal)) (r : Fin 8320) (j : Fin 8) :
    ∃ s : ℝ, scores x u r j = (s : EReal) := by
  unfold scores
  refine Finset.sum_induction _ (fun e : EReal => ∃ s : ℝ, e = (s : EReal)) ?_ ⟨0, rfl⟩ fun k _ => ?_
  · rintro _ _ ⟨a, rfl⟩ ⟨b, rfl⟩
    exact ⟨a + b, (EReal.coe_add a b).symm⟩
  · obtain ⟨a, ea⟩ := hx (ix2 r k)
    obtain ⟨b, eb⟩ := hu (ix3 (0 : Fin 2) k j)
    exact ⟨a * b, by rw [ea, eb]; exact (EReal.coe_mul a b).symm⟩

end Cert.Proof.Route

end
-- ==== Proof.Route.Claims.lean ====
/- The claims about the router: the three frames, and the kernel's two results equal to the reference's over the extended reals, of
   arguments that are numbers. -/
module

public import proofs.«01_k».proof.Defs
public import proofs.«01_k».proof.Proof.Gen.Kernel15.Frame
public import proofs.«01_k».proof.Proof.Gen.Reference15Ideal.Run
public import proofs.«01_k».proof.Proof.Route.Reference
public import Idealize.ShloMosaic.Adequacy
public import Idealize.ShloMosaic.Init

@[expose] public section

set_option maxRecDepth 16384

noncomputable section

namespace Cert.Proof.Route

open Idealize.ShloMosaic hiding ix1 ix2 ix3 ix4 eq_ix2
open Idealize.ShloMosaic.TcCoe Idealize.ShloMosaic.ValueIdx Idealize.SL Idealize.SL.Sem

section Results

open Cert.Kernel15Ideal Cert.Kernel15Ideal.Gen

variable (m : (ℓ : Loc nD τ sig) → Buf (Elt Ideal) ℓ) (c : Dev nD)
  (hs : ∀ r j, ∃ s : ℝ, scores (m ((c : Thread nD τ).loc main_arg0)) (m ((c : Thread nD τ).loc main_arg1)) r j = (s : EReal))

include hs

theorem above_bot (r : Fin 8320) (j : Fin 8) : scores (m ((c : Thread nD τ).loc main_arg0)) (m ((c : Thread nD τ).loc main_arg1)) r j ≠ ⊥ := by
  obtain ⟨s, e⟩ := hs r j
  rw [e]; exact EReal.coe_ne_bot s

/-- The kernel's first result is the reference's. -/
theorem first : Pipeline.afterTail₀ cfgs (dats m) 0 (V0 m) [hostOps1] c main_v5
    = Cert.Reference15Ideal.Read.val_main_v3 (F := Ideal) (m ((c : Thread nD τ).loc main_arg0)) (m ((c : Thread nD τ).loc main_arg1)) := by
  funext y
  obtain ⟨r, i, rfl⟩ : ∃ (r : Fin 8320) (i : Fin 2), y = ix2 r i := ⟨y 0, y 1, ValueIdx.eq_ix2 y⟩
  exact (first_apply m c (above_bot m c hs) r i).trans ((entry_pair _ i).trans (reference_first _ _ r i).symm)

/-- The kernel's second result is the reference's. -/
theorem second : Pipeline.afterTail₀ cfgs (dats m) 0 (V0 m) [hostOps1] c main_v6
    = Cert.Reference15Ideal.Read.val_main_v14 (F := Ideal) (m ((c : Thread nD τ).loc main_arg0)) (m ((c : Thread nD τ).loc main_arg1)) := by
  funext y
  obtain ⟨r, i, rfl⟩ : ∃ (r : Fin 8320) (i : Fin 2), y = ix2 r i := ⟨y 0, y 1, ValueIdx.eq_ix2 y⟩
  exact (second_apply m c (above_bot m c hs) r i).trans (reference_second _ _ hs r i).symm

end Results

theorem frame_kernel : Cert.quiescent_Kernel15 := fun m ρ _ => Cert.Kernel15.Gen.frame m ρ

theorem frame_ideal : Cert.quiescent_Kernel15Ideal := fun m ρ _ => Cert.Kernel15Ideal.Gen.frame m ρ

theorem frame_ideal_finite : Cert.quiescent_Kernel15Ideal_pre_finite := fun m ρ _ => Cert.Kernel15Ideal.Gen.frame m ρ

theorem frame_reference : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

theorem frame_reference_finite : Cert.quiescent_Reference15Ideal_pre_finite := fun m ρ _ => frame_reference m ρ trivial

theorem algebraic : Cert.algebraic_Kernel15Ideal_Reference15Ideal_pre_finite := fun m ρ m' ρ' hp hm => by
  have real : ∀ c : Dev Cert.Kernel15Ideal.nD, ∀ r j, ∃ s : ℝ, scores (m ((c.tc : Thread Cert.Kernel15Ideal.nD Cert.Kernel15Ideal.τ).loc Cert.Kernel15Ideal.main_arg0))
      (m ((c.tc : Thread Cert.Kernel15Ideal.nD Cert.Kernel15Ideal.τ).loc Cert.Kernel15Ideal.main_arg1)) r j = (s : EReal) := fun c =>
    scores_real _ _ (real_of_finite _ _ (hp c)).1 (real_of_finite _ _ (hp c)).2
  refine ⟨fun c => Cert.Reference15Ideal.Read.val_main_v3 (F := Ideal)
      (m ((c.tc : Thread Cert.Kernel15Ideal.nD Cert.Kernel15Ideal.τ).loc Cert.Kernel15Ideal.main_arg0))
      (m ((c.tc : Thread Cert.Kernel15Ideal.nD Cert.Kernel15Ideal.τ).loc Cert.Kernel15Ideal.main_arg1)),
    fun c => Cert.Reference15Ideal.Read.val_main_v14 (F := Ideal)
      (m ((c.tc : Thread Cert.Kernel15Ideal.nD Cert.Kernel15Ideal.τ).loc Cert.Kernel15Ideal.main_arg0))
      (m ((c.tc : Thread Cert.Kernel15Ideal.nD Cert.Kernel15Ideal.τ).loc Cert.Kernel15Ideal.main_arg1)), ?_, ?_⟩
  · exact (θ_run Cert.Kernel15Ideal.defs _ _).mono (fun _ h c => ⟨((h c).2 Cert.Kernel15Ideal.main_v5 (Pipeline.mem_restRefs_of Cert.Kernel15Ideal.main_v5 (by decide) (by decide))).trans
        (first m c (real c)),
      ((h c).2 Cert.Kernel15Ideal.main_v6 (Pipeline.mem_restRefs_of Cert.Kernel15Ideal.main_v6 (by decide) (by decide))).trans
        (second m c (real c)),
      ((h c).1 0).trans (((Cert.Kernel15Ideal.Gen.dats m 0 c).arrAt_in 0 rfl _).trans
        ((Cert.Kernel15Ideal.Gen.A_eq m c 0).trans (Cert.Kernel15Ideal.Gen.V_main_arg0 m c))),
      ((h c).2 Cert.Kernel15Ideal.main_arg1 (Pipeline.mem_restRefs_of Cert.Kernel15Ideal.main_arg1 (by decide) (by decide))).trans
        (Cert.Kernel15Ideal.Gen.W_main_arg1 m (Cert.Kernel15Ideal.Gen.dats m) c)⟩)
      (Cert.Kernel15Ideal.Gen.run_main (F := Ideal) m ρ)
  · exact (θ_run Cert.Reference15Ideal.defs _ _).mono (fun _ h c => ⟨((h c).1).trans ((Cert.Reference15Ideal.Read.val_main_v3_eq _ _).trans
        (congrArg₂ (Cert.Reference15Ideal.Read.val_main_v3 (F := Ideal)) (hm c).1 (hm c).2)),
      ((h c).2.1).trans ((Cert.Reference15Ideal.Read.val_main_v14_eq _ _).trans
        (congrArg₂ (Cert.Reference15Ideal.Read.val_main_v14 (F := Ideal)) (hm c).1 (hm c).2)),
      (h c).2.2⟩) (Cert.Reference15Ideal.Value.run (F := Ideal) m' ρ')

end Cert.Proof.Route

end
-- ==== Proof.lean ====
/- The proof of the claims: each program's frame, and each kernel's results equal to its reference's over the extended reals.
   The expert layer's two products are in `Proof/MoeIn` and `Proof/MoeOut`, the even layer's in-projection in `Proof/Even`, the
   per-layer embedding gate in `Proof/Gate`, the dense layer's two products in `Proof/FfnIn` and `Proof/FfnOut`, the odd
   layer's in-projection and the preparation of its latent attention in `Proof/Odd`, the two out-projections in
   `Proof/OutEven` and `Proof/OutOdd`, the latent attention's queries and values in `Proof/Query`, `Proof/Latent` and
   `Proof/ValueUp`, the layer norm in `Proof/Norm`, the samples' difference of two softmax maps in `Proof/Diff`, and the router in
   `Proof/Route`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Pre_experts
public import proofs.«01_k».proof.Proof.Gen.Pre_experts2
public import proofs.«01_k».proof.Proof.MoeIn.Claims
public import proofs.«01_k».proof.Proof.MoeOut.Claims
public import proofs.«01_k».proof.Proof.Even.Claims
public import proofs.«01_k».proof.Proof.Gate.Claims
public import proofs.«01_k».proof.Proof.FfnIn.Claims
public import proofs.«01_k».proof.Proof.FfnOut.Claims
public import proofs.«01_k».proof.Proof.Odd.Claims
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel5Ideal.Value
public import proofs.«01_k».proof.Proof.Gen.Kernel6Ideal.Value
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel14Ideal.Value
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Pre_finite
public import proofs.«01_k».proof.Proof.OutEven.Claims
public import proofs.«01_k».proof.Proof.OutOdd.Claims
public import proofs.«01_k».proof.Proof.Query.Claims
public import proofs.«01_k».proof.Proof.ValueUp.Claims
public import proofs.«01_k».proof.Proof.Norm.Claims
public import proofs.«01_k».proof.Proof.Latent.Claims
public import proofs.«01_k».proof.Proof.Diff.Claims
public import proofs.«01_k».proof.Proof.Route.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_experts.Gen.facts, Cert.Pre_experts2.Gen.facts, Cert.Pre_finite.Gen.facts,
    MoeIn.frame_kernel, MoeIn.frame_ideal, MoeIn.frame_reference,
    MoeOut.frame_kernel, MoeOut.frame_ideal, MoeOut.frame_reference,
    Even.frame_kernel, Even.frame_ideal, Even.frame_reference,
    Gate.frame_kernel, Gate.frame_ideal, Gate.frame_reference,
    FfnIn.frame_kernel, FfnIn.frame_ideal, FfnIn.frame_reference,
    FfnOut.frame_kernel, FfnOut.frame_ideal, FfnOut.frame_reference,
    Odd.frame_kernel, Odd.frame_ideal, Odd.frame_reference,
    OutEven.frame_kernel, OutEven.frame_ideal, OutEven.frame_reference,
    OutOdd.frame_kernel, OutOdd.frame_ideal, OutOdd.frame_reference,
    Query.frame_kernel, Query.frame_ideal, Query.frame_reference,
    ValueUp.frame_kernel, ValueUp.frame_ideal, ValueUp.frame_reference,
    Norm.frame_kernel, Norm.frame_ideal, Norm.frame_reference,
    Latent.frame_kernel, Latent.frame_ideal, Latent.frame_reference,
    Diff.frame_kernel, Diff.frame_ideal, Diff.frame_reference,
    Route.frame_kernel, Route.frame_ideal, Route.frame_ideal_finite, Route.frame_reference, Route.frame_reference_finite,
    trivial, MoeIn.algebraic, trivial, MoeOut.algebraic,
    trivial, Even.algebraic, trivial, Gate.algebraic,
    trivial, FfnIn.algebraic, trivial, FfnOut.algebraic,
    trivial, Odd.algebraic, trivial, OutEven.algebraic,
    trivial, OutOdd.algebraic, trivial, Query.algebraic, trivial, ValueUp.algebraic, trivial, Norm.algebraic,
    trivial, Latent.algebraic, trivial, Diff.algebraic, trivial, Route.algebraic⟩

end Cert.Proof

end
